-- ==== Defs.lean ====
def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxIdeal_finite1 [hPre_finite1 : Cert.Pre_finite1.Facts] (m : (ℓ : Loc Cert.InProjDxIdeal.nD Cert.InProjDxIdeal.τ Cert.InProjDxIdeal.sig) → Buf (Elt Ideal) ℓ) : Prop :=
  ∀ c : Dev Cert.InProjDxIdeal.nD,
    (Cert.Pre_finite1.fn (F := Ideal) (m ((c.tc : Thread Cert.InProjDxIdeal.nD Cert.InProjDxIdeal.τ).loc Cert.InProjDxIdeal.main_arg0)) (m ((c.tc : Thread Cert.InProjDxIdeal.nD Cert.InProjDxIdeal.τ).loc Cert.InProjDxIdeal.main_arg1)) (m ((c.tc : Thread Cert.InProjDxIdeal.nD Cert.InProjDxIdeal.τ).loc Cert.InProjDxIdeal.main_arg2)) (m ((c.tc : Thread Cert.InProjDxIdeal.nD Cert.InProjDxIdeal.τ).loc Cert.InProjDxIdeal.main_arg3)) (m ((c.tc : Thread Cert.InProjDxIdeal.nD Cert.InProjDxIdeal.τ).loc Cert.InProjDxIdeal.main_arg4)) (m ((c.tc : Thread Cert.InProjDxIdeal.nD Cert.InProjDxIdeal.τ).loc Cert.InProjDxIdeal.main_arg5))) = (fun _ => 1#1)

def Pre_InProjDxRefIdeal (m : (ℓ : Loc Cert.InProjDxRefIdeal.nD Cert.InProjDxRefIdeal.τ Cert.InProjDxRefIdeal.sig) → Buf (Elt Ideal) ℓ) : Prop :=
  True

def Pre_InProjDxRefIdeal_finite1 [hPre_finite1 : Cert.Pre_finite1.Facts] (m : (ℓ : Loc Cert.InProjDxRefIdeal.nD Cert.InProjDxRefIdeal.τ Cert.InProjDxRefIdeal.sig) → Buf (Elt Ideal) ℓ) : Prop :=
  ∀ c : Dev Cert.InProjDxRefIdeal.nD,
    (Cert.Pre_finite1.fn (F := Ideal) (m ((c.tc : Thread Cert.InProjDxRefIdeal.nD Cert.InProjDxRefIdeal.τ).loc Cert.InProjDxRefIdeal.main_arg0)) (m ((c.tc : Thread Cert.InProjDxRefIdeal.nD Cert.InProjDxRefIdeal.τ).loc Cert.InProjDxRefIdeal.main_arg1)) (m ((c.tc : Thread Cert.InProjDxRefIdeal.nD Cert.InProjDxRefIdeal.τ).loc Cert.InProjDxRefIdeal.main_arg2)) (m ((c.tc : Thread Cert.InProjDxRefIdeal.nD Cert.InProjDxRefIdeal.τ).loc Cert.InProjDxRefIdeal.main_arg3)) (m ((c.tc : Thread Cert.InProjDxRefIdeal.nD Cert.InProjDxRefIdeal.τ).loc Cert.InProjDxRefIdeal.main_arg4)) (m ((c.tc : Thread Cert.InProjDxRefIdeal.nD Cert.InProjDxRefIdeal.τ).loc Cert.InProjDxRefIdeal.main_arg5))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite4 [hPre_finite4 : Cert.Pre_finite4.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite4.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite4 [hPre_finite4 : Cert.Pre_finite4.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite4.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_Assemble (m : (ℓ : Loc Cert.Assemble.nD Cert.Assemble.τ Cert.Assemble.sig) → Buf (Elt Bits) ℓ) : Prop :=
  True

def Pre_AssembleIdeal (m : (ℓ : Loc Cert.AssembleIdeal.nD Cert.AssembleIdeal.τ Cert.AssembleIdeal.sig) → Buf (Elt Ideal) ℓ) : Prop :=
  True

def Pre_AssembleIdeal_finite2 [hPre_finite2 : Cert.Pre_finite2.Facts] (m : (ℓ : Loc Cert.AssembleIdeal.nD Cert.AssembleIdeal.τ Cert.AssembleIdeal.sig) → Buf (Elt Ideal) ℓ) : Prop :=
  ∀ c : Dev Cert.AssembleIdeal.nD,
    (Cert.Pre_finite2.fn (F := Ideal) (m ((c.tc : Thread Cert.AssembleIdeal.nD Cert.AssembleIdeal.τ).loc Cert.AssembleIdeal.main_arg0)) (m ((c.tc : Thread Cert.AssembleIdeal.nD Cert.AssembleIdeal.τ).loc Cert.AssembleIdeal.main_arg1)) (m ((c.tc : Thread Cert.AssembleIdeal.nD Cert.AssembleIdeal.τ).loc Cert.AssembleIdeal.main_arg2)) (m ((c.tc : Thread Cert.AssembleIdeal.nD Cert.AssembleIdeal.τ).loc Cert.AssembleIdeal.main_arg3)) (m ((c.tc : Thread Cert.AssembleIdeal.nD Cert.AssembleIdeal.τ).loc Cert.AssembleIdeal.main_arg4)) (m ((c.tc : Thread Cert.AssembleIdeal.nD Cert.AssembleIdeal.τ).loc Cert.AssembleIdeal.main_arg5)) (m ((c.tc : Thread Cert.AssembleIdeal.nD Cert.AssembleIdeal.τ).loc Cert.AssembleIdeal.main_arg6)) (m ((c.tc : Thread Cert.AssembleIdeal.nD Cert.AssembleIdeal.τ).loc Cert.AssembleIdeal.main_arg7)) (m ((c.tc : Thread Cert.AssembleIdeal.nD Cert.AssembleIdeal.τ).loc Cert.AssembleIdeal.main_arg8)) (m ((c.tc : Thread Cert.AssembleIdeal.nD Cert.AssembleIdeal.τ).loc Cert.AssembleIdeal.main_arg9)) (m ((c.tc : Thread Cert.AssembleIdeal.nD Cert.AssembleIdeal.τ).loc Cert.AssembleIdeal.main_arg10)) (m ((c.tc : Thread Cert.AssembleIdeal.nD Cert.AssembleIdeal.τ).loc Cert.AssembleIdeal.main_arg11)) (m ((c.tc : Thread Cert.AssembleIdeal.nD Cert.AssembleIdeal.τ).loc Cert.AssembleIdeal.main_arg12)) (m ((c.tc : Thread Cert.AssembleIdeal.nD Cert.AssembleIdeal.τ).loc Cert.AssembleIdeal.main_arg13)) (m ((c.tc : Thread Cert.AssembleIdeal.nD Cert.AssembleIdeal.τ).loc Cert.AssembleIdeal.main_arg14)) (m ((c.tc : Thread Cert.AssembleIdeal.nD Cert.AssembleIdeal.τ).loc Cert.AssembleIdeal.main_arg15))) = (fun _ => 1#1)

def Pre_AssembleRefIdeal (m : (ℓ : Loc Cert.AssembleRefIdeal.nD Cert.AssembleRefIdeal.τ Cert.AssembleRefIdeal.sig) → Buf (Elt Ideal) ℓ) : Prop :=
  True

def Pre_AssembleRefIdeal_finite2 [hPre_finite2 : Cert.Pre_finite2.Facts] (m : (ℓ : Loc Cert.AssembleRefIdeal.nD Cert.AssembleRefIdeal.τ Cert.AssembleRefIdeal.sig) → Buf (Elt Ideal) ℓ) : Prop :=
  ∀ c : Dev Cert.AssembleRefIdeal.nD,
    (Cert.Pre_finite2.fn (F := Ideal) (m ((c.tc : Thread Cert.AssembleRefIdeal.nD Cert.AssembleRefIdeal.τ).loc Cert.AssembleRefIdeal.main_arg0)) (m ((c.tc : Thread Cert.AssembleRefIdeal.nD Cert.AssembleRefIdeal.τ).loc Cert.AssembleRefIdeal.main_arg1)) (m ((c.tc : Thread Cert.AssembleRefIdeal.nD Cert.AssembleRefIdeal.τ).loc Cert.AssembleRefIdeal.main_arg2)) (m ((c.tc : Thread Cert.AssembleRefIdeal.nD Cert.AssembleRefIdeal.τ).loc Cert.AssembleRefIdeal.main_arg3)) (m ((c.tc : Thread Cert.AssembleRefIdeal.nD Cert.AssembleRefIdeal.τ).loc Cert.AssembleRefIdeal.main_arg4)) (m ((c.tc : Thread Cert.AssembleRefIdeal.nD Cert.AssembleRefIdeal.τ).loc Cert.AssembleRefIdeal.main_arg5)) (m ((c.tc : Thread Cert.AssembleRefIdeal.nD Cert.AssembleRefIdeal.τ).loc Cert.AssembleRefIdeal.main_arg6)) (m ((c.tc : Thread Cert.AssembleRefIdeal.nD Cert.AssembleRefIdeal.τ).loc Cert.AssembleRefIdeal.main_arg7)) (m ((c.tc : Thread Cert.AssembleRefIdeal.nD Cert.AssembleRefIdeal.τ).loc Cert.AssembleRefIdeal.main_arg8)) (m ((c.tc : Thread Cert.AssembleRefIdeal.nD Cert.AssembleRefIdeal.τ).loc Cert.AssembleRefIdeal.main_arg9)) (m ((c.tc : Thread Cert.AssembleRefIdeal.nD Cert.AssembleRefIdeal.τ).loc Cert.AssembleRefIdeal.main_arg10)) (m ((c.tc : Thread Cert.AssembleRefIdeal.nD Cert.AssembleRefIdeal.τ).loc Cert.AssembleRefIdeal.main_arg11)) (m ((c.tc : Thread Cert.AssembleRefIdeal.nD Cert.AssembleRefIdeal.τ).loc Cert.AssembleRefIdeal.main_arg12)) (m ((c.tc : Thread Cert.AssembleRefIdeal.nD Cert.AssembleRefIdeal.τ).loc Cert.AssembleRefIdeal.main_arg13)) (m ((c.tc : Thread Cert.AssembleRefIdeal.nD Cert.AssembleRefIdeal.τ).loc Cert.AssembleRefIdeal.main_arg14)) (m ((c.tc : Thread Cert.AssembleRefIdeal.nD Cert.AssembleRefIdeal.τ).loc Cert.AssembleRefIdeal.main_arg15))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailIdeal_finite5 [hPre_finite5 : Cert.Pre_finite5.Facts] (m : (ℓ : Loc Cert.TailIdeal.nD Cert.TailIdeal.τ Cert.TailIdeal.sig) → Buf (Elt Ideal) ℓ) : Prop :=
  ∀ c : Dev Cert.TailIdeal.nD,
    (Cert.Pre_finite5.fn (F := Ideal) (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8)) (m ((c.tc : Thread Cert.TailIdeal.nD Cert.TailIdeal.τ).loc Cert.TailIdeal.main_arg9)) (m ((c.tc : Thread Cert.TailIdeal.nD Cert.TailIdeal.τ).loc Cert.TailIdeal.main_arg10))) = (fun _ => 1#1)

def Pre_TailRefIdeal (m : (ℓ : Loc Cert.TailRefIdeal.nD Cert.TailRefIdeal.τ Cert.TailRefIdeal.sig) → Buf (Elt Ideal) ℓ) : Prop :=
  True

def Pre_TailRefIdeal_finite5 [hPre_finite5 : Cert.Pre_finite5.Facts] (m : (ℓ : Loc Cert.TailRefIdeal.nD Cert.TailRefIdeal.τ Cert.TailRefIdeal.sig) → Buf (Elt Ideal) ℓ) : Prop :=
  ∀ c : Dev Cert.TailRefIdeal.nD,
    (Cert.Pre_finite5.fn (F := Ideal) (m ((c.tc : Thread Cert.TailRefIdeal.nD Cert.TailRefIdeal.τ).loc Cert.TailRefIdeal.main_arg0)) (m ((c.tc : Thread Cert.TailRefIdeal.nD Cert.TailRefIdeal.τ).loc Cert.TailRefIdeal.main_arg1)) (m ((c.tc : Thread Cert.TailRefIdeal.nD Cert.TailRefIdeal.τ).loc Cert.TailRefIdeal.main_arg2)) (m ((c.tc : Thread Cert.TailRefIdeal.nD Cert.TailRefIdeal.τ).loc Cert.TailRefIdeal.main_arg3)) (m ((c.tc : Thread Cert.TailRefIdeal.nD Cert.TailRefIdeal.τ).loc Cert.TailRefIdeal.main_arg4)) (m ((c.tc : Thread Cert.TailRefIdeal.nD Cert.TailRefIdeal.τ).loc Cert.TailRefIdeal.main_arg5)) (m ((c.tc : Thread Cert.TailRefIdeal.nD Cert.TailRefIdeal.τ).loc Cert.TailRefIdeal.main_arg6)) (m ((c.tc : Thread Cert.TailRefIdeal.nD Cert.TailRefIdeal.τ).loc Cert.TailRefIdeal.main_arg7)) (m ((c.tc : Thread Cert.TailRefIdeal.nD Cert.TailRefIdeal.τ).loc Cert.TailRefIdeal.main_arg8)) (m ((c.tc : Thread Cert.TailRefIdeal.nD Cert.TailRefIdeal.τ).loc Cert.TailRefIdeal.main_arg9)) (m ((c.tc : Thread Cert.TailRefIdeal.nD Cert.TailRefIdeal.τ).loc Cert.TailRefIdeal.main_arg10))) = (fun _ => 1#1)

def Pre_RetBwd (m : (ℓ : Loc Cert.RetBwd.nD Cert.RetBwd.τ Cert.RetBwd.sig) → Buf (Elt Bits) ℓ) : Prop :=
  True

def Pre_RetBwdIdeal (m : (ℓ : Loc Cert.RetBwdIdeal.nD Cert.RetBwdIdeal.τ Cert.RetBwdIdeal.sig) → Buf (Elt Ideal) ℓ) : Prop :=
  True

def Pre_RetStates (m : (ℓ : Loc Cert.RetStates.nD Cert.RetStates.τ Cert.RetStates.sig) → Buf (Elt Bits) ℓ) : Prop :=
  True

def Pre_RetStatesIdeal (m : (ℓ : Loc Cert.RetStatesIdeal.nD Cert.RetStatesIdeal.τ Cert.RetStatesIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite6 [hPre_finite6 : Cert.Pre_finite6.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite6.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite6 [hPre_finite6 : Cert.Pre_finite6.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite6.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1)
      ∧ r.2.mem ((c.tc : Thread Cert.InProjDx.nD Cert.InProjDx.τ).loc Cert.InProjDx.main_arg2) = m ((c.tc : Thread Cert.InProjDx.nD Cert.InProjDx.τ).loc Cert.InProjDx.main_arg2)
      ∧ r.2.mem ((c.tc : Thread Cert.InProjDx.nD Cert.InProjDx.τ).loc Cert.InProjDx.main_arg3) = m ((c.tc : Thread Cert.InProjDx.nD Cert.InProjDx.τ).loc Cert.InProjDx.main_arg3)
      ∧ r.2.mem ((c.tc : Thread Cert.InProjDx.nD Cert.InProjDx.τ).loc Cert.InProjDx.main_arg4) = m ((c.tc : Thread Cert.InProjDx.nD Cert.InProjDx.τ).loc Cert.InProjDx.main_arg4)
      ∧ r.2.mem ((c.tc : Thread Cert.InProjDx.nD Cert.InProjDx.τ).loc Cert.InProjDx.main_arg5) = m ((c.tc : Thread Cert.InProjDx.nD Cert.InProjDx.τ).loc Cert.InProjDx.main_arg5))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
      ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4)
      ∧ r.2.mem ((c.tc : Thread Cert.InProjDxIdeal.nD Cert.InProjDxIdeal.τ).loc Cert.InProjDxIdeal.main_arg5) = m ((c.tc : Thread Cert.InProjDxIdeal.nD Cert.InProjDxIdeal.τ).loc Cert.InProjDxIdeal.main_arg5))
      ∧ r.2.sem = fun _ => 0)

def quiescent_InProjDxIdeal_pre_finite1 [hInProjDxIdeal : Cert.InProjDxIdeal.Facts] [hPre_finite1 : Cert.Pre_finite1.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal_finite1 m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
      ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
      ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
      ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4)
      ∧ r.2.mem ((c.tc : Thread Cert.InProjDxIdeal.nD Cert.InProjDxIdeal.τ).loc Cert.InProjDxIdeal.main_arg5) = m ((c.tc : Thread Cert.InProjDxIdeal.nD Cert.InProjDxIdeal.τ).loc Cert.InProjDxIdeal.main_arg5))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3)
      ∧ r.2.mem ((c.tc : Thread Cert.InProjDxRefIdeal.nD Cert.InProjDxRefIdeal.τ).loc Cert.InProjDxRefIdeal.main_arg4) = m ((c.tc : Thread Cert.InProjDxRefIdeal.nD Cert.InProjDxRefIdeal.τ).loc Cert.InProjDxRefIdeal.main_arg4)
      ∧ r.2.mem ((c.tc : Thread Cert.InProjDxRefIdeal.nD Cert.InProjDxRefIdeal.τ).loc Cert.InProjDxRefIdeal.main_arg5) = m ((c.tc : Thread Cert.InProjDxRefIdeal.nD Cert.InProjDxRefIdeal.τ).loc Cert.InProjDxRefIdeal.main_arg5))
      ∧ r.2.sem = fun _ => 0)

def quiescent_InProjDxRefIdeal_pre_finite1 [hInProjDxRefIdeal : Cert.InProjDxRefIdeal.Facts] [hPre_finite1 : Cert.Pre_finite1.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal_finite1 m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1)
      ∧ r.2.mem ((c.tc : Thread Cert.InProjDxRefIdeal.nD Cert.InProjDxRefIdeal.τ).loc Cert.InProjDxRefIdeal.main_arg2) = m ((c.tc : Thread Cert.InProjDxRefIdeal.nD Cert.InProjDxRefIdeal.τ).loc Cert.InProjDxRefIdeal.main_arg2)
      ∧ r.2.mem ((c.tc : Thread Cert.InProjDxRefIdeal.nD Cert.InProjDxRefIdeal.τ).loc Cert.InProjDxRefIdeal.main_arg3) = m ((c.tc : Thread Cert.InProjDxRefIdeal.nD Cert.InProjDxRefIdeal.τ).loc Cert.InProjDxRefIdeal.main_arg3)
      ∧ r.2.mem ((c.tc : Thread Cert.InProjDxRefIdeal.nD Cert.InProjDxRefIdeal.τ).loc Cert.InProjDxRefIdeal.main_arg4) = m ((c.tc : Thread Cert.InProjDxRefIdeal.nD Cert.InProjDxRefIdeal.τ).loc Cert.InProjDxRefIdeal.main_arg4)
      ∧ r.2.mem ((c.tc : Thread Cert.InProjDxRefIdeal.nD Cert.InProjDxRefIdeal.τ).loc Cert.InProjDxRefIdeal.main_arg5) = m ((c.tc : Thread Cert.InProjDxRefIdeal.nD Cert.InProjDxRefIdeal.τ).loc Cert.InProjDxRefIdeal.main_arg5))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite4 [hAttnBwdIdeal : Cert.AttnBwdIdeal.Facts] [hPre_finite4 : Cert.Pre_finite4.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite4 m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite4 [hAttnBwdRefIdeal : Cert.AttnBwdRefIdeal.Facts] [hPre_finite4 : Cert.Pre_finite4.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite4 m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_Assemble [hAssemble : Cert.Assemble.Facts] : Prop :=
  ∀ (m : (ℓ : Loc Cert.Assemble.nD Cert.Assemble.τ Cert.Assemble.sig) → Buf (Elt Bits) ℓ) (g : Dev Cert.Assemble.nD → PrngReg), Pre_Assemble m →
    θ_run (Cert.Assemble.defs (F := Bits)) (onTc (τ := Cert.Assemble.τ) (Cert.Assemble.main (F := Bits))) ⟨m, fun _ => 0, g⟩ (fun r => (∀ c : Dev Cert.Assemble.nD,
      r.2.mem ((c.tc : Thread Cert.Assemble.nD Cert.Assemble.τ).loc Cert.Assemble.main_arg0) = m ((c.tc : Thread Cert.Assemble.nD Cert.Assemble.τ).loc Cert.Assemble.main_arg0)
      ∧ r.2.mem ((c.tc : Thread Cert.Assemble.nD Cert.Assemble.τ).loc Cert.Assemble.main_arg1) = m ((c.tc : Thread Cert.Assemble.nD Cert.Assemble.τ).loc Cert.Assemble.main_arg1)
      ∧ r.2.mem ((c.tc : Thread Cert.Assemble.nD Cert.Assemble.τ).loc Cert.Assemble.main_arg2) = m ((c.tc : Thread Cert.Assemble.nD Cert.Assemble.τ).loc Cert.Assemble.main_arg2)
      ∧ r.2.mem ((c.tc : Thread Cert.Assemble.nD Cert.Assemble.τ).loc Cert.Assemble.main_arg3) = m ((c.tc : Thread Cert.Assemble.nD Cert.Assemble.τ).loc Cert.Assemble.main_arg3)
      ∧ r.2.mem ((c.tc : Thread Cert.Assemble.nD Cert.Assemble.τ).loc Cert.Assemble.main_arg4) = m ((c.tc : Thread Cert.Assemble.nD Cert.Assemble.τ).loc Cert.Assemble.main_arg4)
      ∧ r.2.mem ((c.tc : Thread Cert.Assemble.nD Cert.Assemble.τ).loc Cert.Assemble.main_arg5) = m ((c.tc : Thread Cert.Assemble.nD Cert.Assemble.τ).loc Cert.Assemble.main_arg5)
      ∧ r.2.mem ((c.tc : Thread Cert.Assemble.nD Cert.Assemble.τ).loc Cert.Assemble.main_arg6) = m ((c.tc : Thread Cert.Assemble.nD Cert.Assemble.τ).loc Cert.Assemble.main_arg6)
      ∧ r.2.mem ((c.tc : Thread Cert.Assemble.nD Cert.Assemble.τ).loc Cert.Assemble.main_arg7) = m ((c.tc : Thread Cert.Assemble.nD Cert.Assemble.τ).loc Cert.Assemble.main_arg7)
      ∧ r.2.mem ((c.tc : Thread Cert.Assemble.nD Cert.Assemble.τ).loc Cert.Assemble.main_arg8) = m ((c.tc : Thread Cert.Assemble.nD Cert.Assemble.τ).loc Cert.Assemble.main_arg8)
      ∧ r.2.mem ((c.tc : Thread Cert.Assemble.nD Cert.Assemble.τ).loc Cert.Assemble.main_arg9) = m ((c.tc : Thread Cert.Assemble.nD Cert.Assemble.τ).loc Cert.Assemble.main_arg9)
      ∧ r.2.mem ((c.tc : Thread Cert.Assemble.nD Cert.Assemble.τ).loc Cert.Assemble.main_arg10) = m ((c.tc : Thread Cert.Assemble.nD Cert.Assemble.τ).loc Cert.Assemble.main_arg10)
      ∧ r.2.mem ((c.tc : Thread Cert.Assemble.nD Cert.Assemble.τ).loc Cert.Assemble.main_arg11) = m ((c.tc : Thread Cert.Assemble.nD Cert.Assemble.τ).loc Cert.Assemble.main_arg11)
      ∧ r.2.mem ((c.tc : Thread Cert.Assemble.nD Cert.Assemble.τ).loc Cert.Assemble.main_arg12) = m ((c.tc : Thread Cert.Assemble.nD Cert.Assemble.τ).loc Cert.Assemble.main_arg12)
      ∧ r.2.mem ((c.tc : Thread Cert.Assemble.nD Cert.Assemble.τ).loc Cert.Assemble.main_arg13) = m ((c.tc : Thread Cert.Assemble.nD Cert.Assemble.τ).loc Cert.Assemble.main_arg13)
      ∧ r.2.mem ((c.tc : Thread Cert.Assemble.nD Cert.Assemble.τ).loc Cert.Assemble.main_arg14) = m ((c.tc : Thread Cert.Assemble.nD Cert.Assemble.τ).loc Cert.Assemble.main_arg14)
      ∧ r.2.mem ((c.tc : Thread Cert.Assemble.nD Cert.Assemble.τ).loc Cert.Assemble.main_arg15) = m ((c.tc : Thread Cert.Assemble.nD Cert.Assemble.τ).loc Cert.Assemble.main_arg15))
      ∧ r.2.sem = fun _ => 0)

def quiescent_AssembleIdeal [hAssembleIdeal : Cert.AssembleIdeal.Facts] : Prop :=
  ∀ (m : (ℓ : Loc Cert.AssembleIdeal.nD Cert.AssembleIdeal.τ Cert.AssembleIdeal.sig) → Buf (Elt Ideal) ℓ) (g : Dev Cert.AssembleIdeal.nD → PrngReg), Pre_AssembleIdeal m →
    θ_run (Cert.AssembleIdeal.defs (F := Ideal)) (onTc (τ := Cert.AssembleIdeal.τ) (Cert.AssembleIdeal.main (F := Ideal))) ⟨m, fun _ => 0, g⟩ (fun r => (∀ c : Dev Cert.AssembleIdeal.nD,
      r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
      ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1)
      ∧ r.2.mem ((c.tc : Thread Cert.AssembleIdeal.nD Cert.AssembleIdeal.τ).loc Cert.AssembleIdeal.main_arg2) = m ((c.tc : Thread Cert.AssembleIdeal.nD Cert.AssembleIdeal.τ).loc Cert.AssembleIdeal.main_arg2)
      ∧ r.2.mem ((c.tc : Thread Cert.AssembleIdeal.nD Cert.AssembleIdeal.τ).loc Cert.AssembleIdeal.main_arg3) = m ((c.tc : Thread Cert.AssembleIdeal.nD Cert.AssembleIdeal.τ).loc Cert.AssembleIdeal.main_arg3)
      ∧ r.2.mem ((c.tc : Thread Cert.AssembleIdeal.nD Cert.AssembleIdeal.τ).loc Cert.AssembleIdeal.main_arg4) = m ((c.tc : Thread Cert.AssembleIdeal.nD Cert.AssembleIdeal.τ).loc Cert.AssembleIdeal.main_arg4)
      ∧ r.2.mem ((c.tc : Thread Cert.AssembleIdeal.nD Cert.AssembleIdeal.τ).loc Cert.AssembleIdeal.main_arg5) = m ((c.tc : Thread Cert.AssembleIdeal.nD Cert.AssembleIdeal.τ).loc Cert.AssembleIdeal.main_arg5)
      ∧ r.2.mem ((c.tc : Thread Cert.AssembleIdeal.nD Cert.AssembleIdeal.τ).loc Cert.AssembleIdeal.main_arg6) = m ((c.tc : Thread Cert.AssembleIdeal.nD Cert.AssembleIdeal.τ).loc Cert.AssembleIdeal.main_arg6)
      ∧ r.2.mem ((c.tc : Thread Cert.AssembleIdeal.nD Cert.AssembleIdeal.τ).loc Cert.AssembleIdeal.main_arg7) = m ((c.tc : Thread Cert.AssembleIdeal.nD Cert.AssembleIdeal.τ).loc Cert.AssembleIdeal.main_arg7)
      ∧ r.2.mem ((c.tc : Thread Cert.AssembleIdeal.nD Cert.AssembleIdeal.τ).loc Cert.AssembleIdeal.main_arg8) = m ((c.tc : Thread Cert.AssembleIdeal.nD Cert.AssembleIdeal.τ).loc Cert.AssembleIdeal.main_arg8)
      ∧ r.2.mem ((c.tc : Thread Cert.AssembleIdeal.nD Cert.AssembleIdeal.τ).loc Cert.AssembleIdeal.main_arg9) = m ((c.tc : Thread Cert.AssembleIdeal.nD Cert.AssembleIdeal.τ).loc Cert.AssembleIdeal.main_arg9)
      ∧ r.2.mem ((c.tc : Thread Cert.AssembleIdeal.nD Cert.AssembleIdeal.τ).loc Cert.AssembleIdeal.main_arg10) = m ((c.tc : Thread Cert.AssembleIdeal.nD Cert.AssembleIdeal.τ).loc Cert.AssembleIdeal.main_arg10)
      ∧ r.2.mem ((c.tc : Thread Cert.AssembleIdeal.nD Cert.AssembleIdeal.τ).loc Cert.AssembleIdeal.main_arg11) = m ((c.tc : Thread Cert.AssembleIdeal.nD Cert.AssembleIdeal.τ).loc Cert.AssembleIdeal.main_arg11)
      ∧ r.2.mem ((c.tc : Thread Cert.AssembleIdeal.nD Cert.AssembleIdeal.τ).loc Cert.AssembleIdeal.main_arg12) = m ((c.tc : Thread Cert.AssembleIdeal.nD Cert.AssembleIdeal.τ).loc Cert.AssembleIdeal.main_arg12)
      ∧ r.2.mem ((c.tc : Thread Cert.AssembleIdeal.nD Cert.AssembleIdeal.τ).loc Cert.AssembleIdeal.main_arg13) = m ((c.tc : Thread Cert.AssembleIdeal.nD Cert.AssembleIdeal.τ).loc Cert.AssembleIdeal.main_arg13)
      ∧ r.2.mem ((c.tc : Thread Cert.AssembleIdeal.nD Cert.AssembleIdeal.τ).loc Cert.AssembleIdeal.main_arg14) = m ((c.tc : Thread Cert.AssembleIdeal.nD Cert.AssembleIdeal.τ).loc Cert.AssembleIdeal.main_arg14)
      ∧ r.2.mem ((c.tc : Thread Cert.AssembleIdeal.nD Cert.AssembleIdeal.τ).loc Cert.AssembleIdeal.main_arg15) = m ((c.tc : Thread Cert.AssembleIdeal.nD Cert.AssembleIdeal.τ).loc Cert.AssembleIdeal.main_arg15))
      ∧ r.2.sem = fun _ => 0)

def quiescent_AssembleIdeal_pre_finite2 [hAssembleIdeal : Cert.AssembleIdeal.Facts] [hPre_finite2 : Cert.Pre_finite2.Facts] : Prop :=
  ∀ (m : (ℓ : Loc Cert.AssembleIdeal.nD Cert.AssembleIdeal.τ Cert.AssembleIdeal.sig) → Buf (Elt Ideal) ℓ) (g : Dev Cert.AssembleIdeal.nD → PrngReg), Pre_AssembleIdeal_finite2 m →
    θ_run (Cert.AssembleIdeal.defs (F := Ideal)) (onTc (τ := Cert.AssembleIdeal.τ) (Cert.AssembleIdeal.main (F := Ideal))) ⟨m, fun _ => 0, g⟩ (fun r => (∀ c : Dev Cert.AssembleIdeal.nD,
      r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
      ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1)
      ∧ r.2.mem ((c.tc : Thread Cert.AssembleIdeal.nD Cert.AssembleIdeal.τ).loc Cert.AssembleIdeal.main_arg2) = m ((c.tc : Thread Cert.AssembleIdeal.nD Cert.AssembleIdeal.τ).loc Cert.AssembleIdeal.main_arg2)
      ∧ r.2.mem ((c.tc : Thread Cert.AssembleIdeal.nD Cert.AssembleIdeal.τ).loc Cert.AssembleIdeal.main_arg3) = m ((c.tc : Thread Cert.AssembleIdeal.nD Cert.AssembleIdeal.τ).loc Cert.AssembleIdeal.main_arg3)
      ∧ r.2.mem ((c.tc : Thread Cert.AssembleIdeal.nD Cert.AssembleIdeal.τ).loc Cert.AssembleIdeal.main_arg4) = m ((c.tc : Thread Cert.AssembleIdeal.nD Cert.AssembleIdeal.τ).loc Cert.AssembleIdeal.main_arg4)
      ∧ r.2.mem ((c.tc : Thread Cert.AssembleIdeal.nD Cert.AssembleIdeal.τ).loc Cert.AssembleIdeal.main_arg5) = m ((c.tc : Thread Cert.AssembleIdeal.nD Cert.AssembleIdeal.τ).loc Cert.AssembleIdeal.main_arg5)
      ∧ r.2.mem ((c.tc : Thread Cert.AssembleIdeal.nD Cert.AssembleIdeal.τ).loc Cert.AssembleIdeal.main_arg6) = m ((c.tc : Thread Cert.AssembleIdeal.nD Cert.AssembleIdeal.τ).loc Cert.AssembleIdeal.main_arg6)
      ∧ r.2.mem ((c.tc : Thread Cert.AssembleIdeal.nD Cert.AssembleIdeal.τ).loc Cert.AssembleIdeal.main_arg7) = m ((c.tc : Thread Cert.AssembleIdeal.nD Cert.AssembleIdeal.τ).loc Cert.AssembleIdeal.main_arg7)
      ∧ r.2.mem ((c.tc : Thread Cert.AssembleIdeal.nD Cert.AssembleIdeal.τ).loc Cert.AssembleIdeal.main_arg8) = m ((c.tc : Thread Cert.AssembleIdeal.nD Cert.AssembleIdeal.τ).loc Cert.AssembleIdeal.main_arg8)
      ∧ r.2.mem ((c.tc : Thread Cert.AssembleIdeal.nD Cert.AssembleIdeal.τ).loc Cert.AssembleIdeal.main_arg9) = m ((c.tc : Thread Cert.AssembleIdeal.nD Cert.AssembleIdeal.τ).loc Cert.AssembleIdeal.main_arg9)
      ∧ r.2.mem ((c.tc : Thread Cert.AssembleIdeal.nD Cert.AssembleIdeal.τ).loc Cert.AssembleIdeal.main_arg10) = m ((c.tc : Thread Cert.AssembleIdeal.nD Cert.AssembleIdeal.τ).loc Cert.AssembleIdeal.main_arg10)
      ∧ r.2.mem ((c.tc : Thread Cert.AssembleIdeal.nD Cert.AssembleIdeal.τ).loc Cert.AssembleIdeal.main_arg11) = m ((c.tc : Thread Cert.AssembleIdeal.nD Cert.AssembleIdeal.τ).loc Cert.AssembleIdeal.main_arg11)
      ∧ r.2.mem ((c.tc : Thread Cert.AssembleIdeal.nD Cert.AssembleIdeal.τ).loc Cert.AssembleIdeal.main_arg12) = m ((c.tc : Thread Cert.AssembleIdeal.nD Cert.AssembleIdeal.τ).loc Cert.AssembleIdeal.main_arg12)
      ∧ r.2.mem ((c.tc : Thread Cert.AssembleIdeal.nD Cert.AssembleIdeal.τ).loc Cert.AssembleIdeal.main_arg13) = m ((c.tc : Thread Cert.AssembleIdeal.nD Cert.AssembleIdeal.τ).loc Cert.AssembleIdeal.main_arg13)
      ∧ r.2.mem ((c.tc : Thread Cert.AssembleIdeal.nD Cert.AssembleIdeal.τ).loc Cert.AssembleIdeal.main_arg14) = m ((c.tc : Thread Cert.AssembleIdeal.nD Cert.AssembleIdeal.τ).loc Cert.AssembleIdeal.main_arg14)
      ∧ r.2.mem ((c.tc : Thread Cert.AssembleIdeal.nD Cert.AssembleIdeal.τ).loc Cert.AssembleIdeal.main_arg15) = m ((c.tc : Thread Cert.AssembleIdeal.nD Cert.AssembleIdeal.τ).loc Cert.AssembleIdeal.main_arg15))
      ∧ r.2.sem = fun _ => 0)

def quiescent_AssembleRefIdeal [hAssembleRefIdeal : Cert.AssembleRefIdeal.Facts] : Prop :=
  ∀ (m : (ℓ : Loc Cert.AssembleRefIdeal.nD Cert.AssembleRefIdeal.τ Cert.AssembleRefIdeal.sig) → Buf (Elt Ideal) ℓ) (g : Dev Cert.AssembleRefIdeal.nD → PrngReg), Pre_AssembleRefIdeal m →
    θ_run (Cert.AssembleRefIdeal.defs (F := Ideal)) (onTc (τ := Cert.AssembleRefIdeal.τ) (Cert.AssembleRefIdeal.main (F := Ideal))) ⟨m, fun _ => 0, g⟩ (fun r => (∀ c : Dev Cert.AssembleRefIdeal.nD,
      r.2.mem ((c.tc : Thread Cert.AssembleRefIdeal.nD Cert.AssembleRefIdeal.τ).loc Cert.AssembleRefIdeal.main_arg0) = m ((c.tc : Thread Cert.AssembleRefIdeal.nD Cert.AssembleRefIdeal.τ).loc Cert.AssembleRefIdeal.main_arg0)
      ∧ r.2.mem ((c.tc : Thread Cert.AssembleRefIdeal.nD Cert.AssembleRefIdeal.τ).loc Cert.AssembleRefIdeal.main_arg1) = m ((c.tc : Thread Cert.AssembleRefIdeal.nD Cert.AssembleRefIdeal.τ).loc Cert.AssembleRefIdeal.main_arg1)
      ∧ r.2.mem ((c.tc : Thread Cert.AssembleRefIdeal.nD Cert.AssembleRefIdeal.τ).loc Cert.AssembleRefIdeal.main_arg2) = m ((c.tc : Thread Cert.AssembleRefIdeal.nD Cert.AssembleRefIdeal.τ).loc Cert.AssembleRefIdeal.main_arg2)
      ∧ r.2.mem ((c.tc : Thread Cert.AssembleRefIdeal.nD Cert.AssembleRefIdeal.τ).loc Cert.AssembleRefIdeal.main_arg3) = m ((c.tc : Thread Cert.AssembleRefIdeal.nD Cert.AssembleRefIdeal.τ).loc Cert.AssembleRefIdeal.main_arg3)
      ∧ r.2.mem ((c.tc : Thread Cert.AssembleRefIdeal.nD Cert.AssembleRefIdeal.τ).loc Cert.AssembleRefIdeal.main_arg4) = m ((c.tc : Thread Cert.AssembleRefIdeal.nD Cert.AssembleRefIdeal.τ).loc Cert.AssembleRefIdeal.main_arg4)
      ∧ r.2.mem ((c.tc : Thread Cert.AssembleRefIdeal.nD Cert.AssembleRefIdeal.τ).loc Cert.AssembleRefIdeal.main_arg5) = m ((c.tc : Thread Cert.AssembleRefIdeal.nD Cert.AssembleRefIdeal.τ).loc Cert.AssembleRefIdeal.main_arg5)
      ∧ r.2.mem ((c.tc : Thread Cert.AssembleRefIdeal.nD Cert.AssembleRefIdeal.τ).loc Cert.AssembleRefIdeal.main_arg6) = m ((c.tc : Thread Cert.AssembleRefIdeal.nD Cert.AssembleRefIdeal.τ).loc Cert.AssembleRefIdeal.main_arg6)
      ∧ r.2.mem ((c.tc : Thread Cert.AssembleRefIdeal.nD Cert.AssembleRefIdeal.τ).loc Cert.AssembleRefIdeal.main_arg7) = m ((c.tc : Thread Cert.AssembleRefIdeal.nD Cert.AssembleRefIdeal.τ).loc Cert.AssembleRefIdeal.main_arg7)
      ∧ r.2.mem ((c.tc : Thread Cert.AssembleRefIdeal.nD Cert.AssembleRefIdeal.τ).loc Cert.AssembleRefIdeal.main_arg8) = m ((c.tc : Thread Cert.AssembleRefIdeal.nD Cert.AssembleRefIdeal.τ).loc Cert.AssembleRefIdeal.main_arg8)
      ∧ r.2.mem ((c.tc : Thread Cert.AssembleRefIdeal.nD Cert.AssembleRefIdeal.τ).loc Cert.AssembleRefIdeal.main_arg9) = m ((c.tc : Thread Cert.AssembleRefIdeal.nD Cert.AssembleRefIdeal.τ).loc Cert.AssembleRefIdeal.main_arg9)
      ∧ r.2.mem ((c.tc : Thread Cert.AssembleRefIdeal.nD Cert.AssembleRefIdeal.τ).loc Cert.AssembleRefIdeal.main_arg10) = m ((c.tc : Thread Cert.AssembleRefIdeal.nD Cert.AssembleRefIdeal.τ).loc Cert.AssembleRefIdeal.main_arg10)
      ∧ r.2.mem ((c.tc : Thread Cert.AssembleRefIdeal.nD Cert.AssembleRefIdeal.τ).loc Cert.AssembleRefIdeal.main_arg11) = m ((c.tc : Thread Cert.AssembleRefIdeal.nD Cert.AssembleRefIdeal.τ).loc Cert.AssembleRefIdeal.main_arg11)
      ∧ r.2.mem ((c.tc : Thread Cert.AssembleRefIdeal.nD Cert.AssembleRefIdeal.τ).loc Cert.AssembleRefIdeal.main_arg12) = m ((c.tc : Thread Cert.AssembleRefIdeal.nD Cert.AssembleRefIdeal.τ).loc Cert.AssembleRefIdeal.main_arg12)
      ∧ r.2.mem ((c.tc : Thread Cert.AssembleRefIdeal.nD Cert.AssembleRefIdeal.τ).loc Cert.AssembleRefIdeal.main_arg13) = m ((c.tc : Thread Cert.AssembleRefIdeal.nD Cert.AssembleRefIdeal.τ).loc Cert.AssembleRefIdeal.main_arg13)
      ∧ r.2.mem ((c.tc : Thread Cert.AssembleRefIdeal.nD Cert.AssembleRefIdeal.τ).loc Cert.AssembleRefIdeal.main_arg14) = m ((c.tc : Thread Cert.AssembleRefIdeal.nD Cert.AssembleRefIdeal.τ).loc Cert.AssembleRefIdeal.main_arg14)
      ∧ r.2.mem ((c.tc : Thread Cert.AssembleRefIdeal.nD Cert.AssembleRefIdeal.τ).loc Cert.AssembleRefIdeal.main_arg15) = m ((c.tc : Thread Cert.AssembleRefIdeal.nD Cert.AssembleRefIdeal.τ).loc Cert.AssembleRefIdeal.main_arg15))
      ∧ r.2.sem = fun _ => 0)

def quiescent_AssembleRefIdeal_pre_finite2 [hAssembleRefIdeal : Cert.AssembleRefIdeal.Facts] [hPre_finite2 : Cert.Pre_finite2.Facts] : Prop :=
  ∀ (m : (ℓ : Loc Cert.AssembleRefIdeal.nD Cert.AssembleRefIdeal.τ Cert.AssembleRefIdeal.sig) → Buf (Elt Ideal) ℓ) (g : Dev Cert.AssembleRefIdeal.nD → PrngReg), Pre_AssembleRefIdeal_finite2 m →
    θ_run (Cert.AssembleRefIdeal.defs (F := Ideal)) (onTc (τ := Cert.AssembleRefIdeal.τ) (Cert.AssembleRefIdeal.main (F := Ideal))) ⟨m, fun _ => 0, g⟩ (fun r => (∀ c : Dev Cert.AssembleRefIdeal.nD,
      r.2.mem ((c.tc : Thread Cert.AssembleRefIdeal.nD Cert.AssembleRefIdeal.τ).loc Cert.AssembleRefIdeal.main_arg0) = m ((c.tc : Thread Cert.AssembleRefIdeal.nD Cert.AssembleRefIdeal.τ).loc Cert.AssembleRefIdeal.main_arg0)
      ∧ r.2.mem ((c.tc : Thread Cert.AssembleRefIdeal.nD Cert.AssembleRefIdeal.τ).loc Cert.AssembleRefIdeal.main_arg1) = m ((c.tc : Thread Cert.AssembleRefIdeal.nD Cert.AssembleRefIdeal.τ).loc Cert.AssembleRefIdeal.main_arg1)
      ∧ r.2.mem ((c.tc : Thread Cert.AssembleRefIdeal.nD Cert.AssembleRefIdeal.τ).loc Cert.AssembleRefIdeal.main_arg2) = m ((c.tc : Thread Cert.AssembleRefIdeal.nD Cert.AssembleRefIdeal.τ).loc Cert.AssembleRefIdeal.main_arg2)
      ∧ r.2.mem ((c.tc : Thread Cert.AssembleRefIdeal.nD Cert.AssembleRefIdeal.τ).loc Cert.AssembleRefIdeal.main_arg3) = m ((c.tc : Thread Cert.AssembleRefIdeal.nD Cert.AssembleRefIdeal.τ).loc Cert.AssembleRefIdeal.main_arg3)
      ∧ r.2.mem ((c.tc : Thread Cert.AssembleRefIdeal.nD Cert.AssembleRefIdeal.τ).loc Cert.AssembleRefIdeal.main_arg4) = m ((c.tc : Thread Cert.AssembleRefIdeal.nD Cert.AssembleRefIdeal.τ).loc Cert.AssembleRefIdeal.main_arg4)
      ∧ r.2.mem ((c.tc : Thread Cert.AssembleRefIdeal.nD Cert.AssembleRefIdeal.τ).loc Cert.AssembleRefIdeal.main_arg5) = m ((c.tc : Thread Cert.AssembleRefIdeal.nD Cert.AssembleRefIdeal.τ).loc Cert.AssembleRefIdeal.main_arg5)
      ∧ r.2.mem ((c.tc : Thread Cert.AssembleRefIdeal.nD Cert.AssembleRefIdeal.τ).loc Cert.AssembleRefIdeal.main_arg6) = m ((c.tc : Thread Cert.AssembleRefIdeal.nD Cert.AssembleRefIdeal.τ).loc Cert.AssembleRefIdeal.main_arg6)
      ∧ r.2.mem ((c.tc : Thread Cert.AssembleRefIdeal.nD Cert.AssembleRefIdeal.τ).loc Cert.AssembleRefIdeal.main_arg7) = m ((c.tc : Thread Cert.AssembleRefIdeal.nD Cert.AssembleRefIdeal.τ).loc Cert.AssembleRefIdeal.main_arg7)
      ∧ r.2.mem ((c.tc : Thread Cert.AssembleRefIdeal.nD Cert.AssembleRefIdeal.τ).loc Cert.AssembleRefIdeal.main_arg8) = m ((c.tc : Thread Cert.AssembleRefIdeal.nD Cert.AssembleRefIdeal.τ).loc Cert.AssembleRefIdeal.main_arg8)
      ∧ r.2.mem ((c.tc : Thread Cert.AssembleRefIdeal.nD Cert.AssembleRefIdeal.τ).loc Cert.AssembleRefIdeal.main_arg9) = m ((c.tc : Thread Cert.AssembleRefIdeal.nD Cert.AssembleRefIdeal.τ).loc Cert.AssembleRefIdeal.main_arg9)
      ∧ r.2.mem ((c.tc : Thread Cert.AssembleRefIdeal.nD Cert.AssembleRefIdeal.τ).loc Cert.AssembleRefIdeal.main_arg10) = m ((c.tc : Thread Cert.AssembleRefIdeal.nD Cert.AssembleRefIdeal.τ).loc Cert.AssembleRefIdeal.main_arg10)
      ∧ r.2.mem ((c.tc : Thread Cert.AssembleRefIdeal.nD Cert.AssembleRefIdeal.τ).loc Cert.AssembleRefIdeal.main_arg11) = m ((c.tc : Thread Cert.AssembleRefIdeal.nD Cert.AssembleRefIdeal.τ).loc Cert.AssembleRefIdeal.main_arg11)
      ∧ r.2.mem ((c.tc : Thread Cert.AssembleRefIdeal.nD Cert.AssembleRefIdeal.τ).loc Cert.AssembleRefIdeal.main_arg12) = m ((c.tc : Thread Cert.AssembleRefIdeal.nD Cert.AssembleRefIdeal.τ).loc Cert.AssembleRefIdeal.main_arg12)
      ∧ r.2.mem ((c.tc : Thread Cert.AssembleRefIdeal.nD Cert.AssembleRefIdeal.τ).loc Cert.AssembleRefIdeal.main_arg13) = m ((c.tc : Thread Cert.AssembleRefIdeal.nD Cert.AssembleRefIdeal.τ).loc Cert.AssembleRefIdeal.main_arg13)
      ∧ r.2.mem ((c.tc : Thread Cert.AssembleRefIdeal.nD Cert.AssembleRefIdeal.τ).loc Cert.AssembleRefIdeal.main_arg14) = m ((c.tc : Thread Cert.AssembleRefIdeal.nD Cert.AssembleRefIdeal.τ).loc Cert.AssembleRefIdeal.main_arg14)
      ∧ r.2.mem ((c.tc : Thread Cert.AssembleRefIdeal.nD Cert.AssembleRefIdeal.τ).loc Cert.AssembleRefIdeal.main_arg15) = m ((c.tc : Thread Cert.AssembleRefIdeal.nD Cert.AssembleRefIdeal.τ).loc Cert.AssembleRefIdeal.main_arg15))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailIdeal_pre_finite5 [hTailIdeal : Cert.TailIdeal.Facts] [hPre_finite5 : Cert.Pre_finite5.Facts] : Prop :=
  ∀ (m : (ℓ : Loc Cert.TailIdeal.nD Cert.TailIdeal.τ Cert.TailIdeal.sig) → Buf (Elt Ideal) ℓ) (g : Dev Cert.TailIdeal.nD → PrngReg), Pre_TailIdeal_finite5 m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_TailRefIdeal_pre_finite5 [hTailRefIdeal : Cert.TailRefIdeal.Facts] [hPre_finite5 : Cert.Pre_finite5.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal_finite5 m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10))
      ∧ r.2.sem = fun _ => 0)

def quiescent_RetBwd [hRetBwd : Cert.RetBwd.Facts] : Prop :=
  ∀ (m : (ℓ : Loc Cert.RetBwd.nD Cert.RetBwd.τ Cert.RetBwd.sig) → Buf (Elt Bits) ℓ) (g : Dev Cert.RetBwd.nD → PrngReg), Pre_RetBwd m →
    θ_run (Cert.RetBwd.defs (F := Bits)) (onTc (τ := Cert.RetBwd.τ) (Cert.RetBwd.main (F := Bits))) ⟨m, fun _ => 0, g⟩ (fun r => (∀ c : Dev Cert.RetBwd.nD,
      r.2.mem ((c.tc : Thread Cert.RetBwd.nD Cert.RetBwd.τ).loc Cert.RetBwd.main_arg0) = m ((c.tc : Thread Cert.RetBwd.nD Cert.RetBwd.τ).loc Cert.RetBwd.main_arg0)
      ∧ r.2.mem ((c.tc : Thread Cert.RetBwd.nD Cert.RetBwd.τ).loc Cert.RetBwd.main_arg1) = m ((c.tc : Thread Cert.RetBwd.nD Cert.RetBwd.τ).loc Cert.RetBwd.main_arg1)
      ∧ r.2.mem ((c.tc : Thread Cert.RetBwd.nD Cert.RetBwd.τ).loc Cert.RetBwd.main_arg2) = m ((c.tc : Thread Cert.RetBwd.nD Cert.RetBwd.τ).loc Cert.RetBwd.main_arg2)
      ∧ r.2.mem ((c.tc : Thread Cert.RetBwd.nD Cert.RetBwd.τ).loc Cert.RetBwd.main_arg3) = m ((c.tc : Thread Cert.RetBwd.nD Cert.RetBwd.τ).loc Cert.RetBwd.main_arg3)
      ∧ r.2.mem ((c.tc : Thread Cert.RetBwd.nD Cert.RetBwd.τ).loc Cert.RetBwd.main_arg4) = m ((c.tc : Thread Cert.RetBwd.nD Cert.RetBwd.τ).loc Cert.RetBwd.main_arg4)
      ∧ r.2.mem ((c.tc : Thread Cert.RetBwd.nD Cert.RetBwd.τ).loc Cert.RetBwd.main_arg5) = m ((c.tc : Thread Cert.RetBwd.nD Cert.RetBwd.τ).loc Cert.RetBwd.main_arg5)
      ∧ r.2.mem ((c.tc : Thread Cert.RetBwd.nD Cert.RetBwd.τ).loc Cert.RetBwd.main_arg6) = m ((c.tc : Thread Cert.RetBwd.nD Cert.RetBwd.τ).loc Cert.RetBwd.main_arg6)
      ∧ r.2.mem ((c.tc : Thread Cert.RetBwd.nD Cert.RetBwd.τ).loc Cert.RetBwd.main_arg7) = m ((c.tc : Thread Cert.RetBwd.nD Cert.RetBwd.τ).loc Cert.RetBwd.main_arg7)
      ∧ r.2.mem ((c.tc : Thread Cert.RetBwd.nD Cert.RetBwd.τ).loc Cert.RetBwd.main_arg8) = m ((c.tc : Thread Cert.RetBwd.nD Cert.RetBwd.τ).loc Cert.RetBwd.main_arg8)
      ∧ r.2.mem ((c.tc : Thread Cert.RetBwd.nD Cert.RetBwd.τ).loc Cert.RetBwd.main_arg9) = m ((c.tc : Thread Cert.RetBwd.nD Cert.RetBwd.τ).loc Cert.RetBwd.main_arg9))
      ∧ r.2.sem = fun _ => 0)

def quiescent_RetBwdIdeal [hRetBwdIdeal : Cert.RetBwdIdeal.Facts] : Prop :=
  ∀ (m : (ℓ : Loc Cert.RetBwdIdeal.nD Cert.RetBwdIdeal.τ Cert.RetBwdIdeal.sig) → Buf (Elt Ideal) ℓ) (g : Dev Cert.RetBwdIdeal.nD → PrngReg), Pre_RetBwdIdeal m →
    θ_run (Cert.RetBwdIdeal.defs (F := Ideal)) (onTc (τ := Cert.RetBwdIdeal.τ) (Cert.RetBwdIdeal.main (F := Ideal))) ⟨m, fun _ => 0, g⟩ (fun r => (∀ c : Dev Cert.RetBwdIdeal.nD,
      r.2.mem ((c.tc : Thread Cert.RetBwdIdeal.nD Cert.RetBwdIdeal.τ).loc Cert.RetBwdIdeal.main_arg0) = m ((c.tc : Thread Cert.RetBwdIdeal.nD Cert.RetBwdIdeal.τ).loc Cert.RetBwdIdeal.main_arg0)
      ∧ r.2.mem ((c.tc : Thread Cert.RetBwdIdeal.nD Cert.RetBwdIdeal.τ).loc Cert.RetBwdIdeal.main_arg1) = m ((c.tc : Thread Cert.RetBwdIdeal.nD Cert.RetBwdIdeal.τ).loc Cert.RetBwdIdeal.main_arg1)
      ∧ r.2.mem ((c.tc : Thread Cert.RetBwdIdeal.nD Cert.RetBwdIdeal.τ).loc Cert.RetBwdIdeal.main_arg2) = m ((c.tc : Thread Cert.RetBwdIdeal.nD Cert.RetBwdIdeal.τ).loc Cert.RetBwdIdeal.main_arg2)
      ∧ r.2.mem ((c.tc : Thread Cert.RetBwdIdeal.nD Cert.RetBwdIdeal.τ).loc Cert.RetBwdIdeal.main_arg3) = m ((c.tc : Thread Cert.RetBwdIdeal.nD Cert.RetBwdIdeal.τ).loc Cert.RetBwdIdeal.main_arg3)
      ∧ r.2.mem ((c.tc : Thread Cert.RetBwdIdeal.nD Cert.RetBwdIdeal.τ).loc Cert.RetBwdIdeal.main_arg4) = m ((c.tc : Thread Cert.RetBwdIdeal.nD Cert.RetBwdIdeal.τ).loc Cert.RetBwdIdeal.main_arg4)
      ∧ r.2.mem ((c.tc : Thread Cert.RetBwdIdeal.nD Cert.RetBwdIdeal.τ).loc Cert.RetBwdIdeal.main_arg5) = m ((c.tc : Thread Cert.RetBwdIdeal.nD Cert.RetBwdIdeal.τ).loc Cert.RetBwdIdeal.main_arg5)
      ∧ r.2.mem ((c.tc : Thread Cert.RetBwdIdeal.nD Cert.RetBwdIdeal.τ).loc Cert.RetBwdIdeal.main_arg6) = m ((c.tc : Thread Cert.RetBwdIdeal.nD Cert.RetBwdIdeal.τ).loc Cert.RetBwdIdeal.main_arg6)
      ∧ r.2.mem ((c.tc : Thread Cert.RetBwdIdeal.nD Cert.RetBwdIdeal.τ).loc Cert.RetBwdIdeal.main_arg7) = m ((c.tc : Thread Cert.RetBwdIdeal.nD Cert.RetBwdIdeal.τ).loc Cert.RetBwdIdeal.main_arg7)
      ∧ r.2.mem ((c.tc : Thread Cert.RetBwdIdeal.nD Cert.RetBwdIdeal.τ).loc Cert.RetBwdIdeal.main_arg8) = m ((c.tc : Thread Cert.RetBwdIdeal.nD Cert.RetBwdIdeal.τ).loc Cert.RetBwdIdeal.main_arg8)
      ∧ r.2.mem ((c.tc : Thread Cert.RetBwdIdeal.nD Cert.RetBwdIdeal.τ).loc Cert.RetBwdIdeal.main_arg9) = m ((c.tc : Thread Cert.RetBwdIdeal.nD Cert.RetBwdIdeal.τ).loc Cert.RetBwdIdeal.main_arg9))
      ∧ r.2.sem = fun _ => 0)

def quiescent_RetStates [hRetStates : Cert.RetStates.Facts] : Prop :=
  ∀ (m : (ℓ : Loc Cert.RetStates.nD Cert.RetStates.τ Cert.RetStates.sig) → Buf (Elt Bits) ℓ) (g : Dev Cert.RetStates.nD → PrngReg), Pre_RetStates m →
    θ_run (Cert.RetStates.defs (F := Bits)) (onTc (τ := Cert.RetStates.τ) (Cert.RetStates.main (F := Bits))) ⟨m, fun _ => 0, g⟩ (fun r => (∀ c : Dev Cert.RetStates.nD,
      r.2.mem ((c.tc : Thread Cert.RetStates.nD Cert.RetStates.τ).loc Cert.RetStates.main_arg0) = m ((c.tc : Thread Cert.RetStates.nD Cert.RetStates.τ).loc Cert.RetStates.main_arg0)
      ∧ r.2.mem ((c.tc : Thread Cert.RetStates.nD Cert.RetStates.τ).loc Cert.RetStates.main_arg1) = m ((c.tc : Thread Cert.RetStates.nD Cert.RetStates.τ).loc Cert.RetStates.main_arg1)
      ∧ r.2.mem ((c.tc : Thread Cert.RetStates.nD Cert.RetStates.τ).loc Cert.RetStates.main_arg2) = m ((c.tc : Thread Cert.RetStates.nD Cert.RetStates.τ).loc Cert.RetStates.main_arg2)
      ∧ r.2.mem ((c.tc : Thread Cert.RetStates.nD Cert.RetStates.τ).loc Cert.RetStates.main_arg3) = m ((c.tc : Thread Cert.RetStates.nD Cert.RetStates.τ).loc Cert.RetStates.main_arg3))
      ∧ r.2.sem = fun _ => 0)

def quiescent_RetStatesIdeal [hRetStatesIdeal : Cert.RetStatesIdeal.Facts] : Prop :=
  ∀ (m : (ℓ : Loc Cert.RetStatesIdeal.nD Cert.RetStatesIdeal.τ Cert.RetStatesIdeal.sig) → Buf (Elt Ideal) ℓ) (g : Dev Cert.RetStatesIdeal.nD → PrngReg), Pre_RetStatesIdeal m →
    θ_run (Cert.RetStatesIdeal.defs (F := Ideal)) (onTc (τ := Cert.RetStatesIdeal.τ) (Cert.RetStatesIdeal.main (F := Ideal))) ⟨m, fun _ => 0, g⟩ (fun r => (∀ c : Dev Cert.RetStatesIdeal.nD,
      r.2.mem ((c.tc : Thread Cert.RetStatesIdeal.nD Cert.RetStatesIdeal.τ).loc Cert.RetStatesIdeal.main_arg0) = m ((c.tc : Thread Cert.RetStatesIdeal.nD Cert.RetStatesIdeal.τ).loc Cert.RetStatesIdeal.main_arg0)
      ∧ r.2.mem ((c.tc : Thread Cert.RetStatesIdeal.nD Cert.RetStatesIdeal.τ).loc Cert.RetStatesIdeal.main_arg1) = m ((c.tc : Thread Cert.RetStatesIdeal.nD Cert.RetStatesIdeal.τ).loc Cert.RetStatesIdeal.main_arg1)
      ∧ r.2.mem ((c.tc : Thread Cert.RetStatesIdeal.nD Cert.RetStatesIdeal.τ).loc Cert.RetStatesIdeal.main_arg2) = m ((c.tc : Thread Cert.RetStatesIdeal.nD Cert.RetStatesIdeal.τ).loc Cert.RetStatesIdeal.main_arg2)
      ∧ r.2.mem ((c.tc : Thread Cert.RetStatesIdeal.nD Cert.RetStatesIdeal.τ).loc Cert.RetStatesIdeal.main_arg3) = m ((c.tc : Thread Cert.RetStatesIdeal.nD Cert.RetStatesIdeal.τ).loc Cert.RetStatesIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite6 [hAttnFwdIdeal : Cert.AttnFwdIdeal.Facts] [hPre_finite6 : Cert.Pre_finite6.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite6 m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite6 [hAttnFwdRefIdeal : Cert.AttnFwdRefIdeal.Facts] [hPre_finite6 : Cert.Pre_finite6.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite6 m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def preserves_InProjDx_InProjDxIdeal : Prop :=
  True

def algebraic_InProjDxIdeal_InProjDxRefIdeal_pre_finite1 [hInProjDxIdeal : Cert.InProjDxIdeal.Facts] [hInProjDxRefIdeal : Cert.InProjDxRefIdeal.Facts] [hPre_finite1 : Cert.Pre_finite1.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal_finite1 m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)
      ∧ m' ((c.tc : Thread Cert.InProjDxRefIdeal.nD Cert.InProjDxRefIdeal.τ).loc Cert.InProjDxRefIdeal.main_arg2) = m ((c.tc : Thread Cert.InProjDxIdeal.nD Cert.InProjDxIdeal.τ).loc Cert.InProjDxIdeal.main_arg2)
      ∧ m' ((c.tc : Thread Cert.InProjDxRefIdeal.nD Cert.InProjDxRefIdeal.τ).loc Cert.InProjDxRefIdeal.main_arg3) = m ((c.tc : Thread Cert.InProjDxIdeal.nD Cert.InProjDxIdeal.τ).loc Cert.InProjDxIdeal.main_arg3)
      ∧ m' ((c.tc : Thread Cert.InProjDxRefIdeal.nD Cert.InProjDxRefIdeal.τ).loc Cert.InProjDxRefIdeal.main_arg4) = m ((c.tc : Thread Cert.InProjDxIdeal.nD Cert.InProjDxIdeal.τ).loc Cert.InProjDxIdeal.main_arg4)
      ∧ m' ((c.tc : Thread Cert.InProjDxRefIdeal.nD Cert.InProjDxRefIdeal.τ).loc Cert.InProjDxRefIdeal.main_arg5) = m ((c.tc : Thread Cert.InProjDxIdeal.nD Cert.InProjDxIdeal.τ).loc Cert.InProjDxIdeal.main_arg5)) →
    ∃ (v0 : (c : Dev Cert.InProjDxIdeal.nD) → Buf (Elt Ideal) ((c.tc : Thread Cert.InProjDxIdeal.nD Cert.InProjDxIdeal.τ).loc Cert.InProjDxIdeal.main_v6_0)) (v1 : (c : Dev Cert.InProjDxIdeal.nD) → Buf (Elt Ideal) ((c.tc : Thread Cert.InProjDxIdeal.nD Cert.InProjDxIdeal.τ).loc Cert.InProjDxIdeal.main_v6_1)) (v2 : (c : Dev Cert.InProjDxIdeal.nD) → Buf (Elt Ideal) ((c.tc : Thread Cert.InProjDxIdeal.nD Cert.InProjDxIdeal.τ).loc Cert.InProjDxIdeal.main_v6_2)) (v3 : (c : Dev Cert.InProjDxIdeal.nD) → Buf (Elt Ideal) ((c.tc : Thread Cert.InProjDxIdeal.nD Cert.InProjDxIdeal.τ).loc Cert.InProjDxIdeal.main_v6_3)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v6_0) = v0 c
          ∧ r.2.mem ((c.tc : Thread Cert.InProjDxIdeal.nD Cert.InProjDxIdeal.τ).loc Cert.InProjDxIdeal.main_v6_1) = v1 c
          ∧ r.2.mem ((c.tc : Thread Cert.InProjDxIdeal.nD Cert.InProjDxIdeal.τ).loc Cert.InProjDxIdeal.main_v6_2) = v2 c
          ∧ r.2.mem ((c.tc : Thread Cert.InProjDxIdeal.nD Cert.InProjDxIdeal.τ).loc Cert.InProjDxIdeal.main_v6_3) = v3 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1)
          ∧ r.2.mem ((c.tc : Thread Cert.InProjDxIdeal.nD Cert.InProjDxIdeal.τ).loc Cert.InProjDxIdeal.main_arg2) = m ((c.tc : Thread Cert.InProjDxIdeal.nD Cert.InProjDxIdeal.τ).loc Cert.InProjDxIdeal.main_arg2)
          ∧ r.2.mem ((c.tc : Thread Cert.InProjDxIdeal.nD Cert.InProjDxIdeal.τ).loc Cert.InProjDxIdeal.main_arg3) = m ((c.tc : Thread Cert.InProjDxIdeal.nD Cert.InProjDxIdeal.τ).loc Cert.InProjDxIdeal.main_arg3)
          ∧ r.2.mem ((c.tc : Thread Cert.InProjDxIdeal.nD Cert.InProjDxIdeal.τ).loc Cert.InProjDxIdeal.main_arg4) = m ((c.tc : Thread Cert.InProjDxIdeal.nD Cert.InProjDxIdeal.τ).loc Cert.InProjDxIdeal.main_arg4)
          ∧ r.2.mem ((c.tc : Thread Cert.InProjDxIdeal.nD Cert.InProjDxIdeal.τ).loc Cert.InProjDxIdeal.main_arg5) = m ((c.tc : Thread Cert.InProjDxIdeal.nD Cert.InProjDxIdeal.τ).loc Cert.InProjDxIdeal.main_arg5))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v66) = v0 c
          ∧ r.2.mem ((c.tc : Thread Cert.InProjDxRefIdeal.nD Cert.InProjDxRefIdeal.τ).loc Cert.InProjDxRefIdeal.main_v35) = v1 c
          ∧ r.2.mem ((c.tc : Thread Cert.InProjDxRefIdeal.nD Cert.InProjDxRefIdeal.τ).loc Cert.InProjDxRefIdeal.main_v42) = v2 c
          ∧ r.2.mem ((c.tc : Thread Cert.InProjDxRefIdeal.nD Cert.InProjDxRefIdeal.τ).loc Cert.InProjDxRefIdeal.main_v65) = v3 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1)
          ∧ r.2.mem ((c.tc : Thread Cert.InProjDxRefIdeal.nD Cert.InProjDxRefIdeal.τ).loc Cert.InProjDxRefIdeal.main_arg2) = m' ((c.tc : Thread Cert.InProjDxRefIdeal.nD Cert.InProjDxRefIdeal.τ).loc Cert.InProjDxRefIdeal.main_arg2)
          ∧ r.2.mem ((c.tc : Thread Cert.InProjDxRefIdeal.nD Cert.InProjDxRefIdeal.τ).loc Cert.InProjDxRefIdeal.main_arg3) = m' ((c.tc : Thread Cert.InProjDxRefIdeal.nD Cert.InProjDxRefIdeal.τ).loc Cert.InProjDxRefIdeal.main_arg3)
          ∧ r.2.mem ((c.tc : Thread Cert.InProjDxRefIdeal.nD Cert.InProjDxRefIdeal.τ).loc Cert.InProjDxRefIdeal.main_arg4) = m' ((c.tc : Thread Cert.InProjDxRefIdeal.nD Cert.InProjDxRefIdeal.τ).loc Cert.InProjDxRefIdeal.main_arg4)
          ∧ r.2.mem ((c.tc : Thread Cert.InProjDxRefIdeal.nD Cert.InProjDxRefIdeal.τ).loc Cert.InProjDxRefIdeal.main_arg5) = m' ((c.tc : Thread Cert.InProjDxRefIdeal.nD Cert.InProjDxRefIdeal.τ).loc Cert.InProjDxRefIdeal.main_arg5))

def preserves_AttnBwd_AttnBwdIdeal : Prop :=
  IdealRules.named_const.Statement Cert.AttnBwdIdeal.κ "ln2" .f32 0x3F317218#32 ((Real.log 2 : ℝ) : EReal)

def algebraic_AttnBwdIdeal_AttnBwdRefIdeal_pre_finite4 [hAttnBwdIdeal : Cert.AttnBwdIdeal.Facts] [hAttnBwdRefIdeal : Cert.AttnBwdRefIdeal.Facts] [hPre_finite4 : Cert.Pre_finite4.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite4 m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v45_0)) (v1 : (c : Dev Cert.AttnBwdIdeal.nD) → Buf (Elt Ideal) ((c.tc : Thread Cert.AttnBwdIdeal.nD Cert.AttnBwdIdeal.τ).loc Cert.AttnBwdIdeal.main_v48)) (v2 : (c : Dev Cert.AttnBwdIdeal.nD) → Buf (Elt Ideal) ((c.tc : Thread Cert.AttnBwdIdeal.nD Cert.AttnBwdIdeal.τ).loc Cert.AttnBwdIdeal.main_v51)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v45_0) = v0 c
          ∧ r.2.mem ((c.tc : Thread Cert.AttnBwdIdeal.nD Cert.AttnBwdIdeal.τ).loc Cert.AttnBwdIdeal.main_v48) = v1 c
          ∧ r.2.mem ((c.tc : Thread Cert.AttnBwdIdeal.nD Cert.AttnBwdIdeal.τ).loc Cert.AttnBwdIdeal.main_v51) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v58) = v0 c
          ∧ r.2.mem ((c.tc : Thread Cert.AttnBwdRefIdeal.nD Cert.AttnBwdRefIdeal.τ).loc Cert.AttnBwdRefIdeal.main_v60) = v1 c
          ∧ r.2.mem ((c.tc : Thread Cert.AttnBwdRefIdeal.nD Cert.AttnBwdRefIdeal.τ).loc Cert.AttnBwdRefIdeal.main_v62) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_Assemble_AssembleIdeal : Prop :=
  True

def algebraic_AssembleIdeal_AssembleRefIdeal_pre_finite2 [hAssembleIdeal : Cert.AssembleIdeal.Facts] [hAssembleRefIdeal : Cert.AssembleRefIdeal.Facts] [hPre_finite2 : Cert.Pre_finite2.Facts] : Prop :=
  ∀ (m : (ℓ : Loc Cert.AssembleIdeal.nD Cert.AssembleIdeal.τ Cert.AssembleIdeal.sig) → Buf (Elt Ideal) ℓ) (g : Dev Cert.AssembleIdeal.nD → PrngReg)
    (m' : (ℓ : Loc Cert.AssembleRefIdeal.nD Cert.AssembleRefIdeal.τ Cert.AssembleRefIdeal.sig) → Buf (Elt Ideal) ℓ) (g' : Dev Cert.AssembleRefIdeal.nD → PrngReg), Pre_AssembleIdeal_finite2 m →
    (∀ c : Dev Cert.AssembleIdeal.nD,
      m' ((c.tc : Thread Cert.AssembleRefIdeal.nD Cert.AssembleRefIdeal.τ).loc Cert.AssembleRefIdeal.main_arg0) = m ((c.tc : Thread Cert.AssembleIdeal.nD Cert.AssembleIdeal.τ).loc Cert.AssembleIdeal.main_arg0)
      ∧ m' ((c.tc : Thread Cert.AssembleRefIdeal.nD Cert.AssembleRefIdeal.τ).loc Cert.AssembleRefIdeal.main_arg1) = m ((c.tc : Thread Cert.AssembleIdeal.nD Cert.AssembleIdeal.τ).loc Cert.AssembleIdeal.main_arg1)
      ∧ m' ((c.tc : Thread Cert.AssembleRefIdeal.nD Cert.AssembleRefIdeal.τ).loc Cert.AssembleRefIdeal.main_arg2) = m ((c.tc : Thread Cert.AssembleIdeal.nD Cert.AssembleIdeal.τ).loc Cert.AssembleIdeal.main_arg2)
      ∧ m' ((c.tc : Thread Cert.AssembleRefIdeal.nD Cert.AssembleRefIdeal.τ).loc Cert.AssembleRefIdeal.main_arg3) = m ((c.tc : Thread Cert.AssembleIdeal.nD Cert.AssembleIdeal.τ).loc Cert.AssembleIdeal.main_arg3)
      ∧ m' ((c.tc : Thread Cert.AssembleRefIdeal.nD Cert.AssembleRefIdeal.τ).loc Cert.AssembleRefIdeal.main_arg4) = m ((c.tc : Thread Cert.AssembleIdeal.nD Cert.AssembleIdeal.τ).loc Cert.AssembleIdeal.main_arg4)
      ∧ m' ((c.tc : Thread Cert.AssembleRefIdeal.nD Cert.AssembleRefIdeal.τ).loc Cert.AssembleRefIdeal.main_arg5) = m ((c.tc : Thread Cert.AssembleIdeal.nD Cert.AssembleIdeal.τ).loc Cert.AssembleIdeal.main_arg5)
      ∧ m' ((c.tc : Thread Cert.AssembleRefIdeal.nD Cert.AssembleRefIdeal.τ).loc Cert.AssembleRefIdeal.main_arg6) = m ((c.tc : Thread Cert.AssembleIdeal.nD Cert.AssembleIdeal.τ).loc Cert.AssembleIdeal.main_arg6)
      ∧ m' ((c.tc : Thread Cert.AssembleRefIdeal.nD Cert.AssembleRefIdeal.τ).loc Cert.AssembleRefIdeal.main_arg7) = m ((c.tc : Thread Cert.AssembleIdeal.nD Cert.AssembleIdeal.τ).loc Cert.AssembleIdeal.main_arg7)
      ∧ m' ((c.tc : Thread Cert.AssembleRefIdeal.nD Cert.AssembleRefIdeal.τ).loc Cert.AssembleRefIdeal.main_arg8) = m ((c.tc : Thread Cert.AssembleIdeal.nD Cert.AssembleIdeal.τ).loc Cert.AssembleIdeal.main_arg8)
      ∧ m' ((c.tc : Thread Cert.AssembleRefIdeal.nD Cert.AssembleRefIdeal.τ).loc Cert.AssembleRefIdeal.main_arg9) = m ((c.tc : Thread Cert.AssembleIdeal.nD Cert.AssembleIdeal.τ).loc Cert.AssembleIdeal.main_arg9)
      ∧ m' ((c.tc : Thread Cert.AssembleRefIdeal.nD Cert.AssembleRefIdeal.τ).loc Cert.AssembleRefIdeal.main_arg10) = m ((c.tc : Thread Cert.AssembleIdeal.nD Cert.AssembleIdeal.τ).loc Cert.AssembleIdeal.main_arg10)
      ∧ m' ((c.tc : Thread Cert.AssembleRefIdeal.nD Cert.AssembleRefIdeal.τ).loc Cert.AssembleRefIdeal.main_arg11) = m ((c.tc : Thread Cert.AssembleIdeal.nD Cert.AssembleIdeal.τ).loc Cert.AssembleIdeal.main_arg11)
      ∧ m' ((c.tc : Thread Cert.AssembleRefIdeal.nD Cert.AssembleRefIdeal.τ).loc Cert.AssembleRefIdeal.main_arg12) = m ((c.tc : Thread Cert.AssembleIdeal.nD Cert.AssembleIdeal.τ).loc Cert.AssembleIdeal.main_arg12)
      ∧ m' ((c.tc : Thread Cert.AssembleRefIdeal.nD Cert.AssembleRefIdeal.τ).loc Cert.AssembleRefIdeal.main_arg13) = m ((c.tc : Thread Cert.AssembleIdeal.nD Cert.AssembleIdeal.τ).loc Cert.AssembleIdeal.main_arg13)
      ∧ m' ((c.tc : Thread Cert.AssembleRefIdeal.nD Cert.AssembleRefIdeal.τ).loc Cert.AssembleRefIdeal.main_arg14) = m ((c.tc : Thread Cert.AssembleIdeal.nD Cert.AssembleIdeal.τ).loc Cert.AssembleIdeal.main_arg14)
      ∧ m' ((c.tc : Thread Cert.AssembleRefIdeal.nD Cert.AssembleRefIdeal.τ).loc Cert.AssembleRefIdeal.main_arg15) = m ((c.tc : Thread Cert.AssembleIdeal.nD Cert.AssembleIdeal.τ).loc Cert.AssembleIdeal.main_arg15)) →
    ∃ (v0 : (c : Dev Cert.AssembleIdeal.nD) → Buf (Elt Ideal) ((c.tc : Thread Cert.AssembleIdeal.nD Cert.AssembleIdeal.τ).loc Cert.AssembleIdeal.main_v29_0)) (v1 : (c : Dev Cert.AssembleIdeal.nD) → Buf (Elt Ideal) ((c.tc : Thread Cert.AssembleIdeal.nD Cert.AssembleIdeal.τ).loc Cert.AssembleIdeal.main_v32)) (v2 : (c : Dev Cert.AssembleIdeal.nD) → Buf (Elt Ideal) ((c.tc : Thread Cert.AssembleIdeal.nD Cert.AssembleIdeal.τ).loc Cert.AssembleIdeal.main_v35)),
      θ_run (Cert.AssembleIdeal.defs (F := Ideal)) (onTc (τ := Cert.AssembleIdeal.τ) (Cert.AssembleIdeal.main (F := Ideal))) ⟨m, fun _ => 0, g⟩ (fun r => ∀ c : Dev Cert.AssembleIdeal.nD,
          r.2.mem ((c.tc : Thread Cert.AssembleIdeal.nD Cert.AssembleIdeal.τ).loc Cert.AssembleIdeal.main_v29_0) = v0 c
          ∧ r.2.mem ((c.tc : Thread Cert.AssembleIdeal.nD Cert.AssembleIdeal.τ).loc Cert.AssembleIdeal.main_v32) = v1 c
          ∧ r.2.mem ((c.tc : Thread Cert.AssembleIdeal.nD Cert.AssembleIdeal.τ).loc Cert.AssembleIdeal.main_v35) = v2 c
          ∧ r.2.mem ((c.tc : Thread Cert.AssembleIdeal.nD Cert.AssembleIdeal.τ).loc Cert.AssembleIdeal.main_arg0) = m ((c.tc : Thread Cert.AssembleIdeal.nD Cert.AssembleIdeal.τ).loc Cert.AssembleIdeal.main_arg0)
          ∧ r.2.mem ((c.tc : Thread Cert.AssembleIdeal.nD Cert.AssembleIdeal.τ).loc Cert.AssembleIdeal.main_arg1) = m ((c.tc : Thread Cert.AssembleIdeal.nD Cert.AssembleIdeal.τ).loc Cert.AssembleIdeal.main_arg1)
          ∧ r.2.mem ((c.tc : Thread Cert.AssembleIdeal.nD Cert.AssembleIdeal.τ).loc Cert.AssembleIdeal.main_arg2) = m ((c.tc : Thread Cert.AssembleIdeal.nD Cert.AssembleIdeal.τ).loc Cert.AssembleIdeal.main_arg2)
          ∧ r.2.mem ((c.tc : Thread Cert.AssembleIdeal.nD Cert.AssembleIdeal.τ).loc Cert.AssembleIdeal.main_arg3) = m ((c.tc : Thread Cert.AssembleIdeal.nD Cert.AssembleIdeal.τ).loc Cert.AssembleIdeal.main_arg3)
          ∧ r.2.mem ((c.tc : Thread Cert.AssembleIdeal.nD Cert.AssembleIdeal.τ).loc Cert.AssembleIdeal.main_arg4) = m ((c.tc : Thread Cert.AssembleIdeal.nD Cert.AssembleIdeal.τ).loc Cert.AssembleIdeal.main_arg4)
          ∧ r.2.mem ((c.tc : Thread Cert.AssembleIdeal.nD Cert.AssembleIdeal.τ).loc Cert.AssembleIdeal.main_arg5) = m ((c.tc : Thread Cert.AssembleIdeal.nD Cert.AssembleIdeal.τ).loc Cert.AssembleIdeal.main_arg5)
          ∧ r.2.mem ((c.tc : Thread Cert.AssembleIdeal.nD Cert.AssembleIdeal.τ).loc Cert.AssembleIdeal.main_arg6) = m ((c.tc : Thread Cert.AssembleIdeal.nD Cert.AssembleIdeal.τ).loc Cert.AssembleIdeal.main_arg6)
          ∧ r.2.mem ((c.tc : Thread Cert.AssembleIdeal.nD Cert.AssembleIdeal.τ).loc Cert.AssembleIdeal.main_arg7) = m ((c.tc : Thread Cert.AssembleIdeal.nD Cert.AssembleIdeal.τ).loc Cert.AssembleIdeal.main_arg7)
          ∧ r.2.mem ((c.tc : Thread Cert.AssembleIdeal.nD Cert.AssembleIdeal.τ).loc Cert.AssembleIdeal.main_arg8) = m ((c.tc : Thread Cert.AssembleIdeal.nD Cert.AssembleIdeal.τ).loc Cert.AssembleIdeal.main_arg8)
          ∧ r.2.mem ((c.tc : Thread Cert.AssembleIdeal.nD Cert.AssembleIdeal.τ).loc Cert.AssembleIdeal.main_arg9) = m ((c.tc : Thread Cert.AssembleIdeal.nD Cert.AssembleIdeal.τ).loc Cert.AssembleIdeal.main_arg9)
          ∧ r.2.mem ((c.tc : Thread Cert.AssembleIdeal.nD Cert.AssembleIdeal.τ).loc Cert.AssembleIdeal.main_arg10) = m ((c.tc : Thread Cert.AssembleIdeal.nD Cert.AssembleIdeal.τ).loc Cert.AssembleIdeal.main_arg10)
          ∧ r.2.mem ((c.tc : Thread Cert.AssembleIdeal.nD Cert.AssembleIdeal.τ).loc Cert.AssembleIdeal.main_arg11) = m ((c.tc : Thread Cert.AssembleIdeal.nD Cert.AssembleIdeal.τ).loc Cert.AssembleIdeal.main_arg11)
          ∧ r.2.mem ((c.tc : Thread Cert.AssembleIdeal.nD Cert.AssembleIdeal.τ).loc Cert.AssembleIdeal.main_arg12) = m ((c.tc : Thread Cert.AssembleIdeal.nD Cert.AssembleIdeal.τ).loc Cert.AssembleIdeal.main_arg12)
          ∧ r.2.mem ((c.tc : Thread Cert.AssembleIdeal.nD Cert.AssembleIdeal.τ).loc Cert.AssembleIdeal.main_arg13) = m ((c.tc : Thread Cert.AssembleIdeal.nD Cert.AssembleIdeal.τ).loc Cert.AssembleIdeal.main_arg13)
          ∧ r.2.mem ((c.tc : Thread Cert.AssembleIdeal.nD Cert.AssembleIdeal.τ).loc Cert.AssembleIdeal.main_arg14) = m ((c.tc : Thread Cert.AssembleIdeal.nD Cert.AssembleIdeal.τ).loc Cert.AssembleIdeal.main_arg14)
          ∧ r.2.mem ((c.tc : Thread Cert.AssembleIdeal.nD Cert.AssembleIdeal.τ).loc Cert.AssembleIdeal.main_arg15) = m ((c.tc : Thread Cert.AssembleIdeal.nD Cert.AssembleIdeal.τ).loc Cert.AssembleIdeal.main_arg15))
      ∧ θ_run (Cert.AssembleRefIdeal.defs (F := Ideal)) (onTc (τ := Cert.AssembleRefIdeal.τ) (Cert.AssembleRefIdeal.main (F := Ideal))) ⟨m', fun _ => 0, g'⟩ (fun r => ∀ c : Dev Cert.AssembleRefIdeal.nD,
          r.2.mem ((c.tc : Thread Cert.AssembleRefIdeal.nD Cert.AssembleRefIdeal.τ).loc Cert.AssembleRefIdeal.main_v375) = v0 c
          ∧ r.2.mem ((c.tc : Thread Cert.AssembleRefIdeal.nD Cert.AssembleRefIdeal.τ).loc Cert.AssembleRefIdeal.main_v371) = v1 c
          ∧ r.2.mem ((c.tc : Thread Cert.AssembleRefIdeal.nD Cert.AssembleRefIdeal.τ).loc Cert.AssembleRefIdeal.main_v315) = v2 c
          ∧ r.2.mem ((c.tc : Thread Cert.AssembleRefIdeal.nD Cert.AssembleRefIdeal.τ).loc Cert.AssembleRefIdeal.main_arg0) = m' ((c.tc : Thread Cert.AssembleRefIdeal.nD Cert.AssembleRefIdeal.τ).loc Cert.AssembleRefIdeal.main_arg0)
          ∧ r.2.mem ((c.tc : Thread Cert.AssembleRefIdeal.nD Cert.AssembleRefIdeal.τ).loc Cert.AssembleRefIdeal.main_arg1) = m' ((c.tc : Thread Cert.AssembleRefIdeal.nD Cert.AssembleRefIdeal.τ).loc Cert.AssembleRefIdeal.main_arg1)
          ∧ r.2.mem ((c.tc : Thread Cert.AssembleRefIdeal.nD Cert.AssembleRefIdeal.τ).loc Cert.AssembleRefIdeal.main_arg2) = m' ((c.tc : Thread Cert.AssembleRefIdeal.nD Cert.AssembleRefIdeal.τ).loc Cert.AssembleRefIdeal.main_arg2)
          ∧ r.2.mem ((c.tc : Thread Cert.AssembleRefIdeal.nD Cert.AssembleRefIdeal.τ).loc Cert.AssembleRefIdeal.main_arg3) = m' ((c.tc : Thread Cert.AssembleRefIdeal.nD Cert.AssembleRefIdeal.τ).loc Cert.AssembleRefIdeal.main_arg3)
          ∧ r.2.mem ((c.tc : Thread Cert.AssembleRefIdeal.nD Cert.AssembleRefIdeal.τ).loc Cert.AssembleRefIdeal.main_arg4) = m' ((c.tc : Thread Cert.AssembleRefIdeal.nD Cert.AssembleRefIdeal.τ).loc Cert.AssembleRefIdeal.main_arg4)
          ∧ r.2.mem ((c.tc : Thread Cert.AssembleRefIdeal.nD Cert.AssembleRefIdeal.τ).loc Cert.AssembleRefIdeal.main_arg5) = m' ((c.tc : Thread Cert.AssembleRefIdeal.nD Cert.AssembleRefIdeal.τ).loc Cert.AssembleRefIdeal.main_arg5)
          ∧ r.2.mem ((c.tc : Thread Cert.AssembleRefIdeal.nD Cert.AssembleRefIdeal.τ).loc Cert.AssembleRefIdeal.main_arg6) = m' ((c.tc : Thread Cert.AssembleRefIdeal.nD Cert.AssembleRefIdeal.τ).loc Cert.AssembleRefIdeal.main_arg6)
          ∧ r.2.mem ((c.tc : Thread Cert.AssembleRefIdeal.nD Cert.AssembleRefIdeal.τ).loc Cert.AssembleRefIdeal.main_arg7) = m' ((c.tc : Thread Cert.AssembleRefIdeal.nD Cert.AssembleRefIdeal.τ).loc Cert.AssembleRefIdeal.main_arg7)
          ∧ r.2.mem ((c.tc : Thread Cert.AssembleRefIdeal.nD Cert.AssembleRefIdeal.τ).loc Cert.AssembleRefIdeal.main_arg8) = m' ((c.tc : Thread Cert.AssembleRefIdeal.nD Cert.AssembleRefIdeal.τ).loc Cert.AssembleRefIdeal.main_arg8)
          ∧ r.2.mem ((c.tc : Thread Cert.AssembleRefIdeal.nD Cert.AssembleRefIdeal.τ).loc Cert.AssembleRefIdeal.main_arg9) = m' ((c.tc : Thread Cert.AssembleRefIdeal.nD Cert.AssembleRefIdeal.τ).loc Cert.AssembleRefIdeal.main_arg9)
          ∧ r.2.mem ((c.tc : Thread Cert.AssembleRefIdeal.nD Cert.AssembleRefIdeal.τ).loc Cert.AssembleRefIdeal.main_arg10) = m' ((c.tc : Thread Cert.AssembleRefIdeal.nD Cert.AssembleRefIdeal.τ).loc Cert.AssembleRefIdeal.main_arg10)
          ∧ r.2.mem ((c.tc : Thread Cert.AssembleRefIdeal.nD Cert.AssembleRefIdeal.τ).loc Cert.AssembleRefIdeal.main_arg11) = m' ((c.tc : Thread Cert.AssembleRefIdeal.nD Cert.AssembleRefIdeal.τ).loc Cert.AssembleRefIdeal.main_arg11)
          ∧ r.2.mem ((c.tc : Thread Cert.AssembleRefIdeal.nD Cert.AssembleRefIdeal.τ).loc Cert.AssembleRefIdeal.main_arg12) = m' ((c.tc : Thread Cert.AssembleRefIdeal.nD Cert.AssembleRefIdeal.τ).loc Cert.AssembleRefIdeal.main_arg12)
          ∧ r.2.mem ((c.tc : Thread Cert.AssembleRefIdeal.nD Cert.AssembleRefIdeal.τ).loc Cert.AssembleRefIdeal.main_arg13) = m' ((c.tc : Thread Cert.AssembleRefIdeal.nD Cert.AssembleRefIdeal.τ).loc Cert.AssembleRefIdeal.main_arg13)
          ∧ r.2.mem ((c.tc : Thread Cert.AssembleRefIdeal.nD Cert.AssembleRefIdeal.τ).loc Cert.AssembleRefIdeal.main_arg14) = m' ((c.tc : Thread Cert.AssembleRefIdeal.nD Cert.AssembleRefIdeal.τ).loc Cert.AssembleRefIdeal.main_arg14)
          ∧ r.2.mem ((c.tc : Thread Cert.AssembleRefIdeal.nD Cert.AssembleRefIdeal.τ).loc Cert.AssembleRefIdeal.main_arg15) = m' ((c.tc : Thread Cert.AssembleRefIdeal.nD Cert.AssembleRefIdeal.τ).loc Cert.AssembleRefIdeal.main_arg15))

def preserves_Tail_TailIdeal : Prop :=
  True

def algebraic_TailIdeal_TailRefIdeal_pre_finite5 [hTailIdeal : Cert.TailIdeal.Facts] [hTailRefIdeal : Cert.TailRefIdeal.Facts] [hPre_finite5 : Cert.Pre_finite5.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal_finite5 m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v14_0)) (v1 : (c : Dev Cert.TailIdeal.nD) → Buf (Elt Ideal) ((c.tc : Thread Cert.TailIdeal.nD Cert.TailIdeal.τ).loc Cert.TailIdeal.main_v14_1)) (v2 : (c : Dev Cert.TailIdeal.nD) → Buf (Elt Ideal) ((c.tc : Thread Cert.TailIdeal.nD Cert.TailIdeal.τ).loc Cert.TailIdeal.main_v14_2)) (v3 : (c : Dev Cert.TailIdeal.nD) → Buf (Elt Ideal) ((c.tc : Thread Cert.TailIdeal.nD Cert.TailIdeal.τ).loc Cert.TailIdeal.main_v14_3)) (v4 : (c : Dev Cert.TailIdeal.nD) → Buf (Elt Ideal) ((c.tc : Thread Cert.TailIdeal.nD Cert.TailIdeal.τ).loc Cert.TailIdeal.main_v14_4)) (v5 : (c : Dev Cert.TailIdeal.nD) → Buf (Elt Ideal) ((c.tc : Thread Cert.TailIdeal.nD Cert.TailIdeal.τ).loc Cert.TailIdeal.main_v14_5)) (v6 : (c : Dev Cert.TailIdeal.nD) → Buf (Elt Ideal) ((c.tc : Thread Cert.TailIdeal.nD Cert.TailIdeal.τ).loc Cert.TailIdeal.main_v14_6)) (v7 : (c : Dev Cert.TailIdeal.nD) → Buf (Elt Ideal) ((c.tc : Thread Cert.TailIdeal.nD Cert.TailIdeal.τ).loc Cert.TailIdeal.main_v14_7)) (v8 : (c : Dev Cert.TailIdeal.nD) → Buf (Elt Ideal) ((c.tc : Thread Cert.TailIdeal.nD Cert.TailIdeal.τ).loc Cert.TailIdeal.main_v14_8)) (v9 : (c : Dev Cert.TailIdeal.nD) → Buf (Elt Ideal) ((c.tc : Thread Cert.TailIdeal.nD Cert.TailIdeal.τ).loc Cert.TailIdeal.main_v14_9)) (v10 : (c : Dev Cert.TailIdeal.nD) → Buf (Elt Ideal) ((c.tc : Thread Cert.TailIdeal.nD Cert.TailIdeal.τ).loc Cert.TailIdeal.main_v14_10)) (v11 : (c : Dev Cert.TailIdeal.nD) → Buf (Elt Ideal) ((c.tc : Thread Cert.TailIdeal.nD Cert.TailIdeal.τ).loc Cert.TailIdeal.main_v14_11)) (v12 : (c : Dev Cert.TailIdeal.nD) → Buf (Elt Ideal) ((c.tc : Thread Cert.TailIdeal.nD Cert.TailIdeal.τ).loc Cert.TailIdeal.main_v15)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v14_0) = v0 c
          ∧ r.2.mem ((c.tc : Thread Cert.TailIdeal.nD Cert.TailIdeal.τ).loc Cert.TailIdeal.main_v14_1) = v1 c
          ∧ r.2.mem ((c.tc : Thread Cert.TailIdeal.nD Cert.TailIdeal.τ).loc Cert.TailIdeal.main_v14_2) = v2 c
          ∧ r.2.mem ((c.tc : Thread Cert.TailIdeal.nD Cert.TailIdeal.τ).loc Cert.TailIdeal.main_v14_3) = v3 c
          ∧ r.2.mem ((c.tc : Thread Cert.TailIdeal.nD Cert.TailIdeal.τ).loc Cert.TailIdeal.main_v14_4) = v4 c
          ∧ r.2.mem ((c.tc : Thread Cert.TailIdeal.nD Cert.TailIdeal.τ).loc Cert.TailIdeal.main_v14_5) = v5 c
          ∧ r.2.mem ((c.tc : Thread Cert.TailIdeal.nD Cert.TailIdeal.τ).loc Cert.TailIdeal.main_v14_6) = v6 c
          ∧ r.2.mem ((c.tc : Thread Cert.TailIdeal.nD Cert.TailIdeal.τ).loc Cert.TailIdeal.main_v14_7) = v7 c
          ∧ r.2.mem ((c.tc : Thread Cert.TailIdeal.nD Cert.TailIdeal.τ).loc Cert.TailIdeal.main_v14_8) = v8 c
          ∧ r.2.mem ((c.tc : Thread Cert.TailIdeal.nD Cert.TailIdeal.τ).loc Cert.TailIdeal.main_v14_9) = v9 c
          ∧ r.2.mem ((c.tc : Thread Cert.TailIdeal.nD Cert.TailIdeal.τ).loc Cert.TailIdeal.main_v14_10) = v10 c
          ∧ r.2.mem ((c.tc : Thread Cert.TailIdeal.nD Cert.TailIdeal.τ).loc Cert.TailIdeal.main_v14_11) = v11 c
          ∧ r.2.mem ((c.tc : Thread Cert.TailIdeal.nD Cert.TailIdeal.τ).loc Cert.TailIdeal.main_v15) = v12 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v183) = v0 c
          ∧ r.2.mem ((c.tc : Thread Cert.TailRefIdeal.nD Cert.TailRefIdeal.τ).loc Cert.TailRefIdeal.main_v185) = v1 c
          ∧ r.2.mem ((c.tc : Thread Cert.TailRefIdeal.nD Cert.TailRefIdeal.τ).loc Cert.TailRefIdeal.main_v187) = v2 c
          ∧ r.2.mem ((c.tc : Thread Cert.TailRefIdeal.nD Cert.TailRefIdeal.τ).loc Cert.TailRefIdeal.main_v189) = v3 c
          ∧ r.2.mem ((c.tc : Thread Cert.TailRefIdeal.nD Cert.TailRefIdeal.τ).loc Cert.TailRefIdeal.main_v191) = v4 c
          ∧ r.2.mem ((c.tc : Thread Cert.TailRefIdeal.nD Cert.TailRefIdeal.τ).loc Cert.TailRefIdeal.main_v193) = v5 c
          ∧ r.2.mem ((c.tc : Thread Cert.TailRefIdeal.nD Cert.TailRefIdeal.τ).loc Cert.TailRefIdeal.main_v182) = v6 c
          ∧ r.2.mem ((c.tc : Thread Cert.TailRefIdeal.nD Cert.TailRefIdeal.τ).loc Cert.TailRefIdeal.main_v195) = v7 c
          ∧ r.2.mem ((c.tc : Thread Cert.TailRefIdeal.nD Cert.TailRefIdeal.τ).loc Cert.TailRefIdeal.main_v201) = v8 c
          ∧ r.2.mem ((c.tc : Thread Cert.TailRefIdeal.nD Cert.TailRefIdeal.τ).loc Cert.TailRefIdeal.main_v98) = v9 c
          ∧ r.2.mem ((c.tc : Thread Cert.TailRefIdeal.nD Cert.TailRefIdeal.τ).loc Cert.TailRefIdeal.main_v120) = v10 c
          ∧ r.2.mem ((c.tc : Thread Cert.TailRefIdeal.nD Cert.TailRefIdeal.τ).loc Cert.TailRefIdeal.main_v148) = v11 c
          ∧ r.2.mem ((c.tc : Thread Cert.TailRefIdeal.nD Cert.TailRefIdeal.τ).loc Cert.TailRefIdeal.main_v85) = v12 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10))

def preserves_RetBwd_RetBwdIdeal : Prop :=
  True

def preserves_RetStates_RetStatesIdeal : Prop :=
  True

def preserves_AttnFwd_AttnFwdIdeal : Prop :=
  IdealRules.named_const.Statement Cert.AttnFwdIdeal.κ "log2e" .f32 0x3FB8AA3B#32 (((Real.log 2)⁻¹ : ℝ) : EReal)

def algebraic_AttnFwdIdeal_AttnFwdRefIdeal_pre_finite6 [hAttnFwdIdeal : Cert.AttnFwdIdeal.Facts] [hAttnFwdRefIdeal : Cert.AttnFwdRefIdeal.Facts] [hPre_finite6 : Cert.Pre_finite6.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite6 m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v13_0)) (v1 : (c : Dev Cert.AttnFwdIdeal.nD) → Buf (Elt Ideal) ((c.tc : Thread Cert.AttnFwdIdeal.nD Cert.AttnFwdIdeal.τ).loc Cert.AttnFwdIdeal.main_v13_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v13_0) = v0 c
          ∧ r.2.mem ((c.tc : Thread Cert.AttnFwdIdeal.nD Cert.AttnFwdIdeal.τ).loc Cert.AttnFwdIdeal.main_v13_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_v24) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def Claim : Prop :=
  ∃ (hInProjDx : Cert.InProjDx.Facts) (hInProjDxIdeal : Cert.InProjDxIdeal.Facts) (hInProjDxRefIdeal : Cert.InProjDxRefIdeal.Facts) (hAttnBwd : Cert.AttnBwd.Facts) (hAttnBwdIdeal : Cert.AttnBwdIdeal.Facts) (hAttnBwdRefIdeal : Cert.AttnBwdRefIdeal.Facts) (hAssemble : Cert.Assemble.Facts) (hAssembleIdeal : Cert.AssembleIdeal.Facts) (hAssembleRefIdeal : Cert.AssembleRefIdeal.Facts) (hTail : Cert.Tail.Facts) (hTailIdeal : Cert.TailIdeal.Facts) (hTailRefIdeal : Cert.TailRefIdeal.Facts) (hRetBwd : Cert.RetBwd.Facts) (hRetBwdIdeal : Cert.RetBwdIdeal.Facts) (hRetStates : Cert.RetStates.Facts) (hRetStatesIdeal : Cert.RetStatesIdeal.Facts) (hAttnFwd : Cert.AttnFwd.Facts) (hAttnFwdIdeal : Cert.AttnFwdIdeal.Facts) (hAttnFwdRefIdeal : Cert.AttnFwdRefIdeal.Facts) (hPre_finite1 : Cert.Pre_finite1.Facts) (hPre_finite4 : Cert.Pre_finite4.Facts) (hPre_finite2 : Cert.Pre_finite2.Facts) (hPre_finite5 : Cert.Pre_finite5.Facts) (hPre_finite6 : Cert.Pre_finite6.Facts),
    quiescent_InProjDx (hInProjDx := hInProjDx)
    ∧ quiescent_InProjDxIdeal (hInProjDxIdeal := hInProjDxIdeal)
    ∧ quiescent_InProjDxIdeal_pre_finite1 (hInProjDxIdeal := hInProjDxIdeal) (hPre_finite1 := hPre_finite1)
    ∧ quiescent_InProjDxRefIdeal (hInProjDxRefIdeal := hInProjDxRefIdeal)
    ∧ quiescent_InProjDxRefIdeal_pre_finite1 (hInProjDxRefIdeal := hInProjDxRefIdeal) (hPre_finite1 := hPre_finite1)
    ∧ quiescent_AttnBwd (hAttnBwd := hAttnBwd)
    ∧ quiescent_AttnBwdIdeal (hAttnBwdIdeal := hAttnBwdIdeal)
    ∧ quiescent_AttnBwdIdeal_pre_finite4 (hAttnBwdIdeal := hAttnBwdIdeal) (hPre_finite4 := hPre_finite4)
    ∧ quiescent_AttnBwdRefIdeal (hAttnBwdRefIdeal := hAttnBwdRefIdeal)
    ∧ quiescent_AttnBwdRefIdeal_pre_finite4 (hAttnBwdRefIdeal := hAttnBwdRefIdeal) (hPre_finite4 := hPre_finite4)
    ∧ quiescent_Assemble (hAssemble := hAssemble)
    ∧ quiescent_AssembleIdeal (hAssembleIdeal := hAssembleIdeal)
    ∧ quiescent_AssembleIdeal_pre_finite2 (hAssembleIdeal := hAssembleIdeal) (hPre_finite2 := hPre_finite2)
    ∧ quiescent_AssembleRefIdeal (hAssembleRefIdeal := hAssembleRefIdeal)
    ∧ quiescent_AssembleRefIdeal_pre_finite2 (hAssembleRefIdeal := hAssembleRefIdeal) (hPre_finite2 := hPre_finite2)
    ∧ quiescent_Tail (hTail := hTail)
    ∧ quiescent_TailIdeal (hTailIdeal := hTailIdeal)
    ∧ quiescent_TailIdeal_pre_finite5 (hTailIdeal := hTailIdeal) (hPre_finite5 := hPre_finite5)
    ∧ quiescent_TailRefIdeal (hTailRefIdeal := hTailRefIdeal)
    ∧ quiescent_TailRefIdeal_pre_finite5 (hTailRefIdeal := hTailRefIdeal) (hPre_finite5 := hPre_finite5)
    ∧ quiescent_RetBwd (hRetBwd := hRetBwd)
    ∧ quiescent_RetBwdIdeal (hRetBwdIdeal := hRetBwdIdeal)
    ∧ quiescent_RetStates (hRetStates := hRetStates)
    ∧ quiescent_RetStatesIdeal (hRetStatesIdeal := hRetStatesIdeal)
    ∧ quiescent_AttnFwd (hAttnFwd := hAttnFwd)
    ∧ quiescent_AttnFwdIdeal (hAttnFwdIdeal := hAttnFwdIdeal)
    ∧ quiescent_AttnFwdIdeal_pre_finite6 (hAttnFwdIdeal := hAttnFwdIdeal) (hPre_finite6 := hPre_finite6)
    ∧ quiescent_AttnFwdRefIdeal (hAttnFwdRefIdeal := hAttnFwdRefIdeal)
    ∧ quiescent_AttnFwdRefIdeal_pre_finite6 (hAttnFwdRefIdeal := hAttnFwdRefIdeal) (hPre_finite6 := hPre_finite6)
    ∧ preserves_InProjDx_InProjDxIdeal
    ∧ algebraic_InProjDxIdeal_InProjDxRefIdeal_pre_finite1 (hInProjDxIdeal := hInProjDxIdeal) (hInProjDxRefIdeal := hInProjDxRefIdeal) (hPre_finite1 := hPre_finite1)
    ∧ preserves_AttnBwd_AttnBwdIdeal
    ∧ algebraic_AttnBwdIdeal_AttnBwdRefIdeal_pre_finite4 (hAttnBwdIdeal := hAttnBwdIdeal) (hAttnBwdRefIdeal := hAttnBwdRefIdeal) (hPre_finite4 := hPre_finite4)
    ∧ preserves_Assemble_AssembleIdeal
    ∧ algebraic_AssembleIdeal_AssembleRefIdeal_pre_finite2 (hAssembleIdeal := hAssembleIdeal) (hAssembleRefIdeal := hAssembleRefIdeal) (hPre_finite2 := hPre_finite2)
    ∧ preserves_Tail_TailIdeal
    ∧ algebraic_TailIdeal_TailRefIdeal_pre_finite5 (hTailIdeal := hTailIdeal) (hTailRefIdeal := hTailRefIdeal) (hPre_finite5 := hPre_finite5)
    ∧ preserves_RetBwd_RetBwdIdeal
    ∧ preserves_RetStates_RetStatesIdeal
    ∧ preserves_AttnFwd_AttnFwdIdeal
    ∧ algebraic_AttnFwdIdeal_AttnFwdRefIdeal_pre_finite6 (hAttnFwdIdeal := hAttnFwdIdeal) (hAttnFwdRefIdeal := hAttnFwdRefIdeal) (hPre_finite6 := hPre_finite6)
-- ==== Pre_finite1.lean ====
abbrev S1x4096x1024 : Shape := ⟨3, ![1, 4096, 1024]⟩
abbrev S1x4096x4864 : Shape := ⟨3, ![1, 4096, 4864]⟩
abbrev S1x1024x4864 : Shape := ⟨3, ![1, 1024, 4864]⟩
abbrev S1x3072 : Shape := ⟨2, ![1, 3072]⟩
abbrev S1x1024 : Shape := ⟨2, ![1, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bitsLt_bf16_f32 : FTy.bits .bf16 < FTy.bits .f32
  bcast_S_S1x4096x4864 : S_.BroadcastsInDim S1x4096x4864 (![] : Fin 0 → Fin S1x4096x4864.rank)
  reducesTo_S1x4096x4864_S_d0_1_2 : S1x4096x4864.ReducesTo [0, 1, 2] S_
  bcast_S_S1x1024x4864 : S_.BroadcastsInDim S1x1024x4864 (![] : Fin 0 → Fin S1x1024x4864.rank)
  reducesTo_S1x1024x4864_S_d0_1_2 : S1x1024x4864.ReducesTo [0, 1, 2] S_
  slices_S1x3072_S1x1024_0_1024 : S1x3072.Slices ![0, 1024] S1x1024
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg5 : FVec F S1x1024 .f32) (main_v14 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v14 main_v19
  let main_v21 : FVec F S1x1024 .f32 := Host.absf main_arg5
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S1x4096x1024 .f32) (main_arg1 : FVec F S1x4096x4864 .bf16) (main_arg2 : FVec F S1x1024x4864 .f32) (main_arg3 : FVec F S1x4096x1024 .f32) (main_arg4 : FVec F S1x3072 .f32) (main_arg5 : FVec F S1x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x4864 .f32 := (extf .f32 · bitsLt_bf16_f32) main_arg1
  let main_v5 : FVec F S1x4096x4864 .f32 := Host.absf main_v4
  let main_cst_0 : FVec F S_ .f32 := constant S_ .f32 0x7F800000#32
  let main_v6 : FVec F S1x4096x4864 .f32 := broadcastInDim S1x4096x4864 ![] bcast_S_S1x4096x4864 main_cst_0
  let main_v7 : IVec S1x4096x4864 1 := cmpf .olt main_v5 main_v6
  let main_c_1 : IVec S_ 1 := constantI S_ 1 1#1
  let main_v8 : IVec S_ 1 := (fun x v => Host.reduce IntOp.andi x v reducesTo_S1x4096x4864_S_d0_1_2 h_S_) main_v7 main_c_1
  let main_v9 : IVec S_ 1 := andi main_v3 main_v8
  let main_v10 : FVec F S1x1024x4864 .f32 := Host.absf main_arg2
  let main_cst_2 : FVec F S_ .f32 := constant S_ .f32 0x7F800000#32
  let main_v11 : FVec F S1x1024x4864 .f32 := broadcastInDim S1x1024x4864 ![] bcast_S_S1x1024x4864 main_cst_2
  let main_v12 : IVec S1x1024x4864 1 := cmpf .olt main_v10 main_v11
  let main_c_3 : IVec S_ 1 := constantI S_ 1 1#1
  let main_v13 : IVec S_ 1 := (fun x v => Host.reduce IntOp.andi x v reducesTo_S1x1024x4864_S_d0_1_2 h_S_) main_v12 main_c_3
  let main_v14 : IVec S_ 1 := andi main_v9 main_v13
  let main_v15 : FVec F S1x1024 .f32 := (extractStridedSlice S1x1024 ![0, 1024] · slices_S1x3072_S1x1024_0_1024) main_arg4
  let main_v16 : FVec F S1x1024 .f32 := Host.absf main_v15
  let main_cst_4 : FVec F S_ .f32 := constant S_ .f32 0x7F800000#32
  fn_part1 (F := F) main_arg5 main_v14 main_v16 main_cst_4
-- ==== Pre_finite2.lean ====
abbrev S1x4096x4864 : Shape := ⟨3, ![1, 4096, 4864]⟩
abbrev S4096x16 : Shape := ⟨2, ![4096, 16]⟩
abbrev S1x64 : Shape := ⟨2, ![1, 64]⟩
abbrev S1x4096x8x64 : Shape := ⟨4, ![1, 4096, 8, 64]⟩
abbrev S2x4096x128 : Shape := ⟨3, ![2, 4096, 128]⟩
abbrev S1x4096x512 : Shape := ⟨3, ![1, 4096, 512]⟩
abbrev S1x4096x4x64 : Shape := ⟨4, ![1, 4096, 4, 64]⟩
abbrev S1x4096x4x128 : Shape := ⟨4, ![1, 4096, 4, 128]⟩
abbrev S1x4096x2048 : Shape := ⟨3, ![1, 4096, 2048]⟩
abbrev S_ : Shape := ⟨0, ![]⟩

class Facts : Prop where
  bcast_S_S1x4096x4864 : S_.BroadcastsInDim S1x4096x4864 (![] : Fin 0 → Fin S1x4096x4864.rank)
  reducesTo_S1x4096x4864_S_d0_1_2 : S1x4096x4864.ReducesTo [0, 1, 2] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S1x64 : S_.BroadcastsInDim S1x64 (![] : Fin 0 → Fin S1x64.rank)
  reducesTo_S1x64_S_d0_1 : S1x64.ReducesTo [0, 1] S_
  bcast_S_S1x4096x8x64 : S_.BroadcastsInDim S1x4096x8x64 (![] : Fin 0 → Fin S1x4096x8x64.rank)
  reducesTo_S1x4096x8x64_S_d0_1_2_3 : S1x4096x8x64.ReducesTo [0, 1, 2, 3] S_
  bcast_S_S2x4096x128 : S_.BroadcastsInDim S2x4096x128 (![] : Fin 0 → Fin S2x4096x128.rank)
  reducesTo_S2x4096x128_S_d0_1_2 : S2x4096x128.ReducesTo [0, 1, 2] S_

variable [Facts]

def fn_part2 {F : FTy → Type} [FloatOps F] (main_arg7 : FVec F S1x4096x8x64 .f32) (main_arg8 : FVec F S2x4096x128 .f32) (main_v33 : IVec S_ 1) : IVec S_ 1 :=
  let main_v34 : FVec F S1x4096x8x64 .f32 := Host.absf main_arg7
  let main_cst_12 : FVec F S_ .f32 := constant S_ .f32 0x7F800000#32
  let main_v35 : FVec F S1x4096x8x64 .f32 := broadcastInDim S1x4096x8x64 ![] bcast_S_S1x4096x8x64 main_cst_12
  let main_v36 : IVec S1x4096x8x64 1 := cmpf .olt main_v34 main_v35
  let main_c_13 : IVec S_ 1 := constantI S_ 1 1#1
  let main_v37 : IVec S_ 1 := (fun x v => Host.reduce IntOp.andi x v reducesTo_S1x4096x8x64_S_d0_1_2_3 h_S_) main_v36 main_c_13
  let main_v38 : IVec S_ 1 := andi main_v33 main_v37
  let main_v39 : FVec F S2x4096x128 .f32 := Host.absf main_arg8
  let main_cst_14 : FVec F S_ .f32 := constant S_ .f32 0x7F800000#32
  let main_v40 : FVec F S2x4096x128 .f32 := broadcastInDim S2x4096x128 ![] bcast_S_S2x4096x128 main_cst_14
  let main_v41 : IVec S2x4096x128 1 := cmpf .olt main_v39 main_v40
  let main_c_15 : IVec S_ 1 := constantI S_ 1 1#1
  let main_v42 : IVec S_ 1 := (fun x v => Host.reduce IntOp.andi x v reducesTo_S2x4096x128_S_d0_1_2 h_S_) main_v41 main_c_15
  let main_v43 : IVec S_ 1 := andi main_v38 main_v42
  main_v43

def fn_part1 {F : FTy → Type} [FloatOps F] (main_arg4 : FVec F S4096x16 .f32) (main_arg5 : FVec F S1x64 .f32) (main_arg6 : FVec F S1x64 .f32) (main_arg7 : FVec F S1x4096x8x64 .f32) (main_arg8 : FVec F S2x4096x128 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_v33

def fn {F : FTy → Type} [FloatOps F] (main_arg0 : FVec F S1x4096x4864 .f32) (main_arg1 : FVec F S4096x16 .f32) (main_arg2 : FVec F S4096x16 .f32) (main_arg3 : FVec F S4096x16 .f32) (main_arg4 : FVec F S4096x16 .f32) (main_arg5 : FVec F S1x64 .f32) (main_arg6 : FVec F S1x64 .f32) (main_arg7 : FVec F S1x4096x8x64 .f32) (main_arg8 : FVec F S2x4096x128 .f32) (main_arg9 : FVec F S2x4096x128 .f32) (main_arg10 : FVec F S1x4096x512 .f32) (main_arg11 : FVec F S1x4096x4x64 .f32) (main_arg12 : FVec F S1x4096x4x64 .f32) (main_arg13 : FVec F S1x4096x4x128 .f32) (main_arg14 : FVec F S1x4096x512 .f32) (main_arg15 : FVec F S1x4096x2048 .f32) : IVec S_ 1 :=
  let main_v0 : FVec F S1x4096x4864 .f32 := Host.absf main_arg0
  let main_cst : FVec F S_ .f32 := constant S_ .f32 0x7F800000#32
  let main_v1 : FVec F S1x4096x4864 .f32 := broadcastInDim S1x4096x4864 ![] bcast_S_S1x4096x4864 main_cst
  let main_v2 : IVec S1x4096x4864 1 := cmpf .olt main_v0 main_v1
  let main_c : IVec S_ 1 := constantI S_ 1 1#1
  let main_v3 : IVec S_ 1 := (fun x v => Host.reduce IntOp.andi x v reducesTo_S1x4096x4864_S_d0_1_2 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_arg6 main_arg7 main_arg8 main_v13 main_v16
-- ==== Pre_finite4.lean ====
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S_ : Shape := ⟨0, ![]⟩

class Facts : Prop where
  bcast_S_S1x4096x8x64 : S_.BroadcastsInDim S1x4096x8x64 (![] : Fin 0 → Fin S1x4096x8x64.rank)
  reducesTo_S1x4096x8x64_S_d0_1_2_3 : S1x4096x8x64.ReducesTo [0, 1, 2, 3] S_
  h_S_ : 0 < S_.numel
  bcast_S_S1x4096x2x64 : S_.BroadcastsInDim S1x4096x2x64 (![] : Fin 0 → Fin S1x4096x2x64.rank)
  reducesTo_S1x4096x2x64_S_d0_1_2_3 : S1x4096x2x64.ReducesTo [0, 1, 2, 3] S_
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn_part1 {F : FTy → Type} [FloatOps F] (main_v13 : IVec S_ 1) (main_v16 : IVec S1x4096x512 1) : IVec S_ 1 :=
  let main_c_5 : IVec S_ 1 := constantI S_ 1 1#1
  let main_v17 : IVec S_ 1 := (fun x v => Host.reduce IntOp.andi x v reducesTo_S1x4096x512_S_d0_1_2 h_S_) main_v16 main_c_5
  let main_v18 : IVec S_ 1 := andi main_v13 main_v17
  main_v18

def fn {F : FTy → Type} [FloatOps F] (main_arg0 : FVec F S1x4096x8x64 .f32) (main_arg1 : FVec F S1x4096x2x64 .f32) (main_arg2 : FVec F S1x4096x2x64 .f32) (main_arg3 : FVec F S1x4096x512 .f32) : IVec S_ 1 :=
  let main_v0 : FVec F S1x4096x8x64 .f32 := Host.absf main_arg0
  let main_cst : FVec F S_ .f32 := constant S_ .f32 0x7F800000#32
  let main_v1 : FVec F S1x4096x8x64 .f32 := broadcastInDim S1x4096x8x64 ![] bcast_S_S1x4096x8x64 main_cst
  let main_v2 : IVec S1x4096x8x64 1 := cmpf .olt main_v0 main_v1
  let main_c : IVec S_ 1 := constantI S_ 1 1#1
  let main_v3 : IVec S_ 1 := (fun x v => Host.reduce IntOp.andi x v reducesTo_S1x4096x8x64_S_d0_1_2_3 h_S_) main_v2 main_c
  let main_v4 : FVec F S1x4096x2x64 .f32 := Host.absf main_arg1
  let main_cst_0 : FVec F S_ .f32 := constant S_ .f32 0x7F800000#32
  let main_v5 : FVec F S1x4096x2x64 .f32 := broadcastInDim S1x4096x2x64 ![] bcast_S_S1x4096x2x64 main_cst_0
  let main_v6 : IVec S1x4096x2x64 1 := cmpf .olt main_v4 main_v5
  let main_c_1 : IVec S_ 1 := constantI S_ 1 1#1
  let main_v7 : IVec S_ 1 := (fun x v => Host.reduce IntOp.andi x v reducesTo_S1x4096x2x64_S_d0_1_2_3 h_S_) main_v6 main_c_1
  let main_v8 : IVec S_ 1 := andi main_v3 main_v7
  let main_v9 : FVec F S1x4096x2x64 .f32 := Host.absf main_arg2
  let main_cst_2 : FVec F S_ .f32 := constant S_ .f32 0x7F800000#32
  let main_v10 : FVec F S1x4096x2x64 .f32 := broadcastInDim S1x4096x2x64 ![] bcast_S_S1x4096x2x64 main_cst_2
  let main_v11 : IVec S1x4096x2x64 1 := cmpf .olt main_v9 main_v10
  let main_c_3 : IVec S_ 1 := constantI S_ 1 1#1
  let main_v12 : IVec S_ 1 := (fun x v => Host.reduce IntOp.andi x v reducesTo_S1x4096x2x64_S_d0_1_2_3 h_S_) main_v11 main_c_3
  let main_v13 : IVec S_ 1 := andi main_v8 main_v12
  let main_v14 : FVec F S1x4096x512 .f32 := Host.absf main_arg3
  let main_cst_4 : FVec F S_ .f32 := constant S_ .f32 0x7F800000#32
  let main_v15 : FVec F S1x4096x512 .f32 := broadcastInDim S1x4096x512 ![] bcast_S_S1x4096x512 main_cst_4
  let main_v16 : IVec S1x4096x512 1 := cmpf .olt main_v14 main_v15
  fn_part1 (F := F) main_v13 main_v16
-- ==== Pre_finite5.lean ====
abbrev S1x4096x1024 : Shape := ⟨3, ![1, 4096, 1024]⟩
abbrev S1x4096x512 : Shape := ⟨3, ![1, 4096, 512]⟩
abbrev S1x4096x4x128 : Shape := ⟨4, ![1, 4096, 4, 128]⟩
abbrev S1x4096x4864 : Shape := ⟨3, ![1, 4096, 4864]⟩
abbrev S1x3072 : Shape := ⟨2, ![1, 3072]⟩
abbrev S1x1024 : Shape := ⟨2, ![1, 1024]⟩
abbrev S1x512 : Shape := ⟨2, ![1, 512]⟩
abbrev S1x512x1024 : Shape := ⟨3, ![1, 512, 1024]⟩
abbrev S1x1024x1024 : Shape := ⟨3, ![1, 1024, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x4096x512 : S_.BroadcastsInDim S1x4096x512 (![] : Fin 0 → Fin S1x4096x512.rank)
  reducesTo_S1x4096x512_S_d0_1_2 : S1x4096x512.ReducesTo [0, 1, 2] S_
  bcast_S_S1x4096x4x128 : S_.BroadcastsInDim S1x4096x4x128 (![] : Fin 0 → Fin S1x4096x4x128.rank)
  reducesTo_S1x4096x4x128_S_d0_1_2_3 : S1x4096x4x128.ReducesTo [0, 1, 2, 3] S_
  bcast_S_S1x4096x4864 : S_.BroadcastsInDim S1x4096x4864 (![] : Fin 0 → Fin S1x4096x4864.rank)
  reducesTo_S1x4096x4864_S_d0_1_2 : S1x4096x4864.ReducesTo [0, 1, 2] S_
  bcast_S_S1x3072 : S_.BroadcastsInDim S1x3072 (![] : Fin 0 → Fin S1x3072.rank)
  reducesTo_S1x3072_S_d0_1 : S1x3072.ReducesTo [0, 1] S_
  bcast_S_S1x1024 : S_.BroadcastsInDim S1x1024 (![] : Fin 0 → Fin S1x1024.rank)
  reducesTo_S1x1024_S_d0_1 : S1x1024.ReducesTo [0, 1] S_
  bcast_S_S1x512 : S_.BroadcastsInDim S1x512 (![] : Fin 0 → Fin S1x512.rank)
  reducesTo_S1x512_S_d0_1 : S1x512.ReducesTo [0, 1] S_
  bcast_S_S1x512x1024 : S_.BroadcastsInDim S1x512x1024 (![] : Fin 0 → Fin S1x512x1024.rank)
  reducesTo_S1x512x1024_S_d0_1_2 : S1x512x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part3 {F : FTy → Type} [FloatOps F] (main_v48 : IVec S_ 1) (main_v49 : FVec F S1x1024x1024 .f32) (main_v50 : FVec F S1x1024x1024 .f32) : IVec S_ 1 :=
  let main_v51 : IVec S1x1024x1024 1 := cmpf .olt main_v49 main_v50
  let main_c_19 : IVec S_ 1 := constantI S_ 1 1#1
  let main_v52 : IVec S_ 1 := (fun x v => Host.reduce IntOp.andi x v reducesTo_S1x1024x1024_S_d0_1_2 h_S_) main_v51 main_c_19
  let main_v53 : IVec S_ 1 := andi main_v48 main_v52
  main_v53

def fn_part2 {F : FTy → Type} [FloatOps F] (main_arg7 : FVec F S1x512 .f32) (main_arg8 : FVec F S1x512x1024 .f32) (main_arg9 : FVec F S1x512x1024 .f32) (main_arg10 : FVec F S1x1024x1024 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1x512x1024 .f32 := Host.absf main_arg8
  let main_cst_14 : FVec F S_ .f32 := constant S_ .f32 0x7F800000#32
  let main_v40 : FVec F S1x512x1024 .f32 := broadcastInDim S1x512x1024 ![] bcast_S_S1x512x1024 main_cst_14
  let main_v41 : IVec S1x512x1024 1 := cmpf .olt main_v39 main_v40
  let main_c_15 : IVec S_ 1 := constantI S_ 1 1#1
  let main_v42 : IVec S_ 1 := (fun x v => Host.reduce IntOp.andi x v reducesTo_S1x512x1024_S_d0_1_2 h_S_) main_v41 main_c_15
  let main_v43 : IVec S_ 1 := andi main_v38 main_v42
  let main_v44 : FVec F S1x512x1024 .f32 := Host.absf main_arg9
  let main_cst_16 : FVec F S_ .f32 := constant S_ .f32 0x7F800000#32
  let main_v45 : FVec F S1x512x1024 .f32 := broadcastInDim S1x512x1024 ![] bcast_S_S1x512x1024 main_cst_16
  let main_v46 : IVec S1x512x1024 1 := cmpf .olt main_v44 main_v45
  let main_c_17 : IVec S_ 1 := constantI S_ 1 1#1
  let main_v47 : IVec S_ 1 := (fun x v => Host.reduce IntOp.andi x v reducesTo_S1x512x1024_S_d0_1_2 h_S_) main_v46 main_c_17
  let main_v48 : IVec S_ 1 := andi main_v43 main_v47
  let main_v49 : FVec F S1x1024x1024 .f32 := Host.absf main_arg10
  let main_cst_18 : FVec F S_ .f32 := constant S_ .f32 0x7F800000#32
  let main_v50 : FVec F S1x1024x1024 .f32 := broadcastInDim S1x1024x1024 ![] bcast_S_S1x1024x1024 main_cst_18
  fn_part3 (F := F) main_v48 main_v49 main_v50

def fn_part1 {F : FTy → Type} [FloatOps F] (main_arg4 : FVec F S1x4096x4864 .f32) (main_arg5 : FVec F S1x3072 .f32) (main_arg6 : FVec F S1x1024 .f32) (main_arg7 : FVec F S1x512 .f32) (main_arg8 : FVec F S1x512x1024 .f32) (main_arg9 : FVec F S1x512x1024 .f32) (main_arg10 : FVec F S1x1024x1024 .f32) (main_v13 : IVec S_ 1) (main_v16 : IVec S1x4096x4x128 1) : IVec S_ 1 :=
  let main_c_5 : IVec S_ 1 := constantI S_ 1 1#1
  let main_v17 : IVec S_ 1 := (fun x v => Host.reduce IntOp.andi x v reducesTo_S1x4096x4x128_S_d0_1_2_3 h_S_) main_v16 main_c_5
  let main_v18 : IVec S_ 1 := andi main_v13 main_v17
  let main_v19 : FVec F S1x4096x4864 .f32 := Host.absf main_arg4
  let main_cst_6 : FVec F S_ .f32 := constant S_ .f32 0x7F800000#32
  let main_v20 : FVec F S1x4096x4864 .f32 := broadcastInDim S1x4096x4864 ![] bcast_S_S1x4096x4864 main_cst_6
  let main_v21 : IVec S1x4096x4864 1 := cmpf .olt main_v19 main_v20
  let main_c_7 : IVec S_ 1 := constantI S_ 1 1#1
  let main_v22 : IVec S_ 1 := (fun x v => Host.reduce IntOp.andi x v reducesTo_S1x4096x4864_S_d0_1_2 h_S_) main_v21 main_c_7
  let main_v23 : IVec S_ 1 := andi main_v18 main_v22
  let main_v24 : FVec F S1x3072 .f32 := Host.absf main_arg5
  let main_cst_8 : FVec F S_ .f32 := constant S_ .f32 0x7F800000#32
  let main_v25 : FVec F S1x3072 .f32 := broadcastInDim S1x3072 ![] bcast_S_S1x3072 main_cst_8
  let main_v26 : IVec S1x3072 1 := cmpf .olt main_v24 main_v25
  let main_c_9 : IVec S_ 1 := constantI S_ 1 1#1
  let main_v27 : IVec S_ 1 := (fun x v => Host.reduce IntOp.andi x v reducesTo_S1x3072_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1x4096x1024 .f32) (main_arg1 : FVec F S1x4096x1024 .f32) (main_arg2 : FVec F S1x4096x512 .f32) (main_arg3 : FVec F S1x4096x4x128 .f32) (main_arg4 : FVec F S1x4096x4864 .f32) (main_arg5 : FVec F S1x3072 .f32) (main_arg6 : FVec F S1x1024 .f32) (main_arg7 : FVec F S1x512 .f32) (main_arg8 : FVec F S1x512x1024 .f32) (main_arg9 : FVec F S1x512x1024 .f32) (main_arg10 : FVec F S1x1024x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1x4096x512 .f32 := Host.absf main_arg2
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  let main_c_3 : IVec S_ 1 := constantI S_ 1 1#1
  let main_v12 : IVec S_ 1 := (fun x v => Host.reduce IntOp.andi x v reducesTo_S1x4096x512_S_d0_1_2 h_S_) main_v11 main_c_3
  let main_v13 : IVec S_ 1 := andi main_v8 main_v12
  let main_v14 : FVec F S1x4096x4x128 .f32 := Host.absf main_arg3
  let main_cst_4 : FVec F S_ .f32 := constant S_ .f32 0x7F800000#32
  let main_v15 : FVec F S1x4096x4x128 .f32 := broadcastInDim S1x4096x4x128 ![] bcast_S_S1x4096x4x128 main_cst_4
  let main_v16 : IVec S1x4096x4x128 1 := cmpf .olt main_v14 main_v15
  fn_part1 (F := F) main_arg4 main_arg5 main_arg6 main_arg7 main_arg8 main_arg9 main_arg10 main_v13 main_v16
-- ==== Pre_finite6.lean ====
abbrev S1x4096x8x64 : Shape := ⟨4, ![1, 4096, 8, 64]⟩
abbrev S1x4096x2x64 : Shape := ⟨4, ![1, 4096, 2, 64]⟩
abbrev S_ : Shape := ⟨0, ![]⟩

class Facts : Prop where
  bcast_S_S1x4096x8x64 : S_.BroadcastsInDim S1x4096x8x64 (![] : Fin 0 → Fin S1x4096x8x64.rank)
  reducesTo_S1x4096x8x64_S_d0_1_2_3 : S1x4096x8x64.ReducesTo [0, 1, 2, 3] S_
  h_S_ : 0 < S_.numel
  bcast_S_S1x4096x2x64 : S_.BroadcastsInDim S1x4096x2x64 (![] : Fin 0 → Fin S1x4096x2x64.rank)
  reducesTo_S1x4096x2x64_S_d0_1_2_3 : S1x4096x2x64.ReducesTo [0, 1, 2, 3] S_

variable [Facts]

def fn {F : FTy → Type} [FloatOps F] (main_arg0 : FVec F S1x4096x8x64 .f32) (main_arg1 : FVec F S1x4096x2x64 .f32) (main_arg2 : FVec F S1x4096x2x64 .f32) : IVec S_ 1 :=
  let main_v0 : FVec F S1x4096x8x64 .f32 := Host.absf main_arg0
  let main_cst : FVec F S_ .f32 := constant S_ .f32 0x7F800000#32
  let main_v1 : FVec F S1x4096x8x64 .f32 := broadcastInDim S1x4096x8x64 ![] bcast_S_S1x4096x8x64 main_cst
  let main_v2 : IVec S1x4096x8x64 1 := cmpf .olt main_v0 main_v1
  let main_c : IVec S_ 1 := constantI S_ 1 1#1
  let main_v3 : IVec S_ 1 := (fun x v => Host.reduce IntOp.andi x v reducesTo_S1x4096x8x64_S_d0_1_2_3 h_S_) main_v2 main_c
  let main_v4 : FVec F S1x4096x2x64 .f32 := Host.absf main_arg1
  let main_cst_0 : FVec F S_ .f32 := constant S_ .f32 0x7F800000#32
  let main_v5 : FVec F S1x4096x2x64 .f32 := broadcastInDim S1x4096x2x64 ![] bcast_S_S1x4096x2x64 main_cst_0
  let main_v6 : IVec S1x4096x2x64 1 := cmpf .olt main_v4 main_v5
  let main_c_1 : IVec S_ 1 := constantI S_ 1 1#1
  let main_v7 : IVec S_ 1 := (fun x v => Host.reduce IntOp.andi x v reducesTo_S1x4096x2x64_S_d0_1_2_3 h_S_) main_v6 main_c_1
  let main_v8 : IVec S_ 1 := andi main_v3 main_v7
  let main_v9 : FVec F S1x4096x2x64 .f32 := Host.absf main_arg2
  let main_cst_2 : FVec F S_ .f32 := constant S_ .f32 0x7F800000#32
  let main_v10 : FVec F S1x4096x2x64 .f32 := broadcastInDim S1x4096x2x64 ![] bcast_S_S1x4096x2x64 main_cst_2
  let main_v11 : IVec S1x4096x2x64 1 := cmpf .olt main_v9 main_v10
  let main_c_3 : IVec S_ 1 := constantI S_ 1 1#1
  let main_v12 : IVec S_ 1 := (fun x v => Host.reduce IntOp.andi x v reducesTo_S1x4096x2x64_S_d0_1_2_3 h_S_) main_v11 main_c_3
  let main_v13 : IVec S_ 1 := andi main_v8 main_v12
  main_v13
-- ==== InProjDx.lean ====
abbrev S1x4096x1024 : Shape := ⟨3, ![1, 4096, 1024]⟩
abbrev S1x4096x4864 : Shape := ⟨3, ![1, 4096, 4864]⟩
abbrev S1x1024x4864 : Shape := ⟨3, ![1, 1024, 4864]⟩
abbrev S1x3072 : Shape := ⟨2, ![1, 3072]⟩
abbrev S1x1024 : Shape := ⟨2, ![1, 1024]⟩
abbrev S4096x1024 : Shape := ⟨2, ![4096, 1024]⟩
abbrev S4096x4864 : Shape := ⟨2, ![4096, 4864]⟩
abbrev S1024x4864 : Shape := ⟨2, ![1024, 4864]⟩
abbrev S4864x1024 : Shape := ⟨2, ![4864, 1024]⟩
abbrev S512x1024 : Shape := ⟨2, ![512, 1024]⟩
abbrev S512x4864 : Shape := ⟨2, ![512, 4864]⟩
abbrev S512 : Shape := ⟨1, ![512]⟩
abbrev S512x1 : Shape := ⟨2, ![512, 1]⟩
abbrev S1024 : Shape := ⟨1, ![1024]⟩

abbrev nBuf : Space → Nat
  | .hbm => 16
  | .vmem => 14
  | .smem => 0
  | _ => 0

abbrev bufTy : (tb : Table) → Fin (tcTables nBuf tb) → BufTy
  | .hbm, ⟨0, _⟩ => ⟨S1x4096x1024, .f32⟩
  | .hbm, ⟨1, _⟩ => ⟨S1x4096x4864, .bf16⟩
  | .hbm, ⟨2, _⟩ => ⟨S1x1024x4864, .f32⟩
  | .hbm, ⟨3, _⟩ => ⟨S1x4096x1024, .f32⟩
  | .hbm, ⟨4, _⟩ => ⟨S1x3072, .f32⟩
  | .hbm, ⟨5, _⟩ => ⟨S1x1024, .f32⟩
  | .hbm, ⟨6, _⟩ => ⟨S4096x1024, .f32⟩
  | .hbm, ⟨7, _⟩ => ⟨S4096x4864, .bf16⟩
  | .hbm, ⟨8, _⟩ => ⟨S1024x4864, .f32⟩
  | .hbm, ⟨9, _⟩ => ⟨S4864x1024, .f32⟩
  | .hbm, ⟨10, _⟩ => ⟨S4864x1024, .bf16⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4864, .bf16⟩
  | .local _ .vmem, ⟨3, _⟩ => ⟨S512x4864, .bf16⟩
  | .local _ .vmem, ⟨4, _⟩ => ⟨S4864x1024, .bf16⟩
  | .local _ .vmem, ⟨5, _⟩ => ⟨S512x1024, .f32⟩
  | .local _ .vmem, ⟨6, _⟩ => ⟨S512x1024, .f32⟩
  | .local _ .vmem, ⟨7, _⟩ => ⟨S1x3072, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4864 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4864x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InProjDxRefIdeal.lean ====
abbrev S1x4096x1024 : Shape := ⟨3, ![1, 4096, 1024]⟩
abbrev S1x4096x4864 : Shape := ⟨3, ![1, 4096, 4864]⟩
abbrev S1x1024x4864 : Shape := ⟨3, ![1, 1024, 4864]⟩
abbrev S1x3072 : Shape := ⟨2, ![1, 3072]⟩
abbrev S1x1024 : Shape := ⟨2, ![1, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x4864 : Shape := ⟨2, ![1024, 4864]⟩
abbrev S4096 : Shape := ⟨1, ![4096]⟩
abbrev S4096x1024 : Shape := ⟨2, ![4096, 1024]⟩

abbrev nBuf : Space → Nat
  | .hbm => 87
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x4864, .bf16⟩
  | .hbm, ⟨2, _⟩ => ⟨S1x1024x4864, .f32⟩
  | .hbm, ⟨3, _⟩ => ⟨S1x4096x1024, .f32⟩
  | .hbm, ⟨4, _⟩ => ⟨S1x3072, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1024, .f32⟩
  | .hbm, ⟨10, _⟩ => ⟨S1x4096x1024, .f32⟩
  | .hbm, ⟨11, _⟩ => ⟨S_, .f32⟩
  | .hbm, ⟨12, _⟩ => ⟨S1x4096, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S1x4096x1, .f32⟩
  | .hbm, ⟨22, _⟩ => ⟨S_, .f32⟩
  | .hbm, ⟨23, _⟩ => ⟨S1x4096x1, .f32⟩
  | .hbm, ⟨24, _⟩ => ⟨S1x4096x1, .f32⟩
  | .hbm, ⟨25, _⟩ => ⟨S1x4096x1024, .f32⟩
  | .hbm, ⟨26, _⟩ => ⟨S1x4096x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1x1x1024, .f32⟩
  | .hbm, ⟨31, _⟩ => ⟨S_, .f32⟩
  | .hbm, ⟨32, _⟩ => ⟨S1x1x1024, .f32⟩
  | .hbm, ⟨33, _⟩ => ⟨S1x1x1024, .f32⟩
  | .hbm, ⟨34, _⟩ => ⟨S1x4096x1024, .f32⟩
  | .hbm, ⟨35, _⟩ => ⟨S1x4096x1024, .f32⟩
  | .hbm, ⟨36, _⟩ => ⟨S1x1x1024, .f32⟩
  | .hbm, ⟨37, _⟩ => ⟨S1x4096x1024, .f32⟩
  | .hbm, ⟨38, _⟩ => ⟨S1x4096x1024, .f32⟩
  | .hbm, ⟨39, _⟩ => ⟨S1024x4864, .f32⟩
  | .hbm, ⟨40, _⟩ => ⟨S1x4096x4864, .f32⟩
  | .hbm, ⟨41, _⟩ => ⟨S1x4096x4864, .f32⟩
  | .hbm, ⟨42, _⟩ => ⟨S1x4096x1024, .f32⟩
  | .hbm, ⟨43, _⟩ => ⟨S_, .f32⟩
  | .hbm, ⟨44, _⟩ => ⟨S1x1024, .f32⟩
  | .hbm, ⟨45, _⟩ => ⟨S1x1x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S1x4096x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S1x4096x1024, .f32⟩
  | .hbm, ⟨54, _⟩ => ⟨S1x4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S1x4096x1024, .f32⟩
  | .hbm, ⟨59, _⟩ => ⟨S_, .f32⟩
  | .hbm, ⟨60, _⟩ => ⟨S1x1024, .f32⟩
  | .hbm, ⟨61, _⟩ => ⟨S1x1x1024, .f32⟩
  | .hbm, ⟨62, _⟩ => ⟨S1x4096x1024, .f32⟩
  | .hbm, ⟨63, _⟩ => ⟨S1x4096x1024, .f32⟩
  | .hbm, ⟨64, _⟩ => ⟨S_, .f32⟩
  | .hbm, ⟨65, _⟩ => ⟨S1024, .f32⟩
  | .hbm, ⟨66, _⟩ => ⟨S1x4096x1024, .f32⟩
  | .hbm, ⟨67, _⟩ => ⟨S_, .f32⟩
  | .hbm, ⟨68, _⟩ => ⟨S1x4096, .f32⟩
  | .hbm, ⟨69, _⟩ => ⟨S1x4096x1, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1, .f32⟩
  | .hbm, ⟨74, _⟩ => ⟨S_, .f32⟩
  | .hbm, ⟨75, _⟩ => ⟨S1x4096x1, .f32⟩
  | .hbm, ⟨76, _⟩ => ⟨S1x4096x1, .f32⟩
  | .hbm, ⟨77, _⟩ => ⟨S_, .f32⟩
  | .hbm, ⟨78, _⟩ => ⟨S4096, .f32⟩
  | .hbm, ⟨79, _⟩ => ⟨S1x4096, .f32⟩
  | .hbm, ⟨80, _⟩ => ⟨S1x4096x1024, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S1x1024, .f32⟩
  | .hbm, ⟨86, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== AttnBwd.lean ====
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S_ : Shape := ⟨0, ![]⟩
abbrev S4096x512 : Shape := ⟨2, ![4096, 512]⟩
abbrev S4096x2x64 : Shape := ⟨3, ![4096, 2, 64]⟩
abbrev S4096x2x128 : Shape := ⟨3, ![4096, 2, 128]⟩
abbrev S2x4096x128 : Shape := ⟨3, ![2, 4096, 128]⟩
abbrev S4096x2x4x64 : Shape := ⟨4, ![4096, 2, 4, 64]⟩
abbrev S2x4096x64 : Shape := ⟨3, ![2, 4096, 64]⟩
abbrev S2x4096x4096x4 : Shape := ⟨4, ![2, 4096, 4096, 4]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S8x4096 : Shape := ⟨2, ![8, 4096]⟩
abbrev S2x4x4096x64 : Shape := ⟨4, ![2, 4, 4096, 64]⟩
abbrev S1024x256 : Shape := ⟨2, ![1024, 256]⟩
abbrev S1x4096x128 : Shape := ⟨3, ![1, 4096, 128]⟩
abbrev S8x1024 : Shape := ⟨2, ![8, 1024]⟩
abbrev S4096x128 : Shape := ⟨2, ![4096, 128]⟩
abbrev S1024x128 : Shape := ⟨2, ![1024, 128]⟩
abbrev S1x1024x128 : Shape := ⟨3, ![1, 1024, 128]⟩
abbrev S2048x128 : Shape := ⟨2, ![2048, 128]⟩
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 62
  | .vmem => 18
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x2x64, .f32⟩
  | .hbm, ⟨2, _⟩ => ⟨S1x4096x2x64, .f32⟩
  | .hbm, ⟨3, _⟩ => ⟨S1x4096x512, .f32⟩
  | .hbm, ⟨4, _⟩ => ⟨S_, .f32⟩
  | .hbm, ⟨5, _⟩ => ⟨S_, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .bf16⟩
  | .hbm, ⟨10, _⟩ => ⟨S4096x2x64, .f32⟩
  | .hbm, ⟨11, _⟩ => ⟨S4096x2x128, .f32⟩
  | .hbm, ⟨12, _⟩ => ⟨S4096x2x128, .bf16⟩
  | .hbm, ⟨13, _⟩ => ⟨S2x4096x128, .bf16⟩
  | .hbm, ⟨14, _⟩ => ⟨S4096x2x64, .f32⟩
  | .hbm, ⟨15, _⟩ => ⟨S4096x2x128, .f32⟩
  | .hbm, ⟨16, _⟩ => ⟨S4096x2x128, .bf16⟩
  | .hbm, ⟨17, _⟩ => ⟨S2x4096x128, .bf16⟩
  | .hbm, ⟨18, _⟩ => ⟨S4096x512, .f32⟩
  | .hbm, ⟨19, _⟩ => ⟨S4096x512, .f32⟩
  | .hbm, ⟨20, _⟩ => ⟨S4096x2x4x64, .f32⟩
  | .hbm, ⟨21, _⟩ => ⟨S2x4096x64, .bf16⟩
  | .hbm, ⟨22, _⟩ => ⟨S2x4096x64, .f32⟩
  | .hbm, ⟨23, _⟩ => ⟨S2x4096x4096x4, .f32⟩
  | .hbm, ⟨24, _⟩ => ⟨S2x4x4096x4096, .f32⟩
  | .hbm, ⟨25, _⟩ => ⟨S_, .f32⟩
  | .hbm, ⟨26, _⟩ => ⟨S2x4x4096, .f32⟩
  | .hbm, ⟨27, _⟩ => ⟨S2x4x4096x1, .f32⟩
  | .hbm, ⟨28, _⟩ => ⟨S2x4x4096x4096, .f32⟩
  | .hbm, ⟨29, _⟩ => ⟨S2x4x4096x4096, .f32⟩
  | .hbm, ⟨30, _⟩ => ⟨S2x4x4096x4096, .f32⟩
  | .hbm, ⟨31, _⟩ => ⟨S2x4x4096x4096, .f32⟩
  | .hbm, ⟨32, _⟩ => ⟨S2x4x4096x4096, .f32⟩
  | .hbm, ⟨33, _⟩ => ⟨S_, .f32⟩
  | .hbm, ⟨34, _⟩ => ⟨S2x4x4096, .f32⟩
  | .hbm, ⟨35, _⟩ => ⟨S2x4x4096, .f32⟩
  | .hbm, ⟨36, _⟩ => ⟨S2x4x4096, .f32⟩
  | .hbm, ⟨37, _⟩ => ⟨S2x4x4096, .f32⟩
  | .hbm, ⟨38, _⟩ => ⟨S2x4x4096, .f32⟩
  | .hbm, ⟨39, _⟩ => ⟨S8x4096, .f32⟩
  | .hbm, ⟨40, _⟩ => ⟨S2x4096x64, .bf16⟩
  | .hbm, ⟨41, _⟩ => ⟨S2x4096x64, .f32⟩
  | .hbm, ⟨42, _⟩ => ⟨S2x4x4096x64, .f32⟩
  | .hbm, ⟨43, _⟩ => ⟨S2x4x4096x1, .f32⟩
  | .hbm, ⟨44, _⟩ => ⟨S2x4x4096x64, .f32⟩
  | .hbm, ⟨45, _⟩ => ⟨S2x4x4096x64, .f32⟩
  | .hbm, ⟨46, _⟩ => ⟨S4096x2x4x64, .f32⟩
  | .hbm, ⟨47, _⟩ => ⟨S2x4x4096x64, .f32⟩
  | .hbm, ⟨48, _⟩ => ⟨S2x4x4096x64, .f32⟩
  | .hbm, ⟨49, _⟩ => ⟨S_, .f32⟩
  | .hbm, ⟨50, _⟩ => ⟨S2x4x4096, .f32⟩
  | .hbm, ⟨51, _⟩ => ⟨S8x4096, .f32⟩
  | .hbm, ⟨52, _⟩ => ⟨S4096x512, .bf16⟩
  | .hbm, ⟨53, _⟩ => ⟨S4096x512, .f32⟩
  | .hbm, ⟨54, _⟩ => ⟨S2x4096x128, .f32⟩
  | .hbm, ⟨55, _⟩ => ⟨S2x4096x128, .f32⟩
  | .hbm, ⟨56, _⟩ => ⟨S2x4096x64, .f32⟩
  | .hbm, ⟨57, _⟩ => ⟨S2x4096x64, .f32⟩
  | .hbm, ⟨58, _⟩ => ⟨S2x4096x64, .f32⟩
  | .hbm, ⟨59, _⟩ => ⟨S2x4096x64, .f32⟩
  | .hbm, ⟨60, _⟩ => ⟨S2x4096x64, .f32⟩
  | .hbm, ⟨61, _⟩ => ⟨S2x4096x64, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S1024x256, .f32⟩
  | .local _ .vmem, ⟨13, _⟩ => ⟨S1024x256, .f32⟩
  | .local _ .vmem, ⟨14, _⟩ => ⟨S1x4096x128, .f32⟩
  | .local _ .vmem, ⟨15, _⟩ => ⟨S1x4096x128, .f32⟩
  | .local _ .vmem, ⟨16, _⟩ => ⟨S1x4096x128, .f32⟩
  | .local _ .vmem, ⟨17, _⟩ => ⟨S1x4096x128, .f32⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45_0 : Ref sig .tc := ⟨.hbm, 53, rfl⟩
abbrev main_v45_1 : Ref sig .tc := ⟨.hbm, 54, rfl⟩
abbrev main_v45_2 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_2 : BitVec 32 := 0#32
  let c4_i32 : BitVec 32 := 4#32
  let v8 : BitVec 32 := Scalar.addi c0_i32_2 c4_i32
  let c1_i32 : BitVec 32 := 1#32
  ⟨c0_i32_2, v8, c1_i32⟩
def k0_mult1 (k0_t1 : Fin k0_t1_loop.trips) : BitVec 32 :=
  let c0_i32_2 : BitVec 32 := 0#32
  let c1_i32 : BitVec 32 := 1#32
  let arg11 : BitVec 32 := Scf.iv c0_i32_2 c1_i32 k0_t1
  let c1024_i32 : BitVec 32 := 1024#32
  let v9 : BitVec 32 := Scalar.muli arg11 c1024_i32
  v9
def k0_off1 (k0_t1 : Fin k0_t1_loop.trips) : Fin 3 → Nat :=
  let c0_4 : Index := 0#32
  let c0_i32_2 : BitVec 32 := 0#32
  let c1_i32 : BitVec 32 := 1#32
  let arg11 : BitVec 32 := Scf.iv c0_i32_2 c1_i32 k0_t1
  let c1024_i32 : BitVec 32 := 1024#32
  let v9 : BitVec 32 := Scalar.muli arg11 c1024_i32
  let v10 : BitVec 32 := v9
  let v11 : Index := Scalar.indexCast v10
  let c0_5 : Index := 0#32
  ![0, v11.toNat, 0]
def k0_off2 (i : grid0.Coords) (c0_i32_19 : BitVec 32) (c0_i32_20 : BitVec 32) : Fin 2 → Nat :=
  let c4_i32_18 : BitVec 32 := 4#32
  let arg0 : BitVec 32 := BitVec.ofNat 32 (i 0).val
  let v37 : BitVec 32 := Scalar.muli c4_i32_18 arg0
  let v38 : BitVec 32 := Scalar.addi v37 c0_i32_19
  let v39 : BitVec 32 := Scalar.addi v38 c0_i32_20
  let v40 : Index := Scalar.indexCast v39
  let c0_21 : Index := 0#32
  ![v40.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnBwdIdeal.lean ====
variable {F : FTy → Type} [FloatOps F] [Named F]
def κ : String → Option EReal := fun
  | "ln2" => some ((Real.log 2 : ℝ) : EReal)
  | _ => none
-- ==== AttnBwdRefIdeal.lean ====
abbrev S1x4096x8x64 : Shape := ⟨4, ![1, 4096, 8, 64]⟩
abbrev S1x4096x2x64 : Shape := ⟨4, ![1, 4096, 2, 64]⟩
abbrev S1x4096x512 : Shape := ⟨3, ![1, 4096, 512]⟩
abbrev S1x4096x2x4x64 : Shape := ⟨5, ![1, 4096, 2, 4, 64]⟩
abbrev S1x2x4096x4096x4 : Shape := ⟨5, ![1, 2, 4096, 4096, 4]⟩
abbrev S1x2x4x4096x4096 : Shape := ⟨5, ![1, 2, 4, 4096, 4096]⟩
abbrev S_ : Shape := ⟨0, ![]⟩
abbrev S1x2x4x4096 : Shape := ⟨4, ![1, 2, 4, 4096]⟩
abbrev S1x2x4x4096x1 : Shape := ⟨5, ![1, 2, 4, 4096, 1]⟩
abbrev S1x2x64x4x4096 : Shape := ⟨5, ![1, 2, 64, 4, 4096]⟩
abbrev S1x2x64x4096 : Shape := ⟨4, ![1, 2, 64, 4096]⟩
abbrev S2x4x4096 : Shape := ⟨3, ![2, 4, 4096]⟩
abbrev S1x2x4096x4x64 : Shape := ⟨5, ![1, 2, 4096, 4, 64]⟩
abbrev S1x2x4096x64 : Shape := ⟨4, ![1, 2, 4096, 64]⟩
abbrev S4096x512 : Shape := ⟨2, ![4096, 512]⟩
abbrev S4096x2x64 : Shape := ⟨3, ![4096, 2, 64]⟩
abbrev S2x4096x64 : Shape := ⟨3, ![2, 4096, 64]⟩

abbrev nBuf : Space → Nat
  | .hbm => 79
  | .vmem => 0
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x2x64, .f32⟩
  | .hbm, ⟨2, _⟩ => ⟨S1x4096x2x64, .f32⟩
  | .hbm, ⟨3, _⟩ => ⟨S1x4096x512, .f32⟩
  | .hbm, ⟨4, _⟩ => ⟨S1x4096x2x4x64, .f32⟩
  | .hbm, ⟨5, _⟩ => ⟨S1x2x4096x4096x4, .f32⟩
  | .hbm, ⟨6, _⟩ => ⟨S1x2x4x4096x4096, .f32⟩
  | .hbm, ⟨7, _⟩ => ⟨S_, .f32⟩
  | .hbm, ⟨8, _⟩ => ⟨S1x2x4x4096, .f32⟩
  | .hbm, ⟨9, _⟩ => ⟨S1x2x4x4096x1, .f32⟩
  | .hbm, ⟨10, _⟩ => ⟨S1x2x4x4096x4096, .f32⟩
  | .hbm, ⟨11, _⟩ => ⟨S1x2x4x4096x4096, .i1⟩
  | .hbm, ⟨12, _⟩ => ⟨S1x2x4x4096x4096, .f32⟩
  | .hbm, ⟨13, _⟩ => ⟨S_, .f32⟩
  | .hbm, ⟨14, _⟩ => ⟨S1x2x4x4096, .f32⟩
  | .hbm, ⟨15, _⟩ => ⟨S_, .f32⟩
  | .hbm, ⟨16, _⟩ => ⟨S1x2x4x4096, .f32⟩
  | .hbm, ⟨17, _⟩ => ⟨S1x2x4x4096, .f32⟩
  | .hbm, ⟨18, _⟩ => ⟨S_, .f32⟩
  | .hbm, ⟨19, _⟩ => ⟨S1x2x4x4096, .f32⟩
  | .hbm, ⟨20, _⟩ => ⟨S1x2x4x4096, .i1⟩
  | .hbm, ⟨21, _⟩ => ⟨S_, .f32⟩
  | .hbm, ⟨22, _⟩ => ⟨S1x2x4x4096, .f32⟩
  | .hbm, ⟨23, _⟩ => ⟨S1x2x4x4096, .i1⟩
  | .hbm, ⟨24, _⟩ => ⟨S_, .f32⟩
  | .hbm, ⟨25, _⟩ => ⟨S1x2x4x4096, .f32⟩
  | .hbm, ⟨26, _⟩ => ⟨S_, .f32⟩
  | .hbm, ⟨27, _⟩ => ⟨S1x2x4x4096, .f32⟩
  | .hbm, ⟨28, _⟩ => ⟨S_, .f32⟩
  | .hbm, ⟨29, _⟩ => ⟨S1x2x4x4096, .f32⟩
  | .hbm, ⟨30, _⟩ => ⟨S1x2x4x4096, .f32⟩
  | .hbm, ⟨31, _⟩ => ⟨S1x2x4x4096, .f32⟩
  | .hbm, ⟨32, _⟩ => ⟨S1x2x4x4096x1, .f32⟩
  | .hbm, ⟨33, _⟩ => ⟨S1x2x4x4096x4096, .f32⟩
  | .hbm, ⟨34, _⟩ => ⟨S1x2x4x4096x4096, .f32⟩
  | .hbm, ⟨35, _⟩ => ⟨S1x2x4x4096x4096, .f32⟩
  | .hbm, ⟨36, _⟩ => ⟨S_, .f32⟩
  | .hbm, ⟨37, _⟩ => ⟨S1x2x4x4096, .f32⟩
  | .hbm, ⟨38, _⟩ => ⟨S1x2x4x4096x1, .f32⟩
  | .hbm, ⟨39, _⟩ => ⟨S1x2x4x4096x4096, .f32⟩
  | .hbm, ⟨40, _⟩ => ⟨S1x2x4x4096x4096, .f32⟩
  | .hbm, ⟨41, _⟩ => ⟨S1x2x4x4096x1, .f32⟩
  | .hbm, ⟨42, _⟩ => ⟨S_, .f32⟩
  | .hbm, ⟨43, _⟩ => ⟨S1x2x4x4096x1, .f32⟩
  | .hbm, ⟨44, _⟩ => ⟨S1x2x4x4096x1, .f32⟩
  | .hbm, ⟨45, _⟩ => ⟨S1x2x64x4x4096, .f32⟩
  | .hbm, ⟨46, _⟩ => ⟨S1x4096x2x4x64, .f32⟩
  | .hbm, ⟨47, _⟩ => ⟨S1x4096x512, .f32⟩
  | .hbm, ⟨48, _⟩ => ⟨S1x4096x2x4x64, .f32⟩
  | .hbm, ⟨49, _⟩ => ⟨S1x2x64x4x4096, .f32⟩
  | .hbm, ⟨50, _⟩ => ⟨S1x2x4x4096x4096, .f32⟩
  | .hbm, ⟨51, _⟩ => ⟨S1x2x64x4096, .f32⟩
  | .hbm, ⟨52, _⟩ => ⟨S1x4096x2x64, .f32⟩
  | .hbm, ⟨53, _⟩ => ⟨S1x2x4x4096x4096, .f32⟩
  | .hbm, ⟨54, _⟩ => ⟨S1x2x4x4096x4096, .f32⟩
  | .hbm, ⟨55, _⟩ => ⟨S1x2x4x4096x4096, .f32⟩
  | .hbm, ⟨56, _⟩ => ⟨S_, .f32⟩
  | .hbm, ⟨57, _⟩ => ⟨S1x2x4x4096, .f32⟩
  | .hbm, ⟨58, _⟩ => ⟨S1x2x4x4096x1, .f32⟩
  | .hbm, ⟨59, _⟩ => ⟨S1x2x4x4096x1, .f32⟩
  | .hbm, ⟨60, _⟩ => ⟨S1x2x4x4096x4096, .f32⟩
  | .hbm, ⟨61, _⟩ => ⟨S1x2x4x4096x4096, .f32⟩
  | .hbm, ⟨62, _⟩ => ⟨S_, .f32⟩
  | .hbm, ⟨63, _⟩ => ⟨S2x4x4096, .f32⟩
  | .hbm, ⟨64, _⟩ => ⟨S1x2x4x4096, .f32⟩
  | .hbm, ⟨65, _⟩ => ⟨S1x2x4x4096x4096, .f32⟩
  | .hbm, ⟨66, _⟩ => ⟨S1x2x4x4096x4096, .f32⟩
  | .hbm, ⟨67, _⟩ => ⟨S1x2x4x4096x4096, .f32⟩
  | .hbm, ⟨68, _⟩ => ⟨S1x2x4096x4096x4, .f32⟩
  | .hbm, ⟨69, _⟩ => ⟨S1x2x4096x4x64, .f32⟩
  | .hbm, ⟨70, _⟩ => ⟨S1x4096x2x4x64, .f32⟩
  | .hbm, ⟨71, _⟩ => ⟨S1x2x4096x64, .f32⟩
  | .hbm, ⟨72, _⟩ => ⟨S1x4096x2x64, .f32⟩
  | .hbm, ⟨73, _⟩ => ⟨S1x4096x8x64, .f32⟩
  | .hbm, ⟨74, _⟩ => ⟨S4096x512, .f32⟩
  | .hbm, ⟨75, _⟩ => ⟨S4096x2x64, .f32⟩
  | .hbm, ⟨76, _⟩ => ⟨S2x4096x64, .f32⟩
  | .hbm, ⟨77, _⟩ => ⟨S4096x2x64, .f32⟩
  | .hbm, ⟨78, _⟩ => ⟨S2x4096x64, .f32⟩
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Assemble.lean ====
abbrev S1x4096x4864 : Shape := ⟨3, ![1, 4096, 4864]⟩
abbrev S4096x16 : Shape := ⟨2, ![4096, 16]⟩
abbrev S1x64 : Shape := ⟨2, ![1, 64]⟩
abbrev S1x4096x8x64 : Shape := ⟨4, ![1, 4096, 8, 64]⟩
abbrev S2x4096x128 : Shape := ⟨3, ![2, 4096, 128]⟩
abbrev S1x4096x512 : Shape := ⟨3, ![1, 4096, 512]⟩
abbrev S1x4096x4x64 : Shape := ⟨4, ![1, 4096, 4, 64]⟩
abbrev S1x4096x4x128 : Shape := ⟨4, ![1, 4096, 4, 128]⟩
abbrev S1x4096x2048 : Shape := ⟨3, ![1, 4096, 2048]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x4096x768 : Shape := ⟨3, ![1, 4096, 768]⟩
abbrev S4096x768 : Shape := ⟨2, ![4096, 768]⟩
abbrev S4096x512 : Shape := ⟨2, ![4096, 512]⟩
abbrev S4096x256 : Shape := ⟨2, ![4096, 256]⟩
abbrev S4096x2048 : Shape := ⟨2, ![4096, 2048]⟩
abbrev S4096x4864 : Shape := ⟨2, ![4096, 4864]⟩
abbrev S512x768 : Shape := ⟨2, ![512, 768]⟩
abbrev S512x128 : Shape := ⟨2, ![512, 128]⟩
abbrev S512x512 : Shape := ⟨2, ![512, 512]⟩
abbrev S2x512x128 : Shape := ⟨3, ![2, 512, 128]⟩
abbrev S512x256 : Shape := ⟨2, ![512, 256]⟩
abbrev S512x2048 : Shape := ⟨2, ![512, 2048]⟩
abbrev S512x4864 : Shape := ⟨2, ![512, 4864]⟩
abbrev S128x128 : Shape := ⟨2, ![128, 128]⟩
abbrev S128 : Shape := ⟨1, ![128]⟩
abbrev S1x512x128 : Shape := ⟨3, ![1, 512, 128]⟩

abbrev nBuf : Space → Nat
  | .hbm => 54
  | .vmem => 30
  | .smem => 0
  | _ => 0

abbrev bufTy : (tb : Table) → Fin (tcTables nBuf tb) → BufTy
  | .hbm, ⟨0, _⟩ => ⟨S1x4096x4864, .f32⟩
  | .hbm, ⟨1, _⟩ => ⟨S4096x16, .f32⟩
  | .hbm, ⟨2, _⟩ => ⟨S4096x16, .f32⟩
  | .hbm, ⟨3, _⟩ => ⟨S4096x16, .f32⟩
  | .hbm, ⟨4, _⟩ => ⟨S4096x16, .f32⟩
  | .hbm, ⟨5, _⟩ => ⟨S1x64, .f32⟩
  | .hbm, ⟨6, _⟩ => ⟨S1x64, .f32⟩
  | .hbm, ⟨7, _⟩ => ⟨S1x4096x8x64, .f32⟩
  | .hbm, ⟨8, _⟩ => ⟨S2x4096x128, .f32⟩
  | .hbm, ⟨9, _⟩ => ⟨S2x4096x128, .f32⟩
  | .hbm, ⟨10, _⟩ => ⟨S1x4096x512, .f32⟩
  | .hbm, ⟨11, _⟩ => ⟨S1x4096x4x64, .f32⟩
  | .hbm, ⟨12, _⟩ => ⟨S1x4096x4x64, .f32⟩
  | .hbm, ⟨13, _⟩ => ⟨S1x4096x4x128, .f32⟩
  | .hbm, ⟨14, _⟩ => ⟨S1x4096x512, .f32⟩
  | .hbm, ⟨15, _⟩ => ⟨S1x4096x2048, .f32⟩
  | .hbm, ⟨16, _⟩ => ⟨S4096x64, .f32⟩
  | .hbm, ⟨17, _⟩ => ⟨S4096x16, .f32⟩
  | .hbm, ⟨18, _⟩ => ⟨S4096x16, .f32⟩
  | .hbm, ⟨19, _⟩ => ⟨S4096x64, .f32⟩
  | .hbm, ⟨20, _⟩ => ⟨S1x4096x1x64, .f32⟩
  | .hbm, ⟨21, _⟩ => ⟨S1x4096x2x64, .f32⟩
  | .hbm, ⟨22, _⟩ => ⟨S4096x128, .f32⟩
  | .hbm, ⟨23, _⟩ => ⟨S1x4096x1x64, .f32⟩
  | .hbm, ⟨24, _⟩ => ⟨S1x4096x2x64, .f32⟩
  | .hbm, ⟨25, _⟩ => ⟨S4096x128, .f32⟩
  | .hbm, ⟨26, _⟩ => ⟨S1x1x1x64, .f32⟩
  | .hbm, ⟨27, _⟩ => ⟨S1x1x2x64, .f32⟩
  | .hbm, ⟨28, _⟩ => ⟨S1x128, .f32⟩
  | .hbm, ⟨29, _⟩ => ⟨S1x1x1x64, .f32⟩
  | .hbm, ⟨30, _⟩ => ⟨S1x1x2x64, .f32⟩
  | .hbm, ⟨31, _⟩ => ⟨S1x128, .f32⟩
  | .hbm, ⟨32, _⟩ => ⟨S1x4096x768, .f32⟩
  | .hbm, ⟨33, _⟩ => ⟨S4096x768, .f32⟩
  | .hbm, ⟨34, _⟩ => ⟨S4096x512, .f32⟩
  | .hbm, ⟨35, _⟩ => ⟨S4096x512, .f32⟩
  | .hbm, ⟨36, _⟩ => ⟨S4096x512, .bf16⟩
  | .hbm, ⟨37, _⟩ => ⟨S4096x256, .f32⟩
  | .hbm, ⟨38, _⟩ => ⟨S4096x256, .f32⟩
  | .hbm, ⟨39, _⟩ => ⟨S4096x512, .f32⟩
  | .hbm, ⟨40, _⟩ => ⟨S4096x512, .bf16⟩
  | .hbm, ⟨41, _⟩ => ⟨S4096x512, .f32⟩
  | .hbm, ⟨42, _⟩ => ⟨S4096x512, .bf16⟩
  | .hbm, ⟨43, _⟩ => ⟨S4096x2048, .f32⟩
  | .hbm, ⟨44, _⟩ => ⟨S4096x2048, .bf16⟩
  | .hbm, ⟨45, _⟩ => ⟨S4096x4864, .bf16⟩
  | .hbm, ⟨46, _⟩ => ⟨S1x128, .f32⟩
  | .hbm, ⟨47, _⟩ => ⟨S1x128, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .local _ .vmem, ⟨0, _⟩ => ⟨S512x768, .f32⟩
  | .local _ .vmem, ⟨1, _⟩ => ⟨S512x768, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S512x512, .f32⟩
  | .local _ .vmem, ⟨9, _⟩ => ⟨S512x512, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S512x512, .bf16⟩
  | .local _ .vmem, ⟨15, _⟩ => ⟨S512x512, .bf16⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x2048, .bf16⟩
  | .local _ .vmem, ⟨25, _⟩ => ⟨S512x2048, .bf16⟩
  | .local _ .vmem, ⟨26, _⟩ => ⟨S512x4864, .bf16⟩
  | .local _ .vmem, ⟨27, _⟩ => ⟨S512x4864, .bf16⟩
  | .local _ .vmem, ⟨28, _⟩ => ⟨S1x128, .f32⟩
  | .local _ .vmem, ⟨29, _⟩ => ⟨S1x128, .f32⟩
  | _, _ => ⟨S1x4096x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4864 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== AssembleRefIdeal.lean ====
abbrev S1x4096x4864 : Shape := ⟨3, ![1, 4096, 4864]⟩
abbrev S4096x16 : Shape := ⟨2, ![4096, 16]⟩
abbrev S1x64 : Shape := ⟨2, ![1, 64]⟩
abbrev S1x4096x8x64 : Shape := ⟨4, ![1, 4096, 8, 64]⟩
abbrev S2x4096x128 : Shape := ⟨3, ![2, 4096, 128]⟩
abbrev S1x4096x512 : Shape := ⟨3, ![1, 4096, 512]⟩
abbrev S1x4096x4x64 : Shape := ⟨4, ![1, 4096, 4, 64]⟩
abbrev S1x4096x4x128 : Shape := ⟨4, ![1, 4096, 4, 128]⟩
abbrev S1x4096x2048 : Shape := ⟨3, ![1, 4096, 2048]⟩
abbrev S2x4096x64 : Shape := ⟨3, ![2, 4096, 64]⟩
abbrev S4096x2x64 : Shape := ⟨3, ![4096, 2, 64]⟩
abbrev S1x4096x2x64 : Shape := ⟨4, ![1, 4096, 2, 64]⟩
abbrev S1x4096x128 : Shape := ⟨3, ![1, 4096, 128]⟩
abbrev S1x4096x256 : Shape := ⟨3, ![1, 4096, 256]⟩
abbrev S64 : Shape := ⟨1, ![64]⟩
abbrev S_ : Shape := ⟨0, ![]⟩
abbrev S1x4096x8 : Shape := ⟨3, ![1, 4096, 8]⟩
abbrev S1x4096x8x1 : Shape := ⟨4, ![1, 4096, 8, 1]⟩
abbrev S1x1x1x64 : Shape := ⟨4, ![1, 1, 1, 64]⟩
abbrev S1x4096x8x32 : Shape := ⟨4, ![1, 4096, 8, 32]⟩
abbrev S1x4096x8x16 : Shape := ⟨4, ![1, 4096, 8, 16]⟩
abbrev S1x4096x1x16 : Shape := ⟨4, ![1, 4096, 1, 16]⟩
abbrev S1x4096x2 : Shape := ⟨3, ![1, 4096, 2]⟩
abbrev S1x4096x2x1 : Shape := ⟨4, ![1, 4096, 2, 1]⟩
abbrev S1x4096x2x32 : Shape := ⟨4, ![1, 4096, 2, 32]⟩
abbrev S1x4096x2x16 : Shape := ⟨4, ![1, 4096, 2, 16]⟩
abbrev S1x4096x4x32 : Shape := ⟨4, ![1, 4096, 4, 32]⟩
abbrev S1x4096x4x16 : Shape := ⟨4, ![1, 4096, 4, 16]⟩
abbrev S4096x2 : Shape := ⟨2, ![4096, 2]⟩
abbrev S4096x8 : Shape := ⟨2, ![4096, 8]⟩
abbrev S4096x4864 : Shape := ⟨2, ![4096, 4864]⟩

abbrev nBuf : Space → Nat
  | .hbm => 414
  | .vmem => 0
  | .smem => 0
  | _ => 0

abbrev hbmTy0_0 (i : Nat) : BufTy := match i % 128 with
  | 0 => ⟨S1x4096x4864, .f32⟩
  | 1 => ⟨S4096x16, .f32⟩
  | 2 => ⟨S4096x16, .f32⟩
  | 3 => ⟨S4096x16, .f32⟩
  | 4 => ⟨S4096x16, .f32⟩
  | 5 => ⟨S1x64, .f32⟩
  | 6 => ⟨S1x64, .f32⟩
  | 7 => ⟨S1x4096x8x64, .f32⟩
  | 8 => ⟨S2x4096x128, .f32⟩
  | 9 => ⟨S2x4096x128, .f32⟩
  | 10 => ⟨S1x4096x512, .f32⟩
  | 11 => ⟨S1x4096x4x64, .f32⟩
  | 12 => ⟨S1x4096x4x64, .f32⟩
  | 13 => ⟨S1x4096x4x128, .f32⟩
  | 14 => ⟨S1x4096x512, .f32⟩
  | 15 => ⟨S1x4096x2048, .f32⟩
  | 16 => ⟨S2x4096x64, .f32⟩
  | 17 => ⟨S2x4096x64, .f32⟩
  | 18 => ⟨S2x4096x64, .f32⟩
  | 19 => ⟨S4096x2x64, .f32⟩
  | 20 => ⟨S1x4096x2x64, .f32⟩
  | 21 => ⟨S2x4096x64, .f32⟩
  | 22 => ⟨S2x4096x64, .f32⟩
  | 23 => ⟨S2x4096x64, .f32⟩
  | 24 => ⟨S4096x2x64, .f32⟩
  | 25 => ⟨S1x4096x2x64, .f32⟩
  | 26 => ⟨S1x4096x512, .f32⟩
  | 27 => ⟨S1x4096x128, .f32⟩
  | 28 => ⟨S1x4096x128, .f32⟩
  | 29 => ⟨S1x4096x512, .f32⟩
  | 30 => ⟨S1x4096x256, .f32⟩
  | 31 => ⟨S1x4096x256, .f32⟩
  | 32 => ⟨S1x4096x512, .f32⟩
  | 33 => ⟨S1x4096x512, .f32⟩
  | 34 => ⟨S1x4096x2048, .f32⟩
  | 35 => ⟨S1x4096x8x64, .f32⟩
  | 36 => ⟨S64, .f32⟩
  | 37 => ⟨S1x4096x8x64, .f32⟩
  | 38 => ⟨S_, .f32⟩
  | 39 => ⟨S1x4096x8, .f32⟩
  | 40 => ⟨S1x4096x8x1, .f32⟩
  | 41 => ⟨S_, .f32⟩
  | 42 => ⟨S1x4096x8x1, .f32⟩
  | 43 => ⟨S1x4096x8x1, .f32⟩
  | 44 => ⟨S_, .f32⟩
  | 45 => ⟨S1x4096x8x1, .f32⟩
  | 46 => ⟨S1x4096x8x1, .f32⟩
  | 47 => ⟨S1x4096x8x1, .f32⟩
  | 48 => ⟨S1x4096x8x1, .f32⟩
  | 49 => ⟨S_, .f32⟩
  | 50 => ⟨S1x4096x8x1, .f32⟩
  | 51 => ⟨S1x4096x8x1, .f32⟩
  | 52 => ⟨S1x4096x8x64, .f32⟩
  | 53 => ⟨S1x4096x8x64, .f32⟩
  | 54 => ⟨S1x1x1x64, .f32⟩
  | 55 => ⟨S1x4096x8x64, .f32⟩
  | 56 => ⟨S1x4096x8x64, .f32⟩
  | 57 => ⟨S1x4096x8x32, .f32⟩
  | 58 => ⟨S1x4096x8x32, .f32⟩
  | 59 => ⟨S1x4096x8x16, .f32⟩
  | 60 => ⟨S1x4096x8x16, .f32⟩
  | 61 => ⟨S1x4096x1x16, .f32⟩
  | 62 => ⟨S1x4096x1x16, .f32⟩
  | 63 => ⟨S1x4096x8x16, .f32⟩
  | 64 => ⟨S1x4096x8x16, .f32⟩
  | 65 => ⟨S1x4096x8x16, .f32⟩
  | 66 => ⟨S1x4096x8x16, .f32⟩
  | 67 => ⟨S1x4096x8x16, .f32⟩
  | 68 => ⟨S1x4096x8x16, .f32⟩
  | 69 => ⟨S1x4096x8x16, .f32⟩
  | 70 => ⟨S1x4096x8x16, .f32⟩
  | 71 => ⟨S1x4096x8x16, .f32⟩
  | 72 => ⟨S1x4096x8x16, .f32⟩
  | 73 => ⟨S1x4096x8x32, .f32⟩
  | 74 => ⟨S1x4096x8x16, .f32⟩
  | 75 => ⟨S1x4096x8x16, .f32⟩
  | 76 => ⟨S1x4096x1x16, .f32⟩
  | 77 => ⟨S1x4096x1x16, .f32⟩
  | 78 => ⟨S1x4096x8x16, .f32⟩
  | 79 => ⟨S1x4096x8x16, .f32⟩
  | 80 => ⟨S1x4096x8x16, .f32⟩
  | 81 => ⟨S1x4096x8x16, .f32⟩
  | 82 => ⟨S1x4096x8x16, .f32⟩
  | 83 => ⟨S1x4096x8x16, .f32⟩
  | 84 => ⟨S1x4096x8x16, .f32⟩
  | 85 => ⟨S1x4096x8x16, .f32⟩
  | 86 => ⟨S1x4096x8x16, .f32⟩
  | 87 => ⟨S1x4096x8x16, .f32⟩
  | 88 => ⟨S1x4096x8x32, .f32⟩
  | 89 => ⟨S1x4096x8x64, .f32⟩
  | 90 => ⟨S_, .f32⟩
  | 91 => ⟨S1x4096x8x64, .f32⟩
  | 92 => ⟨S1x4096x8x64, .f32⟩
  | 93 => ⟨S1x4096x2x64, .f32⟩
  | 94 => ⟨S64, .f32⟩
  | 95 => ⟨S1x4096x2x64, .f32⟩
  | 96 => ⟨S_, .f32⟩
  | 97 => ⟨S1x4096x2, .f32⟩
  | 98 => ⟨S1x4096x2x1, .f32⟩
  | 99 => ⟨S_, .f32⟩
  | 100 => ⟨S1x4096x2x1, .f32⟩
  | 101 => ⟨S1x4096x2x1, .f32⟩
  | 102 => ⟨S_, .f32⟩
  | 103 => ⟨S1x4096x2x1, .f32⟩
  | 104 => ⟨S1x4096x2x1, .f32⟩
  | 105 => ⟨S1x4096x2x1, .f32⟩
  | 106 => ⟨S1x4096x2x1, .f32⟩
  | 107 => ⟨S_, .f32⟩
  | 108 => ⟨S1x4096x2x1, .f32⟩
  | 109 => ⟨S1x4096x2x1, .f32⟩
  | 110 => ⟨S1x4096x2x64, .f32⟩
  | 111 => ⟨S1x4096x2x64, .f32⟩
  | 112 => ⟨S1x1x1x64, .f32⟩
  | 113 => ⟨S1x4096x2x64, .f32⟩
  | 114 => ⟨S1x4096x2x64, .f32⟩
  | 115 => ⟨S1x4096x2x32, .f32⟩
  | 116 => ⟨S1x4096x2x32, .f32⟩
  | 117 => ⟨S1x4096x2x16, .f32⟩
  | 118 => ⟨S1x4096x2x16, .f32⟩
  | 119 => ⟨S1x4096x1x16, .f32⟩
  | 120 => ⟨S1x4096x1x16, .f32⟩
  | 121 => ⟨S1x4096x2x16, .f32⟩
  | 122 => ⟨S1x4096x2x16, .f32⟩
  | 123 => ⟨S1x4096x2x16, .f32⟩
  | 124 => ⟨S1x4096x2x16, .f32⟩
  | 125 => ⟨S1x4096x2x16, .f32⟩
  | 126 => ⟨S1x4096x2x16, .f32⟩
  | 127 => ⟨S1x4096x2x16, .f32⟩
  | _ => ⟨S1x4096x4864, .f32⟩

abbrev hbmTy0_1 (i : Nat) : BufTy := match i % 128 with
  | 0 => ⟨S1x4096x2x16, .f32⟩
  | 1 => ⟨S1x4096x2x16, .f32⟩
  | 2 => ⟨S1x4096x2x16, .f32⟩
  | 3 => ⟨S1x4096x2x32, .f32⟩
  | 4 => ⟨S1x4096x2x16, .f32⟩
  | 5 => ⟨S1x4096x2x16, .f32⟩
  | 6 => ⟨S1x4096x1x16, .f32⟩
  | 7 => ⟨S1x4096x1x16, .f32⟩
  | 8 => ⟨S1x4096x2x16, .f32⟩
  | 9 => ⟨S1x4096x2x16, .f32⟩
  | 10 => ⟨S1x4096x2x16, .f32⟩
  | 11 => ⟨S1x4096x2x16, .f32⟩
  | 12 => ⟨S1x4096x2x16, .f32⟩
  | 13 => ⟨S1x4096x2x16, .f32⟩
  | 14 => ⟨S1x4096x2x16, .f32⟩
  | 15 => ⟨S1x4096x2x16, .f32⟩
  | 16 => ⟨S1x4096x2x16, .f32⟩
  | 17 => ⟨S1x4096x2x16, .f32⟩
  | 18 => ⟨S1x4096x2x32, .f32⟩
  | 19 => ⟨S1x4096x2x64, .f32⟩
  | 20 => ⟨S1x4096x2x64, .f32⟩
  | 21 => ⟨S1x4096x4x64, .f32⟩
  | 22 => ⟨S1x4096x4x32, .f32⟩
  | 23 => ⟨S1x4096x4x32, .f32⟩
  | 24 => ⟨S1x4096x4x16, .f32⟩
  | 25 => ⟨S1x4096x4x16, .f32⟩
  | 26 => ⟨S1x4096x1x16, .f32⟩
  | 27 => ⟨S1x4096x1x16, .f32⟩
  | 28 => ⟨S1x4096x4x16, .f32⟩
  | 29 => ⟨S1x4096x4x16, .f32⟩
  | 30 => ⟨S1x4096x4x16, .f32⟩
  | 31 => ⟨S1x4096x4x16, .f32⟩
  | 32 => ⟨S1x4096x4x16, .f32⟩
  | 33 => ⟨S1x4096x4x16, .f32⟩
  | 34 => ⟨S1x4096x4x16, .f32⟩
  | 35 => ⟨S1x4096x4x16, .f32⟩
  | 36 => ⟨S1x4096x4x16, .f32⟩
  | 37 => ⟨S1x4096x4x16, .f32⟩
  | 38 => ⟨S1x4096x4x32, .f32⟩
  | 39 => ⟨S1x4096x4x16, .f32⟩
  | 40 => ⟨S1x4096x4x16, .f32⟩
  | 41 => ⟨S1x4096x1x16, .f32⟩
  | 42 => ⟨S1x4096x1x16, .f32⟩
  | 43 => ⟨S1x4096x4x16, .f32⟩
  | 44 => ⟨S1x4096x4x16, .f32⟩
  | 45 => ⟨S1x4096x4x16, .f32⟩
  | 46 => ⟨S1x4096x4x16, .f32⟩
  | 47 => ⟨S1x4096x4x16, .f32⟩
  | 48 => ⟨S1x4096x4x16, .f32⟩
  | 49 => ⟨S1x4096x4x16, .f32⟩
  | 50 => ⟨S1x4096x4x16, .f32⟩
  | 51 => ⟨S1x4096x4x16, .f32⟩
  | 52 => ⟨S1x4096x4x16, .f32⟩
  | 53 => ⟨S1x4096x4x32, .f32⟩
  | 54 => ⟨S1x4096x4x64, .f32⟩
  | 55 => ⟨S1x4096x4x64, .f32⟩
  | 56 => ⟨S1x4096x4x32, .f32⟩
  | 57 => ⟨S1x4096x4x32, .f32⟩
  | 58 => ⟨S1x4096x4x16, .f32⟩
  | 59 => ⟨S1x4096x4x16, .f32⟩
  | 60 => ⟨S1x4096x1x16, .f32⟩
  | 61 => ⟨S1x4096x1x16, .f32⟩
  | 62 => ⟨S1x4096x4x16, .f32⟩
  | 63 => ⟨S1x4096x4x16, .f32⟩
  | 64 => ⟨S1x4096x4x16, .f32⟩
  | 65 => ⟨S1x4096x4x16, .f32⟩
  | 66 => ⟨S1x4096x4x16, .f32⟩
  | 67 => ⟨S1x4096x4x16, .f32⟩
  | 68 => ⟨S1x4096x4x16, .f32⟩
  | 69 => ⟨S1x4096x4x16, .f32⟩
  | 70 => ⟨S1x4096x4x16, .f32⟩
  | 71 => ⟨S1x4096x4x16, .f32⟩
  | 72 => ⟨S1x4096x4x32, .f32⟩
  | 73 => ⟨S1x4096x4x16, .f32⟩
  | 74 => ⟨S1x4096x4x16, .f32⟩
  | 75 => ⟨S1x4096x1x16, .f32⟩
  | 76 => ⟨S1x4096x1x16, .f32⟩
  | 77 => ⟨S1x4096x4x16, .f32⟩
  | 78 => ⟨S1x4096x4x16, .f32⟩
  | 79 => ⟨S1x4096x4x16, .f32⟩
  | 80 => ⟨S1x4096x4x16, .f32⟩
  | 81 => ⟨S1x4096x4x16, .f32⟩
  | 82 => ⟨S1x4096x4x16, .f32⟩
  | 83 => ⟨S1x4096x4x16, .f32⟩
  | 84 => ⟨S1x4096x4x16, .f32⟩
  | 85 => ⟨S1x4096x4x16, .f32⟩
  | 86 => ⟨S1x4096x4x16, .f32⟩
  | 87 => ⟨S1x4096x4x32, .f32⟩
  | 88 => ⟨S1x4096x4x64, .f32⟩
  | 89 => ⟨S_, .f32⟩
  | 90 => ⟨S1x4096x4x64, .f32⟩
  | 91 => ⟨S1x4096x4x64, .f32⟩
  | 92 => ⟨S1x4096x4x128, .f32⟩
  | 93 => ⟨S1x4096x512, .f32⟩
  | 94 => ⟨S_, .f32⟩
  | 95 => ⟨S1x4096x4x64, .f32⟩
  | 96 => ⟨S1x4096x4x64, .f32⟩
  | 97 => ⟨S1x4096x4x32, .f32⟩
  | 98 => ⟨S1x4096x4x32, .f32⟩
  | 99 => ⟨S1x4096x4x16, .f32⟩
  | 100 => ⟨S1x4096x4x16, .f32⟩
  | 101 => ⟨S1x4096x4x16, .f32⟩
  | 102 => ⟨S1x4096x4x16, .f32⟩
  | 103 => ⟨S1x4096x4x16, .f32⟩
  | 104 => ⟨S1x4096x4x16, .f32⟩
  | 105 => ⟨S1x4096x4x16, .f32⟩
  | 106 => ⟨S1x4096x4x16, .f32⟩
  | 107 => ⟨S1x4096x4x16, .f32⟩
  | 108 => ⟨S1x4096x4x16, .f32⟩
  | 109 => ⟨S1x4096x4x16, .f32⟩
  | 110 => ⟨S1x4096x4x16, .f32⟩
  | 111 => ⟨S1x4096x4x16, .f32⟩
  | 112 => ⟨S1x4096x4x32, .f32⟩
  | 113 => ⟨S1x4096x4x16, .f32⟩
  | 114 => ⟨S1x4096x4x16, .f32⟩
  | 115 => ⟨S1x4096x4x16, .f32⟩
  | 116 => ⟨S1x4096x4x16, .f32⟩
  | 117 => ⟨S1x4096x4x16, .f32⟩
  | 118 => ⟨S1x4096x4x16, .f32⟩
  | 119 => ⟨S1x4096x4x16, .f32⟩
  | 120 => ⟨S1x4096x4x16, .f32⟩
  | 121 => ⟨S1x4096x4x16, .f32⟩
  | 122 => ⟨S1x4096x4x16, .f32⟩
  | 123 => ⟨S1x4096x4x16, .f32⟩
  | 124 => ⟨S1x4096x4x16, .f32⟩
  | 125 => ⟨S1x4096x4x16, .f32⟩
  | 126 => ⟨S1x4096x4x32, .f32⟩
  | 127 => ⟨S1x4096x4x64, .f32⟩
  | _ => ⟨S1x4096x4864, .f32⟩

abbrev hbmTy0_2 (i : Nat) : BufTy := match i % 128 with
  | 0 => ⟨S1x4096x256, .f32⟩
  | 1 => ⟨S1x4096x4x32, .f32⟩
  | 2 => ⟨S1x4096x4x32, .f32⟩
  | 3 => ⟨S1x4096x4x16, .f32⟩
  | 4 => ⟨S1x4096x4x16, .f32⟩
  | 5 => ⟨S1x4096x4x16, .f32⟩
  | 6 => ⟨S1x4096x4x16, .f32⟩
  | 7 => ⟨S1x4096x4x16, .f32⟩
  | 8 => ⟨S1x4096x4x16, .f32⟩
  | 9 => ⟨S1x4096x4x16, .f32⟩
  | 10 => ⟨S1x4096x4x16, .f32⟩
  | 11 => ⟨S1x4096x4x16, .f32⟩
  | 12 => ⟨S1x4096x4x16, .f32⟩
  | 13 => ⟨S1x4096x4x16, .f32⟩
  | 14 => ⟨S1x4096x4x16, .f32⟩
  | 15 => ⟨S1x4096x4x16, .f32⟩
  | 16 => ⟨S1x4096x4x32, .f32⟩
  | 17 => ⟨S1x4096x4x16, .f32⟩
  | 18 => ⟨S1x4096x4x16, .f32⟩
  | 19 => ⟨S1x4096x4x16, .f32⟩
  | 20 => ⟨S1x4096x4x16, .f32⟩
  | 21 => ⟨S1x4096x4x16, .f32⟩
  | 22 => ⟨S1x4096x4x16, .f32⟩
  | 23 => ⟨S1x4096x4x16, .f32⟩
  | 24 => ⟨S1x4096x4x16, .f32⟩
  | 25 => ⟨S1x4096x4x16, .f32⟩
  | 26 => ⟨S1x4096x4x16, .f32⟩
  | 27 => ⟨S1x4096x4x16, .f32⟩
  | 28 => ⟨S1x4096x4x16, .f32⟩
  | 29 => ⟨S1x4096x4x16, .f32⟩
  | 30 => ⟨S1x4096x4x32, .f32⟩
  | 31 => ⟨S1x4096x4x64, .f32⟩
  | 32 => ⟨S1x4096x256, .f32⟩
  | 33 => ⟨S1x4096x128, .f32⟩
  | 34 => ⟨S1x4096x2x32, .f32⟩
  | 35 => ⟨S1x4096x2x32, .f32⟩
  | 36 => ⟨S1x4096x2x16, .f32⟩
  | 37 => ⟨S1x4096x2x16, .f32⟩
  | 38 => ⟨S1x4096x2x16, .f32⟩
  | 39 => ⟨S1x4096x2x16, .f32⟩
  | 40 => ⟨S1x4096x2x16, .f32⟩
  | 41 => ⟨S1x4096x2x16, .f32⟩
  | 42 => ⟨S1x4096x2x16, .f32⟩
  | 43 => ⟨S1x4096x2x16, .f32⟩
  | 44 => ⟨S1x4096x2x16, .f32⟩
  | 45 => ⟨S1x4096x2x16, .f32⟩
  | 46 => ⟨S1x4096x2x16, .f32⟩
  | 47 => ⟨S1x4096x2x16, .f32⟩
  | 48 => ⟨S1x4096x2x16, .f32⟩
  | 49 => ⟨S1x4096x2x32, .f32⟩
  | 50 => ⟨S1x4096x2x16, .f32⟩
  | 51 => ⟨S1x4096x2x16, .f32⟩
  | 52 => ⟨S1x4096x2x16, .f32⟩
  | 53 => ⟨S1x4096x2x16, .f32⟩
  | 54 => ⟨S1x4096x2x16, .f32⟩
  | 55 => ⟨S1x4096x2x16, .f32⟩
  | 56 => ⟨S1x4096x2x16, .f32⟩
  | 57 => ⟨S1x4096x2x16, .f32⟩
  | 58 => ⟨S1x4096x2x16, .f32⟩
  | 59 => ⟨S1x4096x2x16, .f32⟩
  | 60 => ⟨S1x4096x2x16, .f32⟩
  | 61 => ⟨S1x4096x2x16, .f32⟩
  | 62 => ⟨S1x4096x2x16, .f32⟩
  | 63 => ⟨S1x4096x2x32, .f32⟩
  | 64 => ⟨S1x4096x2x64, .f32⟩
  | 65 => ⟨S1x4096x2x64, .f32⟩
  | 66 => ⟨S_, .f32⟩
  | 67 => ⟨S1x64, .f32⟩
  | 68 => ⟨S1x1x1x64, .f32⟩
  | 69 => ⟨S1x4096x2x64, .f32⟩
  | 70 => ⟨S1x4096x2x64, .f32⟩
  | 71 => ⟨S_, .f32⟩
  | 72 => ⟨S64, .f32⟩
  | 73 => ⟨S1x4096x2x64, .f32⟩
  | 74 => ⟨S_, .f32⟩
  | 75 => ⟨S1x4096x2, .f32⟩
  | 76 => ⟨S1x4096x2x1, .f32⟩
  | 77 => ⟨S1x4096x2x64, .f32⟩
  | 78 => ⟨S1x4096x2x64, .f32⟩
  | 79 => ⟨S1x4096x2x1, .f32⟩
  | 80 => ⟨S_, .f32⟩
  | 81 => ⟨S1x4096x2x1, .f32⟩
  | 82 => ⟨S1x4096x2x1, .f32⟩
  | 83 => ⟨S_, .f32⟩
  | 84 => ⟨S4096x2, .f32⟩
  | 85 => ⟨S1x4096x2, .f32⟩
  | 86 => ⟨S1x4096x2x64, .f32⟩
  | 87 => ⟨S1x4096x2x64, .f32⟩
  | 88 => ⟨S1x4096x2x64, .f32⟩
  | 89 => ⟨S1x4096x2x64, .f32⟩
  | 90 => ⟨S1x4096x2x64, .f32⟩
  | 91 => ⟨S1x64, .f32⟩
  | 92 => ⟨S1x4096x128, .f32⟩
  | 93 => ⟨S_, .f32⟩
  | 94 => ⟨S1x4096x8x64, .f32⟩
  | 95 => ⟨S1x4096x8x64, .f32⟩
  | 96 => ⟨S1x4096x8x32, .f32⟩
  | 97 => ⟨S1x4096x8x32, .f32⟩
  | 98 => ⟨S1x4096x8x16, .f32⟩
  | 99 => ⟨S1x4096x8x16, .f32⟩
  | 100 => ⟨S1x4096x8x16, .f32⟩
  | 101 => ⟨S1x4096x8x16, .f32⟩
  | 102 => ⟨S1x4096x8x16, .f32⟩
  | 103 => ⟨S1x4096x8x16, .f32⟩
  | 104 => ⟨S1x4096x8x16, .f32⟩
  | 105 => ⟨S1x4096x8x16, .f32⟩
  | 106 => ⟨S1x4096x8x16, .f32⟩
  | 107 => ⟨S1x4096x8x16, .f32⟩
  | 108 => ⟨S1x4096x8x16, .f32⟩
  | 109 => ⟨S1x4096x8x16, .f32⟩
  | 110 => ⟨S1x4096x8x16, .f32⟩
  | 111 => ⟨S1x4096x8x32, .f32⟩
  | 112 => ⟨S1x4096x8x16, .f32⟩
  | 113 => ⟨S1x4096x8x16, .f32⟩
  | 114 => ⟨S1x4096x8x16, .f32⟩
  | 115 => ⟨S1x4096x8x16, .f32⟩
  | 116 => ⟨S1x4096x8x16, .f32⟩
  | 117 => ⟨S1x4096x8x16, .f32⟩
  | 118 => ⟨S1x4096x8x16, .f32⟩
  | 119 => ⟨S1x4096x8x16, .f32⟩
  | 120 => ⟨S1x4096x8x16, .f32⟩
  | 121 => ⟨S1x4096x8x16, .f32⟩
  | 122 => ⟨S1x4096x8x16, .f32⟩
  | 123 => ⟨S1x4096x8x16, .f32⟩
  | 124 => ⟨S1x4096x8x16, .f32⟩
  | 125 => ⟨S1x4096x8x32, .f32⟩
  | 126 => ⟨S1x4096x8x64, .f32⟩
  | 127 => ⟨S1x4096x8x64, .f32⟩
  | _ => ⟨S1x4096x4864, .f32⟩

abbrev hbmTy0_3 (i : Nat) : BufTy := match i % 128 with
  | 0 => ⟨S_, .f32⟩
  | 1 => ⟨S1x64, .f32⟩
  | 2 => ⟨S1x1x1x64, .f32⟩
  | 3 => ⟨S1x4096x8x64, .f32⟩
  | 4 => ⟨S1x4096x8x64, .f32⟩
  | 5 => ⟨S_, .f32⟩
  | 6 => ⟨S64, .f32⟩
  | 7 => ⟨S1x4096x8x64, .f32⟩
  | 8 => ⟨S_, .f32⟩
  | 9 => ⟨S1x4096x8, .f32⟩
  | 10 => ⟨S1x4096x8x1, .f32⟩
  | 11 => ⟨S1x4096x8x64, .f32⟩
  | 12 => ⟨S1x4096x8x64, .f32⟩
  | 13 => ⟨S1x4096x8x1, .f32⟩
  | 14 => ⟨S_, .f32⟩
  | 15 => ⟨S1x4096x8x1, .f32⟩
  | 16 => ⟨S1x4096x8x1, .f32⟩
  | 17 => ⟨S_, .f32⟩
  | 18 => ⟨S4096x8, .f32⟩
  | 19 => ⟨S1x4096x8, .f32⟩
  | 20 => ⟨S1x4096x8x64, .f32⟩
  | 21 => ⟨S1x4096x8x64, .f32⟩
  | 22 => ⟨S1x4096x8x64, .f32⟩
  | 23 => ⟨S1x4096x8x64, .f32⟩
  | 24 => ⟨S1x4096x8x64, .f32⟩
  | 25 => ⟨S1x64, .f32⟩
  | 26 => ⟨S1x4096x512, .f32⟩
  | 27 => ⟨S1x4096x4864, .f32⟩
  | 28 => ⟨S4096x4864, .f32⟩
  | 29 => ⟨S4096x4864, .bf16⟩
  | _ => ⟨S1x4096x4864, .f32⟩

abbrev hbmTy (i : Nat) : BufTy := match i / 128 with
  | 0 => hbmTy0_0 i
  | 1 => hbmTy0_1 i
  | 2 => hbmTy0_2 i
  | 3 => hbmTy0_3 i
  | _ => ⟨S1x4096x4864, .f32⟩

abbrev bufTy : (tb : Table) → Fin (tcTables nBuf tb) → BufTy
  | .hbm, ⟨i, _⟩ => hbmTy i
  | _, _ => ⟨S1x4096x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_3 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_4 : Ref sig .tc := ⟨.hbm, 96, rfl⟩
abbrev main_v75 : Ref sig .tc := ⟨.hbm, 97, rfl⟩
abbrev main_v76 : Ref sig .tc := ⟨.hbm, 98, rfl⟩
abbrev main_cst_5 : Ref sig .tc := ⟨.hbm, 99, rfl⟩
abbrev main_v77 : Ref sig .tc := ⟨.hbm, 100, rfl⟩
abbrev main_v78 : Ref sig .tc := ⟨.hbm, 101, rfl⟩
abbrev main_cst_6 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_7 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_cst_8 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_cst_9 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264 : Ref sig .tc := ⟨.hbm, 291, rfl⟩
abbrev main_v265 : Ref sig .tc := ⟨.hbm, 292, rfl⟩
abbrev main_v266 : Ref sig .tc := ⟨.hbm, 293, rfl⟩
abbrev main_v267 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_v272 : Ref sig .tc := ⟨.hbm, 299, rfl⟩
abbrev main_v273 : Ref sig .tc := ⟨.hbm, 300, rfl⟩
abbrev main_v274 : Ref sig .tc := ⟨.hbm, 301, rfl⟩
abbrev main_v275 : Ref sig .tc := ⟨.hbm, 302, rfl⟩
abbrev main_v276 : Ref sig .tc := ⟨.hbm, 303, rfl⟩
abbrev main_v277 : Ref sig .tc := ⟨.hbm, 304, rfl⟩
abbrev main_v278 : Ref sig .tc := ⟨.hbm, 305, rfl⟩
abbrev main_v279 : Ref sig .tc := ⟨.hbm, 306, rfl⟩
abbrev main_v280 : Ref sig .tc := ⟨.hbm, 307, rfl⟩
abbrev main_v281 : Ref sig .tc := ⟨.hbm, 308, rfl⟩
abbrev main_v282 : Ref sig .tc := ⟨.hbm, 309, rfl⟩
abbrev main_v283 : Ref sig .tc := ⟨.hbm, 310, rfl⟩
abbrev main_v284 : Ref sig .tc := ⟨.hbm, 311, rfl⟩
abbrev main_v285 : Ref sig .tc := ⟨.hbm, 312, rfl⟩
abbrev main_v286 : Ref sig .tc := ⟨.hbm, 313, rfl⟩
abbrev main_v287 : Ref sig .tc := ⟨.hbm, 314, rfl⟩
abbrev main_v288 : Ref sig .tc := ⟨.hbm, 315, rfl⟩
abbrev main_v289 : Ref sig .tc := ⟨.hbm, 316, rfl⟩
abbrev main_v290 : Ref sig .tc := ⟨.hbm, 317, rfl⟩
abbrev main_v291 : Ref sig .tc := ⟨.hbm, 318, rfl⟩
abbrev main_v292 : Ref sig .tc := ⟨.hbm, 319, rfl⟩
abbrev main_v293 : Ref sig .tc := ⟨.hbm, 320, rfl⟩
abbrev main_v294 : Ref sig .tc := ⟨.hbm, 321, rfl⟩
abbrev main_cst_10 : Ref sig .tc := ⟨.hbm, 322, rfl⟩
abbrev main_v295 : Ref sig .tc := ⟨.hbm, 323, rfl⟩
abbrev main_v296 : Ref sig .tc := ⟨.hbm, 324, rfl⟩
abbrev main_v297 : Ref sig .tc := ⟨.hbm, 325, rfl⟩
abbrev main_v298 : Ref sig .tc := ⟨.hbm, 326, rfl⟩
abbrev main_cst_11 : Ref sig .tc := ⟨.hbm, 327, rfl⟩
abbrev main_v299 : Ref sig .tc := ⟨.hbm, 328, rfl⟩
abbrev main_v300 : Ref sig .tc := ⟨.hbm, 329, rfl⟩
abbrev main_cst_12 : Ref sig .tc := ⟨.hbm, 330, rfl⟩
abbrev main_v301 : Ref sig .tc := ⟨.hbm, 331, rfl⟩
abbrev main_v302 : Ref sig .tc := ⟨.hbm, 332, rfl⟩
abbrev main_v303 : Ref sig .tc := ⟨.hbm, 333, rfl⟩
abbrev main_v304 : Ref sig .tc := ⟨.hbm, 334, rfl⟩
abbrev main_v305 : Ref sig .tc := ⟨.hbm, 335, rfl⟩
abbrev main_cst_13 : Ref sig .tc := ⟨.hbm, 336, rfl⟩
abbrev main_v306 : Ref sig .tc := ⟨.hbm, 337, rfl⟩
abbrev main_v307 : Ref sig .tc := ⟨.hbm, 338, rfl⟩
abbrev main_cst_14 : Ref sig .tc := ⟨.hbm, 339, rfl⟩
abbrev main_v308 : Ref sig .tc := ⟨.hbm, 340, rfl⟩
abbrev main_v309 : Ref sig .tc := ⟨.hbm, 341, rfl⟩
abbrev main_v310 : Ref sig .tc := ⟨.hbm, 342, rfl⟩
abbrev main_v311 : Ref sig .tc := ⟨.hbm, 343, rfl⟩
abbrev main_v312 : Ref sig .tc := ⟨.hbm, 344, rfl⟩
abbrev main_v313 : Ref sig .tc := ⟨.hbm, 345, rfl⟩
abbrev main_v314 : Ref sig .tc := ⟨.hbm, 346, rfl⟩
abbrev main_v315 : Ref sig .tc := ⟨.hbm, 347, rfl⟩
abbrev main_v316 : Ref sig .tc := ⟨.hbm, 348, rfl⟩
abbrev main_cst_15 : Ref sig .tc := ⟨.hbm, 349, rfl⟩
abbrev main_v317 : Ref sig .tc := ⟨.hbm, 350, rfl⟩
abbrev main_v318 : Ref sig .tc := ⟨.hbm, 351, rfl⟩
abbrev main_v319 : Ref sig .tc := ⟨.hbm, 352, rfl⟩
abbrev main_v320 : Ref sig .tc := ⟨.hbm, 353, rfl⟩
abbrev main_v321 : Ref sig .tc := ⟨.hbm, 354, rfl⟩
abbrev main_v322 : Ref sig .tc := ⟨.hbm, 355, rfl⟩
abbrev main_v323 : Ref sig .tc := ⟨.hbm, 356, rfl⟩
abbrev main_v324 : Ref sig .tc := ⟨.hbm, 357, rfl⟩
abbrev main_v325 : Ref sig .tc := ⟨.hbm, 358, rfl⟩
abbrev main_v326 : Ref sig .tc := ⟨.hbm, 359, rfl⟩
abbrev main_v327 : Ref sig .tc := ⟨.hbm, 360, rfl⟩
abbrev main_v328 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_v332 : Ref sig .tc := ⟨.hbm, 365, rfl⟩
abbrev main_v333 : Ref sig .tc := ⟨.hbm, 366, rfl⟩
abbrev main_v334 : Ref sig .tc := ⟨.hbm, 367, rfl⟩
abbrev main_v335 : Ref sig .tc := ⟨.hbm, 368, rfl⟩
abbrev main_v336 : Ref sig .tc := ⟨.hbm, 369, rfl⟩
abbrev main_v337 : Ref sig .tc := ⟨.hbm, 370, rfl⟩
abbrev main_v338 : Ref sig .tc := ⟨.hbm, 371, rfl⟩
abbrev main_v339 : Ref sig .tc := ⟨.hbm, 372, rfl⟩
abbrev main_v340 : Ref sig .tc := ⟨.hbm, 373, rfl⟩
abbrev main_v341 : Ref sig .tc := ⟨.hbm, 374, rfl⟩
abbrev main_v342 : Ref sig .tc := ⟨.hbm, 375, rfl⟩
abbrev main_v343 : Ref sig .tc := ⟨.hbm, 376, rfl⟩
abbrev main_v344 : Ref sig .tc := ⟨.hbm, 377, rfl⟩
abbrev main_v345 : Ref sig .tc := ⟨.hbm, 378, rfl⟩
abbrev main_v346 : Ref sig .tc := ⟨.hbm, 379, rfl⟩
abbrev main_v347 : Ref sig .tc := ⟨.hbm, 380, rfl⟩
abbrev main_v348 : Ref sig .tc := ⟨.hbm, 381, rfl⟩
abbrev main_v349 : Ref sig .tc := ⟨.hbm, 382, rfl⟩
abbrev main_v350 : Ref sig .tc := ⟨.hbm, 383, rfl⟩
abbrev main_cst_16 : Ref sig .tc := ⟨.hbm, 384, rfl⟩
abbrev main_v351 : Ref sig .tc := ⟨.hbm, 385, rfl⟩
abbrev main_v352 : Ref sig .tc := ⟨.hbm, 386, rfl⟩
abbrev main_v353 : Ref sig .tc := ⟨.hbm, 387, rfl⟩
abbrev main_v354 : Ref sig .tc := ⟨.hbm, 388, rfl⟩
abbrev main_cst_17 : Ref sig .tc := ⟨.hbm, 389, rfl⟩
abbrev main_v355 : Ref sig .tc := ⟨.hbm, 390, rfl⟩
abbrev main_v356 : Ref sig .tc := ⟨.hbm, 391, rfl⟩
abbrev main_cst_18 : Ref sig .tc := ⟨.hbm, 392, rfl⟩
abbrev main_v357 : Ref sig .tc := ⟨.hbm, 393, rfl⟩
abbrev main_v358 : Ref sig .tc := ⟨.hbm, 394, rfl⟩
abbrev main_v359 : Ref sig .tc := ⟨.hbm, 395, rfl⟩
abbrev main_v360 : Ref sig .tc := ⟨.hbm, 396, rfl⟩
abbrev main_v361 : Ref sig .tc := ⟨.hbm, 397, rfl⟩
abbrev main_cst_19 : Ref sig .tc := ⟨.hbm, 398, rfl⟩
abbrev main_v362 : Ref sig .tc := ⟨.hbm, 399, rfl⟩
abbrev main_v363 : Ref sig .tc := ⟨.hbm, 400, rfl⟩
abbrev main_cst_20 : Ref sig .tc := ⟨.hbm, 401, rfl⟩
abbrev main_v364 : Ref sig .tc := ⟨.hbm, 402, rfl⟩
abbrev main_v365 : Ref sig .tc := ⟨.hbm, 403, rfl⟩
abbrev main_v366 : Ref sig .tc := ⟨.hbm, 404, rfl⟩
abbrev main_v367 : Ref sig .tc := ⟨.hbm, 405, rfl⟩
abbrev main_v368 : Ref sig .tc := ⟨.hbm, 406, rfl⟩
abbrev main_v369 : Ref sig .tc := ⟨.hbm, 407, rfl⟩
abbrev main_v370 : Ref sig .tc := ⟨.hbm, 408, rfl⟩
abbrev main_v371 : Ref sig .tc := ⟨.hbm, 409, rfl⟩
abbrev main_v372 : Ref sig .tc := ⟨.hbm, 410, rfl⟩
abbrev main_v373 : Ref sig .tc := ⟨.hbm, 411, rfl⟩
abbrev main_v374 : Ref sig .tc := ⟨.hbm, 412, rfl⟩
abbrev main_v375 : Ref sig .tc := ⟨.hbm, 413, rfl⟩

abbrev nD : Nat := 1
abbrev τ : Topo := Topo.v7x

variable {F : FTy → Type} [FloatOps F]
-- ==== Tail.lean ====
abbrev S1x4096x1024 : Shape := ⟨3, ![1, 4096, 1024]⟩
abbrev S1x4096x512 : Shape := ⟨3, ![1, 4096, 512]⟩
abbrev S1x4096x4x128 : Shape := ⟨4, ![1, 4096, 4, 128]⟩
abbrev S1x4096x4864 : Shape := ⟨3, ![1, 4096, 4864]⟩
abbrev S1x3072 : Shape := ⟨2, ![1, 3072]⟩
abbrev S1x1024 : Shape := ⟨2, ![1, 1024]⟩
abbrev S1x512 : Shape := ⟨2, ![1, 512]⟩
abbrev S1x512x1024 : Shape := ⟨3, ![1, 512, 1024]⟩
abbrev S1x1024x1024 : Shape := ⟨3, ![1, 1024, 1024]⟩
abbrev S512x1024 : Shape := ⟨2, ![512, 1024]⟩
abbrev S1024x512 : Shape := ⟨2, ![1024, 512]⟩
abbrev S1024x1024 : Shape := ⟨2, ![1024, 1024]⟩
abbrev S4096x1024 : Shape := ⟨2, ![4096, 1024]⟩
abbrev S4096x512 : Shape := ⟨2, ![4096, 512]⟩
abbrev S1x4096x4096 : Shape := ⟨3, ![1, 4096, 4096]⟩
abbrev S4096x4096 : Shape := ⟨2, ![4096, 4096]⟩
abbrev S4096x2048 : Shape := ⟨2, ![4096, 2048]⟩
abbrev S8x4096 : Shape := ⟨2, ![8, 4096]⟩
abbrev S1x128 : Shape := ⟨2, ![1, 128]⟩
abbrev S256x1024 : Shape := ⟨2, ![256, 1024]⟩
abbrev S256x512 : Shape := ⟨2, ![256, 512]⟩
abbrev S256x2048 : Shape := ⟨2, ![256, 2048]⟩
abbrev S8x256 : Shape := ⟨2, ![8, 256]⟩
abbrev S256x128 : Shape := ⟨2, ![256, 128]⟩
abbrev S256 : Shape := ⟨1, ![256]⟩
abbrev S256x1 : Shape := ⟨2, ![256, 1]⟩
abbrev S1024 : Shape := ⟨1, ![1024]⟩
abbrev S512x256 : Shape := ⟨2, ![512, 256]⟩
abbrev S8x64x256 : Shape := ⟨3, ![8, 64, 256]⟩
abbrev S512 : Shape := ⟨1, ![512]⟩
abbrev S_ : Shape := ⟨0, ![]⟩

abbrev nBuf : Space → Nat
  | .hbm => 40
  | .vmem => 41
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x512, .f32⟩
  | .hbm, ⟨3, _⟩ => ⟨S1x4096x4x128, .f32⟩
  | .hbm, ⟨4, _⟩ => ⟨S1x4096x4864, .f32⟩
  | .hbm, ⟨5, _⟩ => ⟨S1x3072, .f32⟩
  | .hbm, ⟨6, _⟩ => ⟨S1x1024, .f32⟩
  | .hbm, ⟨7, _⟩ => ⟨S1x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S512x1024, .f32⟩
  | .hbm, ⟨12, _⟩ => ⟨S1024x512, .f32⟩
  | .hbm, ⟨13, _⟩ => ⟨S512x1024, .f32⟩
  | .hbm, ⟨14, _⟩ => ⟨S1024x512, .f32⟩
  | .hbm, ⟨15, _⟩ => ⟨S1024x1024, .f32⟩
  | .hbm, ⟨16, _⟩ => ⟨S1024x1024, .bf16⟩
  | .hbm, ⟨17, _⟩ => ⟨S4096x1024, .f32⟩
  | .hbm, ⟨18, _⟩ => ⟨S4096x1024, .f32⟩
  | .hbm, ⟨19, _⟩ => ⟨S4096x512, .f32⟩
  | .hbm, ⟨20, _⟩ => ⟨S4096x512, .f32⟩
  | .hbm, ⟨21, _⟩ => ⟨S1x4096x4096, .f32⟩
  | .hbm, ⟨22, _⟩ => ⟨S4096x4096, .f32⟩
  | .hbm, ⟨23, _⟩ => ⟨S1024x1024, .f32⟩
  | .hbm, ⟨24, _⟩ => ⟨S1024x1024, .bf16⟩
  | .hbm, ⟨25, _⟩ => ⟨S4096x1024, .f32⟩
  | .hbm, ⟨26, _⟩ => ⟨S4096x512, .bf16⟩
  | .hbm, ⟨27, _⟩ => ⟨S4096x512, .bf16⟩
  | .hbm, ⟨28, _⟩ => ⟨S4096x2048, .bf16⟩
  | .hbm, ⟨29, _⟩ => ⟨S4096x512, .bf16⟩
  | .hbm, ⟨30, _⟩ => ⟨S4096x512, .bf16⟩
  | .hbm, ⟨31, _⟩ => ⟨S8x4096, .f32⟩
  | .hbm, ⟨32, _⟩ => ⟨S1024x1024, .bf16⟩
  | .hbm, ⟨33, _⟩ => ⟨S1024x1024, .bf16⟩
  | .hbm, ⟨34, _⟩ => ⟨S1x1024, .f32⟩
  | .hbm, ⟨35, _⟩ => ⟨S1x1024, .f32⟩
  | .hbm, ⟨36, _⟩ => ⟨S1x512, .f32⟩
  | .hbm, ⟨37, _⟩ => ⟨S1x128, .f32⟩
  | .hbm, ⟨38, _⟩ => ⟨S_, .f32⟩
  | .hbm, ⟨39, _⟩ => ⟨S_, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x2048, .f32⟩
  | .local _ .vmem, ⟨13, _⟩ => ⟨S256x2048, .f32⟩
  | .local _ .vmem, ⟨14, _⟩ => ⟨S1x3072, .f32⟩
  | .local _ .vmem, ⟨15, _⟩ => ⟨S1x1024, .f32⟩
  | .local _ .vmem, ⟨16, _⟩ => ⟨S1x512, .f32⟩
  | .local _ .vmem, ⟨17, _⟩ => ⟨S1024x1024, .bf16⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x2048, .bf16⟩
  | .local _ .vmem, ⟨26, _⟩ => ⟨S256x2048, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S8x256, .f32⟩
  | .local _ .vmem, ⟨32, _⟩ => ⟨S8x256, .f32⟩
  | .local _ .vmem, ⟨33, _⟩ => ⟨S1024x1024, .bf16⟩
  | .local _ .vmem, ⟨34, _⟩ => ⟨S1024x1024, .bf16⟩
  | .local _ .vmem, ⟨35, _⟩ => ⟨S1x1024, .f32⟩
  | .local _ .vmem, ⟨36, _⟩ => ⟨S1x1024, .f32⟩
  | .local _ .vmem, ⟨37, _⟩ => ⟨S1x512, .f32⟩
  | .local _ .vmem, ⟨38, _⟩ => ⟨S1x128, .f32⟩
  | .local _ .vmem, ⟨39, _⟩ => ⟨S1024x1024, .f32⟩
  | .local _ .vmem, ⟨40, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev main_v14_6 : Ref sig .tc := ⟨.hbm, 31, rfl⟩
abbrev main_v14_7 : Ref sig .tc := ⟨.hbm, 32, rfl⟩
abbrev main_v14_8 : Ref sig .tc := ⟨.hbm, 33, rfl⟩
abbrev main_v14_9 : Ref sig .tc := ⟨.hbm, 34, rfl⟩
abbrev main_v14_10 : Ref sig .tc := ⟨.hbm, 35, rfl⟩
abbrev main_v14_11 : Ref sig .tc := ⟨.hbm, 36, rfl⟩
abbrev main_v14_12 : Ref sig .tc := ⟨.hbm, 37, rfl⟩
abbrev main_cst : Ref sig .tc := ⟨.hbm, 38, rfl⟩
abbrev main_v15 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_scratch0 : Ref sig .tc := ⟨.vmem, 39, rfl⟩
abbrev cc0_scratch1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem24_0 : DmaSem sig := 38

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v361 : BitVec 1 := Scalar.cmpi .eq arg0 c15_i32
  let v362 : BitVec 32 := Scalar.extui v361
  let c0_i32_151 : BitVec 32 := 0#32
  let v363 : BitVec 1 := Scalar.cmpi .ne v362 c0_i32_151
  v363

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c256_i32 : BitVec 32 := 256#32
  let v0 : BitVec 32 := Scalar.muli arg0 c256_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c256_i32 : BitVec 32 := 256#32
  let v0 : BitVec 32 := Scalar.muli arg0 c256_i32
  let c1536_i32 : BitVec 32 := 1536#32
  let c0_i32 : BitVec 32 := 0#32
  ![v0.toNat, c1536_i32.toNat]

def cc0_transform_6 (i : grid0.Coords) : Fin 2 → Nat :=
  let arg0 : BitVec 32 := BitVec.ofNat 32 (i 0).val
  let c256_i32 : BitVec 32 := 256#32
  let v0 : BitVec 32 := Scalar.muli arg0 c256_i32
  let c2048_i32 : BitVec 32 := 2048#32
  let c0_i32 : BitVec 32 := 0#32
  ![v0.toNat, c2048_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== TailRefIdeal.lean ====
abbrev S1x4096x1024 : Shape := ⟨3, ![1, 4096, 1024]⟩
abbrev S1x4096x512 : Shape := ⟨3, ![1, 4096, 512]⟩
abbrev S1x4096x4x128 : Shape := ⟨4, ![1, 4096, 4, 128]⟩
abbrev S1x4096x4864 : Shape := ⟨3, ![1, 4096, 4864]⟩
abbrev S1x3072 : Shape := ⟨2, ![1, 3072]⟩
abbrev S1x1024 : Shape := ⟨2, ![1, 1024]⟩
abbrev S1x512 : Shape := ⟨2, ![1, 512]⟩
abbrev S1x512x1024 : Shape := ⟨3, ![1, 512, 1024]⟩
abbrev S1x1024x1024 : Shape := ⟨3, ![1, 1024, 1024]⟩
abbrev S1x4096x2048 : Shape := ⟨3, ![1, 4096, 2048]⟩
abbrev S_ : Shape := ⟨0, ![]⟩
abbrev S1x4096x4 : Shape := ⟨3, ![1, 4096, 4]⟩
abbrev S1x4096x4x1 : Shape := ⟨4, ![1, 4096, 4, 1]⟩
abbrev S512 : Shape := ⟨1, ![512]⟩
abbrev S1x1x512 : Shape := ⟨3, ![1, 1, 512]⟩
abbrev S512x1024 : Shape := ⟨2, ![512, 1024]⟩
abbrev S1024x1024 : Shape := ⟨2, ![1024, 1024]⟩
abbrev S1024 : Shape := ⟨1, ![1024]⟩
abbrev S1x4096 : Shape := ⟨2, ![1, 4096]⟩
abbrev S1x4096x1 : Shape := ⟨3, ![1, 4096, 1]⟩
abbrev S1x1x1024 : Shape := ⟨3, ![1, 1, 1024]⟩
abbrev S4096 : Shape := ⟨1, ![4096]⟩
abbrev S1024x512 : Shape := ⟨2, ![1024, 512]⟩
abbrev S4096x4 : Shape := ⟨2, ![4096, 4]⟩
abbrev S4096x8x64 : Shape := ⟨3, ![4096, 8, 64]⟩
abbrev S4096x8 : Shape := ⟨2, ![4096, 8]⟩
abbrev S8x4096 : Shape := ⟨2, ![8, 4096]⟩
abbrev S4096x1024 : Shape := ⟨2, ![4096, 1024]⟩
abbrev S4096x512 : Shape := ⟨2, ![4096, 512]⟩
abbrev S4096x2048 : Shape := ⟨2, ![4096, 2048]⟩

abbrev nBuf : Space → Nat
  | .hbm => 282
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x4096x512, .f32⟩
  | 3 => ⟨S1x4096x4x128, .f32⟩
  | 4 => ⟨S1x4096x4864, .f32⟩
  | 5 => ⟨S1x3072, .f32⟩
  | 6 => ⟨S1x1024, .f32⟩
  | 7 => ⟨S1x512, .f32⟩
  | 8 => ⟨S1x512x1024, .f32⟩
  | 9 => ⟨S1x512x1024, .f32⟩
  | 10 => ⟨S1x1024x1024, .f32⟩
  | 11 => ⟨S1x4096x512, .f32⟩
  | 12 => ⟨S1x4096x512, .f32⟩
  | 13 => ⟨S1x4096x2048, .f32⟩
  | 14 => ⟨S1x1024, .f32⟩
  | 15 => ⟨S1x4096x512, .f32⟩
  | 16 => ⟨S1x4096x512, .f32⟩
  | 17 => ⟨S_, .f32⟩
  | 18 => ⟨S1x4096x512, .f32⟩
  | 19 => ⟨S1x4096x512, .f32⟩
  | 20 => ⟨S_, .f32⟩
  | 21 => ⟨S1x4096x512, .f32⟩
  | 22 => ⟨S1x4096x512, .f32⟩
  | 23 => ⟨S_, .f32⟩
  | 24 => ⟨S1x4096x512, .f32⟩
  | 25 => ⟨S1x4096x512, .f32⟩
  | 26 => ⟨S1x4096x512, .f32⟩
  | 27 => ⟨S1x4096x512, .f32⟩
  | 28 => ⟨S1x4096x512, .f32⟩
  | 29 => ⟨S_, .f32⟩
  | 30 => ⟨S1x4096x4, .f32⟩
  | 31 => ⟨S1x4096x4x1, .f32⟩
  | 32 => ⟨S_, .f32⟩
  | 33 => ⟨S1x4096x4x1, .f32⟩
  | 34 => ⟨S1x4096x4x1, .f32⟩
  | 35 => ⟨S1x4096x4x128, .f32⟩
  | 36 => ⟨S1x4096x4x128, .f32⟩
  | 37 => ⟨S1x4096x4x128, .f32⟩
  | 38 => ⟨S_, .f32⟩
  | 39 => ⟨S1x4096x4x128, .f32⟩
  | 40 => ⟨S1x4096x4x128, .f32⟩
  | 41 => ⟨S_, .f32⟩
  | 42 => ⟨S1x4096x4, .f32⟩
  | 43 => ⟨S1x4096x4x1, .f32⟩
  | 44 => ⟨S_, .f32⟩
  | 45 => ⟨S1x4096x4x1, .f32⟩
  | 46 => ⟨S1x4096x4x1, .f32⟩
  | 47 => ⟨S1x4096x4x128, .f32⟩
  | 48 => ⟨S1x4096x4x128, .f32⟩
  | 49 => ⟨S_, .f32⟩
  | 50 => ⟨S1x4096x4x1, .f32⟩
  | 51 => ⟨S1x4096x4x1, .f32⟩
  | 52 => ⟨S1x4096x4x1, .f32⟩
  | 53 => ⟨S1x4096x4x1, .f32⟩
  | 54 => ⟨S_, .f32⟩
  | 55 => ⟨S1x4096x4x1, .f32⟩
  | 56 => ⟨S1x4096x4x1, .f32⟩
  | 57 => ⟨S1x4096x4x128, .f32⟩
  | 58 => ⟨S1x4096x4x128, .f32⟩
  | 59 => ⟨S1x4096x512, .f32⟩
  | 60 => ⟨S512, .f32⟩
  | 61 => ⟨S1x1x512, .f32⟩
  | 62 => ⟨S1x4096x512, .f32⟩
  | 63 => ⟨S1x4096x512, .f32⟩
  | 64 => ⟨S1x4096x512, .f32⟩
  | 65 => ⟨S1x4096x512, .f32⟩
  | 66 => ⟨S_, .f32⟩
  | 67 => ⟨S1x4096x512, .f32⟩
  | 68 => ⟨S1x4096x512, .f32⟩
  | 69 => ⟨S_, .f32⟩
  | 70 => ⟨S1x4096x512, .f32⟩
  | 71 => ⟨S1x4096x512, .f32⟩
  | 72 => ⟨S_, .f32⟩
  | 73 => ⟨S1x4096x512, .f32⟩
  | 74 => ⟨S1x4096x512, .f32⟩
  | 75 => ⟨S1x4096x512, .f32⟩
  | 76 => ⟨S1x4096x512, .f32⟩
  | 77 => ⟨S1x4096x512, .f32⟩
  | 78 => ⟨S1x4096x2048, .f32⟩
  | 79 => ⟨S1x4096x2048, .f32⟩
  | 80 => ⟨S_, .f32⟩
  | 81 => ⟨S1x4096x2048, .f32⟩
  | 82 => ⟨S1x4096x2048, .f32⟩
  | 83 => ⟨S_, .f32⟩
  | 84 => ⟨S1x4096x2048, .f32⟩
  | 85 => ⟨S1x4096x2048, .f32⟩
  | 86 => ⟨S_, .f32⟩
  | 87 => ⟨S1x4096x2048, .f32⟩
  | 88 => ⟨S1x4096x2048, .f32⟩
  | 89 => ⟨S1x4096x2048, .f32⟩
  | 90 => ⟨S1x4096x1024, .f32⟩
  | 91 => ⟨S1x4096x1024, .f32⟩
  | 92 => ⟨S512x1024, .f32⟩
  | 93 => ⟨S1x4096x1024, .f32⟩
  | 94 => ⟨S1x4096x1024, .f32⟩
  | 95 => ⟨S512x1024, .f32⟩
  | 96 => ⟨S1x4096x1024, .f32⟩
  | 97 => ⟨S1x4096x1024, .f32⟩
  | 98 => ⟨S1x4096x1024, .f32⟩
  | 99 => ⟨S1024x1024, .f32⟩
  | 100 => ⟨S1x4096x1024, .f32⟩
  | 101 => ⟨S1024, .f32⟩
  | 102 => ⟨S1x4096x1024, .f32⟩
  | 103 => ⟨S_, .f32⟩
  | 104 => ⟨S1x4096, .f32⟩
  | 105 => ⟨S1x4096x1, .f32⟩
  | 106 => ⟨S_, .f32⟩
  | 107 => ⟨S1x4096x1, .f32⟩
  | 108 => ⟨S1x4096x1, .f32⟩
  | 109 => ⟨S_, .f32⟩
  | 110 => ⟨S1x4096x1, .f32⟩
  | 111 => ⟨S1x4096x1, .f32⟩
  | 112 => ⟨S1x4096x1, .f32⟩
  | 113 => ⟨S1x4096x1, .f32⟩
  | 114 => ⟨S_, .f32⟩
  | 115 => ⟨S1x4096x1, .f32⟩
  | 116 => ⟨S1x4096x1, .f32⟩
  | 117 => ⟨S1x4096x1024, .f32⟩
  | 118 => ⟨S1x4096x1024, .f32⟩
  | 119 => ⟨S1x1x1024, .f32⟩
  | 120 => ⟨S1x4096x1024, .f32⟩
  | 121 => ⟨S1x4096x1024, .f32⟩
  | 122 => ⟨S1x1x1024, .f32⟩
  | 123 => ⟨S1x4096x1024, .f32⟩
  | 124 => ⟨S1x4096x1024, .f32⟩
  | 125 => ⟨S1x4096x1024, .f32⟩
  | 126 => ⟨S1x4096x1024, .f32⟩
  | 127 => ⟨S1x4096x1024, .f32⟩
  | _ => ⟨S1x4096x1024, .f32⟩

abbrev hbmTy0_1 (i : Nat) : BufTy := match i % 128 with
  | 0 => ⟨S_, .f32⟩
  | 1 => ⟨S1x4096x1024, .f32⟩
  | 2 => ⟨S1x4096x1024, .f32⟩
  | 3 => ⟨S_, .f32⟩
  | 4 => ⟨S1x4096, .f32⟩
  | 5 => ⟨S_, .f32⟩
  | 6 => ⟨S1x4096, .f32⟩
  | 7 => ⟨S1x4096, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S1x4096, .f32⟩
  | 16 => ⟨S_, .f32⟩
  | 17 => ⟨S1x4096, .f32⟩
  | 18 => ⟨S1x4096, .f32⟩
  | 19 => ⟨S1x4096x1024, .f32⟩
  | 20 => ⟨S1x4096x1024, .f32⟩
  | 21 => ⟨S1x4096x1024, .f32⟩
  | 22 => ⟨S1x4096x1024, .f32⟩
  | 23 => ⟨S1x4096x1024, .f32⟩
  | 24 => ⟨S_, .f32⟩
  | 25 => ⟨S1x1024, .f32⟩
  | 26 => ⟨S1x1x1024, .f32⟩
  | 27 => ⟨S_, .f32⟩
  | 28 => ⟨S1024, .f32⟩
  | 29 => ⟨S1x1024, .f32⟩
  | 30 => ⟨S1x4096x1024, .f32⟩
  | 31 => ⟨S_, .f32⟩
  | 32 => ⟨S1x1024, .f32⟩
  | 33 => ⟨S1x1x1024, .f32⟩
  | 34 => ⟨S1x4096x1024, .f32⟩
  | 35 => ⟨S1x4096x1024, .f32⟩
  | 36 => ⟨S_, .f32⟩
  | 37 => ⟨S1024, .f32⟩
  | 38 => ⟨S1x4096x1024, .f32⟩
  | 39 => ⟨S_, .f32⟩
  | 40 => ⟨S1x4096, .f32⟩
  | 41 => ⟨S1x4096x1, .f32⟩
  | 42 => ⟨S1x4096x1024, .f32⟩
  | 43 => ⟨S1x4096x1024, .f32⟩
  | 44 => ⟨S1x4096x1, .f32⟩
  | 45 => ⟨S_, .f32⟩
  | 46 => ⟨S1x4096x1, .f32⟩
  | 47 => ⟨S1x4096x1, .f32⟩
  | 48 => ⟨S_, .f32⟩
  | 49 => ⟨S4096, .f32⟩
  | 50 => ⟨S1x4096, .f32⟩
  | 51 => ⟨S1x4096x1024, .f32⟩
  | 52 => ⟨S1x4096x1024, .f32⟩
  | 53 => ⟨S1x4096x1024, .f32⟩
  | 54 => ⟨S1x4096x1024, .f32⟩
  | 55 => ⟨S1x4096x1024, .f32⟩
  | 56 => ⟨S1x1024, .f32⟩
  | 57 => ⟨S1024x1024, .f32⟩
  | 58 => ⟨S1024x1024, .f32⟩
  | 59 => ⟨S1x4096x1024, .f32⟩
  | 60 => ⟨S1x1024x1024, .f32⟩
  | 61 => ⟨S1x4096x1024, .f32⟩
  | 62 => ⟨S1x4096x1024, .f32⟩
  | 63 => ⟨S1024x512, .f32⟩
  | 64 => ⟨S512x1024, .f32⟩
  | 65 => ⟨S1x4096x512, .f32⟩
  | 66 => ⟨S1x512x1024, .f32⟩
  | 67 => ⟨S1x4096x1024, .f32⟩
  | 68 => ⟨S1x4096x1024, .f32⟩
  | 69 => ⟨S1024x512, .f32⟩
  | 70 => ⟨S512x1024, .f32⟩
  | 71 => ⟨S1x4096x512, .f32⟩
  | 72 => ⟨S1x512x1024, .f32⟩
  | 73 => ⟨S1x4096x2048, .f32⟩
  | 74 => ⟨S1x4096x2048, .f32⟩
  | 75 => ⟨S1x4096x512, .f32⟩
  | 76 => ⟨S1x4096x512, .f32⟩
  | 77 => ⟨S1x4096x512, .f32⟩
  | 78 => ⟨S1x4096x512, .f32⟩
  | 79 => ⟨S1x4096x512, .f32⟩
  | 80 => ⟨S1x4096x512, .f32⟩
  | 81 => ⟨S1x4096x512, .f32⟩
  | 82 => ⟨S_, .f32⟩
  | 83 => ⟨S1x512, .f32⟩
  | 84 => ⟨S1x1x512, .f32⟩
  | 85 => ⟨S1x4096x512, .f32⟩
  | 86 => ⟨S1x4096x512, .f32⟩
  | 87 => ⟨S_, .f32⟩
  | 88 => ⟨S512, .f32⟩
  | 89 => ⟨S1x512, .f32⟩
  | 90 => ⟨S1x4096x4x128, .f32⟩
  | 91 => ⟨S1x4096x4x128, .f32⟩
  | 92 => ⟨S_, .f32⟩
  | 93 => ⟨S1x4096x4, .f32⟩
  | 94 => ⟨S1x4096x4x1, .f32⟩
  | 95 => ⟨S1x4096x4x128, .f32⟩
  | 96 => ⟨S1x4096x4x128, .f32⟩
  | 97 => ⟨S1x4096x4x1, .f32⟩
  | 98 => ⟨S1x4096x4x128, .f32⟩
  | 99 => ⟨S_, .f32⟩
  | 100 => ⟨S1x4096x4, .f32⟩
  | 101 => ⟨S1x4096x4x1, .f32⟩
  | 102 => ⟨S_, .f32⟩
  | 103 => ⟨S1x4096x4x1, .f32⟩
  | 104 => ⟨S1x4096x4x1, .f32⟩
  | 105 => ⟨S_, .f32⟩
  | 106 => ⟨S4096x4, .f32⟩
  | 107 => ⟨S1x4096x4, .f32⟩
  | 108 => ⟨S1x4096x4x128, .f32⟩
  | 109 => ⟨S1x4096x4x128, .f32⟩
  | 110 => ⟨S1x4096x4x128, .f32⟩
  | 111 => ⟨S_, .f32⟩
  | 112 => ⟨S1x4096x4, .f32⟩
  | 113 => ⟨S1x4096x4x1, .f32⟩
  | 114 => ⟨S1x4096x4x128, .f32⟩
  | 115 => ⟨S1x4096x4x1, .f32⟩
  | 116 => ⟨S_, .f32⟩
  | 117 => ⟨S1x4096x4x1, .f32⟩
  | 118 => ⟨S1x4096x4x1, .f32⟩
  | 119 => ⟨S_, .f32⟩
  | 120 => ⟨S4096x4, .f32⟩
  | 121 => ⟨S1x4096x4, .f32⟩
  | 122 => ⟨S1x4096x4x128, .f32⟩
  | 123 => ⟨S1x4096x4x128, .f32⟩
  | 124 => ⟨S1x4096x512, .f32⟩
  | 125 => ⟨S1x4096x512, .f32⟩
  | 126 => ⟨S1x4096x512, .f32⟩
  | 127 => ⟨S1x4096x512, .f32⟩
  | _ => ⟨S1x4096x1024, .f32⟩

abbrev hbmTy0_2 (i : Nat) : BufTy := match i % 128 with
  | 0 => ⟨S1x4096x512, .f32⟩
  | 1 => ⟨S1x4096x512, .f32⟩
  | 2 => ⟨S1x4096x512, .f32⟩
  | 3 => ⟨S4096x8x64, .f32⟩
  | 4 => ⟨S_, .f32⟩
  | 5 => ⟨S4096x8, .f32⟩
  | 6 => ⟨S8x4096, .f32⟩
  | 7 => ⟨S4096x1024, .f32⟩
  | 8 => ⟨S4096x512, .f32⟩
  | 9 => ⟨S4096x512, .bf16⟩
  | 10 => ⟨S4096x512, .f32⟩
  | 11 => ⟨S4096x512, .bf16⟩
  | 12 => ⟨S4096x2048, .f32⟩
  | 13 => ⟨S4096x2048, .bf16⟩
  | 14 => ⟨S4096x512, .f32⟩
  | 15 => ⟨S4096x512, .bf16⟩
  | 16 => ⟨S4096x512, .f32⟩
  | 17 => ⟨S4096x512, .bf16⟩
  | 18 => ⟨S1024x1024, .f32⟩
  | 19 => ⟨S1024x1024, .bf16⟩
  | 20 => ⟨S512x1024, .f32⟩
  | 21 => ⟨S1024x512, .f32⟩
  | 22 => ⟨S512x1024, .f32⟩
  | 23 => ⟨S1024x512, .f32⟩
  | 24 => ⟨S1024x1024, .f32⟩
  | 25 => ⟨S1024x1024, .bf16⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v4_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v4_1 : Ref sig .tc := ⟨.hbm, 26, rfl⟩
abbrev main_v4_0 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_5 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_v34_2 : Ref sig .tc := ⟨.hbm, 71, rfl⟩
abbrev main_call1_cst_1 : Ref sig .tc := ⟨.hbm, 72, rfl⟩
abbrev main_call1_v6 : Ref sig .tc := ⟨.hbm, 73, rfl⟩
abbrev main_call1_v7 : Ref sig .tc := ⟨.hbm, 74, rfl⟩
abbrev main_v34_1 : Ref sig .tc := ⟨.hbm, 75, rfl⟩
abbrev main_v34_0 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_6 : Ref sig .tc := ⟨.hbm, 80, rfl⟩
abbrev main_v38 : Ref sig .tc := ⟨.hbm, 81, rfl⟩
abbrev main_v39 : Ref sig .tc := ⟨.hbm, 82, rfl⟩
abbrev main_cst_7 : Ref sig .tc := ⟨.hbm, 83, rfl⟩
abbrev main_v40 : Ref sig .tc := ⟨.hbm, 84, rfl⟩
abbrev main_v41 : Ref sig .tc := ⟨.hbm, 85, rfl⟩
abbrev main_cst_8 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_9 : Ref sig .tc := ⟨.hbm, 103, rfl⟩
abbrev main_v58 : Ref sig .tc := ⟨.hbm, 104, rfl⟩
abbrev main_v59 : Ref sig .tc := ⟨.hbm, 105, rfl⟩
abbrev main_cst_10 : Ref sig .tc := ⟨.hbm, 106, rfl⟩
abbrev main_v60 : Ref sig .tc := ⟨.hbm, 107, rfl⟩
abbrev main_v61 : Ref sig .tc := ⟨.hbm, 108, rfl⟩
abbrev main_cst_11 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_12 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_cst_13 : Ref sig .tc := ⟨.hbm, 128, rfl⟩
abbrev main_v79 : Ref sig .tc := ⟨.hbm, 129, rfl⟩
abbrev main_v80 : Ref sig .tc := ⟨.hbm, 130, rfl⟩
abbrev main_cst_14 : Ref sig .tc := ⟨.hbm, 131, rfl⟩
abbrev main_v81 : Ref sig .tc := ⟨.hbm, 132, rfl⟩
abbrev main_cst_15 : Ref sig .tc := ⟨.hbm, 133, rfl⟩
abbrev main_v82 : Ref sig .tc := ⟨.hbm, 134, rfl⟩
abbrev main_v83 : Ref sig .tc := ⟨.hbm, 135, rfl⟩
abbrev main_cst_16 : Ref sig .tc := ⟨.hbm, 136, rfl⟩
abbrev main_v84 : Ref sig .tc := ⟨.hbm, 137, rfl⟩
abbrev main_cst_17 : Ref sig .tc := ⟨.hbm, 138, rfl⟩
abbrev main_v85 : Ref sig .tc := ⟨.hbm, 139, rfl⟩
abbrev main_cst_18 : Ref sig .tc := ⟨.hbm, 140, rfl⟩
abbrev main_cst_19 : Ref sig .tc := ⟨.hbm, 141, rfl⟩
abbrev main_v86 : Ref sig .tc := ⟨.hbm, 142, rfl⟩
abbrev main_v87 : Ref sig .tc := ⟨.hbm, 143, rfl⟩
abbrev main_cst_20 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_21 : Ref sig .tc := ⟨.hbm, 152, rfl⟩
abbrev main_v95 : Ref sig .tc := ⟨.hbm, 153, rfl⟩
abbrev main_v96 : Ref sig .tc := ⟨.hbm, 154, rfl⟩
abbrev main_cst_22 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_23 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_24 : Ref sig .tc := ⟨.hbm, 164, rfl⟩
abbrev main_v104 : Ref sig .tc := ⟨.hbm, 165, rfl⟩
abbrev main_v105 : Ref sig .tc := ⟨.hbm, 166, rfl⟩
abbrev main_cst_25 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_cst_26 : Ref sig .tc := ⟨.hbm, 173, rfl⟩
abbrev main_v111 : Ref sig .tc := ⟨.hbm, 174, rfl⟩
abbrev main_v112 : Ref sig .tc := ⟨.hbm, 175, rfl⟩
abbrev main_cst_27 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_call2_v0 : Ref sig .tc := ⟨.hbm, 205, rfl⟩
abbrev main_call2_v1 : Ref sig .tc := ⟨.hbm, 206, rfl⟩
abbrev main_call2_v2 : Ref sig .tc := ⟨.hbm, 207, rfl⟩
abbrev main_v141 : Ref sig .tc := ⟨.hbm, 208, rfl⟩
abbrev main_v142 : Ref sig .tc := ⟨.hbm, 209, rfl⟩
abbrev main_cst_28 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_29 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_cst_30 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_cst_31 : Ref sig .tc := ⟨.hbm, 227, rfl⟩
abbrev main_v157 : Ref sig .tc := ⟨.hbm, 228, rfl⟩
abbrev main_v158 : Ref sig .tc := ⟨.hbm, 229, rfl⟩
abbrev main_cst_32 : Ref sig .tc := ⟨.hbm, 230, rfl⟩
abbrev main_v159 : Ref sig .tc := ⟨.hbm, 231, rfl⟩
abbrev main_v160 : Ref sig .tc := ⟨.hbm, 232, rfl⟩
abbrev main_cst_33 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_cst_34 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_cst_35 : Ref sig .tc := ⟨.hbm, 244, rfl⟩
abbrev main_v170 : Ref sig .tc := ⟨.hbm, 245, rfl⟩
abbrev main_v171 : Ref sig .tc := ⟨.hbm, 246, rfl⟩
abbrev main_cst_36 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_call3_v0 : Ref sig .tc := ⟨.hbm, 254, rfl⟩
abbrev main_call3_v1 : Ref sig .tc := ⟨.hbm, 255, rfl⟩
abbrev main_call3_v2 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_cst_37 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩

abbrev nD : Nat := 1
abbrev τ : Topo := Topo.v7x

variable {F : FTy → Type} [FloatOps F]
-- ==== RetBwd.lean ====
abbrev S4096x256 : Shape := ⟨2, ![4096, 256]⟩
abbrev S4096x512 : Shape := ⟨2, ![4096, 512]⟩
abbrev S16x4x128x128 : Shape := ⟨4, ![16, 4, 128, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S_ : Shape := ⟨0, ![]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S8 : Shape := ⟨1, ![8]⟩
abbrev S8x1 : Shape := ⟨2, ![8, 1]⟩
abbrev S8x128 : Shape := ⟨2, ![8, 128]⟩
abbrev S1024x256 : Shape := ⟨2, ![1024, 256]⟩
abbrev S1024x512 : Shape := ⟨2, ![1024, 512]⟩
abbrev S4x4x128x128 : Shape := ⟨4, ![4, 4, 128, 128]⟩
abbrev S256x128 : Shape := ⟨2, ![256, 128]⟩
abbrev S1x1x128x128 : Shape := ⟨4, ![1, 1, 128, 128]⟩
abbrev S128x128 : Shape := ⟨2, ![128, 128]⟩
abbrev S1x256x128 : Shape := ⟨3, ![1, 256, 128]⟩
abbrev S1x128 : Shape := ⟨2, ![1, 128]⟩
abbrev S128 : Shape := ⟨1, ![128]⟩

abbrev nBuf : Space → Nat
  | .hbm => 141
  | .vmem => 31
  | .smem => 0
  | _ => 0

abbrev hbmTy0_0 (i : Nat) : BufTy := match i % 128 with
  | 0 => ⟨S4096x256, .bf16⟩
  | 1 => ⟨S4096x256, .bf16⟩
  | 2 => ⟨S4096x512, .bf16⟩
  | 3 => ⟨S4096x512, .bf16⟩
  | 4 => ⟨S16x4x128x128, .bf16⟩
  | 5 => ⟨S16x4x128x128, .bf16⟩
  | 6 => ⟨S16x4x128x128, .bf16⟩
  | 7 => ⟨S16x4x128x128, .bf16⟩
  | 8 => ⟨S4, .f32⟩
  | 9 => ⟨S4, .f32⟩
  | 10 => ⟨S256, .f32⟩
  | 11 => ⟨S256x1, .f32⟩
  | 12 => ⟨S1x256, .f32⟩
  | 13 => ⟨S256x256, .f32⟩
  | 14 => ⟨S256x256, .f32⟩
  | 15 => ⟨S256x256, .f32⟩
  | 16 => ⟨S4x1x1, .f32⟩
  | 17 => ⟨S4x1x1, .f32⟩
  | 18 => ⟨S_, .f32⟩
  | 19 => ⟨S256x256, .f32⟩
  | 20 => ⟨S256x256, .i1⟩
  | 21 => ⟨S1x256x256, .i1⟩
  | 22 => ⟨S_, .f32⟩
  | 23 => ⟨S256x256, .f32⟩
  | 24 => ⟨S256x256, .i1⟩
  | 25 => ⟨S1x256x256, .i1⟩
  | 26 => ⟨S_, .f32⟩
  | 27 => ⟨S256x256, .f32⟩
  | 28 => ⟨S256x256, .f32⟩
  | 29 => ⟨S1x256x256, .f32⟩
  | 30 => ⟨S4x256x256, .f32⟩
  | 31 => ⟨S4x256x256, .f32⟩
  | 32 => ⟨S4x256x256, .f32⟩
  | 33 => ⟨S4x256x256, .f32⟩
  | 34 => ⟨S256x256, .f32⟩
  | 35 => ⟨S_, .f32⟩
  | 36 => ⟨S256x256, .f32⟩
  | 37 => ⟨S256x256, .f32⟩
  | 38 => ⟨S1x256x256, .f32⟩
  | 39 => ⟨S4x256x256, .f32⟩
  | 40 => ⟨S4x256x256, .f32⟩
  | 41 => ⟨S4x256x256, .f32⟩
  | 42 => ⟨S4x256x256, .f32⟩
  | 43 => ⟨S4x256x256, .i1⟩
  | 44 => ⟨S4x256x256, .f32⟩
  | 45 => ⟨S1x256x256, .f32⟩
  | 46 => ⟨S_, .f32⟩
  | 47 => ⟨S256x256, .f32⟩
  | 48 => ⟨S256x256, .f32⟩
  | 49 => ⟨S1x256x256, .f32⟩
  | 50 => ⟨S4x256x256, .f32⟩
  | 51 => ⟨S4x256x256, .f32⟩
  | 52 => ⟨S4x256x256, .f32⟩
  | 53 => ⟨S4x256x256, .f32⟩
  | 54 => ⟨S4x256x256, .f32⟩
  | 55 => ⟨S4x256x256, .f32⟩
  | 56 => ⟨S_, .f32⟩
  | 57 => ⟨S_, .f32⟩
  | 58 => ⟨S4x256x256, .i1⟩
  | 59 => ⟨S4x256x256, .f32⟩
  | 60 => ⟨S4x256x256, .f32⟩
  | 61 => ⟨S1x256x256, .f32⟩
  | 62 => ⟨S1x256x256, .f32⟩
  | 63 => ⟨S256x256, .f32⟩
  | 64 => ⟨S_, .f32⟩
  | 65 => ⟨S256x256, .f32⟩
  | 66 => ⟨S256x256, .f32⟩
  | 67 => ⟨S1x256x256, .f32⟩
  | 68 => ⟨S4x256x256, .f32⟩
  | 69 => ⟨S4x256x256, .f32⟩
  | 70 => ⟨S4x256x256, .f32⟩
  | 71 => ⟨S4x256x256, .f32⟩
  | 72 => ⟨S4x256x256, .f32⟩
  | 73 => ⟨S4x256x256, .f32⟩
  | 74 => ⟨S_, .f32⟩
  | 75 => ⟨S_, .f32⟩
  | 76 => ⟨S4x256x256, .i1⟩
  | 77 => ⟨S4x256x256, .f32⟩
  | 78 => ⟨S4x256x256, .f32⟩
  | 79 => ⟨S4x1, .f32⟩
  | 80 => ⟨S_, .f32⟩
  | 81 => ⟨S256, .f32⟩
  | 82 => ⟨S256, .f32⟩
  | 83 => ⟨S1x256, .f32⟩
  | 84 => ⟨S4x256, .f32⟩
  | 85 => ⟨S4x256, .f32⟩
  | 86 => ⟨S4x256, .f32⟩
  | 87 => ⟨S4x256, .f32⟩
  | 88 => ⟨S4x256x1, .f32⟩
  | 89 => ⟨S4x256x128, .f32⟩
  | 90 => ⟨S4x1, .f32⟩
  | 91 => ⟨S_, .f32⟩
  | 92 => ⟨S256, .f32⟩
  | 93 => ⟨S256, .f32⟩
  | 94 => ⟨S1x256, .f32⟩
  | 95 => ⟨S4x256, .f32⟩
  | 96 => ⟨S4x256, .f32⟩
  | 97 => ⟨S4x256, .f32⟩
  | 98 => ⟨S4x256, .f32⟩
  | 99 => ⟨S4x256x1, .f32⟩
  | 100 => ⟨S4x256x128, .f32⟩
  | 101 => ⟨S4x1, .f32⟩
  | 102 => ⟨S_, .f32⟩
  | 103 => ⟨S256, .f32⟩
  | 104 => ⟨S256, .f32⟩
  | 105 => ⟨S1x256, .f32⟩
  | 106 => ⟨S4x256, .f32⟩
  | 107 => ⟨S4x256, .f32⟩
  | 108 => ⟨S4x256, .f32⟩
  | 109 => ⟨S4x256, .f32⟩
  | 110 => ⟨S4x256x1, .f32⟩
  | 111 => ⟨S4x256x128, .f32⟩
  | 112 => ⟨S4x1, .f32⟩
  | 113 => ⟨S1x256, .f32⟩
  | 114 => ⟨S4x256, .f32⟩
  | 115 => ⟨S4x256, .f32⟩
  | 116 => ⟨S4x256, .f32⟩
  | 117 => ⟨S4x256, .f32⟩
  | 118 => ⟨S4x256x1, .f32⟩
  | 119 => ⟨S4x256x128, .f32⟩
  | 120 => ⟨S_, .f32⟩
  | 121 => ⟨S4, .f32⟩
  | 122 => ⟨S4, .f32⟩
  | 123 => ⟨S4, .f32⟩
  | 124 => ⟨S_, .f32⟩
  | 125 => ⟨S4, .f32⟩
  | 126 => ⟨S4, .f32⟩
  | 127 => ⟨S4, .f32⟩
  | _ => ⟨S4096x256, .bf16⟩

abbrev hbmTy0_1 (i : Nat) : BufTy := match i % 128 with
  | 0 => ⟨S8, .f32⟩
  | 1 => ⟨S8x1, .f32⟩
  | 2 => ⟨S8x128, .f32⟩
  | 3 => ⟨S8, .f32⟩
  | 4 => ⟨S8x1, .f32⟩
  | 5 => ⟨S8x128, .f32⟩
  | 6 => ⟨S_, .f32⟩
  | 7 => ⟨S8x128, .f32⟩
  | 8 => ⟨S8x128, .f32⟩
  | 9 => ⟨S4096x256, .f32⟩
  | 10 => ⟨S4096x256, .f32⟩
  | 11 => ⟨S4096x512, .bf16⟩
  | 12 => ⟨S8x128, .f32⟩
  | _ => ⟨S4096x256, .bf16⟩

abbrev hbmTy (i : Nat) : BufTy := match i / 128 with
  | 0 => hbmTy0_0 i
  | 1 => hbmTy0_1 i
  | _ => ⟨S4096x256, .bf16⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S4x4x128x128, .bf16⟩
  | .local _ .vmem, ⟨9, _⟩ => ⟨S4x4x128x128, .bf16⟩
  | .local _ .vmem, ⟨10, _⟩ => ⟨S4x4x128x128, .bf16⟩
  | .local _ .vmem, ⟨11, _⟩ => ⟨S4x4x128x128, .bf16⟩
  | .local _ .vmem, ⟨12, _⟩ => ⟨S4x4x128x128, .bf16⟩
  | .local _ .vmem, ⟨13, _⟩ => ⟨S4x4x128x128, .bf16⟩
  | .local _ .vmem, ⟨14, _⟩ => ⟨S4x4x128x128, .bf16⟩
  | .local _ .vmem, ⟨15, _⟩ => ⟨S4x4x128x128, .bf16⟩
  | .local _ .vmem, ⟨16, _⟩ => ⟨S4x256x256, .f32⟩
  | .local _ .vmem, ⟨17, _⟩ => ⟨S4x256x256, .f32⟩
  | .local _ .vmem, ⟨18, _⟩ => ⟨S4x256x256, .f32⟩
  | .local _ .vmem, ⟨19, _⟩ => ⟨S4x256x128, .f32⟩
  | .local _ .vmem, ⟨20, _⟩ => ⟨S4x256x128, .f32⟩
  | .local _ .vmem, ⟨21, _⟩ => ⟨S4x256x128, .f32⟩
  | .local _ .vmem, ⟨22, _⟩ => ⟨S4x256x128, .f32⟩
  | .local _ .vmem, ⟨23, _⟩ => ⟨S8x128, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x512, .bf16⟩
  | .local _ .vmem, ⟨29, _⟩ => ⟨S1024x512, .bf16⟩
  | .local _ .vmem, ⟨30, _⟩ => ⟨S8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_8 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_9 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_10 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_11 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_12 : Ref sig .tc := ⟨.hbm, 134, rfl⟩
abbrev main_v104 : Ref sig .tc := ⟨.hbm, 135, rfl⟩
abbrev main_v105 : Ref sig .tc := ⟨.hbm, 136, rfl⟩
abbrev main_v106_0 : Ref sig .tc := ⟨.hbm, 137, rfl⟩
abbrev main_v106_1 : Ref sig .tc := ⟨.hbm, 138, rfl⟩
abbrev main_v106_2 : Ref sig .tc := ⟨.hbm, 139, rfl⟩
abbrev main_v106_3 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c4_i32 : BitVec 32 := 4#32
  let v6 : BitVec 32 := Scalar.addi c0_i32_1 c4_i32
  let c1_i32 : BitVec 32 := 1#32
  ⟨c0_i32_1, v6, c1_i32⟩
def k0_mult1 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c256_i32 : BitVec 32 := 256#32
  let v7 : BitVec 32 := Scalar.muli arg21 c256_i32
  v7
def k0_off1 (k0_t1 : Fin k0_t1_loop.trips) : Fin 2 → Nat :=
  let c0_i32_1 : BitVec 32 := 0#32
  let c1_i32 : BitVec 32 := 1#32
  let arg21 : BitVec 32 := Scf.iv c0_i32_1 c1_i32 k0_t1
  let c256_i32 : BitVec 32 := 256#32
  let v7 : BitVec 32 := Scalar.muli arg21 c256_i32
  let v8 : BitVec 32 := v7
  let v9 : Index := Scalar.indexCast v8
  let c0 : Index := 0#32
  ![v9.toNat, 0]
def k0_off2 (k0_t1 : Fin k0_t1_loop.trips) : Fin 2 → Nat :=
  let c0_i32_1 : BitVec 32 := 0#32
  let c1_i32 : BitVec 32 := 1#32
  let arg21 : BitVec 32 := Scf.iv c0_i32_1 c1_i32 k0_t1
  let c256_i32 : BitVec 32 := 256#32
  let v7 : BitVec 32 := Scalar.muli arg21 c256_i32
  let v8 : BitVec 32 := v7
  let v22 : Index := Scalar.indexCast v8
  let c0_6 : Index := 0#32
  ![v22.toNat, 0]
def k0_off3 (k0_t1 : Fin k0_t1_loop.trips) : Fin 4 → Nat :=
  let c0_i32_1 : BitVec 32 := 0#32
  let c1_i32 : BitVec 32 := 1#32
  let arg21 : BitVec 32 := Scf.iv c0_i32_1 c1_i32 k0_t1
  let v26 : Index := Scalar.indexCast arg21
  let c0_8 : Index := 0#32
  let c0_9 : Index := 0#32
  let c0_10 : Index := 0#32
  ![v26.toNat, 0, 0, 0]
def k0_off4 (k0_t1 : Fin k0_t1_loop.trips) : Fin 2 → Nat :=
  let c0_i32_1 : BitVec 32 := 0#32
  let c1_i32 : BitVec 32 := 1#32
  let arg21 : BitVec 32 := Scf.iv c0_i32_1 c1_i32 k0_t1
  let c256_i32 : BitVec 32 := 256#32
  let v7 : BitVec 32 := Scalar.muli arg21 c256_i32
  let v8 : BitVec 32 := v7
  let v164 : Index := Scalar.indexCast v8
  let c128 : Index := 128#32
  ![v164.toNat, 128]
def k0_off5 (k0_t1 : Fin k0_t1_loop.trips) : Fin 4 → Nat :=
  let c0_i32_1 : BitVec 32 := 0#32
  let c1_i32 : BitVec 32 := 1#32
  let arg21 : BitVec 32 := Scf.iv c0_i32_1 c1_i32 k0_t1
  let v168 : Index := Scalar.indexCast arg21
  let c1 : Index := 1#32
  let c0_88 : Index := 0#32
  let c0_89 : Index := 0#32
  ![v168.toNat, 1, 0, 0]
def k0_off6 (k0_t1 : Fin k0_t1_loop.trips) : Fin 2 → Nat :=
  let c0_i32_1 : BitVec 32 := 0#32
  let c1_i32 : BitVec 32 := 1#32
  let arg21 : BitVec 32 := Scf.iv c0_i32_1 c1_i32 k0_t1
  let c256_i32 : BitVec 32 := 256#32
  let v7 : BitVec 32 := Scalar.muli arg21 c256_i32
  let v8 : BitVec 32 := v7
  let v305 : Index := Scalar.indexCast v8
  let c128_166 : Index := 128#32
  ![v305.toNat, 128]
def k0_off7 (k0_t1 : Fin k0_t1_loop.trips) : Fin 2 → Nat :=
  let c0_i32_1 : BitVec 32 := 0#32
  let c1_i32 : BitVec 32 := 1#32
  let arg21 : BitVec 32 := Scf.iv c0_i32_1 c1_i32 k0_t1
  let c256_i32 : BitVec 32 := 256#32
  let v7 : BitVec 32 := Scalar.muli arg21 c256_i32
  let v8 : BitVec 32 := v7
  let v318 : Index := Scalar.indexCast v8
  let c256 : Index := 256#32
  ![v318.toNat, 256]
def k0_off8 (k0_t1 : Fin k0_t1_loop.trips) : Fin 4 → Nat :=
  let c0_i32_1 : BitVec 32 := 0#32
  let c1_i32 : BitVec 32 := 1#32
  let arg21 : BitVec 32 := Scf.iv c0_i32_1 c1_i32 k0_t1
  let v322 : Index := Scalar.indexCast arg21
  let c2 : Index := 2#32
  let c0_173 : Index := 0#32
  let c0_174 : Index := 0#32
  ![v322.toNat, 2, 0, 0]
def k0_off9 (k0_t1 : Fin k0_t1_loop.trips) : Fin 2 → Nat :=
  let c0_i32_1 : BitVec 32 := 0#32
  let c1_i32 : BitVec 32 := 1#32
  let arg21 : BitVec 32 := Scf.iv c0_i32_1 c1_i32 k0_t1
  let c256_i32 : BitVec 32 := 256#32
  let v7 : BitVec 32 := Scalar.muli arg21 c256_i32
  let v8 : BitVec 32 := v7
  let v460 : Index := Scalar.indexCast v8
  let c384 : Index := 384#32
  ![v460.toNat, 384]
def k0_off10 (k0_t1 : Fin k0_t1_loop.trips) : Fin 4 → Nat :=
  let c0_i32_1 : BitVec 32 := 0#32
  let c1_i32 : BitVec 32 := 1#32
  let arg21 : BitVec 32 := Scf.iv c0_i32_1 c1_i32 k0_t1
  let v464 : Index := Scalar.indexCast arg21
  let c3 : Index := 3#32
  let c0_252 : Index := 0#32
  let c0_253 : Index := 0#32
  ![v464.toNat, 3, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== RetStates.lean ====
abbrev S4096x256 : Shape := ⟨2, ![4096, 256]⟩
abbrev S4096x512 : Shape := ⟨2, ![4096, 512]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S_ : Shape := ⟨0, ![]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x256x128 : Shape := ⟨3, ![4, 256, 128]⟩
abbrev S8 : Shape := ⟨1, ![8]⟩
abbrev S8x1 : Shape := ⟨2, ![8, 1]⟩
abbrev S8x128 : Shape := ⟨2, ![8, 128]⟩
abbrev S16x4x128x128 : Shape := ⟨4, ![16, 4, 128, 128]⟩
abbrev S1024x256 : Shape := ⟨2, ![1024, 256]⟩
abbrev S1024x512 : Shape := ⟨2, ![1024, 512]⟩
abbrev S4x4x128x128 : Shape := ⟨4, ![4, 4, 128, 128]⟩
abbrev S4x128x128 : Shape := ⟨3, ![4, 128, 128]⟩
abbrev S256x128 : Shape := ⟨2, ![256, 128]⟩
abbrev S1x128x128 : Shape := ⟨3, ![1, 128, 128]⟩
abbrev S128x128 : Shape := ⟨2, ![128, 128]⟩
abbrev S1x1x128x128 : Shape := ⟨4, ![1, 1, 128, 128]⟩
abbrev S1x256x128 : Shape := ⟨3, ![1, 256, 128]⟩
abbrev S1x128 : Shape := ⟨2, ![1, 128]⟩

abbrev nBuf : Space → Nat
  | .hbm => 130
  | .vmem => 17
  | .smem => 0
  | _ => 0

abbrev hbmTy0_0 (i : Nat) : BufTy := match i % 128 with
  | 0 => ⟨S4096x256, .bf16⟩
  | 1 => ⟨S4096x512, .bf16⟩
  | 2 => ⟨S4, .f32⟩
  | 3 => ⟨S4, .f32⟩
  | 4 => ⟨S256, .f32⟩
  | 5 => ⟨S256x1, .f32⟩
  | 6 => ⟨S1x256, .f32⟩
  | 7 => ⟨S256x256, .f32⟩
  | 8 => ⟨S256x256, .f32⟩
  | 9 => ⟨S256x256, .f32⟩
  | 10 => ⟨S4x1x1, .f32⟩
  | 11 => ⟨S4x1x1, .f32⟩
  | 12 => ⟨S_, .f32⟩
  | 13 => ⟨S256x256, .f32⟩
  | 14 => ⟨S256x256, .i1⟩
  | 15 => ⟨S1x256x256, .i1⟩
  | 16 => ⟨S_, .f32⟩
  | 17 => ⟨S256x256, .f32⟩
  | 18 => ⟨S256x256, .i1⟩
  | 19 => ⟨S1x256x256, .i1⟩
  | 20 => ⟨S_, .f32⟩
  | 21 => ⟨S256x256, .f32⟩
  | 22 => ⟨S256x256, .f32⟩
  | 23 => ⟨S1x256x256, .f32⟩
  | 24 => ⟨S4x256x256, .f32⟩
  | 25 => ⟨S4x256x256, .f32⟩
  | 26 => ⟨S4x256x256, .f32⟩
  | 27 => ⟨S4x256x256, .f32⟩
  | 28 => ⟨S256x256, .f32⟩
  | 29 => ⟨S_, .f32⟩
  | 30 => ⟨S256x256, .f32⟩
  | 31 => ⟨S256x256, .f32⟩
  | 32 => ⟨S1x256x256, .f32⟩
  | 33 => ⟨S4x256x256, .f32⟩
  | 34 => ⟨S4x256x256, .f32⟩
  | 35 => ⟨S4x256x256, .f32⟩
  | 36 => ⟨S4x256x256, .f32⟩
  | 37 => ⟨S4x256x256, .i1⟩
  | 38 => ⟨S4x256x256, .f32⟩
  | 39 => ⟨S1x256x256, .f32⟩
  | 40 => ⟨S_, .f32⟩
  | 41 => ⟨S256x256, .f32⟩
  | 42 => ⟨S256x256, .f32⟩
  | 43 => ⟨S1x256x256, .f32⟩
  | 44 => ⟨S4x256x256, .f32⟩
  | 45 => ⟨S4x256x256, .f32⟩
  | 46 => ⟨S4x256x256, .f32⟩
  | 47 => ⟨S4x256x256, .f32⟩
  | 48 => ⟨S4x256x256, .f32⟩
  | 49 => ⟨S4x256x256, .f32⟩
  | 50 => ⟨S_, .f32⟩
  | 51 => ⟨S_, .f32⟩
  | 52 => ⟨S4x256x256, .i1⟩
  | 53 => ⟨S4x256x256, .f32⟩
  | 54 => ⟨S4x256x256, .f32⟩
  | 55 => ⟨S1x256x256, .f32⟩
  | 56 => ⟨S1x256x256, .f32⟩
  | 57 => ⟨S256x256, .f32⟩
  | 58 => ⟨S_, .f32⟩
  | 59 => ⟨S256x256, .f32⟩
  | 60 => ⟨S256x256, .f32⟩
  | 61 => ⟨S1x256x256, .f32⟩
  | 62 => ⟨S4x256x256, .f32⟩
  | 63 => ⟨S4x256x256, .f32⟩
  | 64 => ⟨S4x256x256, .f32⟩
  | 65 => ⟨S4x256x256, .f32⟩
  | 66 => ⟨S4x256x256, .f32⟩
  | 67 => ⟨S4x256x256, .f32⟩
  | 68 => ⟨S_, .f32⟩
  | 69 => ⟨S_, .f32⟩
  | 70 => ⟨S4x256x256, .i1⟩
  | 71 => ⟨S4x256x256, .f32⟩
  | 72 => ⟨S4x256x256, .f32⟩
  | 73 => ⟨S4x1, .f32⟩
  | 74 => ⟨S_, .f32⟩
  | 75 => ⟨S256, .f32⟩
  | 76 => ⟨S256, .f32⟩
  | 77 => ⟨S1x256, .f32⟩
  | 78 => ⟨S4x256, .f32⟩
  | 79 => ⟨S4x256, .f32⟩
  | 80 => ⟨S4x256, .f32⟩
  | 81 => ⟨S4x256, .f32⟩
  | 82 => ⟨S4x256x1, .f32⟩
  | 83 => ⟨S4x256x128, .f32⟩
  | 84 => ⟨S4x1, .f32⟩
  | 85 => ⟨S_, .f32⟩
  | 86 => ⟨S256, .f32⟩
  | 87 => ⟨S256, .f32⟩
  | 88 => ⟨S1x256, .f32⟩
  | 89 => ⟨S4x256, .f32⟩
  | 90 => ⟨S4x256, .f32⟩
  | 91 => ⟨S4x256, .f32⟩
  | 92 => ⟨S4x256, .f32⟩
  | 93 => ⟨S4x256x1, .f32⟩
  | 94 => ⟨S4x256x128, .f32⟩
  | 95 => ⟨S4x1, .f32⟩
  | 96 => ⟨S_, .f32⟩
  | 97 => ⟨S256, .f32⟩
  | 98 => ⟨S256, .f32⟩
  | 99 => ⟨S1x256, .f32⟩
  | 100 => ⟨S4x256, .f32⟩
  | 101 => ⟨S4x256, .f32⟩
  | 102 => ⟨S4x256, .f32⟩
  | 103 => ⟨S4x256, .f32⟩
  | 104 => ⟨S4x256x1, .f32⟩
  | 105 => ⟨S4x256x128, .f32⟩
  | 106 => ⟨S4x1, .f32⟩
  | 107 => ⟨S1x256, .f32⟩
  | 108 => ⟨S4x256, .f32⟩
  | 109 => ⟨S4x256, .f32⟩
  | 110 => ⟨S4x256, .f32⟩
  | 111 => ⟨S4x256, .f32⟩
  | 112 => ⟨S4x256x1, .f32⟩
  | 113 => ⟨S4x256x128, .f32⟩
  | 114 => ⟨S_, .f32⟩
  | 115 => ⟨S4, .f32⟩
  | 116 => ⟨S4, .f32⟩
  | 117 => ⟨S4, .f32⟩
  | 118 => ⟨S_, .f32⟩
  | 119 => ⟨S4, .f32⟩
  | 120 => ⟨S4, .f32⟩
  | 121 => ⟨S4, .f32⟩
  | 122 => ⟨S8, .f32⟩
  | 123 => ⟨S8x1, .f32⟩
  | 124 => ⟨S8x128, .f32⟩
  | 125 => ⟨S8, .f32⟩
  | 126 => ⟨S8x1, .f32⟩
  | 127 => ⟨S8x128, .f32⟩
  | _ => ⟨S4096x256, .bf16⟩

abbrev hbmTy0_1 (i : Nat) : BufTy := match i % 128 with
  | 0 => ⟨S16x4x128x128, .bf16⟩
  | 1 => ⟨S16x4x128x128, .bf16⟩
  | _ => ⟨S4096x256, .bf16⟩

abbrev hbmTy (i : Nat) : BufTy := match i / 128 with
  | 0 => hbmTy0_0 i
  | 1 => hbmTy0_1 i
  | _ => ⟨S4096x256, .bf16⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x512, .bf16⟩
  | .local _ .vmem, ⟨7, _⟩ => ⟨S1024x512, .bf16⟩
  | .local _ .vmem, ⟨8, _⟩ => ⟨S4x256x128, .f32⟩
  | .local _ .vmem, ⟨9, _⟩ => ⟨S4x256x128, .f32⟩
  | .local _ .vmem, ⟨10, _⟩ => ⟨S8x128, .f32⟩
  | .local _ .vmem, ⟨11, _⟩ => ⟨S4x4x128x128, .bf16⟩
  | .local _ .vmem, ⟨12, _⟩ => ⟨S4x4x128x128, .bf16⟩
  | .local _ .vmem, ⟨13, _⟩ => ⟨S4x4x128x128, .bf16⟩
  | .local _ .vmem, ⟨14, _⟩ => ⟨S4x4x128x128, .bf16⟩
  | .local _ .vmem, ⟨15, _⟩ => ⟨S4x128x128, .f32⟩
  | .local _ .vmem, ⟨16, _⟩ => ⟨S4x128x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_call0_v0 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_9 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_10 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_11 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104_0 : Ref sig .tc := ⟨.hbm, 128, rfl⟩
abbrev main_v104_1 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def k0_mult1 : BitVec 32 :=
  let c0_i32_1 : BitVec 32 := 0#32
  let c256_i32 : BitVec 32 := 256#32
  let v5 : BitVec 32 := Scalar.muli c0_i32_1 c256_i32
  v5
def k0_off1 (c0_i32_1 : BitVec 32) : Fin 2 → Nat :=
  let c256_i32 : BitVec 32 := 256#32
  let v5 : BitVec 32 := Scalar.muli c0_i32_1 c256_i32
  let v6 : BitVec 32 := v5
  let v16 : Index := Scalar.indexCast v6
  let c0_7 : Index := 0#32
  ![v16.toNat, 0]
def k0_off2 (c0_i32_1 : BitVec 32) : Fin 2 → Nat :=
  let c256_i32 : BitVec 32 := 256#32
  let v5 : BitVec 32 := Scalar.muli c0_i32_1 c256_i32
  let v6 : BitVec 32 := v5
  let v31 : Index := Scalar.indexCast v6
  let c0_16 : Index := 0#32
  ![v31.toNat, 0]
def k0_off3 (c0_i32_1 : BitVec 32) : Fin 2 → Nat :=
  let c256_i32 : BitVec 32 := 256#32
  let v5 : BitVec 32 := Scalar.muli c0_i32_1 c256_i32
  let v6 : BitVec 32 := v5
  let v62 : Index := Scalar.indexCast v6
  let c128 : Index := 128#32
  ![v62.toNat, 128]
def k0_off4 (c0_i32_1 : BitVec 32) : Fin 2 → Nat :=
  let c256_i32 : BitVec 32 := 256#32
  let v5 : BitVec 32 := Scalar.muli c0_i32_1 c256_i32
  let v6 : BitVec 32 := v5
  let v78 : Index := Scalar.indexCast v6
  let c128_47 : Index := 128#32
  ![v78.toNat, 128]
def k0_off5 (c0_i32_1 : BitVec 32) : Fin 2 → Nat :=
  let c256_i32 : BitVec 32 := 256#32
  let v5 : BitVec 32 := Scalar.muli c0_i32_1 c256_i32
  let v6 : BitVec 32 := v5
  let v93 : Index := Scalar.indexCast v6
  let c256 : Index := 256#32
  ![v93.toNat, 256]
def k0_off6 (c0_i32_1 : BitVec 32) : Fin 2 → Nat :=
  let c256_i32 : BitVec 32 := 256#32
  let v5 : BitVec 32 := Scalar.muli c0_i32_1 c256_i32
  let v6 : BitVec 32 := v5
  let v124 : Index := Scalar.indexCast v6
  let c384 : Index := 384#32
  ![v124.toNat, 384]
def k0_mult2 : BitVec 32 :=
  let c3_i32 : BitVec 32 := 3#32
  let c0_i32_1 : BitVec 32 := 0#32
  let v4 : BitVec 32 := Scalar.subi c3_i32 c0_i32_1
  let c256_i32_81 : BitVec 32 := 256#32
  let v131 : BitVec 32 := Scalar.muli v4 c256_i32_81
  v131
def k0_off7 (c0_i32_1 : BitVec 32) : Fin 4 → Nat :=
  let c3_i32 : BitVec 32 := 3#32
  let v4 : BitVec 32 := Scalar.subi c3_i32 c0_i32_1
  let v138 : Index := Scalar.indexCast v4
  let c0_86 : Index := 0#32
  let c0_87 : Index := 0#32
  let c0_88 : Index := 0#32
  ![v138.toNat, 0, 0, 0]
def k0_off8 (c0_i32_1 : BitVec 32) : Fin 2 → Nat :=
  let c3_i32 : BitVec 32 := 3#32
  let v4 : BitVec 32 := Scalar.subi c3_i32 c0_i32_1
  let c256_i32_81 : BitVec 32 := 256#32
  let v131 : BitVec 32 := Scalar.muli v4 c256_i32_81
  let v132 : BitVec 32 := v131
  let v142 : Index := Scalar.indexCast v132
  let c0_89 : Index := 0#32
  ![v142.toNat, 0]
def k0_off9 (c0_i32_1 : BitVec 32) : Fin 2 → Nat :=
  let c3_i32 : BitVec 32 := 3#32
  let v4 : BitVec 32 := Scalar.subi c3_i32 c0_i32_1
  let c256_i32_81 : BitVec 32 := 256#32
  let v131 : BitVec 32 := Scalar.muli v4 c256_i32_81
  let v132 : BitVec 32 := v131
  let v157 : Index := Scalar.indexCast v132
  let c0_98 : Index := 0#32
  ![v157.toNat, 0]
def k0_off10 (c0_i32_1 : BitVec 32) : Fin 4 → Nat :=
  let c3_i32 : BitVec 32 := 3#32
  let v4 : BitVec 32 := Scalar.subi c3_i32 c0_i32_1
  let v169 : Index := Scalar.indexCast v4
  let c1_107 : Index := 1#32
  let c0_108 : Index := 0#32
  let c0_109 : Index := 0#32
  ![v169.toNat, 1, 0, 0]
def k0_off11 (c0_i32_1 : BitVec 32) : Fin 2 → Nat :=
  let c3_i32 : BitVec 32 := 3#32
  let v4 : BitVec 32 := Scalar.subi c3_i32 c0_i32_1
  let c256_i32_81 : BitVec 32 := 256#32
  let v131 : BitVec 32 := Scalar.muli v4 c256_i32_81
  let v132 : BitVec 32 := v131
  let v188 : Index := Scalar.indexCast v132
  let c128_119 : Index := 128#32
  ![v188.toNat, 128]
def k0_off12 (c0_i32_1 : BitVec 32) : Fin 4 → Nat :=
  let c3_i32 : BitVec 32 := 3#32
  let v4 : BitVec 32 := Scalar.subi c3_i32 c0_i32_1
  let v200 : Index := Scalar.indexCast v4
  let c2_128 : Index := 2#32
  let c0_129 : Index := 0#32
  let c0_130 : Index := 0#32
  ![v200.toNat, 2, 0, 0]
def k0_off13 (c0_i32_1 : BitVec 32) : Fin 2 → Nat :=
  let c3_i32 : BitVec 32 := 3#32
  let v4 : BitVec 32 := Scalar.subi c3_i32 c0_i32_1
  let c256_i32_81 : BitVec 32 := 256#32
  let v131 : BitVec 32 := Scalar.muli v4 c256_i32_81
  let v132 : BitVec 32 := v131
  let v204 : Index := Scalar.indexCast v132
  let c128_131 : Index := 128#32
  ![v204.toNat, 128]
def k0_off14 (c0_i32_1 : BitVec 32) : Fin 2 → Nat :=
  let c3_i32 : BitVec 32 := 3#32
  let v4 : BitVec 32 := Scalar.subi c3_i32 c0_i32_1
  let c256_i32_81 : BitVec 32 := 256#32
  let v131 : BitVec 32 := Scalar.muli v4 c256_i32_81
  let v132 : BitVec 32 := v131
  let v219 : Index := Scalar.indexCast v132
  let c256_140 : Index := 256#32
  ![v219.toNat, 256]
def k0_off15 (c0_i32_1 : BitVec 32) : Fin 4 → Nat :=
  let c3_i32 : BitVec 32 := 3#32
  let v4 : BitVec 32 := Scalar.subi c3_i32 c0_i32_1
  let v231 : Index := Scalar.indexCast v4
  let c3_149 : Index := 3#32
  let c0_150 : Index := 0#32
  let c0_151 : Index := 0#32
  ![v231.toNat, 3, 0, 0]
def k0_off16 (c0_i32_1 : BitVec 32) : Fin 2 → Nat :=
  let c3_i32 : BitVec 32 := 3#32
  let v4 : BitVec 32 := Scalar.subi c3_i32 c0_i32_1
  let c256_i32_81 : BitVec 32 := 256#32
  let v131 : BitVec 32 := Scalar.muli v4 c256_i32_81
  let v132 : BitVec 32 := v131
  let v250 : Index := Scalar.indexCast v132
  let c384_161 : Index := 384#32
  ![v250.toNat, 384]
def k0_mult3 : BitVec 32 :=
  let c1_i32 : BitVec 32 := 1#32
  let c256_i32_167 : BitVec 32 := 256#32
  let v258 : BitVec 32 := Scalar.muli c1_i32 c256_i32_167
  v258
def k0_mult4 : BitVec 32 :=
  let c3_i32_166 : BitVec 32 := 3#32
  let c1_i32 : BitVec 32 := 1#32
  let v257 : BitVec 32 := Scalar.subi c3_i32_166 c1_i32
  let c256_i32_256 : BitVec 32 := 256#32
  let v384 : BitVec 32 := Scalar.muli v257 c256_i32_256
  v384
def k0_mult5 : BitVec 32 :=
  let c2_i32 : BitVec 32 := 2#32
  let c256_i32_346 : BitVec 32 := 256#32
  let v511 : BitVec 32 := Scalar.muli c2_i32 c256_i32_346
  v511
def k0_mult6 : BitVec 32 :=
  let c3_i32_345 : BitVec 32 := 3#32
  let c2_i32 : BitVec 32 := 2#32
  let v510 : BitVec 32 := Scalar.subi c3_i32_345 c2_i32
  let c256_i32_435 : BitVec 32 := 256#32
  let v637 : BitVec 32 := Scalar.muli v510 c256_i32_435
  v637
def k0_mult7 : BitVec 32 :=
  let c3_i32_524 : BitVec 32 := 3#32
  let c256_i32_526 : BitVec 32 := 256#32
  let v764 : BitVec 32 := Scalar.muli c3_i32_524 c256_i32_526
  v764
def k0_mult8 : BitVec 32 :=
  let c3_i32_525 : BitVec 32 := 3#32
  let c3_i32_524 : BitVec 32 := 3#32
  let v763 : BitVec 32 := Scalar.subi c3_i32_525 c3_i32_524
  let c256_i32_615 : BitVec 32 := 256#32
  let v890 : BitVec 32 := Scalar.muli v763 c256_i32_615
  v890
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x4x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnFwd.lean ====
abbrev S1x4096x8x64 : Shape := ⟨4, ![1, 4096, 8, 64]⟩
abbrev S1x4096x2x64 : Shape := ⟨4, ![1, 4096, 2, 64]⟩
abbrev S_ : Shape := ⟨0, ![]⟩
abbrev S4096x512 : Shape := ⟨2, ![4096, 512]⟩
abbrev S4096x2x64 : Shape := ⟨3, ![4096, 2, 64]⟩
abbrev S4096x2x128 : Shape := ⟨3, ![4096, 2, 128]⟩
abbrev S2x4096x128 : Shape := ⟨3, ![2, 4096, 128]⟩
abbrev S8x4096 : Shape := ⟨2, ![8, 4096]⟩
abbrev S2048x256 : Shape := ⟨2, ![2048, 256]⟩
abbrev S1x4096x128 : Shape := ⟨3, ![1, 4096, 128]⟩
abbrev S8x2048 : Shape := ⟨2, ![8, 2048]⟩
abbrev S4x2048x128 : Shape := ⟨3, ![4, 2048, 128]⟩
abbrev S512x128 : Shape := ⟨2, ![512, 128]⟩
abbrev S1x1024x128 : Shape := ⟨3, ![1, 1024, 128]⟩
abbrev S1024x128 : Shape := ⟨2, ![1024, 128]⟩
abbrev S2048x128 : Shape := ⟨2, ![2048, 128]⟩
abbrev S512x2048 : Shape := ⟨2, ![512, 2048]⟩
abbrev S512x1024 : Shape := ⟨2, ![512, 1024]⟩
abbrev S1x512x128 : Shape := ⟨3, ![1, 512, 128]⟩
abbrev S512 : Shape := ⟨1, ![512]⟩
abbrev S512x1 : Shape := ⟨2, ![512, 1]⟩
abbrev S1x2048x128 : Shape := ⟨3, ![1, 2048, 128]⟩
abbrev S128x2048 : Shape := ⟨2, ![128, 2048]⟩
abbrev S1x2048 : Shape := ⟨2, ![1, 2048]⟩

abbrev nBuf : Space → Nat
  | .hbm => 19
  | .vmem => 13
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x2x64, .f32⟩
  | .hbm, ⟨2, _⟩ => ⟨S1x4096x2x64, .f32⟩
  | .hbm, ⟨3, _⟩ => ⟨S_, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .bf16⟩
  | .hbm, ⟨9, _⟩ => ⟨S4096x2x64, .f32⟩
  | .hbm, ⟨10, _⟩ => ⟨S4096x2x128, .f32⟩
  | .hbm, ⟨11, _⟩ => ⟨S4096x2x128, .bf16⟩
  | .hbm, ⟨12, _⟩ => ⟨S2x4096x128, .bf16⟩
  | .hbm, ⟨13, _⟩ => ⟨S4096x2x64, .f32⟩
  | .hbm, ⟨14, _⟩ => ⟨S4096x2x128, .f32⟩
  | .hbm, ⟨15, _⟩ => ⟨S4096x2x128, .bf16⟩
  | .hbm, ⟨16, _⟩ => ⟨S2x4096x128, .bf16⟩
  | .hbm, ⟨17, _⟩ => ⟨S4096x512, .f32⟩
  | .hbm, ⟨18, _⟩ => ⟨S8x4096, .f32⟩
  | .local _ .vmem, ⟨0, _⟩ => ⟨S2048x256, .bf16⟩
  | .local _ .vmem, ⟨1, _⟩ => ⟨S2048x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S2048x256, .f32⟩
  | .local _ .vmem, ⟨7, _⟩ => ⟨S2048x256, .f32⟩
  | .local _ .vmem, ⟨8, _⟩ => ⟨S8x2048, .f32⟩
  | .local _ .vmem, ⟨9, _⟩ => ⟨S8x2048, .f32⟩
  | .local _ .vmem, ⟨10, _⟩ => ⟨S4x2048x128, .f32⟩
  | .local _ .vmem, ⟨11, _⟩ => ⟨S4x2048x128, .f32⟩
  | .local _ .vmem, ⟨12, _⟩ => ⟨S2048x256, .f32⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13_0 : Ref sig .tc := ⟨.hbm, 17, rfl⟩
abbrev main_v13_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32 : BitVec 32 := 0#32
  let c4_i32 : BitVec 32 := 4#32
  let v15 : BitVec 32 := Scalar.addi c0_i32 c4_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v91 : BitVec 32 := Scalar.muli arg10 c1024_i32
  v91
def k0_off1 (k0_t1 : Fin k0_t1_loop.trips) : Fin 3 → Nat :=
  let c0_65 : Index := 0#32
  let c0_i32 : BitVec 32 := 0#32
  let c1_i32 : BitVec 32 := 1#32
  let arg10 : BitVec 32 := Scf.iv c0_i32 c1_i32 k0_t1
  let c1024_i32 : BitVec 32 := 1024#32
  let v91 : BitVec 32 := Scalar.muli arg10 c1024_i32
  let v92 : BitVec 32 := v91
  let v93 : Index := Scalar.indexCast v92
  let c0_66 : Index := 0#32
  ![0, v93.toNat, 0]
def k0_off2 (i : grid0.Coords) (c0_i32_35 : BitVec 32) : Fin 2 → Nat :=
  let c4_i32_34 : BitVec 32 := 4#32
  let arg1 : BitVec 32 := BitVec.ofNat 32 (i 1).val
  let v45 : BitVec 32 := Scalar.muli c4_i32_34 arg1
  let v46 : BitVec 32 := Scalar.addi v45 c0_i32_35
  let v47 : Index := Scalar.indexCast v46
  let c0_36 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AttnFwdIdeal.lean ====
variable {F : FTy → Type} [FloatOps F] [Named F]
def κ : String → Option EReal := fun
  | "log2e" => some (((Real.log 2)⁻¹ : ℝ) : EReal)
  | _ => none
-- ==== AttnFwdRefIdeal.lean ====
abbrev S1x4096x8x64 : Shape := ⟨4, ![1, 4096, 8, 64]⟩
abbrev S1x4096x2x64 : Shape := ⟨4, ![1, 4096, 2, 64]⟩
abbrev S1x4096x2x4x64 : Shape := ⟨5, ![1, 4096, 2, 4, 64]⟩
abbrev S1x2x4096x4096x4 : Shape := ⟨5, ![1, 2, 4096, 4096, 4]⟩
abbrev S1x2x4x4096x4096 : Shape := ⟨5, ![1, 2, 4, 4096, 4096]⟩
abbrev S_ : Shape := ⟨0, ![]⟩
abbrev S1x2x4x4096 : Shape := ⟨4, ![1, 2, 4, 4096]⟩
abbrev S1x2x4x4096x1 : Shape := ⟨5, ![1, 2, 4, 4096, 1]⟩
abbrev S1x2x64x4x4096 : Shape := ⟨5, ![1, 2, 64, 4, 4096]⟩
abbrev S1x4096x512 : Shape := ⟨3, ![1, 4096, 512]⟩
abbrev S4096x512 : Shape := ⟨2, ![4096, 512]⟩
abbrev S8x4096 : Shape := ⟨2, ![8, 4096]⟩

abbrev nBuf : Space → Nat
  | .hbm => 33
  | .vmem => 0
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x2x64, .f32⟩
  | .hbm, ⟨2, _⟩ => ⟨S1x4096x2x64, .f32⟩
  | .hbm, ⟨3, _⟩ => ⟨S1x4096x2x4x64, .f32⟩
  | .hbm, ⟨4, _⟩ => ⟨S1x2x4096x4096x4, .f32⟩
  | .hbm, ⟨5, _⟩ => ⟨S1x2x4x4096x4096, .f32⟩
  | .hbm, ⟨6, _⟩ => ⟨S_, .f32⟩
  | .hbm, ⟨7, _⟩ => ⟨S1x2x4x4096, .f32⟩
  | .hbm, ⟨8, _⟩ => ⟨S_, .f32⟩
  | .hbm, ⟨9, _⟩ => ⟨S1x2x4x4096, .f32⟩
  | .hbm, ⟨10, _⟩ => ⟨S1x2x4x4096, .f32⟩
  | .hbm, ⟨11, _⟩ => ⟨S1x2x4x4096x1, .f32⟩
  | .hbm, ⟨12, _⟩ => ⟨S1x2x4x4096x4096, .f32⟩
  | .hbm, ⟨13, _⟩ => ⟨S1x2x4x4096x4096, .f32⟩
  | .hbm, ⟨14, _⟩ => ⟨S1x2x4x4096x4096, .f32⟩
  | .hbm, ⟨15, _⟩ => ⟨S_, .f32⟩
  | .hbm, ⟨16, _⟩ => ⟨S1x2x4x4096, .f32⟩
  | .hbm, ⟨17, _⟩ => ⟨S1x2x4x4096x1, .f32⟩
  | .hbm, ⟨18, _⟩ => ⟨S1x2x4x4096x4096, .f32⟩
  | .hbm, ⟨19, _⟩ => ⟨S1x2x4x4096x4096, .f32⟩
  | .hbm, ⟨20, _⟩ => ⟨S1x2x64x4x4096, .f32⟩
  | .hbm, ⟨21, _⟩ => ⟨S1x4096x2x4x64, .f32⟩
  | .hbm, ⟨22, _⟩ => ⟨S1x4096x512, .f32⟩
  | .hbm, ⟨23, _⟩ => ⟨S1x2x4x4096x4096, .f32⟩
  | .hbm, ⟨24, _⟩ => ⟨S_, .f32⟩
  | .hbm, ⟨25, _⟩ => ⟨S1x2x4x4096, .f32⟩
  | .hbm, ⟨26, _⟩ => ⟨S1x2x4x4096, .f32⟩
  | .hbm, ⟨27, _⟩ => ⟨S_, .f32⟩
  | .hbm, ⟨28, _⟩ => ⟨S_, .f32⟩
  | .hbm, ⟨29, _⟩ => ⟨S1x2x4x4096, .f32⟩
  | .hbm, ⟨30, _⟩ => ⟨S1x2x4x4096, .f32⟩
  | .hbm, ⟨31, _⟩ => ⟨S4096x512, .f32⟩
  | .hbm, ⟨32, _⟩ => ⟨S8x4096, .f32⟩
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.AttnBwd.Trip.lean ====
/- One trip of the key/value loop of the attention-gradient kernel, read at an index.

   A trip takes one block of 1024 keys and values against the 1024 query rows of the grid point. It does so twice,
   once per pair of query heads (`p`), and within a pair the two heads (`e`) share the lanes: head 0 the lower 64,
   head 1 the upper 64. -/
module

public import proofs.«01_k».proof.Proof.Gen.AttnBwdIdeal.Frame
public import Idealize.ShloMosaic.Lib.Pointwise
public import Idealize.ShloMosaic.Lib.WritesUnit
public import Idealize.ShloMosaic.Lib.Pipeline.ValueKit

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)

/-- Lane `x` belongs to head `e` of a pair: then `a`, else 0. -/
def half (e : Fin 2) (x : Fin 128) (a : EReal) : EReal :=
  if e = 0 then (if x.val < 64 then a else 0) else (if x.val < 64 then 0 else a)

/-- Lane `128 p + x` of the packed query heads. -/
def lane (p : Fin 2) (x : Fin 128) : Fin 256 := ⟨128 * p.val + x.val, by omega⟩

variable (q o : S1024x256.Idx → EReal) (k v : S1x4096x128.Idx → EReal) (ls de : S8x1024.Idx → EReal) (j : Fin 2)

/-- The row of the log-sums that head `e` of pair `p` of key/value head `j` has. -/
def hrow (j p e : Fin 2) : Fin 8 := ⟨4 * j.val + 2 * p.val + e.val, by omega⟩

/-- The probability of key `s` at query `r`. -/
def prob (p e : Fin 2) (s : Fin 4096) (r : Fin 1024) : EReal :=
  Ideal.exp2 ((∑ x : Fin 128, half e x (k (ix3 0 s x) * q (ix2 r (lane p x)))) - ls (ix2 (hrow j p e) r))

/-- The gradient of the score of key `s` at query `r`. -/
def dscore (p e : Fin 2) (s : Fin 4096) (r : Fin 1024) : EReal :=
  prob q k ls j p e s r * ((∑ x : Fin 128, half e x (v (ix3 0 s x) * o (ix2 r (lane p x)))) - de (ix2 (hrow j p e) r))

/-- What pair `p` adds to the gradient of key `s` at lane `x`. -/
def dkPair (p : Fin 2) (s : Fin 4096) (x : Fin 128) : EReal :=
  if x.val < 64 then (∑ r, dscore q o k v ls de j p 0 s r * q (ix2 r (lane p x))) * ((Real.log 2 : ℝ) : EReal)
  else (∑ r, dscore q o k v ls de j p 1 s r * q (ix2 r (lane p x))) * ((Real.log 2 : ℝ) : EReal)

/-- What pair `p` adds to the gradient of value `s` at lane `x`. -/
def dvPair (p : Fin 2) (s : Fin 4096) (x : Fin 128) : EReal :=
  if x.val < 64 then ∑ r, prob q k ls j p 0 s r * o (ix2 r (lane p x))
  else ∑ r, prob q k ls j p 1 s r * o (ix2 r (lane p x))

/-- What the keys of one block add to the gradient of query `r` at lane `x` of pair `p`. -/
def dqBlock (p : Fin 2) (b : Fin 1024 → Fin 4096) (r : Fin 1024) (x : Fin 128) : EReal :=
  (∑ s, half 0 x (dscore q o k v ls de j p 0 (b s) r * k (ix3 0 (b s) x)))
    + ∑ s, half 1 x (dscore q o k v ls de j p 1 (b s) r * k (ix3 0 (b s) x))

/-- The scalar select on a lane comparison. -/
theorem select_lane (x : Fin 128) (a b : EReal) :
    Scalar.select (IntOp.cmpi CmpIPredicate.slt (BitVec.ofNat 32 x.val) 64#32) a b = if x.val < 64 then a else b := by
  have h : ∀ x : Fin 128, IntOp.cmpi CmpIPredicate.slt (BitVec.ofNat 32 x.val) 64#32 = if x.val < 64 then 1#1 else 0#1 := by decide +kernel
  rw [h x]
  by_cases hx : x.val < 64 <;> simp [hx, Scalar.select]

variable (c : Dev nD) (i : grid0.Coords) (a2 : Memref sig .tc .vmem S1024x256 .bf16) (h2 : a2.IsWhole)
  (a3 : Memref sig .tc .vmem S1024x256 .bf16) (h3 : a3.IsWhole) (a4 : Memref sig .tc .vmem S1x4096x128 .bf16) (h4 : a4.IsWhole)
  (a5 : Memref sig .tc .vmem S1x4096x128 .bf16) (h5 : a5.IsWhole) (a6 : Memref sig .tc .vmem S8x1024 .f32) (h6 : a6.IsWhole)
  (a7 : Memref sig .tc .vmem S8x1024 .f32) (h7 : a7.IsWhole) (a8 : Memref sig .tc .vmem S1024x256 .f32) (h8 : a8.IsWhole)
  (a9 : Memref sig .tc .vmem S1x4096x128 .f32) (h9 : a9.IsWhole) (a10 : Memref sig .tc .vmem S1x4096x128 .f32) (h10 : a10.IsWhole)
  (w : BitVec 32)
  (f2 : a2.view.ty.Contents (Elt Ideal)) (f3 : a3.view.ty.Contents (Elt Ideal)) (f4 : a4.view.ty.Contents (Elt Ideal))
  (f5 : a5.view.ty.Contents (Elt Ideal)) (f6 : a6.view.ty.Contents (Elt Ideal)) (f7 : a7.view.ty.Contents (Elt Ideal))
  (n : Fin k0_t1_loop.trips)
  (f8 : a8.view.ty.Contents (Elt Ideal)) (f9 : a9.view.ty.Contents (Elt Ideal)) (f10 : a10.view.ty.Contents (Elt Ideal))

/-- Key `s` of block `n`. -/
def key (s : Fin 1024) : Fin 4096 :=
  ⟨1024 * n.val + s.val, by have := n.isLt; have h : k0_t1_loop.trips ≤ 4 := k0_t1_abs.2.1; omega⟩

/-- The stores of one trip. -/
abbrev pcs := tripL_k0_t1 (F := Ideal) Variants.none c none i a2 h2 a3 h3 a4 h4 a5 h5 a6 h6 a7 h7 a8 h8 a9 h9 a10 h10 w
  f2 f3 f4 f5 f6 f7 n f8 f9 f10

variable {n} in
/-- A place of block `n` of the keys, as its loads give it. -/
theorem key_at (s : Fin 1024) (x : Fin 128) (p₀ : k0_off1 n 0 < 1) (p₁ : k0_off1 n 1 + s.val < 4096) (p₂ : k0_off1 n 2 + x.val < 128) :
    (ix3 (⟨k0_off1 n 0, p₀⟩ : Fin 1) (⟨k0_off1 n 1 + s.val, p₁⟩ : Fin 4096) (⟨k0_off1 n 2 + x.val, p₂⟩ : Fin 128) : S1x4096x128.Idx)
      = ix3 0 (key n s) x := by
  have e0 : k0_off1 n 0 = 0 := congrFun (k0_off1_eq n) 0
  have e1 : k0_off1 n 1 = 1024 * n.val := congrFun (k0_off1_eq n) 1
  have e2 : k0_off1 n 2 = 0 := congrFun (k0_off1_eq n) 2
  have a : (⟨k0_off1 n 0, p₀⟩ : Fin 1) = 0 := Subsingleton.elim _ _
  have b : (⟨k0_off1 n 1 + s.val, p₁⟩ : Fin 4096) = key n s := Fin.ext (congrArg (· + s.val) e1)
  have c : (⟨k0_off1 n 2 + x.val, p₂⟩ : Fin 128) = x := Fin.ext ((congrArg (· + x.val) e2).trans (Nat.zero_add _))
  rw [a, b, c]

variable {i} in
/-- The row of the log-sums a load takes. -/
theorem row_at (a b : BitVec 32) (g : Fin 8) (h : k0_off2 i a b = ![g.val, 0]) (r : Fin 1024) (p₀ : k0_off2 i a b 0 < 8)
    (p₁ : k0_off2 i a b 1 + r.val < 1024) :
    (ix2 (⟨k0_off2 i a b 0, p₀⟩ : Fin 8) (⟨k0_off2 i a b 1 + r.val, p₁⟩ : Fin 1024) : S8x1024.Idx) = ix2 g r := by
  have e0 : k0_off2 i a b 0 = g.val := congrFun h 0
  have e1 : k0_off2 i a b 1 = 0 := congrFun h 1
  have c : (⟨k0_off2 i a b 0, p₀⟩ : Fin 8) = g := Fin.ext e0
  have d : (⟨k0_off2 i a b 1 + r.val, p₁⟩ : Fin 1024) = r := Fin.ext ((congrArg (· + r.val) e1).trans (Nat.zero_add _))
  rw [c, d]

theorem off2_at (p e : Fin 2) : k0_off2 i (BitVec.ofNat 32 (2 * p.val)) (BitVec.ofNat 32 e.val) = ![(hrow (i 0) p e).val, 0] :=
  k0_off2_eq i p e

theorem dk_trip (s : Fin 1024) (x : Fin 128) :
    a9.view.read (Elt Ideal) (a9.view.writes (Elt Ideal) f9
      (pcs c i a2 h2 a3 h3 a4 h4 a5 h5 a6 h6 a7 h7 a8 h8 a9 h9 a10 h10 w f2 f3 f4 f5 f6 f7 n f8 f9 f10).2.1) (ix3 0 (key n s) x)
      = a9.view.read (Elt Ideal) f9 (ix3 0 (key n s) x)
        + dkPair (a2.view.read _ f2) (a3.view.read _ f3) (a4.view.read _ f4) (a5.view.read _ f5) (a6.view.read _ f6) (a7.view.read _ f7) (i 0) 0 (key n s) x
        + dkPair (a2.view.read _ f2) (a3.view.read _ f3) (a4.view.read _ f4) (a5.view.read _ f5) (a6.view.read _ f6) (a7.view.read _ f7) (i 0) 1 (key n s) x := by
  unfold pcs tripL_k0_t1
  unfold trip_k0_t1
  dsimp only
  sl_unfold_run_names
  simp only [View.readAt_eq_ld]
  refine (View.read_writes_cons_unit_of_mem _ _ _ _ _ _ (ix3 0 s x) (k0_off1_eq n) ?hx).trans ?_
  case hx => intro b; fin_cases b <;> simp [ix3, key]
  generalize a2.view.read (Elt Ideal) f2 = q
  generalize a3.view.read (Elt Ideal) f3 = o
  generalize a4.view.read (Elt Ideal) f4 = k
  generalize a5.view.read (Elt Ideal) f5 = v
  generalize a6.view.read (Elt Ideal) f6 = ls
  generalize a7.view.read (Elt Ideal) f7 = de
  generalize a9.view.read (Elt Ideal) f9 = acc
  simp only [View.readCov_cons_toLoadRect]
  pointwise [k0_pay5, k0_pay4, k0_pay28, k0_pay27, k0_pay26, k0_pay19, k0_pay16, k0_pay15, k0_pay14]
  simp only [select_lane, key_at, row_at 0#32 0#32 _ (off2_at i 0 0), row_at 0#32 1#32 _ (off2_at i 0 1),
    row_at 2#32 0#32 _ (off2_at i 1 0), row_at 2#32 1#32 _ (off2_at i 1 1)]
  unfold dkPair dscore prob half
  simp only [lane, Nat.mul_zero, Nat.zero_add, Nat.mul_one, Fin.val_zero, Fin.val_one, one_ne_zero, if_true, if_false]
  rfl

theorem dv_trip (s : Fin 1024) (x : Fin 128) :
    a10.view.read (Elt Ideal) (a10.view.writes (Elt Ideal) f10
      (pcs c i a2 h2 a3 h3 a4 h4 a5 h5 a6 h6 a7 h7 a8 h8 a9 h9 a10 h10 w f2 f3 f4 f5 f6 f7 n f8 f9 f10).2.2) (ix3 0 (key n s) x)
      = a10.view.read (Elt Ideal) f10 (ix3 0 (key n s) x)
        + dvPair (a2.view.read _ f2) (a3.view.read _ f3) (a4.view.read _ f4) (a6.view.read _ f6) (i 0) 0 (key n s) x
        + dvPair (a2.view.read _ f2) (a3.view.read _ f3) (a4.view.read _ f4) (a6.view.read _ f6) (i 0) 1 (key n s) x := by
  unfold pcs tripL_k0_t1
  unfold trip_k0_t1
  dsimp only
  sl_unfold_run_names
  simp only [View.readAt_eq_ld]
  refine (View.read_writes_cons_unit_of_mem _ _ _ _ _ _ (ix3 0 s x) (k0_off1_eq n) ?hx).trans ?_
  case hx => intro b; fin_cases b <;> simp [ix3, key]
  generalize a2.view.read (Elt Ideal) f2 = q
  generalize a3.view.read (Elt Ideal) f3 = o
  generalize a4.view.read (Elt Ideal) f4 = k
  generalize a5.view.read (Elt Ideal) f5 = v
  generalize a6.view.read (Elt Ideal) f6 = ls
  generalize a7.view.read (Elt Ideal) f7 = de
  generalize a10.view.read (Elt Ideal) f10 = acc
  simp only [View.readCov_cons_toLoadRect]
  pointwise [k0_pay29, k0_pay4, k0_pay26, k0_pay18, k0_pay17, k0_pay14]
  simp only [select_lane, key_at, row_at 0#32 0#32 _ (off2_at i 0 0), row_at 0#32 1#32 _ (off2_at i 0 1),
    row_at 2#32 0#32 _ (off2_at i 1 0), row_at 2#32 1#32 _ (off2_at i 1 1)]
  unfold dvPair prob half
  simp only [lane, Nat.mul_zero, Nat.zero_add, Nat.mul_one, Fin.val_zero, Fin.val_one, one_ne_zero, if_true, if_false]
  rfl

/-- A trip leaves the gradients of the keys of the other blocks as they were. -/
theorem dk_trip_other (s : Fin 4096) (hs : s.val < 1024 * n.val ∨ 1024 * n.val + 1024 ≤ s.val) (x : Fin 128) :
    a9.view.read (Elt Ideal) (a9.view.writes (Elt Ideal) f9
      (pcs c i a2 h2 a3 h3 a4 h4 a5 h5 a6 h6 a7 h7 a8 h8 a9 h9 a10 h10 w f2 f3 f4 f5 f6 f7 n f8 f9 f10).2.1) (ix3 0 s x)
      = a9.view.read (Elt Ideal) f9 (ix3 0 s x) := by
  unfold pcs tripL_k0_t1
  unfold trip_k0_t1
  dsimp only
  sl_unfold_run_names
  refine (View.read_writes_cons_unit_of_not_mem _ _ _ _ _ _ (k0_off1_eq n) 1 hs).trans ?_
  exact View.read_writes_cons_unit_of_not_mem _ _ _ _ _ _ (k0_off1_eq n) 1 hs

/-- A trip leaves the gradients of the values of the other blocks as they were. -/
theorem dv_trip_other (s : Fin 4096) (hs : s.val < 1024 * n.val ∨ 1024 * n.val + 1024 ≤ s.val) (x : Fin 128) :
    a10.view.read (Elt Ideal) (a10.view.writes (Elt Ideal) f10
      (pcs c i a2 h2 a3 h3 a4 h4 a5 h5 a6 h6 a7 h7 a8 h8 a9 h9 a10 h10 w f2 f3 f4 f5 f6 f7 n f8 f9 f10).2.2) (ix3 0 s x)
      = a10.view.read (Elt Ideal) f10 (ix3 0 s x) := by
  unfold pcs tripL_k0_t1
  unfold trip_k0_t1
  dsimp only
  sl_unfold_run_names
  refine (View.read_writes_cons_unit_of_not_mem _ _ _ _ _ _ (k0_off1_eq n) 1 hs).trans ?_
  exact View.read_writes_cons_unit_of_not_mem _ _ _ _ _ _ (k0_off1_eq n) 1 hs

theorem dq_trip_0 (r : Fin 1024) (x : Fin 128) :
    a8.view.read (Elt Ideal) (a8.view.writes (Elt Ideal) f8
      (pcs c i a2 h2 a3 h3 a4 h4 a5 h5 a6 h6 a7 h7 a8 h8 a9 h9 a10 h10 w f2 f3 f4 f5 f6 f7 n f8 f9 f10).1) (ix2 r (lane 0 x))
      = a8.view.read (Elt Ideal) f8 (ix2 r (lane 0 x))
        + dqBlock (a2.view.read _ f2) (a3.view.read _ f3) (a4.view.read _ f4) (a5.view.read _ f5) (a6.view.read _ f6) (a7.view.read _ f7) (i 0) 0 (key n) r x := by
  unfold pcs tripL_k0_t1
  unfold trip_k0_t1
  dsimp only
  sl_unfold_run_names
  simp only [View.readAt_eq_ld]
  refine (View.read_writes_cons_unit_of_not_mem _ _ _ _ _ _ rfl 1 (Or.inl (by simp [ix2, lane]; try omega))).trans ?_
  refine (View.read_writes_cons_unit_of_mem _ _ _ _ _ _ (ix2 r x) rfl ?hx).trans ?_
  case hx => intro b; fin_cases b <;> simp [ix2, lane]
  generalize a2.view.read (Elt Ideal) f2 = q
  generalize a3.view.read (Elt Ideal) f3 = o
  generalize a4.view.read (Elt Ideal) f4 = k
  generalize a5.view.read (Elt Ideal) f5 = v
  generalize a6.view.read (Elt Ideal) f6 = ls
  generalize a7.view.read (Elt Ideal) f7 = de
  generalize a8.view.read (Elt Ideal) f8 = acc
  pointwise [k0_pay20, k0_pay15, k0_pay14]
  simp only [select_lane, key_at, row_at 0#32 0#32 _ (off2_at i 0 0), row_at 0#32 1#32 _ (off2_at i 0 1),
    row_at 2#32 0#32 _ (off2_at i 1 0), row_at 2#32 1#32 _ (off2_at i 1 1)]
  unfold dqBlock dscore prob half
  simp only [lane, Nat.mul_zero, Nat.zero_add, Nat.mul_one, Fin.val_zero, Fin.val_one, one_ne_zero, if_true, if_false]
  rfl

theorem dq_trip_1 (r : Fin 1024) (x : Fin 128) :
    a8.view.read (Elt Ideal) (a8.view.writes (Elt Ideal) f8
      (pcs c i a2 h2 a3 h3 a4 h4 a5 h5 a6 h6 a7 h7 a8 h8 a9 h9 a10 h10 w f2 f3 f4 f5 f6 f7 n f8 f9 f10).1) (ix2 r (lane 1 x))
      = a8.view.read (Elt Ideal) f8 (ix2 r (lane 1 x))
        + dqBlock (a2.view.read _ f2) (a3.view.read _ f3) (a4.view.read _ f4) (a5.view.read _ f5) (a6.view.read _ f6) (a7.view.read _ f7) (i 0) 1 (key n) r x := by
  unfold pcs tripL_k0_t1
  unfold trip_k0_t1
  dsimp only
  sl_unfold_run_names
  simp only [View.readAt_eq_ld]
  refine (View.read_writes_cons_unit_of_mem _ _ _ _ _ _ (ix2 r x) rfl ?hx).trans ?_
  case hx => intro b; fin_cases b <;> simp [ix2, lane]
  generalize a2.view.read (Elt Ideal) f2 = q
  generalize a3.view.read (Elt Ideal) f3 = o
  generalize a4.view.read (Elt Ideal) f4 = k
  generalize a5.view.read (Elt Ideal) f5 = v
  generalize a6.view.read (Elt Ideal) f6 = ls
  generalize a7.view.read (Elt Ideal) f7 = de
  generalize a8.view.read (Elt Ideal) f8 = acc
  pointwise [k0_pay6, k0_pay27, k0_pay26]
  simp only [select_lane, key_at, row_at 0#32 0#32 _ (off2_at i 0 0), row_at 0#32 1#32 _ (off2_at i 0 1),
    row_at 2#32 0#32 _ (off2_at i 1 0), row_at 2#32 1#32 _ (off2_at i 1 1)]
  unfold dqBlock dscore prob half
  simp only [lane, Nat.mul_zero, Nat.zero_add, Nat.mul_one, Fin.val_zero, Fin.val_one, one_ne_zero, if_true, if_false]
  rfl
-- ==== Proof.AttnBwd.Point.lean ====
/- What one grid point of the attention-gradient kernel leaves: the four trips of the loop over the key/value blocks. -/
module

public import proofs.«01_k».proof.Proof.AttnBwd.Trip

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)

variable (c : Dev nD) (i : grid0.Coords) (a2 : Memref sig .tc .vmem S1024x256 .bf16) (h2 : a2.IsWhole)
  (a3 : Memref sig .tc .vmem S1024x256 .bf16) (h3 : a3.IsWhole) (a4 : Memref sig .tc .vmem S1x4096x128 .bf16) (h4 : a4.IsWhole)
  (a5 : Memref sig .tc .vmem S1x4096x128 .bf16) (h5 : a5.IsWhole) (a6 : Memref sig .tc .vmem S8x1024 .f32) (h6 : a6.IsWhole)
  (a7 : Memref sig .tc .vmem S8x1024 .f32) (h7 : a7.IsWhole) (a8 : Memref sig .tc .vmem S1024x256 .f32) (h8 : a8.IsWhole)
  (a9 : Memref sig .tc .vmem S1x4096x128 .f32) (h9 : a9.IsWhole) (a10 : Memref sig .tc .vmem S1x4096x128 .f32) (h10 : a10.IsWhole)
  (w : BitVec 32)
  (f2 : a2.view.ty.Contents (Elt Ideal)) (f3 : a3.view.ty.Contents (Elt Ideal)) (f4 : a4.view.ty.Contents (Elt Ideal))
  (f5 : a5.view.ty.Contents (Elt Ideal)) (f6 : a6.view.ty.Contents (Elt Ideal)) (f7 : a7.view.ty.Contents (Elt Ideal))
  (f8 : a8.view.ty.Contents (Elt Ideal)) (f9 : a9.view.ty.Contents (Elt Ideal)) (f10 : a10.view.ty.Contents (Elt Ideal))

/-- The stores of the first `n` trips. -/
abbrev stores (n : ℕ) := pb_k0_t1 (F := Ideal) Variants.none c none i a2 h2 a3 h3 a4 h4 a5 h5 a6 h6 a7 h7 a8 h8 a9 h9 a10 h10 w f2 f3 f4 f5 f6 f7 f8 f9 f10 n

/-- Key `s` of block `b`. -/
def keyN (b : ℕ) (s : Fin 1024) : Fin 4096 := ⟨(1024 * b + s.val) % 4096, Nat.mod_lt _ (by decide)⟩

theorem trips_eq : k0_t1_loop.trips = 4 := by decide +kernel

theorem key_eq (n : Fin k0_t1_loop.trips) : key n = keyN n.val := funext fun s => Fin.ext (by
  have := n.isLt; have := trips_eq; show 1024 * n.val + s.val = (1024 * n.val + s.val) % 4096; omega)

theorem dq_loop (p : Fin 2) (n : ℕ) (hn : n ≤ k0_t1_loop.trips) (r : Fin 1024) (x : Fin 128) :
    a8.view.read (Elt Ideal) (a8.view.writes (Elt Ideal) f8 (stores c i a2 h2 a3 h3 a4 h4 a5 h5 a6 h6 a7 h7 a8 h8 a9 h9 a10 h10 w f2 f3 f4 f5 f6 f7 f8 f9 f10 n).1) (ix2 r (lane p x))
      = a8.view.read (Elt Ideal) f8 (ix2 r (lane p x)) + ∑ b ∈ Finset.range n, dqBlock (a2.view.read _ f2) (a3.view.read _ f3) (a4.view.read _ f4) (a5.view.read _ f5) (a6.view.read _ f6) (a7.view.read _ f7) (i 0) p (keyN b) r x := by
  induction n with
  | zero => simp [stores, pb_k0_t1]
  | succ n ih =>
    rw [show stores c i a2 h2 a3 h3 a4 h4 a5 h5 a6 h6 a7 h7 a8 h8 a9 h9 a10 h10 w f2 f3 f4 f5 f6 f7 f8 f9 f10 (n + 1) = _ from
      pb_k0_t1_succ (F := Ideal) Variants.none c none i a2 h2 a3 h3 a4 h4 a5 h5 a6 h6 a7 h7 a8 h8 a9 h9 a10 h10 w f2 f3 f4 f5 f6 f7 f8 f9 f10 ⟨n, hn⟩]
    refine (congrFun (congrArg _ (View.writes_append _ _ _ _)) _).trans ?_
    have e : ∀ g9 g10 g8, a8.view.read (Elt Ideal) (a8.view.writes (Elt Ideal) g8
          (pcs c i a2 h2 a3 h3 a4 h4 a5 h5 a6 h6 a7 h7 a8 h8 a9 h9 a10 h10 w f2 f3 f4 f5 f6 f7 ⟨n, hn⟩ g8 g9 g10).1) (ix2 r (lane p x))
        = a8.view.read (Elt Ideal) g8 (ix2 r (lane p x)) + dqBlock (a2.view.read _ f2) (a3.view.read _ f3) (a4.view.read _ f4) (a5.view.read _ f5) (a6.view.read _ f6) (a7.view.read _ f7) (i 0) p (key ⟨n, hn⟩) r x :=
      match p with
      | 0 => fun g9 g10 g8 => dq_trip_0 c i a2 h2 a3 h3 a4 h4 a5 h5 a6 h6 a7 h7 a8 h8 a9 h9 a10 h10 w f2 f3 f4 f5 f6 f7 ⟨n, hn⟩ g8 g9 g10 r x
      | 1 => fun g9 g10 g8 => dq_trip_1 c i a2 h2 a3 h3 a4 h4 a5 h5 a6 h6 a7 h7 a8 h8 a9 h9 a10 h10 w f2 f3 f4 f5 f6 f7 ⟨n, hn⟩ g8 g9 g10 r x
    refine (e _ _ _).trans ?_
    rw [key_eq, Finset.sum_range_succ, ← add_assoc]
    exact congrArg (· + _) (ih (Nat.le_of_lt hn))

theorem dk_loop (s : Fin 4096) (x : Fin 128) (n : ℕ) (hn : n ≤ k0_t1_loop.trips) :
    a9.view.read (Elt Ideal) (a9.view.writes (Elt Ideal) f9 (stores c i a2 h2 a3 h3 a4 h4 a5 h5 a6 h6 a7 h7 a8 h8 a9 h9 a10 h10 w f2 f3 f4 f5 f6 f7 f8 f9 f10 n).2.1) (ix3 0 s x)
      = if s.val < 1024 * n then a9.view.read (Elt Ideal) f9 (ix3 0 s x) + dkPair (a2.view.read _ f2) (a3.view.read _ f3) (a4.view.read _ f4) (a5.view.read _ f5) (a6.view.read _ f6) (a7.view.read _ f7) (i 0) 0 s x + dkPair (a2.view.read _ f2) (a3.view.read _ f3) (a4.view.read _ f4) (a5.view.read _ f5) (a6.view.read _ f6) (a7.view.read _ f7) (i 0) 1 s x
        else a9.view.read (Elt Ideal) f9 (ix3 0 s x) := by
  induction n with
  | zero => simp [stores, pb_k0_t1]
  | succ n ih =>
    have ih := ih (Nat.le_of_lt hn)
    rw [show stores c i a2 h2 a3 h3 a4 h4 a5 h5 a6 h6 a7 h7 a8 h8 a9 h9 a10 h10 w f2 f3 f4 f5 f6 f7 f8 f9 f10 (n + 1) = _ from
      pb_k0_t1_succ (F := Ideal) Variants.none c none i a2 h2 a3 h3 a4 h4 a5 h5 a6 h6 a7 h7 a8 h8 a9 h9 a10 h10 w f2 f3 f4 f5 f6 f7 f8 f9 f10 ⟨n, hn⟩]
    refine (congrFun (congrArg _ (View.writes_append _ _ _ _)) _).trans ?_
    by_cases hs : s.val < 1024 * n ∨ 1024 * n + 1024 ≤ s.val
    · refine (dk_trip_other c i a2 h2 a3 h3 a4 h4 a5 h5 a6 h6 a7 h7 a8 h8 a9 h9 a10 h10 w f2 f3 f4 f5 f6 f7 ⟨n, hn⟩ _ _ _ s hs x).trans (ih.trans ?_)
      have e : s.val < 1024 * (n + 1) ↔ s.val < 1024 * n := by omega
      simp only [e]
    · have e : s = key ⟨n, hn⟩ ⟨s.val - 1024 * n, by omega⟩ := Fin.ext (by show s.val = 1024 * n + (s.val - 1024 * n); omega)
      have h1 : ¬ s.val < 1024 * n := by omega
      have h2' : s.val < 1024 * (n + 1) := by omega
      rw [if_neg h1] at ih
      rw [if_pos h2']
      generalize (⟨s.val - 1024 * n, by omega⟩ : Fin 1024) = s' at e
      subst e
      refine (dk_trip c i a2 h2 a3 h3 a4 h4 a5 h5 a6 h6 a7 h7 a8 h8 a9 h9 a10 h10 w f2 f3 f4 f5 f6 f7 ⟨n, hn⟩ _ _ _ s' x).trans ?_
      exact congrArg (· + _ + _) ih

theorem dv_loop (s : Fin 4096) (x : Fin 128) (n : ℕ) (hn : n ≤ k0_t1_loop.trips) :
    a10.view.read (Elt Ideal) (a10.view.writes (Elt Ideal) f10 (stores c i a2 h2 a3 h3 a4 h4 a5 h5 a6 h6 a7 h7 a8 h8 a9 h9 a10 h10 w f2 f3 f4 f5 f6 f7 f8 f9 f10 n).2.2) (ix3 0 s x)
      = if s.val < 1024 * n then a10.view.read (Elt Ideal) f10 (ix3 0 s x) + dvPair (a2.view.read _ f2) (a3.view.read _ f3) (a4.view.read _ f4) (a6.view.read _ f6) (i 0) 0 s x + dvPair (a2.view.read _ f2) (a3.view.read _ f3) (a4.view.read _ f4) (a6.view.read _ f6) (i 0) 1 s x
        else a10.view.read (Elt Ideal) f10 (ix3 0 s x) := by
  induction n with
  | zero => simp [stores, pb_k0_t1]
  | succ n ih =>
    have ih := ih (Nat.le_of_lt hn)
    rw [show stores c i a2 h2 a3 h3 a4 h4 a5 h5 a6 h6 a7 h7 a8 h8 a9 h9 a10 h10 w f2 f3 f4 f5 f6 f7 f8 f9 f10 (n + 1) = _ from
      pb_k0_t1_succ (F := Ideal) Variants.none c none i a2 h2 a3 h3 a4 h4 a5 h5 a6 h6 a7 h7 a8 h8 a9 h9 a10 h10 w f2 f3 f4 f5 f6 f7 f8 f9 f10 ⟨n, hn⟩]
    refine (congrFun (congrArg _ (View.writes_append _ _ _ _)) _).trans ?_
    by_cases hs : s.val < 1024 * n ∨ 1024 * n + 1024 ≤ s.val
    · refine (dv_trip_other c i a2 h2 a3 h3 a4 h4 a5 h5 a6 h6 a7 h7 a8 h8 a9 h9 a10 h10 w f2 f3 f4 f5 f6 f7 ⟨n, hn⟩ _ _ _ s hs x).trans (ih.trans ?_)
      have e : s.val < 1024 * (n + 1) ↔ s.val < 1024 * n := by omega
      simp only [e]
    · have e : s = key ⟨n, hn⟩ ⟨s.val - 1024 * n, by omega⟩ := Fin.ext (by show s.val = 1024 * n + (s.val - 1024 * n); omega)
      have h1 : ¬ s.val < 1024 * n := by omega
      have h2' : s.val < 1024 * (n + 1) := by omega
      rw [if_neg h1] at ih
      rw [if_pos h2']
      generalize (⟨s.val - 1024 * n, by omega⟩ : Fin 1024) = s' at e
      subst e
      refine (dv_trip c i a2 h2 a3 h3 a4 h4 a5 h5 a6 h6 a7 h7 a8 h8 a9 h9 a10 h10 w f2 f3 f4 f5 f6 f7 ⟨n, hn⟩ _ _ _ s' x).trans ?_
      exact congrArg (· + _ + _) ih

variable (x0 x1 : S1024x256.Idx → EReal) (x2 x3 : S1x4096x128.Idx → EReal) (x4 x5 : S8x1024.Idx → EReal) (y7 y8 : S1x4096x128.Idx → EReal)

/-- Case A leaves in the query gradients the sum over the four blocks of keys. -/
theorem dq_A (hc : cond0_0 i) (p : Fin 2) (r : Fin 1024) (x : Fin 128) :
    out0_A_6 (F := Ideal) c i a2 h2 a3 h3 a4 h4 a5 h5 a6 h6 a7 h7 a8 h8 a9 h9 a10 h10 hc x0 x1 x2 x3 x4 x5 (ix2 r (lane p x))
      = ∑ b ∈ Finset.range 4, dqBlock x0 x1 x2 x3 x4 x5 (i 0) p (keyN b) r x := by
  refine (View.read_writes_apply_eq VO0_6 VO0_6.junk a8.view a8.view.junk _ _ (cover0_A_6 (F := Ideal) c i a2 h2 a3 h3 a4 h4 a5 h5 a6 h6 a7 h7 a8 h8 a9 h9 a10 h10 hc x0 x1 x2 x3 x4 x5 _)).trans ?_
  unfold kernelRun0_A
  dsimp only
  sl_unfold_run_names
  refine (congrFun (congrArg _ (View.writes_append _ _ _ _)) _).trans ?_
  refine (dq_loop c i a2 h2 a3 h3 a4 h4 a5 h5 a6 h6 a7 h7 a8 h8 a9 h9 a10 h10 _ _ _ _ _ _ _ _ _ _ p 4 (le_of_eq trips_eq.symm) r x).trans ?_
  rw [h2.read_unread, h3.read_unread, h4.read_unread, h5.read_unread, h6.read_unread, h7.read_unread]
  refine (congrArg (· + _) ?_).trans (zero_add _)
  refine (View.read_writes_cons_unit_of_mem _ _ _ _ _ _ (ix2 r (lane p x)) rfl ?hx).trans ?_
  case hx => intro b; fin_cases b <;> simp
  pointwise [k0_pay1]

/-- Case A adds to the key gradients the two pairs of query heads. -/
theorem dk_A (hc : cond0_0 i) (s : Fin 4096) (x : Fin 128) :
    out0_A_7 (F := Ideal) c i a2 h2 a3 h3 a4 h4 a5 h5 a6 h6 a7 h7 a8 h8 a9 h9 a10 h10 hc x0 x1 x2 x3 x4 x5 (ix3 0 s x) = 0 + dkPair x0 x1 x2 x3 x4 x5 (i 0) 0 s x + dkPair x0 x1 x2 x3 x4 x5 (i 0) 1 s x := by
  refine (View.read_writes_apply_eq VO0_7 VO0_7.junk a9.view a9.view.junk _ _ (cover0_A_7 (F := Ideal) c i a2 h2 a3 h3 a4 h4 a5 h5 a6 h6 a7 h7 a8 h8 a9 h9 a10 h10 hc x0 x1 x2 x3 x4 x5 _)).trans ?_
  unfold kernelRun0_A
  dsimp only
  sl_unfold_run_names
  refine (congrFun (congrArg _ (View.writes_append _ _ _ _)) _).trans ?_
  refine (dk_loop c i a2 h2 a3 h3 a4 h4 a5 h5 a6 h6 a7 h7 a8 h8 a9 h9 a10 h10 _ _ _ _ _ _ _ _ _ _ s x 4 (le_of_eq trips_eq.symm)).trans ?_
  rw [h2.read_unread, h3.read_unread, h4.read_unread, h5.read_unread, h6.read_unread, h7.read_unread, if_pos s.isLt]
  refine congrArg (· + _ + _) ?_
  refine (View.read_writes_cons_unit_of_mem _ _ _ _ _ _ (ix3 0 s x) rfl ?hx).trans ?_
  case hx => intro b; fin_cases b <;> simp
  pointwise [k0_pay2]

/-- Case A adds to the value gradients the two pairs of query heads. -/
theorem dv_A (hc : cond0_0 i) (s : Fin 4096) (x : Fin 128) :
    out0_A_8 (F := Ideal) c i a2 h2 a3 h3 a4 h4 a5 h5 a6 h6 a7 h7 a8 h8 a9 h9 a10 h10 hc x0 x1 x2 x3 x4 x5 (ix3 0 s x) = 0 + dvPair x0 x1 x2 x4 (i 0) 0 s x + dvPair x0 x1 x2 x4 (i 0) 1 s x := by
  refine (View.read_writes_apply_eq VO0_8 VO0_8.junk a10.view a10.view.junk _ _ (cover0_A_8 (F := Ideal) c i a2 h2 a3 h3 a4 h4 a5 h5 a6 h6 a7 h7 a8 h8 a9 h9 a10 h10 hc x0 x1 x2 x3 x4 x5 _)).trans ?_
  unfold kernelRun0_A
  dsimp only
  sl_unfold_run_names
  refine (congrFun (congrArg _ (View.writes_append _ _ _ _)) _).trans ?_
  refine (dv_loop c i a2 h2 a3 h3 a4 h4 a5 h5 a6 h6 a7 h7 a8 h8 a9 h9 a10 h10 _ _ _ _ _ _ _ _ _ _ s x 4 (le_of_eq trips_eq.symm)).trans ?_
  rw [h2.read_unread, h3.read_unread, h4.read_unread, h6.read_unread, if_pos s.isLt]
  refine congrArg (· + _ + _) ?_
  refine (View.read_writes_cons_unit_of_mem _ _ _ _ _ _ (ix3 0 s x) rfl ?hx).trans ?_
  case hx => intro b; fin_cases b <;> simp
  pointwise [k0_pay3]

/-- Case B leaves in the query gradients the sum over the four blocks of keys. -/
theorem dq_B (hc : ¬ cond0_0 i) (p : Fin 2) (r : Fin 1024) (x : Fin 128) :
    out0_B_6 (F := Ideal) c i a2 h2 a3 h3 a4 h4 a5 h5 a6 h6 a7 h7 a8 h8 a9 h9 a10 h10 hc x0 x1 x2 x3 x4 x5 y7 y8 (ix2 r (lane p x))
      = ∑ b ∈ Finset.range 4, dqBlock x0 x1 x2 x3 x4 x5 (i 0) p (keyN b) r x := by
  refine (View.read_writes_apply_eq VO0_6 VO0_6.junk a8.view a8.view.junk _ _ (cover0_B_6 (F := Ideal) c i a2 h2 a3 h3 a4 h4 a5 h5 a6 h6 a7 h7 a8 h8 a9 h9 a10 h10 hc x0 x1 x2 x3 x4 x5 y7 y8 _)).trans ?_
  unfold kernelRun0_B
  dsimp only
  sl_unfold_run_names
  refine (congrFun (congrArg _ (View.writes_append _ _ _ _)) _).trans ?_
  refine (dq_loop c i a2 h2 a3 h3 a4 h4 a5 h5 a6 h6 a7 h7 a8 h8 a9 h9 a10 h10 _ _ _ _ _ _ _ _ _ _ p 4 (le_of_eq trips_eq.symm) r x).trans ?_
  rw [h2.read_unread, h3.read_unread, h4.read_unread, h5.read_unread, h6.read_unread, h7.read_unread]
  refine (congrArg (· + _) ?_).trans (zero_add _)
  refine (View.read_writes_cons_unit_of_mem _ _ _ _ _ _ (ix2 r (lane p x)) rfl ?hx).trans ?_
  case hx => intro b; fin_cases b <;> simp
  pointwise [k0_pay1]

/-- Case B adds to the key gradients the two pairs of query heads. -/
theorem dk_B (hc : ¬ cond0_0 i) (s : Fin 4096) (x : Fin 128) :
    out0_B_7 (F := Ideal) c i a2 h2 a3 h3 a4 h4 a5 h5 a6 h6 a7 h7 a8 h8 a9 h9 a10 h10 hc x0 x1 x2 x3 x4 x5 y7 y8 (ix3 0 s x) = y7 (ix3 0 s x) + dkPair x0 x1 x2 x3 x4 x5 (i 0) 0 s x + dkPair x0 x1 x2 x3 x4 x5 (i 0) 1 s x := by
  refine (View.read_writes_apply_eq VO0_7 VO0_7.junk a9.view (h9.unread y7) _ _ (cover0_B_7 (F := Ideal) c i a2 h2 a3 h3 a4 h4 a5 h5 a6 h6 a7 h7 a8 h8 a9 h9 a10 h10 hc x0 x1 x2 x3 x4 x5 y7 y8 _)).trans ?_
  unfold kernelRun0_B
  dsimp only
  sl_unfold_run_names
  refine (dk_loop c i a2 h2 a3 h3 a4 h4 a5 h5 a6 h6 a7 h7 a8 h8 a9 h9 a10 h10 _ _ _ _ _ _ _ _ _ _ s x 4 (le_of_eq trips_eq.symm)).trans ?_
  rw [h2.read_unread, h3.read_unread, h4.read_unread, h5.read_unread, h6.read_unread, h7.read_unread, if_pos s.isLt]
  rw [h9.read_unread]

/-- Case B adds to the value gradients the two pairs of query heads. -/
theorem dv_B (hc : ¬ cond0_0 i) (s : Fin 4096) (x : Fin 128) :
    out0_B_8 (F := Ideal) c i a2 h2 a3 h3 a4 h4 a5 h5 a6 h6 a7 h7 a8 h8 a9 h9 a10 h10 hc x0 x1 x2 x3 x4 x5 y7 y8 (ix3 0 s x) = y8 (ix3 0 s x) + dvPair x0 x1 x2 x4 (i 0) 0 s x + dvPair x0 x1 x2 x4 (i 0) 1 s x := by
  refine (View.read_writes_apply_eq VO0_8 VO0_8.junk a10.view (h10.unread y8) _ _ (cover0_B_8 (F := Ideal) c i a2 h2 a3 h3 a4 h4 a5 h5 a6 h6 a7 h7 a8 h8 a9 h9 a10 h10 hc x0 x1 x2 x3 x4 x5 y7 y8 _)).trans ?_
  unfold kernelRun0_B
  dsimp only
  sl_unfold_run_names
  refine (dv_loop c i a2 h2 a3 h3 a4 h4 a5 h5 a6 h6 a7 h7 a8 h8 a9 h9 a10 h10 _ _ _ _ _ _ _ _ _ _ s x 4 (le_of_eq trips_eq.symm)).trans ?_
  rw [h2.read_unread, h3.read_unread, h4.read_unread, h6.read_unread, if_pos s.isLt]
  rw [h10.read_unread]
-- ==== Proof.AttnBwd.Kernel.lean ====
/- The three arrays the attention-gradient kernel leaves, over the whole arrays its windows cover. -/
module

public import proofs.«01_k».proof.Proof.AttnBwd.Point

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)

variable (Q O : Fin 4096 → Fin 512 → EReal) (K W : Fin 2 → Fin 4096 → Fin 128 → EReal) (L D : Fin 8 → Fin 4096 → EReal)

/-- The column of the packed queries that lane `x` of pair `p` of key/value head `j` is. -/
def col (j p : Fin 2) (x : Fin 128) : Fin 512 := ⟨j.val * 256 + (128 * p.val + x.val), by omega⟩

/-- Query `r` of block `i`. -/
def qrow (i : Fin 4) (r : Fin 1024) : Fin 4096 := ⟨i.val * 1024 + r.val, by omega⟩

/-- The probability of key `s` at query `R`, head `e` of pair `p` of key/value head `j`. -/
def prAll (j p e : Fin 2) (s R : Fin 4096) : EReal :=
  Ideal.exp2 ((∑ x : Fin 128, half e x (K j s x * Q R (col j p x))) - L (hrow j p e) R)

/-- The gradient of the score of key `s` at query `R`. -/
def dsAll (j p e : Fin 2) (s R : Fin 4096) : EReal :=
  prAll Q K L j p e s R * ((∑ x : Fin 128, half e x (W j s x * O R (col j p x))) - D (hrow j p e) R)

/-- What block `i` of queries adds to the gradient of key `s`, for pair `p`. -/
def dkAll (j p : Fin 2) (i : Fin 4) (s : Fin 4096) (x : Fin 128) : EReal :=
  if x.val < 64 then (∑ r, dsAll Q O K W L D j p 0 s (qrow i r) * Q (qrow i r) (col j p x)) * ((Real.log 2 : ℝ) : EReal)
  else (∑ r, dsAll Q O K W L D j p 1 s (qrow i r) * Q (qrow i r) (col j p x)) * ((Real.log 2 : ℝ) : EReal)

/-- What block `i` of queries adds to the gradient of value `s`, for pair `p`. -/
def dvAll (j p : Fin 2) (i : Fin 4) (s : Fin 4096) (x : Fin 128) : EReal :=
  if x.val < 64 then ∑ r, prAll Q K L j p 0 s (qrow i r) * O (qrow i r) (col j p x)
  else ∑ r, prAll Q K L j p 1 s (qrow i r) * O (qrow i r) (col j p x)

/-- The gradient of query `R` at lane `x` of pair `p`, block of keys by block of keys. -/
def dqAll (j p : Fin 2) (R : Fin 4096) (x : Fin 128) : EReal :=
  ∑ b ∈ Finset.range 4, ((∑ s, half 0 x (dsAll Q O K W L D j p 0 (keyN b s) R * K j (keyN b s) x))
    + ∑ s, half 1 x (dsAll Q O K W L D j p 1 (keyN b s) R * K j (keyN b s) x))

variable (m : (ℓ : Loc nD τ sig) → Buf (Elt Ideal) ℓ)

abbrev winQ (c : Dev nD) (R : Fin 4096) (l : Fin 512) : EReal := V m c main_v4 (ix2 R l)
abbrev winO (c : Dev nD) (R : Fin 4096) (l : Fin 512) : EReal := V m c main_v44 (ix2 R l)
abbrev winK (c : Dev nD) (j : Fin 2) (s : Fin 4096) (x : Fin 128) : EReal := V m c main_v8 (ix3 j s x)
abbrev winW (c : Dev nD) (j : Fin 2) (s : Fin 4096) (x : Fin 128) : EReal := V m c main_v12 (ix3 j s x)
abbrev winL (c : Dev nD) (g : Fin 8) (R : Fin 4096) : EReal := V m c main_v32 (ix2 g R)
abbrev winD (c : Dev nD) (g : Fin 8) (R : Fin 4096) : EReal := V m c main_v43 (ix2 g R)

/-- The key/value head and the block of queries of grid point `t`. -/
def hd (t : Fin cfg0.N) : Fin 2 := grid0.coords t 0
def qb (t : Fin cfg0.N) : Fin 4 := ⟨t.val % 4, Nat.mod_lt _ (by decide)⟩

theorem hd_val : ∀ t : Fin grid0.N, (grid0.coords t 0).val = t.val / 4 := by decide +kernel

theorem idx : ∀ t : Fin grid0.N, win0_0.index t = ![t.val % 4, (grid0.coords t 0).val] ∧ win0_1.index t = ![t.val % 4, (grid0.coords t 0).val]
    ∧ win0_2.index t = ![(grid0.coords t 0).val, 0, 0] ∧ win0_3.index t = ![(grid0.coords t 0).val, 0, 0]
    ∧ win0_4.index t = ![0, t.val % 4] ∧ win0_5.index t = ![0, t.val % 4]
    ∧ win0_6.index t = ![t.val % 4, (grid0.coords t 0).val] ∧ win0_7.index t = ![(grid0.coords t 0).val, 0, 0]
    ∧ win0_8.index t = ![(grid0.coords t 0).val, 0, 0] := by decide +kernel

theorem blk0 (c : Dev nD) (t : Fin cfg0.N) (p : Fin 2) (r : Fin 1024) (x : Fin 128) :
    iblk m c 0 t (ix2 r (lane p x)) = winQ m c (qrow (qb t) r) (col (hd t) p x) := by
  have h := idx t
  unfold winQ qrow qb col hd lane
  blk_ext! [iblk, h.1]
theorem blk1 (c : Dev nD) (t : Fin cfg0.N) (p : Fin 2) (r : Fin 1024) (x : Fin 128) :
    iblk m c 1 t (ix2 r (lane p x)) = winO m c (qrow (qb t) r) (col (hd t) p x) := by
  have h := idx t
  unfold winO qrow qb col hd lane
  blk_ext! [iblk, h.2.1]
theorem blk2 (c : Dev nD) (t : Fin cfg0.N) (s : Fin 4096) (x : Fin 128) : iblk m c 2 t (ix3 0 s x) = winK m c (hd t) s x := by
  have h := idx t
  unfold winK hd
  blk_ext! [iblk, h.2.2.1]
theorem blk3 (c : Dev nD) (t : Fin cfg0.N) (s : Fin 4096) (x : Fin 128) : iblk m c 3 t (ix3 0 s x) = winW m c (hd t) s x := by
  have h := idx t
  unfold winW hd
  blk_ext! [iblk, h.2.2.2.1]
theorem blk4 (c : Dev nD) (t : Fin cfg0.N) (g : Fin 8) (r : Fin 1024) : iblk m c 4 t (ix2 g r) = winL m c g (qrow (qb t) r) := by
  have h := idx t
  have e : ∀ B : Buf (Elt Ideal) ((c : Thread nD τ).loc main_v32), ((cfg0.win 4).blk t).view.read (Elt Ideal) B (ix2 g r) = B (ix2 g (qrow (qb t) r)) := by
    intro B
    unfold qrow qb
    blk_ext! [h.2.2.2.2.1]
  exact e _
theorem blk5 (c : Dev nD) (t : Fin cfg0.N) (g : Fin 8) (r : Fin 1024) : iblk m c 5 t (ix2 g r) = winD m c g (qrow (qb t) r) := by
  have h := idx t
  unfold winD qrow qb
  blk_ext! [iblk, h.2.2.2.2.2.1]

theorem pr_blk (c : Dev nD) (t : Fin cfg0.N) (p e : Fin 2) (s : Fin 4096) (r : Fin 1024) :
    prob (iblk m c 0 t) (iblk m c 2 t) (iblk m c 4 t) (grid0.coords t 0) p e s r
      = prAll (winQ m c) (winK m c) (winL m c) (hd t) p e s (qrow (qb t) r) := by
  unfold prob prAll
  simp only [blk0, blk2, blk4]
  rfl
theorem ds_blk (c : Dev nD) (t : Fin cfg0.N) (p e : Fin 2) (s : Fin 4096) (r : Fin 1024) :
    dscore (iblk m c 0 t) (iblk m c 1 t) (iblk m c 2 t) (iblk m c 3 t) (iblk m c 4 t) (iblk m c 5 t) (grid0.coords t 0) p e s r
      = dsAll (winQ m c) (winO m c) (winK m c) (winW m c) (winL m c) (winD m c) (hd t) p e s (qrow (qb t) r) := by
  unfold dscore dsAll
  simp only [pr_blk, blk1, blk3, blk5]
  rfl
theorem dk_blk (c : Dev nD) (t : Fin cfg0.N) (p : Fin 2) (s : Fin 4096) (x : Fin 128) :
    dkPair (iblk m c 0 t) (iblk m c 1 t) (iblk m c 2 t) (iblk m c 3 t) (iblk m c 4 t) (iblk m c 5 t) (grid0.coords t 0) p s x
      = dkAll (winQ m c) (winO m c) (winK m c) (winW m c) (winL m c) (winD m c) (hd t) p (qb t) s x := by
  unfold dkPair dkAll
  simp only [ds_blk, blk0]
theorem dv_blk (c : Dev nD) (t : Fin cfg0.N) (p : Fin 2) (s : Fin 4096) (x : Fin 128) :
    dvPair (iblk m c 0 t) (iblk m c 1 t) (iblk m c 2 t) (iblk m c 4 t) (grid0.coords t 0) p s x
      = dvAll (winQ m c) (winO m c) (winK m c) (winL m c) (hd t) p (qb t) s x := by
  unfold dvPair dvAll
  simp only [pr_blk, blk1]
theorem dq_blk (c : Dev nD) (t : Fin cfg0.N) (p : Fin 2) (r : Fin 1024) (x : Fin 128) :
    (∑ b ∈ Finset.range 4, dqBlock (iblk m c 0 t) (iblk m c 1 t) (iblk m c 2 t) (iblk m c 3 t) (iblk m c 4 t) (iblk m c 5 t) (grid0.coords t 0) p (keyN b) r x)
      = dqAll (winQ m c) (winO m c) (winK m c) (winW m c) (winL m c) (winD m c) (hd t) p (qrow (qb t) r) x := by
  unfold dqBlock dqAll
  simp only [ds_blk, blk2]

theorem out6 (c : Dev nD) (t : Fin cfg0.N) (p : Fin 2) (r : Fin 1024) (x : Fin 128) :
    (outsAt0 m c t.val t.isLt).1 (ix2 r (lane p x))
      = dqAll (winQ m c) (winO m c) (winK m c) (winW m c) (winL m c) (winD m c) (hd t) p (qrow (qb t) r) x := by
  by_cases h0 : t.val % 4 = 0
  · rw [outsAt0_A m c t h0]
    exact (dq_A c _ _ _ _ _ _ _ _ _ _ _ _ _ _ _ _ _ _ _ _ _ _ _ _ _ _ p r x).trans (dq_blk m c t p r x)
  · rw [outsAt0_B m c t h0]
    exact (dq_B c _ _ _ _ _ _ _ _ _ _ _ _ _ _ _ _ _ _ _ _ _ _ _ _ _ _ _ _ p r x).trans (dq_blk m c t p r x)

/-- The grid point of key/value head `j` and block `i` of queries. -/
theorem hd_pt (t : Fin cfg0.N) (i : Fin 4) (h : 4 * (t.val / 4) + i.val < cfg0.N) : hd ⟨4 * (t.val / 4) + i.val, h⟩ = hd t :=
  Fin.ext ((hd_val _).trans ((by omega : (4 * (t.val / 4) + i.val) / 4 = t.val / 4).trans (hd_val t).symm))
theorem qb_pt (t : Fin cfg0.N) (i : Fin 4) (h : 4 * (t.val / 4) + i.val < cfg0.N) : qb ⟨4 * (t.val / 4) + i.val, h⟩ = i :=
  Fin.ext (by show (4 * (t.val / 4) + i.val) % 4 = i.val; omega)

/-- A block cleared at the first of a head's four points, to which each point adds its term, ends as the sum of the four. -/
theorem total (f : (n : Nat) → n < cfg0.N → EReal) (term : Fin 2 → Fin 2 → Fin 4 → EReal)
    (h0 : ∀ t : Fin cfg0.N, t.val % 4 = 0 → f t.val t.isLt = 0 + term (hd t) 0 (qb t) + term (hd t) 1 (qb t))
    (hs : ∀ t : Fin cfg0.N, ¬t.val % 4 = 0 →
      f t.val t.isLt = f (t.val - 1) (Nat.lt_of_le_of_lt (Nat.sub_le _ _) t.isLt) + term (hd t) 0 (qb t) + term (hd t) 1 (qb t))
    (t : Fin cfg0.N) (hr : t.val % 4 = 3) : f t.val t.isLt = ∑ i, (term (hd t) 0 i + term (hd t) 1 i) := by
  refine (Pipeline.eq_sum_fin_of_reset_step_of_flush f 4 0 (fun t => term (hd t) 0 (qb t) + term (hd t) 1 (qb t))
    (fun t h => (h0 t h).trans (add_assoc _ _ _)) (fun t h => (hs t h).trans (add_assoc _ _ _)) t hr).trans ?_
  rw [zero_add]
  exact Finset.sum_congr rfl fun i _ => by rw [hd_pt, qb_pt]

theorem out7 (c : Dev nD) (t : Fin cfg0.N) (hr : t.val % 4 = 3) (s : Fin 4096) (x : Fin 128) :
    (outsAt0 m c t.val t.isLt).2.1 (ix3 0 s x)
      = ∑ i, (dkAll (winQ m c) (winO m c) (winK m c) (winW m c) (winL m c) (winD m c) (hd t) 0 i s x
        + dkAll (winQ m c) (winO m c) (winK m c) (winW m c) (winL m c) (winD m c) (hd t) 1 i s x) := by
  refine total (fun n h => (outsAt0 m c n h).2.1 (ix3 0 s x))
    (fun j p i => dkAll (winQ m c) (winO m c) (winK m c) (winW m c) (winL m c) (winD m c) j p i s x) (fun t h0 => ?_) (fun t h0 => ?_) t hr
  · beta_reduce
    rw [outsAt0_A m c t h0, ← dk_blk, ← dk_blk]
    exact dk_A c _ _ _ _ _ _ _ _ _ _ _ _ _ _ _ _ _ _ _ _ _ _ _ _ _ _ s x
  · beta_reduce
    rw [outsAt0_B m c t h0, ← dk_blk, ← dk_blk]
    exact dk_B c _ _ _ _ _ _ _ _ _ _ _ _ _ _ _ _ _ _ _ _ _ _ _ _ _ _ _ _ s x
theorem out8 (c : Dev nD) (t : Fin cfg0.N) (hr : t.val % 4 = 3) (s : Fin 4096) (x : Fin 128) :
    (outsAt0 m c t.val t.isLt).2.2 (ix3 0 s x)
      = ∑ i, (dvAll (winQ m c) (winO m c) (winK m c) (winL m c) (hd t) 0 i s x + dvAll (winQ m c) (winO m c) (winK m c) (winL m c) (hd t) 1 i s x) := by
  refine total (fun n h => (outsAt0 m c n h).2.2 (ix3 0 s x))
    (fun j p i => dvAll (winQ m c) (winO m c) (winK m c) (winL m c) j p i s x) (fun t h0 => ?_) (fun t h0 => ?_) t hr
  · beta_reduce
    rw [outsAt0_A m c t h0, ← dv_blk, ← dv_blk]
    exact dv_A c _ _ _ _ _ _ _ _ _ _ _ _ _ _ _ _ _ _ _ _ _ _ _ _ _ _ s x
  · beta_reduce
    rw [outsAt0_B m c t h0, ← dv_blk, ← dv_blk]
    exact dv_B c _ _ _ _ _ _ _ _ _ _ _ _ _ _ _ _ _ _ _ _ _ _ _ _ _ _ _ _ s x

/-- The pair and the lane of a column. -/
def prOf (l : ℕ) : Fin 2 := ⟨l / 128 % 2, Nat.mod_lt _ (by decide)⟩
def laneOf (l : ℕ) : Fin 128 := ⟨l % 128, Nat.mod_lt _ (by decide)⟩

theorem final6 (c : Dev nD) : (dats m 0 c).arrAt 6 cfg0.N = fun i =>
    dqAll (winQ m c) (winO m c) (winK m c) (winW m c) (winL m c) (winD m c) ⟨(i 1).val / 256, by have : (i 1).val < 512 := (i 1).isLt; omega⟩
      (prOf (i 1).val) (i 0) (laneOf (i 1).val) := by
  refine (dats m 0 c).arrAt_eq_of_covers 6 _ (by decide +kernel) fun t hf y => ?_
  have h := idx t
  blk_simp
  rw [after0_6]
  idx_vars y
  obtain ⟨p, x, rfl⟩ : ∃ p x, y1 = lane p x := ⟨⟨y1.val / 128, by omega⟩, ⟨y1.val % 128, Nat.mod_lt _ (by decide)⟩, Fin.ext (by show y1.val = 128 * (y1.val / 128) + y1.val % 128; omega)⟩
  refine (out6 m c t p _ x).trans ?_
  have e0 : (((View.whole main_v45_0).slice (win0_6.rect t)).emb (ix2 y0 (lane p x)) 0).val = t.val % 4 * 1024 + y0.val := by blk_simp [h.2.2.2.2.2.2.1]
  have e1 : win0_6.index t 1 * 256 + (lane p x).val = (grid0.coords t 0).val * 256 + (128 * p.val + x.val) := by rw [h.2.2.2.2.2.2.1]; rfl
  have ej := (grid0.coords t 0).isLt
  rw [show hd t = ⟨(win0_6.index t 1 * 256 + (lane p x).val) / 256, _⟩ from Fin.ext (by show (grid0.coords t 0).val = (win0_6.index t 1 * 256 + (lane p x).val) / 256; omega),
    show qrow (qb t) y0 = ((View.whole main_v45_0).slice (win0_6.rect t)).emb (ix2 y0 (lane p x)) 0 from Fin.ext e0.symm,
    show prOf (win0_6.index t 1 * 256 + (lane p x).val) = p from Fin.ext (by show (win0_6.index t 1 * 256 + (lane p x).val) / 128 % 2 = p.val; omega),
    show laneOf (win0_6.index t 1 * 256 + (lane p x).val) = x from Fin.ext (by show (win0_6.index t 1 * 256 + (lane p x).val) % 128 = x.val; omega)]

theorem final7 (c : Dev nD) : (dats m 0 c).arrAt 7 cfg0.N = fun i =>
    ∑ q, (dkAll (winQ m c) (winO m c) (winK m c) (winW m c) (winL m c) (winD m c) (i 0) 0 q (i 1) (i 2)
        + dkAll (winQ m c) (winO m c) (winK m c) (winW m c) (winL m c) (winD m c) (i 0) 1 q (i 1) (i 2)) := by
  refine (dats m 0 c).arrAt_eq_of_covers 7 _ (by decide +kernel) fun t hf y => ?_
  have h := idx t
  blk_simp
  rw [after0_7]
  idx_vars y
  obtain rfl := Subsingleton.elim y0 0
  refine (out7 m c t ((flush0_7 t).mp hf) _ _).trans ?_
  rw [show ((View.whole main_v45_1).slice (win0_7.rect t)).emb (ix3 0 y1 y2) 0 = hd t from Fin.ext ((show _ = (grid0.coords t 0).val + 0 by blk_simp [h.2.2.2.2.2.2.2.1]; rfl)),
    show ((View.whole main_v45_1).slice (win0_7.rect t)).emb (ix3 0 y1 y2) 1 = y1 from Fin.ext (by blk_simp [h.2.2.2.2.2.2.2.1]),
    show ((View.whole main_v45_1).slice (win0_7.rect t)).emb (ix3 0 y1 y2) 2 = y2 from Fin.ext (by blk_simp [h.2.2.2.2.2.2.2.1])]

theorem final8 (c : Dev nD) : (dats m 0 c).arrAt 8 cfg0.N = fun i =>
    ∑ q, (dvAll (winQ m c) (winO m c) (winK m c) (winL m c) (i 0) 0 q (i 1) (i 2)
        + dvAll (winQ m c) (winO m c) (winK m c) (winL m c) (i 0) 1 q (i 1) (i 2)) := by
  refine (dats m 0 c).arrAt_eq_of_covers 8 _ (by decide +kernel) fun t hf y => ?_
  have h := idx t
  blk_simp
  rw [after0_8]
  idx_vars y
  obtain rfl := Subsingleton.elim y0 0
  refine (out8 m c t ((flush0_8 t).mp hf) _ _).trans ?_
  rw [show ((View.whole main_v45_2).slice (win0_8.rect t)).emb (ix3 0 y1 y2) 0 = hd t from Fin.ext ((show _ = (grid0.coords t 0).val + 0 by blk_simp [h.2.2.2.2.2.2.2.2]; rfl)),
    show ((View.whole main_v45_2).slice (win0_8.rect t)).emb (ix3 0 y1 y2) 1 = y1 from Fin.ext (by blk_simp [h.2.2.2.2.2.2.2.2]),
    show ((View.whole main_v45_2).slice (win0_8.rect t)).emb (ix3 0 y1 y2) 2 = y2 from Fin.ext (by blk_simp [h.2.2.2.2.2.2.2.2])]

end Cert.AttnBwdIdeal.Hand

end
-- ==== Proof.AttnBwd.Host.lean ====
/- The arrays the host hands the attention-gradient kernel, and what it makes of the kernel's results. -/
module

public import proofs.«01_k».proof.Proof.AttnBwd.Kernel

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)

variable (m : (ℓ : Loc nD τ sig) → Buf (Elt Ideal) ℓ)

abbrev argQ (c : Dev nD) (s : Fin 4096) (g : Fin 8) (d : Fin 64) : EReal := m ((c : Thread nD τ).loc main_arg0) (ix4 0 s g d)
abbrev argK (c : Dev nD) (s : Fin 4096) (j : Fin 2) (d : Fin 64) : EReal := m ((c : Thread nD τ).loc main_arg1) (ix4 0 s j d)
abbrev argV (c : Dev nD) (s : Fin 4096) (j : Fin 2) (d : Fin 64) : EReal := m ((c : Thread nD τ).loc main_arg2) (ix4 0 s j d)
abbrev argO (c : Dev nD) (s : Fin 4096) (g : Fin 8) (d : Fin 64) : EReal :=
  m ((c : Thread nD τ).loc main_arg3) (ix3 0 s ⟨64 * g.val + d.val, by omega⟩)

/-- Lane `d` of head `e` of a pair. -/
def lane2 (e : Fin 2) (d : Fin 64) : Fin 128 := ⟨64 * e.val + d.val, by omega⟩

/-- The logarithm of the constant two. -/
def ln2 : EReal := Ideal.log (Ideal.ofBits .f32 1073741824#32)

variable (q : Fin 4096 → Fin 8 → Fin 64 → EReal) (k v : Fin 4096 → Fin 2 → Fin 64 → EReal) (o : Fin 4096 → Fin 8 → Fin 64 → EReal)

/-- Query head `h` of key/value head `j`. -/
def head (j : Fin 2) (h : Fin 4) : Fin 8 := ⟨4 * j.val + h.val, by omega⟩

/-- The score of key `s` at query `R`, in base two. -/
def score (j : Fin 2) (h : Fin 4) (R s : Fin 4096) : EReal := ∑ d, k s j d * Ideal.div (q R (head j h) d) ln2

/-- A query's greatest score. -/
def top (j : Fin 2) (h : Fin 4) (R : Fin 4096) : EReal :=
  Finset.univ.fold max (Ideal.ofBits .f32 0xFF800000#32) fun s => score q k j h R s

/-- The exponential of a score less the greatest, and a query's sum of them. -/
def ex (j : Fin 2) (h : Fin 4) (R s : Fin 4096) : EReal := Ideal.exp ((score q k j h R s - top q k j h R) * ln2)
def exSum (j : Fin 2) (h : Fin 4) (R : Fin 4096) : EReal := ∑ s, ex q k j h R s

/-- The logarithm, in base two, of a query's sum of exponentials. -/
def lse (j : Fin 2) (h : Fin 4) (R : Fin 4096) : EReal := top q k j h R + Ideal.div (Ideal.log (exSum q k j h R)) ln2

/-- A query's sum of cotangent times output. -/
def rowDot (j : Fin 2) (h : Fin 4) (R : Fin 4096) : EReal :=
  ∑ d, o R (head j h) d * Ideal.div (∑ s, ex q k j h R s * v s j d) (exSum q k j h R)

theorem winQ_eq (c : Dev nD) (R : Fin 4096) (j p e : Fin 2) (d : Fin 64) :
    winQ m c R (col j p (lane2 e d)) = Ideal.div (argQ m c R (hrow j p e) d) ln2 := by
  show StableHlo.after (hostOps0 (F := Ideal)) (fun b => m (c, b)) (Proc.devRef .tc main_v4) (ix2 R (col j p (lane2 e d))) = _
  unfold hostOps0
  after_results
  pointwise
  refine congrArg₂ Ideal.div (congrArg _ (congrArg₂ (ix4 0 R) (Fin.ext ?_) (Fin.ext ?_))) rfl
  · show (j.val * 256 + (128 * p.val + (64 * e.val + d.val))) / 64 = 4 * j.val + 2 * p.val + e.val
    omega
  · show (j.val * 256 + (128 * p.val + (64 * e.val + d.val))) % 64 = d.val
    omega

theorem winK_eq (c : Dev nD) (j : Fin 2) (s : Fin 4096) (e : Fin 2) (d : Fin 64) :
    winK m c j s (lane2 e d) = argK m c s j d := by
  show StableHlo.after (hostOps0 (F := Ideal)) (fun b => m (c, b)) (Proc.devRef .tc main_v8) (ix3 j s (lane2 e d)) = _
  unfold hostOps0
  after_results
  pointwise
  have h : (lane2 e d).val = 64 * e.val + d.val := rfl
  split
  · exact congrArg _ (congrArg (ix4 0 s j) (Fin.ext (by show (lane2 e d).val = d.val; omega)))
  · exact congrArg _ (congrArg (ix4 0 s j) (Fin.ext (by show (lane2 e d).val - 64 = d.val; omega)))

theorem winW_eq (c : Dev nD) (j : Fin 2) (s : Fin 4096) (e : Fin 2) (d : Fin 64) :
    winW m c j s (lane2 e d) = argV m c s j d := by
  show StableHlo.after (hostOps0 (F := Ideal)) (fun b => m (c, b)) (Proc.devRef .tc main_v12) (ix3 j s (lane2 e d)) = _
  unfold hostOps0
  after_results
  pointwise
  have h : (lane2 e d).val = 64 * e.val + d.val := rfl
  split
  · exact congrArg _ (congrArg (ix4 0 s j) (Fin.ext (by show (lane2 e d).val = d.val; omega)))
  · exact congrArg _ (congrArg (ix4 0 s j) (Fin.ext (by show (lane2 e d).val - 64 = d.val; omega)))

theorem winO_eq (c : Dev nD) (R : Fin 4096) (j p e : Fin 2) (d : Fin 64) :
    winO m c R (col j p (lane2 e d)) = argO m c R (hrow j p e) d := by
  show StableHlo.after (hostOps0 (F := Ideal)) (fun b => m (c, b)) (Proc.devRef .tc main_v44) (ix2 R (col j p (lane2 e d))) = _
  unfold hostOps0
  after_results
  pointwise
  refine congrArg _ (congrArg (ix3 0 R) (Fin.ext ?_))
  show j.val * 256 + (128 * p.val + (64 * e.val + d.val)) = 64 * (4 * j.val + 2 * p.val + e.val) + d.val
  omega

/-- A line of operations run in two parts. -/
theorem after_drop (l : List (HloOp τ sig (Elt Ideal))) (n : ℕ) (W : Valuation τ sig (Elt Ideal)) :
    StableHlo.after l W = StableHlo.after (l.drop n) (StableHlo.after (l.take n) W) := by
  induction l generalizing n W with
  | nil => simp
  | cons a l ih => cases n with
    | zero => rfl
    | succ n => exact ih n _

/-- What the operations from the `n`-th on leave in `b`, started from `W`. -/
abbrev rest (n : ℕ) (W : Valuation τ sig (Elt Ideal)) (b : Ref sig .tc) :=
  StableHlo.after ((hostOps0 (F := Ideal)).drop n) W (Proc.devRef .tc b)

variable (W : Valuation τ sig (Elt Ideal))

abbrev at0 : EReal := W (Proc.devRef .tc main_v0) ix0
abbrev at19 (j : Fin 2) (h : Fin 4) (R s : Fin 4096) : EReal := W (Proc.devRef .tc main_v19) (ix4 j h R s)
abbrev at20 (j : Fin 2) (h : Fin 4) (R : Fin 4096) : EReal := W (Proc.devRef .tc main_v20) (ix3 j h R)
abbrev at26 (j : Fin 2) (h : Fin 4) (R s : Fin 4096) : EReal := W (Proc.devRef .tc main_v26) (ix4 j h R s)
abbrev at27 (j : Fin 2) (h : Fin 4) (R : Fin 4096) : EReal := W (Proc.devRef .tc main_v27) (ix3 j h R)
abbrev at12 (j : Fin 2) (s : Fin 4096) (d : Fin 64) : EReal := W (Proc.devRef .tc main_v12) (ix3 j s ⟨d.val, by omega⟩)
abbrev at13 (R : Fin 4096) (j : Fin 2) (h : Fin 4) (d : Fin 64) : EReal :=
  W (Proc.devRef .tc main_v13) (ix2 R ⟨j.val * 256 + h.val * 64 + d.val, by omega⟩)

theorem keep21_v19 : rest 21 W main_v19 = W (Proc.devRef .tc main_v19) := by
  unfold rest hostOps0
  simp only [List.drop_succ_cons, List.drop_zero]
  after_results
theorem keep23_v19 : rest 23 W main_v19 = W (Proc.devRef .tc main_v19) := by
  unfold rest hostOps0
  simp only [List.drop_succ_cons, List.drop_zero]
  after_results
theorem keep23_v0 : rest 23 W main_v0 = W (Proc.devRef .tc main_v0) := by
  unfold rest hostOps0
  simp only [List.drop_succ_cons, List.drop_zero]
  after_results
theorem keep23_v20 : rest 23 W main_v20 = W (Proc.devRef .tc main_v20) := by
  unfold rest hostOps0
  simp only [List.drop_succ_cons, List.drop_zero]
  after_results
theorem keep31_v0 : rest 31 W main_v0 = W (Proc.devRef .tc main_v0) := by
  unfold rest hostOps0
  simp only [List.drop_succ_cons, List.drop_zero]
  after_results
theorem keep31_v20 : rest 31 W main_v20 = W (Proc.devRef .tc main_v20) := by
  unfold rest hostOps0
  simp only [List.drop_succ_cons, List.drop_zero]
  after_results
theorem keep31_v27 : rest 31 W main_v27 = W (Proc.devRef .tc main_v27) := by
  unfold rest hostOps0
  simp only [List.drop_succ_cons, List.drop_zero]
  after_results
theorem keep36_v26 : rest 36 W main_v26 = W (Proc.devRef .tc main_v26) := by
  unfold rest hostOps0
  simp only [List.drop_succ_cons, List.drop_zero]
  after_results
theorem keep36_v27 : rest 36 W main_v27 = W (Proc.devRef .tc main_v27) := by
  unfold rest hostOps0
  simp only [List.drop_succ_cons, List.drop_zero]
  after_results
theorem keep36_v12 : rest 36 W main_v12 = W (Proc.devRef .tc main_v12) := by
  unfold rest hostOps0
  simp only [List.drop_succ_cons, List.drop_zero]
  after_results
theorem keep36_v13 : rest 36 W main_v13 = W (Proc.devRef .tc main_v13) := by
  unfold rest hostOps0
  simp only [List.drop_succ_cons, List.drop_zero]
  after_results
theorem rest21_v20 (j : Fin 2) (h : Fin 4) (R : Fin 4096) :
    rest 21 W main_v20 (ix3 j h R) = (Finset.univ.fold max (Ideal.ofBits .f32 0xFF800000#32) fun s => at19 W j h R s : EReal) := by
  unfold rest hostOps0
  simp only [List.drop_succ_cons, List.drop_zero]
  after_results
  pointwise
theorem rest23_v26 (j : Fin 2) (h : Fin 4) (R s : Fin 4096) :
    rest 23 W main_v26 (ix4 j h R s) = Ideal.exp ((at19 W j h R s - at20 W j h R) * at0 W) := by
  unfold rest hostOps0
  simp only [List.drop_succ_cons, List.drop_zero]
  after_results
  pointwise
theorem rest23_v27 (j : Fin 2) (h : Fin 4) (R : Fin 4096) :
    rest 23 W main_v27 (ix3 j h R) = ∑ s, Ideal.exp ((at19 W j h R s - at20 W j h R) * at0 W) := by
  unfold rest hostOps0
  simp only [List.drop_succ_cons, List.drop_zero]
  after_results
  pointwise
theorem rest31_v32 (j : Fin 2) (h : Fin 4) (R : Fin 4096) :
    rest 31 W main_v32 (ix2 ⟨4 * j.val + h.val, by omega⟩ R) = at20 W j h R + Ideal.div (Ideal.log (at27 W j h R)) (at0 W) := by
  unfold rest hostOps0
  simp only [List.drop_succ_cons, List.drop_zero]
  after_results
  pointwise
theorem rest36_v43 (j : Fin 2) (h : Fin 4) (R : Fin 4096) :
    rest 36 W main_v43 (ix2 ⟨4 * j.val + h.val, by omega⟩ R) = ∑ d : Fin 64, at13 W R j h d * Ideal.div (∑ s, at26 W j h R s * at12 W j s d) (at27 W j h R) := by
  unfold rest hostOps0
  simp only [List.drop_succ_cons, List.drop_zero]
  after_results
  pointwise
/-- What the first `n` operations leave. -/
abbrev pre (n : ℕ) (c : Dev nD) : Valuation τ sig (Elt Ideal) := StableHlo.after ((hostOps0 (F := Ideal)).take n) (fun b => m (c, b))

theorem V_rest (n : ℕ) (c : Dev nD) (b : Ref sig .tc) : V m c b = rest n (pre m n c) b :=
  congrFun (after_drop hostOps0 n fun b => m (c, b)) _

theorem v0_eq (c : Dev nD) : at0 (V0 m c) = ln2 := by
  show (StableHlo.after (hostOps0 (F := Ideal)) (fun b => m (c, b)) (Proc.devRef .tc main_v0) ix0 : EReal) = _
  unfold hostOps0
  after_results
  pointwise
  rfl

theorem v13_eq (c : Dev nD) (R : Fin 4096) (j : Fin 2) (h : Fin 4) (d : Fin 64) :
    at13 (V0 m c) R j h d = argO m c R (head j h) d := by
  show (StableHlo.after (hostOps0 (F := Ideal)) (fun b => m (c, b)) (Proc.devRef .tc main_v13) (ix2 R ⟨j.val * 256 + h.val * 64 + d.val, by omega⟩) : EReal) = _
  unfold hostOps0
  after_results
  pointwise
  refine congrArg _ (congrArg (ix3 0 R) (Fin.ext ?_))
  show j.val * 256 + h.val * 64 + d.val = 64 * (4 * j.val + h.val) + d.val
  omega

theorem v19_eq (c : Dev nD) (j : Fin 2) (h : Fin 4) (R s : Fin 4096) :
    at19 (V0 m c) j h R s = score (argQ m c) (argK m c) j h R s := by
  show (StableHlo.after (hostOps0 (F := Ideal)) (fun b => m (c, b)) (Proc.devRef .tc main_v19) (ix4 j h R s) : EReal) = _
  unfold hostOps0
  after_results
  pointwise
  unfold score
  refine Finset.sum_congr (M := EReal) rfl fun d _ => congrArg₂ (fun x y : EReal => x * y) rfl (congrArg₂ Ideal.div (congrArg _ (congrArg₂ (ix4 0 R) (Fin.ext ?_) (Fin.ext ?_))) rfl)
  · show (j.val * 256 + h.val * 64 + d.val) / 64 = 4 * j.val + h.val
    omega
  · show (j.val * 256 + h.val * 64 + d.val) % 64 = d.val
    omega

theorem v20_eq (c : Dev nD) (j : Fin 2) (h : Fin 4) (R : Fin 4096) :
    at20 (V0 m c) j h R = top (argQ m c) (argK m c) j h R := by
  refine (congrFun (V_rest m 21 c main_v20) _).trans ?_
  refine (rest21_v20 _ j h R).trans ?_
  have e s : at19 (pre m 21 c) j h R s = score (argQ m c) (argK m c) j h R s := (congrFun ((keep21_v19 _).symm.trans (V_rest m 21 c _).symm) _).trans (v19_eq m c j h R s)
  simp only [e]
  rfl

theorem pre23_v0 (c : Dev nD) : at0 (pre m 23 c) = ln2 := (congrFun ((keep23_v0 _).symm.trans (V_rest m 23 c _).symm) _).trans (v0_eq m c)
theorem pre23_v19 (c : Dev nD) (j : Fin 2) (h : Fin 4) (R s : Fin 4096) : at19 (pre m 23 c) j h R s = score (argQ m c) (argK m c) j h R s :=
  (congrFun ((keep23_v19 _).symm.trans (V_rest m 23 c _).symm) _).trans (v19_eq m c j h R s)
theorem pre23_v20 (c : Dev nD) (j : Fin 2) (h : Fin 4) (R : Fin 4096) : at20 (pre m 23 c) j h R = top (argQ m c) (argK m c) j h R :=
  (congrFun ((keep23_v20 _).symm.trans (V_rest m 23 c _).symm) _).trans (v20_eq m c j h R)

theorem v26_eq (c : Dev nD) (j : Fin 2) (h : Fin 4) (R s : Fin 4096) :
    at26 (V0 m c) j h R s = ex (argQ m c) (argK m c) j h R s := by
  refine (congrFun (V_rest m 23 c main_v26) _).trans ?_
  refine (rest23_v26 _ j h R s).trans ?_
  rw [pre23_v0, pre23_v19, pre23_v20]
  rfl
theorem v27_eq (c : Dev nD) (j : Fin 2) (h : Fin 4) (R : Fin 4096) :
    at27 (V0 m c) j h R = exSum (argQ m c) (argK m c) j h R := by
  refine (congrFun (V_rest m 23 c main_v27) _).trans ?_
  refine (rest23_v27 _ j h R).trans ?_
  unfold exSum
  refine Finset.sum_congr (M := EReal) rfl fun s _ => ?_
  rw [pre23_v0, pre23_v19, pre23_v20]
  rfl
theorem winL_eq (c : Dev nD) (j : Fin 2) (h : Fin 4) (R : Fin 4096) :
    winL m c (head j h) R = lse (argQ m c) (argK m c) j h R := by
  unfold winL
  rw [V_rest m 31]
  refine (rest31_v32 _ j h R).trans ?_
  have e0 : at0 (pre m 31 c) = ln2 := (congrFun ((keep31_v0 _).symm.trans (V_rest m 31 c _).symm) _).trans (v0_eq m c)
  have e1 : at20 (pre m 31 c) j h R = _ := (congrFun ((keep31_v20 _).symm.trans (V_rest m 31 c _).symm) _).trans (v20_eq m c j h R)
  have e2 : at27 (pre m 31 c) j h R = _ := (congrFun ((keep31_v27 _).symm.trans (V_rest m 31 c _).symm) _).trans (v27_eq m c j h R)
  rw [e0, e1, e2]
  rfl
theorem winD_eq (c : Dev nD) (j : Fin 2) (h : Fin 4) (R : Fin 4096) :
    winD m c (head j h) R = rowDot (argQ m c) (argK m c) (argV m c) (argO m c) j h R := by
  unfold winD
  rw [V_rest m 36]
  refine (rest36_v43 _ j h R).trans ?_
  have e0 s d : at12 (pre m 36 c) j s d = argV m c s j d := (congrFun ((keep36_v12 _).symm.trans (V_rest m 36 c _).symm) _).trans
    ((congrArg (V m c main_v12) (congrArg (ix3 j s) (Fin.ext (by show d.val = 64 * 0 + d.val; omega)))).trans (winW_eq m c j s 0 d))
  have e1 d : at13 (pre m 36 c) R j h d = _ := (congrFun ((keep36_v13 _).symm.trans (V_rest m 36 c _).symm) _).trans (v13_eq m c R j h d)
  have e2 s : at26 (pre m 36 c) j h R s = _ := (congrFun ((keep36_v26 _).symm.trans (V_rest m 36 c _).symm) _).trans (v26_eq m c j h R s)
  have e3 : at27 (pre m 36 c) j h R = _ := (congrFun ((keep36_v27 _).symm.trans (V_rest m 36 c _).symm) _).trans (v27_eq m c j h R)
  simp only [e0, e1, e2, e3]
  rfl

abbrev at48 (j : Fin 2) (s : Fin 4096) (d : Fin 64) : EReal := StableHlo.after (hostOps1 (F := Ideal)) W (Proc.devRef .tc main_v48) (ix3 j s d)
abbrev at51 (j : Fin 2) (s : Fin 4096) (d : Fin 64) : EReal := StableHlo.after (hostOps1 (F := Ideal)) W (Proc.devRef .tc main_v51) (ix3 j s d)
abbrev at45 (j : Fin 2) (s : Fin 4096) (x : Fin 128) : EReal := W (Proc.devRef .tc main_v45_1) (ix3 j s x)
abbrev at45' (j : Fin 2) (s : Fin 4096) (x : Fin 128) : EReal := W (Proc.devRef .tc main_v45_2) (ix3 j s x)

theorem lane2_0 (d : Fin 64) (h : d.val < 128) : (⟨d.val, h⟩ : Fin 128) = lane2 0 d := Fin.ext (by show d.val = 64 * 0 + d.val; omega)
theorem lane2_1 (d : Fin 64) (h : 64 + d.val < 128) : (⟨64 + d.val, h⟩ : Fin 128) = lane2 1 d := rfl

/-- The host adds a head's two lane halves. -/
theorem at48_eq (j : Fin 2) (s : Fin 4096) (d : Fin 64) : at48 W j s d = at45 W j s (lane2 0 d) + at45 W j s (lane2 1 d) := by
  unfold at48 hostOps1
  after_results
  pointwise
  rw [lane2_0]
  rfl
theorem at51_eq (j : Fin 2) (s : Fin 4096) (d : Fin 64) : at51 W j s d = at45' W j s (lane2 0 d) + at45' W j s (lane2 1 d) := by
  unfold at51 hostOps1
  after_results
  pointwise
  rw [lane2_0]
  rfl

abbrev exitV (c : Dev nD) : Valuation τ sig (Elt Ideal) :=
  Pipeline.withArrays (cfgs 0).spec c (V0 m c) fun w => (dats m 0 c).arrAt w (cfgs 0).N

theorem tail48 (c : Dev nD) (j : Fin 2) (s : Fin 4096) (d : Fin 64) :
    Pipeline.afterTail₀ cfgs (dats m) 0 (V0 m) [hostOps1] c main_v48 (ix3 j s d) = at48 (exitV m c) j s d := by
  unfold Pipeline.afterTail₀
  rfl
theorem exit7 (c : Dev nD) (j : Fin 2) (s : Fin 4096) (x : Fin 128) :
    at45 (exitV m c) j s x = ∑ q, (dkAll (winQ m c) (winO m c) (winK m c) (winW m c) (winL m c) (winD m c) j 0 q s x
        + dkAll (winQ m c) (winO m c) (winK m c) (winW m c) (winL m c) (winD m c) j 1 q s x) :=
  congrFun ((show exitV m c (Proc.devRef .tc main_v45_1) = (dats m 0 c).arrAt 7 cfg0.N from
    Pipeline.withArrays_arr (cfgs 0).spec launch0.win.arr_inj c (V0 m c) (fun w => (dats m 0 c).arrAt w (cfgs 0).N) 7).trans (final7 m c)) (ix3 j s x)
theorem exit8 (c : Dev nD) (j : Fin 2) (s : Fin 4096) (x : Fin 128) :
    at45' (exitV m c) j s x = ∑ q, (dvAll (winQ m c) (winO m c) (winK m c) (winL m c) j 0 q s x
        + dvAll (winQ m c) (winO m c) (winK m c) (winL m c) j 1 q s x) :=
  congrFun ((show exitV m c (Proc.devRef .tc main_v45_2) = (dats m 0 c).arrAt 8 cfg0.N from
    Pipeline.withArrays_arr (cfgs 0).spec launch0.win.arr_inj c (V0 m c) (fun w => (dats m 0 c).arrAt w (cfgs 0).N) 8).trans (final8 m c)) (ix3 j s x)
end Cert.AttnBwdIdeal.Hand

end
-- ==== Proof.Sums.lean ====
/- A host sum over several axes at once, read at an index: the sum over any parametrisation of the cells that reduce to it. -/
module

public import Idealize.ShloMosaic.PureOps.Ideal.Laws
public import Idealize.ShloMosaic.Lib.ValueIdx

@[expose] public section

noncomputable section

namespace Cert.Sums

open Idealize.ShloMosaic

/-- The sum over the reduced axes is the sum over `e`, when `e` runs once through the cells that reduce to `j`. -/
theorem hostReduceAdd_of_fibre {s t : Shape} {axes : List (Fin s.rank)} {ι : Type} [Fintype ι] (h' : s.ReducesTo axes t)
    (x : s.Idx → EReal) (init : EReal) (j : t.Idx) (e : ι → s.Idx) (he : Function.Injective e)
    (hd : ∀ k, h'.drop (e k) = j) (hs : ∀ i, h'.drop i = j → ∃ k, e k = i) :
    Ideal.hostReduceAdd h' x init j = init + ∑ k, x (e k) := by
  unfold Ideal.hostReduceAdd
  congr 1
  refine (Finset.sum_bij (fun k _ => e k) (fun k _ => ?_) (fun a _ b _ h => he h) (fun i hi => ?_) fun _ _ => rfl).symm
  · simpa using hd k
  · obtain ⟨k, hk⟩ := hs i (by simpa using hi)
    exact ⟨k, Finset.mem_univ _, hk⟩

/-- … where only one cell reduces to `j`, the sum is that cell. -/
theorem hostReduceAdd_of_cell {s t : Shape} {axes : List (Fin s.rank)} (h' : s.ReducesTo axes t)
    (x : s.Idx → EReal) (init : EReal) (j : t.Idx) (i0 : s.Idx)
    (hd : h'.drop i0 = j) (hs : ∀ i, h'.drop i = j → i = i0) :
    Ideal.hostReduceAdd h' x init j = init + x i0 := by
  rw [hostReduceAdd_of_fibre (ι := Unit) h' x init j (fun _ => i0) (fun _ _ _ => rfl) (fun _ => hd) fun i h => ⟨(), (hs i h).symm⟩,
    Finset.univ_unique, Finset.sum_singleton]

end Cert.Sums

end
-- ==== Proof.AttnBwd.Reference.lean ====
/- The three arrays of the reference of the attention gradient, read at an index. -/
module

public import proofs.«01_k».proof.Proof.Gen.AttnBwdRefIdeal.Read
public import Idealize.ShloMosaic.Lib.Pointwise
public import Idealize.ShloMosaic.Lib.TwoAxisContraction
public import proofs.«01_k».proof.Proof.Sums

@[expose] public section

set_option maxRecDepth 16384

noncomputable section

namespace Cert.AttnBwdRefIdeal.Hand

open Cert.AttnBwdRefIdeal Cert.AttnBwdRefIdeal.Gen Cert.AttnBwdRefIdeal.Read Idealize.ShloMosaic Idealize.ShloMosaic.TcCoe Idealize.SL.Sem

variable (x0 : S1x4096x8x64.Idx → EReal) (x1 x2 : S1x4096x2x64.Idx → EReal) (x3 : S1x4096x512.Idx → EReal)

abbrev cQ (R : Fin 4096) (g : Fin 8) (d : Fin 64) : EReal := x0 (ix4 0 R g d)
abbrev cK (s : Fin 4096) (j : Fin 2) (d : Fin 64) : EReal := x1 (ix4 0 s j d)
abbrev cO (R : Fin 4096) (g : Fin 8) (d : Fin 64) : EReal := x3 (ix3 0 R ⟨64 * g.val + d.val, by omega⟩)

/-- Query head `h` of key/value head `j`. -/
def qhead (j : Fin 2) (h : Fin 4) : Fin 8 := ⟨4 * j.val + h.val, by omega⟩

variable (q : Fin 4096 → Fin 8 → Fin 64 → EReal) (k v : Fin 4096 → Fin 2 → Fin 64 → EReal) (o : Fin 4096 → Fin 8 → Fin 64 → EReal)

/-- The score of key `s` at query `R`. -/
def sc (j : Fin 2) (h : Fin 4) (R s : Fin 4096) : EReal := ∑ d, k s j d * q R (qhead j h) d

/-- A query's greatest score. -/
def mx (j : Fin 2) (h : Fin 4) (R : Fin 4096) : EReal :=
  max (Ideal.ofBits .f32 0xFF800000#32) (Finset.univ.fold max (Ideal.ofBits .f32 0xFF800000#32) fun s => sc q k j h R s)

/-- The exponential of a score less the greatest, and a query's sum of them. -/
def ee (j : Fin 2) (h : Fin 4) (R s : Fin 4096) : EReal := Ideal.exp (sc q k j h R s - mx q k j h R)
def zz (j : Fin 2) (h : Fin 4) (R : Fin 4096) : EReal := ∑ s, ee q k j h R s

/-- The gradient of a probability. -/
def dp (j : Fin 2) (h : Fin 4) (R s : Fin 4096) : EReal := ∑ d, o R (qhead j h) d * v s j d

/-- The gradient of a query's sum of exponentials. -/
def dz (j : Fin 2) (h : Fin 4) (R : Fin 4096) : EReal :=
  -(∑ s, dp v o j h R s * Ideal.div 1 (zz q k j h R * zz q k j h R) * ee q k j h R s)

/-- The gradient of a score. -/
def ds (j : Fin 2) (h : Fin 4) (R s : Fin 4096) : EReal :=
  (Ideal.div (dp v o j h R s) (zz q k j h R) + dz q k v o j h R) * ee q k j h R s

theorem v2 (j : Fin 2) (h : Fin 4) (R s : Fin 4096) : val_main_v2 (F := Ideal) x0 x1 (ix5 0 j h R s) = sc (cQ x0) (cK x1) j h R s := by
  pointwise [val_main_v2, val_main_v1, val_main_v0]
  unfold sc
  refine Finset.sum_congr (M := EReal) rfl fun d _ => congrArg₂ (fun x y : EReal => x * y) rfl (congrArg _ (congrArg₂ (ix4 0 R) (Fin.ext ?_) (Fin.ext ?_)))
  · show j.val * 4 + h.val = 4 * j.val + h.val
    omega
  · rfl
theorem max_keys (y : FVec Ideal S1x2x4x4096x4096 .f32) (z : FVec Ideal S_ .f32) (j : Fin 2) (h : Fin 4) (R : Fin 4096) :
    Host.reduce FloatOps.maximumf y z reducesTo_S1x2x4x4096x4096_S1x2x4x4096_d4 h_S_ (ix4 0 j h R)
      = Finset.univ.fold max (z ix0 : EReal) fun s => (y (ix5 0 j h R s) : EReal) := by
  pointwise
  exact congrArg (fun i => Finset.univ.fold max (z i : EReal) fun s => (y (ix5 0 j h R s) : EReal)) (funext fun a => a.elim0)
theorem top_keys (w y : FVec Ideal S1x2x4x4096 .f32) (i : S1x2x4x4096.Idx) :
    maximumf w y i = max (w i : EReal) (y i : EReal) := rfl
theorem v10 (j : Fin 2) (h : Fin 4) (R : Fin 4096) : val_main_v10 (F := Ideal) x0 x1 (ix4 0 j h R) = mx (cQ x0) (cK x1) j h R := by
  have e : val_main_v3 (F := Ideal) x0 x1 (ix4 0 j h R) = Finset.univ.fold max (Ideal.ofBits .f32 0xFF800000#32) fun s => sc (cQ x0) (cK x1) j h R s :=
    (max_keys _ _ j h R).trans (congrArg (fun f : Fin 4096 → EReal => Finset.univ.fold max (Ideal.ofBits .f32 0xFF800000#32) f) (funext fun s => v2 x0 x1 j h R s))
  refine (top_keys (val_main_v9 (F := Ideal)) (val_main_v3 (F := Ideal) x0 x1) (ix4 0 j h R)).trans ?_
  exact congrArg₂ (fun x y : EReal => max x y) (by pointwise [val_main_v9, val_main_cst_1]) e
theorem v23 (j : Fin 2) (h : Fin 4) (R s : Fin 4096) : val_main_v23 (F := Ideal) x0 x1 (ix5 0 j h R s) = ee (cQ x0) (cK x1) j h R s := by
  pointwise [val_main_v23, val_main_v22, val_main_v21, val_main_v20, v10, v2]
  rfl
theorem v24 (j : Fin 2) (h : Fin 4) (R : Fin 4096) : val_main_v24 (F := Ideal) x0 x1 (ix4 0 j h R) = zz (cQ x0) (cK x1) j h R := by
  pointwise [val_main_v24, val_main_cst_7, v23]
  rfl
theorem v27 (j : Fin 2) (h : Fin 4) (R s : Fin 4096) :
    val_main_v27 (F := Ideal) x0 x1 (ix5 0 j h R s) = Ideal.div (ee (cQ x0) (cK x1) j h R s) (zz (cQ x0) (cK x1) j h R) := by
  pointwise [val_main_v27, val_main_v26, val_main_v25, v24, v23]
theorem v35 (j : Fin 2) (d : Fin 64) (h : Fin 4) (R : Fin 4096) : val_main_v35 (F := Ideal) x3 (ix5 0 j d h R) = cO x3 R (qhead j h) d := by
  pointwise [val_main_v35, val_main_v34]
  refine congrArg _ (congrArg (ix3 0 R) (Fin.ext ?_))
  show j.val * 256 + h.val * 64 + d.val = 64 * (4 * j.val + h.val) + d.val
  omega
theorem v36 (j : Fin 2) (h : Fin 4) (R s : Fin 4096) : val_main_v36 (F := Ideal) x2 x3 (ix5 0 j h R s) = dp (cK x2) (cO x3) j h R s := by
  pointwise [val_main_v36, v35]
  rfl
theorem v41 (j : Fin 2) (h : Fin 4) (R s : Fin 4096) :
    val_main_v41 (F := Ideal) x0 x1 x2 x3 (ix5 0 j h R s) = dp (cK x2) (cO x3) j h R s
      * Ideal.div 1 (zz (cQ x0) (cK x1) j h R * zz (cQ x0) (cK x1) j h R) * ee (cQ x0) (cK x1) j h R s := by
  pointwise [val_main_v41, val_main_v40, val_main_v39, val_main_v30, val_main_v29, val_main_cst_8, val_main_v28, val_main_v25, v36, v24, v23]
theorem v44 (j : Fin 2) (h : Fin 4) (R : Fin 4096) :
    val_main_v44 (F := Ideal) x0 x1 x2 x3 (ix5 0 j h R 0) = dz (cQ x0) (cK x1) (cK x2) (cO x3) j h R := by
  pointwise [val_main_v44, val_main_v43, val_main_v42, val_main_cst_9, v41]
  rfl

theorem drop_unit (x : S1x2x4x4096x1.Idx → EReal) (init : EReal) (j : Fin 2) (h : Fin 4) (R : Fin 4096) :
    Ideal.hostReduceAdd reducesTo_S1x2x4x4096x1_S2x4x4096_d0_4 x init (ix3 j h R) = init + x (ix5 0 j h R 0) := by
  refine Cert.Sums.hostReduceAdd_of_cell _ _ _ _ _ (funext fun b => by fin_cases b <;> rfl) fun i hi => ?_
  idx_vars i
  have h1 := congrFun hi 0
  have h2 := congrFun hi 1
  have h3 := congrFun hi 2
  obtain rfl : i1 = j := h1
  obtain rfl : i2 = h := h2
  obtain rfl : i3 = R := h3
  rw [Subsingleton.elim i0 0, Subsingleton.elim i4 0]

theorem v51 (j : Fin 2) (h : Fin 4) (R s : Fin 4096) :
    val_main_v51 (F := Ideal) x0 x1 x2 x3 (ix5 0 j h R s) = ds (cQ x0) (cK x1) (cK x2) (cO x3) j h R s := by
  have e : val_main_v47 (F := Ideal) x0 x1 x2 x3 (ix3 j h R) = Ideal.ofBits .f32 0#32 + dz (cQ x0) (cK x1) (cK x2) (cO x3) j h R :=
    (drop_unit _ _ j h R).trans (congrArg₂ (fun x y : EReal => x + y) rfl (v44 x0 x1 x2 x3 j h R))
  pointwise [val_main_v51, val_main_v50, val_main_v49, val_main_v48, e, val_main_v46, val_main_v45, val_main_v25, v24, v23, v36]
  rfl

theorem v58 (j : Fin 2) (h : Fin 4) (R : Fin 4096) (d : Fin 64) :
    val_main_v58 (F := Ideal) x0 x1 x2 x3 (ix2 R ⟨64 * (qhead j h).val + d.val, by omega⟩)
      = ∑ s, ds (cQ x0) (cK x1) (cK x2) (cO x3) j h R s * cK x1 s j d := by
  have e (s : Fin 4096) : val_main_v52 (F := Ideal) x0 x1 x2 x3 (ix5 0 j s R h) = ds (cQ x0) (cK x1) (cK x2) (cO x3) j h R s := by
    pointwise [val_main_v52, v51]
  have e54 : val_main_v54 (F := Ideal) x0 x1 x2 x3 (ix5 0 R j h d) = ∑ s, ds (cQ x0) (cK x1) (cK x2) (cO x3) j h R s * cK x1 s j d := by
    pointwise [val_main_v54, val_main_v53, e]
  refine Eq.trans ?_ e54
  pointwise [val_main_v58, val_main_v57]
  have h3 : (qhead j h).val = 4 * j.val + h.val := rfl
  refine congrArg _ (by congr 1 <;> exact Fin.ext (by simp only [h3]; omega))

theorem v60 (j : Fin 2) (s : Fin 4096) (d : Fin 64) :
    val_main_v60 (F := Ideal) x0 x1 x2 x3 (ix3 j s d)
      = ∑ R, ∑ h, ds (cQ x0) (cK x1) (cK x2) (cO x3) j h R s * cQ x0 R (qhead j h) d := by
  pointwise [val_main_v60, val_main_v59, val_main_v56, val_main_v55, val_main_v52, v51, val_main_v0]
  exact Finset.sum_congr (M := EReal) rfl fun R _ => Finset.sum_congr (M := EReal) rfl fun h _ => congrArg₂ (fun x y : EReal => x * y) rfl
    (congrArg (fun g => x0 (ix4 0 R g d)) (Fin.ext (by show j.val * 4 + h.val = 4 * j.val + h.val; omega)))
theorem v62 (j : Fin 2) (s : Fin 4096) (d : Fin 64) :
    val_main_v62 (F := Ideal) x0 x1 x3 (ix3 j s d)
      = ∑ h, ∑ R, cO x3 R (qhead j h) d * Ideal.div (ee (cQ x0) (cK x1) j h R s) (zz (cQ x0) (cK x1) j h R) := by
  pointwise [val_main_v62, val_main_v61, val_main_v38, val_main_v37, v27, v35]

end Cert.AttnBwdRefIdeal.Hand

end
-- ==== Proof.Reals.lean ====
/- Finite extended reals: sums, quotients and reciprocal roots of reals, and what a finiteness precondition says. -/
module

public import Idealize.ShloMosaic.PureOps.Ideal.Laws
public import Idealize.ShloMosaic.Lib.IdealHost
public import Idealize.ShloMosaic.Lib.ReduceAll

@[expose] public section

noncomputable section

namespace Cert.Reals

open Idealize.ShloMosaic

@[norm_cast] theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem div_real (x : ℝ) {y : ℝ} (h : y ≠ 0) : Ideal.div (x : EReal) (y : EReal) = ((x / y : ℝ) : EReal) := by
  rw [Ideal.div_coe h, ← EReal.coe_mul, mul_one_div]

theorem rsqrt_real {v : ℝ} (h : 0 < v) : Ideal.rsqrt (v : EReal) = (((Real.sqrt v)⁻¹ : ℝ) : EReal) := by
  rw [Ideal.rsqrt_coe, if_neg (not_lt.2 h.le), if_neg h.ne']

theorem coe_sub (x y : ℝ) : ((x - y : ℝ) : EReal) = (x : EReal) - (y : EReal) := EReal.coe_sub x y

/-- Pushing one real out of each operation, for `rw` and `simp`. -/
theorem bits_1024 : Ideal.ofBits .f32 0x44800000#32 = ((1024 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

/-- The small constant of the root-mean-square norms, the f32 nearest `10⁻⁶`. -/
def eps : ℝ := 8796093 / 2 ^ 43

theorem eps_pos : 0 < eps := by unfold eps; norm_num

theorem bits_eps : Ideal.ofBits .f32 0x358637BD#32 = ((eps : ℝ) : EReal) := by
  unfold eps
  simp [Ideal.ofBits, Ideal.ieee, -EReal.coe_mul]; norm_num

theorem bits_inf : Ideal.ofBits .f32 0x7F800000#32 = ⊤ := by
  simp [Ideal.ofBits, Ideal.ieee]

/-- An extended real whose absolute value is below `⊤` is a real. -/
theorem real_of_abs_lt {x : EReal} (h : max x (-x) < ⊤) : ∃ r : ℝ, x = r := by
  induction x with
  | bot => simp at h
  | top => simp at h
  | coe r => exact ⟨r, rfl⟩

/-- `jnp.all(jnp.abs(x) < jnp.inf)`: every element of `x` is a real. -/
theorem real_of_all {s : Shape} {axes : List (Fin s.rank)} {t u : Shape} [Subsingleton t.Idx] (x : FVec Ideal s .f32)
    (hb : (⟨0, ![]⟩ : Shape).BroadcastsInDim s ![]) (init : u.Idx → BitVec 1) (h : s.ReducesTo axes t) (hu : 0 < u.numel) (j : t.Idx)
    (e : Host.reduce IntOp.andi (cmpf .olt (Host.absf x) (broadcastInDim s ![] hb (constant (F := Ideal) ⟨0, ![]⟩ .f32 0x7F800000#32)))
      init h hu j = 1#1) (i : s.Idx) : ∃ r : ℝ, x i = r := by
  have := Host.reduce_andi_all _ init h hu j e i
  have h2 : Ideal.cmp .olt (max (x i) (-(x i))) (Ideal.ofBits .f32 0x7F800000#32) = 1#1 := this
  rw [bits_inf] at h2
  refine real_of_abs_lt ?_
  by_contra hc
  simp [Ideal.cmp, hc] at h2

end Cert.Reals

end
-- ==== Proof.AttnBwd.Equation.lean ====
/- For finite inputs the kernel's attention gradients are the reference's: the kernel works in base two from a query's
   log-sum and its sum of cotangent times output, the reference differentiates the quotient of exponentials. -/
module

public import proofs.«01_k».proof.Proof.AttnBwd.Host
public import proofs.«01_k».proof.Proof.AttnBwd.Reference
public import proofs.«01_k».proof.Proof.Reals

@[expose] public section

noncomputable section

namespace Cert.AttnBwdEquation

open Idealize.ShloMosaic Cert.Reals
open Cert.AttnBwdIdeal.Hand
open Cert.AttnBwdRefIdeal.Hand (qhead sc mx ee zz dp dz ds)

theorem ln2_real : ln2 = ((Real.log 2 : ℝ) : EReal) := by
  have h : Ideal.ofBits .f32 1073741824#32 = ((2 : ℝ) : EReal) := by
    simp [Ideal.ofBits, Ideal.ieee, -EReal.coe_mul]; norm_num
  unfold ln2
  rw [h, Ideal.log_coe, if_neg (by norm_num)]

theorem log2_pos : (0 : ℝ) < Real.log 2 := Real.log_pos (by norm_num)

theorem bits_ninf : Ideal.ofBits .f32 0xFF800000#32 = ⊥ := by
  simp [Ideal.ofBits, Ideal.ieee]

/-- The greatest of finitely many reals, folded from `⊥`, is a real. -/
theorem fold_max_real {ι : Type} [Fintype ι] [Nonempty ι] (f : ι → ℝ) :
    ∃ M : ℝ, Finset.univ.fold max (⊥ : EReal) (fun i => (f i : EReal)) = M := by
  classical
  have key : ∀ s : Finset ι, s.Nonempty → ∃ M : ℝ, s.fold max (⊥ : EReal) (fun i => (f i : EReal)) = M := by
    intro s hs
    induction hs using Finset.Nonempty.cons_induction with
    | singleton a => exact ⟨f a, by simp⟩
    | cons a s ha hs ih =>
      obtain ⟨M, hM⟩ := ih
      refine ⟨max (f a) M, ?_⟩
      rw [Finset.fold_cons, hM]
      exact (EReal.coe_strictMono.monotone.map_max).symm
  exact key _ Finset.univ_nonempty

variable (q : Fin 4096 → Fin 8 → Fin 64 → ℝ) (k v : Fin 4096 → Fin 2 → Fin 64 → ℝ) (o : Fin 4096 → Fin 8 → Fin 64 → ℝ)

/-- The score, its exponential, a query's sum of exponentials, the probability, over the reals. -/
def rs (j : Fin 2) (h : Fin 4) (R s : Fin 4096) : ℝ := ∑ d, k s j d * q R (head j h) d
def rz (j : Fin 2) (h : Fin 4) (R : Fin 4096) : ℝ := ∑ s, Real.exp (rs q k j h R s)
def rp (j : Fin 2) (h : Fin 4) (R s : Fin 4096) : ℝ := Real.exp (rs q k j h R s) / rz q k j h R
/-- The gradients of the probability and of the score. -/
def rdp (j : Fin 2) (h : Fin 4) (R s : Fin 4096) : ℝ := ∑ d, v s j d * o R (head j h) d
def rds (j : Fin 2) (h : Fin 4) (R s : Fin 4096) : ℝ :=
  rp q k j h R s * (rdp v o j h R s - ∑ s', rp q k j h R s' * rdp v o j h R s')

theorem rz_pos (j : Fin 2) (h : Fin 4) (R : Fin 4096) : 0 < rz q k j h R :=
  Finset.sum_pos (fun s _ => Real.exp_pos _) Finset.univ_nonempty

abbrev up2 {α β γ : Type} (f : α → β → γ → ℝ) : α → β → γ → EReal := fun a b c => (f a b c : EReal)

/-- Shifting every score of a query multiplies its exponentials and their sum alike. -/
theorem shift (M : ℝ) (j : Fin 2) (h : Fin 4) (R s : Fin 4096) :
    Real.exp (rs q k j h R s - M) = Real.exp (rs q k j h R s) * Real.exp (-M) := by
  rw [sub_eq_add_neg, Real.exp_add]
theorem shift_sum (M : ℝ) (j : Fin 2) (h : Fin 4) (R : Fin 4096) :
    ∑ s, Real.exp (rs q k j h R s - M) = rz q k j h R * Real.exp (-M) := by
  unfold rz
  rw [Finset.sum_mul]
  exact Finset.sum_congr rfl fun s _ => shift q k M j h R s

theorem score_real (j : Fin 2) (h : Fin 4) (R s : Fin 4096) :
    score (up2 q) (up2 k) j h R s = ((rs q k j h R s / Real.log 2 : ℝ) : EReal) := by
  unfold score
  simp only [up2, ln2_real, div_real _ log2_pos.ne', ← EReal.coe_mul, ← coe_sum]
  refine congrArg (fun r : ℝ => (r : EReal)) ?_
  unfold rs
  rw [Finset.sum_div]
  exact Finset.sum_congr rfl fun d _ => by ring

theorem kernel_ex (j : Fin 2) (h : Fin 4) (R : Fin 4096) : ∃ M : ℝ, top (up2 q) (up2 k) j h R = ((M / Real.log 2 : ℝ) : EReal)
    ∧ (∀ s, ex (up2 q) (up2 k) j h R s = ((Real.exp (rs q k j h R s) * Real.exp (-M) : ℝ) : EReal))
    ∧ exSum (up2 q) (up2 k) j h R = ((rz q k j h R * Real.exp (-M) : ℝ) : EReal) := by
  obtain ⟨M, hM⟩ := fold_max_real fun s => rs q k j h R s / Real.log 2
  have ht : top (up2 q) (up2 k) j h R = ((M * Real.log 2 / Real.log 2 : ℝ) : EReal) := by
    unfold top
    rw [bits_ninf, mul_div_cancel_right₀ _ log2_pos.ne', ← hM]
    simp only [score_real]
  have he s : ex (up2 q) (up2 k) j h R s = ((Real.exp (rs q k j h R s) * Real.exp (-(M * Real.log 2)) : ℝ) : EReal) := by
    unfold ex
    rw [ht, score_real, ln2_real, ← coe_sub, ← EReal.coe_mul, Ideal.exp_coe, ← shift]
    refine congrArg (fun r : ℝ => ((Real.exp r : ℝ) : EReal)) ?_
    rw [sub_mul, div_mul_cancel₀ _ log2_pos.ne', div_mul_cancel₀ _ log2_pos.ne']
  refine ⟨M * Real.log 2, ht, he, ?_⟩
  unfold exSum
  simp only [he, ← coe_sum]
  unfold rz
  rw [Finset.sum_mul]

/-- The probability the kernel makes of a score and the log-sum. -/
theorem kernel_prob (j : Fin 2) (h : Fin 4) (R s : Fin 4096) :
    Ideal.exp2 (score (up2 q) (up2 k) j h R s - lse (up2 q) (up2 k) j h R) = ((rp q k j h R s : ℝ) : EReal) := by
  obtain ⟨M, ht, he, hz⟩ := kernel_ex q k j h R
  have hp : 0 < rz q k j h R * Real.exp (-M) := mul_pos (rz_pos q k j h R) (Real.exp_pos _)
  unfold lse
  rw [ht, hz, Ideal.log_coe, if_neg (not_le.2 hp), ln2_real, div_real _ log2_pos.ne', score_real, ← EReal.coe_add, ← coe_sub, Ideal.exp2_coe]
  refine congrArg (fun r : ℝ => (r : EReal)) ?_
  rw [Real.rpow_eq_pow, Real.rpow_def_of_pos (by norm_num),
    show Real.log 2 * (rs q k j h R s / Real.log 2 - (M / Real.log 2 + Real.log (rz q k j h R * Real.exp (-M)) / Real.log 2))
      = rs q k j h R s - M - Real.log (rz q k j h R * Real.exp (-M)) by field_simp; ring,
    Real.exp_sub, Real.exp_log hp, shift]
  unfold rp
  exact mul_div_mul_right _ _ (Real.exp_pos _).ne'

theorem kernel_dot (j : Fin 2) (h : Fin 4) (R : Fin 4096) :
    rowDot (up2 q) (up2 k) (up2 v) (up2 o) j h R = ((∑ s, rp q k j h R s * rdp v o j h R s : ℝ) : EReal) := by
  obtain ⟨M, ht, he, hz⟩ := kernel_ex q k j h R
  have hp : 0 < rz q k j h R * Real.exp (-M) := mul_pos (rz_pos q k j h R) (Real.exp_pos _)
  unfold rowDot
  simp only [he, hz, up2, ← EReal.coe_mul, ← coe_sum, div_real _ hp.ne']
  refine congrArg (fun r : ℝ => (r : EReal)) ?_
  unfold rdp
  simp only [Finset.sum_div, Finset.mul_sum]
  rw [Finset.sum_comm]
  refine Finset.sum_congr rfl fun s _ => Finset.sum_congr rfl fun d _ => ?_
  unfold rp
  rw [show Real.exp (rs q k j h R s) * Real.exp (-M) * v s j d / (rz q k j h R * Real.exp (-M))
    = Real.exp (rs q k j h R s) * v s j d / rz q k j h R by
      rw [mul_right_comm]; exact mul_div_mul_right _ _ (Real.exp_pos _).ne']
  ring

/-- The reference's quotient of exponentials. -/
theorem ref_ee (j : Fin 2) (h : Fin 4) (R : Fin 4096) : ∃ M : ℝ,
    (∀ s, ee (up2 q) (up2 k) j h R s = ((Real.exp (rs q k j h R s) * Real.exp (-M) : ℝ) : EReal))
    ∧ zz (up2 q) (up2 k) j h R = ((rz q k j h R * Real.exp (-M) : ℝ) : EReal) := by
  have hs s : sc (up2 q) (up2 k) j h R s = ((rs q k j h R s : ℝ) : EReal) := by
    unfold sc
    simp only [up2, ← EReal.coe_mul, ← coe_sum]
    rfl
  obtain ⟨M, hM⟩ := fold_max_real fun s => rs q k j h R s
  have ht : mx (up2 q) (up2 k) j h R = (M : EReal) := by
    unfold mx
    rw [bits_ninf, ← hM]
    simp only [hs]
    exact max_eq_right bot_le
  have he s : ee (up2 q) (up2 k) j h R s = ((Real.exp (rs q k j h R s) * Real.exp (-M) : ℝ) : EReal) := by
    unfold ee
    rw [ht, hs, ← coe_sub, Ideal.exp_coe, ← shift]
  refine ⟨M, he, ?_⟩
  unfold zz
  simp only [he, ← coe_sum]
  unfold rz
  rw [Finset.sum_mul]

theorem ref_prob (j : Fin 2) (h : Fin 4) (R s : Fin 4096) :
    Ideal.div (ee (up2 q) (up2 k) j h R s) (zz (up2 q) (up2 k) j h R) = ((rp q k j h R s : ℝ) : EReal) := by
  obtain ⟨M, he, hz⟩ := ref_ee q k j h R
  have hp : 0 < rz q k j h R * Real.exp (-M) := mul_pos (rz_pos q k j h R) (Real.exp_pos _)
  rw [he, hz, div_real _ hp.ne']
  refine congrArg (fun r : ℝ => (r : EReal)) ?_
  unfold rp
  exact mul_div_mul_right _ _ (Real.exp_pos _).ne'

theorem ref_dp (j : Fin 2) (h : Fin 4) (R s : Fin 4096) : dp (up2 v) (up2 o) j h R s = ((rdp v o j h R s : ℝ) : EReal) := by
  unfold dp
  simp only [up2, ← EReal.coe_mul, ← coe_sum]
  refine congrArg (fun r : ℝ => (r : EReal)) ?_
  exact Finset.sum_congr rfl fun d _ => mul_comm _ _

theorem ref_ds (j : Fin 2) (h : Fin 4) (R s : Fin 4096) :
    ds (up2 q) (up2 k) (up2 v) (up2 o) j h R s = ((rds q k v o j h R s : ℝ) : EReal) := by
  obtain ⟨M, he, hz⟩ := ref_ee q k j h R
  have hp : 0 < rz q k j h R * Real.exp (-M) := mul_pos (rz_pos q k j h R) (Real.exp_pos _)
  unfold ds dz
  simp only [ref_dp, he, hz, ← EReal.coe_mul, ← EReal.coe_one, div_real _ (mul_pos hp hp).ne', div_real _ hp.ne', ← coe_sum, ← EReal.coe_neg,
    ← EReal.coe_add]
  refine congrArg (fun r : ℝ => (r : EReal)) ?_
  have e s' : rdp v o j h R s' * (1 / (rz q k j h R * Real.exp (-M) * (rz q k j h R * Real.exp (-M)))) * (Real.exp (rs q k j h R s') * Real.exp (-M))
      = rp q k j h R s' * rdp v o j h R s' * (1 / (rz q k j h R * Real.exp (-M))) := by
    have := (rz_pos q k j h R).ne'
    unfold rp
    field_simp
  simp only [e]
  rw [← Finset.sum_mul]
  unfold rds
  have := (rz_pos q k j h R).ne'
  rw [show rp q k j h R s = Real.exp (rs q k j h R s) / rz q k j h R from rfl]
  field_simp
  ring

/-- A sum over the 128 lanes that keeps one half of them. -/
theorem sum_half (e : Fin 2) (f : Fin 128 → EReal) : ∑ x, half e x (f x) = ∑ d, f (lane2 e d) := by
  rw [Fin.sum_univ_add (a := 64) (b := 64) fun x : Fin 128 => half e x (f x)]
  have h0 (d : Fin 64) : (Fin.castAdd 64 d : Fin 128) = lane2 0 d := Fin.ext (by simp [lane2])
  have h1 (d : Fin 64) : (Fin.natAdd 64 d : Fin 128) = lane2 1 d := rfl
  have l0 (d : Fin 64) : (lane2 0 d).val < 64 := by simp [lane2]
  have l1 (d : Fin 64) : ¬ (lane2 1 d).val < 64 := by simp [lane2]
  simp only [h0, h1]
  fin_cases e
  · simp [half, l0, l1]
  · simp [half, l0, l1]

/-- Head `e` of pair `p`. -/
def hp (p e : Fin 2) : Fin 4 := ⟨2 * p.val + e.val, by omega⟩
theorem hrow_eq (j p e : Fin 2) : hrow j p e = head j (hp p e) := Fin.ext (by simp only [hrow, head, hp]; omega)

variable (Q O : Fin 4096 → Fin 512 → EReal) (K W : Fin 2 → Fin 4096 → Fin 128 → EReal) (L D : Fin 8 → Fin 4096 → EReal)

/-- The kernel's arrays are the ones the host makes of real arguments. -/
structure Holds : Prop where
  hQ : ∀ R j p e d, Q R (col j p (lane2 e d)) = Ideal.div (up2 q R (hrow j p e) d) ln2
  hO : ∀ R j p e d, O R (col j p (lane2 e d)) = up2 o R (hrow j p e) d
  hK : ∀ j s e d, K j s (lane2 e d) = up2 k s j d
  hW : ∀ j s e d, W j s (lane2 e d) = up2 v s j d
  hL : ∀ j h R, L (head j h) R = lse (up2 q) (up2 k) j h R
  hD : ∀ j h R, D (head j h) R = rowDot (up2 q) (up2 k) (up2 v) (up2 o) j h R

variable {q k v o Q O K W L D} (H : Holds q k v o Q O K W L D)
include H

theorem prAll_real (j p e : Fin 2) (s R : Fin 4096) : prAll Q K L j p e s R = ((rp q k j (hp p e) R s : ℝ) : EReal) := by
  unfold prAll
  rw [sum_half e fun x => K j s x * Q R (col j p x)]
  simp only [H.hQ, H.hK, hrow_eq, H.hL]
  exact kernel_prob q k j (hp p e) R s

theorem dsAll_real (j p e : Fin 2) (s R : Fin 4096) : dsAll Q O K W L D j p e s R = ((rds q k v o j (hp p e) R s : ℝ) : EReal) := by
  unfold dsAll
  rw [prAll_real H, sum_half e fun x => W j s x * O R (col j p x)]
  simp only [H.hO, H.hW, hrow_eq, H.hD, kernel_dot, up2, ← EReal.coe_mul, ← coe_sum, ← coe_sub]
  rfl

/-- The gradients of one query block, over the reals. -/
theorem dkAll_real (j p e : Fin 2) (i : Fin 4) (s : Fin 4096) (d : Fin 64) : dkAll Q O K W L D j p i s (lane2 e d)
    = ((∑ r, rds q k v o j (hp p e) (qrow i r) s * q (qrow i r) (head j (hp p e)) d : ℝ) : EReal) := by
  have key : (∑ r, dsAll Q O K W L D j p e s (qrow i r) * Q (qrow i r) (col j p (lane2 e d))) * ((Real.log 2 : ℝ) : EReal)
      = ((∑ r, rds q k v o j (hp p e) (qrow i r) s * q (qrow i r) (head j (hp p e)) d : ℝ) : EReal) := by
    simp only [dsAll_real H, H.hQ, hrow_eq, up2, ln2_real, div_real _ log2_pos.ne', ← EReal.coe_mul, ← coe_sum]
    refine congrArg (fun r : ℝ => (r : EReal)) ?_
    rw [Finset.sum_mul]
    refine Finset.sum_congr rfl fun r _ => ?_
    rw [mul_assoc, div_mul_cancel₀ _ log2_pos.ne']
  rw [← key]
  unfold dkAll
  fin_cases e
  · rw [if_pos (by simp [lane2])]; rfl
  · rw [if_neg (by simp [lane2])]; rfl

theorem dvAll_real (j p e : Fin 2) (i : Fin 4) (s : Fin 4096) (d : Fin 64) : dvAll Q O K L j p i s (lane2 e d)
    = ((∑ r, rp q k j (hp p e) (qrow i r) s * o (qrow i r) (head j (hp p e)) d : ℝ) : EReal) := by
  have key : (∑ r, prAll Q K L j p e s (qrow i r) * O (qrow i r) (col j p (lane2 e d)))
      = ((∑ r, rp q k j (hp p e) (qrow i r) s * o (qrow i r) (head j (hp p e)) d : ℝ) : EReal) := by
    simp only [prAll_real H, H.hO, hrow_eq, up2, ← EReal.coe_mul, ← coe_sum]
  rw [← key]
  unfold dvAll
  fin_cases e
  · rw [if_pos (by simp [lane2])]; rfl
  · rw [if_neg (by simp [lane2])]; rfl

omit H in
theorem sum_blocks (f : Fin 4096 → ℝ) : ∑ i : Fin 4, ∑ r : Fin 1024, f (qrow i r) = ∑ R, f R :=
  Fin.sum_mul_add_fin (S := 4) (n := 1024) f (by decide +kernel)

omit H in
theorem sum_pairs (f : Fin 2 → Fin 2 → Fin 4 → Fin 1024 → ℝ) (g : Fin 4 → Fin 4096 → ℝ)
    (h : ∀ p e i r, f p e i r = g (hp p e) (qrow i r)) :
    (∑ i, (∑ r, f 0 0 i r + ∑ r, f 1 0 i r)) + (∑ i, (∑ r, f 0 1 i r + ∑ r, f 1 1 i r)) = ∑ R, ∑ h, g h R := by
  simp only [h, Finset.sum_add_distrib, sum_blocks]
  rw [Finset.sum_comm, Fin.sum_univ_four]
  show ∑ R, g 0 R + ∑ R, g 2 R + (∑ R, g 1 R + ∑ R, g 3 R) = _
  ring

theorem dk_eq (j : Fin 2) (s : Fin 4096) (d : Fin 64) :
    (∑ i, (dkAll Q O K W L D j 0 i s (lane2 0 d) + dkAll Q O K W L D j 1 i s (lane2 0 d)))
      + (∑ i, (dkAll Q O K W L D j 0 i s (lane2 1 d) + dkAll Q O K W L D j 1 i s (lane2 1 d)))
    = ∑ R, ∑ h, ds (up2 q) (up2 k) (up2 v) (up2 o) j h R s * up2 q R (qhead j h) d := by
  simp only [dkAll_real H, ref_ds, up2, ← EReal.coe_mul, ← EReal.coe_add, ← coe_sum]
  exact congrArg (fun r : ℝ => (r : EReal)) (sum_pairs
    (fun p e i r => rds q k v o j (hp p e) (qrow i r) s * q (qrow i r) (head j (hp p e)) d)
    (fun h R => rds q k v o j h R s * q R (qhead j h) d) fun _ _ _ _ => rfl)

theorem dv_eq (j : Fin 2) (s : Fin 4096) (d : Fin 64) :
    (∑ i, (dvAll Q O K L j 0 i s (lane2 0 d) + dvAll Q O K L j 1 i s (lane2 0 d)))
      + (∑ i, (dvAll Q O K L j 0 i s (lane2 1 d) + dvAll Q O K L j 1 i s (lane2 1 d)))
    = ∑ h, ∑ R, up2 o R (qhead j h) d * Ideal.div (ee (up2 q) (up2 k) j h R s) (zz (up2 q) (up2 k) j h R) := by
  simp only [dvAll_real H, ref_prob, up2, ← EReal.coe_mul, ← EReal.coe_add, ← coe_sum]
  refine congrArg (fun r : ℝ => (r : EReal)) ?_
  rw [Finset.sum_comm]
  exact sum_pairs (fun p e i r => rp q k j (hp p e) (qrow i r) s * o (qrow i r) (head j (hp p e)) d)
    (fun h R => o R (qhead j h) d * rp q k j h R s) fun _ _ _ _ => mul_comm _ _

omit H in
theorem keyN_eq (b : Fin 4) (s : Fin 1024) : keyN b.val s = qrow b s := Fin.ext (by simp only [keyN, qrow]; omega)

theorem dq_eq (j p e : Fin 2) (R : Fin 4096) (d : Fin 64) :
    dqAll Q O K W L D j p R (lane2 e d)
    = ∑ s, ds (up2 q) (up2 k) (up2 v) (up2 o) j (hp p e) R s * up2 k s j d := by
  have key : dqAll Q O K W L D j p R (lane2 e d)
      = ∑ b : Fin 4, ∑ s : Fin 1024, dsAll Q O K W L D j p e (qrow b s) R * K j (qrow b s) (lane2 e d) := by
    unfold dqAll
    rw [Finset.sum_range]
    refine Finset.sum_congr rfl fun b _ => ?_
    fin_cases e
    · simp [half, lane2, keyN_eq]
    · simp [half, lane2, keyN_eq]
  rw [key]
  simp only [dsAll_real H, ref_ds, H.hK, up2, ← EReal.coe_mul, ← coe_sum]
  exact congrArg (fun r : ℝ => (r : EReal)) (sum_blocks fun s => rds q k v o j (hp p e) R s * k s j d)

end Cert.AttnBwdEquation

end
-- ==== Proof.AttnBwd.Claims.lean ====
/- The claims about the attention gradient: the kernel's run and the reference's run end with the same three arrays. -/
module

public import proofs.«01_k».proof.Defs
public import proofs.«01_k».proof.Proof.Gen.Pre_finite4
public import proofs.«01_k».proof.Proof.AttnBwd.Equation

@[expose] public section

set_option maxRecDepth 16384

noncomputable section

namespace Cert.AttnBwdClaims

open Idealize.ShloMosaic Idealize.ShloMosaic.TcCoe Idealize.SL.Sem
open Cert.AttnBwdIdeal.Hand Cert.AttnBwdEquation

/-- What the precondition says: every element is a real. -/
theorem reals {a0 : FVec Ideal Cert.Pre_finite4.S1x4096x8x64 .f32} {a1 a2 : FVec Ideal Cert.Pre_finite4.S1x4096x2x64 .f32}
    {a3 : FVec Ideal Cert.Pre_finite4.S1x4096x512 .f32} (h : Cert.Pre_finite4.fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have : Subsingleton Cert.Pre_finite4.S_.Idx := ⟨fun a b => funext fun i => i.elim0⟩
  have h := congrFun h ix0
  unfold Cert.Pre_finite4.fn Cert.Pre_finite4.fn_part1 at h
  dsimp only at h
  simp only [show ∀ (a b : IVec Cert.Pre_finite4.S_ 1) i, andi a b i = IntOp.andi (a i) (b i) from fun _ _ _ => rfl, IntOp.andi_eq_one] at h
  obtain ⟨⟨⟨h0, h1⟩, h2⟩, h3⟩ := h
  exact ⟨Reals.real_of_all _ _ _ _ _ _ h0, Reals.real_of_all _ _ _ _ _ _ h1, Reals.real_of_all _ _ _ _ _ _ h2, Reals.real_of_all _ _ _ _ _ _ h3⟩

/-- The reference runs, leaves its arguments unchanged, and declares no semaphore. -/
theorem frameRef : Cert.quiescent_AttnBwdRefIdeal := fun m ρ _ =>
  (θ_run Cert.AttnBwdRefIdeal.defs _ _).mono
    (fun r h => ⟨fun c => (h c).2.2.2, Idealize.ShloMosaic.sem_eq_zero_of_no_sems (by decide) r.2⟩)
    (Cert.AttnBwdRefIdeal.Value.run m ρ)

section
open Cert.AttnBwdIdeal Cert.AttnBwdIdeal.Gen
variable (m : (ℓ : Loc nD τ sig) → Buf (Elt Ideal) ℓ)

/-- What the kernel program leaves in a buffer no window covers. -/
abbrev left (c : Dev nD) (b : Ref sig .tc) : Buf (Elt Ideal) ((c.tc : Thread nD τ).loc b) :=
  Pipeline.afterTail₀ cfgs (dats m) 0 (V0 m) [hostOps1] c b

theorem run (g : Dev nD → PrngReg) : θ_run defs (onTc (τ := τ) (main (F := Ideal))) ⟨m, fun _ => 0, g⟩ fun r => ∀ c : Dev nD,
    r.2.mem ((c.tc : Thread nD τ).loc main_v45_0) = (dats m 0 c).arrAt 6 cfg0.N
      ∧ r.2.mem ((c.tc : Thread nD τ).loc main_v48) = left m c main_v48
      ∧ r.2.mem ((c.tc : Thread nD τ).loc main_v51) = left m c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main (F := Ideal) m g)
  have k (b : Ref sig .tc) (hb : b ∈ Pipeline.restRefs sig (cfgs 0).spec) := (h c).2 b hb
  exact ⟨(h c).1 6, k main_v48 (Pipeline.mem_restRefs_of _ (by decide) (by decide)), k main_v51 (Pipeline.mem_restRefs_of _ (by decide) (by decide)),
    (k main_arg0 (Pipeline.mem_restRefs_of _ (by decide) (by decide))).trans (W_main_arg0 m (dats m) c),
    (k main_arg1 (Pipeline.mem_restRefs_of _ (by decide) (by decide))).trans (W_main_arg1 m (dats m) c),
    (k main_arg2 (Pipeline.mem_restRefs_of _ (by decide) (by decide))).trans (W_main_arg2 m (dats m) c),
    (k main_arg3 (Pipeline.mem_restRefs_of _ (by decide) (by decide))).trans (W_main_arg3 m (dats m) c)⟩

theorem left48 (c : Dev nD) (j : Fin 2) (s : Fin 4096) (d : Fin 64) :
    left m c main_v48 (ix3 j s d) = at48 (exitV m c) j s d := tail48 m c j s d
theorem left51 (c : Dev nD) (j : Fin 2) (s : Fin 4096) (d : Fin 64) :
    left m c main_v51 (ix3 j s d) = at51 (exitV m c) j s d := by
  unfold left Pipeline.afterTail₀
  rfl

/-- Real arguments, and the kernel's arrays made of them. -/
theorem holds (c : Dev nD) (h : Pre_AttnBwdIdeal_finite4 m) : ∃ (q : Fin 4096 → Fin 8 → Fin 64 → ℝ) (k v : Fin 4096 → Fin 2 → Fin 64 → ℝ)
    (o : Fin 4096 → Fin 8 → Fin 64 → ℝ), argQ m c = up2 q ∧ argK m c = up2 k ∧ argV m c = up2 v ∧ argO m c = up2 o
      ∧ Holds q k v o (winQ m c) (winO m c) (winK m c) (winW m c) (winL m c) (winD m c) := by
  obtain ⟨h0, h1, h2, h3⟩ := reals (h c)
  choose a0 h0 using h0
  choose a1 h1 using h1
  choose a2 h2 using h2
  choose a3 h3 using h3
  have eq : argQ m c = up2 fun R g d => a0 (ix4 0 R g d) := by funext R g d; exact h0 _
  have ek : argK m c = up2 fun R g d => a1 (ix4 0 R g d) := by funext R g d; exact h1 _
  have ev : argV m c = up2 fun R g d => a2 (ix4 0 R g d) := by funext R g d; exact h2 _
  have eo : argO m c = up2 fun R g d => a3 (ix3 0 R ⟨64 * g.val + d.val, by omega⟩) := by funext R g d; exact h3 _
  refine ⟨_, _, _, _, eq, ek, ev, eo, fun R j p e d => ?_, fun R j p e d => ?_, fun j s e d => ?_, fun j s e d => ?_, fun j h R => ?_, fun j h R => ?_⟩
  · rw [← eq]; exact winQ_eq m c R j p e d
  · rw [← eo]; exact winO_eq m c R j p e d
  · rw [← ek]; exact winK_eq m c j s e d
  · rw [← ev]; exact winW_eq m c j s e d
  · rw [← eq, ← ek]; exact winL_eq m c j h R
  · rw [← eq, ← ek, ← ev, ← eo]; exact winD_eq m c j h R

end

/-- A column of the packed queries by its head, pair, half and lane. -/
theorem column (l : Fin 512) : ∃ (j p e : Fin 2) (d : Fin 64), l = ⟨64 * (head j (hp p e)).val + d.val, by omega⟩
    ∧ (⟨l.val / 256, by omega⟩ : Fin 2) = j ∧ prOf l.val = p ∧ laneOf l.val = lane2 e d := by
  refine ⟨⟨l.val / 256, by omega⟩, ⟨l.val / 128 % 2, by omega⟩, ⟨l.val / 64 % 2, by omega⟩, ⟨l.val % 64, by omega⟩, Fin.ext ?_, rfl, rfl, Fin.ext ?_⟩
  · simp only [head, hp]; omega
  · simp only [laneOf, lane2]; omega

theorem value : Cert.algebraic_AttnBwdIdeal_AttnBwdRefIdeal_pre_finite4 := by
  intro m g m' g' hpre hargs
  refine ⟨fun c => (Cert.AttnBwdIdeal.Gen.dats m 0 c).arrAt 6 Cert.AttnBwdIdeal.cfg0.N, fun c => left m c Cert.AttnBwdIdeal.main_v48,
    fun c => left m c Cert.AttnBwdIdeal.main_v51, run m g, ?_⟩
  refine (θ_run _ _ _).mono (fun r h c => ?_) (Cert.AttnBwdRefIdeal.Value.run m' g')
  obtain ⟨h0, h1, h2, ha⟩ := h c
  obtain ⟨e0, e1, e2, e3⟩ := hargs c
  obtain ⟨q, k, v, o, eq, ek, ev, eo, H⟩ := holds m c hpre
  refine ⟨h0.trans ?_, h1.trans ?_, h2.trans ?_, ha⟩
  · refine (Cert.AttnBwdRefIdeal.Read.val_main_v58_eq _ _).trans ?_
    rw [e0, e1, e2, e3]
    refine Eq.trans ?_ (final6 m c).symm
    funext i
    idx_vars i
    obtain ⟨j, p, e, d, hl, hj, hp', hl'⟩ := column i1
    refine Eq.trans ?_ (congrArg₂ (fun (a : Fin 2) (b : Fin 128) => dqAll (winQ m c) (winO m c) (winK m c) (winW m c) (winL m c) (winD m c) a (prOf i1.val) i0 b) hj hl').symm
    rw [hp', dq_eq H, ← eq, ← ek, ← ev, ← eo, hl]
    exact Cert.AttnBwdRefIdeal.Hand.v58 _ _ _ _ j (hp p e) i0 d
  · refine (Cert.AttnBwdRefIdeal.Read.val_main_v60_eq _ _).trans ?_
    rw [e0, e1, e2, e3]
    funext i
    idx_vars i
    refine Eq.trans ?_ (left48 m c i0 i1 i2).symm
    rw [at48_eq, exit7, exit7, dk_eq H, ← eq, ← ek, ← ev, ← eo]
    exact Cert.AttnBwdRefIdeal.Hand.v60 _ _ _ _ i0 i1 i2
  · refine (Cert.AttnBwdRefIdeal.Read.val_main_v62_eq _ _ _).trans ?_
    rw [e0, e1, e3]
    funext i
    idx_vars i
    refine Eq.trans ?_ (left51 m c i0 i1 i2).symm
    rw [at51_eq, exit8, exit8, dv_eq H, ← eq, ← ek, ← eo]
    exact Cert.AttnBwdRefIdeal.Hand.v62 _ _ _ i0 i1 i2

end Cert.AttnBwdClaims

end
-- ==== Proof.InProjDx.Kernel.lean ====
/- The four arrays the `in_proj_dx` kernel leaves, read at an index: sums over the whole arrays it was given. -/
module

public import proofs.«01_k».proof.Proof.Gen.InProjDxIdeal.Value
public import Idealize.ShloMosaic.Lib.Pointwise
public import Idealize.ShloMosaic.Lib.Pipeline.ValueKit

@[expose] public section

set_option maxRecDepth 16384

noncomputable section

namespace Cert.InProjDxIdeal.Hand

open Cert.InProjDxIdeal Cert.InProjDxIdeal.Gen Idealize.ShloMosaic Idealize.ShloMosaic.TcCoe Idealize.SL.Sem
open Idealize.ShloMosaic.Pipeline (Dat)

variable (m : (ℓ : Loc nD τ sig) → Buf (Elt Ideal) ℓ)

/-- Row `s`, column `d` of the gradient of the projected input: row `s` of `dp` against row `d` of the weights. -/
def dh (p : Fin 4096 → Fin 4864 → EReal) (w : Fin 1024 → Fin 4864 → EReal) (s : Fin 4096) (d : Fin 1024) : EReal :=
  ∑ k, p s k * w d k

/-- The reciprocal root mean square of row `s`. -/
def rms (x : Fin 4096 → Fin 1024 → EReal) (s : Fin 4096) : EReal :=
  Ideal.rsqrt (Ideal.div (∑ k, x s k * x s k) (Ideal.ofBits .f32 0x44800000#32) + Ideal.ofBits .f32 0x358637BD#32)

variable (x : Fin 4096 → Fin 1024 → EReal) (p : Fin 4096 → Fin 4864 → EReal) (w : Fin 1024 → Fin 4864 → EReal)
  (o : Fin 4096 → Fin 1024 → EReal) (sc g : Fin 1024 → EReal)

/-- The gradient of the normalised input before its gain, `(dp wᵀ) (1 + scale)`. -/
def dn (s : Fin 4096) (d : Fin 1024) : EReal := dh p w s d * (1 + sc d)

/-- The kernel's gradient of the input: the residual's cotangent, and the norm's transposed map applied to `dn · g`. -/
def gx (s : Fin 4096) (d : Fin 1024) : EReal :=
  o s d + rms x s * (dn p w sc s d * g d
    - x s d * rms x s * Ideal.div (∑ k, dn p w sc s k * g k * (x s k * rms x s)) (Ideal.ofBits .f32 0x44800000#32))

/-- One row's share of the gradient of the scale. -/
def dscaleRow (s : Fin 4096) (d : Fin 1024) : EReal := dh p w s d * (x s d * rms x s * g d)

/-- One row's share of the gradient of the gain. -/
def dgRow (s : Fin 4096) (d : Fin 1024) : EReal := dn p w sc s d * (x s d * rms x s)

abbrev argX (c : Dev nD) (s : Fin 4096) (d : Fin 1024) : EReal := m ((c : Thread nD τ).loc main_arg0) (ix3 0 s d)
abbrev argP (c : Dev nD) (s : Fin 4096) (k : Fin 4864) : EReal := m ((c : Thread nD τ).loc main_arg1) (ix3 0 s k)
abbrev argW (c : Dev nD) (d : Fin 1024) (k : Fin 4864) : EReal := m ((c : Thread nD τ).loc main_arg2) (ix3 0 d k)
abbrev argO (c : Dev nD) (s : Fin 4096) (d : Fin 1024) : EReal := m ((c : Thread nD τ).loc main_arg3) (ix3 0 s d)
abbrev argS (c : Dev nD) (d : Fin 1024) : EReal := m ((c : Thread nD τ).loc main_arg4) (ix2 0 ⟨1024 + d.val, by omega⟩)
abbrev argG (c : Dev nD) (d : Fin 1024) : EReal := m ((c : Thread nD τ).loc main_arg5) (ix2 0 d)

theorem idx : ∀ t : Fin grid0.N, win0_0.index t = ![t.val, 0] ∧ win0_1.index t = ![t.val, 0] ∧ win0_2.index t = ![0, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![0, 0] := by decide +kernel

/-- Grid point `t` covers the rows `512 t … 512 t + 511`. -/
def row (t : Fin cfg0.N) (r : Fin 512) : Fin 4096 := ⟨t.val * 512 + r.val, by have := t.isLt; have h : cfg0.N = 8 := N_0; omega⟩

theorem blk0 (c : Dev nD) (t : Fin cfg0.N) (r : Fin 512) (d : Fin 1024) : iblk m c 0 t (ix2 r d) = argX m c (row t r) d := by
  have h := idx t
  unfold iblk argX row
  blk_ext! [iblk, h.1]
theorem blk1 (c : Dev nD) (t : Fin cfg0.N) (r : Fin 512) (k : Fin 4864) : iblk m c 1 t (ix2 r k) = argP m c (row t r) k := by
  have h := idx t
  unfold argP row
  blk_ext! [iblk, h.2.1]
theorem blk2 (c : Dev nD) (t : Fin cfg0.N) (k : Fin 4864) (d : Fin 1024) : iblk m c 2 t (ix2 k d) = argW m c d k := by
  have h := idx t
  unfold argW
  blk_ext! [iblk, h.2.2.1]

theorem blk3 (c : Dev nD) (t : Fin cfg0.N) (r : Fin 512) (d : Fin 1024) : iblk m c 3 t (ix2 r d) = argO m c (row t r) d := by
  have h := idx t
  unfold argO row
  blk_ext! [iblk, h.2.2.2.1]
theorem blk4 (c : Dev nD) (t : Fin cfg0.N) (d : Fin 1024) (hd : 1024 + d.val < 3072) :
    iblk m c 4 t (ix2 0 ⟨1024 + d.val, hd⟩) = argS m c d := by
  have h := idx t
  unfold argS
  blk_ext! [iblk, h.2.2.2.2.1]
theorem blk5 (c : Dev nD) (t : Fin cfg0.N) (d : Fin 1024) : iblk m c 5 t (ix2 0 d) = argG m c d := by
  have h := idx t
  unfold argG
  blk_ext! [iblk, h.2.2.2.2.2.1]

/-- The block of the gradient of the input a grid point writes. -/
theorem out6 (c : Dev nD) (t : Fin cfg0.N) (r : Fin 512) (d : Fin 1024) :
    ((outsAt0 m c t.val t.isLt).1) (ix2 r d)
      = gx (argX m c) (argP m c) (argW m c) (argO m c) (argS m c) (argG m c) (row t r) d := by
  by_cases h0 : t.val % 8 = 0
  · rw [outsAt0_A m c t h0]
    frame_out
    pointwise [k0_pay4, k0_pay2, k0_pay9, k0_pay10, k0_pay11, k0_pay8, blk0, blk1, blk2, blk3, blk4, blk5]
    rfl
  · rw [outsAt0_B m c t h0]
    frame_out
    pointwise [k0_pay4, k0_pay2, k0_pay9, k0_pay10, k0_pay11, k0_pay8, blk0, blk1, blk2, blk3, blk4, blk5]
    rfl

/-- The grid points' rows are all the rows. -/
theorem sum_rows (f : Fin 4096 → EReal) : ∑ t : Fin cfg0.N, ∑ r, f (row t r) = ∑ s, f s :=
  Fin.sum_mul_add_fin (S := cfg0.N) (n := 512) f (by decide +kernel)

/-- A block cleared at the first grid point, to which every point adds its rows' terms, ends as the sum over all rows. -/
theorem total (f : (n : Nat) → n < cfg0.N → Fin 1024 → EReal) (term : Fin 4096 → Fin 1024 → EReal)
    (h0 : ∀ t : Fin cfg0.N, t.val % 8 = 0 → ∀ d, f t.val t.isLt d = 0 + ∑ r, term (row t r) d)
    (hs : ∀ t : Fin cfg0.N, ¬t.val % 8 = 0 → ∀ d,
      f t.val t.isLt d = f (t.val - 1) (Nat.lt_of_le_of_lt (Nat.sub_le _ _) t.isLt) d + ∑ r, term (row t r) d)
    (d : Fin 1024) : f t0_7.val t0_7.isLt d = ∑ s, term s d := by
  rw [Pipeline.eq_sum_fin_of_reset_step_apply_last f 8 (fun _ => 0) (fun t d => ∑ r, term (row t r) d) h0 hs
    (le_of_eq N_0) t0_7 rfl d, zero_add]
  exact sum_rows fun s => term s d

/-- The last contents of the three accumulated blocks. -/
theorem out7 (c : Dev nD) (d : Fin 1024) :
    (outsAt0 m c t0_7.val t0_7.isLt).2.1 (ix2 0 d) = ∑ s, dh (argP m c) (argW m c) s d := by
  refine total (fun n h d => (outsAt0 m c n h).2.1 (ix2 0 d)) (dh (argP m c) (argW m c)) (fun t h d => ?_) (fun t h d => ?_) d
  · beta_reduce
    rw [outsAt0_A m c t h]
    frame_out
    pointwise [k0_pay12, k0_pay5, k0_pay9, blk1, blk2, dh]
  · beta_reduce
    rw [outsAt0_B m c t h]
    frame_out
    pointwise [k0_pay12, k0_pay5, k0_pay9, blk1, blk2, dh]
theorem out8 (c : Dev nD) (d : Fin 1024) :
    (outsAt0 m c t0_7.val t0_7.isLt).2.2.1 (ix2 0 d)
      = ∑ s, dscaleRow (argX m c) (argP m c) (argW m c) (argG m c) s d := by
  refine total (fun n h d => (outsAt0 m c n h).2.2.1 (ix2 0 d)) (dscaleRow (argX m c) (argP m c) (argW m c) (argG m c))
    (fun t h d => ?_) (fun t h d => ?_) d
  · beta_reduce
    rw [outsAt0_A m c t h]
    frame_out
    pointwise [k0_pay1, k0_pay14, k0_pay13, k0_pay8, k0_pay6, k0_pay9, k0_pay10, k0_pay11, blk0, blk1, blk2, blk5, dscaleRow, dh, rms]
  · beta_reduce
    rw [outsAt0_B m c t h]
    frame_out
    pointwise [k0_pay1, k0_pay14, k0_pay13, k0_pay8, k0_pay6, k0_pay9, k0_pay10, k0_pay11, blk0, blk1, blk2, blk5, dscaleRow, dh, rms]
theorem out9 (c : Dev nD) (d : Fin 1024) :
    (outsAt0 m c t0_7.val t0_7.isLt).2.2.2 (ix2 0 d)
      = ∑ s, dgRow (argX m c) (argP m c) (argW m c) (argS m c) s d := by
  refine total (fun n h d => (outsAt0 m c n h).2.2.2 (ix2 0 d)) (dgRow (argX m c) (argP m c) (argW m c) (argS m c))
    (fun t h d => ?_) (fun t h d => ?_) d
  · beta_reduce
    rw [outsAt0_A m c t h]
    frame_out
    pointwise [k0_pay3, k0_pay2, k0_pay8, k0_pay7, k0_pay9, k0_pay10, k0_pay11, blk0, blk1, blk2, blk4, dgRow, dn, dh, rms]
  · beta_reduce
    rw [outsAt0_B m c t h]
    frame_out
    pointwise [k0_pay3, k0_pay2, k0_pay8, k0_pay7, k0_pay9, k0_pay10, k0_pay11, blk0, blk1, blk2, blk4, dgRow, dn, dh, rms]

theorem final6 (c : Dev nD) : (dats m 0 c).arrAt 6 cfg0.N = fun i =>
    gx (argX m c) (argP m c) (argW m c) (argO m c) (argS m c) (argG m c) (i 0) (i 1) := by
  refine (dats m 0 c).arrAt_eq_of_covers 6 _ (by decide +kernel) fun t hf y => ?_
  have h := idx t
  blk_simp
  rw [after0_6]
  idx_vars y
  refine (out6 m c t _ _).trans (congrArg₂ (gx (argX m c) (argP m c) (argW m c) (argO m c) (argS m c) (argG m c)) ?_ ?_)
  · exact Fin.ext (by blk_simp [h.2.2.2.2.2.2.1, row])
  · exact Fin.ext (by blk_simp [h.2.2.2.2.2.2.1, row])
theorem final7 (c : Dev nD) : (dats m 0 c).arrAt 7 cfg0.N = fun i => ∑ s, dh (argP m c) (argW m c) s (i 1) := by
  refine (dats m 0 c).arrAt_eq_of_after_last 7 t0_7 (by decide +kernel) _ fun j => ?_
  blk_simp
  rw [after0_7]
  idx_vars j
  obtain rfl := Subsingleton.elim j0 0
  exact out7 m c j1
theorem final8 (c : Dev nD) : (dats m 0 c).arrAt 8 cfg0.N = fun i =>
    ∑ s, dscaleRow (argX m c) (argP m c) (argW m c) (argG m c) s (i 1) := by
  refine (dats m 0 c).arrAt_eq_of_after_last 8 t0_7 (by decide +kernel) _ fun j => ?_
  blk_simp
  rw [after0_8]
  idx_vars j
  obtain rfl := Subsingleton.elim j0 0
  exact out8 m c j1
theorem final9 (c : Dev nD) : (dats m 0 c).arrAt 9 cfg0.N = fun i =>
    ∑ s, dgRow (argX m c) (argP m c) (argW m c) (argS m c) s (i 1) := by
  refine (dats m 0 c).arrAt_eq_of_after_last 9 t0_7 (by decide +kernel) _ fun j => ?_
  blk_simp
  rw [after0_9]
  idx_vars j
  obtain rfl := Subsingleton.elim j0 0
  exact out9 m c j1

end Cert.InProjDxIdeal.Hand

end
-- ==== Proof.InProjDx.Reference.lean ====
/- The four arrays of the reference of `in_proj_dx`, read at an index. -/
module

public import proofs.«01_k».proof.Proof.Gen.InProjDxRefIdeal.Read
public import proofs.«01_k».proof.Proof.InProjDx.Kernel
public import proofs.«01_k».proof.Proof.Sums

@[expose] public section

set_option maxRecDepth 16384

noncomputable section

namespace Cert.InProjDxRefIdeal.Hand

open Cert.InProjDxRefIdeal Cert.InProjDxRefIdeal.Gen Cert.InProjDxRefIdeal.Read Idealize.ShloMosaic Idealize.ShloMosaic.TcCoe Idealize.SL.Sem
open Cert.InProjDxIdeal.Hand (dh rms dn gx dscaleRow dgRow)

theorem drop_rows (x : S1x1x1024.Idx → EReal) (init : EReal) (d : Fin 1024) :
    Ideal.hostReduceAdd reducesTo_S1x1x1024_S1024_d0_1 x init (ix1 d) = init + x (ix3 0 0 d) := by
  refine Cert.Sums.hostReduceAdd_of_cell _ _ _ _ _ (funext fun b => by fin_cases b; rfl) fun i h => ?_
  idx_vars i
  have := congrFun h 0
  obtain rfl : i2 = d := this
  rw [Subsingleton.elim i0 0, Subsingleton.elim i1 0]

theorem drop_lanes (x : S1x4096x1.Idx → EReal) (init : EReal) (s : Fin 4096) :
    Ideal.hostReduceAdd reducesTo_S1x4096x1_S4096_d0_2 x init (ix1 s) = init + x (ix3 0 s 0) := by
  refine Cert.Sums.hostReduceAdd_of_cell _ _ _ _ _ (funext fun b => by fin_cases b; rfl) fun i h => ?_
  idx_vars i
  have := congrFun h 0
  obtain rfl : i1 = s := this
  rw [Subsingleton.elim i0 0, Subsingleton.elim i2 0]

variable (x : S1x4096x1024.Idx → EReal) (p : S1x4096x4864.Idx → EReal) (w : S1x1024x4864.Idx → EReal)
  (o : S1x4096x1024.Idx → EReal) (sc : S1x3072.Idx → EReal) (g : S1x1024.Idx → EReal)

abbrev cX (s : Fin 4096) (d : Fin 1024) : EReal := x (ix3 0 s d)
abbrev cP (s : Fin 4096) (k : Fin 4864) : EReal := p (ix3 0 s k)
abbrev cW (d : Fin 1024) (k : Fin 4864) : EReal := w (ix3 0 d k)
abbrev cS (d : Fin 1024) : EReal := sc (ix2 0 ⟨1024 + d.val, by omega⟩)
abbrev cG (d : Fin 1024) : EReal := g (ix2 0 d)

/-- The mean square of a row, with the small constant the reference adds. -/
def ms (x : Fin 4096 → Fin 1024 → EReal) (s : Fin 4096) : EReal :=
  Ideal.div (∑ k, x s k * x s k) (Ideal.ofBits .f32 0x44800000#32) + Ideal.ofBits .f32 0x358637BD#32

theorem v10 (s : Fin 4096) : val_main_v10 (F := Ideal) x (ix3 0 s 0) = ms (cX x) s := by
  pointwise [val_main_v10, val_main_v9, val_main_v8, val_main_v7, val_main_v6, val_main_v5, val_main_v4, val_main_cst,
    val_main_cst_0, val_main_cst_1]
  rfl
theorem v11 (s : Fin 4096) : val_main_v11 (F := Ideal) x (ix3 0 s 0) = rms (cX x) s := by
  pointwise [val_main_v11, v10]
  rfl
theorem v31 (s : Fin 4096) (d : Fin 1024) : val_main_v31 (F := Ideal) p w (ix3 0 s d) = dh (cP p) (cW w) s d := by
  pointwise [val_main_v31, val_main_v30, val_main_v28]
  rfl
theorem v40 (s : Fin 4096) (d : Fin 1024) :
    val_main_v40 (F := Ideal) p w sc (ix3 0 s d) = dn (cP p) (cW w) (cS sc) s d := by
  pointwise [val_main_v40, val_main_v39, val_main_v22, val_main_v21, val_main_v20, val_main_v1, val_main_cst_3, v31]
  rfl
theorem v47 (s : Fin 4096) (d : Fin 1024) :
    val_main_v47 (F := Ideal) p w sc g (ix3 0 s d) = dn (cP p) (cW w) (cS sc) s d * cG g d := by
  pointwise [val_main_v47, val_main_v46, val_main_v17, val_main_v3, v40]

theorem v35 (d : Fin 1024) : val_main_v35 (F := Ideal) p w (ix2 0 d) = ∑ s, dh (cP p) (cW w) s d := by
  pointwise [val_main_v35, val_main_v34, val_main_v33, val_main_v32, val_main_cst_4, val_main_cst_5, drop_rows, v31]
theorem v42 (d : Fin 1024) :
    val_main_v42 (F := Ideal) x p w g (ix2 0 d)
      = ∑ s, cX x s d * rms (cX x) s * cG g d * dh (cP p) (cW w) s d := by
  pointwise [val_main_v42, val_main_v41, val_main_v38, val_main_v37, val_main_v36, val_main_v19, val_main_v18, val_main_v17,
    val_main_v3, val_main_v16, val_main_v15, val_main_cst_6, val_main_cst_7, drop_rows, v31, v11]
theorem v65 (d : Fin 1024) :
    val_main_v65 (F := Ideal) x p w sc (ix2 0 d)
      = ∑ s, cX x s d * rms (cX x) s * dn (cP p) (cW w) (cS sc) s d := by
  pointwise [val_main_v65, val_main_v48, val_main_v45, val_main_v44, val_main_v43, val_main_v16, val_main_v15, val_main_cst_8,
    val_main_cst_9, drop_rows, v40, v11]

/-- What the reference adds to a row of the input's gradient, once for each factor of the square. -/
def back (x : Fin 4096 → Fin 1024 → EReal) (n : Fin 4096 → Fin 1024 → EReal) (s : Fin 4096) : EReal :=
  Ideal.div ((∑ k, x s k * n s k) * (Ideal.ofBits .f32 0xBF000000#32 * Ideal.div (rms x s) (ms x s)))
    (Ideal.ofBits .f32 0x44800000#32)

theorem v60 (s : Fin 4096) (d : Fin 1024) : val_main_v60 (F := Ideal) x p w sc g (ix3 0 s d)
      = back (cX x) (fun s d => dn (cP p) (cW w) (cS sc) s d * cG g d) s := by
  pointwise [val_main_v60, val_main_v59, val_main_v58, val_main_v57, val_main_v56, val_main_v55, val_main_v51, val_main_v50,
    val_main_v49, val_main_v14, val_main_v13, val_main_v12, val_main_cst_2, val_main_cst_10, val_main_cst_11, val_main_cst_12,
    drop_lanes, v47, v10, v11]
  rfl
theorem v66 (s : Fin 4096) (d : Fin 1024) :
    val_main_v66 (F := Ideal) x p w o sc g (ix2 s d)
      = o (ix3 0 s d) + dn (cP p) (cW w) (cS sc) s d * cG g d * rms (cX x) s
        + cX x s d * back (cX x) (fun s d => dn (cP p) (cW w) (cS sc) s d * cG g d) s
        + back (cX x) (fun s d => dn (cP p) (cW w) (cS sc) s d * cG g d) s * cX x s d := by
  pointwise [val_main_v66, val_main_v64, val_main_v63, val_main_v62, val_main_v61, val_main_v54, val_main_v53, val_main_v52,
    v11, v47, v60]

end Cert.InProjDxRefIdeal.Hand

end
-- ==== Proof.InProjDx.Equation.lean ====
/- For finite inputs the kernel's gradient of the input is the reference's: the norm's transposed map is written as
   `r (n - x r m)` in the one and as `n r + 2 x b` in the other, `m` the mean of `n x r` and `b` the derivative of
   the reciprocal root. -/
module

public import proofs.«01_k».proof.Proof.InProjDx.Reference
public import proofs.«01_k».proof.Proof.Reals

@[expose] public section

noncomputable section

namespace Cert.InProjDxEquation

open Idealize.ShloMosaic Cert.Reals
open Cert.InProjDxIdeal.Hand (dh rms dn gx dscaleRow dgRow)
open Cert.InProjDxRefIdeal.Hand (ms back)

/-- The mean square plus the small constant, of a row of reals. -/
def msR (x : Fin 4096 → Fin 1024 → ℝ) (s : Fin 4096) : ℝ := (∑ k, x s k * x s k) / 1024 + eps

theorem msR_pos (x : Fin 4096 → Fin 1024 → ℝ) (s : Fin 4096) : 0 < msR x s :=
  add_pos_of_nonneg_of_pos (div_nonneg (Finset.sum_nonneg fun k _ => mul_self_nonneg _) (by norm_num)) eps_pos

theorem ms_real (x : Fin 4096 → Fin 1024 → ℝ) (s : Fin 4096) : ms (fun s k => (x s k : EReal)) s = (msR x s : EReal) := by
  unfold ms msR
  rw [bits_1024, bits_eps, EReal.coe_add, ← div_real _ (by norm_num)]
  push_cast
  rfl

theorem rms_real (x : Fin 4096 → Fin 1024 → ℝ) (s : Fin 4096) :
    rms (fun s k => (x s k : EReal)) s = (((Real.sqrt (msR x s))⁻¹ : ℝ) : EReal) :=
  (congrArg Ideal.rsqrt (ms_real x s)).trans (rsqrt_real (msR_pos x s))

theorem dn_real (p : Fin 4096 → Fin 4864 → ℝ) (w : Fin 1024 → Fin 4864 → ℝ) (sc : Fin 1024 → ℝ) (s : Fin 4096) (d : Fin 1024) :
    dn (fun s k => (p s k : EReal)) (fun d k => (w d k : EReal)) (fun d => (sc d : EReal)) s d
      = (((∑ k, p s k * w d k) * (1 + sc d) : ℝ) : EReal) := by
  unfold dn dh
  push_cast
  rfl

/-- The real-number equation, `a` the reciprocal root of `v`. -/
theorem norm_back (n x a v q : ℝ) (hv : 0 < v) (ha : a = (Real.sqrt v)⁻¹) :
    a * (n - x * a * (q * a / 1024)) = n * a + x * (q * (-(1 / 2) * (a / v)) / 1024) + q * (-(1 / 2) * (a / v)) / 1024 * x := by
  have h : a * a = 1 / v := by rw [ha, ← mul_inv, Real.mul_self_sqrt hv.le, one_div]
  have h3 : a * (x * a * (q * a / 1024)) = x * q * a * (a * a) / 1024 := by ring
  rw [mul_sub, h3, h]
  field_simp
  ring

theorem gx_eq (x : Fin 4096 → Fin 1024 → EReal) (p : Fin 4096 → Fin 4864 → EReal) (w : Fin 1024 → Fin 4864 → EReal)
    (o : Fin 4096 → Fin 1024 → EReal) (sc g : Fin 1024 → EReal) (hx : ∀ s d, ∃ r : ℝ, x s d = r) (hp : ∀ s k, ∃ r : ℝ, p s k = r)
    (hw : ∀ d k, ∃ r : ℝ, w d k = r) (hsc : ∀ d, ∃ r : ℝ, sc d = r) (hg : ∀ d, ∃ r : ℝ, g d = r) (s : Fin 4096) (d : Fin 1024) :
    gx x p w o sc g s d
      = o s d + dn p w sc s d * g d * rms x s + x s d * back x (fun s d => dn p w sc s d * g d) s
        + back x (fun s d => dn p w sc s d * g d) s * x s d := by
  choose x' hx using hx
  choose p' hp using hp
  choose w' hw using hw
  choose sc' hsc using hsc
  choose g' hg using hg
  obtain rfl : x = fun s d => (x' s d : EReal) := by funext s d; exact hx s d
  obtain rfl : p = fun s d => (p' s d : EReal) := by funext s d; exact hp s d
  obtain rfl : w = fun s d => (w' s d : EReal) := by funext s d; exact hw s d
  obtain rfl : sc = fun d => (sc' d : EReal) := by funext d; exact hsc d
  obtain rfl : g = fun d => (g' d : EReal) := by funext d; exact hg d
  unfold gx back
  simp only [dn_real, rms_real, ms_real, bits_1024, bits_neg_half, div_real _ (msR_pos x' s).ne', ← EReal.coe_mul, ← coe_sum,
    div_real _ (show (1024 : ℝ) ≠ 0 by norm_num), ← coe_sub, add_assoc, ← EReal.coe_add]
  congr 2
  rw [show (∑ k, (∑ j, p' s j * w' k j) * (1 + sc' k) * g' k * (x' s k * (Real.sqrt (msR x' s))⁻¹))
      = (∑ k, x' s k * ((∑ j, p' s j * w' k j) * (1 + sc' k) * g' k)) * (Real.sqrt (msR x' s))⁻¹ by
    rw [Finset.sum_mul]; exact Finset.sum_congr rfl fun k _ => by ring, ← add_assoc]
  exact norm_back _ _ _ _ _ (msR_pos x' s) rfl

end Cert.InProjDxEquation

end
-- ==== Proof.InProjDx.Claims.lean ====
/- The claims about `in_proj_dx`: the kernel's run and the reference's run end with the same four arrays. -/
module

public import proofs.«01_k».proof.Defs
public import proofs.«01_k».proof.Proof.Gen.Pre_finite1
public import proofs.«01_k».proof.Proof.InProjDx.Equation

@[expose] public section

set_option maxRecDepth 16384

noncomputable section

namespace Cert.InProjDxClaims

open Idealize.ShloMosaic Idealize.ShloMosaic.TcCoe Idealize.SL.Sem
open Cert.InProjDxIdeal.Hand (argX argP argW argO argS argG final6 final7 final8 final9 dh gx dscaleRow dgRow)

/-- What the precondition says: every element it names is a real. -/
theorem reals {a0 : FVec Ideal Cert.Pre_finite1.S1x4096x1024 .f32} {a1 : FVec Ideal Cert.Pre_finite1.S1x4096x4864 .bf16}
    {a2 : FVec Ideal Cert.Pre_finite1.S1x1024x4864 .f32} {a3 : FVec Ideal Cert.Pre_finite1.S1x4096x1024 .f32}
    {a4 : FVec Ideal Cert.Pre_finite1.S1x3072 .f32} {a5 : FVec Ideal Cert.Pre_finite1.S1x1024 .f32}
    (h : Cert.Pre_finite1.fn (F := Ideal) a0 a1 a2 a3 a4 a5 = fun _ => 1#1) :
    (∀ s d, ∃ r : ℝ, a0 (ix3 0 s d) = r) ∧ (∀ s k, ∃ r : ℝ, a1 (ix3 0 s k) = r) ∧ (∀ d k, ∃ r : ℝ, a2 (ix3 0 d k) = r)
      ∧ (∀ d : Fin 1024, ∃ r : ℝ, a4 (ix2 0 ⟨1024 + d.val, by omega⟩) = r) ∧ (∀ d, ∃ r : ℝ, a5 (ix2 0 d) = r) := by
  have : Subsingleton Cert.Pre_finite1.S_.Idx := ⟨fun a b => funext fun i => i.elim0⟩
  have h := congrFun h ix0
  unfold Cert.Pre_finite1.fn Cert.Pre_finite1.fn_part1 at h
  dsimp only at h
  simp only [show ∀ (a b : IVec Cert.Pre_finite1.S_ 1) i, andi a b i = IntOp.andi (a i) (b i) from fun _ _ _ => rfl, IntOp.andi_eq_one] at h
  obtain ⟨⟨⟨⟨h0, h1⟩, h2⟩, h4⟩, h5⟩ := h
  exact ⟨fun s d => Reals.real_of_all _ _ _ _ _ _ h0 _, fun s k => Reals.real_of_all _ _ _ _ _ _ h1 (ix3 0 s k),
    fun d k => Reals.real_of_all _ _ _ _ _ _ h2 _, fun d => by
      obtain ⟨r, hr⟩ := Reals.real_of_all _ _ _ _ _ _ h4 (ix2 0 d)
      exact ⟨r, by rw [← hr]; pointwise⟩, fun d => Reals.real_of_all _ _ _ _ _ _ h5 _⟩

/-- The reference runs, leaves its arguments unchanged, and declares no semaphore. -/
theorem frameRef : Cert.quiescent_InProjDxRefIdeal := fun m ρ _ =>
  (θ_run Cert.InProjDxRefIdeal.defs _ _).mono
    (fun r h => ⟨fun c => (h c).2.2.2.2, Idealize.ShloMosaic.sem_eq_zero_of_no_sems (by decide) r.2⟩)
    (Cert.InProjDxRefIdeal.Value.run m ρ)

theorem value : Cert.algebraic_InProjDxIdeal_InProjDxRefIdeal_pre_finite1 := by
  intro m g m' g' hpre hargs
  refine ⟨fun c => (Cert.InProjDxIdeal.Gen.dats m 0 c).arrAt 6 Cert.InProjDxIdeal.cfg0.N,
    fun c => (Cert.InProjDxIdeal.Gen.dats m 0 c).arrAt 7 Cert.InProjDxIdeal.cfg0.N,
    fun c => (Cert.InProjDxIdeal.Gen.dats m 0 c).arrAt 8 Cert.InProjDxIdeal.cfg0.N,
    fun c => (Cert.InProjDxIdeal.Gen.dats m 0 c).arrAt 9 Cert.InProjDxIdeal.cfg0.N,
    Cert.InProjDxIdeal.Value.run_blocks m g, ?_⟩
  refine (θ_run _ _ _).mono (fun r h c => ?_) (Cert.InProjDxRefIdeal.Value.run m' g')
  obtain ⟨h0, h1, h2, h3, ha⟩ := h c
  obtain ⟨e0, e1, e2, e3, e4, e5⟩ := hargs c
  obtain ⟨hx, hp, hw, hs, hg⟩ := reals (hpre c)
  refine ⟨h0.trans ?_, h1.trans ?_, h2.trans ?_, h3.trans ?_, ha⟩
  · rw [Cert.InProjDxRefIdeal.Read.val_main_v66_eq, e0, e1, e2, e3, e4, e5]
    refine Eq.trans ?_ (final6 m c).symm
    funext i
    idx_vars i
    rw [Cert.InProjDxRefIdeal.Hand.v66]
    exact (Cert.InProjDxEquation.gx_eq (argX m c) (argP m c) (argW m c) (argO m c) (argS m c) (argG m c) hx hp hw hs hg i0 i1).symm
  · refine (Cert.InProjDxRefIdeal.Read.val_main_v35_eq _ _).trans ?_
    rw [e1, e2]
    refine Eq.trans ?_ (final7 m c).symm
    funext i
    idx_vars i
    obtain rfl := Subsingleton.elim i0 0
    exact Cert.InProjDxRefIdeal.Hand.v35 _ _ i1
  · refine (Cert.InProjDxRefIdeal.Read.val_main_v42_eq _ _ _ _).trans ?_
    rw [e0, e1, e2, e5]
    refine Eq.trans ?_ (final8 m c).symm
    funext i
    idx_vars i
    obtain rfl := Subsingleton.elim i0 0
    exact (Cert.InProjDxRefIdeal.Hand.v42 _ _ _ _ i1).trans (Finset.sum_congr rfl fun s _ => mul_comm _ _)
  · refine (Cert.InProjDxRefIdeal.Read.val_main_v65_eq _ _ _ _).trans ?_
    rw [e0, e1, e2, e4]
    refine Eq.trans ?_ (final9 m c).symm
    funext i
    idx_vars i
    obtain rfl := Subsingleton.elim i0 0
    exact (Cert.InProjDxRefIdeal.Hand.v65 _ _ _ _ i1).trans (Finset.sum_congr rfl fun s _ => mul_comm _ _)

end Cert.InProjDxClaims

end
-- ==== Proof.Assemble.Block.lean ====
/- What one grid point of the assembling kernel leaves, read at an index of its blocks. -/
module

public import proofs.«01_k».proof.Proof.Gen.AssembleIdeal.Frame
public import Idealize.ShloMosaic.Lib.Pointwise
public import Idealize.ShloMosaic.Lib.WritesUnit
public import Idealize.ShloMosaic.Lib.Pipeline.ValueKit

@[expose] public section

set_option maxRecDepth 16384

noncomputable section

namespace Cert.AssembleIdeal.Hand

open Cert.AssembleIdeal Cert.AssembleIdeal.Gen Idealize.ShloMosaic Idealize.ShloMosaic.TcCoe Idealize.SL.Sem
open Idealize.ShloMosaic.Pipeline (Dat)

/-- The lanes 16 to the right and 16 to the left of lane `x`, around the 128. -/
def right (x : Fin 128) : Fin 128 := ⟨(x.val + 128 - 112) % 128, Nat.mod_lt _ (by decide)⟩
def left (x : Fin 128) : Fin 128 := ⟨(x.val + 128 - 16) % 128, Nat.mod_lt _ (by decide)⟩
def across (x : Fin 128) : Fin 128 := ⟨(x.val + 128 - 64) % 128, Nat.mod_lt _ (by decide)⟩

/-- The transposed rotation of one row of two heads: lanes 16 apart are rotated together. -/
def unrope (d cs sn : Fin 128 → EReal) (x : Fin 128) : EReal :=
  d x * cs x + if x.val / 16 % 2 = 0 then d (right x) * sn (right x) else d (left x) * sn (left x)

/-- The block-diagonal matrix of ones the kernel builds from two counters: whether two lanes belong to the same head. -/
def same (k x : Fin 128) : EReal :=
  k0_pay8 (F := Ideal) k0_pay4 (iota .tc S128x128 32 [1] iota_S128x128_d1_w32) 64#32 k0_pay5 k0_pay6 k0_pay7 (ix2 k x)

/-- The kernel's sum over the lanes of lane `x`'s head: a rounded part and its remainder, each against the block-diagonal matrix. -/
def seg (f : Fin 128 → EReal) (x : Fin 128) : EReal := (∑ k, f k * same k x) + ∑ k, (f k - f k) * same k x

/-- The reciprocal root mean square of lane `x`'s head. -/
def rr (p : Fin 128 → EReal) (x : Fin 128) : EReal :=
  Ideal.rsqrt (seg (fun k => p k * p k) x * Ideal.ofBits .f32 0x3C800000#32 + Ideal.ofBits .f32 0x358637BD#32)

/-- The normalised row. -/
def nx (p : Fin 128 → EReal) (x : Fin 128) : EReal := p x * rr p x

/-- The norm's transposed map on a row `d` of gradients, with gain `g`. -/
def unnorm (p d g : Fin 128 → EReal) (x : Fin 128) : EReal :=
  rr p x * (d x * g x - nx p x * (seg (fun k => d k * g k * nx p k) x * Ideal.ofBits .f32 0x3C800000#32))

theorem select_lane (x : Fin 128) (a b : EReal) :
    Scalar.select (IntOp.cmpi CmpIPredicate.slt (BitVec.ofNat 32 x.val) 64#32) a b = if x.val < 64 then a else b := by
  have h : ∀ x : Fin 128, IntOp.cmpi CmpIPredicate.slt (BitVec.ofNat 32 x.val) 64#32 = if x.val < 64 then 1#1 else 0#1 := by decide +kernel
  rw [h x]
  by_cases hx : x.val < 64 <;> simp [hx, Scalar.select]

theorem select_lane_mod (n : ℕ) (a b : EReal) :
    Scalar.select (IntOp.cmpi CmpIPredicate.slt (BitVec.ofNat 32 (n % 128)) 64#32) a b = if n % 128 < 64 then a else b :=
  select_lane ⟨n % 128, Nat.mod_lt _ (by decide)⟩ a b
theorem select_swap (x : Fin 128) (a b : EReal) :
    Scalar.select (IntOp.cmpi CmpIPredicate.eq (IntOp.andi (BitVec.ofNat 32 x.val) 16#32) 0#32) a b = if x.val / 16 % 2 = 0 then a else b := by
  have h : ∀ x : Fin 128, IntOp.cmpi CmpIPredicate.eq (IntOp.andi (BitVec.ofNat 32 x.val) 16#32) 0#32 = if x.val / 16 % 2 = 0 then 1#1 else 0#1 := by decide +kernel
  rw [h x]
  by_cases hx : x.val / 16 % 2 = 0 <;> simp [hx, Scalar.select]

theorem same_eq (k x : Fin 128) : same k x = if k.val / 64 = x.val / 64 then 1 else 0 := by
  unfold same
  pointwise [k0_pay8, k0_pay4, k0_pay5, k0_pay6, k0_pay7]
  have h : ∀ k : Fin 128, Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = if k.val / 64 = 0 then 0#32 else 1#32 := by decide +kernel
  rw [h k, h x]
  have hk := k.isLt
  have hx := x.isLt
  have e : ∀ b : BitVec 32, (FloatOps.sitofp FTy.f32 b : Ideal .f32) = ((b.toInt : ℝ) : EReal) := fun _ => rfl
  rw [e]
  by_cases a : k.val / 64 = 0 <;> by_cases b : x.val / 64 = 0
  · simp [a, b, IntOp.cmpi]
  · have : ¬ 0 = x.val / 64 := fun h => b h.symm
    simp [a, b, this, IntOp.cmpi]
  · simp [a, b, IntOp.cmpi]
  · have : k.val / 64 = x.val / 64 := by omega
    simp [a, b, this, IntOp.cmpi]

/-- Lane `x` of pair `p` of heads. -/
def qlane (p : Fin 4) (x : Fin 128) : Fin 512 := ⟨128 * p.val + x.val, by omega⟩
def plane (p : Fin 4) (x : Fin 128) : Fin 768 := ⟨128 * p.val + x.val, by omega⟩

variable (c : Dev nD) (i : grid0.Coords)
  (a1 : Memref sig .tc .vmem S512x768 .f32) (h1 : a1.IsWhole) (a2 : Memref sig .tc .vmem S512x128 .f32) (h2 : a2.IsWhole)
  (a3 : Memref sig .tc .vmem S512x128 .f32) (h3 : a3.IsWhole) (a4 : Memref sig .tc .vmem S1x128 .f32) (h4 : a4.IsWhole)
  (a5 : Memref sig .tc .vmem S1x128 .f32) (h5 : a5.IsWhole) (a6 : Memref sig .tc .vmem S512x512 .f32) (h6 : a6.IsWhole)
  (a7 : Memref sig .tc .vmem S2x512x128 .f32) (h7 : a7.IsWhole) (a8 : Memref sig .tc .vmem S2x512x128 .f32) (h8 : a8.IsWhole)
  (a9 : Memref sig .tc .vmem S512x512 .bf16) (h9 : a9.IsWhole) (a10 : Memref sig .tc .vmem S512x256 .f32) (h10 : a10.IsWhole)
  (a11 : Memref sig .tc .vmem S512x256 .f32) (h11 : a11.IsWhole) (a12 : Memref sig .tc .vmem S512x512 .bf16) (h12 : a12.IsWhole)
  (a13 : Memref sig .tc .vmem S512x512 .bf16) (h13 : a13.IsWhole) (a14 : Memref sig .tc .vmem S512x2048 .bf16) (h14 : a14.IsWhole)
  (a15 : Memref sig .tc .vmem S512x4864 .bf16) (h15 : a15.IsWhole) (a16 : Memref sig .tc .vmem S1x128 .f32) (h16 : a16.IsWhole)
  (a17 : Memref sig .tc .vmem S1x128 .f32) (h17 : a17.IsWhole)
  (x0 : S512x768.Idx → EReal) (x1 : S512x128.Idx → EReal) (x2 : S512x128.Idx → EReal) (x3 : S1x128.Idx → EReal) (x4 : S1x128.Idx → EReal) (x5 : S512x512.Idx → EReal) (x6 : S2x512x128.Idx → EReal) (x7 : S2x512x128.Idx → EReal) (x8 : S512x512.Idx → EReal) (x9 : S512x256.Idx → EReal) (x10 : S512x256.Idx → EReal) (x11 : S512x512.Idx → EReal) (x12 : S512x512.Idx → EReal) (x13 : S512x2048.Idx → EReal) (y15 y16 : S1x128.Idx → EReal)

/-- Row `r` of a pair of query heads: the projected values, and the gradients turned back through the rotation. -/
def qp (r : Fin 512) (p : Fin 4) (x : Fin 128) : EReal := x0 (ix2 r (plane p x))
def qd (r : Fin 512) (p : Fin 4) : Fin 128 → EReal :=
  unrope (fun x => x5 (ix2 r (qlane p x)) * Ideal.ofBits .f32 0x3E000000#32) (fun x => x1 (ix2 r x)) fun x => x2 (ix2 r x)

/-- The key lanes: the two packed partial gradients of a key, folded and put side by side. -/
def fold (f : S2x512x128.Idx → EReal) (r : Fin 512) (x : Fin 128) : EReal :=
  if x.val < 64 then f (ix3 0 r x) + f (ix3 0 r (across x)) else f (ix3 1 r x) + f (ix3 1 r (across x))
def kp (r : Fin 512) (x : Fin 128) : EReal := x0 (ix2 r ⟨512 + x.val, by omega⟩)
def kd (r : Fin 512) : Fin 128 → EReal := unrope (fold x6 r) (fun x => x1 (ix2 r x)) fun x => x2 (ix2 r x)

/-- A result of the body, of the operands and the blocks. -/
local notation:max "res[" f ", " i ", " hc "]" => f (F := Ideal) c i a1 h1 a2 h2 a3 h3 a4 h4 a5 h5 a6 h6 a7 h7 a8 h8 a9 h9 a10 h10 a11 h11 a12 h12 a13 h13 a14 h14 a15 h15 a16 h16 a17 h17 hc
  x0 x1 x2 x3 x4 x5 x6 x7 x8 x9 x10 x11 x12 x13

-- the steps of the body, and what they are said in
attribute [local pointwise] k0_pay1 k0_pay2 k0_pay3 k0_pay9 k0_pay10 k0_pay11 k0_pay12 k0_pay13 k0_pay14 k0_pay15 k0_pay16 k0_pay17 k0_pay18 k0_pay19 k0_pay20 k0_pay21
  k0_pay22 k0_pay23 k0_pay24 k0_pay25 k0_pay26 k0_pay27 k0_pay28 k0_pay29 k0_pay30 k0_pay31 k0_pay32 k0_pay33 k0_pay34 k0_pay35 k0_pay36 k0_pay37
  k0_pay38 k0_pay39 k0_pay40 k0_pay41 k0_pay42 k0_pay43 k0_pay44 k0_pay45 k0_pay46 k0_pay47 k0_pay48 k0_pay49 k0_pay50 k0_pay51 k0_pay52 k0_pay53
  k0_pay54 k0_pay55 k0_pay56 k0_pay57 k0_pay58 k0_pay59 k0_pay60 k0_pay61 k0_pay62 k0_pay63 k0_pay64 select_swap select_lane select_lane_mod qd qp kd
  kp fold unrope unnorm nx rr seg same right left across qlane plane

theorem gq_A (hc) (x : Fin 128) :
    res[out0_A_15, i, hc] (ix2 0 x)
      = 0 + (∑ r, qd x1 x2 x5 r 0 x * nx (qp x0 r 0) x) + (∑ r, qd x1 x2 x5 r 1 x * nx (qp x0 r 1) x)
        + (∑ r, qd x1 x2 x5 r 2 x * nx (qp x0 r 2) x) + ∑ r, qd x1 x2 x5 r 3 x * nx (qp x0 r 3) x := by
  frame_out
  pointwise []
theorem gk_A (hc) (x : Fin 128) :
    res[out0_A_16, i, hc] (ix2 0 x)
      = 0 + ∑ r, kd x1 x2 x6 r x * nx (kp x0 r) x := by
  frame_out
  pointwise []
theorem gq_B (hc) (x : Fin 128) :
    res[out0_B_15, i, hc] y15 y16 (ix2 0 x)
      = y15 (ix2 0 x) + (∑ r, qd x1 x2 x5 r 0 x * nx (qp x0 r 0) x) + (∑ r, qd x1 x2 x5 r 1 x * nx (qp x0 r 1) x)
        + (∑ r, qd x1 x2 x5 r 2 x * nx (qp x0 r 2) x) + ∑ r, qd x1 x2 x5 r 3 x * nx (qp x0 r 3) x := by
  frame_out
  pointwise []
theorem gk_B (hc) (x : Fin 128) :
    res[out0_B_16, i, hc] y15 y16 (ix2 0 x)
      = y16 (ix2 0 x) + ∑ r, kd x1 x2 x6 r x * nx (kp x0 r) x := by
  frame_out
  pointwise []

/-- The assembled block does not depend on the sums the other two results carry. -/
theorem dp_A (i' : grid0.Coords) (hc hc') : res[out0_A_14, i, hc] = res[out0_A_14, i', hc'] := rfl
theorem dp_B (i' : grid0.Coords) (hc hc') : res[out0_B_14, i, hc] y15 y16 = res[out0_A_14, i', hc'] := rfl

/-- The columns of the queries. -/
theorem dp_q (hc) (p : Fin 4) (x : Fin 128) (r : Fin 512) : res[out0_A_14, i, hc] (ix2 r (⟨128 * p.val + x.val, by omega⟩ : Fin 4864)) = unnorm (qp x0 r p) (qd x1 x2 x5 r p) (fun x => x3 (ix2 0 x)) x := by
  refine (View.read_writes_apply_eq VO0_14 VO0_14.junk a15.view a15.view.junk _ _ (res[cover0_A_14, i, hc] _)).trans ?_
  unfold kernelRun0_A
  dsimp only
  sl_unfold_run_names
  simp only [View.readAt_eq_ld, Memref.IsWhole.read_unread]
  obtain ⟨p, hp⟩ := p
  interval_cases p
  all_goals
    repeat (refine (View.read_writes_cons_unit_of_not_mem _ _ _ _ _ _ rfl 1 ?_).trans ?_; focus (simp [ix2] <;> omega))
    refine (View.read_writes_cons_unit_of_mem _ _ _ _ _ _ (ix2 r x) rfl (by intro b; fin_cases b <;> simp [ix2] <;> omega)).trans ?_
    pointwise []

set_option maxHeartbeats 1000000 in
/-- The columns of the keys. -/
theorem dp_k (hc) (x : Fin 128) (r : Fin 512) : res[out0_A_14, i, hc] (ix2 r (⟨512 + x.val, by omega⟩ : Fin 4864)) = unnorm (kp x0 r) (kd x1 x2 x6 r) (fun x => x4 (ix2 0 x)) x := by
  refine (View.read_writes_apply_eq VO0_14 VO0_14.junk a15.view a15.view.junk _ _ (res[cover0_A_14, i, hc] _)).trans ?_
  unfold kernelRun0_A
  dsimp only
  sl_unfold_run_names
  simp only [View.readAt_eq_ld, Memref.IsWhole.read_unread]
  repeat (refine (View.read_writes_cons_unit_of_not_mem _ _ _ _ _ _ rfl 1 ?_).trans ?_; focus (simp [ix2] <;> omega))
  refine (View.read_writes_cons_unit_of_mem _ _ _ _ _ _ (ix2 r x) rfl (by intro b; fin_cases b <;> simp [ix2] <;> omega)).trans ?_
  pointwise []

/-- The columns of the values. -/
theorem dp_v (hc) (x : Fin 128) (r : Fin 512) : res[out0_A_14, i, hc] (ix2 r (⟨640 + x.val, by omega⟩ : Fin 4864)) = fold x7 r x := by
  refine (View.read_writes_apply_eq VO0_14 VO0_14.junk a15.view a15.view.junk _ _ (res[cover0_A_14, i, hc] _)).trans ?_
  unfold kernelRun0_A
  dsimp only
  sl_unfold_run_names
  simp only [View.readAt_eq_ld, Memref.IsWhole.read_unread]
  repeat (refine (View.read_writes_cons_unit_of_not_mem _ _ _ _ _ _ rfl 1 ?_).trans ?_; focus (simp [ix2] <;> omega))
  refine (View.read_writes_cons_unit_of_mem _ _ _ _ _ _ (ix2 r x) rfl (by intro b; fin_cases b <;> simp [ix2] <;> omega)).trans ?_
  pointwise []

/-- The columns of the attention gate. -/
theorem dp_za (hc) (x : Fin 512) (r : Fin 512) : res[out0_A_14, i, hc] (ix2 r (⟨768 + x.val, by omega⟩ : Fin 4864)) = x8 (ix2 r x) := by
  refine (View.read_writes_apply_eq VO0_14 VO0_14.junk a15.view a15.view.junk _ _ (res[cover0_A_14, i, hc] _)).trans ?_
  unfold kernelRun0_A
  dsimp only
  sl_unfold_run_names
  simp only [View.readAt_eq_ld, Memref.IsWhole.read_unread]
  repeat (refine (View.read_writes_cons_unit_of_not_mem _ _ _ _ _ _ rfl 1 ?_).trans ?_; focus (simp [ix2] <;> omega))
  refine (View.read_writes_cons_unit_of_mem _ _ _ _ _ _ (ix2 r x) rfl (by intro b; fin_cases b <;> simp [ix2] <;> omega)).trans ?_
  pointwise []

/-- The columns of the retention queries. -/
theorem dp_rq (hc) (p : Fin 2) (x : Fin 128) (r : Fin 512) : res[out0_A_14, i, hc] (ix2 r (⟨1280 + (128 * p.val + x.val), by omega⟩ : Fin 4864)) = unrope (fun x => x9 (ix2 r ⟨128 * p.val + x.val, by omega⟩)) (fun x => x1 (ix2 r x)) (fun x => x2 (ix2 r x)) x := by
  refine (View.read_writes_apply_eq VO0_14 VO0_14.junk a15.view a15.view.junk _ _ (res[cover0_A_14, i, hc] _)).trans ?_
  unfold kernelRun0_A
  dsimp only
  sl_unfold_run_names
  simp only [View.readAt_eq_ld, Memref.IsWhole.read_unread]
  obtain ⟨p, hp⟩ := p
  interval_cases p
  all_goals
    repeat (refine (View.read_writes_cons_unit_of_not_mem _ _ _ _ _ _ rfl 1 ?_).trans ?_; focus (simp [ix2] <;> omega))
    refine (View.read_writes_cons_unit_of_mem _ _ _ _ _ _ (ix2 r x) rfl (by intro b; fin_cases b <;> simp [ix2] <;> omega)).trans ?_
    pointwise []

/-- The columns of the retention keys. -/
theorem dp_rk (hc) (p : Fin 2) (x : Fin 128) (r : Fin 512) : res[out0_A_14, i, hc] (ix2 r (⟨1536 + (128 * p.val + x.val), by omega⟩ : Fin 4864)) = unrope (fun x => x10 (ix2 r ⟨128 * p.val + x.val, by omega⟩) * Ideal.ofBits .f32 0x3E000000#32) (fun x => x1 (ix2 r x)) (fun x => x2 (ix2 r x)) x := by
  refine (View.read_writes_apply_eq VO0_14 VO0_14.junk a15.view a15.view.junk _ _ (res[cover0_A_14, i, hc] _)).trans ?_
  unfold kernelRun0_A
  dsimp only
  sl_unfold_run_names
  simp only [View.readAt_eq_ld, Memref.IsWhole.read_unread]
  obtain ⟨p, hp⟩ := p
  interval_cases p
  all_goals
    repeat (refine (View.read_writes_cons_unit_of_not_mem _ _ _ _ _ _ rfl 1 ?_).trans ?_; focus (simp [ix2] <;> omega))
    refine (View.read_writes_cons_unit_of_mem _ _ _ _ _ _ (ix2 r x) rfl (by intro b; fin_cases b <;> simp [ix2] <;> omega)).trans ?_
    pointwise []

/-- The columns of the retention values. -/
theorem dp_rv (hc) (x : Fin 512) (r : Fin 512) : res[out0_A_14, i, hc] (ix2 r (⟨1792 + x.val, by omega⟩ : Fin 4864)) = x11 (ix2 r x) := by
  refine (View.read_writes_apply_eq VO0_14 VO0_14.junk a15.view a15.view.junk _ _ (res[cover0_A_14, i, hc] _)).trans ?_
  unfold kernelRun0_A
  dsimp only
  sl_unfold_run_names
  simp only [View.readAt_eq_ld, Memref.IsWhole.read_unread]
  repeat (refine (View.read_writes_cons_unit_of_not_mem _ _ _ _ _ _ rfl 1 ?_).trans ?_; focus (simp [ix2] <;> omega))
  refine (View.read_writes_cons_unit_of_mem _ _ _ _ _ _ (ix2 r x) rfl (by intro b; fin_cases b <;> simp [ix2] <;> omega)).trans ?_
  pointwise []

/-- The columns of the retention gate. -/
theorem dp_zr (hc) (x : Fin 512) (r : Fin 512) : res[out0_A_14, i, hc] (ix2 r (⟨2304 + x.val, by omega⟩ : Fin 4864)) = x12 (ix2 r x) := by
  refine (View.read_writes_apply_eq VO0_14 VO0_14.junk a15.view a15.view.junk _ _ (res[cover0_A_14, i, hc] _)).trans ?_
  unfold kernelRun0_A
  dsimp only
  sl_unfold_run_names
  simp only [View.readAt_eq_ld, Memref.IsWhole.read_unread]
  repeat (refine (View.read_writes_cons_unit_of_not_mem _ _ _ _ _ _ rfl 1 ?_).trans ?_; focus (simp [ix2] <;> omega))
  refine (View.read_writes_cons_unit_of_mem _ _ _ _ _ _ (ix2 r x) rfl (by intro b; fin_cases b <;> simp [ix2] <;> omega)).trans ?_
  pointwise []

/-- The columns of the merge gates. -/
theorem dp_gl (hc) (x : Fin 2048) (r : Fin 512) : res[out0_A_14, i, hc] (ix2 r (⟨2816 + x.val, by omega⟩ : Fin 4864)) = x13 (ix2 r x) := by
  refine (View.read_writes_apply_eq VO0_14 VO0_14.junk a15.view a15.view.junk _ _ (res[cover0_A_14, i, hc] _)).trans ?_
  unfold kernelRun0_A
  dsimp only
  sl_unfold_run_names
  simp only [View.readAt_eq_ld, Memref.IsWhole.read_unread]
  repeat (refine (View.read_writes_cons_unit_of_not_mem _ _ _ _ _ _ rfl 1 ?_).trans ?_; focus (simp [ix2] <;> omega))
  refine (View.read_writes_cons_unit_of_mem _ _ _ _ _ _ (ix2 r x) rfl (by intro b; fin_cases b <;> simp [ix2] <;> omega)).trans ?_
  pointwise []

end Cert.AssembleIdeal.Hand

end
-- ==== Proof.Assemble.Kernel.lean ====
/- The three arrays the assembling kernel leaves, over the whole arrays its windows cover. -/
module

public import proofs.«01_k».proof.Proof.Assemble.Block

@[expose] public section

set_option maxRecDepth 16384

noncomputable section

namespace Cert.AssembleIdeal.Hand

open Cert.AssembleIdeal Cert.AssembleIdeal.Gen Idealize.ShloMosaic Idealize.ShloMosaic.TcCoe Idealize.SL.Sem
open Idealize.ShloMosaic.Pipeline (Dat)

variable (m : (ℓ : Loc nD τ sig) → Buf (Elt Ideal) ℓ)

abbrev win0 (c : Dev nD) (s : Fin 4096) (l : Fin 768) : EReal := V m c main_v17 (ix2 s l)
abbrev win1 (c : Dev nD) (s : Fin 4096) (l : Fin 128) : EReal := V m c main_v6 (ix2 s l)
abbrev win2 (c : Dev nD) (s : Fin 4096) (l : Fin 128) : EReal := V m c main_v9 (ix2 s l)
abbrev win3 (c : Dev nD) (l : Fin 128) : EReal := V m c main_v12 (ix2 0 l)
abbrev win4 (c : Dev nD) (l : Fin 128) : EReal := V m c main_v15 (ix2 0 l)
abbrev win5 (c : Dev nD) (s : Fin 4096) (l : Fin 512) : EReal := V m c main_v18 (ix2 s l)
abbrev win6 (c : Dev nD) (j : Fin 2) (s : Fin 4096) (l : Fin 128) : EReal := V m c main_arg8 (ix3 j s l)
abbrev win7 (c : Dev nD) (j : Fin 2) (s : Fin 4096) (l : Fin 128) : EReal := V m c main_arg9 (ix3 j s l)
abbrev win8 (c : Dev nD) (s : Fin 4096) (l : Fin 512) : EReal := V m c main_v20 (ix2 s l)
abbrev win9 (c : Dev nD) (s : Fin 4096) (l : Fin 256) : EReal := V m c main_v21 (ix2 s l)
abbrev win10 (c : Dev nD) (s : Fin 4096) (l : Fin 256) : EReal := V m c main_v22 (ix2 s l)
abbrev win11 (c : Dev nD) (s : Fin 4096) (l : Fin 512) : EReal := V m c main_v24 (ix2 s l)
abbrev win12 (c : Dev nD) (s : Fin 4096) (l : Fin 512) : EReal := V m c main_v26 (ix2 s l)
abbrev win13 (c : Dev nD) (s : Fin 4096) (l : Fin 2048) : EReal := V m c main_v28 (ix2 s l)

/-- Grid point `t` covers the rows `512 t … 512 t + 511`. -/
def row (t : Fin cfg0.N) (r : Fin 512) : Fin 4096 := ⟨t.val * 512 + r.val, by have := t.isLt; have h : cfg0.N = 8 := N_0; omega⟩

theorem idx : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, t.val, 0] ∧ win0_7.index t = ![0, t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![0, 0]
    ∧ win0_16.index t = ![0, 0] := by decide +kernel

theorem blk0 (c : Dev nD) (t : Fin cfg0.N) (r : Fin 512) (l : Fin 768) : iblk m c 0 t (ix2 r l) = win0 m c (row t r) l := by
  have h := idx t
  have e : ∀ B : Buf (Elt Ideal) ((c : Thread nD τ).loc main_v17), ((cfg0.win 0).blk t).view.read (Elt Ideal) B (ix2 r l) = B (ix2 (row t r) l) := by
    intro B
    unfold row
    blk_ext! [h.1]
  exact e _
theorem blk1 (c : Dev nD) (t : Fin cfg0.N) (r : Fin 512) (l : Fin 128) : iblk m c 1 t (ix2 r l) = win1 m c (row t r) l := by
  have h := idx t
  have e : ∀ B : Buf (Elt Ideal) ((c : Thread nD τ).loc main_v6), ((cfg0.win 1).blk t).view.read (Elt Ideal) B (ix2 r l) = B (ix2 (row t r) l) := by
    intro B
    unfold row
    blk_ext! [h.2.1]
  exact e _
theorem blk2 (c : Dev nD) (t : Fin cfg0.N) (r : Fin 512) (l : Fin 128) : iblk m c 2 t (ix2 r l) = win2 m c (row t r) l := by
  have h := idx t
  have e : ∀ B : Buf (Elt Ideal) ((c : Thread nD τ).loc main_v9), ((cfg0.win 2).blk t).view.read (Elt Ideal) B (ix2 r l) = B (ix2 (row t r) l) := by
    intro B
    unfold row
    blk_ext! [h.2.2.1]
  exact e _
theorem blk3 (c : Dev nD) (t : Fin cfg0.N) (l : Fin 128) : iblk m c 3 t (ix2 0 l) = win3 m c l := by
  have h := idx t
  have e : ∀ B : Buf (Elt Ideal) ((c : Thread nD τ).loc main_v12), ((cfg0.win 3).blk t).view.read (Elt Ideal) B (ix2 0 l) = B (ix2 0 l) := by
    intro B
    blk_ext! [h.2.2.2.1]
  exact e _
theorem blk4 (c : Dev nD) (t : Fin cfg0.N) (l : Fin 128) : iblk m c 4 t (ix2 0 l) = win4 m c l := by
  have h := idx t
  have e : ∀ B : Buf (Elt Ideal) ((c : Thread nD τ).loc main_v15), ((cfg0.win 4).blk t).view.read (Elt Ideal) B (ix2 0 l) = B (ix2 0 l) := by
    intro B
    blk_ext! [h.2.2.2.2.1]
  exact e _
theorem blk5 (c : Dev nD) (t : Fin cfg0.N) (r : Fin 512) (l : Fin 512) : iblk m c 5 t (ix2 r l) = win5 m c (row t r) l := by
  have h := idx t
  have e : ∀ B : Buf (Elt Ideal) ((c : Thread nD τ).loc main_v18), ((cfg0.win 5).blk t).view.read (Elt Ideal) B (ix2 r l) = B (ix2 (row t r) l) := by
    intro B
    unfold row
    blk_ext! [h.2.2.2.2.2.1]
  exact e _
theorem blk6 (c : Dev nD) (t : Fin cfg0.N) (j : Fin 2) (r : Fin 512) (l : Fin 128) : iblk m c 6 t (ix3 j r l) = win6 m c j (row t r) l := by
  have h := idx t
  have e : ∀ B : Buf (Elt Ideal) ((c : Thread nD τ).loc main_arg8), ((cfg0.win 6).blk t).view.read (Elt Ideal) B (ix3 j r l) = B (ix3 j (row t r) l) := by
    intro B
    unfold row
    blk_ext! [h.2.2.2.2.2.2.1]
  exact e _
theorem blk7 (c : Dev nD) (t : Fin cfg0.N) (j : Fin 2) (r : Fin 512) (l : Fin 128) : iblk m c 7 t (ix3 j r l) = win7 m c j (row t r) l := by
  have h := idx t
  have e : ∀ B : Buf (Elt Ideal) ((c : Thread nD τ).loc main_arg9), ((cfg0.win 7).blk t).view.read (Elt Ideal) B (ix3 j r l) = B (ix3 j (row t r) l) := by
    intro B
    unfold row
    blk_ext! [h.2.2.2.2.2.2.2.1]
  exact e _
theorem blk8 (c : Dev nD) (t : Fin cfg0.N) (r : Fin 512) (l : Fin 512) : iblk m c 8 t (ix2 r l) = win8 m c (row t r) l := by
  have h := idx t
  have e : ∀ B : Buf (Elt Ideal) ((c : Thread nD τ).loc main_v20), ((cfg0.win 8).blk t).view.read (Elt Ideal) B (ix2 r l) = B (ix2 (row t r) l) := by
    intro B
    unfold row
    blk_ext! [h.2.2.2.2.2.2.2.2.1]
  exact e _
theorem blk9 (c : Dev nD) (t : Fin cfg0.N) (r : Fin 512) (l : Fin 256) : iblk m c 9 t (ix2 r l) = win9 m c (row t r) l := by
  have h := idx t
  have e : ∀ B : Buf (Elt Ideal) ((c : Thread nD τ).loc main_v21), ((cfg0.win 9).blk t).view.read (Elt Ideal) B (ix2 r l) = B (ix2 (row t r) l) := by
    intro B
    unfold row
    blk_ext! [h.2.2.2.2.2.2.2.2.2.1]
  exact e _
theorem blk10 (c : Dev nD) (t : Fin cfg0.N) (r : Fin 512) (l : Fin 256) : iblk m c 10 t (ix2 r l) = win10 m c (row t r) l := by
  have h := idx t
  have e : ∀ B : Buf (Elt Ideal) ((c : Thread nD τ).loc main_v22), ((cfg0.win 10).blk t).view.read (Elt Ideal) B (ix2 r l) = B (ix2 (row t r) l) := by
    intro B
    unfold row
    blk_ext! [h.2.2.2.2.2.2.2.2.2.2.1]
  exact e _
theorem blk11 (c : Dev nD) (t : Fin cfg0.N) (r : Fin 512) (l : Fin 512) : iblk m c 11 t (ix2 r l) = win11 m c (row t r) l := by
  have h := idx t
  have e : ∀ B : Buf (Elt Ideal) ((c : Thread nD τ).loc main_v24), ((cfg0.win 11).blk t).view.read (Elt Ideal) B (ix2 r l) = B (ix2 (row t r) l) := by
    intro B
    unfold row
    blk_ext! [h.2.2.2.2.2.2.2.2.2.2.2.1]
  exact e _
theorem blk12 (c : Dev nD) (t : Fin cfg0.N) (r : Fin 512) (l : Fin 512) : iblk m c 12 t (ix2 r l) = win12 m c (row t r) l := by
  have h := idx t
  have e : ∀ B : Buf (Elt Ideal) ((c : Thread nD τ).loc main_v26), ((cfg0.win 12).blk t).view.read (Elt Ideal) B (ix2 r l) = B (ix2 (row t r) l) := by
    intro B
    unfold row
    blk_ext! [h.2.2.2.2.2.2.2.2.2.2.2.2.1]
  exact e _
theorem blk13 (c : Dev nD) (t : Fin cfg0.N) (r : Fin 512) (l : Fin 2048) : iblk m c 13 t (ix2 r l) = win13 m c (row t r) l := by
  have h := idx t
  have e : ∀ B : Buf (Elt Ideal) ((c : Thread nD τ).loc main_v28), ((cfg0.win 13).blk t).view.read (Elt Ideal) B (ix2 r l) = B (ix2 (row t r) l) := by
    intro B
    unfold row
    blk_ext! [h.2.2.2.2.2.2.2.2.2.2.2.2.2.1]
  exact e _

/-- The gradient of row `s` of the queries of pair `p` before the rotation, and the projected values there. -/
def dqRow (c : Dev nD) (s : Fin 4096) (p : Fin 4) : Fin 128 → EReal :=
  unrope (fun x => win5 m c s (qlane p x) * Ideal.ofBits .f32 0x3E000000#32) (win1 m c s) (win2 m c s)
def pqRow (c : Dev nD) (s : Fin 4096) (p : Fin 4) (x : Fin 128) : EReal := win0 m c s (plane p x)

/-- A key's two packed partial gradients, folded, and row `s` of the keys' gradient and projected values. -/
def foldRow (f : Fin 2 → Fin 128 → EReal) (x : Fin 128) : EReal :=
  if x.val < 64 then f 0 x + f 0 (across x) else f 1 x + f 1 (across x)
def dkRow (c : Dev nD) (s : Fin 4096) : Fin 128 → EReal := unrope (foldRow fun j x => win6 m c j s x) (win1 m c s) (win2 m c s)
def pkRow (c : Dev nD) (s : Fin 4096) (x : Fin 128) : EReal := win0 m c s ⟨512 + x.val, by omega⟩

theorem qp_blk (c : Dev nD) (t : Fin cfg0.N) (r : Fin 512) (p : Fin 4) : qp (iblk m c 0 t) r p = pqRow m c (row t r) p := by
  funext x
  exact blk0 m c t r _
theorem qd_blk (c : Dev nD) (t : Fin cfg0.N) (r : Fin 512) (p : Fin 4) :
    qd (iblk m c 1 t) (iblk m c 2 t) (iblk m c 5 t) r p = dqRow m c (row t r) p := by
  unfold qd dqRow
  simp only [blk1, blk2, blk5]
theorem fold6_blk (c : Dev nD) (t : Fin cfg0.N) (r : Fin 512) : fold (iblk m c 6 t) r = foldRow fun j x => win6 m c j (row t r) x := by
  funext x
  unfold fold foldRow
  simp only [blk6]
theorem fold7_blk (c : Dev nD) (t : Fin cfg0.N) (r : Fin 512) : fold (iblk m c 7 t) r = foldRow fun j x => win7 m c j (row t r) x := by
  funext x
  unfold fold foldRow
  simp only [blk7]
theorem kp_blk (c : Dev nD) (t : Fin cfg0.N) (r : Fin 512) : kp (iblk m c 0 t) r = pkRow m c (row t r) := by
  funext x
  exact blk0 m c t r _
theorem kd_blk (c : Dev nD) (t : Fin cfg0.N) (r : Fin 512) :
    kd (iblk m c 1 t) (iblk m c 2 t) (iblk m c 6 t) r = dkRow m c (row t r) := by
  unfold kd dkRow
  simp only [blk1, blk2, fold6_blk]

/-- The first grid point, whose body also clears the two sums. -/
def first : Fin cfg0.N := ⟨0, by decide⟩

theorem dp_at (c : Dev nD) (t : Fin cfg0.N) : (outsAt0 m c t.val t.isLt).1
      = out0_A_14 (F := Ideal) c (grid0.coords first) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 first).mpr rfl) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  by_cases h0 : t.val % 8 = 0
  · rw [outsAt0_A m c t h0]
    dsimp only
    exact dp_A (i' := grid0.coords first) (hc' := (hcond0_0 first).mpr rfl) ..
  · rw [outsAt0_B m c t h0]
    dsimp only
    exact dp_B (i' := grid0.coords first) (hc' := (hcond0_0 first).mpr rfl) ..

/-- The assembled array, read in the block of its row. -/
def dpAll (c : Dev nD) (s : Fin 4096) (l : Fin 4864) : EReal :=
  (outsAt0 m c (s.val / 512) (by have h : cfg0.N = 8 := N_0; omega)).1 (ix2 ⟨s.val % 512, by omega⟩ l)

theorem dpAll_row (c : Dev nD) (t : Fin cfg0.N) (r : Fin 512) (l : Fin 4864) : dpAll m c (row t r) l = (outsAt0 m c t.val t.isLt).1 (ix2 r l) := by
  have e (n : ℕ) (hn : n < cfg0.N) (h : n = t.val) : (outsAt0 m c n hn).1 = (outsAt0 m c t.val t.isLt).1 := by subst h; rfl
  have q : (row t r).val = t.val * 512 + r.val := rfl
  unfold dpAll
  rw [e _ _ (show (row t r).val / 512 = t.val by omega)]
  exact congrArg _ (congrArg (fun a => ix2 a l) (Fin.ext (show (row t r).val % 512 = r.val by omega)))

theorem row_surj (s : Fin 4096) : ∃ t r, s = row t r :=
  ⟨⟨s.val / 512, by have h : cfg0.N = 8 := N_0; omega⟩, ⟨s.val % 512, by omega⟩, Fin.ext (show s.val = s.val / 512 * 512 + s.val % 512 by omega)⟩

theorem all_q (c : Dev nD) (s : Fin 4096) (p : Fin 4) (x : Fin 128) : dpAll m c s ⟨128 * p.val + x.val, by omega⟩ = unnorm (pqRow m c s p) (dqRow m c s p) (win3 m c) x := by
  obtain ⟨t, r, rfl⟩ := row_surj s
  rw [dpAll_row, dp_at]
  refine (dp_q (p := p) (x := x) ..).trans ?_
  simp only [qp_blk, qd_blk, blk3]
theorem all_k (c : Dev nD) (s : Fin 4096) (x : Fin 128) : dpAll m c s ⟨512 + x.val, by omega⟩ = unnorm (pkRow m c s) (dkRow m c s) (win4 m c) x := by
  obtain ⟨t, r, rfl⟩ := row_surj s
  rw [dpAll_row, dp_at]
  refine (dp_k (x := x) ..).trans ?_
  simp only [kp_blk, kd_blk, blk4]
theorem all_v (c : Dev nD) (s : Fin 4096) (x : Fin 128) : dpAll m c s ⟨640 + x.val, by omega⟩ = foldRow (fun j x => win7 m c j s x) x := by
  obtain ⟨t, r, rfl⟩ := row_surj s
  rw [dpAll_row, dp_at]
  refine (dp_v (x := x) ..).trans ?_
  simp only [fold7_blk]
theorem all_za (c : Dev nD) (s : Fin 4096) (x : Fin 512) : dpAll m c s ⟨768 + x.val, by omega⟩ = win8 m c s x := by
  obtain ⟨t, r, rfl⟩ := row_surj s
  rw [dpAll_row, dp_at]
  refine (dp_za (x := x) ..).trans ?_
  simp only [blk8]
theorem all_rq (c : Dev nD) (s : Fin 4096) (p : Fin 2) (x : Fin 128) : dpAll m c s ⟨1280 + (128 * p.val + x.val), by omega⟩ = unrope (fun x => win9 m c s ⟨128 * p.val + x.val, by omega⟩) (win1 m c s) (win2 m c s) x := by
  obtain ⟨t, r, rfl⟩ := row_surj s
  rw [dpAll_row, dp_at]
  refine (dp_rq (p := p) (x := x) ..).trans ?_
  simp only [blk1, blk2, blk9]
theorem all_rk (c : Dev nD) (s : Fin 4096) (p : Fin 2) (x : Fin 128) : dpAll m c s ⟨1536 + (128 * p.val + x.val), by omega⟩ = unrope (fun x => win10 m c s ⟨128 * p.val + x.val, by omega⟩ * Ideal.ofBits .f32 0x3E000000#32) (win1 m c s) (win2 m c s) x := by
  obtain ⟨t, r, rfl⟩ := row_surj s
  rw [dpAll_row, dp_at]
  refine (dp_rk (p := p) (x := x) ..).trans ?_
  simp only [blk1, blk2, blk10]
theorem all_rv (c : Dev nD) (s : Fin 4096) (x : Fin 512) : dpAll m c s ⟨1792 + x.val, by omega⟩ = win11 m c s x := by
  obtain ⟨t, r, rfl⟩ := row_surj s
  rw [dpAll_row, dp_at]
  refine (dp_rv (x := x) ..).trans ?_
  simp only [blk11]
theorem all_zr (c : Dev nD) (s : Fin 4096) (x : Fin 512) : dpAll m c s ⟨2304 + x.val, by omega⟩ = win12 m c s x := by
  obtain ⟨t, r, rfl⟩ := row_surj s
  rw [dpAll_row, dp_at]
  refine (dp_zr (x := x) ..).trans ?_
  simp only [blk12]
theorem all_gl (c : Dev nD) (s : Fin 4096) (x : Fin 2048) : dpAll m c s ⟨2816 + x.val, by omega⟩ = win13 m c s x := by
  obtain ⟨t, r, rfl⟩ := row_surj s
  rw [dpAll_row, dp_at]
  refine (dp_gl (x := x) ..).trans ?_
  simp only [blk13]

/-- The grid points' rows are all the rows. -/
theorem sum_rows (f : Fin 4096 → EReal) : ∑ t : Fin cfg0.N, ∑ r, f (row t r) = ∑ s, f s :=
  Fin.sum_mul_add_fin (S := cfg0.N) (n := 512) f (by decide +kernel)

/-- A block cleared at the first grid point, to which every point adds its term, ends as the sum of the terms. -/
theorem total (f : (n : Nat) → n < cfg0.N → Fin 128 → EReal) (term : Fin cfg0.N → Fin 128 → EReal)
    (h0 : ∀ t : Fin cfg0.N, t.val % 8 = 0 → ∀ x, f t.val t.isLt x = 0 + term t x)
    (hs : ∀ t : Fin cfg0.N, ¬t.val % 8 = 0 → ∀ x, f t.val t.isLt x = f (t.val - 1) (Nat.lt_of_le_of_lt (Nat.sub_le _ _) t.isLt) x + term t x)
    (x : Fin 128) : f t0_7.val t0_7.isLt x = ∑ t, term t x := by
  rw [Pipeline.eq_sum_fin_of_reset_step_apply_last f 8 (fun _ => 0) term h0 hs (le_of_eq N_0) t0_7 rfl x, zero_add]

/-- What row `s` adds to the gradient of the queries' gain at lane `x` of a pair, and to that of the keys' gain. -/
def gqRow (c : Dev nD) (p : Fin 4) (x : Fin 128) (s : Fin 4096) : EReal := dqRow m c s p x * nx (pqRow m c s p) x
def gkRow (c : Dev nD) (x : Fin 128) (s : Fin 4096) : EReal := dkRow m c s x * nx (pkRow m c s) x

theorem out15 (c : Dev nD) (x : Fin 128) : (outsAt0 m c t0_7.val t0_7.isLt).2.1 (ix2 0 x)
      = (∑ s, gqRow m c 0 x s) + (∑ s, gqRow m c 1 x s) + (∑ s, gqRow m c 2 x s) + ∑ s, gqRow m c 3 x s := by
  refine (total (fun n h x => (outsAt0 m c n h).2.1 (ix2 0 x)) (fun t x => (∑ r, gqRow m c 0 x (row t r)) + (∑ r, gqRow m c 1 x (row t r))
    + (∑ r, gqRow m c 2 x (row t r)) + ∑ r, gqRow m c 3 x (row t r)) (fun t h x => ?_) (fun t h x => ?_) x).trans ?_
  · beta_reduce
    rw [outsAt0_A m c t h]
    dsimp only
    refine (gq_A (x := x) ..).trans ?_
    simp only [qp_blk, qd_blk, gqRow, add_assoc]
  · beta_reduce
    rw [outsAt0_B m c t h]
    dsimp only
    refine (gq_B (x := x) ..).trans ?_
    simp only [qp_blk, qd_blk, gqRow, add_assoc]
  · rw [Finset.sum_add_distrib, Finset.sum_add_distrib, Finset.sum_add_distrib]
    simp only [sum_rows]
theorem out16 (c : Dev nD) (x : Fin 128) : (outsAt0 m c t0_7.val t0_7.isLt).2.2 (ix2 0 x) = ∑ s, gkRow m c x s := by
  refine (total (fun n h x => (outsAt0 m c n h).2.2 (ix2 0 x)) (fun t x => ∑ r, gkRow m c x (row t r)) (fun t h x => ?_) (fun t h x => ?_) x).trans
    (sum_rows _)
  · beta_reduce
    rw [outsAt0_A m c t h]
    dsimp only
    refine (gk_A (x := x) ..).trans ?_
    simp only [kp_blk, kd_blk, gkRow]
  · beta_reduce
    rw [outsAt0_B m c t h]
    dsimp only
    refine (gk_B (x := x) ..).trans ?_
    simp only [kp_blk, kd_blk, gkRow]

theorem final14 (c : Dev nD) : (dats m 0 c).arrAt 14 cfg0.N = fun i => dpAll m c (i 0) (i 1) := by
  refine (dats m 0 c).arrAt_eq_of_covers 14 _ (by decide +kernel) fun t hf y => ?_
  have h := idx t
  blk_simp
  rw [after0_14]
  idx_vars y
  refine (dpAll_row m c t y0 y1).symm.trans (congrArg₂ (dpAll m c) ?_ ?_)
  · exact Fin.ext (by blk_simp [h.2.2.2.2.2.2.2.2.2.2.2.2.2.2.1, row])
  · exact Fin.ext (by blk_simp [h.2.2.2.2.2.2.2.2.2.2.2.2.2.2.1])
theorem final15 (c : Dev nD) : (dats m 0 c).arrAt 15 cfg0.N = fun i =>
    (∑ s, gqRow m c 0 (i 1) s) + (∑ s, gqRow m c 1 (i 1) s) + (∑ s, gqRow m c 2 (i 1) s) + ∑ s, gqRow m c 3 (i 1) s := by
  refine (dats m 0 c).arrAt_eq_of_after_last 15 t0_7 (by decide +kernel) _ fun j => ?_
  blk_simp
  rw [after0_15]
  idx_vars j
  obtain rfl := Subsingleton.elim j0 0
  exact out15 m c j1
theorem final16 (c : Dev nD) : (dats m 0 c).arrAt 16 cfg0.N = fun i => ∑ s, gkRow m c (i 1) s := by
  refine (dats m 0 c).arrAt_eq_of_after_last 16 t0_7 (by decide +kernel) _ fun j => ?_
  blk_simp
  rw [after0_16]
  idx_vars j
  obtain rfl := Subsingleton.elim j0 0
  exact out16 m c j1

end Cert.AssembleIdeal.Hand

end
-- ==== Proof.Assemble.Rope.lean ====
/- A head of 64 lanes: the transposed rotation by the two tables of angles, and the packed pair of heads the kernel works on. -/
module

public import proofs.«01_k».proof.Proof.Assemble.Block

@[expose] public section

noncomputable section

namespace Cert.AssembleIdeal.Hand

open Idealize.ShloMosaic

/-- Lane `d` of head `e` of a pair. -/
def lane2 (e : Fin 2) (d : Fin 64) : Fin 128 := ⟨64 * e.val + d.val, by omega⟩

/-- The lane `d` is rotated with. -/
def other (d : Fin 64) : Fin 64 := if d.val / 16 % 2 = 0 then ⟨(d.val + 16) % 64, Nat.mod_lt _ (by decide)⟩ else ⟨d.val - 16, by omega⟩

/-- The table entry of lane `d`: of the row's angles on the first half of the head, of the column's on the second. -/
def tab (a b : Fin 16 → EReal) (d : Fin 64) : EReal :=
  if d.val < 32 then a ⟨d.val % 16, Nat.mod_lt _ (by decide)⟩ else b ⟨d.val % 16, Nat.mod_lt _ (by decide)⟩

/-- The transposed rotation of a head. -/
def turned (f c s : Fin 64 → EReal) (d : Fin 64) : EReal :=
  if d.val / 16 % 2 = 0 then f (other d) * s d + f d * c d else f d * c d + -f (other d) * s d

theorem tab_other (a b : Fin 16 → EReal) (d : Fin 64) : tab a b (other d) = tab a b d := by
  unfold tab other
  have h := d.isLt
  split <;> rename_i hd
  · simp only [show ((d.val + 16) % 64 < 32) ↔ d.val < 32 by omega, show (d.val + 16) % 64 % 16 = d.val % 16 by omega]
  · simp only [show (d.val - 16 < 32) ↔ d.val < 32 by omega, show (d.val - 16) % 16 = d.val % 16 by omega]

/-- The lane 16 to the right, or to the left, of a lane of a pair, as a lane of the same head. -/
theorem right_lane2 (e : Fin 2) (d : Fin 64) (h : d.val / 16 % 2 = 0) : right (lane2 e d) = lane2 e (other d) := by
  refine Fin.ext ?_
  unfold other
  rw [if_pos h]
  show (64 * e.val + d.val + 128 - 112) % 128 = 64 * e.val + (d.val + 16) % 64
  omega
theorem left_lane2 (e : Fin 2) (d : Fin 64) (h : ¬d.val / 16 % 2 = 0) : left (lane2 e d) = lane2 e (other d) := by
  refine Fin.ext ?_
  unfold other
  rw [if_neg h]
  show (64 * e.val + d.val + 128 - 16) % 128 = 64 * e.val + (d.val - 16)
  omega

/-- On each head of a pair the kernel's rotation is the head's, its table of sines carrying the sign. -/
theorem unrope_lane2 (f cs sn : Fin 128 → EReal) (a b s t : Fin 16 → EReal) (e : Fin 2) (d : Fin 64) (F : Fin 64 → EReal)
    (hf : ∀ k, f (lane2 e k) = F k) (hc : ∀ k, cs (lane2 e k) = tab a b k)
    (hs : ∀ k, sn (lane2 e k) = if k.val / 16 % 2 = 0 then -tab s t k else tab s t k) :
    unrope f cs sn (lane2 e d) = turned F (tab a b) (tab s t) d := by
  have hl : (lane2 e d).val / 16 % 2 = d.val / 16 % 2 := by show (64 * e.val + d.val) / 16 % 2 = _; omega
  unfold unrope turned
  rw [hl]
  by_cases h : d.val / 16 % 2 = 0
  · have ho : ¬(other d).val / 16 % 2 = 0 := by unfold other; rw [if_pos h]; show ¬(d.val + 16) % 64 / 16 % 2 = 0; omega
    rw [if_pos h, if_pos h, right_lane2 e d h, hf, hf, hc, hs, if_neg ho, tab_other, add_comm]
  · have ho : (other d).val / 16 % 2 = 0 := by unfold other; rw [if_neg h]; show (d.val - 16) / 16 % 2 = 0; omega
    rw [if_neg h, if_neg h, left_lane2 e d h, hf, hf, hc, hs, if_pos ho, tab_other, mul_neg, neg_mul]

/-- The transposed rotation, as its four quarters are put side by side. -/
theorem turned_quarters (f : Fin 64 → EReal) (a b s t : Fin 16 → EReal) (d : Fin 64) :
    (if h : d.val < 32 then
      if h' : d.val < 16 then f ⟨16 + d.val, by omega⟩ * s ⟨d.val, h'⟩ + f d * a ⟨d.val, h'⟩
      else f ⟨16 + (d.val - 16), by omega⟩ * a ⟨d.val - 16, by omega⟩ + -f ⟨d.val - 16, by omega⟩ * s ⟨d.val - 16, by omega⟩
    else
      if h' : d.val - 32 < 16 then
        f ⟨32 + (16 + (d.val - 32)), by omega⟩ * t ⟨d.val - 32, h'⟩ + f ⟨32 + (d.val - 32), by omega⟩ * b ⟨d.val - 32, h'⟩
      else f ⟨32 + (16 + (d.val - 32 - 16)), by omega⟩ * b ⟨d.val - 32 - 16, by omega⟩
        + -f ⟨32 + (d.val - 32 - 16), by omega⟩ * t ⟨d.val - 32 - 16, by omega⟩) = turned f (tab a b) (tab s t) d := by
  have e (n : ℕ) (hn : n < 64) (k : Fin 64) (h : n = k.val) : f ⟨n, hn⟩ = f k := congrArg f (Fin.ext h)
  have e' (u : Fin 16 → EReal) (n k : ℕ) (hn : n < 16) (hk : k < 16) (h : n = k) : u ⟨n, hn⟩ = u ⟨k, hk⟩ := congrArg u (Fin.ext h)
  have o : (other d).val = if d.val / 16 % 2 = 0 then (d.val + 16) % 64 else d.val - 16 := by unfold other; split <;> rfl
  unfold turned tab
  split_ifs at o ⊢ <;> first
    | (exfalso; omega)
    | exact congrArg₂ (fun x y : EReal => x + y) (congrArg₂ (fun x y : EReal => x * y) (e _ _ _ (by omega)) (e' _ _ _ _ _ (by omega)))
        (congrArg₂ (fun x y : EReal => x * y) (e _ _ _ (by omega)) (e' _ _ _ _ _ (by omega)))
    | exact congrArg₂ (fun x y : EReal => x + y) (congrArg₂ (fun x y : EReal => x * y) (e _ _ _ (by omega)) (e' _ _ _ _ _ (by omega)))
        (congrArg₂ (fun x y : EReal => -x * y) (e _ _ _ (by omega)) (e' _ _ _ _ _ (by omega)))

/-- A pair's lanes are its two heads' lanes. -/
theorem sum_lane2 (f : Fin 128 → EReal) : ∑ k, f k = (∑ d, f (lane2 0 d)) + ∑ d, f (lane2 1 d) := by
  have h : ∑ e : Fin 2, ∑ d : Fin 64, f (lane2 e d) = ∑ k, f k :=
    (Finset.sum_congr rfl fun e _ => Finset.sum_congr rfl fun d _ => congrArg f (Fin.ext (by show 64 * e.val + d.val = e.val * 64 + d.val; omega))).trans
      (Fin.sum_mul_add_fin (S := 2) (n := 64) f (by decide))
  rw [← h, Fin.sum_univ_two]

theorem same_lane2 (e e' : Fin 2) (d d' : Fin 64) : same (lane2 e' d') (lane2 e d) = if e' = e then 1 else 0 := by
  have h : ((lane2 e' d').val / 64 = (lane2 e d).val / 64) ↔ e' = e := by
    show ((64 * e'.val + d'.val) / 64 = (64 * e.val + d.val) / 64) ↔ _
    rw [Fin.ext_iff]
    omega
  rw [same_eq]
  exact if_congr h rfl rfl

/-- Against the block-diagonal matrix only the head's own lanes count. -/
theorem sum_same (f : Fin 128 → EReal) (e : Fin 2) (d : Fin 64) : ∑ k, f k * same k (lane2 e d) = ∑ k, f (lane2 e k) := by
  rw [sum_lane2 fun k => f k * same k (lane2 e d)]
  simp only [same_lane2]
  match e with
  | 0 => simp
  | 1 => simp

/-- The remainder of a real is zero, so the kernel's sum over a head is the head's sum. -/
theorem seg_lane2 (f : Fin 128 → EReal) (hf : ∀ k, ∃ r : ℝ, f k = r) (e : Fin 2) (d : Fin 64) : seg f (lane2 e d) = ∑ k, f (lane2 e k) := by
  have h k : f k - f k = 0 := by
    obtain ⟨r, hr⟩ := hf k
    rw [hr, ← EReal.coe_sub, sub_self]
    rfl
  unfold seg
  simp only [h, zero_mul, Finset.sum_const_zero, add_zero]
  exact sum_same f e d

end Cert.AssembleIdeal.Hand

end
-- ==== Proof.Assemble.Host.lean ====
/- The arrays the host hands the assembling kernel, and what it makes of the kernel's two sums. -/
module

public import proofs.«01_k».proof.Proof.Assemble.Kernel
public import proofs.«01_k».proof.Proof.Assemble.Rope

@[expose] public section

set_option maxRecDepth 16384

noncomputable section

namespace Cert.AssembleIdeal.Hand

open Cert.AssembleIdeal Cert.AssembleIdeal.Gen Idealize.ShloMosaic Idealize.ShloMosaic.TcCoe Idealize.SL.Sem
open Idealize.ShloMosaic.Pipeline (Dat)

variable (m : (ℓ : Loc nD τ sig) → Buf (Elt Ideal) ℓ)

abbrev argP (c : Dev nD) (s : Fin 4096) (l : Fin 4864) : EReal := m ((c : Thread nD τ).loc main_arg0) (ix3 0 s l)
abbrev argCr (c : Dev nD) (s : Fin 4096) (l : Fin 16) : EReal := m ((c : Thread nD τ).loc main_arg1) (ix2 s l)
abbrev argSr (c : Dev nD) (s : Fin 4096) (l : Fin 16) : EReal := m ((c : Thread nD τ).loc main_arg2) (ix2 s l)
abbrev argCc (c : Dev nD) (s : Fin 4096) (l : Fin 16) : EReal := m ((c : Thread nD τ).loc main_arg3) (ix2 s l)
abbrev argSc (c : Dev nD) (s : Fin 4096) (l : Fin 16) : EReal := m ((c : Thread nD τ).loc main_arg4) (ix2 s l)
abbrev argQn (c : Dev nD) (d : Fin 64) : EReal := m ((c : Thread nD τ).loc main_arg5) (ix2 0 d)
abbrev argKn (c : Dev nD) (d : Fin 64) : EReal := m ((c : Thread nD τ).loc main_arg6) (ix2 0 d)
abbrev argDq (c : Dev nD) (s : Fin 4096) (g : Fin 8) (d : Fin 64) : EReal := m ((c : Thread nD τ).loc main_arg7) (ix4 0 s g d)
abbrev argDk (c : Dev nD) (j : Fin 2) (s : Fin 4096) (l : Fin 128) : EReal := m ((c : Thread nD τ).loc main_arg8) (ix3 j s l)
abbrev argDv (c : Dev nD) (j : Fin 2) (s : Fin 4096) (l : Fin 128) : EReal := m ((c : Thread nD τ).loc main_arg9) (ix3 j s l)
abbrev argZa (c : Dev nD) (s : Fin 4096) (l : Fin 512) : EReal := m ((c : Thread nD τ).loc main_arg10) (ix3 0 s l)
abbrev argRq (c : Dev nD) (s : Fin 4096) (g : Fin 4) (d : Fin 64) : EReal := m ((c : Thread nD τ).loc main_arg11) (ix4 0 s g d)
abbrev argRk (c : Dev nD) (s : Fin 4096) (g : Fin 4) (d : Fin 64) : EReal := m ((c : Thread nD τ).loc main_arg12) (ix4 0 s g d)
abbrev argRv (c : Dev nD) (s : Fin 4096) (g : Fin 4) (x : Fin 128) : EReal := m ((c : Thread nD τ).loc main_arg13) (ix4 0 s g x)
abbrev argZr (c : Dev nD) (s : Fin 4096) (l : Fin 512) : EReal := m ((c : Thread nD τ).loc main_arg14) (ix3 0 s l)
abbrev argGl (c : Dev nD) (s : Fin 4096) (l : Fin 2048) : EReal := m ((c : Thread nD τ).loc main_arg15) (ix3 0 s l)

/-- Query head `e` of pair `p`. -/
def pairHead (p : Fin 4) (e : Fin 2) : Fin 8 := ⟨2 * p.val + e.val, by omega⟩
def pairHead4 (p : Fin 2) (e : Fin 2) : Fin 4 := ⟨2 * p.val + e.val, by omega⟩

theorem win0_eq (c : Dev nD) (s : Fin 4096) (l : Fin 768) : win0 m c s l = argP m c s ⟨l.val, by omega⟩ := by
  show (StableHlo.after (hostOps0 (F := Ideal)) (fun b => m (c, b)) (Proc.devRef .tc main_v17) (ix2 s l) : EReal) = _
  unfold hostOps0
  after_results
  pointwise
theorem win5_eq (c : Dev nD) (s : Fin 4096) (p : Fin 4) (e : Fin 2) (d : Fin 64) : win5 m c s (qlane p (lane2 e d)) = argDq m c s (pairHead p e) d := by
  show (StableHlo.after (hostOps0 (F := Ideal)) (fun b => m (c, b)) (Proc.devRef .tc main_v18) (ix2 s (qlane p (lane2 e d))) : EReal) = _
  unfold hostOps0
  after_results
  pointwise
  refine congrArg _ (congrArg₂ (ix4 0 s) (Fin.ext ?_) (Fin.ext ?_))
  · show (128 * p.val + (64 * e.val + d.val)) / 64 = 2 * p.val + e.val
    omega
  · show (128 * p.val + (64 * e.val + d.val)) % 64 = d.val
    omega
theorem win9_eq (c : Dev nD) (s : Fin 4096) (p : Fin 2) (e : Fin 2) (d : Fin 64) :
    win9 m c s ⟨128 * p.val + (lane2 e d).val, by omega⟩ = argRq m c s (pairHead4 p e) d := by
  show (StableHlo.after (hostOps0 (F := Ideal)) (fun b => m (c, b)) (Proc.devRef .tc main_v21) (ix2 s ⟨128 * p.val + (lane2 e d).val, by omega⟩) : EReal) = _
  unfold hostOps0
  after_results
  pointwise
  refine congrArg _ (congrArg₂ (ix4 0 s) (Fin.ext ?_) (Fin.ext ?_))
  · show (128 * p.val + (64 * e.val + d.val)) / 64 = 2 * p.val + e.val
    omega
  · show (128 * p.val + (64 * e.val + d.val)) % 64 = d.val
    omega
theorem win10_eq (c : Dev nD) (s : Fin 4096) (p : Fin 2) (e : Fin 2) (d : Fin 64) :
    win10 m c s ⟨128 * p.val + (lane2 e d).val, by omega⟩ = argRk m c s (pairHead4 p e) d := by
  show (StableHlo.after (hostOps0 (F := Ideal)) (fun b => m (c, b)) (Proc.devRef .tc main_v22) (ix2 s ⟨128 * p.val + (lane2 e d).val, by omega⟩) : EReal) = _
  unfold hostOps0
  after_results
  pointwise
  refine congrArg _ (congrArg₂ (ix4 0 s) (Fin.ext ?_) (Fin.ext ?_))
  · show (128 * p.val + (64 * e.val + d.val)) / 64 = 2 * p.val + e.val
    omega
  · show (128 * p.val + (64 * e.val + d.val)) % 64 = d.val
    omega
theorem win3_eq (c : Dev nD) (e : Fin 2) (d : Fin 64) : win3 m c (lane2 e d) = argQn m c d := by
  show (StableHlo.after (hostOps0 (F := Ideal)) (fun b => m (c, b)) (Proc.devRef .tc main_v12) (ix2 0 (lane2 e d)) : EReal) = _
  unfold hostOps0
  after_results
  pointwise
  exact congrArg _ (congrArg (ix2 0) (Fin.ext (by show (64 * e.val + d.val) % 64 = d.val; omega)))
theorem win4_eq (c : Dev nD) (e : Fin 2) (d : Fin 64) : win4 m c (lane2 e d) = argKn m c d := by
  show (StableHlo.after (hostOps0 (F := Ideal)) (fun b => m (c, b)) (Proc.devRef .tc main_v15) (ix2 0 (lane2 e d)) : EReal) = _
  unfold hostOps0
  after_results
  pointwise
  exact congrArg _ (congrArg (ix2 0) (Fin.ext (by show (64 * e.val + d.val) % 64 = d.val; omega)))
theorem win1_eq (c : Dev nD) (s : Fin 4096) (e : Fin 2) (d : Fin 64) : win1 m c s (lane2 e d) = tab (argCr m c s) (argCc m c s) d := by
  show (StableHlo.after (hostOps0 (F := Ideal)) (fun b => m (c, b)) (Proc.devRef .tc main_v6) (ix2 s (lane2 e d)) : EReal) = _
  unfold hostOps0
  after_results
  pointwise
  have h : (lane2 e d).val = 64 * e.val + d.val := rfl
  unfold tab
  repeat' split
  all_goals first | (exfalso; omega) | exact congrArg _ (congrArg (ix2 s) (Fin.ext (by dsimp only <;> omega)))
theorem win2_eq (c : Dev nD) (s : Fin 4096) (e : Fin 2) (d : Fin 64) :
    win2 m c s (lane2 e d) = if d.val / 16 % 2 = 0 then -tab (argSr m c s) (argSc m c s) d else tab (argSr m c s) (argSc m c s) d := by
  show (StableHlo.after (hostOps0 (F := Ideal)) (fun b => m (c, b)) (Proc.devRef .tc main_v9) (ix2 s (lane2 e d)) : EReal) = _
  unfold hostOps0
  after_results
  pointwise
  have h : (lane2 e d).val = 64 * e.val + d.val := rfl
  unfold tab
  repeat' split
  all_goals first | (exfalso; omega) | exact congrArg _ (congrArg (ix2 s) (Fin.ext (by dsimp only <;> omega))) | exact congrArg (fun x : EReal => -x) (congrArg _ (congrArg (ix2 s) (Fin.ext (by dsimp only <;> omega))))
theorem win11_eq (c : Dev nD) (s : Fin 4096) (l : Fin 512) : win11 m c s l = argRv m c s ⟨l.val / 128, by omega⟩ ⟨l.val % 128, by omega⟩ := by
  show (StableHlo.after (hostOps0 (F := Ideal)) (fun b => m (c, b)) (Proc.devRef .tc main_v24) (ix2 s l) : EReal) = _
  unfold hostOps0
  after_results
  pointwise
theorem win8_eq (c : Dev nD) (s : Fin 4096) (l : Fin 512) : win8 m c s l = argZa m c s l := by
  show (StableHlo.after (hostOps0 (F := Ideal)) (fun b => m (c, b)) (Proc.devRef .tc main_v20) (ix2 s l) : EReal) = _
  unfold hostOps0
  after_results
  pointwise
theorem win12_eq (c : Dev nD) (s : Fin 4096) (l : Fin 512) : win12 m c s l = argZr m c s l := by
  show (StableHlo.after (hostOps0 (F := Ideal)) (fun b => m (c, b)) (Proc.devRef .tc main_v26) (ix2 s l) : EReal) = _
  unfold hostOps0
  after_results
  pointwise
theorem win13_eq (c : Dev nD) (s : Fin 4096) (l : Fin 2048) : win13 m c s l = argGl m c s l := by
  show (StableHlo.after (hostOps0 (F := Ideal)) (fun b => m (c, b)) (Proc.devRef .tc main_v28) (ix2 s l) : EReal) = _
  unfold hostOps0
  after_results
  pointwise
theorem win6_eq (c : Dev nD) (j : Fin 2) (s : Fin 4096) (l : Fin 128) : win6 m c j s l = argDk m c j s l := by
  show (StableHlo.after (hostOps0 (F := Ideal)) (fun b => m (c, b)) (Proc.devRef .tc main_arg8) (ix3 j s l) : EReal) = _
  unfold hostOps0
  after_results
theorem win7_eq (c : Dev nD) (j : Fin 2) (s : Fin 4096) (l : Fin 128) : win7 m c j s l = argDv m c j s l := by
  show (StableHlo.after (hostOps0 (F := Ideal)) (fun b => m (c, b)) (Proc.devRef .tc main_arg9) (ix3 j s l) : EReal) = _
  unfold hostOps0
  after_results

variable (W : Valuation τ sig (Elt Ideal))

theorem lane2_0 (d : Fin 64) (h : d.val < 128) : (⟨d.val, h⟩ : Fin 128) = lane2 0 d := Fin.ext (by show d.val = 64 * 0 + d.val; omega)

abbrev at32 (d : Fin 64) : EReal := StableHlo.after (hostOps1 (F := Ideal)) W (Proc.devRef .tc main_v32) (ix2 0 d)
abbrev at35 (d : Fin 64) : EReal := StableHlo.after (hostOps1 (F := Ideal)) W (Proc.devRef .tc main_v35) (ix2 0 d)
abbrev at29 (x : Fin 128) : EReal := W (Proc.devRef .tc main_v29_1) (ix2 0 x)
abbrev at29' (x : Fin 128) : EReal := W (Proc.devRef .tc main_v29_2) (ix2 0 x)

/-- The host adds the two heads' sums. -/
theorem at32_eq (d : Fin 64) : at32 W d = at29 W (lane2 0 d) + at29 W (lane2 1 d) := by
  unfold at32 hostOps1
  after_results
  pointwise
  rw [lane2_0]
  rfl
theorem at35_eq (d : Fin 64) : at35 W d = at29' W (lane2 0 d) + at29' W (lane2 1 d) := by
  unfold at35 hostOps1
  after_results
  pointwise
  rw [lane2_0]
  rfl

abbrev exitV (c : Dev nD) : Valuation τ sig (Elt Ideal) :=
  Pipeline.withArrays (cfgs 0).spec c (V0 m c) fun w => (dats m 0 c).arrAt w (cfgs 0).N

theorem exit15 (c : Dev nD) (x : Fin 128) : at29 (exitV m c) x
      = (∑ s, gqRow m c 0 x s) + (∑ s, gqRow m c 1 x s) + (∑ s, gqRow m c 2 x s) + ∑ s, gqRow m c 3 x s :=
  congrFun ((show exitV m c (Proc.devRef .tc main_v29_1) = (dats m 0 c).arrAt 15 cfg0.N from
    Pipeline.withArrays_arr (cfgs 0).spec launch0.win.arr_inj c (V0 m c) (fun w => (dats m 0 c).arrAt w (cfgs 0).N) 15).trans (final15 m c)) (ix2 0 x)
theorem exit16 (c : Dev nD) (x : Fin 128) : at29' (exitV m c) x = ∑ s, gkRow m c x s :=
  congrFun ((show exitV m c (Proc.devRef .tc main_v29_2) = (dats m 0 c).arrAt 16 cfg0.N from
    Pipeline.withArrays_arr (cfgs 0).spec launch0.win.arr_inj c (V0 m c) (fun w => (dats m 0 c).arrAt w (cfgs 0).N) 16).trans (final16 m c)) (ix2 0 x)

end Cert.AssembleIdeal.Hand

end
-- ==== Proof.Assemble.Reference.lean ====
/- The derivative of the head splits, norms and rotations, as the reference's host lines compute it. -/
module

public import proofs.«01_k».proof.Proof.Gen.AssembleRefIdeal.Read
public import Idealize.ShloMosaic.Lib.Pointwise
public import proofs.«01_k».proof.Proof.Assemble.Rope
public import proofs.«01_k».proof.Proof.Sums

@[expose] public section

set_option maxRecDepth 16384

noncomputable section

namespace Cert.AssembleRefIdeal.Hand

open Cert.AssembleRefIdeal Cert.AssembleRefIdeal.Gen Cert.AssembleRefIdeal.Read Idealize.ShloMosaic
open Cert.AssembleIdeal.Hand (tab turned other turned_quarters)

variable (x0 : S1x4096x4864.Idx → EReal) (x1 x2 x3 x4 : S4096x16.Idx → EReal) (x5 x6 : S1x64.Idx → EReal)
  (x7 : S1x4096x8x64.Idx → EReal) (x8 x9 : S2x4096x128.Idx → EReal) (x10 x14 : S1x4096x512.Idx → EReal)
  (x11 x12 : S1x4096x4x64.Idx → EReal) (x13 : S1x4096x4x128.Idx → EReal) (x15 : S1x4096x2048.Idx → EReal)

abbrev cT (t : S4096x16.Idx → EReal) (s : Fin 4096) (l : Fin 16) : EReal := t (ix2 s l)
abbrev cC (s : Fin 4096) : Fin 64 → EReal := tab (cT x1 s) (cT x3 s)
abbrev cG (g : S1x64.Idx → EReal) (d : Fin 64) : EReal := g (ix2 0 d)

/-- The projected values of a query head and of a key head. -/
abbrev pq (s : Fin 4096) (g : Fin 8) (d : Fin 64) : EReal := x0 (ix3 0 s ⟨64 * g.val + d.val, by omega⟩)
abbrev pk (s : Fin 4096) (j : Fin 2) (d : Fin 64) : EReal := x0 (ix3 0 s ⟨512 + (64 * j.val + d.val), by omega⟩)

/-- The gradients of the turned query and key heads, turned back. -/
def tq (s : Fin 4096) (g : Fin 8) : Fin 64 → EReal :=
  turned (fun d => x7 (ix4 0 s g d) * Ideal.ofBits .f32 0x3E000000#32) (cC x1 x3 s) (cC x2 x4 s)
def tk (s : Fin 4096) (j : Fin 2) : Fin 64 → EReal :=
  turned (fun d => x8 (ix3 j s ⟨d.val, by omega⟩) + x8 (ix3 j s ⟨64 + d.val, by omega⟩)) (cC x1 x3 s) (cC x2 x4 s)

theorem v349 (s : Fin 4096) (g : Fin 8) (d : Fin 64) : val_main_v349 (F := Ideal) x1 x2 x3 x4 x7 (ix4 0 s g d) = tq x1 x2 x3 x4 x7 s g d := by
  pointwise [val_main_v349, val_main_v348, val_main_v347, val_main_v346, val_main_v345, val_main_v344, val_main_v343, val_main_v342,
    val_main_v341, val_main_v340, val_main_v339, val_main_v338, val_main_v337, val_main_v336, val_main_v335, val_main_v334,
    val_main_v333, val_main_v332, val_main_v331, val_main_v330, val_main_v329, val_main_v328, val_main_v327, val_main_v326,
    val_main_v325, val_main_v324, val_main_v323, val_main_v322, val_main_v321, val_main_v320, val_main_v319, val_main_v318,
    val_main_v317, val_main_cst_15, val_main_v57, val_main_v56, val_main_v42, val_main_v41]
  exact turned_quarters (fun d => x7 (ix4 0 s g d) * Ideal.ofBits .f32 0x3E000000#32) (cT x1 s) (cT x3 s) (cT x2 s) (cT x4 s) d
theorem v293 (s : Fin 4096) (g : Fin 2) (d : Fin 64) : val_main_v293 (F := Ideal) x1 x2 x3 x4 x8 (ix4 0 s g d) = tk x1 x2 x3 x4 x8 s g d := by
  pointwise [val_main_v293, val_main_v292, val_main_v291, val_main_v290, val_main_v289, val_main_v288, val_main_v287, val_main_v286,
    val_main_v285, val_main_v284, val_main_v283, val_main_v282, val_main_v281, val_main_v280, val_main_v279, val_main_v278,
    val_main_v277, val_main_v276, val_main_v275, val_main_v274, val_main_v273, val_main_v272, val_main_v271, val_main_v270,
    val_main_v269, val_main_v268, val_main_v267, val_main_v266, val_main_v265, val_main_v264, val_main_v263, val_main_v110,
    val_main_v109, val_main_v95, val_main_v94, val_main_v4, val_main_v3, val_main_v2, val_main_v1, val_main_v0]
  exact turned_quarters (fun d => x8 (ix3 g s ⟨d.val, by omega⟩) + x8 (ix3 g s ⟨64 + d.val, by omega⟩)) (cT x1 s) (cT x3 s) (cT x2 s) (cT x4 s) d
theorem v260 (s : Fin 4096) (g : Fin 4) (d : Fin 64) : val_main_v260 (F := Ideal) x1 x2 x3 x4 x11 (ix4 0 s g d)
      = turned (fun d => x11 (ix4 0 s g d)) (cC x1 x3 s) (cC x2 x4 s) d := by
  pointwise [val_main_v260, val_main_v259, val_main_v258, val_main_v257, val_main_v256, val_main_v255, val_main_v254, val_main_v253,
    val_main_v252, val_main_v251, val_main_v250, val_main_v249, val_main_v248, val_main_v247, val_main_v246, val_main_v245,
    val_main_v244, val_main_v243, val_main_v242, val_main_v241, val_main_v240, val_main_v239, val_main_v238, val_main_v237,
    val_main_v236, val_main_v235, val_main_v234, val_main_v233, val_main_v232, val_main_v231, val_main_v230, val_main_v145,
    val_main_v144, val_main_v130, val_main_v129]
  exact turned_quarters (fun d => x11 (ix4 0 s g d)) (cT x1 s) (cT x3 s) (cT x2 s) (cT x4 s) d
theorem v228 (s : Fin 4096) (g : Fin 4) (d : Fin 64) : val_main_v228 (F := Ideal) x1 x2 x3 x4 x12 (ix4 0 s g d)
      = turned (fun d => x12 (ix4 0 s g d) * Ideal.ofBits .f32 0x3E000000#32) (cC x1 x3 s) (cC x2 x4 s) d := by
  pointwise [val_main_v228, val_main_v227, val_main_v226, val_main_v225, val_main_v224, val_main_v223, val_main_v222, val_main_v221,
    val_main_v220, val_main_v219, val_main_v218, val_main_v217, val_main_v216, val_main_v215, val_main_v214, val_main_v213,
    val_main_v212, val_main_v211, val_main_v210, val_main_v209, val_main_v208, val_main_v207, val_main_v206, val_main_v205,
    val_main_v204, val_main_v203, val_main_v202, val_main_v201, val_main_v200, val_main_v199, val_main_v198, val_main_v197,
    val_main_v196, val_main_cst_9, val_main_v179, val_main_v178, val_main_v164, val_main_v163]
  exact turned_quarters (fun d => x12 (ix4 0 s g d) * Ideal.ofBits .f32 0x3E000000#32) (cT x1 s) (cT x3 s) (cT x2 s) (cT x4 s) d
theorem v9 (s : Fin 4096) (g : Fin 2) (d : Fin 64) :
    val_main_v9 (F := Ideal) x9 (ix4 0 s g d) = x9 (ix3 g s ⟨d.val, by omega⟩) + x9 (ix3 g s ⟨64 + d.val, by omega⟩) := by
  pointwise [val_main_v9, val_main_v8, val_main_v7, val_main_v6, val_main_v5]

/-- A head's mean square with the small constant added, and its reciprocal root. -/
def ms (p : Fin 64 → EReal) : EReal := Ideal.div (∑ k, p k * p k) (Ideal.ofBits .f32 0x42800000#32) + Ideal.ofBits .f32 0x358637BD#32
def rms (p : Fin 64 → EReal) : EReal := Ideal.rsqrt (ms p)

/-- What the derivative of the norm adds to a head's gradient, once for each factor of the square. -/
def back (p n : Fin 64 → EReal) : EReal :=
  Ideal.div ((∑ k, p k * n k) * (Ideal.ofBits .f32 0xBF000000#32 * Ideal.div (rms p) (ms p))) (Ideal.ofBits .f32 0x42800000#32)

/-- The norm's transposed map on the gradient `n` of the normalised head. -/
def normBack (p n : Fin 64 → EReal) (d : Fin 64) : EReal := n d * rms p + p d * back p n + back p n * p d

theorem dropUnit (x : S1x1x1x64.Idx → EReal) (init : EReal) (d : Fin 64) :
    Ideal.hostReduceAdd reducesTo_S1x1x1x64_S64_d0_1_2 x init (ix1 d) = init + x (ix4 0 0 0 d) := by
  refine Cert.Sums.hostReduceAdd_of_cell _ _ _ _ _ (funext fun b => by fin_cases b; rfl) fun i h => ?_
  idx_vars i
  obtain rfl : i3 = d := congrFun h 0
  rw [Subsingleton.elim i0 0, Subsingleton.elim i1 0, Subsingleton.elim i2 0]

theorem v19 (s : Fin 4096) (g : Fin 8) (d : Fin 64) : val_main_v19 (F := Ideal) x0 (ix4 0 s g d) = pq x0 s g d := by
  pointwise [val_main_v19, val_main_v10]
  exact congrArg x0 (congrArg (ix3 0 s) (Fin.ext (by simp <;> omega)))
theorem v27 (s : Fin 4096) (g : Fin 8) : val_main_v27 (F := Ideal) x0 (ix4 0 s g 0) = ms (pq x0 s g) := by
  pointwise [val_main_v27, val_main_v26, val_main_v25, val_main_v24, val_main_v23, val_main_v22, val_main_v21, val_main_cst,
    val_main_cst_0, val_main_cst_1, v19]
  rfl
theorem v28 (s : Fin 4096) (g : Fin 8) : val_main_v28 (F := Ideal) x0 (ix4 0 s g 0) = rms (pq x0 s g) := by
  pointwise [val_main_v28, v27]
  rfl
theorem v354 (s : Fin 4096) (g : Fin 8) (d : Fin 64) :
    val_main_v354 (F := Ideal) x1 x2 x3 x4 x5 x7 (ix4 0 s g d) = tq x1 x2 x3 x4 x7 s g d * cG x5 d := by
  pointwise [val_main_v354, val_main_v353, val_main_v353, val_main_v34, val_main_v20, v349]
theorem drop364 (x : S1x4096x8x1.Idx → EReal) (init : EReal) (s : Fin 4096) (g : Fin 8) :
    Ideal.hostReduceAdd reducesTo_S1x4096x8x1_S4096x8_d0_3 x init (ix2 s g) = init + x (ix4 0 s g 0) := by
  refine Cert.Sums.hostReduceAdd_of_cell _ _ _ _ _ (funext fun b => by fin_cases b <;> rfl) fun i h => ?_
  idx_vars i
  have h1 := congrFun h 0
  have h2 := congrFun h 1
  obtain rfl : i1 = s := h1
  obtain rfl : i2 = g := h2
  rw [Subsingleton.elim i0 0, Subsingleton.elim i3 0]
theorem v366 (s : Fin 4096) (g : Fin 8) (d : Fin 64) : val_main_v366 (F := Ideal) x0 x1 x2 x3 x4 x5 x7 (ix4 0 s g d)
      = back (pq x0 s g) (fun d => tq x1 x2 x3 x4 x7 s g d * cG x5 d) := by
  pointwise [val_main_v366, val_main_v365, val_main_v364, val_main_v363, val_main_v362, val_main_v361, val_main_v358, val_main_v357,
    val_main_v356, val_main_cst_2, val_main_cst_18, val_main_cst_19, val_main_cst_20, val_main_v31, val_main_v30,
    val_main_v29, drop364, v19, v27, v28, v354]
  rfl
theorem v370 (s : Fin 4096) (g : Fin 8) (d : Fin 64) : val_main_v370 (F := Ideal) x0 x1 x2 x3 x4 x5 x7 (ix4 0 s g d)
      = normBack (pq x0 s g) (fun d => tq x1 x2 x3 x4 x7 s g d * cG x5 d) d := by
  pointwise [val_main_v370, val_main_v369, val_main_v368, val_main_v367, val_main_v360, val_main_v359, v19, v28, v354, v366]
  rfl

theorem rows364 (x : S1x4096x8x64.Idx → EReal) (init : EReal) (d : Fin 64) :
    Ideal.hostReduceAdd reducesTo_S1x4096x8x64_S1x64_d1_2 x init (ix2 0 d) = init + ∑ i : Fin 4096 × Fin 8, x (ix4 0 i.1 i.2 d) := by
  refine Cert.Sums.hostReduceAdd_of_fibre _ _ _ _ (fun i : Fin 4096 × Fin 8 => ix4 0 i.1 i.2 d) (fun a b h => ?_)
    (fun k => funext fun b => by fin_cases b <;> rfl) fun i h => ?_
  · exact Prod.ext (congrFun h 1) (congrFun h 2)
  · idx_vars i
    obtain rfl : i3 = d := congrFun h 1
    exact ⟨(i1, i2), by rw [Subsingleton.elim i0 0]⟩

theorem v371 (d : Fin 64) : val_main_v371 (F := Ideal) x0 x1 x2 x3 x4 x7 (ix2 0 d)
      = ∑ i : Fin 4096 × Fin 8, pq x0 i.1 i.2 d * rms (pq x0 i.1 i.2) * tq x1 x2 x3 x4 x7 i.1 i.2 d := by
  have e : val_main_v351 (F := Ideal) x0 x1 x2 x3 x4 x7 (ix2 0 d)
      = Ideal.ofBits .f32 0#32 + ∑ i : Fin 4096 × Fin 8, pq x0 i.1 i.2 d * rms (pq x0 i.1 i.2) * tq x1 x2 x3 x4 x7 i.1 i.2 d :=
    (rows364 _ _ d).trans
    (congrArg₂ (fun x y : EReal => x + y) rfl (Finset.sum_congr (M := EReal) rfl fun i _ => by
      pointwise [val_main_v350, val_main_v33, val_main_v32, v19, v28, v349]))
  pointwise [val_main_v371, val_main_v355, val_main_v352, val_main_cst_16, val_main_cst_17, dropUnit, e]

theorem v72 (s : Fin 4096) (g : Fin 2) (d : Fin 64) : val_main_v72 (F := Ideal) x0 (ix4 0 s g d) = pk x0 s g d := by
  pointwise [val_main_v72, val_main_v11]
  exact congrArg x0 (congrArg (ix3 0 s) (Fin.ext (by simp <;> omega)))
theorem v80 (s : Fin 4096) (g : Fin 2) : val_main_v80 (F := Ideal) x0 (ix4 0 s g 0) = ms (pk x0 s g) := by
  pointwise [val_main_v80, val_main_v79, val_main_v78, val_main_v77, val_main_v76, val_main_v75, val_main_v74, val_main_cst_4,
    val_main_cst_5, val_main_cst_6, v72]
  rfl
theorem v81 (s : Fin 4096) (g : Fin 2) : val_main_v81 (F := Ideal) x0 (ix4 0 s g 0) = rms (pk x0 s g) := by
  pointwise [val_main_v81, v80]
  rfl
theorem v298 (s : Fin 4096) (g : Fin 2) (d : Fin 64) :
    val_main_v298 (F := Ideal) x1 x2 x3 x4 x6 x8 (ix4 0 s g d) = tk x1 x2 x3 x4 x8 s g d * cG x6 d := by
  pointwise [val_main_v298, val_main_v297, val_main_v297, val_main_v87, val_main_v73, v293]
theorem drop308 (x : S1x4096x2x1.Idx → EReal) (init : EReal) (s : Fin 4096) (g : Fin 2) :
    Ideal.hostReduceAdd reducesTo_S1x4096x2x1_S4096x2_d0_3 x init (ix2 s g) = init + x (ix4 0 s g 0) := by
  refine Cert.Sums.hostReduceAdd_of_cell _ _ _ _ _ (funext fun b => by fin_cases b <;> rfl) fun i h => ?_
  idx_vars i
  have h1 := congrFun h 0
  have h2 := congrFun h 1
  obtain rfl : i1 = s := h1
  obtain rfl : i2 = g := h2
  rw [Subsingleton.elim i0 0, Subsingleton.elim i3 0]
theorem v310 (s : Fin 4096) (g : Fin 2) (d : Fin 64) : val_main_v310 (F := Ideal) x0 x1 x2 x3 x4 x6 x8 (ix4 0 s g d)
      = back (pk x0 s g) (fun d => tk x1 x2 x3 x4 x8 s g d * cG x6 d) := by
  pointwise [val_main_v310, val_main_v309, val_main_v308, val_main_v307, val_main_v306, val_main_v305, val_main_v302, val_main_v301,
    val_main_v300, val_main_cst_7, val_main_cst_12, val_main_cst_13, val_main_cst_14, val_main_v84, val_main_v83,
    val_main_v82, drop308, v72, v80, v81, v298]
  rfl
theorem v314 (s : Fin 4096) (g : Fin 2) (d : Fin 64) : val_main_v314 (F := Ideal) x0 x1 x2 x3 x4 x6 x8 (ix4 0 s g d)
      = normBack (pk x0 s g) (fun d => tk x1 x2 x3 x4 x8 s g d * cG x6 d) d := by
  pointwise [val_main_v314, val_main_v313, val_main_v312, val_main_v311, val_main_v304, val_main_v303, v72, v81, v298, v310]
  rfl

theorem rows308 (x : S1x4096x2x64.Idx → EReal) (init : EReal) (d : Fin 64) :
    Ideal.hostReduceAdd reducesTo_S1x4096x2x64_S1x64_d1_2 x init (ix2 0 d) = init + ∑ i : Fin 4096 × Fin 2, x (ix4 0 i.1 i.2 d) := by
  refine Cert.Sums.hostReduceAdd_of_fibre _ _ _ _ (fun i : Fin 4096 × Fin 2 => ix4 0 i.1 i.2 d) (fun a b h => ?_)
    (fun k => funext fun b => by fin_cases b <;> rfl) fun i h => ?_
  · exact Prod.ext (congrFun h 1) (congrFun h 2)
  · idx_vars i
    obtain rfl : i3 = d := congrFun h 1
    exact ⟨(i1, i2), by rw [Subsingleton.elim i0 0]⟩

theorem v315 (d : Fin 64) : val_main_v315 (F := Ideal) x0 x1 x2 x3 x4 x8 (ix2 0 d)
      = ∑ i : Fin 4096 × Fin 2, pk x0 i.1 i.2 d * rms (pk x0 i.1 i.2) * tk x1 x2 x3 x4 x8 i.1 i.2 d := by
  have e : val_main_v295 (F := Ideal) x0 x1 x2 x3 x4 x8 (ix2 0 d)
      = Ideal.ofBits .f32 0#32 + ∑ i : Fin 4096 × Fin 2, pk x0 i.1 i.2 d * rms (pk x0 i.1 i.2) * tk x1 x2 x3 x4 x8 i.1 i.2 d :=
    (rows308 _ _ d).trans
    (congrArg₂ (fun x y : EReal => x + y) rfl (Finset.sum_congr (M := EReal) rfl fun i _ => by
      pointwise [val_main_v294, val_main_v86, val_main_v85, v72, v81, v293]))
  pointwise [val_main_v315, val_main_v299, val_main_v296, val_main_cst_10, val_main_cst_11, dropUnit, e]

theorem col_q (s : Fin 4096) (g : Fin 8) (d : Fin 64) : val_main_v375 (F := Ideal) x0 x1 x2 x3 x4 x5 x6 x7 x8 x9 x10 x11 x12 x13 x14 x15 (ix2 s ⟨64 * g.val + d.val, by omega⟩)
      = normBack (pq x0 s g) (fun d => tq x1 x2 x3 x4 x7 s g d * cG x5 d) d := by
  pointwise [val_main_v375, val_main_v374, val_main_v373, val_main_v372]
  repeat' split
  all_goals first | (exfalso; omega) | skip
  exact v370 x0 x1 x2 x3 x4 x5 x7 s g d
theorem col_k (s : Fin 4096) (g : Fin 2) (d : Fin 64) : val_main_v375 (F := Ideal) x0 x1 x2 x3 x4 x5 x6 x7 x8 x9 x10 x11 x12 x13 x14 x15 (ix2 s ⟨512 + (64 * g.val + d.val), by omega⟩)
      = normBack (pk x0 s g) (fun d => tk x1 x2 x3 x4 x8 s g d * cG x6 d) d := by
  pointwise [val_main_v375, val_main_v374, val_main_v373, val_main_v316]
  repeat' split
  all_goals first | (exfalso; omega) | skip
  exact (congrArg _ (congrArg₂ (ix4 0 s) (Fin.ext (by dsimp only <;> omega)) (Fin.ext (by dsimp only <;> omega)))).trans (v314 x0 x1 x2 x3 x4 x6 x8 s g d)
theorem col_v (s : Fin 4096) (g : Fin 2) (d : Fin 64) : val_main_v375 (F := Ideal) x0 x1 x2 x3 x4 x5 x6 x7 x8 x9 x10 x11 x12 x13 x14 x15 (ix2 s ⟨640 + (64 * g.val + d.val), by omega⟩)
      = x9 (ix3 g s ⟨d.val, by omega⟩) + x9 (ix3 g s ⟨64 + d.val, by omega⟩) := by
  pointwise [val_main_v375, val_main_v374, val_main_v373, val_main_v262]
  repeat' split
  all_goals first | (exfalso; omega) | skip
  exact (congrArg _ (congrArg₂ (ix4 0 s) (Fin.ext (by dsimp only <;> omega)) (Fin.ext (by dsimp only <;> omega)))).trans (v9 x9 s g d)
theorem col_za (s : Fin 4096) (l : Fin 512) : val_main_v375 (F := Ideal) x0 x1 x2 x3 x4 x5 x6 x7 x8 x9 x10 x11 x12 x13 x14 x15 (ix2 s ⟨768 + l.val, by omega⟩)
      = x10 (ix3 0 s l) := by
  pointwise [val_main_v375, val_main_v374, val_main_v373]
  repeat' split
  all_goals first | (exfalso; omega) | skip
  exact congrArg _ (congrArg (ix3 0 s) (Fin.ext (by dsimp only <;> omega)))
theorem col_rq (s : Fin 4096) (g : Fin 4) (d : Fin 64) : val_main_v375 (F := Ideal) x0 x1 x2 x3 x4 x5 x6 x7 x8 x9 x10 x11 x12 x13 x14 x15 (ix2 s ⟨1280 + (64 * g.val + d.val), by omega⟩)
      = turned (fun d => x11 (ix4 0 s g d)) (cC x1 x3 s) (cC x2 x4 s) d := by
  pointwise [val_main_v375, val_main_v374, val_main_v373, val_main_v261]
  repeat' split
  all_goals first | (exfalso; omega) | skip
  exact (congrArg _ (congrArg₂ (ix4 0 s) (Fin.ext (by dsimp only <;> omega)) (Fin.ext (by dsimp only <;> omega)))).trans (v260 x1 x2 x3 x4 x11 s g d)
theorem col_rk (s : Fin 4096) (g : Fin 4) (d : Fin 64) : val_main_v375 (F := Ideal) x0 x1 x2 x3 x4 x5 x6 x7 x8 x9 x10 x11 x12 x13 x14 x15 (ix2 s ⟨1536 + (64 * g.val + d.val), by omega⟩)
      = turned (fun d => x12 (ix4 0 s g d) * Ideal.ofBits .f32 0x3E000000#32) (cC x1 x3 s) (cC x2 x4 s) d := by
  pointwise [val_main_v375, val_main_v374, val_main_v373, val_main_v229]
  repeat' split
  all_goals first | (exfalso; omega) | skip
  exact (congrArg _ (congrArg₂ (ix4 0 s) (Fin.ext (by dsimp only <;> omega)) (Fin.ext (by dsimp only <;> omega)))).trans (v228 x1 x2 x3 x4 x12 s g d)
theorem col_rv (s : Fin 4096) (l : Fin 512) : val_main_v375 (F := Ideal) x0 x1 x2 x3 x4 x5 x6 x7 x8 x9 x10 x11 x12 x13 x14 x15 (ix2 s ⟨1792 + l.val, by omega⟩)
      = x13 (ix4 0 s ⟨l.val / 128, by omega⟩ ⟨l.val % 128, by omega⟩) := by
  pointwise [val_main_v375, val_main_v374, val_main_v373, val_main_v195]
  repeat' split
  all_goals first | (exfalso; omega) | skip
  exact congrArg _ (congrArg₂ (ix4 0 s) (Fin.ext (by dsimp only <;> omega)) (Fin.ext (by dsimp only <;> omega)))
theorem col_zr (s : Fin 4096) (l : Fin 512) : val_main_v375 (F := Ideal) x0 x1 x2 x3 x4 x5 x6 x7 x8 x9 x10 x11 x12 x13 x14 x15 (ix2 s ⟨2304 + l.val, by omega⟩)
      = x14 (ix3 0 s l) := by
  pointwise [val_main_v375, val_main_v374, val_main_v373]
  repeat' split
  all_goals first | (exfalso; omega) | skip
  exact congrArg _ (congrArg (ix3 0 s) (Fin.ext (by dsimp only <;> omega)))
theorem col_gl (s : Fin 4096) (l : Fin 2048) : val_main_v375 (F := Ideal) x0 x1 x2 x3 x4 x5 x6 x7 x8 x9 x10 x11 x12 x13 x14 x15 (ix2 s ⟨2816 + l.val, by omega⟩)
      = x15 (ix3 0 s l) := by
  pointwise [val_main_v375, val_main_v374, val_main_v373]
  repeat' split
  all_goals first | (exfalso; omega) | skip
  exact congrArg _ (congrArg (ix3 0 s) (Fin.ext (by dsimp only <;> omega)))

end Cert.AssembleRefIdeal.Hand

end
-- ==== Proof.Assemble.Equation.lean ====
/- For finite inputs the kernel's norm derivative on a pair of heads is the reference's on each head. -/
module

public import proofs.«01_k».proof.Proof.Assemble.Reference
public import proofs.«01_k».proof.Proof.Reals

@[expose] public section

noncomputable section

namespace Cert.AssembleEquation

open Idealize.ShloMosaic Cert.Reals
open Cert.AssembleIdeal.Hand (lane2 seg rr nx unnorm seg_lane2 tab turned other)
open Cert.AssembleRefIdeal.Hand (ms rms back normBack)

theorem bits_64 : Ideal.ofBits .f32 0x42800000#32 = ((64 : ℝ) : EReal) := by
  simp [Ideal.ofBits, Ideal.ieee, -EReal.coe_mul]; norm_num

theorem bits_inv_64 : Ideal.ofBits .f32 0x3C800000#32 = ((1 / 64 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

theorem lane2_surj (x : Fin 128) : ∃ e d, x = lane2 e d :=
  ⟨⟨x.val / 64, by omega⟩, ⟨x.val % 64, Nat.mod_lt _ (by decide)⟩, Fin.ext (by show x.val = 64 * (x.val / 64) + x.val % 64; omega)⟩

/-- The mean square plus the small constant, of a head of reals. -/
def msR (p : Fin 64 → ℝ) : ℝ := (∑ k, p k * p k) / 64 + eps

theorem msR_pos (p : Fin 64 → ℝ) : 0 < msR p :=
  add_pos_of_nonneg_of_pos (div_nonneg (Finset.sum_nonneg fun k _ => mul_self_nonneg _) (by norm_num)) eps_pos

theorem ms_real (p : Fin 64 → ℝ) : ms (fun k => (p k : EReal)) = (msR p : EReal) := by
  unfold ms msR
  rw [bits_64, bits_eps, EReal.coe_add, ← div_real _ (by norm_num)]
  push_cast
  rfl

theorem rms_real (p : Fin 64 → ℝ) : rms (fun k => (p k : EReal)) = (((Real.sqrt (msR p))⁻¹ : ℝ) : EReal) :=
  (congrArg Ideal.rsqrt (ms_real p)).trans (rsqrt_real (msR_pos p))

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩
theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩
theorem real_neg {x : EReal} (hx : ∃ r : ℝ, x = r) : ∃ r : ℝ, -x = r := by
  obtain ⟨a, rfl⟩ := hx
  exact ⟨-a, (EReal.coe_neg a).symm⟩

theorem tab_real {a b : Fin 16 → EReal} (ha : ∀ l, ∃ r : ℝ, a l = r) (hb : ∀ l, ∃ r : ℝ, b l = r) (d : Fin 64) : ∃ r : ℝ, tab a b d = r := by
  unfold tab
  split
  · exact ha _
  · exact hb _
theorem turned_real {f c s : Fin 64 → EReal} (hf : ∀ d, ∃ r : ℝ, f d = r) (hc : ∀ d, ∃ r : ℝ, c d = r) (hs : ∀ d, ∃ r : ℝ, s d = r)
    (d : Fin 64) : ∃ r : ℝ, turned f c s d = r := by
  unfold turned
  split
  · exact real_add (real_mul (hf _) (hs _)) (real_mul (hf _) (hc _))
  · exact real_add (real_mul (hf _) (hc _)) (real_mul (real_neg (hf _)) (hs _))

/-- The kernel's reciprocal root mean square of a lane is its head's. -/
theorem rr_eq (p : Fin 128 → EReal) (hp : ∀ x, ∃ r : ℝ, p x = r) (e : Fin 2) (d : Fin 64) : rr p (lane2 e d) = rms fun k => p (lane2 e k) := by
  choose q hq using hp
  obtain rfl : p = fun x => (q x : EReal) := funext hq
  unfold rr
  rw [rms_real, ← rsqrt_real (msR_pos _), seg_lane2 _ (fun k => real_mul ⟨_, rfl⟩ ⟨_, rfl⟩), bits_inv_64, bits_eps]
  simp only [← EReal.coe_mul, ← coe_sum, ← EReal.coe_add]
  unfold msR
  rw [mul_one_div]

theorem nx_eq (p : Fin 128 → EReal) (hp : ∀ x, ∃ r : ℝ, p x = r) (e : Fin 2) (d : Fin 64) :
    nx p (lane2 e d) = p (lane2 e d) * rms fun k => p (lane2 e k) := by
  unfold nx
  rw [rr_eq p hp]

/-- The real-number equation, `a` the reciprocal root of `v`. -/
theorem head_back (n x a v q : ℝ) (hv : 0 < v) (ha : a = (Real.sqrt v)⁻¹) :
    a * (n - x * a * (q * a * (1 / 64))) = n * a + x * (q * (-(1 / 2) * (a / v)) / 64) + q * (-(1 / 2) * (a / v)) / 64 * x := by
  have h : a * a = 1 / v := by rw [ha, ← mul_inv, Real.mul_self_sqrt hv.le, one_div]
  have h3 : a * (x * a * (q * a * (1 / 64))) = x * q * a * (a * a) / 64 := by ring
  rw [mul_sub, h3, h]
  field_simp
  ring

theorem unnorm_eq (p d g : Fin 128 → EReal) (hp : ∀ x, ∃ r : ℝ, p x = r) (hd : ∀ x, ∃ r : ℝ, d x = r) (hg : ∀ x, ∃ r : ℝ, g x = r)
    (e : Fin 2) (l : Fin 64) : unnorm p d g (lane2 e l) = normBack (fun k => p (lane2 e k)) (fun k => d (lane2 e k) * g (lane2 e k)) l := by
  have hn x : ∃ r : ℝ, nx p x = r := by
    obtain ⟨e, k, rfl⟩ := lane2_surj x
    rw [nx_eq p hp]
    choose q hq using hp
    simp only [hq, rms_real]
    exact real_mul ⟨_, rfl⟩ ⟨_, rfl⟩
  unfold unnorm normBack back
  rw [seg_lane2 _ (fun k => real_mul (real_mul (hd k) (hg k)) (hn k)), rr_eq p hp]
  simp only [nx_eq p hp]
  choose p' hp using hp
  choose d' hd using hd
  choose g' hg using hg
  simp only [hp, hd, hg, rms_real, ms_real, bits_64, bits_inv_64, bits_neg_half, div_real _ (msR_pos _).ne', ← EReal.coe_mul, ← coe_sum,
    div_real _ (show (64 : ℝ) ≠ 0 by norm_num), ← coe_sub, ← EReal.coe_add]
  refine congrArg (fun r : ℝ => (r : EReal)) ?_
  rw [show (∑ k, d' (lane2 e k) * g' (lane2 e k) * (p' (lane2 e k) * (Real.sqrt (msR fun k => p' (lane2 e k)))⁻¹))
      = (∑ k, p' (lane2 e k) * (d' (lane2 e k) * g' (lane2 e k))) * (Real.sqrt (msR fun k => p' (lane2 e k)))⁻¹ by
    rw [Finset.sum_mul]; exact Finset.sum_congr rfl fun k _ => by ring]
  exact head_back _ _ _ _ _ (msR_pos _) rfl

/-- The kernel's order of adding the eight heads' sums. -/
theorem sum_heads (f : Fin 4096 → Fin 8 → EReal) :
    ((∑ s, f s 0) + (∑ s, f s 2) + (∑ s, f s 4) + ∑ s, f s 6) + ((∑ s, f s 1) + (∑ s, f s 3) + (∑ s, f s 5) + ∑ s, f s 7)
      = ∑ i : Fin 4096 × Fin 8, f i.1 i.2 := by
  rw [Fintype.sum_prod_type, Finset.sum_comm, Fin.sum_univ_eight]
  ac_rfl
theorem sum_two (f : Fin 4096 → Fin 2 → EReal) : (∑ s, f s 0) + (∑ s, f s 1) = ∑ i : Fin 4096 × Fin 2, f i.1 i.2 := by
  rw [Fintype.sum_prod_type, Finset.sum_comm, Fin.sum_univ_two]

end Cert.AssembleEquation

end
-- ==== Proof.Assemble.Claims.lean ====
/- The claims about the assembled gradient of the projected values: both programs end with the same array and the same two gains' gradients. -/
module

public import proofs.«01_k».proof.Defs
public import proofs.«01_k».proof.Proof.Gen.Pre_finite2
public import proofs.«01_k».proof.Proof.Assemble.Host
public import proofs.«01_k».proof.Proof.Assemble.Equation

@[expose] public section

set_option maxRecDepth 16384

noncomputable section

namespace Cert.AssembleClaims

open Idealize.ShloMosaic Idealize.ShloMosaic.TcCoe Idealize.SL.Sem
open Cert.AssembleIdeal.Hand Cert.AssembleEquation
open Cert.AssembleRefIdeal.Hand (tq tk pq pk cG cT cC rms normBack)

/-- What the precondition says: every element of the arguments that need it is a real. -/
theorem reals {a0 : FVec Ideal Cert.Pre_finite2.S1x4096x4864 .f32} {a1 a2 a3 a4 : FVec Ideal Cert.Pre_finite2.S4096x16 .f32}
    {a5 a6 : FVec Ideal Cert.Pre_finite2.S1x64 .f32} {a7 : FVec Ideal Cert.Pre_finite2.S1x4096x8x64 .f32}
    {a8 a9 : FVec Ideal Cert.Pre_finite2.S2x4096x128 .f32} {a10 : FVec Ideal Cert.Pre_finite2.S1x4096x512 .f32}
    {a11 a12 : FVec Ideal Cert.Pre_finite2.S1x4096x4x64 .f32} {a13 : FVec Ideal Cert.Pre_finite2.S1x4096x4x128 .f32}
    {a14 : FVec Ideal Cert.Pre_finite2.S1x4096x512 .f32} {a15 : FVec Ideal Cert.Pre_finite2.S1x4096x2048 .f32}
    (h : Cert.Pre_finite2.fn (F := Ideal) a0 a1 a2 a3 a4 a5 a6 a7 a8 a9 a10 a11 a12 a13 a14 a15 = fun _ => 1#1) :
    (∀ i, ∃ r : ℝ, a0 i = r) ∧ (∀ i, ∃ r : ℝ, a1 i = r) ∧ (∀ i, ∃ r : ℝ, a2 i = r) ∧ (∀ i, ∃ r : ℝ, a3 i = r) ∧ (∀ i, ∃ r : ℝ, a4 i = r)
      ∧ (∀ i, ∃ r : ℝ, a5 i = r) ∧ (∀ i, ∃ r : ℝ, a6 i = r) ∧ (∀ i, ∃ r : ℝ, a7 i = r) ∧ (∀ i, ∃ r : ℝ, a8 i = r) := by
  have : Subsingleton Cert.Pre_finite2.S_.Idx := ⟨fun a b => funext fun i => i.elim0⟩
  have h := congrFun h ix0
  unfold Cert.Pre_finite2.fn Cert.Pre_finite2.fn_part1 Cert.Pre_finite2.fn_part2 at h
  dsimp only at h
  simp only [show ∀ (a b : IVec Cert.Pre_finite2.S_ 1) i, andi a b i = IntOp.andi (a i) (b i) from fun _ _ _ => rfl, IntOp.andi_eq_one] at h
  obtain ⟨⟨⟨⟨⟨⟨⟨⟨h0, h1⟩, h2⟩, h3⟩, h4⟩, h5⟩, h6⟩, h7⟩, h8⟩ := h
  exact ⟨Reals.real_of_all _ _ _ _ _ _ h0, Reals.real_of_all _ _ _ _ _ _ h1, Reals.real_of_all _ _ _ _ _ _ h2, Reals.real_of_all _ _ _ _ _ _ h3,
    Reals.real_of_all _ _ _ _ _ _ h4, Reals.real_of_all _ _ _ _ _ _ h5, Reals.real_of_all _ _ _ _ _ _ h6, Reals.real_of_all _ _ _ _ _ _ h7,
    Reals.real_of_all _ _ _ _ _ _ h8⟩

/-- The reference runs, leaves its arguments unchanged, and declares no semaphore. -/
theorem frameRef : Cert.quiescent_AssembleRefIdeal := fun m ρ _ =>
  (θ_run Cert.AssembleRefIdeal.defs _ _).mono
    (fun r h => ⟨fun c => (h c).2.2.2, Idealize.ShloMosaic.sem_eq_zero_of_no_sems (by decide) r.2⟩)
    (Cert.AssembleRefIdeal.Value.run m ρ)

section
open Cert.AssembleIdeal Cert.AssembleIdeal.Gen
variable (m : (ℓ : Loc nD τ sig) → Buf (Elt Ideal) ℓ)

/-- What the kernel program leaves in a buffer no window covers. -/
abbrev left (c : Dev nD) (b : Ref sig .tc) : Buf (Elt Ideal) ((c.tc : Thread nD τ).loc b) :=
  Pipeline.afterTail₀ cfgs (dats m) 0 (V0 m) [hostOps1] c b

theorem run (g : Dev nD → PrngReg) : θ_run defs (onTc (τ := τ) (main (F := Ideal))) ⟨m, fun _ => 0, g⟩ fun r => ∀ c : Dev nD,
    r.2.mem ((c.tc : Thread nD τ).loc main_v29_0) = (dats m 0 c).arrAt 14 cfg0.N
      ∧ r.2.mem ((c.tc : Thread nD τ).loc main_v32) = left m c main_v32
      ∧ r.2.mem ((c.tc : Thread nD τ).loc main_v35) = left m c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun r h c => ?_) (θ_run_and (run_main (F := Ideal) m g) (unchanged m g))
  have k (b : Ref sig .tc) (hb : b ∈ Pipeline.restRefs sig (cfgs 0).spec) := (h.1 c).2 b hb
  exact ⟨(h.1 c).1 14, k main_v32 (Pipeline.mem_restRefs_of _ (by decide) (by decide)), k main_v35 (Pipeline.mem_restRefs_of _ (by decide) (by decide)), h.2 c⟩

theorem left32 (c : Dev nD) (d : Fin 64) : left m c main_v32 (ix2 0 d) = at32 (exitV m c) d := by
  unfold left Pipeline.afterTail₀
  rfl
theorem left35 (c : Dev nD) (d : Fin 64) : left m c main_v35 (ix2 0 d) = at35 (exitV m c) d := by
  unfold left Pipeline.afterTail₀
  rfl

section
variable (c : Dev nD)

abbrev a0 : Cert.AssembleRefIdeal.S1x4096x4864.Idx → EReal := m ((c.tc : Thread nD τ).loc main_arg0)
abbrev a1 : Cert.AssembleRefIdeal.S4096x16.Idx → EReal := m ((c.tc : Thread nD τ).loc main_arg1)
abbrev a2 : Cert.AssembleRefIdeal.S4096x16.Idx → EReal := m ((c.tc : Thread nD τ).loc main_arg2)
abbrev a3 : Cert.AssembleRefIdeal.S4096x16.Idx → EReal := m ((c.tc : Thread nD τ).loc main_arg3)
abbrev a4 : Cert.AssembleRefIdeal.S4096x16.Idx → EReal := m ((c.tc : Thread nD τ).loc main_arg4)
abbrev a5 : Cert.AssembleRefIdeal.S1x64.Idx → EReal := m ((c.tc : Thread nD τ).loc main_arg5)
abbrev a6 : Cert.AssembleRefIdeal.S1x64.Idx → EReal := m ((c.tc : Thread nD τ).loc main_arg6)
abbrev a7 : Cert.AssembleRefIdeal.S1x4096x8x64.Idx → EReal := m ((c.tc : Thread nD τ).loc main_arg7)
abbrev a8 : Cert.AssembleRefIdeal.S2x4096x128.Idx → EReal := m ((c.tc : Thread nD τ).loc main_arg8)

/-- The kernel's query and key gradients, turned back, are the reference's. -/
theorem dqRow_eq (s : Fin 4096) (p : Fin 4) (e : Fin 2) (d : Fin 64) :
    dqRow m c s p (lane2 e d) = tq (a1 m c) (a2 m c) (a3 m c) (a4 m c) (a7 m c) s (pairHead p e) d :=
  unrope_lane2 _ _ _ _ _ _ _ e d _ (fun k => congrArg (· * _) (win5_eq m c s p e k)) (win1_eq m c s e) (win2_eq m c s e)
theorem fold_lane2 (f : Fin 2 → Fin 128 → EReal) (j : Fin 2) (d : Fin 64) :
    foldRow f (lane2 j d) = f j ⟨d.val, by omega⟩ + f j ⟨64 + d.val, by omega⟩ := by
  unfold foldRow
  match j with
  | 0 =>
    rw [if_pos (show (lane2 0 d).val < 64 by show 64 * 0 + d.val < 64; omega)]
    exact congrArg₂ (fun x y : EReal => x + y) (congrArg (f 0) (Fin.ext (by show 64 * 0 + d.val = d.val; omega)))
      (congrArg (f 0) (Fin.ext (by show (64 * 0 + d.val + 128 - 64) % 128 = 64 + d.val; omega)))
  | 1 =>
    rw [if_neg (show ¬(lane2 1 d).val < 64 by show ¬64 * 1 + d.val < 64; omega), add_comm]
    exact congrArg₂ (fun x y : EReal => x + y) (congrArg (f 1) (Fin.ext (by show (64 * 1 + d.val + 128 - 64) % 128 = d.val; omega)))
      (congrArg (f 1) (Fin.ext (by show 64 * 1 + d.val = 64 + d.val; omega)))
theorem dkRow_eq (s : Fin 4096) (j : Fin 2) (d : Fin 64) :
    dkRow m c s (lane2 j d) = tk (a1 m c) (a2 m c) (a3 m c) (a4 m c) (a8 m c) s j d :=
  unrope_lane2 _ _ _ _ _ _ _ j d _ (fun k => (fold_lane2 _ j k).trans
    (congrArg₂ (fun x y : EReal => x + y) (win6_eq m c j s _) (win6_eq m c j s _))) (win1_eq m c s j) (win2_eq m c s j)
theorem pqRow_eq (s : Fin 4096) (p : Fin 4) (e : Fin 2) (d : Fin 64) : pqRow m c s p (lane2 e d) = pq (a0 m c) s (pairHead p e) d :=
  (win0_eq m c s _).trans (congrArg (argP m c s) (Fin.ext (by show 128 * p.val + (64 * e.val + d.val) = 64 * (2 * p.val + e.val) + d.val; omega)))
theorem pkRow_eq (s : Fin 4096) (j : Fin 2) (d : Fin 64) : pkRow m c s (lane2 j d) = pk (a0 m c) s j d := win0_eq m c s _

variable (h : Pre_AssembleIdeal_finite2 m)
include h

theorem real_tq (s : Fin 4096) (g : Fin 8) (d : Fin 64) : ∃ r : ℝ, tq (a1 m c) (a2 m c) (a3 m c) (a4 m c) (a7 m c) s g d = r := by
  obtain ⟨_, h1, h2, h3, h4, _, _, h7, _⟩ := reals (h c)
  exact turned_real (fun k => real_mul (h7 _) ⟨_, bits_eighth⟩) (tab_real (fun _ => h1 _) fun _ => h3 _) (tab_real (fun _ => h2 _) fun _ => h4 _) d
theorem real_tk (s : Fin 4096) (j : Fin 2) (d : Fin 64) : ∃ r : ℝ, tk (a1 m c) (a2 m c) (a3 m c) (a4 m c) (a8 m c) s j d = r := by
  obtain ⟨_, h1, h2, h3, h4, _, _, _, h8⟩ := reals (h c)
  exact turned_real (fun k => real_add (h8 _) (h8 _)) (tab_real (fun _ => h1 _) fun _ => h3 _) (tab_real (fun _ => h2 _) fun _ => h4 _) d
theorem real_pqRow (s : Fin 4096) (p : Fin 4) (x : Fin 128) : ∃ r : ℝ, pqRow m c s p x = r := by
  obtain ⟨e, d, rfl⟩ := lane2_surj x
  rw [pqRow_eq]
  exact (reals (h c)).1 _
theorem real_pkRow (s : Fin 4096) (x : Fin 128) : ∃ r : ℝ, pkRow m c s x = r := by
  obtain ⟨e, d, rfl⟩ := lane2_surj x
  rw [pkRow_eq]
  exact (reals (h c)).1 _

theorem at_q (s : Fin 4096) (p : Fin 4) (e : Fin 2) (d : Fin 64) : dpAll m c s ⟨128 * p.val + (lane2 e d).val, by omega⟩
      = normBack (pq (a0 m c) s (pairHead p e)) (fun d => tq (a1 m c) (a2 m c) (a3 m c) (a4 m c) (a7 m c) s (pairHead p e) d * cG (a5 m c) d) d := by
  rw [all_q, unnorm_eq _ _ _ (real_pqRow m c h s p)
    (fun x => by obtain ⟨e, d, rfl⟩ := lane2_surj x; rw [dqRow_eq]; exact real_tq m c h s _ d)
    (fun x => by obtain ⟨e, d, rfl⟩ := lane2_surj x; rw [win3_eq]; exact (reals (h c)).2.2.2.2.2.1 _)]
  simp only [dqRow_eq, pqRow_eq]
  exact congrArg (fun n => normBack _ n d) (funext fun k => congrArg (_ * ·) (win3_eq m c e k))
theorem at_k (s : Fin 4096) (j : Fin 2) (d : Fin 64) : dpAll m c s ⟨512 + (lane2 j d).val, by omega⟩
      = normBack (pk (a0 m c) s j) (fun d => tk (a1 m c) (a2 m c) (a3 m c) (a4 m c) (a8 m c) s j d * cG (a6 m c) d) d := by
  rw [all_k, unnorm_eq _ _ _ (real_pkRow m c h s)
    (fun x => by obtain ⟨e, d, rfl⟩ := lane2_surj x; rw [dkRow_eq]; exact real_tk m c h s _ d)
    (fun x => by obtain ⟨e, d, rfl⟩ := lane2_surj x; rw [win4_eq]; exact (reals (h c)).2.2.2.2.2.2.1 _)]
  simp only [dkRow_eq, pkRow_eq]
  exact congrArg (fun n => normBack _ n d) (funext fun k => congrArg (_ * ·) (win4_eq m c j k))

/-- The gains' gradients. -/
theorem gain_q (d : Fin 64) : left m c main_v32 (ix2 0 d) = ∑ i : Fin 4096 × Fin 8, pq (a0 m c) i.1 i.2 d * rms (pq (a0 m c) i.1 i.2)
      * tq (a1 m c) (a2 m c) (a3 m c) (a4 m c) (a7 m c) i.1 i.2 d := by
  rw [left32, at32_eq, exit15, exit15]
  simp only [gqRow, nx_eq _ (real_pqRow m c h _ _), dqRow_eq, pqRow_eq, mul_comm (tq _ _ _ _ _ _ _ _)]
  exact sum_heads fun s g => pq (a0 m c) s g d * rms (pq (a0 m c) s g) * tq (a1 m c) (a2 m c) (a3 m c) (a4 m c) (a7 m c) s g d
theorem gain_k (d : Fin 64) : left m c main_v35 (ix2 0 d) = ∑ i : Fin 4096 × Fin 2, pk (a0 m c) i.1 i.2 d * rms (pk (a0 m c) i.1 i.2)
      * tk (a1 m c) (a2 m c) (a3 m c) (a4 m c) (a8 m c) i.1 i.2 d := by
  rw [left35, at35_eq, exit16, exit16]
  simp only [gkRow, nx_eq _ (real_pkRow m c h _), dkRow_eq, pkRow_eq, mul_comm (tk _ _ _ _ _ _ _ _)]
  exact sum_two fun s j => pk (a0 m c) s j d * rms (pk (a0 m c) s j) * tk (a1 m c) (a2 m c) (a3 m c) (a4 m c) (a8 m c) s j d

end

end

section
open Cert.AssembleIdeal

/-- The reference's assembled array, of the kernel's arguments. -/
abbrev refAll (m : (ℓ : Loc nD τ sig) → Buf (Elt Ideal) ℓ) (c : Dev nD) (s : Fin 4096) (l : Fin 4864) : EReal :=
  Cert.AssembleRefIdeal.Read.val_main_v375 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (ix2 s l)

/-- Every column of the assembled array is the reference's. -/
theorem column (m : (ℓ : Loc nD τ sig) → Buf (Elt Ideal) ℓ) (c : Dev nD) (h : Pre_AssembleIdeal_finite2 m) (s : Fin 4096) (l : Fin 4864) :
    refAll m c s l = dpAll m c s l := by
  have turn (g : Fin 4) (f : Fin 4 → Fin 64 → EReal) (w : Fin 256 → EReal) (hw : ∀ (p e : Fin 2) (d : Fin 64), w ⟨128 * p.val + (lane2 e d).val, by omega⟩ = f (pairHead4 p e) d)
      (p e : Fin 2) (d : Fin 64) : unrope (fun x => w ⟨128 * p.val + x.val, by omega⟩) (win1 m c s) (win2 m c s) (lane2 e d)
        = turned (f (pairHead4 p e)) (tab (argCr m c s) (argCc m c s)) (tab (argSr m c s) (argSc m c s)) d :=
    unrope_lane2 _ _ _ _ _ _ _ e d _ (hw p e) (win1_eq m c s e) (win2_eq m c s e)
  by_cases h1 : l.val < 512
  · have e : l = ⟨128 * (⟨l.val / 128, by omega⟩ : Fin 4).val + (lane2 ⟨l.val / 64 % 2, by omega⟩ ⟨l.val % 64, by omega⟩).val, by simp only [lane2]; omega⟩ :=
      Fin.ext (by simp only [lane2]; omega)
    refine Eq.trans ?_ ((congrArg (dpAll m c s) e).trans (at_q m c h s _ _ _)).symm
    refine (congrArg (refAll m c s) (Fin.ext ?_)).trans (Cert.AssembleRefIdeal.Hand.col_q ..)
    simp only [pairHead]; omega
  by_cases h2 : l.val < 640
  · have e : l = ⟨512 + (lane2 ⟨l.val / 64 % 2, by omega⟩ ⟨l.val % 64, by omega⟩).val, by simp only [lane2]; omega⟩ := Fin.ext (by simp only [lane2]; omega)
    refine Eq.trans ?_ ((congrArg (dpAll m c s) e).trans (at_k m c h s _ _)).symm
    refine (congrArg (refAll m c s) (Fin.ext ?_)).trans (Cert.AssembleRefIdeal.Hand.col_k ..)
    show l.val = 512 + (64 * (l.val / 64 % 2) + l.val % 64)
    omega
  by_cases h3 : l.val < 768
  · have e : l = ⟨640 + (lane2 ⟨l.val / 64 % 2, by omega⟩ ⟨l.val % 64, by omega⟩).val, by simp only [lane2]; omega⟩ := Fin.ext (by simp only [lane2]; omega)
    refine Eq.trans ?_ ((congrArg (dpAll m c s) e).trans ((all_v m c s _).trans ((fold_lane2 _ _ _).trans
      (congrArg₂ (fun x y : EReal => x + y) (win7_eq m c _ s _) (win7_eq m c _ s _))))).symm
    refine (congrArg (refAll m c s) (Fin.ext ?_)).trans (Cert.AssembleRefIdeal.Hand.col_v ..)
    show l.val = 640 + (64 * (l.val / 64 % 2) + l.val % 64)
    omega
  by_cases h4 : l.val < 1280
  · have e : l = ⟨768 + (⟨l.val - 768, by omega⟩ : Fin 512).val, by simp only []; omega⟩ := Fin.ext (by simp only []; omega)
    rw [e, all_za, win8_eq]
    exact Cert.AssembleRefIdeal.Hand.col_za ..
  by_cases h5 : l.val < 1536
  · have e : l = ⟨1280 + (128 * (⟨(l.val - 1280) / 128, by omega⟩ : Fin 2).val + (lane2 ⟨l.val / 64 % 2, by omega⟩ ⟨l.val % 64, by omega⟩).val), by simp only [lane2]; omega⟩ :=
      Fin.ext (by simp only [lane2]; omega)
    refine Eq.trans ?_ ((congrArg (dpAll m c s) e).trans ((all_rq m c s _ _).trans (turn 0 (argRq m c s) (win9 m c s) (win9_eq m c s) _ _ _))).symm
    refine (congrArg (refAll m c s) (Fin.ext ?_)).trans (Cert.AssembleRefIdeal.Hand.col_rq ..)
    simp only [pairHead4]; omega
  by_cases h6 : l.val < 1792
  · have e : l = ⟨1536 + (128 * (⟨(l.val - 1536) / 128, by omega⟩ : Fin 2).val + (lane2 ⟨l.val / 64 % 2, by omega⟩ ⟨l.val % 64, by omega⟩).val), by simp only [lane2]; omega⟩ :=
      Fin.ext (by simp only [lane2]; omega)
    refine Eq.trans ?_ ((congrArg (dpAll m c s) e).trans ((all_rk m c s _ _).trans (turn 0 (fun g d => argRk m c s g d * Ideal.ofBits .f32 0x3E000000#32)
      (fun x => win10 m c s x * Ideal.ofBits .f32 0x3E000000#32) (fun p e d => congrArg (· * _) (win10_eq m c s p e d)) _ _ _))).symm
    refine (congrArg (refAll m c s) (Fin.ext ?_)).trans (Cert.AssembleRefIdeal.Hand.col_rk ..)
    simp only [pairHead4]; omega
  by_cases h7 : l.val < 2304
  · have e : l = ⟨1792 + (⟨l.val - 1792, by omega⟩ : Fin 512).val, by simp only []; omega⟩ := Fin.ext (by simp only []; omega)
    rw [e, all_rv, win11_eq]
    exact Cert.AssembleRefIdeal.Hand.col_rv ..
  by_cases h8 : l.val < 2816
  · have e : l = ⟨2304 + (⟨l.val - 2304, by omega⟩ : Fin 512).val, by simp only []; omega⟩ := Fin.ext (by simp only []; omega)
    rw [e, all_zr, win12_eq]
    exact Cert.AssembleRefIdeal.Hand.col_zr ..
  · have e : l = ⟨2816 + (⟨l.val - 2816, by omega⟩ : Fin 2048).val, by simp only []; omega⟩ := Fin.ext (by simp only []; omega)
    rw [e, all_gl, win13_eq]
    exact Cert.AssembleRefIdeal.Hand.col_gl ..

end

theorem value : Cert.algebraic_AssembleIdeal_AssembleRefIdeal_pre_finite2 := by
  intro m g m' g' hpre hargs
  refine ⟨fun c => (Cert.AssembleIdeal.Gen.dats m 0 c).arrAt 14 Cert.AssembleIdeal.cfg0.N, fun c => left m c Cert.AssembleIdeal.main_v32,
    fun c => left m c Cert.AssembleIdeal.main_v35, run m g, ?_⟩
  refine (θ_run _ _ _).mono (fun r h c => ?_) (Cert.AssembleRefIdeal.Value.run m' g')
  obtain ⟨h0, h1, h2, ha⟩ := h c
  obtain ⟨e0, e1, e2, e3, e4, e5, e6, e7, e8, e9, e10, e11, e12, e13, e14, e15⟩ := hargs c
  have f {b : Ref Cert.AssembleRefIdeal.sig .tc} {x} (e : m' ((c.tc : Thread Cert.AssembleRefIdeal.nD Cert.AssembleRefIdeal.τ).loc b) = x) :
      StableHlo.launchContents m' c (Proc.devRef .tc b) = x := e
  clear hargs
  refine ⟨h0.trans ?_, h1.trans ?_, h2.trans ?_, ha⟩
  · refine (Cert.AssembleRefIdeal.Read.val_main_v375_eq _).trans ?_
    rw [f e0, f e1, f e2, f e3, f e4, f e5, f e6, f e7, f e8, f e9, f e10, f e11, f e12, f e13, f e14, f e15]
    refine Eq.trans ?_ (final14 m c).symm
    funext i
    idx_vars i
    exact column m c hpre i0 i1
  · refine (Cert.AssembleRefIdeal.Read.val_main_v371_eq _).trans ?_
    rw [f e0, f e1, f e2, f e3, f e4, f e7]
    funext i
    idx_vars i
    obtain rfl : i0 = 0 := Subsingleton.elim _ _
    exact (Cert.AssembleRefIdeal.Hand.v371 _ _ _ _ _ _ i1).trans (gain_q m c hpre i1).symm
  · refine (Cert.AssembleRefIdeal.Read.val_main_v315_eq _).trans ?_
    rw [f e0, f e1, f e2, f e3, f e4, f e8]
    funext i
    idx_vars i
    obtain rfl : i0 = 0 := Subsingleton.elim _ _
    exact (Cert.AssembleRefIdeal.Hand.v315 _ _ _ _ _ _ i1).trans (gain_k m c hpre i1).symm

end Cert.AssembleClaims

end
-- ==== Proof.Tail.Cases.lean ====
/- The grid points of the tail kernel in three cases, and what its body is handed at a point. -/
module

public import proofs.«01_k».proof.Proof.Gen.TailIdeal.Frame
public import proofs.«01_k».proof.Proof.Gen.TailIdeal.Skeleton
public import proofs.«01_k».proof.Proof.Gen.TailIdeal.Points
public import proofs.«01_k».proof.Proof.Gen.TailIdeal.Launch
public import Idealize.ShloMosaic.Lib.Claim

@[expose] public section

set_option maxRecDepth 16384

noncomputable section

namespace Cert.TailFrame

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, as conditions on the grid point -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 15)

/-! ## The two weight gradients are written at the last point only -/

theorem idleAt0_19_A : ∀ t : Fin cfg0.N, cond0_0 (grid0.coords t) → ¬cond0_1 (grid0.coords t) → cfg0.idle 19 (grid0.coords t) = true := by decide +kernel
theorem noFlush0_19_A : ∀ t : Fin cfg0.N, cond0_0 (grid0.coords t) → ¬cond0_1 (grid0.coords t) → (cfg0.win 19).flush t = false := by decide +kernel
theorem idleAt0_19_B : ∀ t : Fin cfg0.N, ¬cond0_0 (grid0.coords t) → ¬cond0_1 (grid0.coords t) → cfg0.idle 19 (grid0.coords t) = true := by decide +kernel
theorem noFlush0_19_B : ∀ t : Fin cfg0.N, ¬cond0_0 (grid0.coords t) → ¬cond0_1 (grid0.coords t) → (cfg0.win 19).flush t = false := by decide +kernel
theorem liveAt0_19_C : ∀ t : Fin cfg0.N, ¬cond0_0 (grid0.coords t) → cond0_1 (grid0.coords t) → cfg0.idle 19 (grid0.coords t) = false := by decide +kernel
theorem idleAt0_20_A : ∀ t : Fin cfg0.N, cond0_0 (grid0.coords t) → ¬cond0_1 (grid0.coords t) → cfg0.idle 20 (grid0.coords t) = true := by decide +kernel
theorem noFlush0_20_A : ∀ t : Fin cfg0.N, cond0_0 (grid0.coords t) → ¬cond0_1 (grid0.coords t) → (cfg0.win 20).flush t = false := by decide +kernel
theorem idleAt0_20_B : ∀ t : Fin cfg0.N, ¬cond0_0 (grid0.coords t) → ¬cond0_1 (grid0.coords t) → cfg0.idle 20 (grid0.coords t) = true := by decide +kernel
theorem noFlush0_20_B : ∀ t : Fin cfg0.N, ¬cond0_0 (grid0.coords t) → ¬cond0_1 (grid0.coords t) → (cfg0.win 20).flush t = false := by decide +kernel
theorem liveAt0_20_C : ∀ t : Fin cfg0.N, ¬cond0_0 (grid0.coords t) → cond0_1 (grid0.coords t) → cfg0.idle 20 (grid0.coords t) = false := by decide +kernel

/-! ## The staging buffers and the two accumulators -/

abbrev VO0_12 : View sig .tc .vmem S256x1024 .f32 := (Memref.whole cc0_stg12_0 : Memref sig .tc .vmem S256x1024 .f32).view
abbrev VO0_13 : View sig .tc .vmem S256x512 .bf16 := (Memref.whole cc0_stg13_0 : Memref sig .tc .vmem S256x512 .bf16).view
abbrev VO0_14 : View sig .tc .vmem S256x512 .bf16 := (Memref.whole cc0_stg14_0 : Memref sig .tc .vmem S256x512 .bf16).view
abbrev VO0_15 : View sig .tc .vmem S256x2048 .bf16 := (Memref.whole cc0_stg15_0 : Memref sig .tc .vmem S256x2048 .bf16).view
abbrev VO0_16 : View sig .tc .vmem S256x512 .bf16 := (Memref.whole cc0_stg16_0 : Memref sig .tc .vmem S256x512 .bf16).view
abbrev VO0_17 : View sig .tc .vmem S256x512 .bf16 := (Memref.whole cc0_stg17_0 : Memref sig .tc .vmem S256x512 .bf16).view
abbrev VO0_18 : View sig .tc .vmem S8x256 .f32 := (Memref.whole cc0_stg18_0 : Memref sig .tc .vmem S8x256 .f32).view
abbrev VO0_19 : View sig .tc .vmem S1024x1024 .bf16 := (Memref.whole cc0_stg19_0 : Memref sig .tc .vmem S1024x1024 .bf16).view
abbrev VO0_20 : View sig .tc .vmem S1024x1024 .bf16 := (Memref.whole cc0_stg20_0 : Memref sig .tc .vmem S1024x1024 .bf16).view
abbrev VO0_21 : View sig .tc .vmem S1x1024 .f32 := (Memref.whole cc0_stg21_0 : Memref sig .tc .vmem S1x1024 .f32).view
abbrev VO0_22 : View sig .tc .vmem S1x1024 .f32 := (Memref.whole cc0_stg22_0 : Memref sig .tc .vmem S1x1024 .f32).view
abbrev VO0_23 : View sig .tc .vmem S1x512 .f32 := (Memref.whole cc0_stg23_0 : Memref sig .tc .vmem S1x512 .f32).view
abbrev VO0_24 : View sig .tc .vmem S1x128 .f32 := (Memref.whole cc0_stg24_0 : Memref sig .tc .vmem S1x128 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x3072 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x512 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x512 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S256x2048 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x512 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x512 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S8x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1024x1024 .bf16 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1024x1024 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x1024 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x1024 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x512 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S1x128 .f32 := win0_24.stage (cfg0.slots t 24)
abbrev hs0_24 (t : Fin cfg0.N) : (ms0_24 t).IsWhole := hstage0_24 ((cfg0.slots t 24).cast nbuf0_24)
abbrev scM0_0 : Memref sig .tc .vmem S1024x1024 .f32 := Memref.whole cc0_scratch0
abbrev scM0_1 : Memref sig .tc .vmem S1024x1024 .f32 := Memref.whole cc0_scratch1
abbrev VS0_0 : View sig .tc .vmem S1024x1024 .f32 := scM0_0.view
abbrev VS0_1 : View sig .tc .vmem S1024x1024 .f32 := scM0_1.view

/-- What the launch hands the region: the two accumulators at some contents and the generator's register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## Everything the body is handed, in one piece -/

/-- The memory references the body is called with: twelve inputs, thirteen outputs, two accumulators. -/
structure Mem where
  a1 : Memref sig .tc .vmem S256x1024 .f32
  a2 : Memref sig .tc .vmem S256x1024 .f32
  a3 : Memref sig .tc .vmem S256x512 .f32
  a4 : Memref sig .tc .vmem S256x512 .f32
  a5 : Memref sig .tc .vmem S256x512 .f32
  a6 : Memref sig .tc .vmem S256x512 .f32
  a7 : Memref sig .tc .vmem S256x2048 .f32
  a8 : Memref sig .tc .vmem S1x3072 .f32
  a9 : Memref sig .tc .vmem S1x1024 .f32
  a10 : Memref sig .tc .vmem S1x512 .f32
  a11 : Memref sig .tc .vmem S1024x1024 .bf16
  a12 : Memref sig .tc .vmem S1024x1024 .bf16
  a13 : Memref sig .tc .vmem S256x1024 .f32
  a14 : Memref sig .tc .vmem S256x512 .bf16
  a15 : Memref sig .tc .vmem S256x512 .bf16
  a16 : Memref sig .tc .vmem S256x2048 .bf16
  a17 : Memref sig .tc .vmem S256x512 .bf16
  a18 : Memref sig .tc .vmem S256x512 .bf16
  a19 : Memref sig .tc .vmem S8x256 .f32
  a20 : Memref sig .tc .vmem S1024x1024 .bf16
  a21 : Memref sig .tc .vmem S1024x1024 .bf16
  a22 : Memref sig .tc .vmem S1x1024 .f32
  a23 : Memref sig .tc .vmem S1x1024 .f32
  a24 : Memref sig .tc .vmem S1x512 .f32
  a25 : Memref sig .tc .vmem S1x128 .f32
  a26 : Memref sig .tc .vmem S1024x1024 .f32
  a27 : Memref sig .tc .vmem S1024x1024 .f32

/-- Each is a whole buffer. -/
structure Mem.Whole (M : Mem) : Prop where
  h1 : M.a1.IsWhole
  h2 : M.a2.IsWhole
  h3 : M.a3.IsWhole
  h4 : M.a4.IsWhole
  h5 : M.a5.IsWhole
  h6 : M.a6.IsWhole
  h7 : M.a7.IsWhole
  h8 : M.a8.IsWhole
  h9 : M.a9.IsWhole
  h10 : M.a10.IsWhole
  h11 : M.a11.IsWhole
  h12 : M.a12.IsWhole
  h13 : M.a13.IsWhole
  h14 : M.a14.IsWhole
  h15 : M.a15.IsWhole
  h16 : M.a16.IsWhole
  h17 : M.a17.IsWhole
  h18 : M.a18.IsWhole
  h19 : M.a19.IsWhole
  h20 : M.a20.IsWhole
  h21 : M.a21.IsWhole
  h22 : M.a22.IsWhole
  h23 : M.a23.IsWhole
  h24 : M.a24.IsWhole
  h25 : M.a25.IsWhole
  h26 : M.a26.IsWhole
  h27 : M.a27.IsWhole

/-- The blocks of the twelve inputs. -/
structure Blocks (F : FTy → Type) [FloatOps F] where
  x0 : Vec F S256x1024 .f32
  x1 : Vec F S256x1024 .f32
  x2 : Vec F S256x512 .f32
  x3 : Vec F S256x512 .f32
  x4 : Vec F S256x512 .f32
  x5 : Vec F S256x512 .f32
  x6 : Vec F S256x2048 .f32
  x7 : Vec F S1x3072 .f32
  x8 : Vec F S1x1024 .f32
  x9 : Vec F S1x512 .f32
  x10 : Vec F S1024x1024 .bf16
  x11 : Vec F S1024x1024 .bf16

/-- What the thirteen output buffers and the two accumulators hold after a point. -/
structure Outs (F : FTy → Type) [FloatOps F] where
  o12 : Vec F S256x1024 .f32
  o13 : Vec F S256x512 .bf16
  o14 : Vec F S256x512 .bf16
  o15 : Vec F S256x2048 .bf16
  o16 : Vec F S256x512 .bf16
  o17 : Vec F S256x512 .bf16
  o18 : Vec F S8x256 .f32
  o19 : Vec F S1024x1024 .bf16
  o20 : Vec F S1024x1024 .bf16
  o21 : Vec F S1x1024 .f32
  o22 : Vec F S1x1024 .f32
  o23 : Vec F S1x512 .f32
  o24 : Vec F S1x128 .f32
  s0 : Vec F S1024x1024 .f32
  s1 : Vec F S1024x1024 .f32

/-- The references at point `t`: the windows' current buffers and the accumulators. -/
abbrev mem (t : Fin cfg0.N) : Mem :=
  ⟨ms0_0 t, ms0_1 t, ms0_2 t, ms0_3 t, ms0_4 t, ms0_5 t, ms0_6 t, ms0_7 t, ms0_8 t, ms0_9 t, ms0_10 t, ms0_11 t, ms0_12 t, ms0_13 t, ms0_14 t, ms0_15
      t, ms0_16 t, ms0_17 t, ms0_18 t, ms0_19 t, ms0_20 t, ms0_21 t, ms0_22 t, ms0_23 t, ms0_24 t, scM0_0, scM0_1⟩

theorem mem_whole (t : Fin cfg0.N) : (mem t).Whole :=
  ⟨hs0_0 t, hs0_1 t, hs0_2 t, hs0_3 t, hs0_4 t, hs0_5 t, hs0_6 t, hs0_7 t, hs0_8 t, hs0_9 t, hs0_10 t, hs0_11 t, hs0_12 t, hs0_13 t, hs0_14 t, hs0_15
      t, hs0_16 t, hs0_17 t, hs0_18 t, hs0_19 t, hs0_20 t, hs0_21 t, hs0_22 t, hs0_23 t, hs0_24 t, Memref.isWhole_whole _, Memref.isWhole_whole _⟩

end Cert.TailFrame

end
-- ==== Proof.Tail.RunA.lean ====
/- The kernel body run once in case A of its two conditionals. -/
module

public import proofs.«01_k».proof.Proof.Tail.Cases

@[expose] public section

set_option maxRecDepth 16384
-- the run of this large body takes more than the default budget
set_option maxHeartbeats 1600000

noncomputable section

namespace Cert.TailFrame

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- a whole buffer at given contents, at some contents, and after the stores `L`
local notation:max "own[" c ", " a ", " x "]" => owns (c : Thread nD τ) a fullShare x
local notation:max "any[" c ", " a "]" => iprop(∃ d, owns (c : Thread nD τ) a fullShare d)
local notation:max "put[" c ", " a ", " L "]" =>
  iprop(∃ f, View.loc (c : Thread nD τ) (Memref.view a) ↦[View.set (Memref.view a)]{fullShare} View.writes (Memref.view a) (Elt F) f L)

/-- The body at the first point: the carried sums are cleared.  The pieces each buffer ends with are found by the run; the statement says that from
    the
    buffers owned at their contents the body reaches a state in which the inputs are as they were and every
    written buffer holds its pieces. -/
def kernelRun0_A (c : Dev nD) (i : grid0.Coords) (a1 : Memref sig .tc .vmem S256x1024 .f32) (h1 : a1.IsWhole) (a2 : Memref sig .tc .vmem S256x1024
    .f32) (h2 : a2.IsWhole) (a3 : Memref sig .tc .vmem S256x512 .f32) (h3 : a3.IsWhole) (a4 : Memref sig .tc .vmem S256x512 .f32) (h4 : a4.IsWhole)
    (a5 : Memref sig .tc .vmem S256x512 .f32) (h5 : a5.IsWhole) (a6 : Memref sig .tc .vmem S256x512 .f32) (h6 : a6.IsWhole) (a7 : Memref sig .tc .vmem
    S256x2048 .f32) (h7 : a7.IsWhole) (a8 : Memref sig .tc .vmem S1x3072 .f32) (h8 : a8.IsWhole) (a9 : Memref sig .tc .vmem S1x1024 .f32) (h9 :
    a9.IsWhole) (a10 : Memref sig .tc .vmem S1x512 .f32) (h10 : a10.IsWhole) (a11 : Memref sig .tc .vmem S1024x1024 .bf16) (h11 : a11.IsWhole) (a12 :
    Memref sig .tc .vmem S1024x1024 .bf16) (h12 : a12.IsWhole) (a13 : Memref sig .tc .vmem S256x1024 .f32) (h13 : a13.IsWhole) (a14 : Memref sig .tc
    .vmem S256x512 .bf16) (h14 : a14.IsWhole) (a15 : Memref sig .tc .vmem S256x512 .bf16) (h15 : a15.IsWhole) (a16 : Memref sig .tc .vmem S256x2048
    .bf16) (h16 : a16.IsWhole) (a17 : Memref sig .tc .vmem S256x512 .bf16) (h17 : a17.IsWhole) (a18 : Memref sig .tc .vmem S256x512 .bf16) (h18 :
    a18.IsWhole) (a19 : Memref sig .tc .vmem S8x256 .f32) (h19 : a19.IsWhole) (a20 : Memref sig .tc .vmem S1024x1024 .bf16) (h20 : a20.IsWhole) (a21 :
    Memref sig .tc .vmem S1024x1024 .bf16) (h21 : a21.IsWhole) (a22 : Memref sig .tc .vmem S1x1024 .f32) (h22 : a22.IsWhole) (a23 : Memref sig .tc
    .vmem S1x1024 .f32) (h23 : a23.IsWhole) (a24 : Memref sig .tc .vmem S1x512 .f32) (h24 : a24.IsWhole) (a25 : Memref sig .tc .vmem S1x128 .f32) (h25
    : a25.IsWhole) (a26 : Memref sig .tc .vmem S1024x1024 .f32) (h26 : a26.IsWhole) (a27 : Memref sig .tc .vmem S1024x1024 .f32) (h27 : a27.IsWhole)
    (hc0 : cond0_0 i) (hc1 : ¬cond0_1 i)
    (x0 : Vec F S256x1024 .f32) (x1 : Vec F S256x1024 .f32) (x2 : Vec F S256x512 .f32) (x3 : Vec F S256x512 .f32) (x4 : Vec F S256x512 .f32) (x5 : Vec
      F S256x512 .f32) (x6 : Vec F S256x2048 .f32) (x7 : Vec F S1x3072 .f32) (x8 : Vec F S1x1024 .f32) (x9 : Vec F S1x512 .f32) (x10 : Vec F
      S1024x1024 .bf16) (x11 : Vec F S1024x1024 .bf16) :
    Σ' (L12 : List (View.Piece (Elt F) S256x1024 .f32)), Σ' (L13 : List (View.Piece (Elt F) S256x512 .bf16)), Σ' (L14 : List (View.Piece (Elt F)
      S256x512 .bf16)), Σ' (L15 : List (View.Piece (Elt F) S256x2048 .bf16)), Σ' (L16 : List (View.Piece (Elt F) S256x512 .bf16)), Σ' (L17 : List
      (View.Piece (Elt F) S256x512 .bf16)), Σ' (L18 : List (View.Piece (Elt F) S8x256 .f32)), Σ' (L19 : List (View.Piece (Elt F) S1024x1024 .bf16)),
      Σ' (L20 : List (View.Piece (Elt F) S1024x1024 .bf16)), Σ' (L21 : List (View.Piece (Elt F) S1x1024 .f32)), Σ' (L22 : List (View.Piece (Elt F)
      S1x1024 .f32)), Σ' (L23 : List (View.Piece (Elt F) S1x512 .f32)), Σ' (L24 : List (View.Piece (Elt F) S1x128 .f32)), Σ' (LS0 : List (View.Piece
      (Elt F) S1024x1024 .f32)), { LS1 : List (View.Piece (Elt F) S1024x1024 .f32) //
      ∀ (xi19 : Vec F S1024x1024 .bf16) (xi20 : Vec F S1024x1024 .bf16) (E : Set ℕ) (K : PUnit → sProp 𝕄),
        iprop(own[c, a1, x0] ∗ own[c, a2, x1] ∗ own[c, a3, x2] ∗ own[c, a4, x3] ∗ own[c, a5, x4] ∗ own[c, a6, x5] ∗ own[c, a7, x6] ∗ own[c, a8, x7] ∗
          own[c, a9, x8] ∗ own[c, a10, x9] ∗ own[c, a11, x10] ∗ own[c, a12, x11] ∗ any[c, a13] ∗ any[c, a14] ∗ any[c, a15] ∗ any[c, a16] ∗ any[c, a17]
          ∗ any[c, a18] ∗ any[c, a19] ∗ own[c, a20, xi19] ∗ own[c, a21, xi20] ∗ any[c, a22] ∗ any[c, a23] ∗ any[c, a24] ∗ any[c, a25] ∗ any[c, a26] ∗
          any[c, a27]
            ∗ (iprop(own[c, a1, x0] ∗ own[c, a2, x1] ∗ own[c, a3, x2] ∗ own[c, a4, x3] ∗ own[c, a5, x4] ∗ own[c, a6, x5] ∗ own[c, a7, x6] ∗ own[c, a8,
              x7] ∗ own[c, a9, x8] ∗ own[c, a10, x9] ∗ own[c, a11, x10] ∗ own[c, a12, x11] ∗ put[c, a13, L12] ∗ put[c, a14, L13] ∗ put[c, a15, L14] ∗
              put[c, a16, L15] ∗ put[c, a17, L16] ∗ put[c, a18, L17] ∗ put[c, a19, L18] ∗ own[c, a20, xi19] ∗ own[c, a21, xi20] ∗ put[c, a22, L21] ∗
              put[c, a23, L22] ∗ put[c, a24, L23] ∗ put[c, a25, L24] ∗ put[c, a26, LS0] ∗ put[c, a27, LS1]) -∗ K ⟨⟩))
          ⊢ wp frame (wpE (defs₀ (F := F)) Variants.none c none) E (cc0_tail i a1 h1 a2 h2 a3 h3 a4 h4 a5 h5 a6 h6 a7 h7 a8 h8 a9 h9 a10 h10 a11 h11
            a12 h12 a13 h13 a14 h14 a15 h15 a16 h16 a17 h17 a18 h18 a19 h19 a20 h20 a21 h21 a22 h22 a23 h23 a24 h24 a25 h25 a26 h26 a27 h27) K } := by
  refine ⟨?_, ?_, ?_, ?_, ?_, ?_, ?_, [], [], ?_, ?_, ?_, ?_, ?_, ?_, fun xi19 xi20 E K => ?run⟩
  case run =>
    simp only [cc0_tail_eq_skeleton]; unfold cc0_tail_skel
    simp only [k0_part1_eq_skeleton, k0_part2_eq_skeleton, k0_part3_eq_skeleton, k0_part4_eq_skeleton, k0_part5_eq_skeleton, k0_part6_eq_skeleton,
        k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
        ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩,
        ⟨%d15, %f15, -, H15⟩, ⟨%d16, %f16, -, H16⟩, ⟨%d17, %f17, -, H17⟩, ⟨%d18, %f18, -, H18⟩, ⟨%f19, %hf19, H19⟩, ⟨%f20, %hf20, H20⟩, ⟨%d21, %f21,
        -, H21⟩, ⟨%d22, %f22, -, H22⟩, ⟨%d23, %f23, -, H23⟩, ⟨%d24, %f24, -, H24⟩, ⟨%ds0, %fs0, -, HS0⟩, ⟨%ds1, %fs1, -, HS1⟩, Hk⟩
    obtain rfl := h1.eq_unread hf0; obtain rfl := h2.eq_unread hf1; obtain rfl := h3.eq_unread hf2; obtain rfl := h4.eq_unread hf3;
        obtain rfl := h5.eq_unread hf4; obtain rfl := h6.eq_unread hf5; obtain rfl := h7.eq_unread hf6; obtain rfl := h8.eq_unread hf7;
        obtain rfl := h9.eq_unread hf8; obtain rfl := h10.eq_unread hf9; obtain rfl := h11.eq_unread hf10; obtain rfl := h12.eq_unread
        hf11; obtain rfl := h20.eq_unread hf19; obtain rfl := h21.eq_unread hf20
    sl_exec (disch := first | sl_exact hc0 | sl_exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; isplitr; · ipureintro; exact h10.read_unread _
      iexact H9
    isplitl [H10]
    · iexists _; isplitr; · ipureintro; exact h11.read_unread _
      iexact H10
    isplitl [H11]
    · iexists _; isplitr; · ipureintro; exact h12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]
    · iexists _; isplitr; · ipureintro; exact h20.read_unread _
      iexact H19
    isplitl [H20]
    · iexists _; isplitr; · ipureintro; exact h21.read_unread _
      iexact H20
    isplitl [H21]; · iexists _; iexact H21
    isplitl [H22]; · iexists _; iexact H22
    isplitl [H23]; · iexists _; iexact H23
    isplitl [H24]; · iexists _; iexact H24
    isplitl [HS0]; · iexists _; iexact HS0
    iexists _; iexact HS1

end Cert.TailFrame

end
-- ==== Proof.Tail.RunB.lean ====
/- The kernel body run once in case B of its two conditionals. -/
module

public import proofs.«01_k».proof.Proof.Tail.Cases

@[expose] public section

set_option maxRecDepth 16384
-- the run of this large body takes more than the default budget
set_option maxHeartbeats 2500000

noncomputable section

namespace Cert.TailFrame

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- a whole buffer at given contents, at some contents, and after the stores `L`
local notation:max "own[" c ", " a ", " x "]" => owns (c : Thread nD τ) a fullShare x
local notation:max "any[" c ", " a "]" => iprop(∃ d, owns (c : Thread nD τ) a fullShare d)
local notation:max "put[" c ", " a ", " L "]" =>
  iprop(∃ f, View.loc (c : Thread nD τ) (Memref.view a) ↦[View.set (Memref.view a)]{fullShare} View.writes (Memref.view a) (Elt F) f L)

/-- The body at a middle point: the carried sums are added to.  The pieces each buffer ends with are found by the run; the statement says that from
    the
    buffers owned at their contents the body reaches a state in which the inputs are as they were and every
    written buffer holds its pieces. -/
def kernelRun0_B (c : Dev nD) (i : grid0.Coords) (a1 : Memref sig .tc .vmem S256x1024 .f32) (h1 : a1.IsWhole) (a2 : Memref sig .tc .vmem S256x1024
    .f32) (h2 : a2.IsWhole) (a3 : Memref sig .tc .vmem S256x512 .f32) (h3 : a3.IsWhole) (a4 : Memref sig .tc .vmem S256x512 .f32) (h4 : a4.IsWhole)
    (a5 : Memref sig .tc .vmem S256x512 .f32) (h5 : a5.IsWhole) (a6 : Memref sig .tc .vmem S256x512 .f32) (h6 : a6.IsWhole) (a7 : Memref sig .tc .vmem
    S256x2048 .f32) (h7 : a7.IsWhole) (a8 : Memref sig .tc .vmem S1x3072 .f32) (h8 : a8.IsWhole) (a9 : Memref sig .tc .vmem S1x1024 .f32) (h9 :
    a9.IsWhole) (a10 : Memref sig .tc .vmem S1x512 .f32) (h10 : a10.IsWhole) (a11 : Memref sig .tc .vmem S1024x1024 .bf16) (h11 : a11.IsWhole) (a12 :
    Memref sig .tc .vmem S1024x1024 .bf16) (h12 : a12.IsWhole) (a13 : Memref sig .tc .vmem S256x1024 .f32) (h13 : a13.IsWhole) (a14 : Memref sig .tc
    .vmem S256x512 .bf16) (h14 : a14.IsWhole) (a15 : Memref sig .tc .vmem S256x512 .bf16) (h15 : a15.IsWhole) (a16 : Memref sig .tc .vmem S256x2048
    .bf16) (h16 : a16.IsWhole) (a17 : Memref sig .tc .vmem S256x512 .bf16) (h17 : a17.IsWhole) (a18 : Memref sig .tc .vmem S256x512 .bf16) (h18 :
    a18.IsWhole) (a19 : Memref sig .tc .vmem S8x256 .f32) (h19 : a19.IsWhole) (a20 : Memref sig .tc .vmem S1024x1024 .bf16) (h20 : a20.IsWhole) (a21 :
    Memref sig .tc .vmem S1024x1024 .bf16) (h21 : a21.IsWhole) (a22 : Memref sig .tc .vmem S1x1024 .f32) (h22 : a22.IsWhole) (a23 : Memref sig .tc
    .vmem S1x1024 .f32) (h23 : a23.IsWhole) (a24 : Memref sig .tc .vmem S1x512 .f32) (h24 : a24.IsWhole) (a25 : Memref sig .tc .vmem S1x128 .f32) (h25
    : a25.IsWhole) (a26 : Memref sig .tc .vmem S1024x1024 .f32) (h26 : a26.IsWhole) (a27 : Memref sig .tc .vmem S1024x1024 .f32) (h27 : a27.IsWhole)
    (hc0 : ¬cond0_0 i) (hc1 : ¬cond0_1 i)
    (x0 : Vec F S256x1024 .f32) (x1 : Vec F S256x1024 .f32) (x2 : Vec F S256x512 .f32) (x3 : Vec F S256x512 .f32) (x4 : Vec F S256x512 .f32) (x5 : Vec
      F S256x512 .f32) (x6 : Vec F S256x2048 .f32) (x7 : Vec F S1x3072 .f32) (x8 : Vec F S1x1024 .f32) (x9 : Vec F S1x512 .f32) (x10 : Vec F
      S1024x1024 .bf16) (x11 : Vec F S1024x1024 .bf16) (xo21 : Vec F S1x1024 .f32) (xo22 : Vec F S1x1024 .f32) (xo23 : Vec F S1x512 .f32) (xo24 : Vec
      F S1x128 .f32) (xs0 : Vec F S1024x1024 .f32) (xs1 : Vec F S1024x1024 .f32) :
    Σ' (L12 : List (View.Piece (Elt F) S256x1024 .f32)), Σ' (L13 : List (View.Piece (Elt F) S256x512 .bf16)), Σ' (L14 : List (View.Piece (Elt F)
      S256x512 .bf16)), Σ' (L15 : List (View.Piece (Elt F) S256x2048 .bf16)), Σ' (L16 : List (View.Piece (Elt F) S256x512 .bf16)), Σ' (L17 : List
      (View.Piece (Elt F) S256x512 .bf16)), Σ' (L18 : List (View.Piece (Elt F) S8x256 .f32)), Σ' (L19 : List (View.Piece (Elt F) S1024x1024 .bf16)),
      Σ' (L20 : List (View.Piece (Elt F) S1024x1024 .bf16)), Σ' (L21 : List (View.Piece (Elt F) S1x1024 .f32)), Σ' (L22 : List (View.Piece (Elt F)
      S1x1024 .f32)), Σ' (L23 : List (View.Piece (Elt F) S1x512 .f32)), Σ' (L24 : List (View.Piece (Elt F) S1x128 .f32)), Σ' (LS0 : List (View.Piece
      (Elt F) S1024x1024 .f32)), { LS1 : List (View.Piece (Elt F) S1024x1024 .f32) //
      ∀ (xi19 : Vec F S1024x1024 .bf16) (xi20 : Vec F S1024x1024 .bf16) (E : Set ℕ) (K : PUnit → sProp 𝕄),
        iprop(own[c, a1, x0] ∗ own[c, a2, x1] ∗ own[c, a3, x2] ∗ own[c, a4, x3] ∗ own[c, a5, x4] ∗ own[c, a6, x5] ∗ own[c, a7, x6] ∗ own[c, a8, x7] ∗
          own[c, a9, x8] ∗ own[c, a10, x9] ∗ own[c, a11, x10] ∗ own[c, a12, x11] ∗ any[c, a13] ∗ any[c, a14] ∗ any[c, a15] ∗ any[c, a16] ∗ any[c, a17]
          ∗ any[c, a18] ∗ any[c, a19] ∗ own[c, a20, xi19] ∗ own[c, a21, xi20] ∗ own[c, a22, xo21] ∗ own[c, a23, xo22] ∗ own[c, a24, xo23] ∗ own[c,
          a25, xo24] ∗ own[c, a26, xs0] ∗ own[c, a27, xs1]
            ∗ (iprop(own[c, a1, x0] ∗ own[c, a2, x1] ∗ own[c, a3, x2] ∗ own[c, a4, x3] ∗ own[c, a5, x4] ∗ own[c, a6, x5] ∗ own[c, a7, x6] ∗ own[c, a8,
              x7] ∗ own[c, a9, x8] ∗ own[c, a10, x9] ∗ own[c, a11, x10] ∗ own[c, a12, x11] ∗ put[c, a13, L12] ∗ put[c, a14, L13] ∗ put[c, a15, L14] ∗
              put[c, a16, L15] ∗ put[c, a17, L16] ∗ put[c, a18, L17] ∗ put[c, a19, L18] ∗ own[c, a20, xi19] ∗ own[c, a21, xi20] ∗ put[c, a22, L21] ∗
              put[c, a23, L22] ∗ put[c, a24, L23] ∗ put[c, a25, L24] ∗ put[c, a26, LS0] ∗ put[c, a27, LS1]) -∗ K ⟨⟩))
          ⊢ wp frame (wpE (defs₀ (F := F)) Variants.none c none) E (cc0_tail i a1 h1 a2 h2 a3 h3 a4 h4 a5 h5 a6 h6 a7 h7 a8 h8 a9 h9 a10 h10 a11 h11
            a12 h12 a13 h13 a14 h14 a15 h15 a16 h16 a17 h17 a18 h18 a19 h19 a20 h20 a21 h21 a22 h22 a23 h23 a24 h24 a25 h25 a26 h26 a27 h27) K } := by
  refine ⟨?_, ?_, ?_, ?_, ?_, ?_, ?_, [], [], ?_, ?_, ?_, ?_, ?_, ?_, fun xi19 xi20 E K => ?run⟩
  case run =>
    simp only [cc0_tail_eq_skeleton]; unfold cc0_tail_skel
    simp only [k0_part1_eq_skeleton, k0_part2_eq_skeleton, k0_part3_eq_skeleton, k0_part4_eq_skeleton, k0_part5_eq_skeleton, k0_part6_eq_skeleton,
        k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
        ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩,
        ⟨%d15, %f15, -, H15⟩, ⟨%d16, %f16, -, H16⟩, ⟨%d17, %f17, -, H17⟩, ⟨%d18, %f18, -, H18⟩, ⟨%f19, %hf19, H19⟩, ⟨%f20, %hf20, H20⟩, ⟨%f21, %hf21,
        H21⟩, ⟨%f22, %hf22, H22⟩, ⟨%f23, %hf23, H23⟩, ⟨%f24, %hf24, H24⟩, ⟨%fs0, %hfs0, HS0⟩, ⟨%fs1, %hfs1, HS1⟩, Hk⟩
    obtain rfl := h1.eq_unread hf0; obtain rfl := h2.eq_unread hf1; obtain rfl := h3.eq_unread hf2; obtain rfl := h4.eq_unread hf3;
        obtain rfl := h5.eq_unread hf4; obtain rfl := h6.eq_unread hf5; obtain rfl := h7.eq_unread hf6; obtain rfl := h8.eq_unread hf7;
        obtain rfl := h9.eq_unread hf8; obtain rfl := h10.eq_unread hf9; obtain rfl := h11.eq_unread hf10; obtain rfl := h12.eq_unread
        hf11; obtain rfl := h20.eq_unread hf19; obtain rfl := h21.eq_unread hf20; obtain rfl := h22.eq_unread hf21; obtain rfl :=
        h23.eq_unread hf22; obtain rfl := h24.eq_unread hf23; obtain rfl := h25.eq_unread hf24; obtain rfl := h26.eq_unread hfs0; obtain
        rfl := h27.eq_unread hfs1
    sl_exec (disch := first | sl_exact hc0 | sl_exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; isplitr; · ipureintro; exact h10.read_unread _
      iexact H9
    isplitl [H10]
    · iexists _; isplitr; · ipureintro; exact h11.read_unread _
      iexact H10
    isplitl [H11]
    · iexists _; isplitr; · ipureintro; exact h12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]
    · iexists _; isplitr; · ipureintro; exact h20.read_unread _
      iexact H19
    isplitl [H20]
    · iexists _; isplitr; · ipureintro; exact h21.read_unread _
      iexact H20
    isplitl [H21]; · iexists _; iexact H21
    isplitl [H22]; · iexists _; iexact H22
    isplitl [H23]; · iexists _; iexact H23
    isplitl [H24]; · iexists _; iexact H24
    isplitl [HS0]; · iexists _; iexact HS0
    iexists _; iexact HS1

end Cert.TailFrame

end
-- ==== Proof.Tail.RunC.lean ====
/- The kernel body run once in case C of its two conditionals. -/
module

public import proofs.«01_k».proof.Proof.Tail.Cases

@[expose] public section

set_option maxRecDepth 16384
-- the run of this large body takes more than the default budget
set_option maxHeartbeats 3000000

noncomputable section

namespace Cert.TailFrame

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- a whole buffer at given contents, at some contents, and after the stores `L`
local notation:max "own[" c ", " a ", " x "]" => owns (c : Thread nD τ) a fullShare x
local notation:max "any[" c ", " a "]" => iprop(∃ d, owns (c : Thread nD τ) a fullShare d)
local notation:max "put[" c ", " a ", " L "]" =>
  iprop(∃ f, View.loc (c : Thread nD τ) (Memref.view a) ↦[View.set (Memref.view a)]{fullShare} View.writes (Memref.view a) (Elt F) f L)

/-- The body at the last point: the carried sums are added to and the two weight gradients written.  The pieces each buffer ends with are found by
    the run; the statement says that from the
    buffers owned at their contents the body reaches a state in which the inputs are as they were and every
    written buffer holds its pieces. -/
def kernelRun0_C (c : Dev nD) (i : grid0.Coords) (a1 : Memref sig .tc .vmem S256x1024 .f32) (h1 : a1.IsWhole) (a2 : Memref sig .tc .vmem S256x1024
    .f32) (h2 : a2.IsWhole) (a3 : Memref sig .tc .vmem S256x512 .f32) (h3 : a3.IsWhole) (a4 : Memref sig .tc .vmem S256x512 .f32) (h4 : a4.IsWhole)
    (a5 : Memref sig .tc .vmem S256x512 .f32) (h5 : a5.IsWhole) (a6 : Memref sig .tc .vmem S256x512 .f32) (h6 : a6.IsWhole) (a7 : Memref sig .tc .vmem
    S256x2048 .f32) (h7 : a7.IsWhole) (a8 : Memref sig .tc .vmem S1x3072 .f32) (h8 : a8.IsWhole) (a9 : Memref sig .tc .vmem S1x1024 .f32) (h9 :
    a9.IsWhole) (a10 : Memref sig .tc .vmem S1x512 .f32) (h10 : a10.IsWhole) (a11 : Memref sig .tc .vmem S1024x1024 .bf16) (h11 : a11.IsWhole) (a12 :
    Memref sig .tc .vmem S1024x1024 .bf16) (h12 : a12.IsWhole) (a13 : Memref sig .tc .vmem S256x1024 .f32) (h13 : a13.IsWhole) (a14 : Memref sig .tc
    .vmem S256x512 .bf16) (h14 : a14.IsWhole) (a15 : Memref sig .tc .vmem S256x512 .bf16) (h15 : a15.IsWhole) (a16 : Memref sig .tc .vmem S256x2048
    .bf16) (h16 : a16.IsWhole) (a17 : Memref sig .tc .vmem S256x512 .bf16) (h17 : a17.IsWhole) (a18 : Memref sig .tc .vmem S256x512 .bf16) (h18 :
    a18.IsWhole) (a19 : Memref sig .tc .vmem S8x256 .f32) (h19 : a19.IsWhole) (a20 : Memref sig .tc .vmem S1024x1024 .bf16) (h20 : a20.IsWhole) (a21 :
    Memref sig .tc .vmem S1024x1024 .bf16) (h21 : a21.IsWhole) (a22 : Memref sig .tc .vmem S1x1024 .f32) (h22 : a22.IsWhole) (a23 : Memref sig .tc
    .vmem S1x1024 .f32) (h23 : a23.IsWhole) (a24 : Memref sig .tc .vmem S1x512 .f32) (h24 : a24.IsWhole) (a25 : Memref sig .tc .vmem S1x128 .f32) (h25
    : a25.IsWhole) (a26 : Memref sig .tc .vmem S1024x1024 .f32) (h26 : a26.IsWhole) (a27 : Memref sig .tc .vmem S1024x1024 .f32) (h27 : a27.IsWhole)
    (hc0 : ¬cond0_0 i) (hc1 : cond0_1 i)
    (x0 : Vec F S256x1024 .f32) (x1 : Vec F S256x1024 .f32) (x2 : Vec F S256x512 .f32) (x3 : Vec F S256x512 .f32) (x4 : Vec F S256x512 .f32) (x5 : Vec
      F S256x512 .f32) (x6 : Vec F S256x2048 .f32) (x7 : Vec F S1x3072 .f32) (x8 : Vec F S1x1024 .f32) (x9 : Vec F S1x512 .f32) (x10 : Vec F
      S1024x1024 .bf16) (x11 : Vec F S1024x1024 .bf16) (xo21 : Vec F S1x1024 .f32) (xo22 : Vec F S1x1024 .f32) (xo23 : Vec F S1x512 .f32) (xo24 : Vec
      F S1x128 .f32) (xs0 : Vec F S1024x1024 .f32) (xs1 : Vec F S1024x1024 .f32) :
    Σ' (L12 : List (View.Piece (Elt F) S256x1024 .f32)), Σ' (L13 : List (View.Piece (Elt F) S256x512 .bf16)), Σ' (L14 : List (View.Piece (Elt F)
      S256x512 .bf16)), Σ' (L15 : List (View.Piece (Elt F) S256x2048 .bf16)), Σ' (L16 : List (View.Piece (Elt F) S256x512 .bf16)), Σ' (L17 : List
      (View.Piece (Elt F) S256x512 .bf16)), Σ' (L18 : List (View.Piece (Elt F) S8x256 .f32)), Σ' (L19 : List (View.Piece (Elt F) S1024x1024 .bf16)),
      Σ' (L20 : List (View.Piece (Elt F) S1024x1024 .bf16)), Σ' (L21 : List (View.Piece (Elt F) S1x1024 .f32)), Σ' (L22 : List (View.Piece (Elt F)
      S1x1024 .f32)), Σ' (L23 : List (View.Piece (Elt F) S1x512 .f32)), Σ' (L24 : List (View.Piece (Elt F) S1x128 .f32)), Σ' (LS0 : List (View.Piece
      (Elt F) S1024x1024 .f32)), { LS1 : List (View.Piece (Elt F) S1024x1024 .f32) //
      ∀ (E : Set ℕ) (K : PUnit → sProp 𝕄),
        iprop(own[c, a1, x0] ∗ own[c, a2, x1] ∗ own[c, a3, x2] ∗ own[c, a4, x3] ∗ own[c, a5, x4] ∗ own[c, a6, x5] ∗ own[c, a7, x6] ∗ own[c, a8, x7] ∗
          own[c, a9, x8] ∗ own[c, a10, x9] ∗ own[c, a11, x10] ∗ own[c, a12, x11] ∗ any[c, a13] ∗ any[c, a14] ∗ any[c, a15] ∗ any[c, a16] ∗ any[c, a17]
          ∗ any[c, a18] ∗ any[c, a19] ∗ any[c, a20] ∗ any[c, a21] ∗ own[c, a22, xo21] ∗ own[c, a23, xo22] ∗ own[c, a24, xo23] ∗ own[c, a25, xo24] ∗
          own[c, a26, xs0] ∗ own[c, a27, xs1]
            ∗ (iprop(own[c, a1, x0] ∗ own[c, a2, x1] ∗ own[c, a3, x2] ∗ own[c, a4, x3] ∗ own[c, a5, x4] ∗ own[c, a6, x5] ∗ own[c, a7, x6] ∗ own[c, a8,
              x7] ∗ own[c, a9, x8] ∗ own[c, a10, x9] ∗ own[c, a11, x10] ∗ own[c, a12, x11] ∗ put[c, a13, L12] ∗ put[c, a14, L13] ∗ put[c, a15, L14] ∗
              put[c, a16, L15] ∗ put[c, a17, L16] ∗ put[c, a18, L17] ∗ put[c, a19, L18] ∗ put[c, a20, L19] ∗ put[c, a21, L20] ∗ put[c, a22, L21] ∗
              put[c, a23, L22] ∗ put[c, a24, L23] ∗ put[c, a25, L24] ∗ put[c, a26, LS0] ∗ put[c, a27, LS1]) -∗ K ⟨⟩))
          ⊢ wp frame (wpE (defs₀ (F := F)) Variants.none c none) E (cc0_tail i a1 h1 a2 h2 a3 h3 a4 h4 a5 h5 a6 h6 a7 h7 a8 h8 a9 h9 a10 h10 a11 h11
            a12 h12 a13 h13 a14 h14 a15 h15 a16 h16 a17 h17 a18 h18 a19 h19 a20 h20 a21 h21 a22 h22 a23 h23 a24 h24 a25 h25 a26 h26 a27 h27) K } := by
  refine ⟨?_, ?_, ?_, ?_, ?_, ?_, ?_, ?_, ?_, ?_, ?_, ?_, ?_, ?_, ?_, fun E K => ?run⟩
  case run =>
    simp only [cc0_tail_eq_skeleton]; unfold cc0_tail_skel
    simp only [k0_part1_eq_skeleton, k0_part2_eq_skeleton, k0_part3_eq_skeleton, k0_part4_eq_skeleton, k0_part5_eq_skeleton, k0_part6_eq_skeleton,
        k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
        ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩,
        ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21,
        %hf21, H21⟩, ⟨%f22, %hf22, H22⟩, ⟨%f23, %hf23, H23⟩, ⟨%f24, %hf24, H24⟩, ⟨%fs0, %hfs0, HS0⟩, ⟨%fs1, %hfs1, HS1⟩, Hk⟩
    obtain rfl := h1.eq_unread hf0; obtain rfl := h2.eq_unread hf1; obtain rfl := h3.eq_unread hf2; obtain rfl := h4.eq_unread hf3;
        obtain rfl := h5.eq_unread hf4; obtain rfl := h6.eq_unread hf5; obtain rfl := h7.eq_unread hf6; obtain rfl := h8.eq_unread hf7;
        obtain rfl := h9.eq_unread hf8; obtain rfl := h10.eq_unread hf9; obtain rfl := h11.eq_unread hf10; obtain rfl := h12.eq_unread
        hf11; obtain rfl := h22.eq_unread hf21; obtain rfl := h23.eq_unread hf22; obtain rfl := h24.eq_unread hf23; obtain rfl :=
        h25.eq_unread hf24; obtain rfl := h26.eq_unread hfs0; obtain rfl := h27.eq_unread hfs1
    sl_exec (disch := first | sl_exact hc0 | sl_exact hc1)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; isplitr; · ipureintro; exact h10.read_unread _
      iexact H9
    isplitl [H10]
    · iexists _; isplitr; · ipureintro; exact h11.read_unread _
      iexact H10
    isplitl [H11]
    · iexists _; isplitr; · ipureintro; exact h12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [HS0]; · iexists _; iexact HS0
    iexists _; iexact HS1

end Cert.TailFrame

end
-- ==== Proof.Tail.Steps.lean ====
/- What the body leaves in its outputs and accumulators in each case. -/
module

public import proofs.«01_k».proof.Proof.Tail.RunA
public import proofs.«01_k».proof.Proof.Tail.RunB
public import proofs.«01_k».proof.Proof.Tail.RunC

@[expose] public section

set_option maxRecDepth 16384

noncomputable section

namespace Cert.TailFrame

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A list of stored pieces covers its buffer. -/
def Covers {S : Shape} {e : EltTy} (L : List (View.Piece (Elt F) S e)) : Prop := ∀ y, ∃ pc ∈ L, y ∈ pc.1.set

/-- Through any view, over any earlier contents, a list of stored pieces reads as `X`. -/
def Reads {S : Shape} {e : EltTy} (L : List (View.Piece (Elt F) S e)) (X : Vec F S e) : Prop :=
  ∀ (κ : Kind) (sp : Space) (v : View sig κ sp S e) (f : v.ty.Contents (Elt F)), v.read (Elt F) (v.writes (Elt F) f L) = X

theorem reads_of {S : Shape} {e : EltTy} {L : List (View.Piece (Elt F) S e)} (h : Covers L) {κ : Kind} {sp : Space} (v : View sig κ sp S e)
    (f : v.ty.Contents (Elt F)) : Reads L (v.read (Elt F) (v.writes (Elt F) f L)) := fun _ _ v' f' =>
  View.read_writes_of_cover v' f' v f L h

/-! ## Case A -/

/-- The run of case A at the references `M` and the blocks `x`. -/
abbrev runA (c : Dev nD) (i : grid0.Coords) (M : Mem) (W : M.Whole) (h0 : cond0_0 i) (h1 : ¬cond0_1 i) (x : Blocks F) :=
  kernelRun0_A (F := F) c i M.a1 W.h1 M.a2 W.h2 M.a3 W.h3 M.a4 W.h4 M.a5 W.h5 M.a6 W.h6 M.a7 W.h7 M.a8 W.h8 M.a9 W.h9 M.a10 W.h10 M.a11 W.h11 M.a12
      W.h12 M.a13 W.h13 M.a14 W.h14 M.a15 W.h15 M.a16 W.h16 M.a17 W.h17 M.a18 W.h18 M.a19 W.h19 M.a20 W.h20 M.a21 W.h21 M.a22 W.h22 M.a23 W.h23 M.a24
      W.h24 M.a25 W.h25 M.a26 W.h26 M.a27 W.h27 h0 h1 x.x0 x.x1 x.x2 x.x3 x.x4 x.x5 x.x6 x.x7 x.x8 x.x9 x.x10 x.x11

/-- What case A leaves. -/
def stepA (c : Dev nD) (i : grid0.Coords) (M : Mem) (W : M.Whole) (h0 : cond0_0 i) (h1 : ¬cond0_1 i) (x : Blocks F) : Outs F where
  o12 := VO0_12.read (Elt F) (VO0_12.writes (Elt F) VO0_12.junk (runA c i M W h0 h1 x).1)
  o13 := VO0_13.read (Elt F) (VO0_13.writes (Elt F) VO0_13.junk (runA c i M W h0 h1 x).2.1)
  o14 := VO0_14.read (Elt F) (VO0_14.writes (Elt F) VO0_14.junk (runA c i M W h0 h1 x).2.2.1)
  o15 := VO0_15.read (Elt F) (VO0_15.writes (Elt F) VO0_15.junk (runA c i M W h0 h1 x).2.2.2.1)
  o16 := VO0_16.read (Elt F) (VO0_16.writes (Elt F) VO0_16.junk (runA c i M W h0 h1 x).2.2.2.2.1)
  o17 := VO0_17.read (Elt F) (VO0_17.writes (Elt F) VO0_17.junk (runA c i M W h0 h1 x).2.2.2.2.2.1)
  o18 := VO0_18.read (Elt F) (VO0_18.writes (Elt F) VO0_18.junk (runA c i M W h0 h1 x).2.2.2.2.2.2.1)
  o19 := VO0_19.read (Elt F) (VO0_19.writes (Elt F) VO0_19.junk (runA c i M W h0 h1 x).2.2.2.2.2.2.2.1)
  o20 := VO0_20.read (Elt F) (VO0_20.writes (Elt F) VO0_20.junk (runA c i M W h0 h1 x).2.2.2.2.2.2.2.2.1)
  o21 := VO0_21.read (Elt F) (VO0_21.writes (Elt F) VO0_21.junk (runA c i M W h0 h1 x).2.2.2.2.2.2.2.2.2.1)
  o22 := VO0_22.read (Elt F) (VO0_22.writes (Elt F) VO0_22.junk (runA c i M W h0 h1 x).2.2.2.2.2.2.2.2.2.2.1)
  o23 := VO0_23.read (Elt F) (VO0_23.writes (Elt F) VO0_23.junk (runA c i M W h0 h1 x).2.2.2.2.2.2.2.2.2.2.2.1)
  o24 := VO0_24.read (Elt F) (VO0_24.writes (Elt F) VO0_24.junk (runA c i M W h0 h1 x).2.2.2.2.2.2.2.2.2.2.2.2.1)
  s0 := VS0_0.read (Elt F) (VS0_0.writes (Elt F) VS0_0.junk (runA c i M W h0 h1 x).2.2.2.2.2.2.2.2.2.2.2.2.2.1)
  s1 := VS0_1.read (Elt F) (VS0_1.writes (Elt F) VS0_1.junk (runA c i M W h0 h1 x).2.2.2.2.2.2.2.2.2.2.2.2.2.2.1)

theorem readsA (c : Dev nD) (i : grid0.Coords) (M : Mem) (W : M.Whole) (h0 : cond0_0 i) (h1 : ¬cond0_1 i) (x : Blocks F) :
    Reads (runA c i M W h0 h1 x).1 (stepA c i M W h0 h1 x).o12 ∧
    Reads (runA c i M W h0 h1 x).2.1 (stepA c i M W h0 h1 x).o13 ∧
    Reads (runA c i M W h0 h1 x).2.2.1 (stepA c i M W h0 h1 x).o14 ∧
    Reads (runA c i M W h0 h1 x).2.2.2.1 (stepA c i M W h0 h1 x).o15 ∧
    Reads (runA c i M W h0 h1 x).2.2.2.2.1 (stepA c i M W h0 h1 x).o16 ∧
    Reads (runA c i M W h0 h1 x).2.2.2.2.2.1 (stepA c i M W h0 h1 x).o17 ∧
    Reads (runA c i M W h0 h1 x).2.2.2.2.2.2.1 (stepA c i M W h0 h1 x).o18 ∧
    Reads (runA c i M W h0 h1 x).2.2.2.2.2.2.2.2.2.1 (stepA c i M W h0 h1 x).o21 ∧
    Reads (runA c i M W h0 h1 x).2.2.2.2.2.2.2.2.2.2.1 (stepA c i M W h0 h1 x).o22 ∧
    Reads (runA c i M W h0 h1 x).2.2.2.2.2.2.2.2.2.2.2.1 (stepA c i M W h0 h1 x).o23 ∧
    Reads (runA c i M W h0 h1 x).2.2.2.2.2.2.2.2.2.2.2.2.1 (stepA c i M W h0 h1 x).o24 ∧
    Reads (runA c i M W h0 h1 x).2.2.2.2.2.2.2.2.2.2.2.2.2.1 (stepA c i M W h0 h1 x).s0 ∧
    Reads (runA c i M W h0 h1 x).2.2.2.2.2.2.2.2.2.2.2.2.2.2.1 (stepA c i M W h0 h1 x).s1 := by
  dsimp only [stepA]
  exact
  ⟨reads_of (View.cover_of_tiledL (runA c i M W h0 h1 x).1 S256x1024.size (by sl_kernel_rfl)) VO0_12 _,
   reads_of (View.cover_of_tiledL (runA c i M W h0 h1 x).2.1 S256x512.size (by sl_kernel_rfl)) VO0_13 _,
   reads_of (View.cover_of_tiledL (runA c i M W h0 h1 x).2.2.1 S256x512.size (by sl_kernel_rfl)) VO0_14 _,
   reads_of (View.cover_of_tiledL (runA c i M W h0 h1 x).2.2.2.1 S256x1024.size (by sl_kernel_rfl)) VO0_15 _,
   reads_of (View.cover_of_tiledL (runA c i M W h0 h1 x).2.2.2.2.1 S256x512.size (by sl_kernel_rfl)) VO0_16 _,
   reads_of (View.cover_of_tiledL (runA c i M W h0 h1 x).2.2.2.2.2.1 S256x128.size (by sl_kernel_rfl)) VO0_17 _,
   reads_of (View.cover_of_tiledL (runA c i M W h0 h1 x).2.2.2.2.2.2.1 S8x256.size (by sl_kernel_rfl)) VO0_18 _,
   reads_of (View.cover_of_tiledL (runA c i M W h0 h1 x).2.2.2.2.2.2.2.2.2.1 S1x1024.size (by sl_kernel_rfl)) VO0_21 _,
   reads_of (View.cover_of_tiledL (runA c i M W h0 h1 x).2.2.2.2.2.2.2.2.2.2.1 S1x1024.size (by sl_kernel_rfl)) VO0_22 _,
   reads_of (View.cover_of_tiledL (runA c i M W h0 h1 x).2.2.2.2.2.2.2.2.2.2.2.1 S1x512.size (by sl_kernel_rfl)) VO0_23 _,
   reads_of (View.cover_of_tiledL (runA c i M W h0 h1 x).2.2.2.2.2.2.2.2.2.2.2.2.1 S1x128.size (by sl_kernel_rfl)) VO0_24 _,
   reads_of (View.cover_of_tiledL (runA c i M W h0 h1 x).2.2.2.2.2.2.2.2.2.2.2.2.2.1 S1024x1024.size (by sl_kernel_rfl)) VS0_0 _,
   reads_of (View.cover_of_wholeMem (runA c i M W h0 h1 x).2.2.2.2.2.2.2.2.2.2.2.2.2.2.1 (by sl_whole_mem)) VS0_1 _⟩

/-! ## Case B -/

/-- The run of case B at the references `M` and the blocks `x`, over what the point before left. -/
abbrev runB (c : Dev nD) (i : grid0.Coords) (M : Mem) (W : M.Whole) (h0 : ¬cond0_0 i) (h1 : ¬cond0_1 i) (x : Blocks F) (p : Outs F) :=
  kernelRun0_B (F := F) c i M.a1 W.h1 M.a2 W.h2 M.a3 W.h3 M.a4 W.h4 M.a5 W.h5 M.a6 W.h6 M.a7 W.h7 M.a8 W.h8 M.a9 W.h9 M.a10 W.h10 M.a11 W.h11 M.a12
      W.h12 M.a13 W.h13 M.a14 W.h14 M.a15 W.h15 M.a16 W.h16 M.a17 W.h17 M.a18 W.h18 M.a19 W.h19 M.a20 W.h20 M.a21 W.h21 M.a22 W.h22 M.a23 W.h23 M.a24
      W.h24 M.a25 W.h25 M.a26 W.h26 M.a27 W.h27 h0 h1 x.x0 x.x1 x.x2 x.x3 x.x4 x.x5 x.x6 x.x7 x.x8 x.x9 x.x10 x.x11 p.o21 p.o22 p.o23 p.o24 p.s0 p.s1

/-- What case B leaves. -/
def stepB (c : Dev nD) (i : grid0.Coords) (M : Mem) (W : M.Whole) (h0 : ¬cond0_0 i) (h1 : ¬cond0_1 i) (x : Blocks F) (p : Outs F) : Outs F where
  o12 := VO0_12.read (Elt F) (VO0_12.writes (Elt F) VO0_12.junk (runB c i M W h0 h1 x p).1)
  o13 := VO0_13.read (Elt F) (VO0_13.writes (Elt F) VO0_13.junk (runB c i M W h0 h1 x p).2.1)
  o14 := VO0_14.read (Elt F) (VO0_14.writes (Elt F) VO0_14.junk (runB c i M W h0 h1 x p).2.2.1)
  o15 := VO0_15.read (Elt F) (VO0_15.writes (Elt F) VO0_15.junk (runB c i M W h0 h1 x p).2.2.2.1)
  o16 := VO0_16.read (Elt F) (VO0_16.writes (Elt F) VO0_16.junk (runB c i M W h0 h1 x p).2.2.2.2.1)
  o17 := VO0_17.read (Elt F) (VO0_17.writes (Elt F) VO0_17.junk (runB c i M W h0 h1 x p).2.2.2.2.2.1)
  o18 := VO0_18.read (Elt F) (VO0_18.writes (Elt F) VO0_18.junk (runB c i M W h0 h1 x p).2.2.2.2.2.2.1)
  o19 := VO0_19.read (Elt F) (VO0_19.writes (Elt F) VO0_19.junk (runB c i M W h0 h1 x p).2.2.2.2.2.2.2.1)
  o20 := VO0_20.read (Elt F) (VO0_20.writes (Elt F) VO0_20.junk (runB c i M W h0 h1 x p).2.2.2.2.2.2.2.2.1)
  o21 := VO0_21.read (Elt F) (VO0_21.writes (Elt F) VO0_21.junk (runB c i M W h0 h1 x p).2.2.2.2.2.2.2.2.2.1)
  o22 := VO0_22.read (Elt F) (VO0_22.writes (Elt F) VO0_22.junk (runB c i M W h0 h1 x p).2.2.2.2.2.2.2.2.2.2.1)
  o23 := VO0_23.read (Elt F) (VO0_23.writes (Elt F) VO0_23.junk (runB c i M W h0 h1 x p).2.2.2.2.2.2.2.2.2.2.2.1)
  o24 := VO0_24.read (Elt F) (VO0_24.writes (Elt F) VO0_24.junk (runB c i M W h0 h1 x p).2.2.2.2.2.2.2.2.2.2.2.2.1)
  s0 := VS0_0.read (Elt F) (VS0_0.writes (Elt F) VS0_0.junk (runB c i M W h0 h1 x p).2.2.2.2.2.2.2.2.2.2.2.2.2.1)
  s1 := VS0_1.read (Elt F) (VS0_1.writes (Elt F) VS0_1.junk (runB c i M W h0 h1 x p).2.2.2.2.2.2.2.2.2.2.2.2.2.2.1)

theorem readsB (c : Dev nD) (i : grid0.Coords) (M : Mem) (W : M.Whole) (h0 : ¬cond0_0 i) (h1 : ¬cond0_1 i) (x : Blocks F) (p : Outs F) :
    Reads (runB c i M W h0 h1 x p).1 (stepB c i M W h0 h1 x p).o12 ∧
    Reads (runB c i M W h0 h1 x p).2.1 (stepB c i M W h0 h1 x p).o13 ∧
    Reads (runB c i M W h0 h1 x p).2.2.1 (stepB c i M W h0 h1 x p).o14 ∧
    Reads (runB c i M W h0 h1 x p).2.2.2.1 (stepB c i M W h0 h1 x p).o15 ∧
    Reads (runB c i M W h0 h1 x p).2.2.2.2.1 (stepB c i M W h0 h1 x p).o16 ∧
    Reads (runB c i M W h0 h1 x p).2.2.2.2.2.1 (stepB c i M W h0 h1 x p).o17 ∧
    Reads (runB c i M W h0 h1 x p).2.2.2.2.2.2.1 (stepB c i M W h0 h1 x p).o18 ∧
    Reads (runB c i M W h0 h1 x p).2.2.2.2.2.2.2.2.2.1 (stepB c i M W h0 h1 x p).o21 ∧
    Reads (runB c i M W h0 h1 x p).2.2.2.2.2.2.2.2.2.2.1 (stepB c i M W h0 h1 x p).o22 ∧
    Reads (runB c i M W h0 h1 x p).2.2.2.2.2.2.2.2.2.2.2.1 (stepB c i M W h0 h1 x p).o23 ∧
    Reads (runB c i M W h0 h1 x p).2.2.2.2.2.2.2.2.2.2.2.2.1 (stepB c i M W h0 h1 x p).o24 ∧
    Reads (runB c i M W h0 h1 x p).2.2.2.2.2.2.2.2.2.2.2.2.2.1 (stepB c i M W h0 h1 x p).s0 ∧
    Reads (runB c i M W h0 h1 x p).2.2.2.2.2.2.2.2.2.2.2.2.2.2.1 (stepB c i M W h0 h1 x p).s1 := by
  dsimp only [stepB]
  exact
  ⟨reads_of (View.cover_of_tiledL (runB c i M W h0 h1 x p).1 S256x1024.size (by sl_kernel_rfl)) VO0_12 _,
   reads_of (View.cover_of_tiledL (runB c i M W h0 h1 x p).2.1 S256x512.size (by sl_kernel_rfl)) VO0_13 _,
   reads_of (View.cover_of_tiledL (runB c i M W h0 h1 x p).2.2.1 S256x512.size (by sl_kernel_rfl)) VO0_14 _,
   reads_of (View.cover_of_tiledL (runB c i M W h0 h1 x p).2.2.2.1 S256x1024.size (by sl_kernel_rfl)) VO0_15 _,
   reads_of (View.cover_of_tiledL (runB c i M W h0 h1 x p).2.2.2.2.1 S256x512.size (by sl_kernel_rfl)) VO0_16 _,
   reads_of (View.cover_of_tiledL (runB c i M W h0 h1 x p).2.2.2.2.2.1 S256x128.size (by sl_kernel_rfl)) VO0_17 _,
   reads_of (View.cover_of_tiledL (runB c i M W h0 h1 x p).2.2.2.2.2.2.1 S8x256.size (by sl_kernel_rfl)) VO0_18 _,
   reads_of (View.cover_of_tiledL (runB c i M W h0 h1 x p).2.2.2.2.2.2.2.2.2.1 S1x1024.size (by sl_kernel_rfl)) VO0_21 _,
   reads_of (View.cover_of_tiledL (runB c i M W h0 h1 x p).2.2.2.2.2.2.2.2.2.2.1 S1x1024.size (by sl_kernel_rfl)) VO0_22 _,
   reads_of (View.cover_of_tiledL (runB c i M W h0 h1 x p).2.2.2.2.2.2.2.2.2.2.2.1 S1x512.size (by sl_kernel_rfl)) VO0_23 _,
   reads_of (View.cover_of_tiledL (runB c i M W h0 h1 x p).2.2.2.2.2.2.2.2.2.2.2.2.1 S1x128.size (by sl_kernel_rfl)) VO0_24 _,
   reads_of (View.cover_of_tiledL (runB c i M W h0 h1 x p).2.2.2.2.2.2.2.2.2.2.2.2.2.1 S1024x1024.size (by sl_kernel_rfl)) VS0_0 _,
   reads_of (View.cover_of_tiledL (runB c i M W h0 h1 x p).2.2.2.2.2.2.2.2.2.2.2.2.2.2.1 S1024x512.size (by sl_kernel_rfl)) VS0_1 _⟩

/-! ## Case C -/

/-- The run of case C at the references `M` and the blocks `x`, over what the point before left. -/
abbrev runC (c : Dev nD) (i : grid0.Coords) (M : Mem) (W : M.Whole) (h0 : ¬cond0_0 i) (h1 : cond0_1 i) (x : Blocks F) (p : Outs F) :=
  kernelRun0_C (F := F) c i M.a1 W.h1 M.a2 W.h2 M.a3 W.h3 M.a4 W.h4 M.a5 W.h5 M.a6 W.h6 M.a7 W.h7 M.a8 W.h8 M.a9 W.h9 M.a10 W.h10 M.a11 W.h11 M.a12
      W.h12 M.a13 W.h13 M.a14 W.h14 M.a15 W.h15 M.a16 W.h16 M.a17 W.h17 M.a18 W.h18 M.a19 W.h19 M.a20 W.h20 M.a21 W.h21 M.a22 W.h22 M.a23 W.h23 M.a24
      W.h24 M.a25 W.h25 M.a26 W.h26 M.a27 W.h27 h0 h1 x.x0 x.x1 x.x2 x.x3 x.x4 x.x5 x.x6 x.x7 x.x8 x.x9 x.x10 x.x11 p.o21 p.o22 p.o23 p.o24 p.s0 p.s1

/-- What case C leaves. -/
def stepC (c : Dev nD) (i : grid0.Coords) (M : Mem) (W : M.Whole) (h0 : ¬cond0_0 i) (h1 : cond0_1 i) (x : Blocks F) (p : Outs F) : Outs F where
  o12 := VO0_12.read (Elt F) (VO0_12.writes (Elt F) VO0_12.junk (runC c i M W h0 h1 x p).1)
  o13 := VO0_13.read (Elt F) (VO0_13.writes (Elt F) VO0_13.junk (runC c i M W h0 h1 x p).2.1)
  o14 := VO0_14.read (Elt F) (VO0_14.writes (Elt F) VO0_14.junk (runC c i M W h0 h1 x p).2.2.1)
  o15 := VO0_15.read (Elt F) (VO0_15.writes (Elt F) VO0_15.junk (runC c i M W h0 h1 x p).2.2.2.1)
  o16 := VO0_16.read (Elt F) (VO0_16.writes (Elt F) VO0_16.junk (runC c i M W h0 h1 x p).2.2.2.2.1)
  o17 := VO0_17.read (Elt F) (VO0_17.writes (Elt F) VO0_17.junk (runC c i M W h0 h1 x p).2.2.2.2.2.1)
  o18 := VO0_18.read (Elt F) (VO0_18.writes (Elt F) VO0_18.junk (runC c i M W h0 h1 x p).2.2.2.2.2.2.1)
  o19 := VO0_19.read (Elt F) (VO0_19.writes (Elt F) VO0_19.junk (runC c i M W h0 h1 x p).2.2.2.2.2.2.2.1)
  o20 := VO0_20.read (Elt F) (VO0_20.writes (Elt F) VO0_20.junk (runC c i M W h0 h1 x p).2.2.2.2.2.2.2.2.1)
  o21 := VO0_21.read (Elt F) (VO0_21.writes (Elt F) VO0_21.junk (runC c i M W h0 h1 x p).2.2.2.2.2.2.2.2.2.1)
  o22 := VO0_22.read (Elt F) (VO0_22.writes (Elt F) VO0_22.junk (runC c i M W h0 h1 x p).2.2.2.2.2.2.2.2.2.2.1)
  o23 := VO0_23.read (Elt F) (VO0_23.writes (Elt F) VO0_23.junk (runC c i M W h0 h1 x p).2.2.2.2.2.2.2.2.2.2.2.1)
  o24 := VO0_24.read (Elt F) (VO0_24.writes (Elt F) VO0_24.junk (runC c i M W h0 h1 x p).2.2.2.2.2.2.2.2.2.2.2.2.1)
  s0 := VS0_0.read (Elt F) (VS0_0.writes (Elt F) VS0_0.junk (runC c i M W h0 h1 x p).2.2.2.2.2.2.2.2.2.2.2.2.2.1)
  s1 := VS0_1.read (Elt F) (VS0_1.writes (Elt F) VS0_1.junk (runC c i M W h0 h1 x p).2.2.2.2.2.2.2.2.2.2.2.2.2.2.1)

theorem readsC (c : Dev nD) (i : grid0.Coords) (M : Mem) (W : M.Whole) (h0 : ¬cond0_0 i) (h1 : cond0_1 i) (x : Blocks F) (p : Outs F) :
    Reads (runC c i M W h0 h1 x p).1 (stepC c i M W h0 h1 x p).o12 ∧
    Reads (runC c i M W h0 h1 x p).2.1 (stepC c i M W h0 h1 x p).o13 ∧
    Reads (runC c i M W h0 h1 x p).2.2.1 (stepC c i M W h0 h1 x p).o14 ∧
    Reads (runC c i M W h0 h1 x p).2.2.2.1 (stepC c i M W h0 h1 x p).o15 ∧
    Reads (runC c i M W h0 h1 x p).2.2.2.2.1 (stepC c i M W h0 h1 x p).o16 ∧
    Reads (runC c i M W h0 h1 x p).2.2.2.2.2.1 (stepC c i M W h0 h1 x p).o17 ∧
    Reads (runC c i M W h0 h1 x p).2.2.2.2.2.2.1 (stepC c i M W h0 h1 x p).o18 ∧
    Reads (runC c i M W h0 h1 x p).2.2.2.2.2.2.2.1 (stepC c i M W h0 h1 x p).o19 ∧
    Reads (runC c i M W h0 h1 x p).2.2.2.2.2.2.2.2.1 (stepC c i M W h0 h1 x p).o20 ∧
    Reads (runC c i M W h0 h1 x p).2.2.2.2.2.2.2.2.2.1 (stepC c i M W h0 h1 x p).o21 ∧
    Reads (runC c i M W h0 h1 x p).2.2.2.2.2.2.2.2.2.2.1 (stepC c i M W h0 h1 x p).o22 ∧
    Reads (runC c i M W h0 h1 x p).2.2.2.2.2.2.2.2.2.2.2.1 (stepC c i M W h0 h1 x p).o23 ∧
    Reads (runC c i M W h0 h1 x p).2.2.2.2.2.2.2.2.2.2.2.2.1 (stepC c i M W h0 h1 x p).o24 ∧
    Reads (runC c i M W h0 h1 x p).2.2.2.2.2.2.2.2.2.2.2.2.2.1 (stepC c i M W h0 h1 x p).s0 ∧
    Reads (runC c i M W h0 h1 x p).2.2.2.2.2.2.2.2.2.2.2.2.2.2.1 (stepC c i M W h0 h1 x p).s1 := by
  dsimp only [stepC]
  exact
  ⟨reads_of (View.cover_of_tiledL (runC c i M W h0 h1 x p).1 S256x1024.size (by sl_kernel_rfl)) VO0_12 _,
   reads_of (View.cover_of_tiledL (runC c i M W h0 h1 x p).2.1 S256x512.size (by sl_kernel_rfl)) VO0_13 _,
   reads_of (View.cover_of_tiledL (runC c i M W h0 h1 x p).2.2.1 S256x512.size (by sl_kernel_rfl)) VO0_14 _,
   reads_of (View.cover_of_tiledL (runC c i M W h0 h1 x p).2.2.2.1 S256x1024.size (by sl_kernel_rfl)) VO0_15 _,
   reads_of (View.cover_of_tiledL (runC c i M W h0 h1 x p).2.2.2.2.1 S256x512.size (by sl_kernel_rfl)) VO0_16 _,
   reads_of (View.cover_of_tiledL (runC c i M W h0 h1 x p).2.2.2.2.2.1 S256x128.size (by sl_kernel_rfl)) VO0_17 _,
   reads_of (View.cover_of_tiledL (runC c i M W h0 h1 x p).2.2.2.2.2.2.1 S8x256.size (by sl_kernel_rfl)) VO0_18 _,
   reads_of (View.cover_of_tiledL (runC c i M W h0 h1 x p).2.2.2.2.2.2.2.1 S1024x1024.size (by sl_kernel_rfl)) VO0_19 _,
   reads_of (View.cover_of_tiledL (runC c i M W h0 h1 x p).2.2.2.2.2.2.2.2.1 S1024x1024.size (by sl_kernel_rfl)) VO0_20 _,
   reads_of (View.cover_of_tiledL (runC c i M W h0 h1 x p).2.2.2.2.2.2.2.2.2.1 S1x1024.size (by sl_kernel_rfl)) VO0_21 _,
   reads_of (View.cover_of_tiledL (runC c i M W h0 h1 x p).2.2.2.2.2.2.2.2.2.2.1 S1x1024.size (by sl_kernel_rfl)) VO0_22 _,
   reads_of (View.cover_of_tiledL (runC c i M W h0 h1 x p).2.2.2.2.2.2.2.2.2.2.2.1 S1x512.size (by sl_kernel_rfl)) VO0_23 _,
   reads_of (View.cover_of_tiledL (runC c i M W h0 h1 x p).2.2.2.2.2.2.2.2.2.2.2.2.1 S1x128.size (by sl_kernel_rfl)) VO0_24 _,
   reads_of (View.cover_of_tiledL (runC c i M W h0 h1 x p).2.2.2.2.2.2.2.2.2.2.2.2.2.1 S1024x1024.size (by sl_kernel_rfl)) VS0_0 _,
   reads_of (View.cover_of_tiledL (runC c i M W h0 h1 x p).2.2.2.2.2.2.2.2.2.2.2.2.2.2.1 S1024x512.size (by sl_kernel_rfl)) VS0_1 _⟩

end Cert.TailFrame

end
-- ==== Proof.Tail.Frame.lean ====
/- The tail kernel runs: the frame, from the three cases of its body. -/
module

public import proofs.«01_k».proof.Proof.Tail.Steps

@[expose] public section

set_option maxRecDepth 16384

noncomputable section

namespace Cert.TailFrame

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The twelve input blocks of point `t`. -/
abbrev blocks (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m
      c 10 t, iblk m c 11 t⟩

theorem first_not_last {t : Fin cfg0.N} (h : t.val = 0) : cond0_0 (grid0.coords t) ∧ ¬cond0_1 (grid0.coords t) :=
  ⟨(hcond0_0 t).mpr (by omega), fun e => by have := (hcond0_1 t).mp e; omega⟩

theorem not_first {t : Fin cfg0.N} (h : t.val ≠ 0) : ¬cond0_0 (grid0.coords t) := fun e => by
  have := (hcond0_0 t).mp e; have hN : t.val < 16 := lt_of_lt_of_eq t.isLt (show cfg0.N = 16 from N_0); omega

/-- What the outputs and the accumulators hold after point `n`: cleared at the first, then carried. -/
def outsAt (c : Dev nD) : (n : ℕ) → n < cfg0.N → Outs F
  | 0, hn => stepA c (grid0.coords ⟨0, hn⟩) (mem ⟨0, hn⟩) (mem_whole _) (first_not_last (t := ⟨0, hn⟩) rfl).1 (first_not_last (t := ⟨0, hn⟩) rfl).2
      (blocks m c ⟨0, hn⟩)
  | n + 1, hn =>
    if h1 : cond0_1 (grid0.coords ⟨n + 1, hn⟩) then
      stepC c (grid0.coords ⟨n + 1, hn⟩) (mem ⟨n + 1, hn⟩) (mem_whole _) (not_first (Nat.succ_ne_zero n)) h1 (blocks m c ⟨n + 1, hn⟩)
        (outsAt c n (Nat.lt_of_succ_lt hn))
    else
      stepB c (grid0.coords ⟨n + 1, hn⟩) (mem ⟨n + 1, hn⟩) (mem_whole _) (not_first (Nat.succ_ne_zero n)) h1 (blocks m c ⟨n + 1, hn⟩)
        (outsAt c n (Nat.lt_of_succ_lt hn))

/-- What the point before `t` left. -/
abbrev prev (c : Dev nD) (t : Fin cfg0.N) : Outs F :=
  outsAt m c (t.val - 1) (Nat.lt_of_le_of_lt (Nat.sub_le _ _) t.isLt)

theorem outsAt_A (c : Dev nD) (t : Fin cfg0.N) (h : t.val = 0) :
    outsAt m c t.val t.isLt = stepA c (grid0.coords t) (mem t) (mem_whole t) (first_not_last h).1 (first_not_last h).2 (blocks m c t) := by
  obtain ⟨n, hn⟩ := t
  cases n with
  | zero => exact outsAt.eq_1 ..
  | succ n => exact absurd h (Nat.succ_ne_zero n)

theorem outsAt_B (c : Dev nD) (t : Fin cfg0.N) (h : t.val ≠ 0) (h1 : ¬cond0_1 (grid0.coords t)) :
    outsAt m c t.val t.isLt = stepB c (grid0.coords t) (mem t) (mem_whole t) (not_first h) h1 (blocks m c t) (prev m c t) := by
  obtain ⟨n, hn⟩ := t
  cases n with
  | zero => exact absurd rfl h
  | succ n => exact (outsAt.eq_2 ..).trans (dif_neg h1)

theorem outsAt_C (c : Dev nD) (t : Fin cfg0.N) (h : t.val ≠ 0) (h1 : cond0_1 (grid0.coords t)) :
    outsAt m c t.val t.isLt = stepC c (grid0.coords t) (mem t) (mem_whole t) (not_first h) h1 (blocks m c t) (prev m c t) := by
  obtain ⟨n, hn⟩ := t
  cases n with
  | zero => exact absurd rfl h
  | succ n => exact (outsAt.eq_2 ..).trans (dif_pos h1)

/-- The accumulators at given contents, and the generator's register. -/
abbrev held (c : Dev nD) (a b : Vec F S1024x1024 .f32) : sProp 𝕄 :=
  iprop(iprop(owns (c : Thread nD τ) scM0_0 fullShare a ∗ owns (c : Thread nD τ) scM0_1 fullShare b) ∗ (∃ r, prngReg c r))

/-- The region's invariant before point `n`: the accumulators at anything before the first, then at what the point
    before left. -/
def PhiS (c : Dev nD) : (n : ℕ) → n ≤ cfg0.N → sProp 𝕄
  | 0, _ => Pipeline.ΦA spec0 c
  | n + 1, hn => held c (outsAt m c n hn).s0 (outsAt m c n hn).s1

theorem PhiS_pos (c : Dev nD) (n : ℕ) (h : n ≤ cfg0.N) (hz : n ≠ 0) :
    PhiS m c n h = held c (outsAt m c (n - 1) (by omega)).s0 (outsAt m c (n - 1) (by omega)).s1 := by
  cases n with
  | zero => exact absurd rfl hz
  | succ n => rfl

theorem PhiS_zero (c : Dev nD) (n : ℕ) (h : n ≤ cfg0.N) (hz : n = 0) : PhiS m c n h = Pipeline.ΦA spec0 c := by
  subst hz; rfl

/-- The pipeline's data: the arrays as the region finds them, each input's buffer at its block and each output's at
    `outsAt`, the invariant `PhiS`, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).o12
    | ⟨13, _⟩ => (outsAt m c t.val t.isLt).o13
    | ⟨14, _⟩ => (outsAt m c t.val t.isLt).o14
    | ⟨15, _⟩ => (outsAt m c t.val t.isLt).o15
    | ⟨16, _⟩ => (outsAt m c t.val t.isLt).o16
    | ⟨17, _⟩ => (outsAt m c t.val t.isLt).o17
    | ⟨18, _⟩ => (outsAt m c t.val t.isLt).o18
    | ⟨19, _⟩ => (outsAt m c t.val t.isLt).o19
    | ⟨20, _⟩ => (outsAt m c t.val t.isLt).o20
    | ⟨21, _⟩ => (outsAt m c t.val t.isLt).o21
    | ⟨22, _⟩ => (outsAt m c t.val t.isLt).o22
    | ⟨23, _⟩ => (outsAt m c t.val t.isLt).o23
    | ⟨24, _⟩ => (outsAt m c t.val t.isLt).o24
    | ⟨_ + 25, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-! ## The buffers before the body -/

theorem before0 (c : Dev nD) (t : Fin cfg0.N) (d) : (dats m 0 c).before 0 t d = iblk m c 0 t :=
  before0_0_of m (dats m 0 c) (A_eq m c 0) (fun t => by dsimp only [dats]) t d
theorem before1 (c : Dev nD) (t : Fin cfg0.N) (d) : (dats m 0 c).before 1 t d = iblk m c 1 t :=
  before0_1_of m (dats m 0 c) (A_eq m c 1) (fun t => by dsimp only [dats]) t d
theorem before2 (c : Dev nD) (t : Fin cfg0.N) (d) : (dats m 0 c).before 2 t d = iblk m c 2 t :=
  before0_2_of m (dats m 0 c) (A_eq m c 2) (fun t => by dsimp only [dats]) t d
theorem before3 (c : Dev nD) (t : Fin cfg0.N) (d) : (dats m 0 c).before 3 t d = iblk m c 3 t :=
  before0_3_of m (dats m 0 c) (A_eq m c 3) (fun t => by dsimp only [dats]) t d
theorem before4 (c : Dev nD) (t : Fin cfg0.N) (d) : (dats m 0 c).before 4 t d = iblk m c 4 t :=
  before0_4_of m (dats m 0 c) (A_eq m c 4) (fun t => by dsimp only [dats]) t d
theorem before5 (c : Dev nD) (t : Fin cfg0.N) (d) : (dats m 0 c).before 5 t d = iblk m c 5 t :=
  before0_5_of m (dats m 0 c) (A_eq m c 5) (fun t => by dsimp only [dats]) t d
theorem before6 (c : Dev nD) (t : Fin cfg0.N) (d) : (dats m 0 c).before 6 t d = iblk m c 6 t :=
  before0_6_of m (dats m 0 c) (A_eq m c 6) (fun t => by dsimp only [dats]) t d
theorem before7 (c : Dev nD) (t : Fin cfg0.N) (d) : (dats m 0 c).before 7 t d = iblk m c 7 t :=
  before0_7_of m (dats m 0 c) (A_eq m c 7) (fun t => by dsimp only [dats]) t d
theorem before8 (c : Dev nD) (t : Fin cfg0.N) (d) : (dats m 0 c).before 8 t d = iblk m c 8 t :=
  before0_8_of m (dats m 0 c) (A_eq m c 8) (fun t => by dsimp only [dats]) t d
theorem before9 (c : Dev nD) (t : Fin cfg0.N) (d) : (dats m 0 c).before 9 t d = iblk m c 9 t :=
  before0_9_of m (dats m 0 c) (A_eq m c 9) (fun t => by dsimp only [dats]) t d
theorem before10 (c : Dev nD) (t : Fin cfg0.N) (d) : (dats m 0 c).before 10 t d = iblk m c 10 t :=
  before0_10_of m (dats m 0 c) (A_eq m c 10) (fun t => by dsimp only [dats]) t d
theorem before11 (c : Dev nD) (t : Fin cfg0.N) (d) : (dats m 0 c).before 11 t d = iblk m c 11 t :=
  before0_11_of m (dats m 0 c) (A_eq m c 11) (fun t => by dsimp only [dats]) t d
theorem before21 (c : Dev nD) (t : Fin cfg0.N) (h : t.val ≠ 0) (d) : (dats m 0 c).before 21 t d = (prev m c t).o21 := by
  have hN : t.val < 16 := lt_of_lt_of_eq t.isLt (show cfg0.N = 16 from N_0)
  rw [Dat.before_out_kept _ 21 rfl t (by omega)
    (Bool.eq_false_iff.mpr fun h => by have := (flush0_21 _).mp h; dsimp only at this; omega) (fun _ => rfl) (fun _ _ => rfl)]
  dsimp only [dats]
theorem before22 (c : Dev nD) (t : Fin cfg0.N) (h : t.val ≠ 0) (d) : (dats m 0 c).before 22 t d = (prev m c t).o22 := by
  have hN : t.val < 16 := lt_of_lt_of_eq t.isLt (show cfg0.N = 16 from N_0)
  rw [Dat.before_out_kept _ 22 rfl t (by omega)
    (Bool.eq_false_iff.mpr fun h => by have := (flush0_22 _).mp h; dsimp only at this; omega) (fun _ => rfl) (fun _ _ => rfl)]
  dsimp only [dats]
theorem before23 (c : Dev nD) (t : Fin cfg0.N) (h : t.val ≠ 0) (d) : (dats m 0 c).before 23 t d = (prev m c t).o23 := by
  have hN : t.val < 16 := lt_of_lt_of_eq t.isLt (show cfg0.N = 16 from N_0)
  rw [Dat.before_out_kept _ 23 rfl t (by omega)
    (Bool.eq_false_iff.mpr fun h => by have := (flush0_23 _).mp h; dsimp only at this; omega) (fun _ => rfl) (fun _ _ => rfl)]
  dsimp only [dats]
theorem before24 (c : Dev nD) (t : Fin cfg0.N) (h : t.val ≠ 0) (d) : (dats m 0 c).before 24 t d = (prev m c t).o24 := by
  have hN : t.val < 16 := lt_of_lt_of_eq t.isLt (show cfg0.N = 16 from N_0)
  rw [Dat.before_out_kept _ 24 rfl t (by omega)
    (Bool.eq_false_iff.mpr fun h => by have := (flush0_24 _).mp h; dsimp only at this; omega) (fun _ => rfl) (fun _ _ => rfl)]
  dsimp only [dats]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- What it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0
        c).leavesExact 4 t ∗ (dats m 0 c).leavesExact 5 t ∗ (dats m 0 c).leavesExact 6 t ∗ (dats m 0 c).leavesExact 7 t ∗ (dats m 0 c).leavesExact 8
        t ∗ (dats m 0 c).leavesExact 9 t ∗ (dats m 0 c).leavesExact 10 t ∗ (dats m 0 c).leavesExact 11 t ∗ (dats m 0 c).leavesExact 12 t ∗ (dats m 0
        c).leavesExact 13 t ∗ (dats m 0 c).leavesExact 14 t ∗ (dats m 0 c).leavesExact 15 t ∗ (dats m 0 c).leavesExact 16 t ∗ (dats m 0
        c).leavesExact 17 t ∗ (dats m 0 c).leavesExact 18 t ∗ (dats m 0 c).leavesExact 19 t ∗ (dats m 0 c).leavesExact 20 t ∗ (dats m 0
        c).leavesExact 21 t ∗ (dats m 0 c).leavesExact 22 t ∗ (dats m 0 c).leavesExact 23 t ∗ (dats m 0 c).leavesExact 24 t)

/-- The same, with the buffers that are handed back at every point at their contents `v`. -/
def postOf (c : Dev nD) (t : Fin cfg0.N) (v : Outs F) (P19 P20 : sProp 𝕄) : sProp 𝕄 :=
  iprop(held c v.s0 v.s1 ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare v.o12
    ∗ owns (c : Thread nD τ) (ms0_13 t) fullShare v.o13
    ∗ owns (c : Thread nD τ) (ms0_14 t) fullShare v.o14
    ∗ owns (c : Thread nD τ) (ms0_15 t) fullShare v.o15
    ∗ owns (c : Thread nD τ) (ms0_16 t) fullShare v.o16
    ∗ owns (c : Thread nD τ) (ms0_17 t) fullShare v.o17
    ∗ owns (c : Thread nD τ) (ms0_18 t) fullShare v.o18
    ∗ P19
    ∗ P20
    ∗ owns (c : Thread nD τ) (ms0_21 t) fullShare v.o21
    ∗ owns (c : Thread nD τ) (ms0_22 t) fullShare v.o22
    ∗ owns (c : Thread nD τ) (ms0_23 t) fullShare v.o23
    ∗ owns (c : Thread nD τ) (ms0_24 t) fullShare v.o24)

/-- A window that is never idle is handed back at its contents. -/
theorem leaves {c : Dev nD} {t : Fin cfg0.N} (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 1600000 in
theorem bodyPost_eq (c : Dev nD) (t : Fin cfg0.N) :
    bodyPost m c t = postOf m c t (outsAt m c t.val t.isLt) ((dats m 0 c).leavesExact 19 t) ((dats m 0 c).leavesExact 20 t) := by
  unfold bodyPost postOf
  rw [leaves m 0 rfl, leaves m 1 rfl, leaves m 2 rfl, leaves m 3 rfl, leaves m 4 rfl, leaves m 5 rfl, leaves m 6 rfl, leaves m 7 rfl, leaves m 8 rfl,
      leaves m 9 rfl, leaves m 10 rfl, leaves m 11 rfl, leaves m 12 rfl, leaves m 13 rfl, leaves m 14 rfl, leaves m 15 rfl, leaves m 16 rfl, leaves m
      17 rfl, leaves m 18 rfl, leaves m 21 rfl, leaves m 22 rfl, leaves m 23 rfl, leaves m 24 rfl]
  rfl

/-- A buffer whose stores read as `X` holds `X`. -/
theorem own_of {c : Dev nD} {S : Shape} {e : EltTy} {a : Memref sig .tc .vmem S e} {L : List (View.Piece (Elt F) S e)} {X : Vec F S e} (h : Reads L X) :
    iprop(∃ f, a.view.loc (c : Thread nD τ) ↦[a.view.set]{fullShare} a.view.writes (Elt F) f L) ⊢ (owns (c : Thread nD τ) a fullShare X : sProp 𝕄) := by
  iintro ⟨%f, H⟩
  unfold owns; iexists _; isplitr
  swap; · iexact H
  ipureintro; exact h _ _ _ _

set_option maxHeartbeats 2000000 in
theorem bodyA (c : Dev nD) (t : Fin cfg0.N) (h : t.val = 0) :
    bodyPre m c t ⊢ wp frame (wpE (defs₀ (F := F)) Variants.none c none) Set.univ (bodyAt0 t) (fun _ => bodyPost m c t) := by
  rw [bodyPost_eq, outsAt_A m c t h]
  rw [Dat.leavesExact_idle (dats m 0 c) 19 t (idleAt0_19_A t (first_not_last h).1 (first_not_last h).2) (noFlush0_19_A t (first_not_last h).1
      (first_not_last h).2),
    Dat.leavesExact_idle (dats m 0 c) 20 t (idleAt0_20_A t (first_not_last h).1 (first_not_last h).2) (noFlush0_20_A t (first_not_last h).1
        (first_not_last h).2)]
  unfold bodyPre postOf bodyAt0 held
  simp only [before0, before1, before2, before3, before4, before5, before6, before7, before8, before9, before10, before11]
  rw [PhiS_castSucc m c t, PhiS_zero m c _ _ h, PhiA0_eq]
  have cov := readsA (F := F) c (grid0.coords t) (mem t) (mem_whole t) (first_not_last h).1 (first_not_last h).2 (blocks m c t)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10,
      H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21,
      H21⟩, ⟨%d22, H22⟩, ⟨%d23, H23⟩, ⟨%d24, H24⟩⟩
  iapply ((runA (F := F) c (grid0.coords t) (mem t) (mem_whole t) (first_not_last h).1 (first_not_last h).2 (blocks m c
      t)).2.2.2.2.2.2.2.2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [HS0]; · iexact HS0
  isplitl [HS1]; · iexact HS1
  iintro ⟨H0, H1, H2, H3, H4, H5, H6, H7, H8, H9, H10, H11, H12, H13, H14, H15, H16, H17, H18, H19, H20, H21, H22, H23, H24, HS0, HS1⟩
  isplitl [HS0 HS1 Hg]
  · isplitl [HS0 HS1]
    · isplitl [HS0]
      · iapply (own_of cov.2.2.2.2.2.2.2.2.2.2.2.1); iexact HS0
      iapply (own_of cov.2.2.2.2.2.2.2.2.2.2.2.2); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (own_of cov.1); iexact H12
  isplitl [H13]; · iapply (own_of cov.2.1); iexact H13
  isplitl [H14]; · iapply (own_of cov.2.2.1); iexact H14
  isplitl [H15]; · iapply (own_of cov.2.2.2.1); iexact H15
  isplitl [H16]; · iapply (own_of cov.2.2.2.2.1); iexact H16
  isplitl [H17]; · iapply (own_of cov.2.2.2.2.2.1); iexact H17
  isplitl [H18]; · iapply (own_of cov.2.2.2.2.2.2.1); iexact H18
  isplitl [H19]; · iexists _; iexact H19
  isplitl [H20]; · iexists _; iexact H20
  isplitl [H21]; · iapply (own_of cov.2.2.2.2.2.2.2.1); iexact H21
  isplitl [H22]; · iapply (own_of cov.2.2.2.2.2.2.2.2.1); iexact H22
  isplitl [H23]; · iapply (own_of cov.2.2.2.2.2.2.2.2.2.1); iexact H23
  iapply (own_of cov.2.2.2.2.2.2.2.2.2.2.1); iexact H24

set_option maxHeartbeats 2000000 in
theorem bodyB (c : Dev nD) (t : Fin cfg0.N) (h : t.val ≠ 0) (h1 : ¬cond0_1 (grid0.coords t)) :
    bodyPre m c t ⊢ wp frame (wpE (defs₀ (F := F)) Variants.none c none) Set.univ (bodyAt0 t) (fun _ => bodyPost m c t) := by
  rw [bodyPost_eq, outsAt_B m c t h h1]
  rw [Dat.leavesExact_idle (dats m 0 c) 19 t (idleAt0_19_B t (not_first h) h1) (noFlush0_19_B t (not_first h) h1),
    Dat.leavesExact_idle (dats m 0 c) 20 t (idleAt0_20_B t (not_first h) h1) (noFlush0_20_B t (not_first h) h1)]
  unfold bodyPre postOf bodyAt0 held
  simp only [before0, before1, before2, before3, before4, before5, before6, before7, before8, before9, before10, before11]
  rw [PhiS_castSucc m c t, PhiS_pos m c _ _ h]
  simp only [before21 m c t h, before22 m c t h, before23 m c t h, before24 m c t h]
  have cov := readsB (F := F) c (grid0.coords t) (mem t) (mem_whole t) (not_first h) h1 (blocks m c t) (prev m c t)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10,
      H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21,
      H21⟩, ⟨%d22, H22⟩, ⟨%d23, H23⟩, ⟨%d24, H24⟩⟩
  iapply ((runB (F := F) c (grid0.coords t) (mem t) (mem_whole t) (not_first h) h1 (blocks m c t) (prev m c t)).2.2.2.2.2.2.2.2.2.2.2.2.2.2.2 _ _
      Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexact H19
  isplitl [H20]; · iexact H20
  isplitl [H21]; · iexact H21
  isplitl [H22]; · iexact H22
  isplitl [H23]; · iexact H23
  isplitl [H24]; · iexact H24
  isplitl [HS0]; · iexact HS0
  isplitl [HS1]; · iexact HS1
  iintro ⟨H0, H1, H2, H3, H4, H5, H6, H7, H8, H9, H10, H11, H12, H13, H14, H15, H16, H17, H18, H19, H20, H21, H22, H23, H24, HS0, HS1⟩
  isplitl [HS0 HS1 Hg]
  · isplitl [HS0 HS1]
    · isplitl [HS0]
      · iapply (own_of cov.2.2.2.2.2.2.2.2.2.2.2.1); iexact HS0
      iapply (own_of cov.2.2.2.2.2.2.2.2.2.2.2.2); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (own_of cov.1); iexact H12
  isplitl [H13]; · iapply (own_of cov.2.1); iexact H13
  isplitl [H14]; · iapply (own_of cov.2.2.1); iexact H14
  isplitl [H15]; · iapply (own_of cov.2.2.2.1); iexact H15
  isplitl [H16]; · iapply (own_of cov.2.2.2.2.1); iexact H16
  isplitl [H17]; · iapply (own_of cov.2.2.2.2.2.1); iexact H17
  isplitl [H18]; · iapply (own_of cov.2.2.2.2.2.2.1); iexact H18
  isplitl [H19]; · iexists _; iexact H19
  isplitl [H20]; · iexists _; iexact H20
  isplitl [H21]; · iapply (own_of cov.2.2.2.2.2.2.2.1); iexact H21
  isplitl [H22]; · iapply (own_of cov.2.2.2.2.2.2.2.2.1); iexact H22
  isplitl [H23]; · iapply (own_of cov.2.2.2.2.2.2.2.2.2.1); iexact H23
  iapply (own_of cov.2.2.2.2.2.2.2.2.2.2.1); iexact H24

set_option maxHeartbeats 2000000 in
theorem bodyC (c : Dev nD) (t : Fin cfg0.N) (h : t.val ≠ 0) (h1 : cond0_1 (grid0.coords t)) :
    bodyPre m c t ⊢ wp frame (wpE (defs₀ (F := F)) Variants.none c none) Set.univ (bodyAt0 t) (fun _ => bodyPost m c t) := by
  rw [bodyPost_eq, outsAt_C m c t h h1]
  rw [leaves m 19 (liveAt0_19_C t (not_first h) h1), leaves m 20 (liveAt0_20_C t (not_first h) h1)]
  rw [show (dats m 0 c).after 19 t = (outsAt m c t.val t.isLt).o19 by dsimp only [dats],
    show (dats m 0 c).after 20 t = (outsAt m c t.val t.isLt).o20 by dsimp only [dats], outsAt_C m c t h h1]
  unfold bodyPre postOf bodyAt0 held
  simp only [before0, before1, before2, before3, before4, before5, before6, before7, before8, before9, before10, before11]
  rw [PhiS_castSucc m c t, PhiS_pos m c _ _ h]
  simp only [before21 m c t h, before22 m c t h, before23 m c t h, before24 m c t h]
  have cov := readsC (F := F) c (grid0.coords t) (mem t) (mem_whole t) (not_first h) h1 (blocks m c t) (prev m c t)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10,
      H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21,
      H21⟩, ⟨%d22, H22⟩, ⟨%d23, H23⟩, ⟨%d24, H24⟩⟩
  iapply ((runC (F := F) c (grid0.coords t) (mem t) (mem_whole t) (not_first h) h1 (blocks m c t) (prev m c t)).2.2.2.2.2.2.2.2.2.2.2.2.2.2.2
      Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexact H21
  isplitl [H22]; · iexact H22
  isplitl [H23]; · iexact H23
  isplitl [H24]; · iexact H24
  isplitl [HS0]; · iexact HS0
  isplitl [HS1]; · iexact HS1
  iintro ⟨H0, H1, H2, H3, H4, H5, H6, H7, H8, H9, H10, H11, H12, H13, H14, H15, H16, H17, H18, H19, H20, H21, H22, H23, H24, HS0, HS1⟩
  isplitl [HS0 HS1 Hg]
  · isplitl [HS0 HS1]
    · isplitl [HS0]
      · iapply (own_of cov.2.2.2.2.2.2.2.2.2.2.2.2.2.1); iexact HS0
      iapply (own_of cov.2.2.2.2.2.2.2.2.2.2.2.2.2.2); iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (own_of cov.1); iexact H12
  isplitl [H13]; · iapply (own_of cov.2.1); iexact H13
  isplitl [H14]; · iapply (own_of cov.2.2.1); iexact H14
  isplitl [H15]; · iapply (own_of cov.2.2.2.1); iexact H15
  isplitl [H16]; · iapply (own_of cov.2.2.2.2.1); iexact H16
  isplitl [H17]; · iapply (own_of cov.2.2.2.2.2.1); iexact H17
  isplitl [H18]; · iapply (own_of cov.2.2.2.2.2.2.1); iexact H18
  isplitl [H19]; · iapply (own_of cov.2.2.2.2.2.2.2.1); iexact H19
  isplitl [H20]; · iapply (own_of cov.2.2.2.2.2.2.2.2.1); iexact H20
  isplitl [H21]; · iapply (own_of cov.2.2.2.2.2.2.2.2.2.1); iexact H21
  isplitl [H22]; · iapply (own_of cov.2.2.2.2.2.2.2.2.2.2.1); iexact H22
  isplitl [H23]; · iapply (own_of cov.2.2.2.2.2.2.2.2.2.2.2.1); iexact H23
  iapply (own_of cov.2.2.2.2.2.2.2.2.2.2.2.2.1); iexact H24

theorem sound_body (c : Dev nD) (t : Fin cfg0.N) :
    bodyPre m c t ⊢ wp frame (wpE (defs₀ (F := F)) Variants.none c none) Set.univ (bodyAt0 t) (fun _ => bodyPost m c t) := by
  by_cases h : t.val = 0
  · exact bodyA m c t h
  · by_cases h1 : cond0_1 (grid0.coords t)
    · exact bodyC m c t h h1
    · exact bodyB m c t h h1

/-! ## The launch -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_around_track_shared`'s implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀
    cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0
    m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.TailFrame

end
-- ==== Proof.Tail.Bits.lean ====
/- The run of the tail on the float encodings: the same program text, so the same run. -/
module

public import proofs.«01_k».proof.Defs
public import proofs.«01_k».proof.Proof.Gen.Tail
public import proofs.«01_k».proof.Proof.Tail.Frame

@[expose] public section

set_option maxRecDepth 16384

namespace Cert.TailFrame

open Idealize.ShloMosaic Idealize.ShloMosaic.TcCoe Idealize.ShloMosaic.Tactic

set_option maxHeartbeats 2000000 in
theorem frameBits : Cert.quiescent_Tail := fun m ρ _ => cast (by sl_kernel_rfl) (frame (F := Bits) m ρ)

end Cert.TailFrame

end
-- ==== Proof.Tail.Spec.lean ====
/- One row of the layer's tail, forward to the error and back, over the extended reals. -/
module

public import Idealize.ShloMosaic.PureOps.Ideal.Laws

@[expose] public section

noncomputable section

namespace Cert.Tail

open Idealize.ShloMosaic

/-- A row of the inputs: the residual, the target, the two mixers' outputs, their gates before SiLU, the merge gates before the sigmoid. -/
structure Row where
  x : Fin 1024 → EReal
  y : Fin 1024 → EReal
  oa : Fin 512 → EReal
  o : Fin 512 → EReal
  za : Fin 512 → EReal
  zr : Fin 512 → EReal
  gl : Fin 2048 → EReal

/-- What all rows share: the residual's gate, the gains of the two norms, the two branch projections and the output projection. -/
structure Wts where
  gate : Fin 1024 → EReal
  gp : Fin 1024 → EReal
  gn : Fin 512 → EReal
  wa : Fin 1024 → Fin 512 → EReal
  wr : Fin 1024 → Fin 512 → EReal
  wo : Fin 1024 → Fin 1024 → EReal

/-- The constants `128`, `1024`, `1/1024` and the norms' small constant, as the programs spell them. -/

abbrev c128 : EReal := Ideal.ofBits .f32 0x43000000#32
abbrev c1024 : EReal := Ideal.ofBits .f32 0x44800000#32
abbrev inv1024 : EReal := Ideal.ofBits .f32 0x3A800000#32
abbrev half1024 : EReal := Ideal.ofBits .f32 0x3A000000#32
abbrev small : EReal := Ideal.ofBits .f32 0x358637BD#32

/-- The logistic function, and the derivative of `z · lg z`. -/
def lg (z : EReal) : EReal := Ideal.div 1 (1 + Ideal.exp (0 - z))
def dsilu (z : EReal) : EReal := lg z * (1 + z * (1 - lg z))

/-- Lane `d` of head `h`, and the head of a lane. -/
def lane (h : Fin 4) (d : Fin 128) : Fin 512 := ⟨128 * h.val + d.val, by omega⟩
def hd (l : Fin 512) : Fin 4 := ⟨l.val / 128, by omega⟩
def lane64 (h : Fin 8) (d : Fin 64) : Fin 512 := ⟨h.val * 64 + d.val, by omega⟩
/-- The lanes of the two merge gates, and lane `l` of block `b` of the model's 1024. -/
def lo (j : Fin 1024) : Fin 2048 := ⟨j.val, by omega⟩
def hi (j : Fin 1024) : Fin 2048 := ⟨1024 + j.val, by omega⟩
def blk (b : Fin 8) (l : Fin 128) : Fin 1024 := ⟨128 * b.val + l.val, by omega⟩

namespace Row
variable (R : Row) (W : Wts)

def ya (l : Fin 512) : EReal := R.oa l * (R.za l * lg (R.za l))
/-- The group norm of a head: centred, reciprocal root of the variance, normalised. -/
def cen (l : Fin 512) : EReal := R.o l - Ideal.div (∑ d, R.o (lane (hd l) d)) c128
def rs (h : Fin 4) : EReal := Ideal.rsqrt (Ideal.div (∑ d, R.cen (lane h d) * R.cen (lane h d)) c128 + small)
def on (l : Fin 512) : EReal := R.cen l * R.rs (hd l)
def yn (l : Fin 512) : EReal := R.on l * W.gn l
def yr (l : Fin 512) : EReal := R.yn W l * (R.zr l * lg (R.zr l))
def aA (j : Fin 1024) : EReal := ∑ l, R.ya l * W.wa j l
def aR (j : Fin 1024) : EReal := ∑ l, R.yr W l * W.wr j l
def gA (j : Fin 1024) : EReal := lg (R.gl (lo j))
def gR (j : Fin 1024) : EReal := lg (R.gl (hi j))
def mg (j : Fin 1024) : EReal := R.gA j * R.aA W j + R.gR j * R.aR W j
def u (j : Fin 1024) : EReal := ∑ k, R.mg W k * W.wo k j
def r : EReal := Ideal.rsqrt (Ideal.div (∑ j, R.u W j * R.u W j) c1024 + small)
def un (j : Fin 1024) : EReal := R.u W j * R.r W
def out (j : Fin 1024) : EReal := R.un W j * W.gp j
def err (j : Fin 1024) : EReal := R.x j + W.gate j * R.out W j - R.y j

/-- The gradients, from the residual's back to the inputs'. -/
def dout (j : Fin 1024) : EReal := R.err W j * inv1024
def dy (j : Fin 1024) : EReal := R.dout W j * W.gate j
def dn (j : Fin 1024) : EReal := R.dy W j * W.gp j
def dp (j : Fin 1024) : EReal := R.dn W j - R.un W j * Ideal.div (∑ k, R.dn W k * R.un W k) c1024
def du (j : Fin 1024) : EReal := R.r W * R.dp W j
def dm (k : Fin 1024) : EReal := ∑ j, R.du W j * W.wo k j
def dA (j : Fin 1024) : EReal := R.dm W j * R.gA j
def dR (j : Fin 1024) : EReal := R.dm W j * R.gR j
def dglA (j : Fin 1024) : EReal := R.dA W j * R.aA W j * (1 - R.gA j)
def dglR (j : Fin 1024) : EReal := R.dR W j * R.aR W j * (1 - R.gR j)
def dya (l : Fin 512) : EReal := ∑ j, R.dA W j * W.wa j l
def dyr (l : Fin 512) : EReal := ∑ j, R.dR W j * W.wr j l
def dza (l : Fin 512) : EReal := R.dya W l * R.oa l * dsilu (R.za l)
def doa (l : Fin 512) : EReal := R.dya W l * (R.za l * lg (R.za l))
def delta (h : Fin 8) : EReal := ∑ d, R.doa W (lane64 h d) * R.oa (lane64 h d)
def dzr (l : Fin 512) : EReal := R.dyr W l * R.yn W l * dsilu (R.zr l)
def dyn (l : Fin 512) : EReal := R.dyr W l * (R.zr l * lg (R.zr l))
def don (l : Fin 512) : EReal := R.dyn W l * W.gn l
def dor (l : Fin 512) : EReal :=
  R.rs (hd l) * (R.don W l - Ideal.div (∑ d, R.don W (lane (hd l) d)) c128
    - R.on l * Ideal.div (∑ d, R.don W (lane (hd l) d) * R.on (lane (hd l) d)) c128)

/-- What the row adds to the gradients of the weights, of the gate and the gains, and to its lane of the loss. -/
def gout (k j : Fin 1024) : EReal := R.mg W k * R.du W j
def gpa (j : Fin 1024) (l : Fin 512) : EReal := R.dA W j * R.ya l
def gpr (j : Fin 1024) (l : Fin 512) : EReal := R.dR W j * R.yr W l
def dgate (j : Fin 1024) : EReal := R.dout W j * R.out W j
def dgp (j : Fin 1024) : EReal := R.dy W j * R.un W j
def dgn (l : Fin 512) : EReal := R.dyn W l * R.on l
def sq (j : Fin 1024) : EReal := R.err W j * R.err W j

end Row
end Cert.Tail

end
-- ==== Proof.Tail.Stages.lean ====
/- Each step of the tail's body on a block of 256 rows, as the step of the row's equations. -/
module

public import proofs.«01_k».proof.Proof.Gen.TailIdeal.Skeleton
public import proofs.«01_k».proof.Proof.Tail.Spec
public import Idealize.ShloMosaic.Lib.Pointwise
public import Idealize.ShloMosaic.Lib.Pipeline.ValueKit

@[expose] public section

set_option maxRecDepth 16384

noncomputable section

namespace Cert.TailIdeal.Hand

open Cert.TailIdeal Cert.TailIdeal.Gen Cert.Tail Idealize.ShloMosaic Idealize.ShloMosaic.TcCoe Idealize.SL.Sem

/-- The matrix with the given entries. -/
def m2 {a b : ℕ} (f : Fin a → Fin b → EReal) (i : (⟨2, ![a, b]⟩ : Shape).Idx) : EReal := f (i 0) (i 1)
theorem m2_at {a b : ℕ} (f : Fin a → Fin b → EReal) (r : Fin a) (l : Fin b) : m2 f (ix2 r l) = f r l := rfl

theorem hd_lane (h : Fin 4) (d : Fin 128) : hd (lane h d) = h := Fin.ext (by show (128 * h.val + d.val) / 128 = h.val; omega)

theorem dor_lane (R : Row) (W : Wts) (h : Fin 4) (d : Fin 128) : R.dor W (lane h d)
    = R.rs h * (R.don W (lane h d) - Ideal.div (∑ d, R.don W (lane h d)) c128
      - R.on (lane h d) * Ideal.div (∑ d, R.don W (lane h d) * R.on (lane h d)) c128) := by
  unfold Row.dor
  rw [hd_lane]

variable (R : Fin 256 → Row) (W : Wts) (acc128 : Fin 128 → EReal) (acc512 : Fin 512 → EReal) (acc1024 : Fin 1024 → EReal)
  (accO : Fin 1024 → Fin 1024 → EReal) (accP : Fin 1024 → Fin 512 → EReal)

/-- What the block adds to a lane of the loss: the squares of its eight lanes of each row, halved and divided by 1024. -/
def lossTerm (l : Fin 128) : EReal :=
  half1024 * ((∑ r, (R r).sq W (blk 0 l)) + (∑ r, (R r).sq W (blk 1 l)) + (∑ r, (R r).sq W (blk 2 l)) + (∑ r, (R r).sq W (blk 3 l))
    + (∑ r, (R r).sq W (blk 4 l)) + (∑ r, (R r).sq W (blk 5 l)) + (∑ r, (R r).sq W (blk 6 l)) + ∑ r, (R r).sq W (blk 7 l))

/-- A quantity of each row of the block, as a matrix. -/
abbrev mx {b : ℕ} (f : Row → Fin b → EReal) : (⟨2, ![256, b]⟩ : Shape).Idx → EReal := m2 fun r => f (R r)
/-- … of the lanes of one head, and one number for each row. -/
abbrev mh (h : Fin 4) (f : Row → Fin 512 → EReal) : (⟨2, ![256, 128]⟩ : Shape).Idx → EReal := m2 fun r d => f (R r) (lane h d)
abbrev mc (f : Row → EReal) : (⟨2, ![256, 1]⟩ : Shape).Idx → EReal := m2 fun r (_ : Fin 1) => f (R r)
/-- A row vector. -/
abbrev mw {b : ℕ} (f : Fin b → EReal) : (⟨2, ![1, b]⟩ : Shape).Idx → EReal := m2 fun _ => f

theorem pay9 : k0_pay9 (F := Ideal) (mx R Row.oa) = mx R Row.oa := by
  funext i
  idx_vars i
  pointwise [k0_pay9, m2]
theorem pay10 : k0_pay10 (F := Ideal) (mx R Row.za) = mx R Row.za := by
  funext i
  idx_vars i
  pointwise [k0_pay10, m2]
theorem pay11 : k0_pay11 (F := Ideal) (mx R Row.zr) = mx R Row.zr := by
  funext i
  idx_vars i
  pointwise [k0_pay11, m2]
theorem pay12 : k0_pay12 (F := Ideal) (mx R Row.za) = mx R fun R l => lg (R.za l) := by
  funext i
  idx_vars i
  pointwise [k0_pay12, pay10, lg, m2]
theorem pay13 : k0_pay13 (F := Ideal) (mx R Row.zr) = mx R fun R l => lg (R.zr l) := by
  funext i
  idx_vars i
  pointwise [k0_pay13, pay11, lg, m2]
theorem pay14 : k0_pay14 (F := Ideal) (mx R Row.za) = mx R fun R l => R.za l * lg (R.za l) := by
  funext i
  idx_vars i
  pointwise [k0_pay14, pay10, pay12, m2]
theorem pay15 : k0_pay15 (F := Ideal) (mx R Row.zr) = mx R fun R l => R.zr l * lg (R.zr l) := by
  funext i
  idx_vars i
  pointwise [k0_pay15, pay11, pay13, m2]
theorem pay16 : k0_pay16 (F := Ideal) (mx R Row.oa) (mx R Row.za) = mx R Row.ya := by
  funext i
  idx_vars i
  pointwise [k0_pay16, pay9, pay14, Row.ya, m2]
theorem pay17 : k0_pay17 (F := Ideal) (mh R 0 Row.o) = mh R 0 Row.cen := by
  funext i
  idx_vars i
  pointwise [k0_pay17, Row.cen, hd_lane, m2]
theorem pay18 : k0_pay18 (F := Ideal) (mh R 0 Row.o) = mc R fun R => ∑ d, R.cen (lane 0 d) * R.cen (lane 0 d) := by
  funext i
  idx_vars i
  pointwise [k0_pay18, pay17, m2]
theorem pay19 : k0_pay19 (F := Ideal) (mc R fun R => ∑ d, R.cen (lane 0 d) * R.cen (lane 0 d)) c128 = mc R fun R => R.rs 0 := by
  funext i
  idx_vars i
  pointwise [k0_pay19, Row.rs, m2]
theorem pay20 : k0_pay20 (F := Ideal) (mh R 0 Row.cen) (mc R fun R => ∑ d, R.cen (lane 0 d) * R.cen (lane 0 d)) c128 = mh R 0 Row.on := by
  funext i
  idx_vars i
  pointwise [k0_pay20, pay19, Row.on, hd_lane, m2]
theorem pay21 : k0_pay21 (F := Ideal) (mh R 1 Row.o) = mh R 1 Row.cen := by
  funext i
  idx_vars i
  pointwise [k0_pay21, Row.cen, hd_lane, m2]
theorem pay22 : k0_pay22 (F := Ideal) (mh R 1 Row.o) = mc R fun R => R.rs 1 := by
  funext i
  idx_vars i
  pointwise [k0_pay22, pay21, Row.rs, m2]
theorem pay23 : k0_pay23 (F := Ideal) (mh R 1 Row.o) = mh R 1 Row.on := by
  funext i
  idx_vars i
  pointwise [k0_pay23, pay21, pay22, Row.on, hd_lane, m2]
theorem pay24 : k0_pay24 (F := Ideal) (mh R 2 Row.o) = mh R 2 Row.cen := by
  funext i
  idx_vars i
  pointwise [k0_pay24, Row.cen, hd_lane, m2]
theorem pay25 : k0_pay25 (F := Ideal) (mh R 2 Row.o) = mc R fun R => R.rs 2 := by
  funext i
  idx_vars i
  pointwise [k0_pay25, pay24, Row.rs, m2]
theorem pay26 : k0_pay26 (F := Ideal) (mh R 2 Row.o) = mh R 2 Row.on := by
  funext i
  idx_vars i
  pointwise [k0_pay26, pay24, pay25, Row.on, hd_lane, m2]
theorem pay27 : k0_pay27 (F := Ideal) (mh R 3 Row.o) = mh R 3 Row.cen := by
  funext i
  idx_vars i
  pointwise [k0_pay27, Row.cen, hd_lane, m2]
theorem pay28 : k0_pay28 (F := Ideal) (mh R 3 Row.o) = mc R fun R => R.rs 3 := by
  funext i
  idx_vars i
  pointwise [k0_pay28, pay27, Row.rs, m2]
theorem pay29 : k0_pay29 (F := Ideal) (mh R 3 Row.o) = mh R 3 Row.on := by
  funext i
  idx_vars i
  pointwise [k0_pay29, pay27, pay28, Row.on, hd_lane, m2]
theorem pay30 : k0_pay30 (F := Ideal) (mh R 0 Row.on) (mh R 1 Row.on) (mh R 2 Row.on) (mh R 3 Row.o) = mx R Row.on := by
  funext i
  idx_vars i
  pointwise [k0_pay30, pay29, m2]
  repeat' split
  all_goals exact congrArg _ (Fin.ext (by simp only [lane, Fin.val_zero, Fin.val_one, Fin.val_two]; first | omega | (show 128 * 3 + _ = _; omega)))
theorem pay31 : k0_pay31 (F := Ideal) (mh R 0 Row.on) (mh R 1 Row.on) (mh R 2 Row.on) (mh R 3 Row.o) (mw W.gn) = mx R fun R => R.yn W := by
  funext i
  idx_vars i
  pointwise [k0_pay31, pay30, Row.yn, m2]
theorem pay32 : k0_pay32 (F := Ideal) (mx R fun R l => R.zr l * lg (R.zr l)) (mh R 0 Row.on) (mh R 1 Row.on) (mh R 2 Row.on) (mh R 3 Row.o) (mw W.gn) = mx R fun R => R.yr W := by
  funext i
  idx_vars i
  pointwise [k0_pay32, pay31, Row.yr, m2]
theorem pay33 : k0_pay33 (F := Ideal) (m2 W.wa) = m2 W.wa := by
  funext i
  idx_vars i
  pointwise [k0_pay33, m2]
theorem pay34 : k0_pay34 (F := Ideal) (m2 W.wr) = m2 W.wr := by
  funext i
  idx_vars i
  pointwise [k0_pay34, m2]
theorem pay35 : k0_pay35 (F := Ideal) (mx R Row.ya) (m2 W.wa) = mx R fun R => R.aA W := by
  funext i
  idx_vars i
  pointwise [k0_pay35, pay33, Row.aA, m2]
theorem pay36 : k0_pay36 (F := Ideal) (mx R fun R l => R.zr l * lg (R.zr l)) (mh R 0 Row.on) (mh R 1 Row.on) (mh R 2 Row.on) (mh R 3 Row.o) (mw W.gn) (m2 W.wr) = mx R fun R => R.aR W := by
  funext i
  idx_vars i
  pointwise [k0_pay36, pay32, pay34, Row.aR, m2]
theorem pay37 : k0_pay37 (F := Ideal) (mx R Row.gl) = mx R fun R l => lg (R.gl l) := by
  funext i
  idx_vars i
  pointwise [k0_pay37, lg, m2]
theorem pay38 : k0_pay38 (F := Ideal) (mx R Row.gl) = mx R Row.gA := by
  funext i
  idx_vars i
  pointwise [k0_pay38, pay37, Row.gA, lo, m2]
theorem pay39 : k0_pay39 (F := Ideal) (mx R Row.gl) = mx R Row.gR := by
  funext i
  idx_vars i
  pointwise [k0_pay39, pay37, Row.gR, hi, m2]
theorem pay40 : k0_pay40 (F := Ideal) (mx R Row.ya) (m2 W.wa) (mx R Row.gl) = mx R fun R j => R.gA j * R.aA W j := by
  funext i
  idx_vars i
  pointwise [k0_pay40, pay38, pay35, m2]
theorem pay41 : k0_pay41 (F := Ideal) (mx R fun R => R.aR W) (mx R Row.gR) (mx R fun R j => R.gA j * R.aA W j) = mx R fun R => R.mg W := by
  funext i
  idx_vars i
  pointwise [k0_pay41, Row.mg, m2]
theorem pay42 : k0_pay42 (F := Ideal) (mx R fun R => R.aR W) (mx R Row.gR) (mx R fun R j => R.gA j * R.aA W j) (m2 W.wo) = mx R fun R => R.u W := by
  funext i
  idx_vars i
  pointwise [k0_pay42, pay41, Row.u, m2]
theorem pay43 : k0_pay43 (F := Ideal) (mx R fun R => R.aR W) (mx R Row.gR) (mx R fun R j => R.gA j * R.aA W j) (m2 W.wo) = mc R fun R => R.r W := by
  funext i
  idx_vars i
  pointwise [k0_pay43, pay42, Row.r, m2]
theorem pay44 : k0_pay44 (F := Ideal) (mx R fun R => R.aR W) (mx R Row.gR) (mx R fun R j => R.gA j * R.aA W j) (m2 W.wo) = mx R fun R => R.un W := by
  funext i
  idx_vars i
  pointwise [k0_pay44, pay42, pay43, Row.un, m2]
theorem pay45 : k0_pay45 (F := Ideal) (mx R fun R => R.aR W) (mx R Row.gR) (mx R fun R j => R.gA j * R.aA W j) (m2 W.wo) (mw W.gp) = mx R fun R => R.out W := by
  funext i
  idx_vars i
  pointwise [k0_pay45, pay44, Row.out, m2]
theorem pay46 : k0_pay46 (F := Ideal) (mx R fun R => R.aR W) (mx R Row.gR) (mx R fun R j => R.gA j * R.aA W j) (m2 W.wo) (mw W.gp) (mw W.gate) (mx R Row.x) (mx R Row.y) = mx R fun R => R.err W := by
  funext i
  idx_vars i
  pointwise [k0_pay46, pay45, Row.err, m2]
theorem pay47 : k0_pay47 (F := Ideal) (mw acc128) = mw acc128 := by
  funext i
  idx_vars i
  pointwise [k0_pay47, m2]
theorem pay48 : k0_pay48 (F := Ideal) (mx R fun R => R.aR W) (mx R Row.gR) (mx R fun R j => R.gA j * R.aA W j) (m2 W.wo) (mw W.gp) (mw W.gate) (mx R Row.x) (mx R Row.y) = mw fun j => ∑ r, (R r).sq W j := by
  funext i
  idx_vars i
  pointwise [k0_pay48, pay46, Row.sq, m2]
theorem pay49 : k0_pay49 (F := Ideal) (mx R fun R => R.aR W) (mx R Row.gR) (mx R fun R j => R.gA j * R.aA W j) (m2 W.wo) (mw W.gp) (mw W.gate) (mx R Row.x) (mx R Row.y) = mw fun l => (∑ r, (R r).sq W (blk 0 l)) + (∑ r, (R r).sq W (blk 1 l)) + (∑ r, (R r).sq W (blk 2 l)) + (∑ r, (R r).sq W (blk 3 l)) + ∑ r, (R r).sq W (blk 4 l) := by
  funext i
  idx_vars i
  pointwise [k0_pay49, pay48, blk, m2]
theorem pay50 : k0_pay50 (F := Ideal) (mx R fun R => R.aR W) (mx R Row.gR) (mx R fun R j => R.gA j * R.aA W j) (m2 W.wo) (mw W.gp) (mw W.gate) (mx R Row.x) (mx R Row.y) = mw fun l => ∑ r, (R r).sq W (blk 5 l) := by
  funext i
  idx_vars i
  pointwise [k0_pay50, pay48, blk, m2]
theorem pay51 : k0_pay51 (F := Ideal) (mw acc128) (mw fun j => ∑ r, (R r).sq W j) (mw fun l => (∑ r, (R r).sq W (blk 0 l)) + (∑ r, (R r).sq W (blk 1 l)) + (∑ r, (R r).sq W (blk 2 l)) + (∑ r, (R r).sq W (blk 3 l)) + ∑ r, (R r).sq W (blk 4 l)) (mw fun l => ∑ r, (R r).sq W (blk 5 l)) = mw fun l => acc128 l + lossTerm R W l := by
  funext i
  idx_vars i
  pointwise [k0_pay51, blk, lossTerm, m2]
theorem pay52 : k0_pay52 (F := Ideal) (mx R fun R => R.err W) = mx R fun R => R.dout W := by
  funext i
  idx_vars i
  pointwise [k0_pay52, Row.dout, m2]
theorem pay53 : k0_pay53 (F := Ideal) (mx R fun R => R.out W) (mx R fun R => R.err W) (mw acc1024) = mw fun j => acc1024 j + ∑ r, (R r).dgate W j := by
  funext i
  idx_vars i
  pointwise [k0_pay53, pay52, Row.dgate, m2]
theorem pay54 : k0_pay54 (F := Ideal) (mw W.gate) (mx R fun R => R.err W) = mx R fun R => R.dy W := by
  funext i
  idx_vars i
  pointwise [k0_pay54, pay52, Row.dy, m2]
theorem pay55 : k0_pay55 (F := Ideal) (mx R fun R => R.un W) (mw W.gate) (mx R fun R => R.err W) (mw acc1024) = mw fun j => acc1024 j + ∑ r, (R r).dgp W j := by
  funext i
  idx_vars i
  pointwise [k0_pay55, pay54, Row.dgp, m2]
theorem pay56 : k0_pay56 (F := Ideal) (mx R fun R => R.un W) (mw W.gp) (mw W.gate) (mx R fun R => R.err W) = mx R fun R => R.dp W := by
  funext i
  idx_vars i
  pointwise [k0_pay56, pay54, Row.dp, Row.dn, m2]
theorem pay57 : k0_pay57 (F := Ideal) (mc R fun R => R.r W) (mx R fun R => R.dp W) = mx R fun R => R.du W := by
  funext i
  idx_vars i
  pointwise [k0_pay57, Row.du, m2]
theorem pay58 : k0_pay58 (F := Ideal) (mc R fun R => R.r W) (mx R fun R => R.dp W) (m2 W.wo) = mx R fun R => R.dm W := by
  funext i
  idx_vars i
  pointwise [k0_pay58, pay57, Row.dm, m2]
theorem pay59 : k0_pay59 (F := Ideal) (mx R fun R => R.mg W) (mc R fun R => R.r W) (mx R fun R => R.dp W) (m2 accO) = m2 fun k j => accO k j + ∑ r, (R r).gout W k j := by
  funext i
  idx_vars i
  pointwise [k0_pay59, pay57, Row.gout, m2]
theorem pay60 : k0_pay60 (F := Ideal) (mx R Row.gA) (mc R fun R => R.r W) (mx R fun R => R.dp W) (m2 W.wo) = mx R fun R => R.dA W := by
  funext i
  idx_vars i
  pointwise [k0_pay60, pay58, Row.dA, m2]
theorem pay61 : k0_pay61 (F := Ideal) (mx R Row.gR) (mc R fun R => R.r W) (mx R fun R => R.dp W) (m2 W.wo) = mx R fun R => R.dR W := by
  funext i
  idx_vars i
  pointwise [k0_pay61, pay58, Row.dR, m2]
theorem pay62 : k0_pay62 (F := Ideal) (mx R fun R => R.aA W) (mx R Row.gA) (mc R fun R => R.r W) (mx R fun R => R.dp W) (m2 W.wo) = mx R fun R => R.dglA W := by
  funext i
  idx_vars i
  pointwise [k0_pay62, pay60, Row.dglA, m2]
theorem pay63 : k0_pay63 (F := Ideal) (mx R fun R => R.aR W) (mx R Row.gR) (mc R fun R => R.r W) (mx R fun R => R.dp W) (m2 W.wo) = mx R fun R => R.dglR W := by
  funext i
  idx_vars i
  pointwise [k0_pay63, pay61, Row.dglR, m2]
theorem pay64 : k0_pay64 (F := Ideal) (mx R Row.gA) (mc R fun R => R.r W) (mx R fun R => R.dp W) (m2 W.wo) = mx R fun R => R.dA W := by
  funext i
  idx_vars i
  pointwise [k0_pay64, pay60, m2]
theorem pay65 : k0_pay65 (F := Ideal) (mx R Row.gR) (mc R fun R => R.r W) (mx R fun R => R.dp W) (m2 W.wo) = mx R fun R => R.dR W := by
  funext i
  idx_vars i
  pointwise [k0_pay65, pay61, m2]
theorem pay66 : k0_pay66 (F := Ideal) (m2 W.wa) (mx R Row.gA) (mc R fun R => R.r W) (mx R fun R => R.dp W) (m2 W.wo) = mx R fun R => R.dya W := by
  funext i
  idx_vars i
  pointwise [k0_pay66, pay64, Row.dya, m2]
theorem pay67 : k0_pay67 (F := Ideal) (m2 W.wr) (mx R Row.gR) (mc R fun R => R.r W) (mx R fun R => R.dp W) (m2 W.wo) = mx R fun R => R.dyr W := by
  funext i
  idx_vars i
  pointwise [k0_pay67, pay65, Row.dyr, m2]
theorem pay68 : k0_pay68 (F := Ideal) (mx R Row.ya) (mx R Row.gA) (mc R fun R => R.r W) (mx R fun R => R.dp W) (m2 W.wo) (m2 accP) = m2 fun j l => accP j l + ∑ r, (R r).gpa W j l := by
  funext i
  idx_vars i
  pointwise [k0_pay68, pay64, Row.gpa, m2]
theorem pay69 : k0_pay69 (F := Ideal) (mx R fun R => R.yr W) (mx R fun R => R.dR W) (m2 accP) = m2 fun j l => accP j l + ∑ r, (R r).gpr W j l := by
  funext i
  idx_vars i
  pointwise [k0_pay69, Row.gpr, m2]
theorem pay70 : k0_pay70 (F := Ideal) (mx R Row.oa) (mx R Row.za) (mx R fun R l => lg (R.za l)) (mx R fun R => R.dya W) = mx R fun R => R.dza W := by
  funext i
  idx_vars i
  pointwise [k0_pay70, Row.dza, dsilu, m2]
theorem pay71 : k0_pay71 (F := Ideal) (mx R fun R l => R.za l * lg (R.za l)) (mx R fun R => R.dya W) = mx R fun R => R.doa W := by
  funext i
  idx_vars i
  pointwise [k0_pay71, Row.doa, m2]
theorem pay72 : k0_pay72 (F := Ideal) (mx R fun R l => R.za l * lg (R.za l)) (mx R fun R => R.dya W) = mx R fun R => R.doa W := by
  funext i
  idx_vars i
  pointwise [k0_pay72, pay71, m2]
theorem pay73 : k0_pay73 (F := Ideal) (mx R Row.oa) (mx R fun R l => R.za l * lg (R.za l)) (mx R fun R => R.dya W) = m2 fun h r => (R r).delta W h := by
  funext i
  idx_vars i
  pointwise [k0_pay73, pay71, Row.delta, lane64, m2]
theorem pay74 : k0_pay74 (F := Ideal) (mx R Row.zr) (mx R fun R l => lg (R.zr l)) (mx R fun R => R.yn W) (mx R fun R => R.dyr W) = mx R fun R => R.dzr W := by
  funext i
  idx_vars i
  pointwise [k0_pay74, Row.dzr, dsilu, m2]
theorem pay75 : k0_pay75 (F := Ideal) (mx R fun R l => R.zr l * lg (R.zr l)) (mx R fun R => R.dyr W) = mx R fun R => R.dyn W := by
  funext i
  idx_vars i
  pointwise [k0_pay75, Row.dyn, m2]
theorem pay76 : k0_pay76 (F := Ideal) (mx R Row.on) (mx R fun R => R.dyn W) (mw acc512) = mw fun l => acc512 l + ∑ r, (R r).dgn W l := by
  funext i
  idx_vars i
  pointwise [k0_pay76, Row.dgn, m2]
theorem pay77 : k0_pay77 (F := Ideal) (mx R fun R => R.dyn W) (mw W.gn) = mx R fun R => R.don W := by
  funext i
  idx_vars i
  pointwise [k0_pay77, Row.don, m2]
theorem pay78 : k0_pay78 (F := Ideal) (mc R fun R => R.rs 0) (mh R 0 Row.on) (mx R fun R => R.dyn W) (mw W.gn) = mh R 0 fun R => R.dor W := by
  funext i
  idx_vars i
  refine Eq.trans ?_ (dor_lane (R i0) W 0 i1).symm
  pointwise [k0_pay78, pay77, lane, m2]
theorem pay79 : k0_pay79 (F := Ideal) (mx R fun R => R.dyn W) (mw W.gn) = mh R 1 fun R => R.don W := by
  funext i
  idx_vars i
  pointwise [k0_pay79, pay77, lane, m2]
theorem pay80 : k0_pay80 (F := Ideal) (mx R fun R => R.dyn W) (mw W.gn) = mh R 1 fun R l => R.don W l - Ideal.div (∑ d, R.don W (lane 1 d)) c128 := by
  funext i
  idx_vars i
  pointwise [k0_pay80, pay79, m2]
theorem pay81 : k0_pay81 (F := Ideal) (mh R 1 Row.on) (mx R fun R => R.dyn W) (mw W.gn) = m2 fun r (_ : Fin 128) => Ideal.div (∑ d, (R r).don W (lane 1 d) * (R r).on (lane 1 d)) c128 := by
  funext i
  idx_vars i
  pointwise [k0_pay81, pay79, m2]
theorem pay82 : k0_pay82 (F := Ideal) (mc R fun R => R.rs 1) (mh R 1 Row.on) (mh R 1 fun R l => R.don W l - Ideal.div (∑ d, R.don W (lane 1 d)) c128) (m2 fun r (_ : Fin 128) => Ideal.div (∑ d, (R r).don W (lane 1 d) * (R r).on (lane 1 d)) c128) = mh R 1 fun R => R.dor W := by
  funext i
  idx_vars i
  pointwise [k0_pay82, Row.dor, hd_lane, m2]
theorem pay83 : k0_pay83 (F := Ideal) (mc R fun R => R.rs 2) (mh R 2 Row.on) (mx R fun R => R.don W) = mh R 2 fun R => R.dor W := by
  funext i
  idx_vars i
  refine Eq.trans ?_ (dor_lane (R i0) W 2 i1).symm
  pointwise [k0_pay83, lane, m2]
theorem pay84 : k0_pay84 (F := Ideal) (mc R fun R => R.rs 3) (mh R 3 Row.on) (mx R fun R => R.don W) = mh R 3 fun R => R.dor W := by
  funext i
  idx_vars i
  refine Eq.trans ?_ (dor_lane (R i0) W 3 i1).symm
  pointwise [k0_pay84, lane, m2]
theorem pay1 : k0_pay1 (F := Ideal) (m2 accO) = m2 accO := by
  funext i
  idx_vars i
  pointwise [k0_pay1, m2]
theorem pay2 : k0_pay2 (F := Ideal) (m2 accO) = m2 accO := by
  funext i
  idx_vars i
  pointwise [k0_pay2, m2]

end Cert.TailIdeal.Hand

end
-- ==== Proof.Tail.Block.lean ====
/- What one grid point of the tail kernel leaves, as the equations of its rows. -/
module

public import proofs.«01_k».proof.Proof.Tail.Steps
public import proofs.«01_k».proof.Proof.Tail.Stages
public import Idealize.ShloMosaic.Lib.WritesUnit
public import Idealize.ShloMosaic.Lib.Pipeline.ReadBack

@[expose] public section

set_option maxRecDepth 16384

noncomputable section

namespace Cert.TailIdeal.Hand

open Cert.TailIdeal Cert.TailIdeal.Gen Cert.Tail Cert.TailFrame Idealize.ShloMosaic Idealize.ShloMosaic.TcCoe Idealize.SL.Sem

/-- The two branch projections side by side, and the residual's gate within the modulation row. -/
def wts (md : Fin 3072 → EReal) (gp : Fin 1024 → EReal) (gn : Fin 512 → EReal) (wp wo : Fin 1024 → Fin 1024 → EReal) : Wts where
  gate j := md ⟨2048 + j.val, by omega⟩
  gp := gp
  gn := gn
  wa j l := wp j ⟨l.val, by omega⟩
  wr j l := wp j ⟨512 + l.val, by omega⟩
  wo := wo

variable (R : Fin 256 → Row) (md : Fin 3072 → EReal) (gp : Fin 1024 → EReal) (gn : Fin 512 → EReal) (wp wo : Fin 1024 → Fin 1024 → EReal)

/-- The blocks a grid point is handed. -/
def given : Blocks Ideal where
  x0 := mx R Row.x
  x1 := mx R Row.y
  x2 := mx R Row.oa
  x3 := mx R Row.o
  x4 := mx R Row.za
  x5 := mx R Row.zr
  x6 := mx R Row.gl
  x7 := mw md
  x8 := mw (wts md gp gn wp wo).gp
  x9 := mw (wts md gp gn wp wo).gn
  x10 := m2 wp
  x11 := m2 (wts md gp gn wp wo).wo

/-! ## The parts of the blocks the body loads -/

theorem ld_o0 : View.ld (Val := Elt Ideal) (S := S256x512) (e' := .f32) (mx R Row.o) (Rect.unit ![0, 0] ![256, 128] inb_S256x512_S256x128_0_0) = mh R 0 Row.o := by
  funext j
  idx_vars j
  pointwise [m2, lane]
theorem ld_o1 : View.ld (Val := Elt Ideal) (S := S256x512) (e' := .f32) (mx R Row.o) (Rect.unit ![0, 128] ![256, 128] inb_S256x512_S256x128_0_128) = mh R 1 Row.o := by
  funext j
  idx_vars j
  pointwise [m2, lane]
theorem ld_o2 : View.ld (Val := Elt Ideal) (S := S256x512) (e' := .f32) (mx R Row.o) (Rect.unit ![0, 256] ![256, 128] inb_S256x512_S256x128_0_256) = mh R 2 Row.o := by
  funext j
  idx_vars j
  pointwise [m2, lane]
theorem ld_o3 : View.ld (Val := Elt Ideal) (S := S256x512) (e' := .f32) (mx R Row.o) (Rect.unit ![0, 384] ![256, 128] inb_S256x512_S256x128_0_384) = mh R 3 Row.o := by
  funext j
  idx_vars j
  pointwise [m2, lane]
theorem ld_gate : View.ld (Val := Elt Ideal) (S := S1x3072) (e' := .f32) (mw md) (Rect.unit ![0, 2048] ![1, 1024] inb_S1x3072_S1x1024_0_2048) = mw (wts md gp gn wp wo).gate := by
  funext j
  idx_vars j
  pointwise [m2, wts]
theorem ld_wa : View.ld (Val := Elt Ideal) (S := S1024x1024) (e' := .bf16) (m2 wp) (Rect.unit ![0, 0] ![1024, 512] inb_S1024x1024_S1024x512_0_0) = m2 (wts md gp gn wp wo).wa := by
  funext j
  idx_vars j
  pointwise [m2, wts]
theorem ld_wr : View.ld (Val := Elt Ideal) (S := S1024x1024) (e' := .bf16) (m2 wp) (Rect.unit ![0, 512] ![1024, 512] inb_S1024x1024_S1024x512_0_512) = m2 (wts md gp gn wp wo).wr := by
  funext j
  idx_vars j
  pointwise [m2, wts]
/-- The loads, together, -/
def loads := And.intro @ld_o0 <| And.intro @ld_o1 <| And.intro @ld_o2 <| And.intro @ld_o3 <|
  And.intro (ld_gate md gp gn wp wo) <| And.intro (ld_wa md gp gn wp wo) (ld_wr md gp gn wp wo)
/-- and the steps of the computation. -/
def pays :=
  And.intro @pay9 <| And.intro @pay10 <| And.intro @pay11 <| And.intro @pay12 <| And.intro @pay13 <| And.intro @pay14 <| And.intro @pay15 <|
  And.intro @pay16 <| And.intro @pay17 <| And.intro @pay18 <| And.intro @pay19 <| And.intro @pay20 <| And.intro @pay21 <| And.intro @pay22 <|
  And.intro @pay23 <| And.intro @pay24 <| And.intro @pay25 <| And.intro @pay26 <| And.intro @pay27 <| And.intro @pay28 <| And.intro @pay29 <|
  And.intro @pay30 <| And.intro @pay31 <| And.intro @pay32 <| And.intro @pay33 <| And.intro @pay34 <| And.intro @pay35 <| And.intro @pay36 <|
  And.intro @pay37 <| And.intro @pay38 <| And.intro @pay39 <| And.intro @pay40 <| And.intro @pay41 <| And.intro @pay42 <| And.intro @pay43 <|
  And.intro @pay44 <| And.intro @pay45 <| And.intro @pay46 <| And.intro @pay47 <| And.intro @pay48 <| And.intro @pay49 <| And.intro @pay50 <|
  And.intro @pay51 <| And.intro @pay52 <| And.intro @pay53 <| And.intro @pay54 <| And.intro @pay55 <| And.intro @pay56 <| And.intro @pay57 <|
  And.intro @pay58 <| And.intro @pay59 <| And.intro @pay60 <| And.intro @pay61 <| And.intro @pay62 <| And.intro @pay63 <| And.intro @pay64 <|
  And.intro @pay65 <| And.intro @pay66 <| And.intro @pay67 <| And.intro @pay68 <| And.intro @pay69 <| And.intro @pay70 <| And.intro @pay71 <|
  And.intro @pay72 <| And.intro @pay73 <| And.intro @pay74 <| And.intro @pay75 <| And.intro @pay76 <| And.intro @pay77 <| And.intro @pay78 <|
  And.intro @pay79 <| And.intro @pay80 <| And.intro @pay81 <| And.intro @pay82 <| And.intro @pay83 @pay84
theorem c128_eq : (FloatOps.ofBits FTy.f32 1124073472#32 : Ideal .f32) = c128 := rfl

/-! ## Cleared sums, and buffers stored in column bands -/

theorem pay3 : k0_pay3 (F := Ideal) = m2 fun _ _ => 0 := by
  funext j
  idx_vars j
  pointwise [k0_pay3, m2]
theorem pay4 : k0_pay4 (F := Ideal) = m2 fun _ _ => 0 := by
  funext j
  idx_vars j
  pointwise [k0_pay4, m2]
theorem pay5 : k0_pay5 (F := Ideal) = mw fun _ => 0 := by
  funext j
  idx_vars j
  pointwise [k0_pay5, m2]
theorem pay6 : k0_pay6 (F := Ideal) = mw fun _ => 0 := by
  funext j
  idx_vars j
  pointwise [k0_pay6, m2]
theorem pay7 : k0_pay7 (F := Ideal) = mw fun _ => 0 := by
  funext j
  idx_vars j
  pointwise [k0_pay7, m2]
theorem pay8 : k0_pay8 (F := Ideal) = mw fun _ => 0 := by
  funext j
  idx_vars j
  pointwise [k0_pay8, m2]

/-- A buffer whose last store is a band of columns, read within the band and outside it. -/
theorem band_in {a b n o : ℕ} {e : EltTy} (inb) (w : (⟨2, ![a, n]⟩ : Shape).Idx → Elt Ideal e) (L : List (View.Piece (Elt Ideal) ⟨2, ![a, b]⟩ e))
    (r : Fin a) (l : Fin b) (j : Fin n) (h : l.val = o + j.val) :
    View.canon (⟨Rect.unit (s := ⟨2, ![a, b]⟩) ![0, o] ![a, n] inb, w⟩ :: L) (ix2 r l) = w (ix2 r j) := by
  refine Eq.trans (congrArg _ ?_) (View.canon_cons_emb (Rect.unit (s := ⟨2, ![a, b]⟩) ![0, o] ![a, n] inb) w L (ix2 r j))
  funext k
  refine Fin.ext ?_
  fin_cases k
  · exact (show r.val = 0 + 1 * r.val by omega)
  · exact (show l.val = o + 1 * j.val by omega)
theorem band_out {a b n o : ℕ} {e : EltTy} (inb) (w : (⟨2, ![a, n]⟩ : Shape).Idx → Elt Ideal e) (L : List (View.Piece (Elt Ideal) ⟨2, ![a, b]⟩ e))
    (r : Fin a) (l : Fin b) (h : l.val < o ∨ o + n ≤ l.val) :
    View.canon (⟨Rect.unit (s := ⟨2, ![a, b]⟩) ![0, o] ![a, n] inb, w⟩ :: L) (ix2 r l) = View.canon L (ix2 r l) := by
  refine View.canon_cons_of_not_mem _ _ fun hm => ?_
  have h1 : o ≤ l.val ∧ l.val < o + n := (Rect.mem_set_unit (s := ⟨2, ![a, b]⟩) (off := ![0, o]) (size := ![a, n]) (inb := inb) |>.mp hm) (1 : Fin 2)
  omega

variable (c : Dev nD) (i : grid0.Coords) (M : Mem) (V : M.Whole) (p : Outs Ideal)

theorem mw_eta {b : ℕ} (v : (⟨2, ![1, b]⟩ : Shape).Idx → EReal) : (mw fun j => v (ix2 0 j)) = v := by
  funext j
  refine congrArg v (funext fun k => ?_)
  fin_cases k
  · exact Subsingleton.elim (α := Fin 1) _ _
  · rfl
theorem mw_at {b : ℕ} (f : Fin b → EReal) (r : Fin 1) (l : Fin b) : mw f (ix2 r l) = f l := rfl
theorem m2_eta {a b : ℕ} (v : (⟨2, ![a, b]⟩ : Shape).Idx → EReal) : (m2 fun k j => v (ix2 k j)) = v := by
  funext j
  refine congrArg v (funext fun k => ?_)
  fin_cases k <;> rfl

/-- A row's part of the two branch projections' gradients, side by side. -/
def gw (r : Row) (w : Wts) (j l : Fin 1024) : EReal := if h : l.val < 512 then r.gpa w j ⟨l.val, h⟩ else r.gpr w j ⟨l.val - 512, by omega⟩

/-- Two column halves, side by side. -/
def side (a b : Fin 1024 → Fin 512 → EReal) (j l : Fin 1024) : EReal := if h : l.val < 512 then a j ⟨l.val, h⟩ else b j ⟨l.val - 512, by omega⟩

abbrev left : Rect S1024x1024 := Rect.unit ![0, 0] ![1024, 512] inb_S1024x1024_S1024x512_0_0
abbrev right : Rect S1024x1024 := Rect.unit ![0, 512] ![1024, 512] inb_S1024x1024_S1024x512_0_512
abbrev entire : Rect S1024x1024 := Rect.unit ![0, 0] ![1024, 1024] inb_S1024x1024_S1024x1024_0_0

theorem packed (a b : Fin 1024 → Fin 512 → EReal) (L : List (View.Piece (Elt Ideal) S1024x1024 .f32)) :
    View.canon (⟨right, m2 b⟩ :: ⟨left, m2 a⟩ :: L) = m2 (side a b) := by
  funext q
  idx_vars q
  show _ = side a b q0 q1
  unfold side
  split
  · rename_i h
    exact (band_out _ _ _ _ _ (.inl h)).trans (band_in _ _ _ _ _ ⟨q1.val, h⟩ (Nat.zero_add _).symm)
  · rename_i h
    exact band_in _ _ _ _ _ ⟨q1.val - 512, by omega⟩ (by show q1.val = 512 + (q1.val - 512); omega)
theorem joined (p : Fin 1024 → Fin 1024 → EReal) (w : Wts) (R : Fin 256 → Row) (j l : Fin 1024) :
    side (fun j l => p j ⟨l.val, by omega⟩ + ∑ r, (R r).gpa w j l) (fun j l => p j ⟨512 + l.val, by omega⟩ + ∑ r, (R r).gpr w j l) j l
      = p j l + ∑ r, gw (R r) w j l := by
  unfold side gw
  split
  · rfl
  · exact congrArg (fun k => p j k + _) (Fin.ext (by dsimp only; omega))
section
variable {sig' : RefSig} {κ : Kind} {sp : Space}
theorem zero_lo (v : View sig' κ sp S1024x1024 .f32) :
    v.readCov (Val := Elt Ideal) [⟨entire, k0_pay4 (F := Ideal)⟩] left.toLoadRect = m2 fun _ _ => 0 := by
  rw [View.readCov_fill _ _ _ _ _ (fun a => by fin_cases a <;> rfl), pay4]
  rfl
theorem zero_hi (v : View sig' κ sp S1024x1024 .f32) (w : left.shape.Idx → Elt Ideal .f32) :
    v.readCov (Val := Elt Ideal) [⟨left, w⟩, ⟨entire, k0_pay4 (F := Ideal)⟩] right.toLoadRect = m2 fun _ _ => 0 := by
  rw [View.readCov_skip _ _ _ _ _ (by decide +kernel), View.readCov_fill _ _ _ _ _ (fun a => by fin_cases a <;> rfl), pay4]
  rfl
theorem packed_load (v : View sig' κ sp S1024x1024 .f32) (L : List (View.Piece (Elt Ideal) S1024x1024 .f32)) :
    v.readCov L entire.toLoadRect = View.canon L := by
  rw [View.readCov_eq_canon']
  funext q
  refine congrArg _ (funext fun k => Fin.ext ?_)
  fin_cases k
  · exact (show 0 + 1 * (q 0).val = (q 0).val by omega)
  · exact (show 0 + 1 * (q 1).val = (q 1).val by omega)
end
theorem ld_lo (v : S1024x1024.Idx → Elt Ideal .f32) : View.ld v left = m2 fun j l => v (ix2 j ⟨l.val, by omega⟩) := by
  funext q
  idx_vars q
  pointwise [m2]
theorem ld_hi (v : S1024x1024.Idx → Elt Ideal .f32) : View.ld v right = m2 fun j l => v (ix2 j ⟨512 + l.val, by omega⟩) := by
  funext q
  idx_vars q
  pointwise [m2]

theorem dout_A (h0 : cond0_0 i) (h1 : ¬cond0_1 i) :
    (stepA c i M V h0 h1 (given R md gp gn wp wo)).o12 = mx R fun R => R.dout (wts md gp gn wp wo) := by
  refine funext fun (j : (⟨2, ![256, 1024]⟩ : Shape).Idx) => ?_
  idx_vars j
  dsimp only [stepA, runA]
  frame_out
  simp only [given, loads md gp gn wp wo, c128_eq]
  simp only [pays]
theorem dza_A (h0 : cond0_0 i) (h1 : ¬cond0_1 i) :
    (stepA c i M V h0 h1 (given R md gp gn wp wo)).o13 = mx R fun R => R.dza (wts md gp gn wp wo) := by
  refine funext fun (j : (⟨2, ![256, 512]⟩ : Shape).Idx) => ?_
  idx_vars j
  dsimp only [stepA, runA]
  frame_out
  simp only [given, loads md gp gn wp wo, c128_eq]
  simp only [pays]
theorem dzr_A (h0 : cond0_0 i) (h1 : ¬cond0_1 i) :
    (stepA c i M V h0 h1 (given R md gp gn wp wo)).o14 = mx R fun R => R.dzr (wts md gp gn wp wo) := by
  refine funext fun (j : (⟨2, ![256, 512]⟩ : Shape).Idx) => ?_
  idx_vars j
  dsimp only [stepA, runA]
  frame_out
  simp only [given, loads md gp gn wp wo, c128_eq]
  simp only [pays]
theorem dgl_lo_A (h0 : cond0_0 i) (h1 : ¬cond0_1 i) (r : Fin 256) (j : Fin 1024) :
    (stepA c i M V h0 h1 (given R md gp gn wp wo)).o15 (ix2 r (lo j)) = (R r).dglA (wts md gp gn wp wo) j := by
  dsimp only [stepA, runA]
  frame_out
  simp only [given, loads md gp gn wp wo, c128_eq]
  simp only [pays]
  refine (band_out _ _ _ _ _ (by have := j.isLt; simp only [lo]; omega)).trans ?_
  exact band_in _ _ _ _ _ j (by simp only [lo]; omega)
theorem dgl_hi_A (h0 : cond0_0 i) (h1 : ¬cond0_1 i) (r : Fin 256) (j : Fin 1024) :
    (stepA c i M V h0 h1 (given R md gp gn wp wo)).o15 (ix2 r (hi j)) = (R r).dglR (wts md gp gn wp wo) j := by
  dsimp only [stepA, runA]
  frame_out
  simp only [given, loads md gp gn wp wo, c128_eq]
  simp only [pays]
  exact band_in _ _ _ _ _ j (by simp only [hi])
theorem doa_A (h0 : cond0_0 i) (h1 : ¬cond0_1 i) :
    (stepA c i M V h0 h1 (given R md gp gn wp wo)).o16 = mx R fun R => R.doa (wts md gp gn wp wo) := by
  refine funext fun (j : (⟨2, ![256, 512]⟩ : Shape).Idx) => ?_
  idx_vars j
  dsimp only [stepA, runA]
  frame_out
  simp only [given, loads md gp gn wp wo, c128_eq]
  simp only [pays]
theorem dor_A (h0 : cond0_0 i) (h1 : ¬cond0_1 i) (r : Fin 256) (l : Fin 512) :
    (stepA c i M V h0 h1 (given R md gp gn wp wo)).o17 (ix2 r l) = (R r).dor (wts md gp gn wp wo) l := by
  dsimp only [stepA, runA]
  frame_out
  simp only [given, loads md gp gn wp wo, c128_eq]
  simp only [pays]
  obtain ⟨h, d, rfl⟩ : ∃ h d, l = lane h d := ⟨hd l, ⟨l.val % 128, by omega⟩, Fin.ext (by simp only [lane, hd]; omega)⟩
  have hh := h.isLt
  have hd' := d.isLt
  obtain rfl | rfl | rfl | rfl : h = 0 ∨ h = 1 ∨ h = 2 ∨ h = 3 := by omega
  · refine (band_out _ _ _ _ _ (by simp only [lane]; first | omega | simp; omega)).trans ((band_out _ _ _ _ _ ?_).trans ((band_out _ _ _ _ _ ?_).trans (band_in _ _ _ _ _ d ?_))) <;> simp only [lane] <;> first | omega | (simp; omega) | simp
  · refine (band_out _ _ _ _ _ ?_).trans ((band_out _ _ _ _ _ ?_).trans (band_in _ _ _ _ _ d ?_)) <;> simp only [lane] <;> first | omega | (simp; omega) | simp
  · refine (band_out _ _ _ _ _ ?_).trans (band_in _ _ _ _ _ d ?_) <;> simp only [lane] <;> first | omega | (simp; omega) | simp
  · refine band_in _ _ _ _ _ d ?_ <;> simp only [lane] <;> first | omega | (simp; omega) | simp
theorem delta_A (h0 : cond0_0 i) (h1 : ¬cond0_1 i) :
    (stepA c i M V h0 h1 (given R md gp gn wp wo)).o18 = m2 fun h r => (R r).delta (wts md gp gn wp wo) h := by
  refine funext fun (j : (⟨2, ![8, 256]⟩ : Shape).Idx) => ?_
  idx_vars j
  dsimp only [stepA, runA]
  frame_out
  simp only [given, loads md gp gn wp wo, c128_eq]
  simp only [pays]
theorem dgate_A (h0 : cond0_0 i) (h1 : ¬cond0_1 i) :
    (stepA c i M V h0 h1 (given R md gp gn wp wo)).o21 = mw fun j => 0 + ∑ r, (R r).dgate (wts md gp gn wp wo) j := by
  refine funext fun (j : (⟨2, ![1, 1024]⟩ : Shape).Idx) => ?_
  idx_vars j
  dsimp only [stepA, runA]
  frame_out
  simp only [given, loads md gp gn wp wo, c128_eq]
  simp only [pays]
  rw [pay5]
  simp only [pay53, pay55, pay76]
theorem dgate_B (h0 : ¬cond0_0 i) (h1 : ¬cond0_1 i) :
    (stepB c i M V h0 h1 (given R md gp gn wp wo) p).o21 = mw fun j => p.o21 (ix2 0 j) + ∑ r, (R r).dgate (wts md gp gn wp wo) j := by
  refine funext fun (j : (⟨2, ![1, 1024]⟩ : Shape).Idx) => ?_
  idx_vars j
  dsimp only [stepB, runB]
  frame_out
  simp only [given, loads md gp gn wp wo, c128_eq]
  simp only [pays]
  rw [show p.o21 = mw (fun j => p.o21 (ix2 0 j)) from (mw_eta _).symm]
  simp only [pay53, pay55, pay76, mw_at]
theorem dgate_C (h0 : ¬cond0_0 i) (h1 : cond0_1 i) :
    (stepC c i M V h0 h1 (given R md gp gn wp wo) p).o21 = mw fun j => p.o21 (ix2 0 j) + ∑ r, (R r).dgate (wts md gp gn wp wo) j := by
  refine funext fun (j : (⟨2, ![1, 1024]⟩ : Shape).Idx) => ?_
  idx_vars j
  dsimp only [stepC, runC]
  frame_out
  simp only [given, loads md gp gn wp wo, c128_eq]
  simp only [pays]
  rw [show p.o21 = mw (fun j => p.o21 (ix2 0 j)) from (mw_eta _).symm]
  simp only [pay53, pay55, pay76, mw_at]
theorem dgp_A (h0 : cond0_0 i) (h1 : ¬cond0_1 i) :
    (stepA c i M V h0 h1 (given R md gp gn wp wo)).o22 = mw fun j => 0 + ∑ r, (R r).dgp (wts md gp gn wp wo) j := by
  refine funext fun (j : (⟨2, ![1, 1024]⟩ : Shape).Idx) => ?_
  idx_vars j
  dsimp only [stepA, runA]
  frame_out
  simp only [given, loads md gp gn wp wo, c128_eq]
  simp only [pays]
  rw [pay6]
  simp only [pay53, pay55, pay76]
theorem dgp_B (h0 : ¬cond0_0 i) (h1 : ¬cond0_1 i) :
    (stepB c i M V h0 h1 (given R md gp gn wp wo) p).o22 = mw fun j => p.o22 (ix2 0 j) + ∑ r, (R r).dgp (wts md gp gn wp wo) j := by
  refine funext fun (j : (⟨2, ![1, 1024]⟩ : Shape).Idx) => ?_
  idx_vars j
  dsimp only [stepB, runB]
  frame_out
  simp only [given, loads md gp gn wp wo, c128_eq]
  simp only [pays]
  rw [show p.o22 = mw (fun j => p.o22 (ix2 0 j)) from (mw_eta _).symm]
  simp only [pay53, pay55, pay76, mw_at]
theorem dgp_C (h0 : ¬cond0_0 i) (h1 : cond0_1 i) :
    (stepC c i M V h0 h1 (given R md gp gn wp wo) p).o22 = mw fun j => p.o22 (ix2 0 j) + ∑ r, (R r).dgp (wts md gp gn wp wo) j := by
  refine funext fun (j : (⟨2, ![1, 1024]⟩ : Shape).Idx) => ?_
  idx_vars j
  dsimp only [stepC, runC]
  frame_out
  simp only [given, loads md gp gn wp wo, c128_eq]
  simp only [pays]
  rw [show p.o22 = mw (fun j => p.o22 (ix2 0 j)) from (mw_eta _).symm]
  simp only [pay53, pay55, pay76, mw_at]
theorem dgn_A (h0 : cond0_0 i) (h1 : ¬cond0_1 i) :
    (stepA c i M V h0 h1 (given R md gp gn wp wo)).o23 = mw fun j => 0 + ∑ r, (R r).dgn (wts md gp gn wp wo) j := by
  refine funext fun (j : (⟨2, ![1, 512]⟩ : Shape).Idx) => ?_
  idx_vars j
  dsimp only [stepA, runA]
  frame_out
  simp only [given, loads md gp gn wp wo, c128_eq]
  simp only [pays]
  rw [pay7]
  simp only [pay53, pay55, pay76]
theorem dgn_B (h0 : ¬cond0_0 i) (h1 : ¬cond0_1 i) :
    (stepB c i M V h0 h1 (given R md gp gn wp wo) p).o23 = mw fun j => p.o23 (ix2 0 j) + ∑ r, (R r).dgn (wts md gp gn wp wo) j := by
  refine funext fun (j : (⟨2, ![1, 512]⟩ : Shape).Idx) => ?_
  idx_vars j
  dsimp only [stepB, runB]
  frame_out
  simp only [given, loads md gp gn wp wo, c128_eq]
  simp only [pays]
  rw [show p.o23 = mw (fun j => p.o23 (ix2 0 j)) from (mw_eta _).symm]
  simp only [pay53, pay55, pay76, mw_at]
theorem dgn_C (h0 : ¬cond0_0 i) (h1 : cond0_1 i) :
    (stepC c i M V h0 h1 (given R md gp gn wp wo) p).o23 = mw fun j => p.o23 (ix2 0 j) + ∑ r, (R r).dgn (wts md gp gn wp wo) j := by
  refine funext fun (j : (⟨2, ![1, 512]⟩ : Shape).Idx) => ?_
  idx_vars j
  dsimp only [stepC, runC]
  frame_out
  simp only [given, loads md gp gn wp wo, c128_eq]
  simp only [pays]
  rw [show p.o23 = mw (fun j => p.o23 (ix2 0 j)) from (mw_eta _).symm]
  simp only [pay53, pay55, pay76, mw_at]
theorem loss_A (h0 : cond0_0 i) (h1 : ¬cond0_1 i) :
    (stepA c i M V h0 h1 (given R md gp gn wp wo)).o24 = mw fun l => 0 + lossTerm R (wts md gp gn wp wo) l := by
  refine funext fun (j : (⟨2, ![1, 128]⟩ : Shape).Idx) => ?_
  idx_vars j
  dsimp only [stepA, runA]
  frame_out
  simp only [given, loads md gp gn wp wo, c128_eq]
  simp only [pays]
  rw [pay8]
  simp only [pay47, pay51]
theorem loss_B (h0 : ¬cond0_0 i) (h1 : ¬cond0_1 i) :
    (stepB c i M V h0 h1 (given R md gp gn wp wo) p).o24 = mw fun l => p.o24 (ix2 0 l) + lossTerm R (wts md gp gn wp wo) l := by
  refine funext fun (j : (⟨2, ![1, 128]⟩ : Shape).Idx) => ?_
  idx_vars j
  dsimp only [stepB, runB]
  frame_out
  simp only [given, loads md gp gn wp wo, c128_eq]
  simp only [pays]
  rw [show p.o24 = mw (fun j => p.o24 (ix2 0 j)) from (mw_eta _).symm]
  simp only [pay47, pay51, mw_at]
theorem loss_C (h0 : ¬cond0_0 i) (h1 : cond0_1 i) :
    (stepC c i M V h0 h1 (given R md gp gn wp wo) p).o24 = mw fun l => p.o24 (ix2 0 l) + lossTerm R (wts md gp gn wp wo) l := by
  refine funext fun (j : (⟨2, ![1, 128]⟩ : Shape).Idx) => ?_
  idx_vars j
  dsimp only [stepC, runC]
  frame_out
  simp only [given, loads md gp gn wp wo, c128_eq]
  simp only [pays]
  rw [show p.o24 = mw (fun j => p.o24 (ix2 0 j)) from (mw_eta _).symm]
  simp only [pay47, pay51, mw_at]
theorem gout_A (h0 : cond0_0 i) (h1 : ¬cond0_1 i) :
    (stepA c i M V h0 h1 (given R md gp gn wp wo)).s0 = m2 fun k j => 0 + ∑ r, (R r).gout (wts md gp gn wp wo) k j := by
  refine funext fun (j : (⟨2, ![1024, 1024]⟩ : Shape).Idx) => ?_
  idx_vars j
  dsimp only [stepA, runA]
  frame_out
  simp only [given, loads md gp gn wp wo, c128_eq]
  simp only [pays]
  rw [pay3]
  simp only [pay59]
theorem gout_B (h0 : ¬cond0_0 i) (h1 : ¬cond0_1 i) :
    (stepB c i M V h0 h1 (given R md gp gn wp wo) p).s0 = m2 fun k j => p.s0 (ix2 k j) + ∑ r, (R r).gout (wts md gp gn wp wo) k j := by
  refine funext fun (j : (⟨2, ![1024, 1024]⟩ : Shape).Idx) => ?_
  idx_vars j
  dsimp only [stepB, runB]
  frame_out
  simp only [given, loads md gp gn wp wo, c128_eq]
  simp only [pays]
  rw [show p.s0 = m2 (fun k j => p.s0 (ix2 k j)) from (m2_eta _).symm]
  simp only [pay59, m2_at]
theorem gout_C (h0 : ¬cond0_0 i) (h1 : cond0_1 i) :
    (stepC c i M V h0 h1 (given R md gp gn wp wo) p).s0 = m2 fun k j => p.s0 (ix2 k j) + ∑ r, (R r).gout (wts md gp gn wp wo) k j := by
  refine funext fun (j : (⟨2, ![1024, 1024]⟩ : Shape).Idx) => ?_
  idx_vars j
  dsimp only [stepC, runC]
  frame_out
  simp only [given, loads md gp gn wp wo, c128_eq]
  simp only [pays]
  rw [show p.s0 = m2 (fun k j => p.s0 (ix2 k j)) from (m2_eta _).symm]
  simp only [pay59, m2_at]
theorem goutOut_C (h0 : ¬cond0_0 i) (h1 : cond0_1 i) :
    (stepC c i M V h0 h1 (given R md gp gn wp wo) p).o19 = m2 fun k j => p.s0 (ix2 k j) + ∑ r, (R r).gout (wts md gp gn wp wo) k j := by
  refine funext fun (j : (⟨2, ![1024, 1024]⟩ : Shape).Idx) => ?_
  idx_vars j
  dsimp only [stepC, runC]
  frame_out
  simp only [given, loads md gp gn wp wo, c128_eq]
  simp only [pays]
  rw [show p.s0 = m2 (fun k j => p.s0 (ix2 k j)) from (m2_eta _).symm]
  simp only [pay59, pay1, m2_at]
theorem gw_A (h0 : cond0_0 i) (h1 : ¬cond0_1 i) :
    (stepA c i M V h0 h1 (given R md gp gn wp wo)).s1 = m2 fun j l => 0 + ∑ r, gw (R r) (wts md gp gn wp wo) j l := by
  refine funext fun (j : (⟨2, ![1024, 1024]⟩ : Shape).Idx) => ?_
  idx_vars j
  dsimp only [stepA, runA]
  frame_out
  simp only [given, loads md gp gn wp wo, c128_eq]
  simp only [pays]
  rw [zero_hi, zero_lo]
  simp only [pay68, pay69]
  rw [packed]
  exact joined (fun _ _ => 0) _ _ j0 j1
theorem gw_B (h0 : ¬cond0_0 i) (h1 : ¬cond0_1 i) :
    (stepB c i M V h0 h1 (given R md gp gn wp wo) p).s1 = m2 fun j l => p.s1 (ix2 j l) + ∑ r, gw (R r) (wts md gp gn wp wo) j l := by
  refine funext fun (j : (⟨2, ![1024, 1024]⟩ : Shape).Idx) => ?_
  idx_vars j
  dsimp only [stepB, runB]
  frame_out
  simp only [given, loads md gp gn wp wo, c128_eq]
  simp only [pays]
  rw [ld_lo, ld_hi]
  simp only [pay68, pay69]
  rw [packed]
  exact joined (fun j l => p.s1 (ix2 j l)) _ _ j0 j1
theorem gw_C (h0 : ¬cond0_0 i) (h1 : cond0_1 i) :
    (stepC c i M V h0 h1 (given R md gp gn wp wo) p).s1 = m2 fun j l => p.s1 (ix2 j l) + ∑ r, gw (R r) (wts md gp gn wp wo) j l := by
  refine funext fun (j : (⟨2, ![1024, 1024]⟩ : Shape).Idx) => ?_
  idx_vars j
  dsimp only [stepC, runC]
  frame_out
  simp only [given, loads md gp gn wp wo, c128_eq]
  simp only [pays]
  rw [ld_lo, ld_hi]
  simp only [pay68, pay69]
  rw [packed]
  exact joined (fun j l => p.s1 (ix2 j l)) _ _ j0 j1
theorem gwOut_C (h0 : ¬cond0_0 i) (h1 : cond0_1 i) :
    (stepC c i M V h0 h1 (given R md gp gn wp wo) p).o20 = m2 fun j l => p.s1 (ix2 j l) + ∑ r, gw (R r) (wts md gp gn wp wo) j l := by
  refine funext fun (j : (⟨2, ![1024, 1024]⟩ : Shape).Idx) => ?_
  idx_vars j
  dsimp only [stepC, runC]
  frame_out
  simp only [given, loads md gp gn wp wo, c128_eq]
  simp only [pays]
  rw [ld_lo, ld_hi, packed_load]
  simp only [pay68, pay69]
  rw [packed]
  rw [pay2]
  exact joined (fun j l => p.s1 (ix2 j l)) _ _ j0 j1
/-! The tiles a later point writes are those the first point would write on the same blocks. -/

variable (i' : grid0.Coords) (a0 : cond0_0 i') (a1 : ¬cond0_1 i') (x : Blocks Ideal)

theorem o12_B (h0 : ¬cond0_0 i) (h1 : ¬cond0_1 i) : (stepB c i M V h0 h1 x p).o12 = (stepA c i' M V a0 a1 x).o12 := rfl
theorem o12_C (h0 : ¬cond0_0 i) (h1 : cond0_1 i) : (stepC c i M V h0 h1 x p).o12 = (stepA c i' M V a0 a1 x).o12 := rfl
theorem o13_B (h0 : ¬cond0_0 i) (h1 : ¬cond0_1 i) : (stepB c i M V h0 h1 x p).o13 = (stepA c i' M V a0 a1 x).o13 := rfl
theorem o13_C (h0 : ¬cond0_0 i) (h1 : cond0_1 i) : (stepC c i M V h0 h1 x p).o13 = (stepA c i' M V a0 a1 x).o13 := rfl
theorem o14_B (h0 : ¬cond0_0 i) (h1 : ¬cond0_1 i) : (stepB c i M V h0 h1 x p).o14 = (stepA c i' M V a0 a1 x).o14 := rfl
theorem o14_C (h0 : ¬cond0_0 i) (h1 : cond0_1 i) : (stepC c i M V h0 h1 x p).o14 = (stepA c i' M V a0 a1 x).o14 := rfl
theorem o15_B (h0 : ¬cond0_0 i) (h1 : ¬cond0_1 i) : (stepB c i M V h0 h1 x p).o15 = (stepA c i' M V a0 a1 x).o15 := rfl
theorem o15_C (h0 : ¬cond0_0 i) (h1 : cond0_1 i) : (stepC c i M V h0 h1 x p).o15 = (stepA c i' M V a0 a1 x).o15 := rfl
theorem o16_B (h0 : ¬cond0_0 i) (h1 : ¬cond0_1 i) : (stepB c i M V h0 h1 x p).o16 = (stepA c i' M V a0 a1 x).o16 := rfl
theorem o16_C (h0 : ¬cond0_0 i) (h1 : cond0_1 i) : (stepC c i M V h0 h1 x p).o16 = (stepA c i' M V a0 a1 x).o16 := rfl
theorem o17_B (h0 : ¬cond0_0 i) (h1 : ¬cond0_1 i) : (stepB c i M V h0 h1 x p).o17 = (stepA c i' M V a0 a1 x).o17 := rfl
theorem o17_C (h0 : ¬cond0_0 i) (h1 : cond0_1 i) : (stepC c i M V h0 h1 x p).o17 = (stepA c i' M V a0 a1 x).o17 := rfl
theorem o18_B (h0 : ¬cond0_0 i) (h1 : ¬cond0_1 i) : (stepB c i M V h0 h1 x p).o18 = (stepA c i' M V a0 a1 x).o18 := rfl
theorem o18_C (h0 : ¬cond0_0 i) (h1 : cond0_1 i) : (stepC c i M V h0 h1 x p).o18 = (stepA c i' M V a0 a1 x).o18 := rfl

end Cert.TailIdeal.Hand

end
-- ==== Proof.Tail.Kernel.lean ====
/- What the tail kernel leaves in its thirteen results, over the whole arrays its windows cover. -/
module

public import proofs.«01_k».proof.Proof.Tail.Block
public import proofs.«01_k».proof.Proof.Tail.Frame

@[expose] public section

set_option maxRecDepth 16384

noncomputable section

namespace Cert.TailIdeal.Hand

open Cert.TailIdeal Cert.TailIdeal.Gen Cert.Tail Cert.TailFrame Idealize.ShloMosaic Idealize.ShloMosaic.TcCoe Idealize.SL.Sem
open Idealize.ShloMosaic.Pipeline (Dat)

variable (m : (ℓ : Loc nD τ sig) → Buf (Elt Ideal) ℓ) (c : Dev nD)

/-- Row `s` of the arrays the windows cover. The gates' values are columns of one array. -/
def rowK (s : Fin 4096) : Row where
  x j := V m c main_v6 (ix2 s j)
  y j := V m c main_v7 (ix2 s j)
  oa l := V m c main_v8 (ix2 s l)
  o l := V m c main_v9 (ix2 s l)
  za l := V m c main_v11 (ix2 s (⟨l.val, by omega⟩ : Fin 4096))
  zr l := V m c main_v11 (ix2 s (⟨1536 + l.val, by omega⟩ : Fin 4096))
  gl l := V m c main_v11 (ix2 s (⟨2048 + l.val, by omega⟩ : Fin 4096))
def mdK (j : Fin 3072) : EReal := V m c main_arg5 (ix2 0 j)
def gpK (j : Fin 1024) : EReal := V m c main_arg6 (ix2 0 j)
def gnK (l : Fin 512) : EReal := V m c main_arg7 (ix2 0 l)
def wpK (j l : Fin 1024) : EReal := V m c main_v5 (ix2 j l)
def woK (k j : Fin 1024) : EReal := V m c main_v13 (ix2 k j)
abbrev wK : Wts := wts (mdK m c) (gpK m c) (gnK m c) (wpK m c) (woK m c)

/-- Grid point `t` covers the rows `256 t … 256 t + 255`. -/
def row (t : Fin cfg0.N) (r : Fin 256) : Fin 4096 := ⟨t.val * 256 + r.val, by have := t.isLt; have h : cfg0.N = 16 := N_0; omega⟩

/-- The rows of grid point `t`. -/
abbrev rows (t : Fin cfg0.N) (r : Fin 256) : Row := rowK m c (row t r)

theorem idx : ∀ t : Fin grid0.N, win0_0.index t = ![t.val, 0] ∧ win0_1.index t = ![t.val, 0] ∧ win0_2.index t = ![t.val, 0] ∧ win0_3.index t = ![t.val, 0]
    ∧ win0_4.index t = ![256 * t.val, 0] ∧ win0_5.index t = ![256 * t.val, 1536] ∧ win0_6.index t = ![256 * t.val, 2048] ∧ win0_7.index t = ![0, 0]
    ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![0, t.val] ∧ win0_19.index t = ![0, 0]
    ∧ win0_20.index t = ![0, 0] ∧ win0_21.index t = ![0, 0] ∧ win0_22.index t = ![0, 0] ∧ win0_23.index t = ![0, 0]
    ∧ win0_24.index t = ![0, 0] := by decide +kernel

theorem blk0 (t : Fin cfg0.N) : iblk m c 0 t = mx (rows m c t) Row.x := by
  have h := idx t
  have e : ∀ (B : Buf (Elt Ideal) ((c : Thread nD τ).loc main_v6)) (q : Fin 256) (l : Fin 1024), ((cfg0.win 0).blk t).view.read (Elt Ideal) B (ix2 q l) = B (ix2 (row t q) l) := by
    intro B q l
    unfold row
    blk_ext! [h.1]
  refine funext fun (j : (⟨2, ![256, 1024]⟩ : Shape).Idx) => ?_
  idx_vars j
  exact e _ _ _
theorem blk1 (t : Fin cfg0.N) : iblk m c 1 t = mx (rows m c t) Row.y := by
  have h := idx t
  have e : ∀ (B : Buf (Elt Ideal) ((c : Thread nD τ).loc main_v7)) (q : Fin 256) (l : Fin 1024), ((cfg0.win 1).blk t).view.read (Elt Ideal) B (ix2 q l) = B (ix2 (row t q) l) := by
    intro B q l
    unfold row
    blk_ext! [h.2.1]
  refine funext fun (j : (⟨2, ![256, 1024]⟩ : Shape).Idx) => ?_
  idx_vars j
  exact e _ _ _
theorem blk2 (t : Fin cfg0.N) : iblk m c 2 t = mx (rows m c t) Row.oa := by
  have h := idx t
  have e : ∀ (B : Buf (Elt Ideal) ((c : Thread nD τ).loc main_v8)) (q : Fin 256) (l : Fin 512), ((cfg0.win 2).blk t).view.read (Elt Ideal) B (ix2 q l) = B (ix2 (row t q) l) := by
    intro B q l
    unfold row
    blk_ext! [h.2.2.1]
  refine funext fun (j : (⟨2, ![256, 512]⟩ : Shape).Idx) => ?_
  idx_vars j
  exact e _ _ _
theorem blk3 (t : Fin cfg0.N) : iblk m c 3 t = mx (rows m c t) Row.o := by
  have h := idx t
  have e : ∀ (B : Buf (Elt Ideal) ((c : Thread nD τ).loc main_v9)) (q : Fin 256) (l : Fin 512), ((cfg0.win 3).blk t).view.read (Elt Ideal) B (ix2 q l) = B (ix2 (row t q) l) := by
    intro B q l
    unfold row
    blk_ext! [h.2.2.2.1]
  refine funext fun (j : (⟨2, ![256, 512]⟩ : Shape).Idx) => ?_
  idx_vars j
  exact e _ _ _
theorem blk4 (t : Fin cfg0.N) : iblk m c 4 t = mx (rows m c t) Row.za := by
  have h := idx t
  have e : ∀ (B : Buf (Elt Ideal) ((c : Thread nD τ).loc main_v11)) (q : Fin 256) (l : Fin 512), ((cfg0.win 4).blk t).view.read (Elt Ideal) B (ix2 q l) = B (ix2 (row t q) (⟨l.val, by omega⟩ : Fin 4096)) := by
    intro B q l
    show B (((cfg0.win 4).blk t).view.emb (ix2 q l)) = _
    refine congrArg B (funext fun k => Fin.ext ?_)
    fin_cases k
    · show win0_4.index t 0 + 1 * q.val = t.val * 256 + q.val
      rw [h.2.2.2.2.1]
      show 256 * t.val + 1 * q.val = _
      omega
    · show win0_4.index t 1 + 1 * l.val = _
      rw [h.2.2.2.2.1]
      exact (show 0 + 1 * l.val = l.val by omega)
  refine funext fun (j : (⟨2, ![256, 512]⟩ : Shape).Idx) => ?_
  idx_vars j
  exact e _ _ _
theorem blk5 (t : Fin cfg0.N) : iblk m c 5 t = mx (rows m c t) Row.zr := by
  have h := idx t
  have e : ∀ (B : Buf (Elt Ideal) ((c : Thread nD τ).loc main_v11)) (q : Fin 256) (l : Fin 512), ((cfg0.win 5).blk t).view.read (Elt Ideal) B (ix2 q l) = B (ix2 (row t q) (⟨1536 + l.val, by omega⟩ : Fin 4096)) := by
    intro B q l
    show B (((cfg0.win 5).blk t).view.emb (ix2 q l)) = _
    refine congrArg B (funext fun k => Fin.ext ?_)
    fin_cases k
    · show win0_5.index t 0 + 1 * q.val = t.val * 256 + q.val
      rw [h.2.2.2.2.2.1]
      show 256 * t.val + 1 * q.val = _
      omega
    · show win0_5.index t 1 + 1 * l.val = _
      rw [h.2.2.2.2.2.1]
      exact (show 1536 + 1 * l.val = 1536 + l.val by omega)
  refine funext fun (j : (⟨2, ![256, 512]⟩ : Shape).Idx) => ?_
  idx_vars j
  exact e _ _ _
theorem blk6 (t : Fin cfg0.N) : iblk m c 6 t = mx (rows m c t) Row.gl := by
  have h := idx t
  have e : ∀ (B : Buf (Elt Ideal) ((c : Thread nD τ).loc main_v11)) (q : Fin 256) (l : Fin 2048), ((cfg0.win 6).blk t).view.read (Elt Ideal) B (ix2 q l) = B (ix2 (row t q) (⟨2048 + l.val, by omega⟩ : Fin 4096)) := by
    intro B q l
    show B (((cfg0.win 6).blk t).view.emb (ix2 q l)) = _
    refine congrArg B (funext fun k => Fin.ext ?_)
    fin_cases k
    · show win0_6.index t 0 + 1 * q.val = t.val * 256 + q.val
      rw [h.2.2.2.2.2.2.1]
      show 256 * t.val + 1 * q.val = _
      omega
    · show win0_6.index t 1 + 1 * l.val = _
      rw [h.2.2.2.2.2.2.1]
      exact (show 2048 + 1 * l.val = 2048 + l.val by omega)
  refine funext fun (j : (⟨2, ![256, 2048]⟩ : Shape).Idx) => ?_
  idx_vars j
  exact e _ _ _
theorem blk7 (t : Fin cfg0.N) : iblk m c 7 t = mw (mdK m c) := by
  have h := idx t
  have e : ∀ (B : Buf (Elt Ideal) ((c : Thread nD τ).loc main_arg5)) (q : Fin 1) (l : Fin 3072), ((cfg0.win 7).blk t).view.read (Elt Ideal) B (ix2 q l) = B (ix2 q l) := by
    intro B q l
    blk_ext! [h.2.2.2.2.2.2.2.1]
  refine funext fun (j : (⟨2, ![1, 3072]⟩ : Shape).Idx) => ?_
  idx_vars j
  obtain rfl := Subsingleton.elim j0 0
  exact e _ _ _
theorem blk8 (t : Fin cfg0.N) : iblk m c 8 t = mw (wK m c).gp := by
  have h := idx t
  have e : ∀ (B : Buf (Elt Ideal) ((c : Thread nD τ).loc main_arg6)) (q : Fin 1) (l : Fin 1024), ((cfg0.win 8).blk t).view.read (Elt Ideal) B (ix2 q l) = B (ix2 q l) := by
    intro B q l
    blk_ext! [h.2.2.2.2.2.2.2.2.1]
  refine funext fun (j : (⟨2, ![1, 1024]⟩ : Shape).Idx) => ?_
  idx_vars j
  obtain rfl := Subsingleton.elim j0 0
  exact e _ _ _
theorem blk9 (t : Fin cfg0.N) : iblk m c 9 t = mw (wK m c).gn := by
  have h := idx t
  have e : ∀ (B : Buf (Elt Ideal) ((c : Thread nD τ).loc main_arg7)) (q : Fin 1) (l : Fin 512), ((cfg0.win 9).blk t).view.read (Elt Ideal) B (ix2 q l) = B (ix2 q l) := by
    intro B q l
    blk_ext! [h.2.2.2.2.2.2.2.2.2.1]
  refine funext fun (j : (⟨2, ![1, 512]⟩ : Shape).Idx) => ?_
  idx_vars j
  obtain rfl := Subsingleton.elim j0 0
  exact e _ _ _
theorem blk10 (t : Fin cfg0.N) : iblk m c 10 t = m2 (wpK m c) := by
  have h := idx t
  have e : ∀ (B : Buf (Elt Ideal) ((c : Thread nD τ).loc main_v5)) (q : Fin 1024) (l : Fin 1024), ((cfg0.win 10).blk t).view.read (Elt Ideal) B (ix2 q l) = B (ix2 q l) := by
    intro B q l
    blk_ext! [h.2.2.2.2.2.2.2.2.2.2.1]
  refine funext fun (j : (⟨2, ![1024, 1024]⟩ : Shape).Idx) => ?_
  idx_vars j
  exact e _ _ _
theorem blk11 (t : Fin cfg0.N) : iblk m c 11 t = m2 (wK m c).wo := by
  have h := idx t
  have e : ∀ (B : Buf (Elt Ideal) ((c : Thread nD τ).loc main_v13)) (q : Fin 1024) (l : Fin 1024), ((cfg0.win 11).blk t).view.read (Elt Ideal) B (ix2 q l) = B (ix2 q l) := by
    intro B q l
    blk_ext! [h.2.2.2.2.2.2.2.2.2.2.2.1]
  refine funext fun (j : (⟨2, ![1024, 1024]⟩ : Shape).Idx) => ?_
  idx_vars j
  exact e _ _ _

theorem blocks_eq (t : Fin cfg0.N) : blocks m c t = given (rows m c t) (mdK m c) (gpK m c) (gnK m c) (wpK m c) (woK m c) := by
  unfold blocks given
  rw [blk0, blk1, blk2, blk3, blk4, blk5, blk6, blk7, blk8, blk9, blk10, blk11]

/-! ## The results written a block of rows at a time -/

/-- The first grid point. -/
def first : Fin cfg0.N := ⟨0, by decide⟩
/-- The last grid point. -/
def last : Fin cfg0.N := ⟨15, by decide⟩

/-- A part of a point's results that does not depend on the case is what the first point's case leaves. -/
theorem point {α : Type} (t : Fin cfg0.N) (f : Outs Ideal → α) (x : Blocks Ideal) (hx : blocks m c t = x)
    (hB : ∀ i h0 h1 p, f (stepB c i (mem t) (mem_whole t) h0 h1 x p)
      = f (stepA c (grid0.coords first) (mem t) (mem_whole t) (first_not_last (t := first) rfl).1 (first_not_last (t := first) rfl).2 x))
    (hC : ∀ i h0 h1 p, f (stepC c i (mem t) (mem_whole t) h0 h1 x p)
      = f (stepA c (grid0.coords first) (mem t) (mem_whole t) (first_not_last (t := first) rfl).1 (first_not_last (t := first) rfl).2 x)) :
    f (outsAt m c t.val t.isLt)
      = f (stepA c (grid0.coords first) (mem t) (mem_whole t) (first_not_last (t := first) rfl).1 (first_not_last (t := first) rfl).2 x) := by
  subst hx
  by_cases h : t.val = 0
  · obtain rfl : t = first := Fin.ext h
    exact congrArg f (outsAt_A m c first h)
  · by_cases h1 : cond0_1 (grid0.coords t)
    · exact (congrArg f (outsAt_C m c t h h1)).trans (hC ..)
    · exact (congrArg f (outsAt_B m c t h h1)).trans (hB ..)

/-- The gradient of the two merge gates' values, side by side. -/
def dgl (R : Row) (W : Wts) (l : Fin 2048) : EReal := if h : l.val < 1024 then R.dglA W ⟨l.val, h⟩ else R.dglR W ⟨l.val - 1024, by omega⟩

theorem tile12 (t : Fin cfg0.N) : (outsAt m c t.val t.isLt).o12 = mx (rows m c t) fun R => R.dout (wK m c) :=
  (point m c t Outs.o12 _ (blocks_eq m c t) (fun i h0 h1 p => o12_B ..) (fun i h0 h1 p => o12_C ..)).trans (dout_A ..)
theorem tile13 (t : Fin cfg0.N) : (outsAt m c t.val t.isLt).o13 = mx (rows m c t) fun R => R.dza (wK m c) :=
  (point m c t Outs.o13 _ (blocks_eq m c t) (fun i h0 h1 p => o13_B ..) (fun i h0 h1 p => o13_C ..)).trans (dza_A ..)
theorem tile14 (t : Fin cfg0.N) : (outsAt m c t.val t.isLt).o14 = mx (rows m c t) fun R => R.dzr (wK m c) :=
  (point m c t Outs.o14 _ (blocks_eq m c t) (fun i h0 h1 p => o14_B ..) (fun i h0 h1 p => o14_C ..)).trans (dzr_A ..)
theorem tile16 (t : Fin cfg0.N) : (outsAt m c t.val t.isLt).o16 = mx (rows m c t) fun R => R.doa (wK m c) :=
  (point m c t Outs.o16 _ (blocks_eq m c t) (fun i h0 h1 p => o16_B ..) (fun i h0 h1 p => o16_C ..)).trans (doa_A ..)
theorem tile18 (t : Fin cfg0.N) : (outsAt m c t.val t.isLt).o18 = m2 fun h r => (rows m c t r).delta (wK m c) h :=
  (point m c t Outs.o18 _ (blocks_eq m c t) (fun i h0 h1 p => o18_B ..) (fun i h0 h1 p => o18_C ..)).trans (delta_A ..)
theorem tile17 (t : Fin cfg0.N) (r : Fin 256) (l : Fin 512) : (outsAt m c t.val t.isLt).o17 (ix2 r l) = (rows m c t r).dor (wK m c) l :=
  (congrFun (point m c t Outs.o17 _ (blocks_eq m c t) (fun i h0 h1 p => o17_B ..) (fun i h0 h1 p => o17_C ..)) _).trans (dor_A ..)
theorem tile15 (t : Fin cfg0.N) (r : Fin 256) (l : Fin 2048) : (outsAt m c t.val t.isLt).o15 (ix2 r l) = dgl (rows m c t r) (wK m c) l := by
  refine (congrFun (point m c t Outs.o15 _ (blocks_eq m c t) (fun i h0 h1 p => o15_B ..) (fun i h0 h1 p => o15_C ..)) _).trans ?_
  unfold dgl
  split
  · rename_i h
    exact dgl_lo_A (j := ⟨l.val, h⟩) ..
  · rename_i h
    exact (congrArg _ (congrArg (ix2 r) (Fin.ext (show l.val = 1024 + (l.val - 1024) by omega)))).trans (dgl_hi_A (j := ⟨l.val - 1024, by omega⟩) ..)

theorem after12 (t : Fin cfg0.N) : (dats m 0 c).after 12 t = (outsAt m c t.val t.isLt).o12 := by dsimp only [dats]
theorem final12 : (dats m 0 c).arrAt 12 cfg0.N = fun i => (rowK m c (i 0)).dout (wK m c) (i 1) := by
  refine (dats m 0 c).arrAt_eq_of_covers 12 _ (by decide +kernel) fun t hf y => ?_
  have h := idx t
  blk_simp
  rw [after12]
  idx_vars y
  refine (congrFun (tile12 m c t) _).trans (congrArg₂ (fun s j => (rowK m c s).dout (wK m c) j) ?_ ?_)
  · exact Fin.ext (by blk_simp [h.2.2.2.2.2.2.2.2.2.2.2.2.1, row])
  · exact Fin.ext (by blk_simp [h.2.2.2.2.2.2.2.2.2.2.2.2.1])
theorem after13 (t : Fin cfg0.N) : (dats m 0 c).after 13 t = (outsAt m c t.val t.isLt).o13 := by dsimp only [dats]
theorem final13 : (dats m 0 c).arrAt 13 cfg0.N = fun i => (rowK m c (i 0)).dza (wK m c) (i 1) := by
  refine (dats m 0 c).arrAt_eq_of_covers 13 _ (by decide +kernel) fun t hf y => ?_
  have h := idx t
  blk_simp
  rw [after13]
  idx_vars y
  refine (congrFun (tile13 m c t) _).trans (congrArg₂ (fun s j => (rowK m c s).dza (wK m c) j) ?_ ?_)
  · exact Fin.ext (by blk_simp [h.2.2.2.2.2.2.2.2.2.2.2.2.2.1, row])
  · exact Fin.ext (by blk_simp [h.2.2.2.2.2.2.2.2.2.2.2.2.2.1])
theorem after14 (t : Fin cfg0.N) : (dats m 0 c).after 14 t = (outsAt m c t.val t.isLt).o14 := by dsimp only [dats]
theorem final14 : (dats m 0 c).arrAt 14 cfg0.N = fun i => (rowK m c (i 0)).dzr (wK m c) (i 1) := by
  refine (dats m 0 c).arrAt_eq_of_covers 14 _ (by decide +kernel) fun t hf y => ?_
  have h := idx t
  blk_simp
  rw [after14]
  idx_vars y
  refine (congrFun (tile14 m c t) _).trans (congrArg₂ (fun s j => (rowK m c s).dzr (wK m c) j) ?_ ?_)
  · exact Fin.ext (by blk_simp [h.2.2.2.2.2.2.2.2.2.2.2.2.2.2.1, row])
  · exact Fin.ext (by blk_simp [h.2.2.2.2.2.2.2.2.2.2.2.2.2.2.1])
theorem after15 (t : Fin cfg0.N) : (dats m 0 c).after 15 t = (outsAt m c t.val t.isLt).o15 := by dsimp only [dats]
theorem final15 : (dats m 0 c).arrAt 15 cfg0.N = fun i => dgl (rowK m c (i 0)) (wK m c) (i 1) := by
  refine (dats m 0 c).arrAt_eq_of_covers 15 _ (by decide +kernel) fun t hf y => ?_
  have h := idx t
  blk_simp
  rw [after15]
  idx_vars y
  refine (tile15 m c t y0 y1).trans (congrArg₂ (fun s j => dgl (rowK m c s) (wK m c) j) ?_ ?_)
  · exact Fin.ext (by blk_simp [h.2.2.2.2.2.2.2.2.2.2.2.2.2.2.2.1, row])
  · exact Fin.ext (by blk_simp [h.2.2.2.2.2.2.2.2.2.2.2.2.2.2.2.1])
theorem after16 (t : Fin cfg0.N) : (dats m 0 c).after 16 t = (outsAt m c t.val t.isLt).o16 := by dsimp only [dats]
theorem final16 : (dats m 0 c).arrAt 16 cfg0.N = fun i => (rowK m c (i 0)).doa (wK m c) (i 1) := by
  refine (dats m 0 c).arrAt_eq_of_covers 16 _ (by decide +kernel) fun t hf y => ?_
  have h := idx t
  blk_simp
  rw [after16]
  idx_vars y
  refine (congrFun (tile16 m c t) _).trans (congrArg₂ (fun s j => (rowK m c s).doa (wK m c) j) ?_ ?_)
  · exact Fin.ext (by blk_simp [h.2.2.2.2.2.2.2.2.2.2.2.2.2.2.2.2.1, row])
  · exact Fin.ext (by blk_simp [h.2.2.2.2.2.2.2.2.2.2.2.2.2.2.2.2.1])
theorem after17 (t : Fin cfg0.N) : (dats m 0 c).after 17 t = (outsAt m c t.val t.isLt).o17 := by dsimp only [dats]
theorem final17 : (dats m 0 c).arrAt 17 cfg0.N = fun i => (rowK m c (i 0)).dor (wK m c) (i 1) := by
  refine (dats m 0 c).arrAt_eq_of_covers 17 _ (by decide +kernel) fun t hf y => ?_
  have h := idx t
  blk_simp
  rw [after17]
  idx_vars y
  refine (tile17 m c t y0 y1).trans (congrArg₂ (fun s j => (rowK m c s).dor (wK m c) j) ?_ ?_)
  · exact Fin.ext (by blk_simp [h.2.2.2.2.2.2.2.2.2.2.2.2.2.2.2.2.2.1, row])
  · exact Fin.ext (by blk_simp [h.2.2.2.2.2.2.2.2.2.2.2.2.2.2.2.2.2.1])
theorem after18 (t : Fin cfg0.N) : (dats m 0 c).after 18 t = (outsAt m c t.val t.isLt).o18 := by dsimp only [dats]
theorem final18 : (dats m 0 c).arrAt 18 cfg0.N = fun i => (rowK m c (i 1)).delta (wK m c) (i 0) := by
  refine (dats m 0 c).arrAt_eq_of_covers 18 _ (by decide +kernel) fun t hf y => ?_
  have h := idx t
  blk_simp
  rw [after18]
  idx_vars y
  refine (congrFun (tile18 m c t) _).trans (congrArg₂ (fun h s => (rowK m c s).delta (wK m c) h) ?_ ?_)
  · exact Fin.ext (by blk_simp [h.2.2.2.2.2.2.2.2.2.2.2.2.2.2.2.2.2.2.1])
  · exact Fin.ext (by blk_simp [h.2.2.2.2.2.2.2.2.2.2.2.2.2.2.2.2.2.2.1, row])

/-! ## The sums over all rows -/

/-- The grid points' rows are all the rows. -/
theorem sum_rows (f : Fin 4096 → EReal) : ∑ t : Fin cfg0.N, ∑ r, f (row t r) = ∑ s, f s :=
  Fin.sum_mul_add_fin (S := cfg0.N) (n := 256) f (by decide +kernel)

/-- A buffer cleared at the first grid point, to which every point adds its term, ends as the sum of the terms. -/
theorem accum {ι : Type} (f : Outs Ideal → ι → EReal) (term : Fin cfg0.N → ι → EReal)
    (hA : ∀ t h0 h1 x, f (stepA c (grid0.coords t) (mem t) (mem_whole t) h0 h1 (given (rows m c t) (mdK m c) (gpK m c) (gnK m c) (wpK m c) (woK m c))) x
      = 0 + term t x)
    (hB : ∀ t h0 h1 p x, f (stepB c (grid0.coords t) (mem t) (mem_whole t) h0 h1 (given (rows m c t) (mdK m c) (gpK m c) (gnK m c) (wpK m c) (woK m c)) p) x
      = f p x + term t x)
    (hC : ∀ t h0 h1 p x, f (stepC c (grid0.coords t) (mem t) (mem_whole t) h0 h1 (given (rows m c t) (mdK m c) (gpK m c) (gnK m c) (wpK m c) (woK m c)) p) x
      = f p x + term t x) (x : ι) : f (outsAt m c last.val last.isLt) x = ∑ t, term t x := by
  have z : ∀ t : Fin cfg0.N, t.val % 16 = 0 ↔ t.val = 0 := by decide +kernel
  refine (Pipeline.eq_sum_fin_of_reset_step_apply_last (fun n h x => f (outsAt m c n h) x) 16 (fun _ => 0) term (fun t h x => ?_) (fun t h x => ?_)
    (le_of_eq N_0) last rfl x).trans (zero_add _)
  · beta_reduce
    rw [outsAt_A m c t ((z t).mp h), blocks_eq]
    exact hA ..
  · have h' : t.val ≠ 0 := fun e => h ((z t).mpr e)
    beta_reduce
    by_cases h1 : cond0_1 (grid0.coords t)
    · rw [outsAt_C m c t h' h1, blocks_eq]
      exact hC ..
    · rw [outsAt_B m c t h' h1, blocks_eq]
      exact hB ..

theorem sum21 (x : Fin 1024) : (outsAt m c last.val last.isLt).o21 (ix2 0 x) = ∑ s, (rowK m c s).dgate (wK m c) x :=
  (accum m c (fun p (x : Fin 1024) => p.o21 (ix2 0 x)) (fun t x => ∑ r, (rows m c t r).dgate (wK m c) x) (fun t h0 h1 x => congrFun (dgate_A ..) (ix2 0 x))
    (fun t h0 h1 p x => congrFun (dgate_B ..) (ix2 0 x)) (fun t h0 h1 p x => congrFun (dgate_C ..) (ix2 0 x)) x).trans (sum_rows fun s => (rowK m c s).dgate (wK m c) x)
theorem sum22 (x : Fin 1024) : (outsAt m c last.val last.isLt).o22 (ix2 0 x) = ∑ s, (rowK m c s).dgp (wK m c) x :=
  (accum m c (fun p (x : Fin 1024) => p.o22 (ix2 0 x)) (fun t x => ∑ r, (rows m c t r).dgp (wK m c) x) (fun t h0 h1 x => congrFun (dgp_A ..) (ix2 0 x))
    (fun t h0 h1 p x => congrFun (dgp_B ..) (ix2 0 x)) (fun t h0 h1 p x => congrFun (dgp_C ..) (ix2 0 x)) x).trans (sum_rows fun s => (rowK m c s).dgp (wK m c) x)
theorem sum23 (x : Fin 512) : (outsAt m c last.val last.isLt).o23 (ix2 0 x) = ∑ s, (rowK m c s).dgn (wK m c) x :=
  (accum m c (fun p (x : Fin 512) => p.o23 (ix2 0 x)) (fun t x => ∑ r, (rows m c t r).dgn (wK m c) x) (fun t h0 h1 x => congrFun (dgn_A ..) (ix2 0 x))
    (fun t h0 h1 p x => congrFun (dgn_B ..) (ix2 0 x)) (fun t h0 h1 p x => congrFun (dgn_C ..) (ix2 0 x)) x).trans (sum_rows fun s => (rowK m c s).dgn (wK m c) x)
theorem sum24 (x : Fin 128) : (outsAt m c last.val last.isLt).o24 (ix2 0 x) = ∑ t, lossTerm (rows m c t) (wK m c) x :=
  accum m c (fun p (x : Fin 128) => p.o24 (ix2 0 x)) (fun t x => lossTerm (rows m c t) (wK m c) x) (fun t h0 h1 x => congrFun (loss_A ..) (ix2 0 x))
    (fun t h0 h1 p x => congrFun (loss_B ..) (ix2 0 x)) (fun t h0 h1 p x => congrFun (loss_C ..) (ix2 0 x)) x
theorem sum_s0 (x : Fin 1024 × Fin 1024) : (outsAt m c last.val last.isLt).s0 (ix2 x.1 x.2) = ∑ s, (rowK m c s).gout (wK m c) x.1 x.2 :=
  (accum m c (fun p (x : Fin 1024 × Fin 1024) => p.s0 (ix2 x.1 x.2)) (fun t x => ∑ r, (rows m c t r).gout (wK m c) x.1 x.2)
    (fun t h0 h1 x => congrFun (gout_A ..) (ix2 x.1 x.2)) (fun t h0 h1 p x => congrFun (gout_B ..) (ix2 x.1 x.2))
    (fun t h0 h1 p x => congrFun (gout_C ..) (ix2 x.1 x.2)) x).trans (sum_rows fun s => (rowK m c s).gout (wK m c) x.1 x.2)
theorem sum_s1 (x : Fin 1024 × Fin 1024) : (outsAt m c last.val last.isLt).s1 (ix2 x.1 x.2) = ∑ s, gw (rowK m c s) (wK m c) x.1 x.2 :=
  (accum m c (fun p (x : Fin 1024 × Fin 1024) => p.s1 (ix2 x.1 x.2)) (fun t x => ∑ r, gw (rows m c t r) (wK m c) x.1 x.2)
    (fun t h0 h1 x => congrFun (gw_A ..) (ix2 x.1 x.2)) (fun t h0 h1 p x => congrFun (gw_B ..) (ix2 x.1 x.2))
    (fun t h0 h1 p x => congrFun (gw_C ..) (ix2 x.1 x.2)) x).trans (sum_rows fun s => gw (rowK m c s) (wK m c) x.1 x.2)

theorem last_case : last.val ≠ 0 ∧ cond0_1 (grid0.coords last) := ⟨by decide, (hcond0_1 last).mpr rfl⟩
/-- At the last point the two accumulated products are copied to the results. -/
theorem copied0 : (outsAt m c last.val last.isLt).o19 = (outsAt m c last.val last.isLt).s0 := by
  rw [outsAt_C m c last last_case.1 last_case.2, blocks_eq]
  exact (goutOut_C ..).trans (gout_C ..).symm
theorem copied1 : (outsAt m c last.val last.isLt).o20 = (outsAt m c last.val last.isLt).s1 := by
  rw [outsAt_C m c last last_case.1 last_case.2, blocks_eq]
  exact (gwOut_C ..).trans (gw_C ..).symm

theorem after19 (t : Fin cfg0.N) : (dats m 0 c).after 19 t = (outsAt m c t.val t.isLt).o19 := by dsimp only [dats]
theorem final19 : (dats m 0 c).arrAt 19 cfg0.N = fun i => ∑ s, (rowK m c s).gout (wK m c) (i 0) (i 1) := by
  refine (dats m 0 c).arrAt_eq_of_after_last 19 last (by decide +kernel) _ fun j => ?_
  blk_simp
  rw [after19]
  idx_vars j
  exact (congrFun (copied0 m c) _).trans (sum_s0 m c (j0, j1))
theorem after20 (t : Fin cfg0.N) : (dats m 0 c).after 20 t = (outsAt m c t.val t.isLt).o20 := by dsimp only [dats]
theorem final20 : (dats m 0 c).arrAt 20 cfg0.N = fun i => ∑ s, gw (rowK m c s) (wK m c) (i 0) (i 1) := by
  refine (dats m 0 c).arrAt_eq_of_after_last 20 last (by decide +kernel) _ fun j => ?_
  blk_simp
  rw [after20]
  idx_vars j
  exact (congrFun (copied1 m c) _).trans (sum_s1 m c (j0, j1))
theorem after21 (t : Fin cfg0.N) : (dats m 0 c).after 21 t = (outsAt m c t.val t.isLt).o21 := by dsimp only [dats]
theorem final21 : (dats m 0 c).arrAt 21 cfg0.N = fun i => ∑ s, (rowK m c s).dgate (wK m c) (i 1) := by
  refine (dats m 0 c).arrAt_eq_of_after_last 21 last (by decide +kernel) _ fun j => ?_
  blk_simp
  rw [after21]
  idx_vars j
  obtain rfl := Subsingleton.elim j0 0
  exact sum21 m c j1
theorem after22 (t : Fin cfg0.N) : (dats m 0 c).after 22 t = (outsAt m c t.val t.isLt).o22 := by dsimp only [dats]
theorem final22 : (dats m 0 c).arrAt 22 cfg0.N = fun i => ∑ s, (rowK m c s).dgp (wK m c) (i 1) := by
  refine (dats m 0 c).arrAt_eq_of_after_last 22 last (by decide +kernel) _ fun j => ?_
  blk_simp
  rw [after22]
  idx_vars j
  obtain rfl := Subsingleton.elim j0 0
  exact sum22 m c j1
theorem after23 (t : Fin cfg0.N) : (dats m 0 c).after 23 t = (outsAt m c t.val t.isLt).o23 := by dsimp only [dats]
theorem final23 : (dats m 0 c).arrAt 23 cfg0.N = fun i => ∑ s, (rowK m c s).dgn (wK m c) (i 1) := by
  refine (dats m 0 c).arrAt_eq_of_after_last 23 last (by decide +kernel) _ fun j => ?_
  blk_simp
  rw [after23]
  idx_vars j
  obtain rfl := Subsingleton.elim j0 0
  exact sum23 m c j1
theorem after24 (t : Fin cfg0.N) : (dats m 0 c).after 24 t = (outsAt m c t.val t.isLt).o24 := by dsimp only [dats]
theorem final24 : (dats m 0 c).arrAt 24 cfg0.N = fun i => ∑ t, lossTerm (rows m c t) (wK m c) (i 1) := by
  refine (dats m 0 c).arrAt_eq_of_after_last 24 last (by decide +kernel) _ fun j => ?_
  blk_simp
  rw [after24]
  idx_vars j
  obtain rfl := Subsingleton.elim j0 0
  exact sum24 m c j1

end Cert.TailIdeal.Hand

end
-- ==== Proof.Tail.Inputs.lean ====
/- The rows and the weights of the layer's tail, read from the arrays the reference takes. -/
module

public import proofs.«01_k».proof.Proof.Tail.Spec
public import Idealize.ShloMosaic.Lib.Pointwise

@[expose] public section

noncomputable section

namespace Cert.Tail

open Idealize.ShloMosaic

variable (x y : (⟨3, ![1, 4096, 1024]⟩ : Shape).Idx → EReal) (oa : (⟨3, ![1, 4096, 512]⟩ : Shape).Idx → EReal)
  (o : (⟨4, ![1, 4096, 4, 128]⟩ : Shape).Idx → EReal) (p : (⟨3, ![1, 4096, 4864]⟩ : Shape).Idx → EReal)
  (md : (⟨2, ![1, 3072]⟩ : Shape).Idx → EReal) (gp : (⟨2, ![1, 1024]⟩ : Shape).Idx → EReal) (gn : (⟨2, ![1, 512]⟩ : Shape).Idx → EReal)
  (wa wr : (⟨3, ![1, 512, 1024]⟩ : Shape).Idx → EReal) (wo : (⟨3, ![1, 1024, 1024]⟩ : Shape).Idx → EReal)

/-- Row `s`: the gates' values are columns of the in-projection's result `p`. -/
def rowIn (s : Fin 4096) : Row where
  x j := x (ix3 0 s j)
  y j := y (ix3 0 s j)
  oa l := oa (ix3 0 s l)
  o l := o (ix4 0 s (hd l) (⟨l.val % 128, by omega⟩ : Fin 128))
  za l := p (ix3 0 s (⟨768 + l.val, by omega⟩ : Fin 4864))
  zr l := p (ix3 0 s (⟨2304 + l.val, by omega⟩ : Fin 4864))
  gl k := p (ix3 0 s (⟨2816 + k.val, by omega⟩ : Fin 4864))

/-- The residual's gate is the last third of the modulation. -/
def wtsIn : Wts where
  gate j := md (ix2 0 (⟨2048 + j.val, by omega⟩ : Fin 3072))
  gp j := gp (ix2 0 j)
  gn l := gn (ix2 0 l)
  wa j l := wa (ix3 0 l j)
  wr j l := wr (ix3 0 l j)
  wo k j := wo (ix3 0 k j)

theorem hd_of_lane (h : Fin 4) (d : Fin 128) : hd (lane h d) = h := Fin.ext (by show (128 * h.val + d.val) / 128 = h.val; omega)

theorem o_lane (s : Fin 4096) (h : Fin 4) (d : Fin 128) : (rowIn x y oa o p s).o (lane h d) = o (ix4 0 s h d) :=
  congrArg o (congrArg₂ (ix4 0 s) (hd_of_lane h d) (Fin.ext (by show (128 * h.val + d.val) % 128 = d.val; omega)))

end Cert.Tail

end
-- ==== Proof.Tail.Host.lean ====
/- The tail kernel's rows and weights are those of the arguments, and the host adds the lanes of the loss. -/
module

public import proofs.«01_k».proof.Proof.Tail.Kernel
public import proofs.«01_k».proof.Proof.Tail.Inputs
public import proofs.«01_k».proof.Proof.Sums

@[expose] public section

set_option maxRecDepth 16384

noncomputable section

namespace Cert.TailIdeal.Hand

open Cert.TailIdeal Cert.TailIdeal.Gen Cert.Tail Cert.TailFrame Idealize.ShloMosaic Idealize.ShloMosaic.TcCoe Idealize.SL.Sem
open Idealize.ShloMosaic.Pipeline (Dat)

variable (m : (ℓ : Loc nD τ sig) → Buf (Elt Ideal) ℓ) (c : Dev nD)

theorem v6 (s : Fin 4096) (j : Fin 1024) : (V m c main_v6 (ix2 s j) : EReal) = m ((c : Thread nD τ).loc main_arg0) (ix3 0 s j) := by
  show (StableHlo.after (hostOps0 (F := Ideal)) (fun b => m (c, b)) (Proc.devRef .tc main_v6) (ix2 s j) : EReal) = _
  unfold hostOps0
  after_results
  pointwise
theorem v7 (s : Fin 4096) (j : Fin 1024) : (V m c main_v7 (ix2 s j) : EReal) = m ((c : Thread nD τ).loc main_arg1) (ix3 0 s j) := by
  show (StableHlo.after (hostOps0 (F := Ideal)) (fun b => m (c, b)) (Proc.devRef .tc main_v7) (ix2 s j) : EReal) = _
  unfold hostOps0
  after_results
  pointwise
theorem v8 (s : Fin 4096) (l : Fin 512) : (V m c main_v8 (ix2 s l) : EReal) = m ((c : Thread nD τ).loc main_arg2) (ix3 0 s l) := by
  show (StableHlo.after (hostOps0 (F := Ideal)) (fun b => m (c, b)) (Proc.devRef .tc main_v8) (ix2 s l) : EReal) = _
  unfold hostOps0
  after_results
  pointwise
theorem v9 (s : Fin 4096) (l : Fin 512) :
    (V m c main_v9 (ix2 s l) : EReal) = m ((c : Thread nD τ).loc main_arg3) (ix4 0 s (hd l) (⟨l.val % 128, by omega⟩ : Fin 128)) := by
  show (StableHlo.after (hostOps0 (F := Ideal)) (fun b => m (c, b)) (Proc.devRef .tc main_v9) (ix2 s l) : EReal) = _
  unfold hostOps0
  after_results
  pointwise
  rfl
theorem v11 (s k : Fin 4096) : (V m c main_v11 (ix2 s k) : EReal) = m ((c : Thread nD τ).loc main_arg4) (ix3 0 s (⟨768 + k.val, by omega⟩ : Fin 4864)) := by
  show (StableHlo.after (hostOps0 (F := Ideal)) (fun b => m (c, b)) (Proc.devRef .tc main_v11) (ix2 s k) : EReal) = _
  unfold hostOps0
  after_results
  pointwise
theorem v13 (k j : Fin 1024) : (V m c main_v13 (ix2 k j) : EReal) = m ((c : Thread nD τ).loc main_arg10) (ix3 0 k j) := by
  show (StableHlo.after (hostOps0 (F := Ideal)) (fun b => m (c, b)) (Proc.devRef .tc main_v13) (ix2 k j) : EReal) = _
  unfold hostOps0
  after_results
  pointwise
theorem v5a (j : Fin 1024) (l : Fin 512) : (V m c main_v5 (ix2 j (⟨l.val, by omega⟩ : Fin 1024)) : EReal) = m ((c : Thread nD τ).loc main_arg8) (ix3 0 l j) := by
  show (StableHlo.after (hostOps0 (F := Ideal)) (fun b => m (c, b)) (Proc.devRef .tc main_v5) (ix2 j (⟨l.val, by omega⟩ : Fin 1024)) : EReal) = _
  unfold hostOps0
  after_results
  pointwise
theorem v5r (j : Fin 1024) (l : Fin 512) :
    (V m c main_v5 (ix2 j (⟨512 + l.val, by omega⟩ : Fin 1024)) : EReal) = m ((c : Thread nD τ).loc main_arg9) (ix3 0 l j) := by
  show (StableHlo.after (hostOps0 (F := Ideal)) (fun b => m (c, b)) (Proc.devRef .tc main_v5) (ix2 j (⟨512 + l.val, by omega⟩ : Fin 1024)) : EReal) = _
  unfold hostOps0
  after_results
  pointwise

/-- The rows and the weights the kernel works on. -/
theorem rowK_eq (s : Fin 4096) : rowK m c s = rowIn (m ((c : Thread nD τ).loc main_arg0)) (m ((c : Thread nD τ).loc main_arg1))
    (m ((c : Thread nD τ).loc main_arg2)) (m ((c : Thread nD τ).loc main_arg3)) (m ((c : Thread nD τ).loc main_arg4)) s := by
  unfold rowK rowIn
  rw [Row.mk.injEq]
  exact ⟨funext fun j => v6 m c s j, funext fun j => v7 m c s j, funext fun l => v8 m c s l, funext fun l => v9 m c s l, funext fun l => v11 m c s _,
    funext fun l => (v11 m c s _).trans (congrArg _ (congrArg (ix3 0 s) (Fin.ext (by show 768 + (1536 + l.val) = 2304 + l.val; omega)))),
    funext fun k => (v11 m c s _).trans (congrArg _ (congrArg (ix3 0 s) (Fin.ext (by show 768 + (2048 + k.val) = 2816 + k.val; omega))))⟩
theorem wK_eq : wK m c = wtsIn (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) := by
  show wts _ _ _ _ _ = _
  unfold wts wtsIn mdK gpK gnK wpK woK
  rw [Wts.mk.injEq]
  exact ⟨funext fun j => congrFun (V_main_arg5 m c) _, funext fun j => congrFun (V_main_arg6 m c) _, funext fun l => congrFun (V_main_arg7 m c) _,
    funext fun j => funext fun l => v5a m c j l, funext fun j => funext fun l => v5r m c j l, funext fun k => funext fun j => v13 m c k j⟩

variable (W : Valuation τ sig (Elt Ideal))

abbrev at15 : EReal := StableHlo.after (hostOps1 (F := Ideal)) W (Proc.devRef .tc main_v15) ix0
abbrev at14 (l : Fin 128) : EReal := W (Proc.devRef .tc main_v14_12) (ix2 0 l)

/-- The host adds the lanes of the loss. -/
theorem at15_eq : at15 W = ∑ l, at14 W l := by
  unfold at15 hostOps1
  after_results
  pointwise [Fin.sum_univ_one]

abbrev exitV : Valuation τ sig (Elt Ideal) :=
  Pipeline.withArrays (cfgs 0).spec c (V0 m c) fun w => (dats m 0 c).arrAt w (cfgs 0).N

theorem exit24 (l : Fin 128) : at14 (exitV m c) l = ∑ t, lossTerm (rows m c t) (wK m c) l :=
  congrFun ((show exitV m c (Proc.devRef .tc main_v14_12) = (dats m 0 c).arrAt 24 cfg0.N from
    (dats m 0 c).withArrays_arrAt sharedIn0 (V0 m c) (A_eq m c) 24).trans (final24 m c)) (ix2 0 l)

end Cert.TailIdeal.Hand

end
-- ==== Proof.Tail.Reference.lean ====
/- The results of the tail's reference, read at an index and written in the terms of a row. -/
module

public import proofs.«01_k».proof.Proof.Gen.TailRefIdeal.Read
public import proofs.«01_k».proof.Proof.Tail.Inputs
public import proofs.«01_k».proof.Proof.Tail.Kernel
public import proofs.«01_k».proof.Proof.Sums
public import proofs.«01_k».proof.Proof.Reals

@[expose] public section

set_option maxRecDepth 16384

noncomputable section

namespace Cert.Tail

open Idealize.ShloMosaic

abbrev negHalf : EReal := Ideal.ofBits .f32 0xBF000000#32
abbrev half : EReal := Ideal.ofBits .f32 0x3F000000#32
abbrev two : EReal := Ideal.ofBits .f32 0x40000000#32

/-- The derivative of `z · lg z` applied to a cotangent, as the reference adds its two parts. -/
def siluBack (z t : EReal) : EReal := t * lg z + z * t * (lg z * (1 - lg z))

namespace Row
variable (R : Row) (W : Wts)

/-- What stands under the two norms' roots. -/
def var (h : Fin 4) : EReal := Ideal.div (∑ d, R.cen (lane h d) * R.cen (lane h d)) c128 + small
def ms : EReal := Ideal.div (∑ j, R.u W j * R.u W j) c1024 + small

/-- The backward passes of the two norms as the reference forms them: through the root, the mean and, for a head, the centring. -/
def back : EReal := Ideal.div ((∑ j, R.u W j * R.dn W j) * (negHalf * Ideal.div (R.r W) (R.ms W))) c1024
def duRef (j : Fin 1024) : EReal := R.dn W j * R.r W + R.u W j * R.back W + R.back W * R.u W j
def slope (h : Fin 4) : EReal :=
  Ideal.div ((∑ d, R.cen (lane h d) * R.don W (lane h d)) * (negHalf * Ideal.div (R.rs h) (R.var h))) c128
def dorRef (l : Fin 512) : EReal :=
  R.don W l * R.rs (hd l) + R.slope W (hd l) * (two * R.cen l)
    + Ideal.div ((∑ d, -(R.don W (lane (hd l) d) * R.rs (hd l))) + ∑ d, -(R.slope W (hd l) * (two * R.cen (lane (hd l) d)))) c128
end Row

theorem logistic (z : EReal) : Ideal.div 1 (1 + Ideal.exp (-z)) = lg z := by
  unfold lg
  rw [zero_sub]

theorem gate_back (a b s : EReal) : a * b * (s * (1 - s)) = a * s * b * (1 - s) := by
  rw [mul_assoc, mul_assoc, mul_assoc, mul_left_comm b s]

theorem c1024_real : c1024 = ((1024 : ℝ) : EReal) := Reals.bits_1024
theorem two_real : two = ((2 : ℝ) : EReal) := by
  simp [Ideal.ofBits, Ideal.ieee, -EReal.coe_mul]
  norm_num
theorem half_real : half = ((1 / 2 : ℝ) : EReal) := by
  simp [Ideal.ofBits, Ideal.ieee, -EReal.coe_mul]
  norm_num
theorem inv1024_real : inv1024 = ((1 / 1024 : ℝ) : EReal) := by
  simp [Ideal.ofBits, Ideal.ieee, -EReal.coe_mul]
  norm_num

/-- Half of the square of `x` over 1024 has the derivative `x / 1024`. -/
theorem scaled (x : EReal) : Ideal.div half c1024 * (two * x) = x * inv1024 := by
  rw [← mul_assoc, mul_comm]
  refine congrArg (fun y : EReal => x * y) ?_
  rw [half_real, two_real, inv1024_real, c1024_real, Reals.div_real _ (by norm_num), ← EReal.coe_mul]
  norm_num

end Cert.Tail

namespace Cert.TailRefIdeal.Hand

open Cert.TailIdeal.Hand (gw dgl)
open Cert.TailRefIdeal Cert.TailRefIdeal.Gen Cert.TailRefIdeal.Read Cert.Tail Idealize.ShloMosaic Idealize.ShloMosaic.TcCoe Idealize.SL.Sem

theorem drop_rows (x : S1x1x1024.Idx → EReal) (init : EReal) (d : Fin 1024) :
    Ideal.hostReduceAdd reducesTo_S1x1x1024_S1024_d0_1 x init (ix1 d) = init + x (ix3 0 0 d) := by
  refine Cert.Sums.hostReduceAdd_of_cell _ _ _ _ _ (funext fun b => by fin_cases b; rfl) fun i h => ?_
  idx_vars i
  have := congrFun h 0
  obtain rfl : i2 = d := this
  rw [Subsingleton.elim i0 0, Subsingleton.elim i1 0]
theorem drop_512 (x : S1x1x512.Idx → EReal) (init : EReal) (d : Fin 512) :
    Ideal.hostReduceAdd reducesTo_S1x1x512_S512_d0_1 x init (ix1 d) = init + x (ix3 0 0 d) := by
  refine Cert.Sums.hostReduceAdd_of_cell _ _ _ _ _ (funext fun b => by fin_cases b; rfl) fun i h => ?_
  idx_vars i
  have := congrFun h 0
  obtain rfl : i2 = d := this
  rw [Subsingleton.elim i0 0, Subsingleton.elim i1 0]
theorem drop_lanes (x : S1x4096x1.Idx → EReal) (init : EReal) (s : Fin 4096) :
    Ideal.hostReduceAdd reducesTo_S1x4096x1_S4096_d0_2 x init (ix1 s) = init + x (ix3 0 s 0) := by
  refine Cert.Sums.hostReduceAdd_of_cell _ _ _ _ _ (funext fun b => by fin_cases b; rfl) fun i h => ?_
  idx_vars i
  have := congrFun h 0
  obtain rfl : i1 = s := this
  rw [Subsingleton.elim i0 0, Subsingleton.elim i2 0]
theorem drop_heads (x : S1x4096x4x1.Idx → EReal) (init : EReal) (s : Fin 4096) (h : Fin 4) :
    Ideal.hostReduceAdd reducesTo_S1x4096x4x1_S4096x4_d0_3 x init (ix2 s h) = init + x (ix4 0 s h 0) := by
  refine Cert.Sums.hostReduceAdd_of_cell _ _ _ _ _ (funext fun b => by fin_cases b <;> rfl) fun i e => ?_
  idx_vars i
  have h1 := congrFun e 0
  have h2 := congrFun e 1
  obtain rfl : i1 = s := h1
  obtain rfl : i2 = h := h2
  rw [Subsingleton.elim i0 0, Subsingleton.elim i3 0]
variable (x0 x1 : S1x4096x1024.Idx → EReal) (x2 : S1x4096x512.Idx → EReal) (x3 : S1x4096x4x128.Idx → EReal) (x4 : S1x4096x4864.Idx → EReal)
  (x5 : S1x3072.Idx → EReal) (x6 : S1x1024.Idx → EReal) (x7 : S1x512.Idx → EReal) (x8 x9 : S1x512x1024.Idx → EReal) (x10 : S1x1024x1024.Idx → EReal)

theorem cen_lane (s : Fin 4096) (h : Fin 4) (d : Fin 128) :
    (rowIn x0 x1 x2 x3 x4 s).cen (lane h d) = x3 (ix4 0 s h d) - Ideal.div (∑ d, x3 (ix4 0 s h d)) c128 := by
  unfold Row.cen
  rw [hd_of_lane]
  simp only [o_lane]
theorem on_lane (R : Row) (h : Fin 4) (d : Fin 128) : R.on (lane h d) = R.cen (lane h d) * R.rs h := by
  unfold Row.on
  rw [hd_of_lane]
theorem hi_sub (k : Fin 2048) (h : ¬k.val < 1024) : k = hi ⟨k.val - 1024, by omega⟩ := Fin.ext (by show k.val = 1024 + (k.val - 1024); omega)
theorem lane_hd (l : Fin 512) : lane (hd l) ⟨l.val % 128, by omega⟩ = l := Fin.ext (by show 128 * (l.val / 128) + l.val % 128 = l.val; omega)

theorem v4_2 (s : Fin 4096) (l : Fin 512) : val_main_v4_2 (F := Ideal) x4 (ix3 0 s l)
      = lg ((rowIn x0 x1 x2 x3 x4 s).za l) := by
  pointwise [val_main_v4_2, val_main_call0_v4, val_main_call0_cst_0, val_main_call0_v3, val_main_call0_v2, val_main_call0_cst, val_main_call0_v1,
    val_main_call0_v0, val_main_v0]
  exact logistic _
theorem v4_1 (s : Fin 4096) (l : Fin 512) : val_main_v4_1 (F := Ideal) x4 (ix3 0 s l)
      = lg ((rowIn x0 x1 x2 x3 x4 s).za l) * (1 - lg ((rowIn x0 x1 x2 x3 x4 s).za l)) := by
  pointwise [val_main_v4_1, val_main_call0_v7, val_main_call0_v6, val_main_call0_cst_1, v4_2 x0 x1 x2 x3 x4]
theorem v4_0 (s : Fin 4096) (l : Fin 512) : val_main_v4_0 (F := Ideal) x4 (ix3 0 s l)
      = (rowIn x0 x1 x2 x3 x4 s).za l * lg ((rowIn x0 x1 x2 x3 x4 s).za l) := by
  pointwise [val_main_v4_0, val_main_v0, v4_2 x0 x1 x2 x3 x4]
  all_goals rfl
theorem v34_2 (s : Fin 4096) (l : Fin 512) : val_main_v34_2 (F := Ideal) x4 (ix3 0 s l)
      = lg ((rowIn x0 x1 x2 x3 x4 s).zr l) := by
  pointwise [val_main_v34_2, val_main_call1_v4, val_main_call1_cst_0, val_main_call1_v3, val_main_call1_v2, val_main_call1_cst, val_main_call1_v1,
    val_main_call1_v0, val_main_v1]
  exact logistic _
theorem v34_1 (s : Fin 4096) (l : Fin 512) : val_main_v34_1 (F := Ideal) x4 (ix3 0 s l)
      = lg ((rowIn x0 x1 x2 x3 x4 s).zr l) * (1 - lg ((rowIn x0 x1 x2 x3 x4 s).zr l)) := by
  pointwise [val_main_v34_1, val_main_call1_v7, val_main_call1_v6, val_main_call1_cst_1, v34_2 x0 x1 x2 x3 x4]
theorem v34_0 (s : Fin 4096) (l : Fin 512) : val_main_v34_0 (F := Ideal) x4 (ix3 0 s l)
      = (rowIn x0 x1 x2 x3 x4 s).zr l * lg ((rowIn x0 x1 x2 x3 x4 s).zr l) := by
  pointwise [val_main_v34_0, val_main_v1, v34_2 x0 x1 x2 x3 x4]
  all_goals rfl
theorem v5 (s : Fin 4096) (l : Fin 512) : val_main_v5 (F := Ideal) x2 x4 (ix3 0 s l)
      = (rowIn x0 x1 x2 x3 x4 s).ya l := by
  pointwise [val_main_v5, v4_0 x0 x1 x2 x3 x4]
  all_goals rfl
theorem v9 (s : Fin 4096) (g : Fin 4) : val_main_v9 (F := Ideal) x3 (ix4 0 s g 0)
      = Ideal.div (∑ d, x3 (ix4 0 s g d)) c128 := by
  pointwise [val_main_v9, val_main_v7, val_main_v6, val_main_cst, val_main_v8, val_main_cst_0]
  all_goals rfl
theorem v11 (s : Fin 4096) (g : Fin 4) (d : Fin 128) : val_main_v11 (F := Ideal) x3 (ix4 0 s g d)
      = (rowIn x0 x1 x2 x3 x4 s).cen (lane g d) := by
  pointwise [val_main_v11, val_main_v10, v9]
  exact (cen_lane x0 x1 x2 x3 x4 s g d).symm
theorem v20 (s : Fin 4096) (g : Fin 4) (d : Fin 128) : val_main_v20 (F := Ideal) x3 (ix4 0 s g d)
      = (rowIn x0 x1 x2 x3 x4 s).cen (lane g d) := by
  pointwise [val_main_v20, val_main_v19, v9]
  exact (cen_lane x0 x1 x2 x3 x4 s g d).symm
theorem v22 (s : Fin 4096) (g : Fin 4) : val_main_v22 (F := Ideal) x3 (ix4 0 s g 0)
      = (rowIn x0 x1 x2 x3 x4 s).var g := by
  pointwise [val_main_v22, val_main_v18, val_main_v16, val_main_v15, val_main_v12, val_main_cst_2, val_main_v17, val_main_cst_3, val_main_v21, val_main_cst_4, v11
    x0 x1 x2 x3 x4]
  all_goals rfl
theorem v23 (s : Fin 4096) (g : Fin 4) : val_main_v23 (F := Ideal) x3 (ix4 0 s g 0)
      = (rowIn x0 x1 x2 x3 x4 s).rs g := by
  pointwise [val_main_v23, v22 x0 x1 x2 x3 x4]
  all_goals rfl
theorem v28 (s : Fin 4096) (g : Fin 4) (d : Fin 128) : val_main_v28 (F := Ideal) x3 (ix4 0 s g d)
      = (rowIn x0 x1 x2 x3 x4 s).on (lane g d) := by
  pointwise [val_main_v28, val_main_v27, v20 x0 x1 x2 x3 x4, v23 x0 x1 x2 x3 x4]
  exact (on_lane _ g d).symm
theorem v29 (s : Fin 4096) (l : Fin 512) : val_main_v29 (F := Ideal) x3 (ix3 0 s l)
      = (rowIn x0 x1 x2 x3 x4 s).on l := by
  pointwise [val_main_v29, v28 x0 x1 x2 x3 x4]
  exact congrArg (rowIn x0 x1 x2 x3 x4 s).on (lane_hd l)
theorem v33 (s : Fin 4096) (l : Fin 512) : val_main_v33 (F := Ideal) x3 x7 (ix3 0 s l)
      = (rowIn x0 x1 x2 x3 x4 s).yn (wtsIn x5 x6 x7 x8 x9 x10) l := by
  pointwise [val_main_v33, val_main_v32, val_main_v31, val_main_v30, v29 x0 x1 x2 x3 x4]
  all_goals rfl
theorem v35 (s : Fin 4096) (l : Fin 512) : val_main_v35 (F := Ideal) x3 x4 x7 (ix3 0 s l)
      = (rowIn x0 x1 x2 x3 x4 s).yr (wtsIn x5 x6 x7 x8 x9 x10) l := by
  pointwise [val_main_v35, v33 x0 x1 x2 x3 x4 x5 x6 x7 x8 x9 x10, v34_0 x0 x1 x2 x3 x4]
  all_goals rfl
theorem v41 (s : Fin 4096) (k : Fin 2048) : val_main_v41 (F := Ideal) x4 (ix3 0 s k)
      = lg ((rowIn x0 x1 x2 x3 x4 s).gl k) := by
  pointwise [val_main_v41, val_main_v40, val_main_cst_7, val_main_v39, val_main_v38, val_main_cst_6, val_main_v37, val_main_v36, val_main_v2]
  exact logistic _
theorem v45 (s : Fin 4096) (j : Fin 1024) : val_main_v45 (F := Ideal) x4 (ix3 0 s j)
      = (rowIn x0 x1 x2 x3 x4 s).gA j := by
  pointwise [val_main_v45, v41 x0 x1 x2 x3 x4]
  all_goals rfl
theorem v46 (s : Fin 4096) (j : Fin 1024) : val_main_v46 (F := Ideal) x4 (ix3 0 s j)
      = (rowIn x0 x1 x2 x3 x4 s).gR j := by
  pointwise [val_main_v46, v41 x0 x1 x2 x3 x4]
  all_goals rfl
theorem v48 (s : Fin 4096) (j : Fin 1024) : val_main_v48 (F := Ideal) x2 x4 x8 (ix3 0 s j)
      = (rowIn x0 x1 x2 x3 x4 s).aA (wtsIn x5 x6 x7 x8 x9 x10) j := by
  pointwise [val_main_v48, val_main_v47, v5 x0 x1 x2 x3 x4]
  all_goals rfl
theorem v51 (s : Fin 4096) (j : Fin 1024) : val_main_v51 (F := Ideal) x3 x4 x7 x9 (ix3 0 s j)
      = (rowIn x0 x1 x2 x3 x4 s).aR (wtsIn x5 x6 x7 x8 x9 x10) j := by
  pointwise [val_main_v51, val_main_v50, v35 x0 x1 x2 x3 x4 x5 x6 x7 x8 x9 x10]
  all_goals rfl
theorem v53 (s : Fin 4096) (j : Fin 1024) : val_main_v53 (F := Ideal) x2 x3 x4 x7 x8 x9 (ix3 0 s j)
      = (rowIn x0 x1 x2 x3 x4 s).mg (wtsIn x5 x6 x7 x8 x9 x10) j := by
  pointwise [val_main_v53, val_main_v49, val_main_v52, v45 x0 x1 x2 x3 x4, v48 x0 x1 x2 x3 x4 x5 x6 x7 x8 x9 x10, v46 x0 x1 x2 x3 x4, v51 x0 x1 x2 x3 x4 x5 x6 x7
    x8 x9 x10]
  all_goals rfl
theorem v55 (s : Fin 4096) (j : Fin 1024) : val_main_v55 (F := Ideal) x2 x3 x4 x7 x8 x9 x10 (ix3 0 s j)
      = (rowIn x0 x1 x2 x3 x4 s).u (wtsIn x5 x6 x7 x8 x9 x10) j := by
  pointwise [val_main_v55, val_main_v54, v53 x0 x1 x2 x3 x4 x5 x6 x7 x8 x9 x10]
  all_goals rfl
theorem v63 (s : Fin 4096) : val_main_v63 (F := Ideal) x2 x3 x4 x7 x8 x9 x10 (ix3 0 s 0)
      = (rowIn x0 x1 x2 x3 x4 s).ms (wtsIn x5 x6 x7 x8 x9 x10) := by
  pointwise [val_main_v63, val_main_v61, val_main_v59, val_main_v58, val_main_v57, val_main_cst_9, val_main_v60, val_main_cst_10, val_main_v62, val_main_cst_11,
    v55 x0 x1 x2 x3 x4 x5 x6 x7 x8 x9 x10]
  all_goals rfl
theorem v64 (s : Fin 4096) : val_main_v64 (F := Ideal) x2 x3 x4 x7 x8 x9 x10 (ix3 0 s 0)
      = (rowIn x0 x1 x2 x3 x4 s).r (wtsIn x5 x6 x7 x8 x9 x10) := by
  pointwise [val_main_v64, v63 x0 x1 x2 x3 x4 x5 x6 x7 x8 x9 x10]
  all_goals rfl
theorem v69 (s : Fin 4096) (j : Fin 1024) : val_main_v69 (F := Ideal) x2 x3 x4 x7 x8 x9 x10 (ix3 0 s j)
      = (rowIn x0 x1 x2 x3 x4 s).un (wtsIn x5 x6 x7 x8 x9 x10) j := by
  pointwise [val_main_v69, val_main_v68, v55 x0 x1 x2 x3 x4 x5 x6 x7 x8 x9 x10, v64 x0 x1 x2 x3 x4 x5 x6 x7 x8 x9 x10]
  all_goals rfl
theorem v72 (s : Fin 4096) (j : Fin 1024) : val_main_v72 (F := Ideal) x2 x3 x4 x6 x7 x8 x9 x10 (ix3 0 s j)
      = (rowIn x0 x1 x2 x3 x4 s).out (wtsIn x5 x6 x7 x8 x9 x10) j := by
  pointwise [val_main_v72, val_main_v71, val_main_v70, val_main_v56, v69 x0 x1 x2 x3 x4 x5 x6 x7 x8 x9 x10]
  all_goals rfl
theorem v77 (s : Fin 4096) (j : Fin 1024) : val_main_v77 (F := Ideal) x0 x1 x2 x3 x4 x5 x6 x7 x8 x9 x10 (ix3 0 s j)
      = (rowIn x0 x1 x2 x3 x4 s).err (wtsIn x5 x6 x7 x8 x9 x10) j := by
  pointwise [val_main_v77, val_main_v76, val_main_v75, val_main_v74, val_main_v73, val_main_v3, v72 x0 x1 x2 x3 x4 x5 x6 x7 x8 x9 x10]
  all_goals rfl
theorem v91 (s : Fin 4096) (j : Fin 1024) : val_main_v91 (F := Ideal) x0 x1 x2 x3 x4 x5 x6 x7 x8 x9 x10 (ix3 0 s j)
      = (rowIn x0 x1 x2 x3 x4 s).dout (wtsIn x5 x6 x7 x8 x9 x10) j := by
  pointwise [val_main_v91, val_main_v90, val_main_v89, val_main_v87, val_main_v86, val_main_cst_18, val_main_cst_19, val_main_v88, val_main_cst_20, val_main_v80,
    val_main_v79, val_main_cst_13, v77]
  exact scaled _
theorem v183 (s : Fin 4096) (j : Fin 1024) : val_main_v183 (F := Ideal) x0 x1 x2 x3 x4 x5 x6 x7 x8 x9 x10 (ix2 s j)
      = (rowIn x0 x1 x2 x3 x4 s).dout (wtsIn x5 x6 x7 x8 x9 x10) j := by
  pointwise [val_main_v183, v91]
  all_goals rfl
theorem v93 (s : Fin 4096) (j : Fin 1024) : val_main_v93 (F := Ideal) x0 x1 x2 x3 x4 x5 x6 x7 x8 x9 x10 (ix3 0 s j)
      = (rowIn x0 x1 x2 x3 x4 s).dy (wtsIn x5 x6 x7 x8 x9 x10) j := by
  pointwise [val_main_v93, val_main_v92, val_main_v73, val_main_v3, v91]
  exact mul_comm _ _
theorem v98 (j : Fin 1024) : val_main_v98 (F := Ideal) x0 x1 x2 x3 x4 x5 x6 x7 x8 x9 x10 (ix2 0 j)
      = ∑ s, (rowIn x0 x1 x2 x3 x4 s).dgate (wtsIn x5 x6 x7 x8 x9 x10) j := by
  pointwise [val_main_v98, val_main_v97, val_main_v96, val_main_v95, val_main_v94, val_main_cst_21, val_main_cst_22, v91, v72 x0 x1 x2 x3 x4 x5 x6 x7 x8 x9 x10,
    drop_rows]
  all_goals rfl
theorem v103 (s : Fin 4096) (j : Fin 1024) : val_main_v103 (F := Ideal) x0 x1 x2 x3 x4 x5 x6 x7 x8 x9 x10 (ix3 0 s j)
      = (rowIn x0 x1 x2 x3 x4 s).dn (wtsIn x5 x6 x7 x8 x9 x10) j := by
  pointwise [val_main_v103, val_main_v102, val_main_v70, val_main_v56, v93]
  all_goals rfl
theorem v120 (j : Fin 1024) : val_main_v120 (F := Ideal) x0 x1 x2 x3 x4 x5 x6 x7 x8 x9 x10 (ix2 0 j)
      = ∑ s, (rowIn x0 x1 x2 x3 x4 s).dgp (wtsIn x5 x6 x7 x8 x9 x10) j := by
  pointwise [val_main_v120, val_main_v104, val_main_v101, val_main_v100, val_main_v99, val_main_cst_23, val_main_cst_24, v69 x0 x1 x2 x3 x4 x5 x6 x7 x8 x9 x10,
    v93, drop_rows]
  exact Finset.sum_congr (M := EReal) rfl fun s _ => mul_comm _ _
theorem v115 (s : Fin 4096) (j : Fin 1024) : val_main_v115 (F := Ideal) x0 x1 x2 x3 x4 x5 x6 x7 x8 x9 x10 (ix3 0 s j)
      = (rowIn x0 x1 x2 x3 x4 s).back (wtsIn x5 x6 x7 x8 x9 x10) := by
  pointwise [val_main_v115, val_main_v114, val_main_v113, val_main_v112, val_main_v110, val_main_v107, val_main_v106, val_main_v105, val_main_cst_25, val_main_v67,
    val_main_v66, val_main_cst_12, val_main_v65, val_main_v111, val_main_cst_26, val_main_cst_27, v55 x0 x1 x2 x3 x4 x5 x6 x7 x8 x9 x10, v103, v64 x0
    x1 x2 x3 x4 x5 x6 x7 x8 x9 x10, v63 x0 x1 x2 x3 x4 x5 x6 x7 x8 x9 x10, drop_lanes]
  all_goals rfl
theorem v119 (s : Fin 4096) (j : Fin 1024) : val_main_v119 (F := Ideal) x0 x1 x2 x3 x4 x5 x6 x7 x8 x9 x10 (ix3 0 s j)
      = (rowIn x0 x1 x2 x3 x4 s).duRef (wtsIn x5 x6 x7 x8 x9 x10) j := by
  pointwise [val_main_v119, val_main_v117, val_main_v109, val_main_v108, val_main_v116, val_main_v118, v103, v64 x0 x1 x2 x3 x4 x5 x6 x7 x8 x9 x10, v55 x0 x1 x2 x3
    x4 x5 x6 x7 x8 x9 x10, v115]
  all_goals rfl
theorem v85  : val_main_v85 (F := Ideal) x0 x1 x2 x3 x4 x5 x6 x7 x8 x9 x10 (ix0)
      = half * ∑ s, Ideal.div (∑ j, (rowIn x0 x1 x2 x3 x4 s).sq (wtsIn x5 x6 x7 x8 x9 x10) j) c1024 := by
  pointwise [val_main_v85, val_main_cst_17, val_main_v84, val_main_v83, val_main_v81, val_main_v78, val_main_cst_14, val_main_v82, val_main_cst_15,
    val_main_cst_16, v77, Fin.sum_univ_one]
  all_goals rfl

/-! What follows the backward pass of the output's norm, given that pass. -/

variable (h : ∀ (s : Fin 4096) (j : Fin 1024), val_main_v119 (F := Ideal) x0 x1 x2 x3 x4 x5 x6 x7 x8 x9 x10 (ix3 0 s j)
  = (rowIn x0 x1 x2 x3 x4 s).du (wtsIn x5 x6 x7 x8 x9 x10) j)
include h

theorem v123 (s : Fin 4096) (j : Fin 1024) : val_main_v123 (F := Ideal) x0 x1 x2 x3 x4 x5 x6 x7 x8 x9 x10 (ix3 0 s j)
      = (rowIn x0 x1 x2 x3 x4 s).dm (wtsIn x5 x6 x7 x8 x9 x10) j := by
  pointwise [val_main_v123, val_main_v54, h]
  all_goals rfl
theorem v125 (s : Fin 4096) (j : Fin 1024) : val_main_v125 (F := Ideal) x0 x1 x2 x3 x4 x5 x6 x7 x8 x9 x10 (ix3 0 s j)
      = (rowIn x0 x1 x2 x3 x4 s).dR (wtsIn x5 x6 x7 x8 x9 x10) j := by
  pointwise [val_main_v125, v46 x0 x1 x2 x3 x4, v123 (h := h)]
  exact mul_comm _ _
theorem v131 (s : Fin 4096) (j : Fin 1024) : val_main_v131 (F := Ideal) x0 x1 x2 x3 x4 x5 x6 x7 x8 x9 x10 (ix3 0 s j)
      = (rowIn x0 x1 x2 x3 x4 s).dA (wtsIn x5 x6 x7 x8 x9 x10) j := by
  pointwise [val_main_v131, v45 x0 x1 x2 x3 x4, v123 (h := h)]
  exact mul_comm _ _
theorem v129 (s : Fin 4096) (l : Fin 512) : val_main_v129 (F := Ideal) x0 x1 x2 x3 x4 x5 x6 x7 x8 x9 x10 (ix3 0 s l)
      = (rowIn x0 x1 x2 x3 x4 s).dyr (wtsIn x5 x6 x7 x8 x9 x10) l := by
  pointwise [val_main_v129, val_main_v50, v125 (h := h)]
  all_goals rfl
theorem v135 (s : Fin 4096) (l : Fin 512) : val_main_v135 (F := Ideal) x0 x1 x2 x3 x4 x5 x6 x7 x8 x9 x10 (ix3 0 s l)
      = (rowIn x0 x1 x2 x3 x4 s).dya (wtsIn x5 x6 x7 x8 x9 x10) l := by
  pointwise [val_main_v135, val_main_v47, v131 (h := h)]
  all_goals rfl
theorem v195 (k j : Fin 1024) : val_main_v195 (F := Ideal) x0 x1 x2 x3 x4 x5 x6 x7 x8 x9 x10 (ix2 k j)
      = ∑ s, (rowIn x0 x1 x2 x3 x4 s).gout (wtsIn x5 x6 x7 x8 x9 x10) k j := by
  pointwise [val_main_v195, val_main_v194, val_main_v124, val_main_v122, val_main_v121, h, v53 x0 x1 x2 x3 x4 x5 x6 x7 x8 x9 x10, Fin.sum_univ_one]
  exact Finset.sum_congr (M := EReal) rfl fun s _ => mul_comm _ _
theorem v197 (j : Fin 1024) (l : Fin 512) : val_main_v197 (F := Ideal) x0 x1 x2 x3 x4 x5 x6 x7 x8 x9 x10 (ix2 j l)
      = ∑ s, (rowIn x0 x1 x2 x3 x4 s).gpa (wtsIn x5 x6 x7 x8 x9 x10) j l := by
  pointwise [val_main_v197, val_main_v196, val_main_v136, val_main_v134, val_main_v133, v131 (h := h), v5 x0 x1 x2 x3 x4, Fin.sum_univ_one]
  all_goals rfl
theorem v199 (j : Fin 1024) (l : Fin 512) : val_main_v199 (F := Ideal) x0 x1 x2 x3 x4 x5 x6 x7 x8 x9 x10 (ix2 j l)
      = ∑ s, (rowIn x0 x1 x2 x3 x4 s).gpr (wtsIn x5 x6 x7 x8 x9 x10) j l := by
  pointwise [val_main_v199, val_main_v198, val_main_v130, val_main_v128, val_main_v127, v125 (h := h), v35 x0 x1 x2 x3 x4 x5 x6 x7 x8 x9 x10, Fin.sum_univ_one]
  all_goals rfl
theorem v201 (j l : Fin 1024) : val_main_v201 (F := Ideal) x0 x1 x2 x3 x4 x5 x6 x7 x8 x9 x10 (ix2 j l)
      = ∑ s, gw (rowIn x0 x1 x2 x3 x4 s) (wtsIn x5 x6 x7 x8 x9 x10) j l := by
  pointwise [val_main_v201, val_main_v200, v197 (h := h), v199 (h := h)]
  unfold gw
  split <;> rfl
theorem v189 (s : Fin 4096) (k : Fin 2048) : val_main_v189 (F := Ideal) x0 x1 x2 x3 x4 x5 x6 x7 x8 x9 x10 (ix2 s k)
      = dgl (rowIn x0 x1 x2 x3 x4 s) (wtsIn x5 x6 x7 x8 x9 x10) k := by
  pointwise [val_main_v189, val_main_v188, val_main_v138, val_main_v137, val_main_v132, val_main_v126, val_main_v44, val_main_v43, val_main_v42, val_main_cst_8,
    v123 (h := h), v48 x0 x1 x2 x3 x4 x5 x6 x7 x8 x9 x10, v51 x0 x1 x2 x3 x4 x5 x6 x7 x8 x9 x10, v41 x0 x1 x2 x3 x4]
  unfold dgl
  split
  · exact gate_back _ _ _
  · rename_i hk
    refine Eq.trans ?_ (gate_back _ _ _)
    exact congrArg (fun i => _ * (lg (Row.gl _ i) * (1 - lg (Row.gl _ i)))) (hi_sub k hk)
theorem v140 (s : Fin 4096) (l : Fin 512) : val_main_v140 (F := Ideal) x0 x1 x2 x3 x4 x5 x6 x7 x8 x9 x10 (ix3 0 s l)
      = (rowIn x0 x1 x2 x3 x4 s).dyn (wtsIn x5 x6 x7 x8 x9 x10) l := by
  pointwise [val_main_v140, v129 (h := h), v34_0 x0 x1 x2 x3 x4]
  all_goals rfl
theorem v146 (s : Fin 4096) (l : Fin 512) : val_main_v146 (F := Ideal) x0 x1 x2 x3 x4 x5 x6 x7 x8 x9 x10 (ix3 0 s l)
      = (rowIn x0 x1 x2 x3 x4 s).don (wtsIn x5 x6 x7 x8 x9 x10) l := by
  pointwise [val_main_v146, val_main_v145, val_main_v31, val_main_v30, v140 (h := h)]
  all_goals rfl
theorem v148 (l : Fin 512) : val_main_v148 (F := Ideal) x0 x1 x2 x3 x4 x5 x6 x7 x8 x9 x10 (ix2 0 l)
      = ∑ s, (rowIn x0 x1 x2 x3 x4 s).dgn (wtsIn x5 x6 x7 x8 x9 x10) l := by
  pointwise [val_main_v148, val_main_v147, val_main_v144, val_main_v143, val_main_v142, val_main_cst_28, val_main_cst_29, v29 x0 x1 x2 x3 x4, v140 (h := h),
    drop_512]
  exact Finset.sum_congr (M := EReal) rfl fun s _ => mul_comm _ _
theorem v177 (s : Fin 4096) (l : Fin 512) : val_main_v177 (F := Ideal) x0 x1 x2 x3 x4 x5 x6 x7 x8 x9 x10 (ix3 0 s l)
      = (rowIn x0 x1 x2 x3 x4 s).doa (wtsIn x5 x6 x7 x8 x9 x10) l := by
  pointwise [val_main_v177, v135 (h := h), v4_0 x0 x1 x2 x3 x4]
  all_goals rfl
theorem v191 (s : Fin 4096) (l : Fin 512) : val_main_v191 (F := Ideal) x0 x1 x2 x3 x4 x5 x6 x7 x8 x9 x10 (ix2 s l)
      = (rowIn x0 x1 x2 x3 x4 s).doa (wtsIn x5 x6 x7 x8 x9 x10) l := by
  pointwise [val_main_v191, val_main_v190, v177 (h := h)]
  all_goals rfl
theorem v182 (e : Fin 8) (s : Fin 4096) : val_main_v182 (F := Ideal) x0 x1 x2 x3 x4 x5 x6 x7 x8 x9 x10 (ix2 e s)
      = (rowIn x0 x1 x2 x3 x4 s).delta (wtsIn x5 x6 x7 x8 x9 x10) e := by
  pointwise [val_main_v182, val_main_v181, val_main_v180, val_main_v179, val_main_cst_37, v177 (h := h)]
  all_goals rfl
theorem v187 (s : Fin 4096) (l : Fin 512) : val_main_v187 (F := Ideal) x0 x1 x2 x3 x4 x5 x6 x7 x8 x9 x10 (ix2 s l)
      = siluBack ((rowIn x0 x1 x2 x3 x4 s).zr l) ((rowIn x0 x1 x2 x3 x4 s).yn (wtsIn x5 x6 x7 x8 x9 x10) l * (rowIn x0 x1 x2 x3 x4 s).dyr (wtsIn x5 x6 x7 x8 x9 x10) l) := by
  pointwise [val_main_v187, val_main_v186, val_main_v141, val_main_call2_v1, val_main_v139, val_main_call2_v2, val_main_call2_v0, val_main_v1, v33 x0 x1 x2 x3 x4
    x5 x6 x7 x8 x9 x10, v129 (h := h), v34_2 x0 x1 x2 x3 x4, v34_1 x0 x1 x2 x3 x4]
  all_goals rfl
theorem v185 (s : Fin 4096) (l : Fin 512) : val_main_v185 (F := Ideal) x0 x1 x2 x3 x4 x5 x6 x7 x8 x9 x10 (ix2 s l)
      = siluBack ((rowIn x0 x1 x2 x3 x4 s).za l) ((rowIn x0 x1 x2 x3 x4 s).oa l * (rowIn x0 x1 x2 x3 x4 s).dya (wtsIn x5 x6 x7 x8 x9 x10) l) := by
  pointwise [val_main_v185, val_main_v184, val_main_v178, val_main_call3_v1, val_main_v176, val_main_call3_v2, val_main_call3_v0, val_main_v0, v135 (h := h), v4_2
    x0 x1 x2 x3 x4, v4_1 x0 x1 x2 x3 x4]
  all_goals rfl
theorem v149 (s : Fin 4096) (g : Fin 4) (d : Fin 128) : val_main_v149 (F := Ideal) x0 x1 x2 x3 x4 x5 x6 x7 x8 x9 x10 (ix4 0 s g d)
      = (rowIn x0 x1 x2 x3 x4 s).don (wtsIn x5 x6 x7 x8 x9 x10) (lane g d) := by
  pointwise [val_main_v149, v146 (h := h)]
  exact congrArg _ (Fin.ext (by show g.val * 128 + d.val = 128 * g.val + d.val; omega))
theorem v162 (s : Fin 4096) (g : Fin 4) : val_main_v162 (F := Ideal) x0 x1 x2 x3 x4 x5 x6 x7 x8 x9 x10 (ix3 0 s g)
      = (rowIn x0 x1 x2 x3 x4 s).slope (wtsIn x5 x6 x7 x8 x9 x10) g := by
  pointwise [val_main_v162, val_main_v161, val_main_v160, val_main_v155, val_main_v152, val_main_v151, val_main_v150, val_main_cst_30, val_main_v26, val_main_v25,
    val_main_cst_5, val_main_v24, val_main_v159, val_main_cst_32, val_main_cst_33, v20 x0 x1 x2 x3 x4, v149 (h := h), v23 x0 x1 x2 x3 x4, v22 x0 x1 x2
    x3 x4, drop_heads]
  all_goals rfl
theorem v175 (s : Fin 4096) (g : Fin 4) (d : Fin 128) : val_main_v175 (F := Ideal) x0 x1 x2 x3 x4 x5 x6 x7 x8 x9 x10 (ix4 0 s g d)
      = (rowIn x0 x1 x2 x3 x4 s).dorRef (wtsIn x5 x6 x7 x8 x9 x10) (lane g d) := by
  pointwise [val_main_v175, val_main_v168, val_main_v154, val_main_v153, val_main_v164, val_main_v163, val_main_v14, val_main_v13, val_main_cst_1, val_main_v174,
    val_main_v173, val_main_v172, val_main_v171, val_main_v169, val_main_v158, val_main_v157, val_main_v156, val_main_cst_31, val_main_v167,
    val_main_v166, val_main_v165, val_main_cst_34, val_main_v170, val_main_cst_35, val_main_cst_36, v149 (h := h), v23 x0 x1 x2 x3 x4, v162 (h := h),
    v11 x0 x1 x2 x3 x4, drop_heads]
  unfold Row.dorRef
  rw [hd_of_lane]
theorem v193 (s : Fin 4096) (l : Fin 512) : val_main_v193 (F := Ideal) x0 x1 x2 x3 x4 x5 x6 x7 x8 x9 x10 (ix2 s l)
      = (rowIn x0 x1 x2 x3 x4 s).dorRef (wtsIn x5 x6 x7 x8 x9 x10) l := by
  pointwise [val_main_v193, val_main_v192, v175 (h := h)]
  exact congrArg ((rowIn x0 x1 x2 x3 x4 s).dorRef (wtsIn x5 x6 x7 x8 x9 x10)) (lane_hd l)

end Cert.TailRefIdeal.Hand

end
-- ==== Proof.Tail.Equation.lean ====
/- For finite inputs the tail kernel's gradients of the norms, of the gates and its loss are the reference's. -/
module

public import proofs.«01_k».proof.Proof.Tail.Reference

@[expose] public section

noncomputable section

namespace Cert.Tail

open Idealize.ShloMosaic Cert.Reals
open Cert.TailIdeal Cert.TailIdeal.Gen
open Cert.TailIdeal.Hand (lossTerm row)

/-- A value that is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.sum {ι : Type} {s : Finset ι} {f : ι → EReal} (h : ∀ i, IsReal (f i)) : IsReal (∑ i ∈ s, f i) := by
  choose g hg using h
  exact ⟨∑ i ∈ s, g i, by simp only [hg, coe_sum]⟩
theorem IsReal.div {x y : EReal} (hx : IsReal x) {b : ℝ} (hy : y = b) (hb : b ≠ 0) : IsReal (Ideal.div x y) := by
  obtain ⟨a, rfl⟩ := hx
  exact ⟨a / b, by rw [hy, div_real _ hb]⟩
theorem c128_real : c128 = ((128 : ℝ) : EReal) := by
  simp [Ideal.ofBits, Ideal.ieee, -EReal.coe_mul]
  norm_num
theorem half1024_real : half1024 = ((1 / 2048 : ℝ) : EReal) := by
  simp [Ideal.ofBits, Ideal.ieee, -EReal.coe_mul]
  norm_num
theorem negHalf_real : negHalf = ((-(1 / 2) : ℝ) : EReal) := bits_neg_half
theorem small_real : small = ((eps : ℝ) : EReal) := bits_eps
theorem isReal_one : IsReal 1 := ⟨1, EReal.coe_one.symm⟩

theorem lg_real (z : ℝ) : lg z = ((1 / (1 + Real.exp (-z)) : ℝ) : EReal) := by
  unfold lg
  rw [zero_sub, ← EReal.coe_neg, show Ideal.exp ((-z : ℝ) : EReal) = ((Real.exp (-z) : ℝ) : EReal) from rfl, ← EReal.coe_one, ← EReal.coe_add,
    div_real _ (by positivity)]
theorem IsReal.lg {z : EReal} (h : IsReal z) : IsReal (lg z) := by
  obtain ⟨r, rfl⟩ := h
  exact ⟨_, lg_real r⟩

/-- The reciprocal root over a mean of squares. -/
def msR {n : ℕ} (x : Fin n → ℝ) (k : ℝ) : ℝ := (∑ j, x j * x j) / k + eps
theorem msR_pos {n : ℕ} (x : Fin n → ℝ) {k : ℝ} (hk : 0 < k) : 0 < msR x k :=
  add_pos_of_nonneg_of_pos (div_nonneg (Finset.sum_nonneg fun k _ => mul_self_nonneg _) hk.le) eps_pos
theorem ms_eq {n : ℕ} (x : Fin n → ℝ) {k : ℝ} (hk : 0 < k) : Ideal.div (∑ j, (x j : EReal) * x j) (k : EReal) + small = (msR x k : EReal) := by
  unfold msR
  rw [small_real]
  simp only [← EReal.coe_mul, ← coe_sum]
  rw [div_real _ hk.ne', EReal.coe_add]

structure Row.Real (R : Row) : Prop where
  x : ∀ j, IsReal (R.x j)
  y : ∀ j, IsReal (R.y j)
  oa : ∀ l, IsReal (R.oa l)
  o : ∀ l, IsReal (R.o l)
  za : ∀ l, IsReal (R.za l)
  zr : ∀ l, IsReal (R.zr l)
  gl : ∀ k, IsReal (R.gl k)
structure Wts.Real (W : Wts) : Prop where
  gate : ∀ j, IsReal (W.gate j)
  gp : ∀ j, IsReal (W.gp j)
  gn : ∀ l, IsReal (W.gn l)
  wa : ∀ j l, IsReal (W.wa j l)
  wr : ∀ j l, IsReal (W.wr j l)
  wo : ∀ k j, IsReal (W.wo k j)

variable {R : Row} {W : Wts} (hR : R.Real) (hW : W.Real)
include hR

theorem real_cen (l : Fin 512) : IsReal (R.cen l) := (hR.o l).sub ((IsReal.sum fun _ => hR.o _).div c128_real (by norm_num))
theorem var_real (h : Fin 4) : ∃ v : ℝ, 0 < v ∧ R.var h = v := by
  choose f hf using real_cen hR
  refine ⟨msR (fun d => f (lane h d)) 128, msR_pos _ (by norm_num), ?_⟩
  unfold Row.var
  simp only [hf, c128_real]
  exact ms_eq (fun d => f (lane h d)) (by norm_num)
theorem real_rs (h : Fin 4) : IsReal (R.rs h) := by
  obtain ⟨v, hv, e⟩ := var_real hR h
  exact ⟨_, (congrArg Ideal.rsqrt e).trans (rsqrt_real hv)⟩
theorem real_on (l : Fin 512) : IsReal (R.on l) := (real_cen hR l).mul (real_rs hR _)
theorem real_gA (j : Fin 1024) : IsReal (R.gA j) := (hR.gl _).lg
theorem real_gR (j : Fin 1024) : IsReal (R.gR j) := (hR.gl _).lg
theorem real_ya (l : Fin 512) : IsReal (R.ya l) := (hR.oa l).mul ((hR.za l).mul (hR.za l).lg)

include hW

theorem real_yn (l : Fin 512) : IsReal (R.yn W l) := (real_on hR l).mul (hW.gn l)
theorem real_yr (l : Fin 512) : IsReal (R.yr W l) := (real_yn hR hW l).mul ((hR.zr l).mul (hR.zr l).lg)
theorem real_mg (j : Fin 1024) : IsReal (R.mg W j) :=
  ((real_gA hR j).mul (IsReal.sum fun l => (real_ya hR l).mul (hW.wa j l))).add ((real_gR hR j).mul (IsReal.sum fun l => (real_yr hR hW l).mul (hW.wr j l)))
theorem real_u (j : Fin 1024) : IsReal (R.u W j) := IsReal.sum fun k => (real_mg hR hW k).mul (hW.wo k j)
theorem ms_real : ∃ v : ℝ, 0 < v ∧ R.ms W = v := by
  choose f hf using real_u hR hW
  refine ⟨msR f 1024, msR_pos _ (by norm_num), ?_⟩
  unfold Row.ms
  simp only [hf, c1024_real]
  exact ms_eq f (by norm_num)
theorem real_r : IsReal (R.r W) := by
  obtain ⟨v, hv, e⟩ := ms_real hR hW
  exact ⟨_, (congrArg Ideal.rsqrt e).trans (rsqrt_real hv)⟩
theorem real_err (j : Fin 1024) : IsReal (R.err W j) :=
  ((hR.x j).add ((hW.gate j).mul (((real_u hR hW j).mul (real_r hR hW)).mul (hW.gp j)))).sub (hR.y j)
theorem real_dn (j : Fin 1024) : IsReal (R.dn W j) := (((real_err hR hW j).mul ⟨_, inv1024_real⟩).mul (hW.gate j)).mul (hW.gp j)

omit hR hW in
/-- The real-number equation of a norm's backward pass, `a` the reciprocal root of `v`. -/
theorem norm_back (n x a v q : ℝ) (hv : 0 < v) (ha : a = (Real.sqrt v)⁻¹) :
    n * a + x * (q * (-(1 / 2) * (a / v)) / 1024) + q * (-(1 / 2) * (a / v)) / 1024 * x = a * (n - x * a * (q * a / 1024)) := by
  have h : a * a = 1 / v := by rw [ha, ← mul_inv, Real.mul_self_sqrt hv.le, one_div]
  have h3 : a * (x * a * (q * a / 1024)) = x * q * a * (a * a) / 1024 := by ring
  rw [mul_sub, h3, h]
  field_simp
  ring

theorem du_eq (j : Fin 1024) : R.duRef W j = R.du W j := by
  obtain ⟨v, hv, e⟩ := ms_real hR hW
  have er : R.r W = (((Real.sqrt v)⁻¹ : ℝ) : EReal) := (congrArg Ideal.rsqrt e).trans (rsqrt_real hv)
  choose f hf using real_u hR hW
  choose n hn using real_dn hR hW
  unfold Row.duRef Row.back Row.du Row.dp Row.un
  simp only [e, er, hf, hn, c1024_real, negHalf_real, div_real _ hv.ne', ← EReal.coe_mul, ← coe_sum, div_real _ (show (1024 : ℝ) ≠ 0 by norm_num),
    ← coe_sub, ← EReal.coe_add]
  refine congrArg (fun r : ℝ => (r : EReal)) ((norm_back _ _ _ _ _ hv rfl).trans ?_)
  rw [Finset.sum_mul]
  simp only [mul_comm, mul_assoc, mul_left_comm]

theorem real_du (j : Fin 1024) : IsReal (R.du W j) :=
  (real_r hR hW).mul ((real_dn hR hW j).sub (((real_u hR hW j).mul (real_r hR hW)).mul
    ((IsReal.sum fun k => (real_dn hR hW k).mul ((real_u hR hW k).mul (real_r hR hW))).div c1024_real (by norm_num))))
theorem real_dm (k : Fin 1024) : IsReal (R.dm W k) := IsReal.sum fun j => (real_du hR hW j).mul (hW.wo k j)
theorem real_dya (l : Fin 512) : IsReal (R.dya W l) := IsReal.sum fun j => ((real_dm hR hW j).mul (real_gA hR j)).mul (hW.wa j l)
theorem real_dyr (l : Fin 512) : IsReal (R.dyr W l) := IsReal.sum fun j => ((real_dm hR hW j).mul (real_gR hR j)).mul (hW.wr j l)
theorem real_don (l : Fin 512) : IsReal (R.don W l) := ((real_dyr hR hW l).mul ((hR.zr l).mul (hR.zr l).lg)).mul (hW.gn l)

omit hR hW in
theorem silu_back {z a b : EReal} (hz : IsReal z) (ha : IsReal a) (hb : IsReal b) : siluBack z (b * a) = a * b * dsilu z := by
  obtain ⟨s, hs⟩ := hz.lg
  obtain ⟨z, rfl⟩ := hz
  obtain ⟨a, rfl⟩ := ha
  obtain ⟨b, rfl⟩ := hb
  unfold siluBack dsilu
  rw [hs, ← EReal.coe_one]
  simp only [← EReal.coe_mul, ← coe_sub, ← EReal.coe_add]
  refine congrArg (fun r : ℝ => (r : EReal)) ?_
  ring

theorem dza_eq (l : Fin 512) : siluBack (R.za l) (R.oa l * R.dya W l) = R.dza W l := silu_back (hR.za l) (real_dya hR hW l) (hR.oa l)
theorem dzr_eq (l : Fin 512) : siluBack (R.zr l) (R.yn W l * R.dyr W l) = R.dzr W l := silu_back (hR.zr l) (real_dyr hR hW l) (real_yn hR hW l)

omit hR hW in
/-- The real-number equation of a head's backward pass: the centred lanes `k` add up to zero. -/
theorem group_back (n k : Fin 128 → ℝ) (a v : ℝ) (hv : 0 < v) (ha : a = (Real.sqrt v)⁻¹) (hk : ∑ d, k d = 0) (x y : ℝ) :
    y * a + (∑ d, k d * n d) * (-(1 / 2) * (a / v)) / 128 * (2 * x)
      + ((∑ d, -(n d * a)) + ∑ d, -((∑ d, k d * n d) * (-(1 / 2) * (a / v)) / 128 * (2 * k d))) / 128
      = a * (y - (∑ d, n d) / 128 - x * a * ((∑ d, n d * (k d * a)) / 128)) := by
  have h : a * a = 1 / v := by rw [ha, ← mul_inv, Real.mul_self_sqrt hv.le, one_div]
  have e1 : ∑ d, -(n d * a) = -((∑ d, n d) * a) := by rw [Finset.sum_neg_distrib, Finset.sum_mul]
  have e2 (q : ℝ) : ∑ d, -(q * (2 * k d)) = 0 := by
    rw [Finset.sum_neg_distrib, ← Finset.mul_sum, ← Finset.mul_sum, hk, mul_zero, mul_zero, neg_zero]
  have e3 : ∑ d, n d * (k d * a) = (∑ d, k d * n d) * a := by
    rw [Finset.sum_mul]
    exact Finset.sum_congr rfl fun d _ => by ring
  rw [e1, e2, e3]
  generalize (∑ d, k d * n d) = q
  generalize (∑ d, n d) = p
  have h3 : a * (x * a * (q * a / 128)) = x * q * a * (a * a) / 128 := by ring
  rw [mul_sub, h3, h]
  field_simp
  ring

theorem dor_eq (l : Fin 512) : R.dorRef W l = R.dor W l := by
  obtain ⟨v, hv, e⟩ := var_real hR (hd l)
  have er : R.rs (hd l) = (((Real.sqrt v)⁻¹ : ℝ) : EReal) := (congrArg Ideal.rsqrt e).trans (rsqrt_real hv)
  have hz : ∃ f : Fin 512 → ℝ, (∀ l, R.cen l = f l) ∧ ∀ h, ∑ d, f (lane h d) = 0 := by
    choose o ho using hR.o
    refine ⟨fun l => o l - (∑ d, o (lane (hd l) d)) / 128, fun l => ?_, fun h => ?_⟩
    · unfold Row.cen
      simp only [ho, c128_real, ← coe_sum, div_real _ (show (128 : ℝ) ≠ 0 by norm_num), ← coe_sub]
    · simp only [hd_of_lane, Finset.sum_sub_distrib, Finset.sum_const, Finset.card_univ, Fintype.card_fin, nsmul_eq_mul]
      push_cast
      ring
  obtain ⟨f, hf, hz⟩ := hz
  choose n hn using real_don hR hW
  unfold Row.dorRef Row.slope Row.dor Row.on
  simp only [hd_of_lane, e, er, hf, hn, c128_real, two_real, negHalf_real, div_real _ hv.ne', ← EReal.coe_mul, ← EReal.coe_neg, ← coe_sum,
    div_real _ (show (128 : ℝ) ≠ 0 by norm_num), ← coe_sub, ← EReal.coe_add]
  exact congrArg (fun r : ℝ => (r : EReal)) (group_back (fun d => n (lane (hd l) d)) (fun d => f (lane (hd l) d)) _ v hv rfl (hz _) _ _)

omit hR hW in
theorem sum_lanes (f : Fin 1024 → ℝ) : ∑ j, f j = ∑ l : Fin 128, ∑ b : Fin 8, f (blk b l) := by
  rw [Finset.sum_comm, ← Fintype.sum_prod_type']
  refine (Fintype.sum_equiv (finProdFinEquiv (m := 8) (n := 128)) (fun i => f (blk i.1 i.2)) f fun i => congrArg f (Fin.ext ?_)).symm
  show 128 * i.1.val + i.2.val = i.2.val + 128 * i.1.val
  omega
omit hR hW in
theorem sum_rows_real (f : Fin 4096 → ℝ) : ∑ t : Fin cfg0.N, ∑ r, f (row t r) = ∑ s, f s :=
  Fin.sum_mul_add_fin (S := cfg0.N) (n := 256) f (by decide +kernel)

omit hR in
/-- The loss: the kernel adds the squares by lanes and blocks of rows, each halved and divided by 1024 before the last sum. -/
theorem loss_eq (R : Fin 4096 → Row) (hR : ∀ s, (R s).Real) :
    half * ∑ s, Ideal.div (∑ j, (R s).sq W j) c1024 = ∑ l : Fin 128, ∑ t : Fin cfg0.N, lossTerm (fun r => R (row t r)) W l := by
  have h s j : IsReal ((R s).sq W j) := (real_err (hR s) hW j).mul (real_err (hR s) hW j)
  choose f hf using h
  unfold lossTerm
  simp only [hf, half_real, half1024_real, c1024_real, ← coe_sum, div_real _ (show (1024 : ℝ) ≠ 0 by norm_num), ← EReal.coe_mul, ← EReal.coe_add]
  refine congrArg (fun r : ℝ => (r : EReal)) ?_
  have e (l : Fin 128) (t : Fin cfg0.N) : 1 / 2048 * ((∑ r, f (row t r) (blk 0 l)) + (∑ r, f (row t r) (blk 1 l)) + (∑ r, f (row t r) (blk 2 l))
      + (∑ r, f (row t r) (blk 3 l)) + (∑ r, f (row t r) (blk 4 l)) + (∑ r, f (row t r) (blk 5 l)) + (∑ r, f (row t r) (blk 6 l))
      + ∑ r, f (row t r) (blk 7 l)) = 1 / 2048 * ∑ r, ∑ b, f (row t r) (blk b l) := by
    rw [Finset.sum_comm, Fin.sum_univ_eight]
  simp only [e, ← Finset.mul_sum, ← Finset.sum_div]
  rw [Finset.sum_congr rfl fun l _ => sum_rows_real fun s => ∑ b, f s (blk b l), Finset.sum_comm (γ := Fin 128)]
  simp only [← sum_lanes]
  ring

end Cert.Tail

end
-- ==== Proof.Tail.Claims.lean ====
/- The claims about the layer's tail: both programs end with the same gradients and the same loss. -/
module

public import proofs.«01_k».proof.Defs
public import proofs.«01_k».proof.Proof.Gen.Pre_finite5
public import proofs.«01_k».proof.Proof.Gen.TailRefIdeal.Run
public import proofs.«01_k».proof.Proof.Tail.Host
public import proofs.«01_k».proof.Proof.Tail.Equation

@[expose] public section

set_option maxRecDepth 16384

noncomputable section

namespace Cert.TailClaims

open Idealize.ShloMosaic Idealize.ShloMosaic.TcCoe Idealize.SL.Sem
open Cert.Tail (Row Wts rowIn wtsIn IsReal du_eq dza_eq dzr_eq dor_eq loss_eq)
open Cert.TailFrame Cert.TailIdeal.Hand

/-- What the precondition says: every element of every argument is a real. -/
theorem reals {a0 : FVec Ideal Cert.Pre_finite5.S1x4096x1024 .f32} {a1 : FVec Ideal Cert.Pre_finite5.S1x4096x1024 .f32} {a2 : FVec Ideal Cert.Pre_finite5.S1x4096x512 .f32}
    {a3 : FVec Ideal Cert.Pre_finite5.S1x4096x4x128 .f32} {a4 : FVec Ideal Cert.Pre_finite5.S1x4096x4864 .f32} {a5 : FVec Ideal Cert.Pre_finite5.S1x3072 .f32}
    {a6 : FVec Ideal Cert.Pre_finite5.S1x1024 .f32} {a7 : FVec Ideal Cert.Pre_finite5.S1x512 .f32} {a8 : FVec Ideal Cert.Pre_finite5.S1x512x1024 .f32}
    {a9 : FVec Ideal Cert.Pre_finite5.S1x512x1024 .f32} {a10 : FVec Ideal Cert.Pre_finite5.S1x1024x1024 .f32}
    (h : Cert.Pre_finite5.fn (F := Ideal) a0 a1 a2 a3 a4 a5 a6 a7 a8 a9 a10 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) := by
  have : Subsingleton Cert.Pre_finite5.S_.Idx := ⟨fun a b => funext fun i => i.elim0⟩
  have h := congrFun h ix0
  unfold Cert.Pre_finite5.fn Cert.Pre_finite5.fn_part1 Cert.Pre_finite5.fn_part2 Cert.Pre_finite5.fn_part3 at h
  dsimp only at h
  simp only [show ∀ (a b : IVec Cert.Pre_finite5.S_ 1) i, andi a b i = IntOp.andi (a i) (b i) from fun _ _ _ => rfl, IntOp.andi_eq_one] at h
  obtain ⟨⟨⟨⟨⟨⟨⟨⟨⟨⟨h0, h1⟩, h2⟩, h3⟩, h4⟩, h5⟩, h6⟩, h7⟩, h8⟩, h9⟩, h10⟩ := h
  exact ⟨Reals.real_of_all _ _ _ _ _ _ h0, Reals.real_of_all _ _ _ _ _ _ h1, Reals.real_of_all _ _ _ _ _ _ h2, Reals.real_of_all _ _ _ _ _ _ h3, Reals.real_of_all _ _ _ _ _ _ h4, Reals.real_of_all _ _ _ _ _ _ h5, Reals.real_of_all _ _ _ _ _ _ h6, Reals.real_of_all _ _ _ _ _ _ h7, Reals.real_of_all _ _ _ _ _ _ h8, Reals.real_of_all _ _ _ _ _ _ h9, Reals.real_of_all _ _ _ _ _ _ h10⟩

/-- The reference runs, leaves its arguments unchanged, and declares no semaphore. -/
theorem frameRef : Cert.quiescent_TailRefIdeal := fun m ρ _ =>
  (θ_run Cert.TailRefIdeal.defs _ _).mono
    (fun r h => ⟨fun c => (h c).2.2.2.2.2.2.2.2.2.2.2.2.2, Idealize.ShloMosaic.sem_eq_zero_of_no_sems (by decide) r.2⟩)
    (Cert.TailRefIdeal.Value.run m ρ)

section
open Cert.TailIdeal Cert.TailIdeal.Gen
variable (m : (ℓ : Loc nD τ sig) → Buf (Elt Ideal) ℓ)

/-- What the kernel program leaves in a buffer no window covers. -/
abbrev left (c : Dev nD) (b : Ref sig .tc) : Buf (Elt Ideal) ((c.tc : Thread nD τ).loc b) :=
  Pipeline.afterTail₀ cfgs (dats m) 0 (V0 m) [hostOps1] c b

theorem run (g : Dev nD → PrngReg) : θ_run defs (onTc (τ := τ) (main (F := Ideal))) ⟨m, fun _ => 0, g⟩ fun r => ∀ c : Dev nD,
    r.2.mem ((c.tc : Thread nD τ).loc main_v14_0) = (dats m 0 c).arrAt 12 cfg0.N
      ∧ r.2.mem ((c.tc : Thread nD τ).loc main_v14_1) = (dats m 0 c).arrAt 13 cfg0.N
      ∧ r.2.mem ((c.tc : Thread nD τ).loc main_v14_2) = (dats m 0 c).arrAt 14 cfg0.N
      ∧ r.2.mem ((c.tc : Thread nD τ).loc main_v14_3) = (dats m 0 c).arrAt 15 cfg0.N
      ∧ r.2.mem ((c.tc : Thread nD τ).loc main_v14_4) = (dats m 0 c).arrAt 16 cfg0.N
      ∧ r.2.mem ((c.tc : Thread nD τ).loc main_v14_5) = (dats m 0 c).arrAt 17 cfg0.N
      ∧ r.2.mem ((c.tc : Thread nD τ).loc main_v14_6) = (dats m 0 c).arrAt 18 cfg0.N
      ∧ r.2.mem ((c.tc : Thread nD τ).loc main_v14_7) = (dats m 0 c).arrAt 19 cfg0.N
      ∧ r.2.mem ((c.tc : Thread nD τ).loc main_v14_8) = (dats m 0 c).arrAt 20 cfg0.N
      ∧ r.2.mem ((c.tc : Thread nD τ).loc main_v14_9) = (dats m 0 c).arrAt 21 cfg0.N
      ∧ r.2.mem ((c.tc : Thread nD τ).loc main_v14_10) = (dats m 0 c).arrAt 22 cfg0.N
      ∧ r.2.mem ((c.tc : Thread nD τ).loc main_v14_11) = (dats m 0 c).arrAt 23 cfg0.N
      ∧ r.2.mem ((c.tc : Thread nD τ).loc main_v15) = left m c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ?_) (θ_run_and (run_main (F := Ideal) m g) (unchanged m g))
  have k (b : Ref sig .tc) (hb : b ∈ Pipeline.restRefs sig (cfgs 0).spec) := (h.1 c).2 b hb
  exact ⟨(h.1 c).1 12, (h.1 c).1 13, (h.1 c).1 14, (h.1 c).1 15, (h.1 c).1 16, (h.1 c).1 17, (h.1 c).1 18, (h.1 c).1 19, (h.1 c).1 20, (h.1 c).1 21, (h.1 c).1 22, (h.1 c).1 23,
    k main_v15 (Pipeline.mem_restRefs_of _ (by decide) (by decide)), h.2 c⟩

variable (c : Dev nD)

theorem left15 : left m c main_v15 ix0 = ∑ l : Fin 128, ∑ t, lossTerm (rows m c t) (wK m c) l := by
  have e : left m c main_v15 ix0 = at15 (exitV m c) := by
    unfold left Pipeline.afterTail₀
    rfl
  rw [e, at15_eq]
  exact Finset.sum_congr (M := EReal) rfl fun l _ => exit24 m c l

/-- The rows and the weights, of the kernel's arguments. -/
abbrev inR (s : Fin 4096) : Row := rowIn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) s
abbrev inW : Wts := wtsIn (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

variable (h : Pre_TailIdeal_finite5 m)
include h

theorem real_row (s : Fin 4096) : (inR m c s).Real := by
  obtain ⟨h0, h1, h2, h3, h4, _⟩ := reals (h c)
  exact ⟨fun _ => h0 _, fun _ => h1 _, fun _ => h2 _, fun _ => h3 _, fun _ => h4 _, fun _ => h4 _, fun _ => h4 _⟩
theorem real_wts : (inW m c).Real := by
  obtain ⟨_, _, _, _, _, h5, h6, h7, h8, h9, h10⟩ := reals (h c)
  exact ⟨fun _ => h5 _, fun _ => h6 _, fun _ => h7 _, fun _ _ => h8 _, fun _ _ => h9 _, fun _ _ => h10 _⟩

/-- A reference array of the kernel's arguments. -/
local notation:max "ref[" f "]" => f (F := Ideal) (m (Thread.loc (c.tc : Thread nD τ) main_arg0)) (m (Thread.loc (c.tc : Thread nD τ) main_arg1)) (m (Thread.loc (c.tc : Thread nD τ) main_arg2)) (m (Thread.loc (c.tc : Thread nD τ) main_arg3)) (m (Thread.loc (c.tc : Thread nD τ) main_arg4)) (m (Thread.loc (c.tc : Thread nD τ) main_arg5)) (m (Thread.loc (c.tc : Thread nD τ) main_arg6)) (m (Thread.loc (c.tc : Thread nD τ) main_arg7)) (m (Thread.loc (c.tc : Thread nD τ) main_arg8)) (m (Thread.loc (c.tc : Thread nD τ) main_arg9)) (m (Thread.loc (c.tc : Thread nD τ) main_arg10))

/-- The reference's gradient behind the output's norm. -/
theorem norm119 (s : Fin 4096) (j : Fin 1024) : ref[Cert.TailRefIdeal.Read.val_main_v119] (ix3 0 s j)
    = (inR m c s).du (inW m c) j :=
  (Cert.TailRefIdeal.Hand.v119 ..).trans (du_eq (real_row m c h s) (real_wts m c h) j)

/-! Each result of the reference, of the kernel's arguments, is the array the kernel leaves. -/

omit h in
theorem res0 : ref[Cert.TailRefIdeal.Read.val_main_v183]
    = (dats m 0 c).arrAt 12 cfg0.N := by
  refine Eq.trans ?_ (final12 m c).symm
  funext i
  idx_vars i
  exact (Cert.TailRefIdeal.Hand.v183 ..).trans
    (congrFun (congrArg₂ Row.dout (rowK_eq m c i0).symm (wK_eq m c).symm) i1)
theorem res1 : ref[Cert.TailRefIdeal.Read.val_main_v185]
    = (dats m 0 c).arrAt 13 cfg0.N := by
  refine Eq.trans ?_ (final13 m c).symm
  funext i
  idx_vars i
  exact ((Cert.TailRefIdeal.Hand.v185 (h := norm119 m c h) ..).trans (dza_eq (real_row m c h i0) (real_wts m c h) i1)).trans
    (congrFun (congrArg₂ Row.dza (rowK_eq m c i0).symm (wK_eq m c).symm) i1)
theorem res2 : ref[Cert.TailRefIdeal.Read.val_main_v187]
    = (dats m 0 c).arrAt 14 cfg0.N := by
  refine Eq.trans ?_ (final14 m c).symm
  funext i
  idx_vars i
  exact ((Cert.TailRefIdeal.Hand.v187 (h := norm119 m c h) ..).trans (dzr_eq (real_row m c h i0) (real_wts m c h) i1)).trans
    (congrFun (congrArg₂ Row.dzr (rowK_eq m c i0).symm (wK_eq m c).symm) i1)
theorem res3 : ref[Cert.TailRefIdeal.Read.val_main_v189]
    = (dats m 0 c).arrAt 15 cfg0.N := by
  refine Eq.trans ?_ (final15 m c).symm
  funext i
  idx_vars i
  exact (Cert.TailRefIdeal.Hand.v189 (h := norm119 m c h) ..).trans
    (congrFun (congrArg₂ dgl (rowK_eq m c i0).symm (wK_eq m c).symm) i1)
theorem res4 : ref[Cert.TailRefIdeal.Read.val_main_v191]
    = (dats m 0 c).arrAt 16 cfg0.N := by
  refine Eq.trans ?_ (final16 m c).symm
  funext i
  idx_vars i
  exact (Cert.TailRefIdeal.Hand.v191 (h := norm119 m c h) ..).trans
    (congrFun (congrArg₂ Row.doa (rowK_eq m c i0).symm (wK_eq m c).symm) i1)
theorem res5 : ref[Cert.TailRefIdeal.Read.val_main_v193]
    = (dats m 0 c).arrAt 17 cfg0.N := by
  refine Eq.trans ?_ (final17 m c).symm
  funext i
  idx_vars i
  exact ((Cert.TailRefIdeal.Hand.v193 (h := norm119 m c h) ..).trans (dor_eq (real_row m c h i0) (real_wts m c h) i1)).trans
    (congrFun (congrArg₂ Row.dor (rowK_eq m c i0).symm (wK_eq m c).symm) i1)
theorem res6 : ref[Cert.TailRefIdeal.Read.val_main_v182]
    = (dats m 0 c).arrAt 18 cfg0.N := by
  refine Eq.trans ?_ (final18 m c).symm
  funext i
  idx_vars i
  exact (Cert.TailRefIdeal.Hand.v182 (h := norm119 m c h) ..).trans
    (congrFun (congrArg₂ Row.delta (rowK_eq m c i1).symm (wK_eq m c).symm) i0)
theorem res7 : ref[Cert.TailRefIdeal.Read.val_main_v195]
    = (dats m 0 c).arrAt 19 cfg0.N := by
  refine Eq.trans ?_ (final19 m c).symm
  funext i
  idx_vars i
  exact (Cert.TailRefIdeal.Hand.v195 (h := norm119 m c h) ..).trans
    (Finset.sum_congr (M := EReal) rfl fun s _ => congrFun (congrFun (congrArg₂ Row.gout (rowK_eq m c s).symm (wK_eq m c).symm) i0) i1)
theorem res8 : ref[Cert.TailRefIdeal.Read.val_main_v201]
    = (dats m 0 c).arrAt 20 cfg0.N := by
  refine Eq.trans ?_ (final20 m c).symm
  funext i
  idx_vars i
  exact (Cert.TailRefIdeal.Hand.v201 (h := norm119 m c h) ..).trans
    (Finset.sum_congr (M := EReal) rfl fun s _ => congrFun (congrFun (congrArg₂ gw (rowK_eq m c s).symm (wK_eq m c).symm) i0) i1)
omit h in
theorem res9 : ref[Cert.TailRefIdeal.Read.val_main_v98]
    = (dats m 0 c).arrAt 21 cfg0.N := by
  refine Eq.trans ?_ (final21 m c).symm
  funext i
  idx_vars i
  obtain rfl : i0 = 0 := Subsingleton.elim _ _
  exact (Cert.TailRefIdeal.Hand.v98 ..).trans
    (Finset.sum_congr (M := EReal) rfl fun s _ => congrFun (congrArg₂ Row.dgate (rowK_eq m c s).symm (wK_eq m c).symm) i1)
omit h in
theorem res10 : ref[Cert.TailRefIdeal.Read.val_main_v120]
    = (dats m 0 c).arrAt 22 cfg0.N := by
  refine Eq.trans ?_ (final22 m c).symm
  funext i
  idx_vars i
  obtain rfl : i0 = 0 := Subsingleton.elim _ _
  exact (Cert.TailRefIdeal.Hand.v120 ..).trans
    (Finset.sum_congr (M := EReal) rfl fun s _ => congrFun (congrArg₂ Row.dgp (rowK_eq m c s).symm (wK_eq m c).symm) i1)
theorem res11 : ref[Cert.TailRefIdeal.Read.val_main_v148]
    = (dats m 0 c).arrAt 23 cfg0.N := by
  refine Eq.trans ?_ (final23 m c).symm
  funext i
  idx_vars i
  obtain rfl : i0 = 0 := Subsingleton.elim _ _
  exact (Cert.TailRefIdeal.Hand.v148 (h := norm119 m c h) ..).trans
    (Finset.sum_congr (M := EReal) rfl fun s _ => congrFun (congrArg₂ Row.dgn (rowK_eq m c s).symm (wK_eq m c).symm) i1)
theorem res12 : ref[Cert.TailRefIdeal.Read.val_main_v85] = left m c main_v15 := by
  funext i
  obtain rfl : i = ix0 := funext fun b => b.elim0
  refine ((Cert.TailRefIdeal.Hand.v85 ..).trans (loss_eq (real_wts m c h) _ (real_row m c h))).trans (Eq.trans ?_ (left15 m c).symm)
  exact Finset.sum_congr (M := EReal) rfl fun l _ => Finset.sum_congr (M := EReal) rfl fun t _ =>
    congrFun (congrArg₂ lossTerm (funext fun r => (rowK_eq m c _).symm) (wK_eq m c).symm) l

end

set_option maxHeartbeats 1600000 in
theorem value : Cert.algebraic_TailIdeal_TailRefIdeal_pre_finite5 := by
  intro m g m' g' hpre hargs
  refine ⟨fun c => (dats m 0 c).arrAt 12 Cert.TailIdeal.cfg0.N, fun c => (dats m 0 c).arrAt 13 Cert.TailIdeal.cfg0.N, fun c => (dats m 0 c).arrAt 14 Cert.TailIdeal.cfg0.N, fun c => (dats m 0 c).arrAt 15 Cert.TailIdeal.cfg0.N, fun c => (dats m 0 c).arrAt 16 Cert.TailIdeal.cfg0.N, fun c => (dats m 0 c).arrAt 17 Cert.TailIdeal.cfg0.N, fun c => (dats m 0 c).arrAt 18 Cert.TailIdeal.cfg0.N, fun c => (dats m 0 c).arrAt 19 Cert.TailIdeal.cfg0.N, fun c => (dats m 0 c).arrAt 20 Cert.TailIdeal.cfg0.N, fun c => (dats m 0 c).arrAt 21 Cert.TailIdeal.cfg0.N, fun c => (dats m 0 c).arrAt 22 Cert.TailIdeal.cfg0.N, fun c => (dats m 0 c).arrAt 23 Cert.TailIdeal.cfg0.N,
    fun c => left m c Cert.TailIdeal.main_v15, run m g, ?_⟩
  refine (θ_run _ _ _).mono (fun r h c => ?_) (Cert.TailRefIdeal.Value.run m' g')
  obtain ⟨h0, h1, h2, h3, h4, h5, h6, h7, h8, h9, h10, h11, h12, ha⟩ := h c
  obtain ⟨e0, e1, e2, e3, e4, e5, e6, e7, e8, e9, e10⟩ := hargs c
  have f {b : Ref Cert.TailRefIdeal.sig .tc} {x} (e : m' ((c.tc : Thread Cert.TailRefIdeal.nD Cert.TailRefIdeal.τ).loc b) = x) :
      StableHlo.launchContents m' c (Proc.devRef .tc b) = x := e
  clear hargs
  refine ⟨(h0.trans (Cert.TailRefIdeal.Read.val_main_v183_eq _)).trans (Eq.trans ?_ (res0 m c)), (h1.trans (Cert.TailRefIdeal.Read.val_main_v185_eq _)).trans (Eq.trans ?_ (res1 m c hpre)), (h2.trans (Cert.TailRefIdeal.Read.val_main_v187_eq _)).trans (Eq.trans ?_ (res2 m c hpre)), (h3.trans (Cert.TailRefIdeal.Read.val_main_v189_eq _)).trans (Eq.trans ?_ (res3 m c hpre)), (h4.trans (Cert.TailRefIdeal.Read.val_main_v191_eq _)).trans (Eq.trans ?_ (res4 m c hpre)), (h5.trans (Cert.TailRefIdeal.Read.val_main_v193_eq _)).trans (Eq.trans ?_ (res5 m c hpre)), (h6.trans (Cert.TailRefIdeal.Read.val_main_v182_eq _)).trans (Eq.trans ?_ (res6 m c hpre)), (h7.trans (Cert.TailRefIdeal.Read.val_main_v195_eq _)).trans (Eq.trans ?_ (res7 m c hpre)), (h8.trans (Cert.TailRefIdeal.Read.val_main_v201_eq _)).trans (Eq.trans ?_ (res8 m c hpre)), (h9.trans (Cert.TailRefIdeal.Read.val_main_v98_eq _)).trans (Eq.trans ?_ (res9 m c)), (h10.trans (Cert.TailRefIdeal.Read.val_main_v120_eq _)).trans (Eq.trans ?_ (res10 m c)), (h11.trans (Cert.TailRefIdeal.Read.val_main_v148_eq _)).trans (Eq.trans ?_ (res11 m c hpre)), (h12.trans (Cert.TailRefIdeal.Read.val_main_v85_eq _)).trans (Eq.trans ?_ (res12 m c hpre)), ha⟩
  all_goals rw [f e0, f e1, f e2, f e3, f e4, f e5, f e6, f e7, f e8, f e9, f e10]

end Cert.TailClaims

end
-- ==== Proof.RetBwd.RunA.lean ====
/- The retention-backward kernel's body at the first grid point (where the two decay sums are cleared), run once. -/
module

public import proofs.«01_k».proof.Proof.Gen.RetBwdIdeal.Frame.Runs

@[expose] public section

-- membership in a rectangle of production extents (`View.cover_of_tiled`): the elaborator's structural look
-- recurses once per coordinate of the long axes
set_option maxRecDepth 16384

noncomputable section

namespace Cert.RetBwdFrame

open Cert.RetBwdIdeal Cert.RetBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- a whole buffer at given contents, at some contents
local notation:max "own[" c ", " a ", " x "]" => owns (c : Thread nD τ) a fullShare x
local notation:max "any[" c ", " a "]" => iprop(∃ d, owns (c : Thread nD τ) a fullShare d)

variable (m : (ℓ : Loc nD τ sig) → Buf (Elt F) ℓ) (ρ : Dev nD → PrngReg)

-- (the run's proof term is large: checking it walks past the default budget)
set_option maxHeartbeats 2000000 in
/-- The body's triple IN CASE A (`scf.if` 0 taken: points 0): on whole staging memrefs — the inputs' at their contents,
    the FORGOTTEN outputs' (16, 17, 18, 19) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (a1 : Memref sig .tc .vmem S1024x256 .bf16) (h1 : a1.IsWhole) (a2 : Memref sig .tc .vmem
    S1024x256 .bf16) (h2 : a2.IsWhole) (a3 : Memref sig .tc .vmem S1024x512 .bf16) (h3 : a3.IsWhole) (a4 : Memref sig .tc .vmem S1024x512 .bf16) (h4 :
    a4.IsWhole) (a5 : Memref sig .tc .vmem S4x4x128x128 .bf16) (h5 : a5.IsWhole) (a6 : Memref sig .tc .vmem S4x4x128x128 .bf16) (h6 : a6.IsWhole) (a7
    : Memref sig .tc .vmem S4x4x128x128 .bf16) (h7 : a7.IsWhole) (a8 : Memref sig .tc .vmem S4x4x128x128 .bf16) (h8 : a8.IsWhole) (a9 : Memref sig .tc
    .vmem S4x256x256 .f32) (h9 : a9.IsWhole) (a10 : Memref sig .tc .vmem S4x256x256 .f32) (h10 : a10.IsWhole) (a11 : Memref sig .tc .vmem S4x256x256
    .f32) (h11 : a11.IsWhole) (a12 : Memref sig .tc .vmem S4x256x128 .f32) (h12 : a12.IsWhole) (a13 : Memref sig .tc .vmem S4x256x128 .f32) (h13 :
    a13.IsWhole) (a14 : Memref sig .tc .vmem S4x256x128 .f32) (h14 : a14.IsWhole) (a15 : Memref sig .tc .vmem S4x256x128 .f32) (h15 : a15.IsWhole)
    (a16 : Memref sig .tc .vmem S8x128 .f32) (h16 : a16.IsWhole) (a17 : Memref sig .tc .vmem S1024x256 .f32) (h17 : a17.IsWhole) (a18 : Memref sig .tc
    .vmem S1024x256 .f32) (h18 : a18.IsWhole) (a19 : Memref sig .tc .vmem S1024x512 .bf16) (h19 : a19.IsWhole) (a20 : Memref sig .tc .vmem S8x128
    .f32) (h20 : a20.IsWhole) (hc0 : cond0_0 i)
    (x0 : Vec F S1024x256 .bf16) (x1 : Vec F S1024x256 .bf16) (x2 : Vec F S1024x512 .bf16) (x3 : Vec F S1024x512 .bf16) (x4 : Vec F S4x4x128x128
      .bf16) (x5 : Vec F S4x4x128x128 .bf16) (x6 : Vec F S4x4x128x128 .bf16) (x7 : Vec F S4x4x128x128 .bf16) (x8 : Vec F S4x256x256 .f32) (x9 : Vec F
      S4x256x256 .f32) (x10 : Vec F S4x256x256 .f32) (x11 : Vec F S4x256x128 .f32) (x12 : Vec F S4x256x128 .f32) (x13 : Vec F S4x256x128 .f32) (x14 :
      Vec F S4x256x128 .f32) (x15 : Vec F S8x128 .f32) :
      ∀ (E : Set ℕ) (K : PUnit → sProp 𝕄),
        iprop(own[c, a1, x0] ∗ own[c, a2, x1] ∗ own[c, a3, x2] ∗ own[c, a4, x3] ∗ own[c, a5, x4] ∗ own[c, a6, x5] ∗ own[c, a7, x6] ∗ own[c, a8, x7] ∗
          own[c, a9, x8] ∗ own[c, a10, x9] ∗ own[c, a11, x10] ∗ own[c, a12, x11] ∗ own[c, a13, x12] ∗ own[c, a14, x13] ∗ own[c, a15, x14] ∗ own[c,
          a16, x15] ∗ any[c, a17] ∗ any[c, a18] ∗ any[c, a19] ∗ any[c, a20]
            ∗ (iprop(own[c, a1, x0] ∗ own[c, a2, x1] ∗ own[c, a3, x2] ∗ own[c, a4, x3] ∗ own[c, a5, x4] ∗ own[c, a6, x5] ∗ own[c, a7, x6] ∗ own[c, a8,
              x7] ∗ own[c, a9, x8] ∗ own[c, a10, x9] ∗ own[c, a11, x10] ∗ own[c, a12, x11] ∗ own[c, a13, x12] ∗ own[c, a14, x13] ∗ own[c, a15, x14] ∗
              own[c, a16, x15] ∗ any[c, a17] ∗ any[c, a18] ∗ any[c, a19] ∗ any[c, a20]) -∗ K ⟨⟩))
          ⊢ wp frame (wpE (defs₀ (F := F)) Variants.none c none) E (cc0_ret_bwd i a1 h1 a2 h2 a3 h3 a4 h4 a5 h5 a6 h6 a7 h7 a8 h8 a9 h9 a10 h10 a11
            h11 a12 h12 a13 h13 a14 h14 a15 h15 a16 h16 a17 h17 a18 h18 a19 h19 a20 h20) K := by
    intro E K
    simp only [cc0_ret_bwd_eq_skeleton]; unfold cc0_ret_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
    obtain rfl := h1.eq_unread hf0; obtain rfl := h2.eq_unread hf1; obtain rfl := h3.eq_unread hf2; obtain rfl := h4.eq_unread hf3; obtain rfl := h5.eq_unread hf4; obtain rfl := h6.eq_unread hf5; obtain rfl := h7.eq_unread hf6; obtain rfl := h8.eq_unread hf7; obtain rfl := h9.eq_unread hf8; obtain rfl := h10.eq_unread hf9; obtain rfl := h11.eq_unread hf10; obtain rfl := h12.eq_unread hf11; obtain rfl := h13.eq_unread hf12; obtain rfl := h14.eq_unread hf13; obtain rfl := h15.eq_unread hf14; obtain rfl := h16.eq_unread hf15
    sl_exec (disch := first | sl_exact hc0)
    sl_step
    iapply Hk
    isplitl [H0]
    · iexists _; isplitr; · ipureintro; exact h1.read_unread _
      iexact H0
    isplitl [H1]
    · iexists _; isplitr; · ipureintro; exact h2.read_unread _
      iexact H1
    isplitl [H2]
    · iexists _; isplitr; · ipureintro; exact h3.read_unread _
      iexact H2
    isplitl [H3]
    · iexists _; isplitr; · ipureintro; exact h4.read_unread _
      iexact H3
    isplitl [H4]
    · iexists _; isplitr; · ipureintro; exact h5.read_unread _
      iexact H4
    isplitl [H5]
    · iexists _; isplitr; · ipureintro; exact h6.read_unread _
      iexact H5
    isplitl [H6]
    · iexists _; isplitr; · ipureintro; exact h7.read_unread _
      iexact H6
    isplitl [H7]
    · iexists _; isplitr; · ipureintro; exact h8.read_unread _
      iexact H7
    isplitl [H8]
    · iexists _; isplitr; · ipureintro; exact h9.read_unread _
      iexact H8
    isplitl [H9]
    · iexists _; isplitr; · ipureintro; exact h10.read_unread _
      iexact H9
    isplitl [H10]
    · iexists _; isplitr; · ipureintro; exact h11.read_unread _
      iexact H10
    isplitl [H11]
    · iexists _; isplitr; · ipureintro; exact h12.read_unread _
      iexact H11
    isplitl [H12]
    · iexists _; isplitr; · ipureintro; exact h13.read_unread _
      iexact H12
    isplitl [H13]
    · iexists _; isplitr; · ipureintro; exact h14.read_unread _
      iexact H13
    isplitl [H14]
    · iexists _; isplitr; · ipureintro; exact h15.read_unread _
      iexact H14
    isplitl [H15]
    · iexists _; isplitr; · ipureintro; exact h16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

end Cert.RetBwdFrame

end
-- ==== Proof.RetBwd.Frame.lean ====
/- The frame of the retention-backward kernel: what its outputs hold is left unnamed; the arguments keep their values and
   every counter ends at zero. -/
module

public import proofs.«01_k».proof.Proof.RetBwd.RunB
public import Idealize.ShloMosaic.Lib.Claim

@[expose] public section

-- membership in a rectangle of production extents (`View.cover_of_tiled`): the elaborator's structural look
-- recurses once per coordinate of the long axes
set_option maxRecDepth 16384

noncomputable section

namespace Cert.RetBwdFrame

open Cert.RetBwdIdeal Cert.RetBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (16, 17, 18, 19): nothing reads what the kernel leaves in them, so nothing
    of it is named (Lib/Pipeline/Dat.lean `Dat.toRForget`). -/
def forgets0 : Fin 20 → Bool := fun w => w.val == 16 || w.val == 17 || w.val == 18 || w.val == 19

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 4000000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  have hN : t.val < 4 := lt_of_lt_of_eq t.isLt (show cfg0.N = 4 from N_0)
  by_cases h0 : t.val % 4 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun0_A c (grid0.coords t) _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    iintro ⟨H0, H1, H2, H3, H4, H5, H6, H7, H8, H9, H10, H11, H12, H13, H14, H15, H16, H17, H18, H19⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    iintro ⟨H0, H1, H2, H3, H4, H5, H6, H7, H8, H9, H10, H11, H12, H13, H14, H15, H16, H17, H18, H19⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: every weakly fair execution of @main ends, every INPUT array of the pipeline unchanged, nothing stated of the
    FORGOTTEN outputs, and every semaphore counter of the machine at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged, of any run to `RDat.FramePost` whose arrays are the region's entry contents. -/
theorem frame_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((hA c 0).trans (V_main_arg0 m c)),
    (Pipeline.RDat.FramePost.arr_in h c 1 rfl).trans ((hA c 1).trans (V_main_arg1 m c)),
    (Pipeline.RDat.FramePost.arr_in h c 2 rfl).trans ((hA c 2).trans (V_main_arg2 m c)),
    (Pipeline.RDat.FramePost.arr_in h c 3 rfl).trans ((hA c 3).trans (V_main_arg3 m c)),
    (Pipeline.RDat.FramePost.arr_in h c 4 rfl).trans ((hA c 4).trans (V_main_arg4 m c)),
    (Pipeline.RDat.FramePost.arr_in h c 5 rfl).trans ((hA c 5).trans (V_main_arg5 m c)),
    (Pipeline.RDat.FramePost.arr_in h c 6 rfl).trans ((hA c 6).trans (V_main_arg6 m c)),
    (Pipeline.RDat.FramePost.arr_in h c 7 rfl).trans ((hA c 7).trans (V_main_arg7 m c)),
    ((h c).2 main_arg8 (Pipeline.mem_restRefs_of main_arg8 (by decide) (by decide))).trans (V_main_arg8 m c),
    ((h c).2 main_arg9 (Pipeline.mem_restRefs_of main_arg9 (by decide) (by decide))).trans (V_main_arg9 m c)⟩) h

/-- The frame at any `F`: every argument keeps its values, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_rel m ρ (fun c => (dats m 0 c).toRForget forgets0) (A_eq m) ((θ_run defs _ _).mono (fun _ h => h.1) (run_main_quiescent m ρ)))
    ((θ_run defs _ _).mono (fun _ h => h.2) (run_main_quiescent m ρ))

end Cert.RetBwdFrame

end
-- ==== Proof.RetBwd.Bits.lean ====
/- The run of the retention-backward kernel on the float encodings: the same program text, so the same run. -/
module

public import proofs.«01_k».proof.Defs
public import proofs.«01_k».proof.Proof.Gen.RetBwd
public import proofs.«01_k».proof.Proof.RetBwd.Frame

@[expose] public section

set_option maxRecDepth 16384

namespace Cert.RetBwdFrame

open Idealize.ShloMosaic Idealize.ShloMosaic.TcCoe Idealize.ShloMosaic.Tactic

set_option maxHeartbeats 2000000 in
theorem frameBits : Cert.quiescent_RetBwd := fun m ρ _ => cast (by sl_kernel_rfl) (frame (F := Bits) m ρ)

end Cert.RetBwdFrame

end
-- ==== Proof.AttnFwd.At.lean ====
/- One block of 512 query rows against one block of 1024 keys and values, in the attention-forward kernel: the three
   vectors it stores (running maximum, running sum, running weighted sum of values), read at an index. A pair of query
   heads shares 128 lanes: head 0 the lower 64, head 1 the upper 64. -/
module

public import proofs.«01_k».proof.Proof.Gen.AttnFwdIdeal.Frame
public import proofs.«01_k».proof.Proof.Gen.AttnFwdIdeal.Skeleton
public import Idealize.ShloMosaic.Lib.Pointwise
public import Idealize.ShloMosaic.Lib.WritesUnit
public import Idealize.ShloMosaic.Lib.Pipeline.ValueKit

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem

/-- Lane `x` belongs to head `e` of a pair: then `a`, else 0. -/
def half (e : Fin 2) (x : Fin 128) (a : EReal) : EReal :=
  if e = 0 then (if x.val < 64 then a else 0) else (if x.val < 64 then 0 else a)

/-- The scalar select on a lane comparison. -/
theorem select_lane (x : Fin 128) (a b : EReal) :
    Scalar.select (IntOp.cmpi CmpIPredicate.slt (BitVec.ofNat 32 x.val) 64#32) a b = if x.val < 64 then a else b := by
  have h : ∀ x : Fin 128, IntOp.cmpi CmpIPredicate.slt (BitVec.ofNat 32 x.val) 64#32 = if x.val < 64 then 1#1 else 0#1 := by decide +kernel
  rw [h x]
  by_cases hx : x.val < 64 <;> simp [hx, Scalar.select]

/-- The running maximum after a block of scores `b`. -/
def mN (m : EReal) (b : Fin 1024 → EReal) : EReal := max m (Finset.fold max (Ideal.ofBits FTy.f32 4286578688#32) b Finset.univ)

/-- The lane whose maximum the score of key `s` of a block is taken from. -/
def ln (s : Fin 1024) : Fin 128 := ⟨s.val % 128, Nat.mod_lt _ (by decide)⟩

variable (w u : Vec Ideal S1x1024x128 .bf16) (q : Vec Ideal S512x128 .bf16) (m l : Vec Ideal S1x512x128 .f32) (a : Vec Ideal S512x128 .f32)
  (m0 m1 : Vec Ideal S1x512x128 .f32)

/-- The score of key `s` at query `r`, head `e`. -/
def bs (e : Fin 2) (r : Fin 512) (s : Fin 1024) : EReal := ∑ x : Fin 128, half e x (q (ix2 r x) * w (ix3 0 s x))

/-- The new maximum at lane `x`. -/
def bm (e : Fin 2) (r : Fin 512) (x : Fin 128) : EReal := mN (m (ix3 0 r x)) (bs w q e r)

/-- The probability of key `s`. -/
def bp (e : Fin 2) (r : Fin 512) (s : Fin 1024) : EReal := Ideal.exp2 (bs w q e r s - bm w q m e r (ln s))

/-- The factor by which the earlier sums shrink. -/
def bf (e : Fin 2) (r : Fin 512) (x : Fin 128) : EReal := Ideal.exp2 (m (ix3 0 r x) - bm w q m e r x)

theorem s0_at (r : Fin 512) (s : Fin 1024) : k0_pay4 (F := Ideal) w q (ix2 r s) = bs w q 0 r s := by
  pointwise [k0_pay4, k0_pay3, k0_pay1]
  simp only [select_lane]
  rfl

theorem s1_at (r : Fin 512) (s : Fin 1024) : k0_pay13 (F := Ideal) (k0_pay3 w q) (ix2 r s) = bs w q 1 r s := by
  pointwise [k0_pay13, k0_pay3, k0_pay1]
  simp only [select_lane]
  rfl

theorem n0_at (r : Fin 512) (x : Fin 128) : k0_pay6 (F := Ideal) w q m (ix2 r x) = bm w q m 0 r x := by
  have h := s0_at w q r
  unfold k0_pay6 bm
  rw [← funext h]
  generalize k0_pay4 w q = S
  pointwise [k0_pay5]
  rfl

theorem n1_at (r : Fin 512) (x : Fin 128) : k0_pay15 (F := Ideal) (k0_pay3 w q) m (ix2 r x) = bm w q m 1 r x := by
  have h := s1_at w q r
  unfold k0_pay15 bm
  rw [← funext h]
  generalize k0_pay13 (k0_pay3 w q) = S
  pointwise [k0_pay14]
  rfl

/-- Eight copies side by side, read at key `s`: lane `s` modulo 128. -/
theorem eight (M : FVec Ideal S512x128 .f32) (r : Fin 512) (s : Fin 1024) :
    concatenate S512x1024 1 [⟨S512x128, M⟩, ⟨S512x128, M⟩, ⟨S512x128, M⟩, ⟨S512x128, M⟩, ⟨S512x128, M⟩, ⟨S512x128, M⟩, ⟨S512x128, M⟩, ⟨S512x128, M⟩]
      concatenates_S512x128_S512x128_S512x128_S512x128_S512x128_S512x128_S512x128_S512x128_S512x1024_d1 (ix2 r s) = M (ix2 r (ln s)) := by
  pointwise []
  have := s.isLt
  split_ifs <;> exact congrArg (fun t => M (ix2 r t)) (Fin.ext (by show _ = s.val % 128; dsimp only; omega))

theorem p0_at (r : Fin 512) (s : Fin 1024) : k0_pay8 (F := Ideal) w q m (ix2 r s) = bp w q m 0 r s := by
  unfold k0_pay8 bp
  rw [← n0_at, ← s0_at]
  generalize k0_pay4 w q = S
  generalize k0_pay6 w q m = M
  rw [← eight M r s]
  generalize concatenate S512x1024 1 [⟨S512x128, M⟩, ⟨S512x128, M⟩, ⟨S512x128, M⟩, ⟨S512x128, M⟩, ⟨S512x128, M⟩, ⟨S512x128, M⟩, ⟨S512x128, M⟩, ⟨S512x128, M⟩] _ = C
  pointwise []
  rfl

theorem p1_at (r : Fin 512) (s : Fin 1024) : k0_pay17 (F := Ideal) (k0_pay3 w q) m (ix2 r s) = bp w q m 1 r s := by
  unfold k0_pay17 bp
  rw [← n1_at, ← s1_at]
  generalize k0_pay13 (k0_pay3 w q) = S
  generalize k0_pay15 (k0_pay3 w q) m = M
  rw [← eight M r s]
  generalize concatenate S512x1024 1 [⟨S512x128, M⟩, ⟨S512x128, M⟩, ⟨S512x128, M⟩, ⟨S512x128, M⟩, ⟨S512x128, M⟩, ⟨S512x128, M⟩, ⟨S512x128, M⟩, ⟨S512x128, M⟩] _ = C
  pointwise []
  rfl

theorem f0_at (r : Fin 512) (x : Fin 128) : k0_pay7 (F := Ideal) w q m (ix2 r x) = bf w q m 0 r x := by
  unfold k0_pay7 bf
  rw [← n0_at]
  generalize k0_pay6 w q m = M
  pointwise [k0_pay5]
  rfl

theorem f1_at (r : Fin 512) (x : Fin 128) : k0_pay16 (F := Ideal) (k0_pay3 w q) m (ix2 r x) = bf w q m 1 r x := by
  unfold k0_pay16 bf
  rw [← n1_at]
  generalize k0_pay15 (k0_pay3 w q) m = M
  pointwise [k0_pay14]
  rfl

/-- The new maxima, as stored. -/
theorem m0_at (r : Fin 512) (x : Fin 128) : k0_pay11 (F := Ideal) (k0_pay6 w q m) (ix3 0 r x) = bm w q m 0 r x := by
  rw [← n0_at]
  generalize k0_pay6 w q m = M
  pointwise [k0_pay11]

theorem m1_at (r : Fin 512) (x : Fin 128) : k0_pay19 (F := Ideal) (k0_pay3 w q) m (ix3 0 r x) = bm w q m 1 r x := by
  rw [← n1_at]
  unfold k0_pay19
  generalize k0_pay15 (k0_pay3 w q) m = M
  pointwise []

/-- The new sums, as stored. -/
theorem l0_at (r : Fin 512) (x : Fin 128) : k0_pay10 (F := Ideal) (k0_pay8 w q m) (k0_pay9 w q m l) (ix3 0 r x)
    = bf w q m 0 r x * l (ix3 0 r x) + ∑ s, bp w q m 0 r s := by
  simp only [← p0_at, ← f0_at]
  unfold k0_pay9
  generalize k0_pay8 w q m = P
  generalize k0_pay7 w q m = A
  pointwise [k0_pay10]

theorem l1_at (r : Fin 512) (x : Fin 128) : k0_pay18 (F := Ideal) (k0_pay3 w q) m l (ix3 0 r x)
    = bf w q m 1 r x * l (ix3 0 r x) + ∑ s, bp w q m 1 r s := by
  simp only [← p1_at, ← f1_at]
  unfold k0_pay18
  generalize k0_pay17 (k0_pay3 w q) m = P
  generalize k0_pay16 (k0_pay3 w q) m = A
  pointwise []

/-- The new weighted sums, as stored. -/
theorem a_at (r : Fin 512) (x : Fin 128) :
    k0_pay20 (F := Ideal) k0_pay147 (k0_pay2 u) (k0_pay7 w q m0) (k0_pay12 (k0_pay8 w q m0)) (k0_pay16 (k0_pay3 w q) m1) (k0_pay17 (k0_pay3 w q) m1) a (ix2 r x)
      = a (ix2 r x) * (if x.val < 64 then bf w q m0 0 r x else bf w q m1 1 r x)
        + ((∑ s, half 0 x (bp w q m0 0 r s * u (ix3 0 s x))) + ∑ s, half 1 x (bp w q m1 1 r s * u (ix3 0 s x))) := by
  simp only [← p0_at, ← f0_at, ← p1_at, ← f1_at]
  generalize k0_pay8 w q m0 = P0
  generalize k0_pay7 w q m0 = A0
  generalize k0_pay17 (k0_pay3 w q) m1 = P1
  generalize k0_pay16 (k0_pay3 w q) m1 = A1
  pointwise [k0_pay20, k0_pay147, k0_pay2, k0_pay12]
  simp only [select_lane]
  rfl

end Cert.AttnFwdIdeal.Hand
-- ==== Proof.AttnFwd.Trip.lean ====
/- One trip of the key/value loop of the attention-forward kernel, read at an index: the trip takes the four blocks of 512
   query rows, and for each the four query heads, in two pairs. -/
module

public import proofs.«01_k».proof.Proof.AttnFwd.At
public import proofs.«01_k».proof.Proof.Gen.AttnFwdIdeal.Loops

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)

/-- Lane `128 p + x` of the packed query heads. -/
def lane (p : Fin 2) (x : Fin 128) : Fin 256 := ⟨128 * p.val + x.val, by omega⟩

/-- Row `512 h + r` of the block of queries. -/
def row (h : Fin 4) (r : Fin 512) : Fin 2048 := ⟨512 * h.val + r.val, by omega⟩

/-- The pair of query head `g`, and its place in it. -/
def pr (g : Fin 4) : Fin 2 := ⟨g.val / 2, by omega⟩
def hd (g : Fin 4) : Fin 2 := ⟨g.val % 2, by omega⟩

/-- Head `e` of pair `p`. -/
def hg (p e : Fin 2) : Fin 4 := ⟨2 * p.val + e.val, by omega⟩

section
variable (q : S2048x256.Idx → EReal) (k v : S1x4096x128.Idx → EReal) (M : S4x2048x128.Idx → EReal)

/-- The score of key `s` at query `r` of head `g`. -/
def sc (g : Fin 4) (r : Fin 2048) (s : Fin 4096) : EReal :=
  ∑ x : Fin 128, half (hd g) x (q (ix2 r (lane (pr g) x)) * k (ix3 0 s x))

variable (b : Fin 1024 → Fin 4096)

/-- The new maximum, the probability and the shrinking factor, of a block `b` of keys. -/
def tm (g : Fin 4) (r : Fin 2048) (x : Fin 128) : EReal := mN (M (ix3 g r x)) (fun s => sc q k g r (b s))
def tp (g : Fin 4) (r : Fin 2048) (s : Fin 1024) : EReal := Ideal.exp2 (sc q k g r (b s) - tm q k M b g r (ln s))
def tf (g : Fin 4) (r : Fin 2048) (x : Fin 128) : EReal := Ideal.exp2 (M (ix3 g r x) - tm q k M b g r x)
end

section
variable {q : S2048x256.Idx → EReal} {k : S1x4096x128.Idx → EReal} {M : S4x2048x128.Idx → EReal} {b : Fin 1024 → Fin 4096}
  {w : Vec Ideal S1x1024x128 .bf16} {q' : Vec Ideal S512x128 .bf16} {m : Vec Ideal S1x512x128 .f32} {e : Fin 2} {g : Fin 4} {r : Fin 512} {R : Fin 2048}
  (hq : ∀ x, q' (ix2 r x) = q (ix2 R (lane (pr g) x))) (hk : ∀ s x, w (ix3 0 s x) = k (ix3 0 (b s) x)) (he : hd g = e)

include hq hk he in
/-- What a block's loads give, said of the whole arrays: the scores, -/
theorem blk_s (s : Fin 1024) : bs w q' e r s = sc q k g R (b s) := by
  unfold bs sc
  subst he
  exact Finset.sum_congr rfl fun x _ => by rw [hq, hk]

include hq hk he in
/-- the new maximum, -/
theorem blk_m (hm : ∀ x, m (ix3 0 r x) = M (ix3 g R x)) (x : Fin 128) : bm w q' m e r x = tm q k M b g R x := by
  unfold bm tm
  rw [hm, funext (blk_s hq hk he)]

include hq hk he in
/-- the probability -/
theorem blk_p (hm : ∀ x, m (ix3 0 r x) = M (ix3 g R x)) (s : Fin 1024) : bp w q' m e r s = tp q k M b g R s := by
  unfold bp tp
  rw [blk_m hq hk he hm, blk_s hq hk he]

include hq hk he in
/-- and the shrinking factor. -/
theorem blk_f (hm : ∀ x, m (ix3 0 r x) = M (ix3 g R x)) (x : Fin 128) : bf w q' m e r x = tf q k M b g R x := by
  unfold bf tf
  rw [blk_m hq hk he hm, hm]
end

variable (c : Dev nD) (i : grid0.Coords) (a2 : Memref sig .tc .vmem S2048x256 .bf16) (h2 : a2.IsWhole)
  (a3 : Memref sig .tc .vmem S1x4096x128 .bf16) (h3 : a3.IsWhole) (a4 : Memref sig .tc .vmem S1x4096x128 .bf16) (h4 : a4.IsWhole)
  (a5 : Memref sig .tc .vmem S2048x256 .f32) (h5 : a5.IsWhole) (a6 : Memref sig .tc .vmem S8x2048 .f32) (h6 : a6.IsWhole)
  (a7 : Memref sig .tc .vmem S4x2048x128 .f32) (h7 : a7.IsWhole) (a8 : Memref sig .tc .vmem S4x2048x128 .f32) (h8 : a8.IsWhole)
  (a9 : Memref sig .tc .vmem S2048x256 .f32) (h9 : a9.IsWhole)
  (f2 : a2.view.ty.Contents (Elt Ideal)) (f3 : a3.view.ty.Contents (Elt Ideal)) (f4 : a4.view.ty.Contents (Elt Ideal))
  (n : Fin k0_t1_loop.trips)
  (f7 : a7.view.ty.Contents (Elt Ideal)) (f8 : a8.view.ty.Contents (Elt Ideal)) (f9 : a9.view.ty.Contents (Elt Ideal))

/-- Key `s` of block `n`. -/
def key (s : Fin 1024) : Fin 4096 :=
  ⟨1024 * n.val + s.val, by have := n.isLt; have h : k0_t1_loop.trips ≤ 4 := k0_t1_abs.2.1; omega⟩

/-- The stores of one trip. -/
abbrev pcs := tripL_k0_t1 (F := Ideal) Variants.none c none i a2 h2 a3 h3 a4 h4 a5 h5 a6 h6 a7 h7 a8 h8 a9 h9
  f2 f3 f4 n f7 f8 f9

variable {n} in
/-- A place of block `n` of the keys, as its loads give it. -/
theorem key_at (s : Fin 1024) (x : Fin 128) (p₀ : k0_off1 n 0 < 1) (p₁ : k0_off1 n 1 + s.val < 4096) (p₂ : k0_off1 n 2 + x.val < 128) :
    (ix3 (⟨k0_off1 n 0, p₀⟩ : Fin 1) (⟨k0_off1 n 1 + s.val, p₁⟩ : Fin 4096) (⟨k0_off1 n 2 + x.val, p₂⟩ : Fin 128) : S1x4096x128.Idx)
      = ix3 0 (key n s) x := by
  have e0 : k0_off1 n 0 = 0 := congrFun (k0_off1_eq n) 0
  have e1 : k0_off1 n 1 = 1024 * n.val := congrFun (k0_off1_eq n) 1
  have e2 : k0_off1 n 2 = 0 := congrFun (k0_off1_eq n) 2
  have a : (⟨k0_off1 n 0, p₀⟩ : Fin 1) = 0 := Subsingleton.elim _ _
  have b : (⟨k0_off1 n 1 + s.val, p₁⟩ : Fin 4096) = key n s := Fin.ext (congrArg (· + s.val) e1)
  have c : (⟨k0_off1 n 2 + x.val, p₂⟩ : Fin 128) = x := Fin.ext ((congrArg (· + x.val) e2).trans (Nat.zero_add _))
  rw [a, b, c]

end Cert.AttnFwdIdeal.Hand
-- ==== Proof.AttnFwd.TripM.lean ====
/- The running maxima after one trip of the key/value loop: each of the sixteen stores of the trip is one pair of a query head
   and a block of 512 rows. -/
module

public import proofs.«01_k».proof.Proof.AttnFwd.Trip

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)

variable (c : Dev nD) (i : grid0.Coords) (a2 : Memref sig .tc .vmem S2048x256 .bf16) (h2 : a2.IsWhole)
  (a3 : Memref sig .tc .vmem S1x4096x128 .bf16) (h3 : a3.IsWhole) (a4 : Memref sig .tc .vmem S1x4096x128 .bf16) (h4 : a4.IsWhole)
  (a5 : Memref sig .tc .vmem S2048x256 .f32) (h5 : a5.IsWhole) (a6 : Memref sig .tc .vmem S8x2048 .f32) (h6 : a6.IsWhole)
  (a7 : Memref sig .tc .vmem S4x2048x128 .f32) (h7 : a7.IsWhole) (a8 : Memref sig .tc .vmem S4x2048x128 .f32) (h8 : a8.IsWhole)
  (a9 : Memref sig .tc .vmem S2048x256 .f32) (h9 : a9.IsWhole)
  (f2 : a2.view.ty.Contents (Elt Ideal)) (f3 : a3.view.ty.Contents (Elt Ideal)) (f4 : a4.view.ty.Contents (Elt Ideal))
  (n : Fin k0_t1_loop.trips)
  (f7 : a7.view.ty.Contents (Elt Ideal)) (f8 : a8.view.ty.Contents (Elt Ideal)) (f9 : a9.view.ty.Contents (Elt Ideal))

set_option maxHeartbeats 2000000 in
theorem m_trip (g h : Fin 4) (r : Fin 512) (x : Fin 128) :
    a7.view.read (Elt Ideal) (a7.view.writes (Elt Ideal) f7
      (pcs c i a2 h2 a3 h3 a4 h4 a5 h5 a6 h6 a7 h7 a8 h8 a9 h9 f2 f3 f4 n f7 f8 f9).1) (ix3 g (row h r) x)
      = tm (a2.view.read _ f2) (a3.view.read _ f3) (a7.view.read _ f7) (key n) g (row h r) x := by
  have hm0 := fun (_ : hd g = 0) w q m => m0_at w q m r x
  have hm1 := fun (_ : hd g = 1) w q m => m1_at w q m r x
  simp only [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay147] at hm0 hm1
  unfold pcs tripL_k0_t1
  unfold trip_k0_t1
  dsimp only
  sl_unfold_run_names
  simp only [View.readAt_eq_ld]
  generalize a2.view.read (Elt Ideal) f2 = q
  generalize a3.view.read (Elt Ideal) f3 = k
  generalize a4.view.read (Elt Ideal) f4 = v
  generalize a7.view.read (Elt Ideal) f7 = M at *
  fin_cases g <;> fin_cases h
  all_goals
    repeat (first
      | (refine (View.read_writes_cons_unit_of_not_mem _ _ _ _ _ _ rfl (0 : Fin 3) ?_).trans ?_; focus (simp [ix3]; done))
      | (refine (View.read_writes_cons_unit_of_not_mem _ _ _ _ _ _ rfl (1 : Fin 3) ?_).trans ?_; focus (simp [ix3, row] <;> omega))
      | fail)
    refine (View.read_writes_cons_unit_of_mem _ _ _ _ _ _ (ix3 0 r x) rfl ?hx).trans ?_
    case hx => intro b; fin_cases b <;> simp [ix2, ix3, row, lane]
    simp only [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146,
    k0_pay147, k0_pay148, k0_pay149, k0_pay150]
    first
      | have hm := hm0 (by decide); refine (hm _ _ _).trans ?_
      | have hm := hm1 (by decide); refine (hm _ _ _).trans ?_
    refine blk_m ?hq ?hk ?he ?hm x
    case hq => intro x; pointwise []; simp [row, lane, pr, hg]
    case hk => intro s x; pointwise []; simp only [key_at]
    case he => rfl
    case hm => intro x; pointwise []; simp [row, hg]

end Cert.AttnFwdIdeal.Hand
-- ==== Proof.AttnFwd.TripL.lean ====
/- The running sums after one trip of the key/value loop: as the maxima. -/
module

public import proofs.«01_k».proof.Proof.AttnFwd.Trip

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)

variable (c : Dev nD) (i : grid0.Coords) (a2 : Memref sig .tc .vmem S2048x256 .bf16) (h2 : a2.IsWhole)
  (a3 : Memref sig .tc .vmem S1x4096x128 .bf16) (h3 : a3.IsWhole) (a4 : Memref sig .tc .vmem S1x4096x128 .bf16) (h4 : a4.IsWhole)
  (a5 : Memref sig .tc .vmem S2048x256 .f32) (h5 : a5.IsWhole) (a6 : Memref sig .tc .vmem S8x2048 .f32) (h6 : a6.IsWhole)
  (a7 : Memref sig .tc .vmem S4x2048x128 .f32) (h7 : a7.IsWhole) (a8 : Memref sig .tc .vmem S4x2048x128 .f32) (h8 : a8.IsWhole)
  (a9 : Memref sig .tc .vmem S2048x256 .f32) (h9 : a9.IsWhole)
  (f2 : a2.view.ty.Contents (Elt Ideal)) (f3 : a3.view.ty.Contents (Elt Ideal)) (f4 : a4.view.ty.Contents (Elt Ideal))
  (n : Fin k0_t1_loop.trips)
  (f7 : a7.view.ty.Contents (Elt Ideal)) (f8 : a8.view.ty.Contents (Elt Ideal)) (f9 : a9.view.ty.Contents (Elt Ideal))

set_option maxHeartbeats 2000000 in
theorem l_trip (g h : Fin 4) (r : Fin 512) (x : Fin 128) :
    a8.view.read (Elt Ideal) (a8.view.writes (Elt Ideal) f8
      (pcs c i a2 h2 a3 h3 a4 h4 a5 h5 a6 h6 a7 h7 a8 h8 a9 h9 f2 f3 f4 n f7 f8 f9).2.1) (ix3 g (row h r) x)
      = tf (a2.view.read _ f2) (a3.view.read _ f3) (a7.view.read _ f7) (key n) g (row h r) x * a8.view.read _ f8 (ix3 g (row h r) x)
        + ∑ s, tp (a2.view.read _ f2) (a3.view.read _ f3) (a7.view.read _ f7) (key n) g (row h r) s := by
  have hl0 := fun (_ : hd g = 0) w q m l => l0_at w q m l r x
  have hl1 := fun (_ : hd g = 1) w q m l => l1_at w q m l r x
  simp only [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay147] at hl0 hl1
  unfold pcs tripL_k0_t1
  unfold trip_k0_t1
  dsimp only
  sl_unfold_run_names
  simp only [View.readAt_eq_ld]
  generalize a2.view.read (Elt Ideal) f2 = q
  generalize a3.view.read (Elt Ideal) f3 = k
  generalize a4.view.read (Elt Ideal) f4 = v
  generalize a7.view.read (Elt Ideal) f7 = M at *
  generalize a8.view.read (Elt Ideal) f8 = L
  fin_cases g <;> fin_cases h
  all_goals
    repeat (first
      | (refine (View.read_writes_cons_unit_of_not_mem _ _ _ _ _ _ rfl (0 : Fin 3) ?_).trans ?_; focus (simp [ix3]; done))
      | (refine (View.read_writes_cons_unit_of_not_mem _ _ _ _ _ _ rfl (1 : Fin 3) ?_).trans ?_; focus (simp [ix3, row] <;> omega))
      | fail)
    refine (View.read_writes_cons_unit_of_mem _ _ _ _ _ _ (ix3 0 r x) rfl ?hx).trans ?_
    case hx => intro b; fin_cases b <;> simp [ix2, ix3, row, lane]
    simp only [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146,
    k0_pay147, k0_pay148, k0_pay149, k0_pay150]
    first
      | have hl := hl0 (by decide); refine (hl _ _ _ _).trans ?_
      | have hl := hl1 (by decide); refine (hl _ _ _ _).trans ?_
    refine congrArg₂ (· + ·) (congrArg₂ (· * ·) (blk_f ?hq ?hk ?he ?hm x) ?hl) (Finset.sum_congr rfl fun s _ => blk_p ?hq ?hk ?he ?hm s)
    case hq => intro x; pointwise []; simp [row, lane, pr, hg]
    case hk => intro s x; pointwise []; simp only [key_at]
    case he => rfl
    case hm => intro x; pointwise []; simp [row, hg]
    case hl => pointwise []; simp [row]

end Cert.AttnFwdIdeal.Hand
-- ==== Proof.AttnFwd.TripA.lean ====
/- The running weighted sums after one trip of the key/value loop: the eight stores, a pair of query heads each. -/
module

public import proofs.«01_k».proof.Proof.AttnFwd.Trip

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)

variable (c : Dev nD) (i : grid0.Coords) (a2 : Memref sig .tc .vmem S2048x256 .bf16) (h2 : a2.IsWhole)
  (a3 : Memref sig .tc .vmem S1x4096x128 .bf16) (h3 : a3.IsWhole) (a4 : Memref sig .tc .vmem S1x4096x128 .bf16) (h4 : a4.IsWhole)
  (a5 : Memref sig .tc .vmem S2048x256 .f32) (h5 : a5.IsWhole) (a6 : Memref sig .tc .vmem S8x2048 .f32) (h6 : a6.IsWhole)
  (a7 : Memref sig .tc .vmem S4x2048x128 .f32) (h7 : a7.IsWhole) (a8 : Memref sig .tc .vmem S4x2048x128 .f32) (h8 : a8.IsWhole)
  (a9 : Memref sig .tc .vmem S2048x256 .f32) (h9 : a9.IsWhole)
  (f2 : a2.view.ty.Contents (Elt Ideal)) (f3 : a3.view.ty.Contents (Elt Ideal)) (f4 : a4.view.ty.Contents (Elt Ideal))
  (n : Fin k0_t1_loop.trips)
  (f7 : a7.view.ty.Contents (Elt Ideal)) (f8 : a8.view.ty.Contents (Elt Ideal)) (f9 : a9.view.ty.Contents (Elt Ideal))

set_option maxHeartbeats 2000000 in
theorem a_trip (p : Fin 2) (h : Fin 4) (r : Fin 512) (x : Fin 128) :
    a9.view.read (Elt Ideal) (a9.view.writes (Elt Ideal) f9
      (pcs c i a2 h2 a3 h3 a4 h4 a5 h5 a6 h6 a7 h7 a8 h8 a9 h9 f2 f3 f4 n f7 f8 f9).2.2) (ix2 (row h r) (lane p x))
      = a9.view.read _ f9 (ix2 (row h r) (lane p x))
          * (if x.val < 64 then tf (a2.view.read _ f2) (a3.view.read _ f3) (a7.view.read _ f7) (key n) (hg p 0) (row h r) x else tf (a2.view.read _ f2) (a3.view.read _ f3) (a7.view.read _ f7) (key n) (hg p 1) (row h r) x)
        + ((∑ s, half 0 x (tp (a2.view.read _ f2) (a3.view.read _ f3) (a7.view.read _ f7) (key n) (hg p 0) (row h r) s * a4.view.read _ f4 (ix3 0 (key n s) x)))
          + ∑ s, half 1 x (tp (a2.view.read _ f2) (a3.view.read _ f3) (a7.view.read _ f7) (key n) (hg p 1) (row h r) s * a4.view.read _ f4 (ix3 0 (key n s) x))) := by
  have ha := fun w u q a m0 m1 => a_at w u q a m0 m1 r x
  simp only [k0_pay1, k0_pay2, k0_pay3, k0_pay4, k0_pay5, k0_pay6, k0_pay7, k0_pay8, k0_pay9, k0_pay10, k0_pay11, k0_pay12, k0_pay13,
    k0_pay14, k0_pay15, k0_pay16, k0_pay17, k0_pay18, k0_pay19, k0_pay20, k0_pay147] at ha
  unfold pcs tripL_k0_t1
  unfold trip_k0_t1
  dsimp only
  sl_unfold_run_names
  simp only [View.readAt_eq_ld]
  generalize a2.view.read (Elt Ideal) f2 = q
  generalize a3.view.read (Elt Ideal) f3 = k
  generalize a4.view.read (Elt Ideal) f4 = v
  generalize a7.view.read (Elt Ideal) f7 = M at *
  generalize a9.view.read (Elt Ideal) f9 = A
  fin_cases p <;> fin_cases h
  all_goals
    repeat (first
      | (refine (View.read_writes_cons_unit_of_not_mem _ _ _ _ _ _ rfl (0 : Fin 2) ?_).trans ?_; focus (simp [ix2, row] <;> omega))
      | (refine (View.read_writes_cons_unit_of_not_mem _ _ _ _ _ _ rfl (1 : Fin 2) ?_).trans ?_; focus (simp [ix2, lane] <;> omega))
      | fail)
    refine (View.read_writes_cons_unit_of_mem _ _ _ _ _ _ (ix2 r x) rfl ?hx).trans ?_
    case hx => intro b; fin_cases b <;> simp [ix2, ix3, row, lane]
    simp only [k0_pay1, k0_pay2, k0_pay3, k0_pay4, k0_pay5, k0_pay6, k0_pay7, k0_pay8, k0_pay9, k0_pay10, k0_pay11,
    k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31,
    k0_pay32, k0_pay33, k0_pay34, k0_pay35, k0_pay36, k0_pay37, k0_pay38, k0_pay39, k0_pay40, k0_pay41,
    k0_pay42, k0_pay43, k0_pay44, k0_pay45, k0_pay46, k0_pay47, k0_pay48, k0_pay49, k0_pay50, k0_pay51,
    k0_pay52, k0_pay53, k0_pay54, k0_pay55, k0_pay56, k0_pay57, k0_pay58, k0_pay59, k0_pay60, k0_pay61,
    k0_pay62, k0_pay63, k0_pay64, k0_pay65, k0_pay66, k0_pay67, k0_pay68, k0_pay69, k0_pay70, k0_pay71,
    k0_pay72, k0_pay73, k0_pay74, k0_pay75, k0_pay76, k0_pay77, k0_pay78, k0_pay79, k0_pay80, k0_pay81,
    k0_pay82, k0_pay83, k0_pay84, k0_pay85, k0_pay86, k0_pay87, k0_pay88, k0_pay89, k0_pay90, k0_pay91,
    k0_pay92, k0_pay93, k0_pay94, k0_pay95, k0_pay96, k0_pay97, k0_pay98, k0_pay99, k0_pay100, k0_pay101,
    k0_pay102, k0_pay103, k0_pay104, k0_pay105, k0_pay106, k0_pay107, k0_pay108, k0_pay109, k0_pay110,
    k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128,
    k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146,
    k0_pay147, k0_pay148, k0_pay149, k0_pay150]
    refine (ha _ _ _ _ _ _).trans ?_
    refine congrArg₂ (· + ·) (congrArg₂ (· * ·) ?ha (if_congr Iff.rfl (blk_f ?hq ?hk ?he ?hm x) (blk_f ?hq1 ?hk ?he1 ?hm1 x)))
      (congrArg₂ (· + ·) (Finset.sum_congr rfl fun s _ => congrArg (half 0 x) (congrArg₂ (· * ·) (blk_p ?hq ?hk ?he ?hm s) ?hv))
        (Finset.sum_congr rfl fun s _ => congrArg (half 1 x) (congrArg₂ (· * ·) (blk_p ?hq1 ?hk ?he1 ?hm1 s) ?hv1)))
    case hq => intro x; pointwise []; simp [row, lane, pr, hg]
    case hk => intro s x; pointwise []; simp only [key_at]
    case he => rfl
    case hm => intro x; pointwise []; simp [row, hg]
    case hq1 => intro x; pointwise []; simp [row, lane, pr, hg]
    case he1 => rfl
    case hm1 => intro x; pointwise []; simp [row, hg]
    case hv => pointwise []; simp only [key_at]
    case hv1 => pointwise []; simp only [key_at]
    case ha => pointwise []; simp [row, lane]

end Cert.AttnFwdIdeal.Hand
-- ==== Proof.AttnFwd.Run.lean ====
/- The body of the attention-forward kernel, run once on any staging memrefs. -/
module

public import proofs.«01_k».proof.Proof.Gen.AttnFwdIdeal.Frame
public import proofs.«01_k».proof.Proof.Gen.AttnFwdIdeal.Skeleton
public import proofs.«01_k».proof.Proof.Gen.AttnFwdIdeal.Loops
public import proofs.«01_k».proof.Proof.Gen.AttnFwdIdeal.Points
public import Idealize.ShloMosaic.Lib.Pipeline.FrameBody
public import Idealize.ShloMosaic.Lib.Tactic

@[expose] public section

set_option maxRecDepth 16384

noncomputable section

namespace Cert.AttnFwdIdeal.Hand

open Cert.AttnFwdIdeal Cert.AttnFwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body's triple: on whole staging memrefs, the inputs' at their contents, the outputs' and the scratch at anything,
    the body runs to the inputs' as they were and the outputs' with the stores `L₅`, `L₆` over what they held. What the
    scratch held enters the stores only through reads that the body's own first stores answer. -/
def run (c : Dev nD) (i : grid0.Coords) (a2 : Memref sig .tc .vmem S2048x256 .bf16) (h2 : a2.IsWhole) (a3 : Memref sig .tc .vmem S1x4096x128 .bf16) (h3 : a3.IsWhole) (a4 : Memref sig .tc .vmem S1x4096x128 .bf16) (h4 : a4.IsWhole) (a5 : Memref sig .tc .vmem S2048x256 .f32) (h5 : a5.IsWhole) (a6 : Memref sig .tc .vmem S8x2048 .f32) (h6 : a6.IsWhole) (a7 : Memref sig .tc .vmem S4x2048x128 .f32) (h7 : a7.IsWhole) (a8 : Memref sig .tc .vmem S4x2048x128 .f32) (h8 : a8.IsWhole) (a9 : Memref sig .tc .vmem S2048x256 .f32) (h9 : a9.IsWhole)
    (x0 : Vec F S2048x256 .bf16) (x1 x2 : Vec F S1x4096x128 .bf16) :
    Σ' (L₅ : BufTy.Contents (Elt F) a7.view.ty → BufTy.Contents (Elt F) a8.view.ty → BufTy.Contents (Elt F) a9.view.ty → List (View.Piece (Elt F) S2048x256 .f32)),
      { L₆ : BufTy.Contents (Elt F) a7.view.ty → BufTy.Contents (Elt F) a8.view.ty → BufTy.Contents (Elt F) a9.view.ty → List (View.Piece (Elt F) S8x2048 .f32) //
        ∀ (E : Set ℕ) (f5 : BufTy.Contents (Elt F) a5.view.ty) (f6 : BufTy.Contents (Elt F) a6.view.ty)
          (f7 : BufTy.Contents (Elt F) a7.view.ty) (f8 : BufTy.Contents (Elt F) a8.view.ty) (f9 : BufTy.Contents (Elt F) a9.view.ty) (K : PUnit → sProp 𝕄),
          iprop(owns (c : Thread nD τ) a2 fullShare x0 ∗ owns (c : Thread nD τ) a3 fullShare x1 ∗ owns (c : Thread nD τ) a4 fullShare x2
            ∗ (a5.view.loc (c : Thread nD τ) ↦[a5.view.set]{fullShare} f5) ∗ (a6.view.loc (c : Thread nD τ) ↦[a6.view.set]{fullShare} f6)
            ∗ (a7.view.loc (c : Thread nD τ) ↦[a7.view.set]{fullShare} f7) ∗ (a8.view.loc (c : Thread nD τ) ↦[a8.view.set]{fullShare} f8)
            ∗ (a9.view.loc (c : Thread nD τ) ↦[a9.view.set]{fullShare} f9)
            ∗ (iprop(owns (c : Thread nD τ) a2 fullShare x0 ∗ owns (c : Thread nD τ) a3 fullShare x1 ∗ owns (c : Thread nD τ) a4 fullShare x2
                ∗ (a5.view.loc (c : Thread nD τ) ↦[a5.view.set]{fullShare} a5.view.writes (Elt F) f5 (L₅ f7 f8 f9))
                ∗ (a6.view.loc (c : Thread nD τ) ↦[a6.view.set]{fullShare} a6.view.writes (Elt F) f6 (L₆ f7 f8 f9))
                ∗ (∃ d, owns (c : Thread nD τ) a7 fullShare d) ∗ (∃ d, owns (c : Thread nD τ) a8 fullShare d)
                ∗ (∃ d, owns (c : Thread nD τ) a9 fullShare d)) -∗ K ⟨⟩))
          ⊢ wp frame (wpE (defs₀ (F := F)) Variants.none c none) E (cc0_attn_fwd i a2 h2 a3 h3 a4 h4 a5 h5 a6 h6 a7 h7 a8 h8 a9 h9) K } := by
  refine ⟨?_, ?_, fun E f5 f6 f7 f8 f9 K => ?run⟩
  case run =>
    simp only [cc0_attn_fwd_eq_skeleton]; unfold cc0_attn_fwd_skel
    simp only [k0_part15_eq_skeleton, k0_part16_eq_skeleton, k0_part17_eq_skeleton]
    unfold owns
    iintro ⟨⟨%g2, %hg2, H2⟩, ⟨%g3, %hg3, H3⟩, ⟨%g4, %hg4, H4⟩, H5, H6, H7, H8, H9, Hk⟩
    obtain rfl := h2.eq_unread hg2; obtain rfl := h3.eq_unread hg3; obtain rfl := h4.eq_unread hg4
    sl_exec
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexact H5
    isplitl [H6]
    · iexact H6
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.AttnFwdIdeal.Hand

end
-- ==== Proof.AttnFwd.Point.lean ====
/- What one grid point of the attention-forward kernel leaves: the four trips of the loop over the key/value blocks carry
   a running maximum, a running sum and a running weighted sum of values; the outputs are the quotient of the last two and
   the logarithm of the sum with the maximum added. -/
module

public import proofs.«01_k».proof.Proof.AttnFwd.TripM
public import proofs.«01_k».proof.Proof.AttnFwd.TripL
public import proofs.«01_k».proof.Proof.AttnFwd.TripA
public import proofs.«01_k».proof.Proof.AttnFwd.Run

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)

/-- Key `s` of block `b`. -/
def keyN (b : ℕ) (s : Fin 1024) : Fin 4096 := ⟨(1024 * b + s.val) % 4096, Nat.mod_lt _ (by decide)⟩

theorem trips_eq : k0_t1_loop.trips = 4 := by decide +kernel

theorem key_eq (n : Fin k0_t1_loop.trips) : key n = keyN n.val := funext fun s => Fin.ext (by
  have := n.isLt; have := trips_eq; show 1024 * n.val + s.val = (1024 * n.val + s.val) % 4096; omega)

section
variable (q : S2048x256.Idx → EReal) (k v : S1x4096x128.Idx → EReal)

/-- The running maximum of query `r` of head `g` after `n` blocks, -/
def mx (g : Fin 4) (r : Fin 2048) : ℕ → EReal
  | 0 => Ideal.ofBits FTy.f32 4286578688#32
  | n + 1 => mN (mx g r n) (fun s => sc q k g r (keyN n s))

/-- the probability of key `s` of block `n` against the maximum so far, -/
def pb (g : Fin 4) (r : Fin 2048) (n : ℕ) (s : Fin 1024) : EReal := Ideal.exp2 (sc q k g r (keyN n s) - mx q k g r (n + 1))

/-- the factor by which block `n` shrinks the earlier sums, -/
def fb (g : Fin 4) (r : Fin 2048) (n : ℕ) : EReal := Ideal.exp2 (mx q k g r n - mx q k g r (n + 1))

/-- the running sum, -/
def ls (g : Fin 4) (r : Fin 2048) : ℕ → EReal
  | 0 => 0
  | n + 1 => fb q k g r n * ls g r n + ∑ s, pb q k g r n s

/-- and the running weighted sum of values. -/
def ac (p : Fin 2) (r : Fin 2048) (x : Fin 128) : ℕ → EReal
  | 0 => 0
  | n + 1 => ac p r x n * (if x.val < 64 then fb q k (hg p 0) r n else fb q k (hg p 1) r n)
      + ((∑ s, half 0 x (pb q k (hg p 0) r n s * v (ix3 0 (keyN n s) x))) + ∑ s, half 1 x (pb q k (hg p 1) r n s * v (ix3 0 (keyN n s) x)))

variable {q k} {M : S4x2048x128.Idx → EReal} {n : ℕ} (hM : ∀ g r x, M (ix3 g r x) = mx q k g r n)
include hM

theorem tm_eq (g : Fin 4) (r : Fin 2048) (x : Fin 128) : tm q k M (keyN n) g r x = mx q k g r (n + 1) := by
  unfold tm; rw [hM]; rfl

theorem tp_eq (g : Fin 4) (r : Fin 2048) (s : Fin 1024) : tp q k M (keyN n) g r s = pb q k g r n s := by
  unfold tp pb; rw [tm_eq hM]

theorem tf_eq (g : Fin 4) (r : Fin 2048) (x : Fin 128) : tf q k M (keyN n) g r x = fb q k g r n := by
  unfold tf fb; rw [tm_eq hM, hM]
end

theorem exists_row (r : Fin 2048) : ∃ h r', r = row h r' :=
  ⟨⟨r.val / 512, by omega⟩, ⟨r.val % 512, by omega⟩, Fin.ext (by show r.val = 512 * (r.val / 512) + r.val % 512; omega)⟩

variable (c : Dev nD) (i : grid0.Coords) (a2 : Memref sig .tc .vmem S2048x256 .bf16) (h2 : a2.IsWhole)
  (a3 : Memref sig .tc .vmem S1x4096x128 .bf16) (h3 : a3.IsWhole) (a4 : Memref sig .tc .vmem S1x4096x128 .bf16) (h4 : a4.IsWhole)
  (a5 : Memref sig .tc .vmem S2048x256 .f32) (h5 : a5.IsWhole) (a6 : Memref sig .tc .vmem S8x2048 .f32) (h6 : a6.IsWhole)
  (a7 : Memref sig .tc .vmem S4x2048x128 .f32) (h7 : a7.IsWhole) (a8 : Memref sig .tc .vmem S4x2048x128 .f32) (h8 : a8.IsWhole)
  (a9 : Memref sig .tc .vmem S2048x256 .f32) (h9 : a9.IsWhole)
  (f2 : a2.view.ty.Contents (Elt Ideal)) (f3 : a3.view.ty.Contents (Elt Ideal)) (f4 : a4.view.ty.Contents (Elt Ideal))
  (f7 : a7.view.ty.Contents (Elt Ideal)) (f8 : a8.view.ty.Contents (Elt Ideal)) (f9 : a9.view.ty.Contents (Elt Ideal))

/-- The stores of the first `n` trips. -/
abbrev stores (n : ℕ) := pb_k0_t1 (F := Ideal) Variants.none c none i a2 h2 a3 h3 a4 h4 a5 h5 a6 h6 a7 h7 a8 h8 a9 h9 f2 f3 f4 f7 f8 f9 n

/-- After `n` trips the scratch holds the running maximum, sum and weighted sum. -/
theorem loop (e7 : ∀ g r x, a7.view.read (Elt Ideal) f7 (ix3 g r x) = Ideal.ofBits FTy.f32 4286578688#32)
    (e8 : ∀ g r x, a8.view.read (Elt Ideal) f8 (ix3 g r x) = 0) (e9 : ∀ r p x, a9.view.read (Elt Ideal) f9 (ix2 r (lane p x)) = 0)
    (n : ℕ) (hn : n ≤ k0_t1_loop.trips) :
    (∀ g r x, a7.view.read (Elt Ideal) (a7.view.writes (Elt Ideal) f7 (stores c i a2 h2 a3 h3 a4 h4 a5 h5 a6 h6 a7 h7 a8 h8 a9 h9 f2 f3 f4 f7 f8 f9 n).1) (ix3 g r x)
        = mx (a2.view.read _ f2) (a3.view.read _ f3) g r n)
      ∧ (∀ g r x, a8.view.read (Elt Ideal) (a8.view.writes (Elt Ideal) f8 (stores c i a2 h2 a3 h3 a4 h4 a5 h5 a6 h6 a7 h7 a8 h8 a9 h9 f2 f3 f4 f7 f8 f9 n).2.1) (ix3 g r x)
        = ls (a2.view.read _ f2) (a3.view.read _ f3) g r n)
      ∧ ∀ r p x, a9.view.read (Elt Ideal) (a9.view.writes (Elt Ideal) f9 (stores c i a2 h2 a3 h3 a4 h4 a5 h5 a6 h6 a7 h7 a8 h8 a9 h9 f2 f3 f4 f7 f8 f9 n).2.2) (ix2 r (lane p x))
        = ac (a2.view.read _ f2) (a3.view.read _ f3) (a4.view.read _ f4) p r x n := by
  induction n with
  | zero => exact ⟨fun g r x => e7 g r x, fun g r x => e8 g r x, fun r p x => e9 r p x⟩
  | succ n ih =>
    obtain ⟨i7, i8, i9⟩ := ih (Nat.le_of_lt hn)
    rw [show stores c i a2 h2 a3 h3 a4 h4 a5 h5 a6 h6 a7 h7 a8 h8 a9 h9 f2 f3 f4 f7 f8 f9 (n + 1) = _ from
      pb_k0_t1_succ (F := Ideal) Variants.none c none i a2 h2 a3 h3 a4 h4 a5 h5 a6 h6 a7 h7 a8 h8 a9 h9 f2 f3 f4 f7 f8 f9 ⟨n, hn⟩]
    refine ⟨fun g r x => ?_, fun g r x => ?_, fun r p x => ?_⟩
    · refine (congrFun (congrArg _ (View.writes_append _ _ _ _)) _).trans ?_
      obtain ⟨h, r, rfl⟩ := exists_row r
      refine (m_trip c i a2 h2 a3 h3 a4 h4 a5 h5 a6 h6 a7 h7 a8 h8 a9 h9 f2 f3 f4 ⟨n, hn⟩ _ _ _ g h r x).trans ?_
      rw [key_eq]
      exact tm_eq i7 g _ x
    · refine (congrFun (congrArg _ (View.writes_append _ _ _ _)) _).trans ?_
      obtain ⟨h, r, rfl⟩ := exists_row r
      refine (l_trip c i a2 h2 a3 h3 a4 h4 a5 h5 a6 h6 a7 h7 a8 h8 a9 h9 f2 f3 f4 ⟨n, hn⟩ _ _ _ g h r x).trans ?_
      rw [key_eq]
      exact congrArg₂ (· + ·) (congrArg₂ (· * ·) (tf_eq i7 g _ x) (i8 g _ x)) (Finset.sum_congr rfl fun s _ => tp_eq i7 g _ s)
    · refine (congrFun (congrArg _ (View.writes_append _ _ _ _)) _).trans ?_
      obtain ⟨h, r, rfl⟩ := exists_row r
      refine (a_trip c i a2 h2 a3 h3 a4 h4 a5 h5 a6 h6 a7 h7 a8 h8 a9 h9 f2 f3 f4 ⟨n, hn⟩ _ _ _ p h r x).trans ?_
      rw [key_eq]
      exact congrArg₂ (· + ·) (congrArg₂ (· * ·) (i9 _ p x) (if_congr Iff.rfl (tf_eq i7 _ _ x) (tf_eq i7 _ _ x)))
        (congrArg₂ (· + ·) (Finset.sum_congr rfl fun s _ => congrArg (half 0 x) (congrArg (· * _) (tp_eq i7 _ _ s)))
          (Finset.sum_congr rfl fun s _ => congrArg (half 1 x) (congrArg (· * _) (tp_eq i7 _ _ s))))

variable (x0 : S2048x256.Idx → EReal) (x1 x2 : S1x4096x128.Idx → EReal) (f5 : a5.view.ty.Contents (Elt Ideal)) (f6 : a6.view.ty.Contents (Elt Ideal))

/-- The first stores: minus infinity, zero, zero. -/
abbrev p7 : View.Piece (Elt Ideal) S4x2048x128 .f32 := ⟨Rect.unit ![0, 0, 0] S4x2048x128.size inb_S4x2048x128_S4x2048x128_0_0_0, k0_pay144 (F := Ideal)⟩
abbrev p8 : View.Piece (Elt Ideal) S4x2048x128 .f32 := ⟨Rect.unit ![0, 0, 0] S4x2048x128.size inb_S4x2048x128_S4x2048x128_0_0_0, k0_pay145 (F := Ideal)⟩
abbrev p9 : View.Piece (Elt Ideal) S2048x256 .f32 := ⟨Rect.unit ![0, 0] S2048x256.size inb_S2048x256_S2048x256_0_0, k0_pay146 (F := Ideal)⟩

/-- All the stores of the loop. -/
abbrev all := stores c i a2 h2 a3 h3 a4 h4 a5 h5 a6 h6 a7 h7 a8 h8 a9 h9 (h2.unread x0) (h3.unread x1) (h4.unread x2) (a7.view.writes (Elt Ideal) a7.view.junk [p7])
  (a8.view.writes (Elt Ideal) a8.view.junk [p8]) (a9.view.writes (Elt Ideal) a9.view.junk [p9]) k0_t1_loop.trips

theorem after_loop :
    (∀ g r x, a7.view.read (Elt Ideal) (a7.view.writes (Elt Ideal) a7.view.junk ((all c i a2 h2 a3 h3 a4 h4 a5 h5 a6 h6 a7 h7 a8 h8 a9 h9 x0 x1 x2).1 ++ [p7])) (ix3 g r x) = mx x0 x1 g r 4)
      ∧ (∀ g r x, a8.view.read (Elt Ideal) (a8.view.writes (Elt Ideal) a8.view.junk ((all c i a2 h2 a3 h3 a4 h4 a5 h5 a6 h6 a7 h7 a8 h8 a9 h9 x0 x1 x2).2.1 ++ [p8])) (ix3 g r x) = ls x0 x1 g r 4)
      ∧ ∀ r p x, a9.view.read (Elt Ideal) (a9.view.writes (Elt Ideal) a9.view.junk ((all c i a2 h2 a3 h3 a4 h4 a5 h5 a6 h6 a7 h7 a8 h8 a9 h9 x0 x1 x2).2.2 ++ [p9])) (ix2 r (lane p x)) = ac x0 x1 x2 p r x 4 := by
  obtain ⟨l7, l8, l9⟩ := loop c i a2 h2 a3 h3 a4 h4 a5 h5 a6 h6 a7 h7 a8 h8 a9 h9 (h2.unread x0) (h3.unread x1) (h4.unread x2) (a7.view.writes (Elt Ideal) a7.view.junk [p7])
    (a8.view.writes (Elt Ideal) a8.view.junk [p8]) (a9.view.writes (Elt Ideal) a9.view.junk [p9])
    (fun g r x => by
      refine (View.read_writes_cons_unit_of_mem _ _ _ _ _ _ (ix3 g r x) rfl ?hx).trans ?_
      case hx => intro b; fin_cases b <;> simp
      pointwise [k0_pay144])
    (fun g r x => by
      refine (View.read_writes_cons_unit_of_mem _ _ _ _ _ _ (ix3 g r x) rfl ?hx).trans ?_
      case hx => intro b; fin_cases b <;> simp
      pointwise [k0_pay145])
    (fun r p x => by
      refine (View.read_writes_cons_unit_of_mem _ _ _ _ _ _ (ix2 r (lane p x)) rfl ?hx).trans ?_
      case hx => intro b; fin_cases b <;> simp
      pointwise [k0_pay146])
    k0_t1_loop.trips le_rfl
  rw [h2.read_unread, h3.read_unread] at l7 l8
  rw [h2.read_unread, h3.read_unread, h4.read_unread] at l9
  refine ⟨fun g r x => ?_, fun g r x => ?_, fun r p x => ?_⟩
  · exact (congrFun (congrArg _ (View.writes_append _ _ _ _)) _).trans ((l7 g r x).trans (congrArg _ trips_eq))
  · exact (congrFun (congrArg _ (View.writes_append _ _ _ _)) _).trans ((l8 g r x).trans (congrArg _ trips_eq))
  · exact (congrFun (congrArg _ (View.writes_append _ _ _ _)) _).trans ((l9 r p x).trans (congrArg _ trips_eq))

/-- The loads after the loop. -/
theorem m_load (g : ℕ) (hg : g < 4) (inb) (r : Fin 2048) (x : Fin 128) :
    a7.view.readCov (Val := Elt Ideal) ((all c i a2 h2 a3 h3 a4 h4 a5 h5 a6 h6 a7 h7 a8 h8 a9 h9 x0 x1 x2).1 ++ [p7]) (Rect.unit (s := S4x2048x128) ![g, 0, 0] S1x2048x128.size inb).toLoadRect (ix3 0 r x)
      = mx x0 x1 ⟨g, hg⟩ r 4 := by
  refine Eq.trans ?_ ((after_loop c i a2 h2 a3 h3 a4 h4 a5 h5 a6 h6 a7 h7 a8 h8 a9 h9 x0 x1 x2).1 ⟨g, hg⟩ r x)
  refine congrArg (a7.view.read (Elt Ideal) (a7.view.writes (Elt Ideal) a7.view.junk _)) (funext fun b => Fin.ext ?_)
  fin_cases b <;> simp [ix3, Rect.unit]

theorem l_load (g : ℕ) (hg : g < 4) (inb) (r : Fin 2048) (x : Fin 128) :
    a8.view.readCov (Val := Elt Ideal) ((all c i a2 h2 a3 h3 a4 h4 a5 h5 a6 h6 a7 h7 a8 h8 a9 h9 x0 x1 x2).2.1 ++ [p8]) (Rect.unit (s := S4x2048x128) ![g, 0, 0] S1x2048x128.size inb).toLoadRect (ix3 0 r x)
      = ls x0 x1 ⟨g, hg⟩ r 4 := by
  refine Eq.trans ?_ ((after_loop c i a2 h2 a3 h3 a4 h4 a5 h5 a6 h6 a7 h7 a8 h8 a9 h9 x0 x1 x2).2.1 ⟨g, hg⟩ r x)
  refine congrArg (a8.view.read (Elt Ideal) (a8.view.writes (Elt Ideal) a8.view.junk _)) (funext fun b => Fin.ext ?_)
  fin_cases b <;> simp [ix3, Rect.unit]

theorem a_load (p : Fin 2) (o : ℕ) (ho : o = 128 * p.val) (inb) (r : Fin 2048) (x : Fin 128) :
    a9.view.readCov (Val := Elt Ideal) ((all c i a2 h2 a3 h3 a4 h4 a5 h5 a6 h6 a7 h7 a8 h8 a9 h9 x0 x1 x2).2.2 ++ [p9]) (Rect.unit (s := S2048x256) ![0, o] S2048x128.size inb).toLoadRect (ix2 r x)
      = ac x0 x1 x2 p r x 4 := by
  refine Eq.trans ?_ ((after_loop c i a2 h2 a3 h3 a4 h4 a5 h5 a6 h6 a7 h7 a8 h8 a9 h9 x0 x1 x2).2.2 r p x)
  refine congrArg (a9.view.read (Elt Ideal) (a9.view.writes (Elt Ideal) a9.view.junk _)) (funext fun b => Fin.ext ?_)
  fin_cases b <;> simp [ix2, Rect.unit, lane, ho]

section
variable (A : Vec Ideal S2048x128 .f32) (L L' M : Vec Ideal S1x2048x128 .f32)

theorem q0_at (r : Fin 2048) (x : Fin 128) : k0_pay152 (F := Ideal) A L L' (ix2 r x) = Ideal.div (A (ix2 r x)) (if x.val < 64 then L (ix3 0 r x) else L' (ix3 0 r x)) := by
  pointwise [k0_pay152, k0_pay151]
  rw [select_lane]

theorem q1_at (r : Fin 2048) (x : Fin 128) : k0_pay153 (F := Ideal) k0_pay151 A L L' (ix2 r x) = Ideal.div (A (ix2 r x)) (if x.val < 64 then L (ix3 0 r x) else L' (ix3 0 r x)) := by
  pointwise [k0_pay153, k0_pay151]
  rw [select_lane]

theorem e0_at (r : Fin 2048) : k0_pay154 (F := Ideal) M L (ix2 0 r) = M (ix3 0 r 0) + Ideal.log (L (ix3 0 r 0)) * (((Real.log 2)⁻¹ : ℝ) : EReal) := by
  pointwise [k0_pay154]
  rfl

theorem e1_at (r : Fin 2048) : k0_pay156 (F := Ideal) (k0_pay155 M L) (ix2 0 r) = M (ix3 0 r 0) + Ideal.log (L (ix3 0 r 0)) * (((Real.log 2)⁻¹ : ℝ) : EReal) :=
  e0_at L M r

theorem e2_at (r : Fin 2048) : k0_pay157 (F := Ideal) M L (ix2 0 r) = M (ix3 0 r 0) + Ideal.log (L (ix3 0 r 0)) * (((Real.log 2)⁻¹ : ℝ) : EReal) :=
  e0_at L M r

theorem e3_at (r : Fin 2048) : k0_pay158 (F := Ideal) M L (ix2 0 r) = M (ix3 0 r 0) + Ideal.log (L (ix3 0 r 0)) * (((Real.log 2)⁻¹ : ℝ) : EReal) :=
  e0_at L M r
end

/-- The output at query `r`, pair `p` of heads, lane `x`. -/
def oS (p : Fin 2) (r : Fin 2048) (x : Fin 128) : EReal :=
  Ideal.div (ac x0 x1 x2 p r x 4) (if x.val < 64 then ls x0 x1 (hg p 0) r 4 else ls x0 x1 (hg p 1) r 4)

/-- The logarithm of the sum, to base 2, of query `r` of head `g`. -/
def eS (g : Fin 4) (r : Fin 2048) : EReal := mx x0 x1 g r 4 + Ideal.log (ls x0 x1 g r 4) * (((Real.log 2)⁻¹ : ℝ) : EReal)

/-- The body leaves in the output block the quotient. -/
theorem o_at (p : Fin 2) (r : Fin 2048) (x : Fin 128) :
    a5.view.read (Elt Ideal) (a5.view.writes (Elt Ideal) f5 ((run (F := Ideal) c i a2 h2 a3 h3 a4 h4 a5 h5 a6 h6 a7 h7 a8 h8 a9 h9 x0 x1 x2).1 f7 f8 f9)) (ix2 r (lane p x)) = oS x0 x1 x2 p r x := by
  unfold run
  dsimp only
  sl_unfold_run_names
  fin_cases p
  · refine (View.read_writes_cons_unit_of_not_mem _ _ _ _ _ _ rfl (1 : Fin 2) ?_).trans ?_
    · simp [ix2, lane]
    refine (View.read_writes_cons_unit_of_mem _ _ _ _ _ _ (ix2 r x) rfl ?hx).trans ?_
    case hx => intro b; fin_cases b <;> simp [ix2, lane]
    refine (q0_at _ _ _ r x).trans ?_
    exact congrArg₂ Ideal.div (a_load c i a2 h2 a3 h3 a4 h4 a5 h5 a6 h6 a7 h7 a8 h8 a9 h9 x0 x1 x2 0 0 rfl _ r x)
      (if_congr Iff.rfl (l_load c i a2 h2 a3 h3 a4 h4 a5 h5 a6 h6 a7 h7 a8 h8 a9 h9 x0 x1 x2 0 (by decide) _ r x) (l_load c i a2 h2 a3 h3 a4 h4 a5 h5 a6 h6 a7 h7 a8 h8 a9 h9 x0 x1 x2 1 (by decide) _ r x))
  · refine (View.read_writes_cons_unit_of_mem _ _ _ _ _ _ (ix2 r x) rfl ?hx).trans ?_
    case hx => intro b; fin_cases b <;> simp [ix2, lane]
    refine (q1_at _ _ _ r x).trans ?_
    exact congrArg₂ Ideal.div (a_load c i a2 h2 a3 h3 a4 h4 a5 h5 a6 h6 a7 h7 a8 h8 a9 h9 x0 x1 x2 1 128 rfl _ r x)
      (if_congr Iff.rfl (l_load c i a2 h2 a3 h3 a4 h4 a5 h5 a6 h6 a7 h7 a8 h8 a9 h9 x0 x1 x2 2 (by decide) _ r x) (l_load c i a2 h2 a3 h3 a4 h4 a5 h5 a6 h6 a7 h7 a8 h8 a9 h9 x0 x1 x2 3 (by decide) _ r x))

/-- It leaves in rows `4 j + g` of the other, at key head `j`, the logarithms of head `g`'s sums, -/
theorem e_at (g : Fin 4) (y : Fin 8) (hy : y.val = 4 * (i 1).val + g.val) (r : Fin 2048) :
    a6.view.read (Elt Ideal) (a6.view.writes (Elt Ideal) f6 ((run (F := Ideal) c i a2 h2 a3 h3 a4 h4 a5 h5 a6 h6 a7 h7 a8 h8 a9 h9 x0 x1 x2).2.1 f7 f8 f9)) (ix2 y r) = eS x0 x1 g r := by
  have o0 : k0_off2 i 0#32 = ![4 * (i 1).val + 0, 0] := k0_off2_eq i 0
  have o1 : k0_off2 i 1#32 = ![4 * (i 1).val + 1, 0] := k0_off2_eq i 1
  have o2 : k0_off2 i 2#32 = ![4 * (i 1).val + 2, 0] := k0_off2_eq i 2
  have o3 : k0_off2 i 3#32 = ![4 * (i 1).val + 3, 0] := k0_off2_eq i 3
  unfold run
  dsimp only
  sl_unfold_run_names
  fin_cases g
  all_goals
    repeat (first
      | (refine (View.read_writes_cons_unit_of_not_mem _ _ _ _ _ _ rfl (0 : Fin 2) ?_).trans ?_; focus (simp [ix2, o0, o1, o2, o3, hy]; done))
      | fail)
    refine (View.read_writes_cons_unit_of_mem _ _ _ _ _ _ (ix2 0 r) rfl ?hx).trans ?_
    case hx => intro b; fin_cases b <;> simp [ix2, o0, o1, o2, o3, hy]
  · exact (e0_at _ _ r).trans (congrArg₂ (· + ·) (m_load c i a2 h2 a3 h3 a4 h4 a5 h5 a6 h6 a7 h7 a8 h8 a9 h9 x0 x1 x2 0 (by decide) _ r 0) (congrArg (Ideal.log · * _) (l_load c i a2 h2 a3 h3 a4 h4 a5 h5 a6 h6 a7 h7 a8 h8 a9 h9 x0 x1 x2 0 (by decide) _ r 0)))
  · exact (e1_at _ _ r).trans (congrArg₂ (· + ·) (m_load c i a2 h2 a3 h3 a4 h4 a5 h5 a6 h6 a7 h7 a8 h8 a9 h9 x0 x1 x2 1 (by decide) _ r 0) (congrArg (Ideal.log · * _) (l_load c i a2 h2 a3 h3 a4 h4 a5 h5 a6 h6 a7 h7 a8 h8 a9 h9 x0 x1 x2 1 (by decide) _ r 0)))
  · exact (e2_at _ _ r).trans (congrArg₂ (· + ·) (m_load c i a2 h2 a3 h3 a4 h4 a5 h5 a6 h6 a7 h7 a8 h8 a9 h9 x0 x1 x2 2 (by decide) _ r 0) (congrArg (Ideal.log · * _) (l_load c i a2 h2 a3 h3 a4 h4 a5 h5 a6 h6 a7 h7 a8 h8 a9 h9 x0 x1 x2 2 (by decide) _ r 0)))
  · exact (e3_at _ _ r).trans (congrArg₂ (· + ·) (m_load c i a2 h2 a3 h3 a4 h4 a5 h5 a6 h6 a7 h7 a8 h8 a9 h9 x0 x1 x2 3 (by decide) _ r 0) (congrArg (Ideal.log · * _) (l_load c i a2 h2 a3 h3 a4 h4 a5 h5 a6 h6 a7 h7 a8 h8 a9 h9 x0 x1 x2 3 (by decide) _ r 0)))

/-- and nothing in the other rows. -/
theorem e_other (y : Fin 8) (hy : y.val < 4 * (i 1).val ∨ 4 * (i 1).val + 4 ≤ y.val) (r : Fin 2048) :
    a6.view.read (Elt Ideal) (a6.view.writes (Elt Ideal) f6 ((run (F := Ideal) c i a2 h2 a3 h3 a4 h4 a5 h5 a6 h6 a7 h7 a8 h8 a9 h9 x0 x1 x2).2.1 f7 f8 f9)) (ix2 y r) = a6.view.read (Elt Ideal) f6 (ix2 y r) := by
  have o0 : k0_off2 i 0#32 = ![4 * (i 1).val + 0, 0] := k0_off2_eq i 0
  have o1 : k0_off2 i 1#32 = ![4 * (i 1).val + 1, 0] := k0_off2_eq i 1
  have o2 : k0_off2 i 2#32 = ![4 * (i 1).val + 2, 0] := k0_off2_eq i 2
  have o3 : k0_off2 i 3#32 = ![4 * (i 1).val + 3, 0] := k0_off2_eq i 3
  unfold run
  dsimp only
  sl_unfold_run_names
  refine (View.read_writes_cons_unit_of_not_mem _ _ _ _ _ _ rfl (0 : Fin 2) (by simp [ix2, o0, o1, o2, o3]; omega)).trans ?_
  refine (View.read_writes_cons_unit_of_not_mem _ _ _ _ _ _ rfl (0 : Fin 2) (by simp [ix2, o0, o1, o2, o3]; omega)).trans ?_
  refine (View.read_writes_cons_unit_of_not_mem _ _ _ _ _ _ rfl (0 : Fin 2) (by simp [ix2, o0, o1, o2, o3]; omega)).trans ?_
  refine (View.read_writes_cons_unit_of_not_mem _ _ _ _ _ _ rfl (0 : Fin 2) (by simp [ix2, o0, o1, o2, o3]; omega)).trans ?_
  rfl

end Cert.AttnFwdIdeal.Hand

end
-- ==== Proof.AttnFwd.Launch.lean ====
/- The attention-forward kernel's launch, at any float type: the staging memrefs, the pipeline's proof data, and the frame,
   for which nothing is said of what the two output windows are left with. -/
module

public import proofs.«01_k».proof.Proof.AttnFwd.Run
public import proofs.«01_k».proof.Proof.Gen.AttnFwdIdeal.Launch
public import Idealize.ShloMosaic.Lib.Pipeline.FrameBody
public import Idealize.ShloMosaic.Lib.Pipeline.DatRel
public import Idealize.ShloMosaic.Lib.Pipeline.ArrRel
public import Idealize.ShloMosaic.Lib.Tactic

@[expose] public section

set_option maxRecDepth 16384

noncomputable section

namespace Cert.AttnFwdIdeal.Hand

open Cert.AttnFwdIdeal Cert.AttnFwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's current staging memref at point `t`, and the scratch. -/
abbrev ms0_0 (t : Fin cfg0.N) : Memref sig .tc .vmem S2048x256 .bf16 := win0_0.stage (cfg0.slots t 0)
abbrev ms0_1 (t : Fin cfg0.N) : Memref sig .tc .vmem S1x4096x128 .bf16 := win0_1.stage (cfg0.slots t 1)
abbrev ms0_2 (t : Fin cfg0.N) : Memref sig .tc .vmem S1x4096x128 .bf16 := win0_2.stage (cfg0.slots t 2)
abbrev ms0_3 (t : Fin cfg0.N) : Memref sig .tc .vmem S2048x256 .f32 := win0_3.stage (cfg0.slots t 3)
abbrev ms0_4 (t : Fin cfg0.N) : Memref sig .tc .vmem S8x2048 .f32 := win0_4.stage (cfg0.slots t 4)
abbrev scM0_0 : Memref sig .tc .vmem S4x2048x128 .f32 := Memref.whole cc0_scratch0
abbrev scM0_1 : Memref sig .tc .vmem S4x2048x128 .f32 := Memref.whole cc0_scratch1
abbrev scM0_2 : Memref sig .tc .vmem S2048x256 .f32 := Memref.whole cc0_scratch2

/-- The invariant: the scratch at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The two output windows. -/
def marks : Fin 5 → Bool := fun w => w.val == 3 || w.val == 4

/-- The pipeline's proof data: the inputs' buffers at their blocks. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m c).A w = V m c (Pipeline.arrRef spec0 w) := by
  dsimp only [dats]

theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]

theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body is called with at point `t`, the outputs at anything, and what it returns. -/
def anyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare d)
    ∗ (∃ d, owns (c : Thread nD τ) (ms0_4 t) fullShare d))

def anyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ (∃ d, owns (c : Thread nD τ) (ms0_3 t) fullShare d)
    ∗ (∃ d, owns (c : Thread nD τ) (ms0_4 t) fullShare d))

set_option maxHeartbeats 1000000 in
/-- The body's triple with the outputs and the scratch left at anything. -/
theorem run_any (c : Dev nD) (i : grid0.Coords) (a2 : Memref sig .tc .vmem S2048x256 .bf16) (h2 : a2.IsWhole) (a3 : Memref sig .tc .vmem S1x4096x128 .bf16) (h3 : a3.IsWhole) (a4 : Memref sig .tc .vmem S1x4096x128 .bf16) (h4 : a4.IsWhole) (a5 : Memref sig .tc .vmem S2048x256 .f32) (h5 : a5.IsWhole) (a6 : Memref sig .tc .vmem S8x2048 .f32) (h6 : a6.IsWhole) (a7 : Memref sig .tc .vmem S4x2048x128 .f32) (h7 : a7.IsWhole) (a8 : Memref sig .tc .vmem S4x2048x128 .f32) (h8 : a8.IsWhole) (a9 : Memref sig .tc .vmem S2048x256 .f32) (h9 : a9.IsWhole)
    (x0 : Vec F S2048x256 .bf16) (x1 x2 : Vec F S1x4096x128 .bf16) (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d)
        ∗ (iprop(owns (c : Thread nD τ) a2 fullShare x0 ∗ owns (c : Thread nD τ) a3 fullShare x1 ∗ owns (c : Thread nD τ) a4 fullShare x2
          ∗ (∃ d, owns (c : Thread nD τ) a5 fullShare d) ∗ (∃ d, owns (c : Thread nD τ) a6 fullShare d) ∗ (∃ d, owns (c : Thread nD τ) a7 fullShare d) ∗ (∃ d, owns (c : Thread nD τ) a8 fullShare d) ∗ (∃ d, owns (c : Thread nD τ) a9 fullShare d)) -∗ K ⟨⟩))
      ⊢ wp frame (wpE (defs₀ (F := F)) Variants.none c none) E (cc0_attn_fwd i a2 h2 a3 h3 a4 h4 a5 h5 a6 h6 a7 h7 a8 h8 a9 h9) K := by
  unfold owns
  iintro ⟨H2, H3, H4, ⟨%d5, %f5, -, H5⟩, ⟨%d6, %f6, -, H6⟩, ⟨%d7, %f7, -, H7⟩, ⟨%d8, %f8, -, H8⟩, ⟨%d9, %f9, -, H9⟩, Hk⟩
  iapply ((run c i a2 h2 a3 h3 a4 h4 a5 h5 a6 h6 a7 h7 a8 h8 a9 h9 x0 x1 x2).2.2 E f5 f6 f7 f8 f9 K)
  isplitl [H2]; · unfold owns; iexact H2
  isplitl [H3]; · unfold owns; iexact H3
  isplitl [H4]; · unfold owns; iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]; · unfold owns; iexact H2
  isplitl [H3]; · unfold owns; iexact H3
  isplitl [H4]; · unfold owns; iexact H4
  isplitl [H5]
  · iexists _, _; isplitr; swap; · iexact H5
    ipureintro; rfl
  isplitl [H6]
  · iexists _, _; isplitr; swap; · iexact H6
    ipureintro; rfl
  isplitl [H7]; · unfold owns; iexact H7
  isplitl [H8]; · unfold owns; iexact H8
  unfold owns; iexact H9

set_option maxHeartbeats 800000 in
/-- The body at any point. -/
theorem any_body (c : Dev nD) (t : Fin cfg0.N) :
    anyPre m c t ⊢ wp frame (wpE (defs₀ (F := F)) Variants.none c none) Set.univ (bodyAt0 t) (fun _ => anyPost m c t) := by
  unfold anyPre anyPost bodyAt0
  simp only [before0_0, before0_1, before0_2]
  rw [show (dats m c).Φ t.succ = (dats m c).Φ t.castSucc from rfl,
    show (dats m c).owesAt () t.succ = (dats m c).owesAt () t.castSucc from rfl,
    after0_0, after0_1, after0_2]
  rw [show (dats m c).Φ t.castSucc = Pipeline.ΦA spec0 c from rfl, PhiA0_eq]
  iintro ⟨⟨⟨H7, H8, H9⟩, Hg⟩, Ho, ⟨%d0, H0⟩, ⟨%d1, H1⟩, ⟨%d2, H2⟩, H3, H4⟩
  iapply (run_any c (grid0.coords t) _ _ _ _ _ _ _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexact H3
  isplitl [H4]; · iexact H4
  isplitl [H7]; · iexact H7
  isplitl [H8]; · iexact H8
  isplitl [H9]; · iexact H9
  iintro ⟨H0, H1, H2, H3, H4, H7, H8, H9⟩
  isplitl [H7 H8 H9 Hg]
  · isplitl [H7 H8 H9]
    · isplitl [H7]
      · iexact H7
      isplitl [H8]
      · iexact H8
      iexact H9
    iexact Hg
  isplitl [Ho]; · iexact Ho
  isplitl [H0]; · iexact H0
  isplitl [H1]; · iexact H1
  isplitl [H2]; · iexact H2
  isplitl [H3]; · iexact H3
  iexact H4

theorem any_obligation (c : Dev nD) : BodyObligation (dats m c) (defs₀ (F := F)) Variants.none () Set.univ marks := fun t => by
  rw [bigSep_W0, bigSep_W0, defs₀_row]
  exact triple_restated (any_body m c t) rfl .rfl fun _ => .rfl

set_option backward.isDefEq.respectTransparency.types false in
/-- The launch with the outputs forgotten: every input array unchanged, every counter at zero. -/
theorem run_forget : θ_run defs (onTc (τ := τ) (main (F := F))) (s₀ m ρ) (fun r => (Pipeline.RDat.FramePost (cfgs 0) (fun c => (dats m c).toRForget marks) (V m)) r ∧ r.2.sem = fun _ => 0) :=
  Pipeline.θ_run_frame_forget (Q' := _) cfgs (fun _ c => dats m c) (0 : Fin 1) launch0 defs₀ Variants.none marks m ρ main
    (hbody := fun c => (any_obligation m c).loose) (hshare := fun c => (dats m c).share_full fun _ => rfl)
    (howed := fun _ _ => rfl) (V := V m) (hmain := hmain m Variants.none) (hA := A_eq m) (hΦ := fun _ _ => rfl)

/-- What a run leaves in the arguments. -/
theorem args_of {r : PUnit × MemSt nD τ sig (Elt F)} {rdat : (c : Dev nD) → Pipeline.RDat τ (Elt F) Unit ℕ (UR sig nD τ) ℕ (cfgs 0) c}
    (h : Pipeline.RDat.FramePost (cfgs 0) rdat (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame: the kernel program runs, leaves its arguments unchanged and its counters at zero. -/
theorem args_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => args_of m h.1 c, h.2⟩) (run_forget m ρ)

end Cert.AttnFwdIdeal.Hand

end
-- ==== Proof.AttnFwd.Frame.lean ====
/- The attention-forward kernel's run. The row sums' block is written in two points, of which each leaves the other's rows
   alone, so what the body leaves is said by a predicate; the launch carries it to the two arrays. -/
module

public import proofs.«01_k».proof.Proof.AttnFwd.Point
public import proofs.«01_k».proof.Proof.AttnFwd.Launch
public import Idealize.ShloMosaic.Lib.Pipeline.FrameBody
public import Idealize.ShloMosaic.Lib.Pipeline.DatRel
public import Idealize.ShloMosaic.Lib.Pipeline.ArrRel
public import Idealize.ShloMosaic.Lib.Tactic

@[expose] public section

set_option maxRecDepth 16384

noncomputable section

namespace Cert.AttnFwdIdeal.Hand

open Cert.AttnFwdIdeal Cert.AttnFwdIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

set_option maxHeartbeats 1000000 in
/-- The body's triple with what it leaves said at indices. -/
theorem run_owns (c : Dev nD) (i : grid0.Coords) (a2 : Memref sig .tc .vmem S2048x256 .bf16) (h2 : a2.IsWhole) (a3 : Memref sig .tc .vmem S1x4096x128 .bf16) (h3 : a3.IsWhole) (a4 : Memref sig .tc .vmem S1x4096x128 .bf16) (h4 : a4.IsWhole) (a5 : Memref sig .tc .vmem S2048x256 .f32) (h5 : a5.IsWhole) (a6 : Memref sig .tc .vmem S8x2048 .f32) (h6 : a6.IsWhole) (a7 : Memref sig .tc .vmem S4x2048x128 .f32) (h7 : a7.IsWhole) (a8 : Memref sig .tc .vmem S4x2048x128 .f32) (h8 : a8.IsWhole) (a9 : Memref sig .tc .vmem S2048x256 .f32) (h9 : a9.IsWhole)
    (x0 : Vec Ideal S2048x256 .bf16) (x1 x2 : Vec Ideal S1x4096x128 .bf16) (Y : Vec Ideal S8x2048 .f32) (E : Set ℕ) (K : PUnit → sProp 𝕄) :
    iprop(owns (c : Thread nD τ) a2 fullShare x0 ∗ owns (c : Thread nD τ) a3 fullShare x1 ∗ owns (c : Thread nD τ) a4 fullShare x2
        ∗ (∃ d, owns (c : Thread nD τ) a5 fullShare d) ∗ owns (c : Thread nD τ) a6 fullShare Y
        ∗ (∃ d, owns (c : Thread nD τ) a7 fullShare d) ∗ (∃ d, owns (c : Thread nD τ) a8 fullShare d) ∗ (∃ d, owns (c : Thread nD τ) a9 fullShare d)
        ∗ (iprop(owns (c : Thread nD τ) a2 fullShare x0 ∗ owns (c : Thread nD τ) a3 fullShare x1 ∗ owns (c : Thread nD τ) a4 fullShare x2
          ∗ (∃ X, ⌜∀ p r x, (X : S2048x256.Idx → EReal) (ix2 r (lane p x)) = oS x0 x1 x2 p r x⌝ ∗ owns (c : Thread nD τ) a5 fullShare X)
          ∗ (∃ X, ⌜(∀ (g : Fin 4) (y : Fin 8), y.val = 4 * (i 1).val + g.val → ∀ r, (X : S8x2048.Idx → EReal) (ix2 y r) = eS x0 x1 g r)
              ∧ ∀ (y : Fin 8), y.val < 4 * (i 1).val ∨ 4 * (i 1).val + 4 ≤ y.val → ∀ r, (X : S8x2048.Idx → EReal) (ix2 y r) = Y (ix2 y r)⌝
              ∗ owns (c : Thread nD τ) a6 fullShare X)
          ∗ (∃ d, owns (c : Thread nD τ) a7 fullShare d) ∗ (∃ d, owns (c : Thread nD τ) a8 fullShare d) ∗ (∃ d, owns (c : Thread nD τ) a9 fullShare d)) -∗ K ⟨⟩))
      ⊢ wp frame (wpE (defs₀ (F := Ideal)) Variants.none c none) E (cc0_attn_fwd i a2 h2 a3 h3 a4 h4 a5 h5 a6 h6 a7 h7 a8 h8 a9 h9) K := by
  unfold owns
  iintro ⟨H2, H3, H4, ⟨%d5, %f5, -, H5⟩, ⟨%f6, %hf6, H6⟩, ⟨%d7, %f7, -, H7⟩, ⟨%d8, %f8, -, H8⟩, ⟨%d9, %f9, -, H9⟩, Hk⟩
  iapply ((run (F := Ideal) c i a2 h2 a3 h3 a4 h4 a5 h5 a6 h6 a7 h7 a8 h8 a9 h9 x0 x1 x2).2.2 E f5 f6 f7 f8 f9 K)
  isplitl [H2]; · unfold owns; iexact H2
  isplitl [H3]; · unfold owns; iexact H3
  isplitl [H4]; · unfold owns; iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]; · unfold owns; iexact H2
  isplitl [H3]; · unfold owns; iexact H3
  isplitl [H4]; · unfold owns; iexact H4
  isplitl [H5]
  · iexists _
    isplitr; swap
    · iexists _; isplitr; swap; · iexact H5
      ipureintro; rfl
    · ipureintro
      exact fun p r x => o_at c i a2 h2 a3 h3 a4 h4 a5 h5 a6 h6 a7 h7 a8 h8 a9 h9 f7 f8 f9 x0 x1 x2 f5 p r x
  isplitl [H6]
  · iexists _
    isplitr; swap
    · iexists _; isplitr; swap; · iexact H6
      ipureintro; rfl
    · ipureintro
      exact ⟨fun g y hy r => e_at c i a2 h2 a3 h3 a4 h4 a5 h5 a6 h6 a7 h7 a8 h8 a9 h9 f7 f8 f9 x0 x1 x2 f6 g y hy r,
        fun y hy r => (e_other c i a2 h2 a3 h3 a4 h4 a5 h5 a6 h6 a7 h7 a8 h8 a9 h9 f7 f8 f9 x0 x1 x2 f6 y hy r).trans (congrFun hf6 _)⟩
  isplitl [H7]; · iexact H7
  isplitl [H8]; · iexact H8
  iexact H9

variable (m : (ℓ : Loc nD τ sig) → Buf (Elt Ideal) ℓ) (ρ : Dev nD → PrngReg)

/-- The output's block at point `t`: the quotients of that point's blocks. -/
def IsO (c : Dev nD) (t : Fin cfg0.N) (X : S2048x256.Idx → EReal) : Prop :=
  ∀ p r x, X (ix2 r (lane p x)) = oS (iblk m c 0 t) (iblk m c 1 t) (iblk m c 2 t) p r x

/-- The row sums' block at point `t`: the rows of the points of `t`'s block of queries up to `t`. -/
def IsE (c : Dev nD) (t : Fin cfg0.N) (X : S8x2048.Idx → EReal) : Prop :=
  ∀ u : Fin cfg0.N, u.val / 2 = t.val / 2 → u.val ≤ t.val → ∀ (g : Fin 4) (y : Fin 8), y.val = 4 * (u.val % 2) + g.val →
    ∀ r, X (ix2 y r) = eS (iblk m c 0 u) (iblk m c 1 u) g r

/-- The two output windows' predicates. -/
def Rl (c : Dev nD) : (w : Fin cfg0.W) → Fin cfg0.N → ((cfg0.win w).block.Idx → Elt Ideal (cfg0.win w).elt) → Prop
  | ⟨3, _⟩, t, X => IsO m c t X
  | ⟨4, _⟩, t, X => IsE m c t X
  | _, _, _ => True

/-- With the outputs held to the predicate. -/
def rd (c : Dev nD) : Pipeline.RDat τ (Elt Ideal) Unit ℕ (UR sig nD τ) ℕ cfg0 c := (dats m c).toRRel marks (Rl m c)

theorem head_val : ∀ t : Fin grid0.N, (grid0.coords t 1).val = t.val % 2 := by decide +kernel

theorem fetch4 : ∀ t : Fin cfg0.N, (cfg0.win 4).fetch t = false := by decide +kernel

/-- What the second point of a block of queries finds in the row sums' block: the first point's rows. -/
theorem finds4 (c : Dev nD) (t : Fin cfg0.N) (h : t.val % 2 = 1) {Y : S8x2048.Idx → EReal} (hY : (rd m c).Finds 4 t Y) :
    IsE m c ⟨t.val - 1, by omega⟩ Y := by
  have hf : (cfg0.win 4).fetch t = false := fetch4 t
  rcases ((rd m c).finds_of_pos hf (by omega) Y).mp hY with h' | h'
  · exact absurd ((flush0_4 _).mp h') (by show ¬ (t.val - 1) % 2 = 1; omega)
  · exact (dats m c).toRRel_leaves (fgt := marks) (Rl := Rl m c) (w := 4) rfl h'

/-- What the body is called with at point `t`, and what it returns. -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ Y, ⌜(rd m c).Finds 3 t Y⌝ ∗ owns (c : Thread nD τ) (ms0_3 t) fullShare Y)
    ∗ (∃ Y, ⌜(rd m c).Finds 4 t Y⌝ ∗ owns (c : Thread nD τ) (ms0_4 t) fullShare Y))

def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ (∃ X, ⌜IsO m c t X⌝ ∗ owns (c : Thread nD τ) (ms0_3 t) fullShare X)
    ∗ (∃ X, ⌜IsE m c t X⌝ ∗ owns (c : Thread nD τ) (ms0_4 t) fullShare X))

theorem isE_step (c : Dev nD) (t : Fin cfg0.N) {X Y : S8x2048.Idx → EReal} (hY : (rd m c).Finds 4 t Y)
    (h : (∀ (g : Fin 4) (y : Fin 8), y.val = 4 * (grid0.coords t 1).val + g.val → ∀ r, X (ix2 y r) = eS (iblk m c 0 t) (iblk m c 1 t) g r)
      ∧ ∀ (y : Fin 8), y.val < 4 * (grid0.coords t 1).val ∨ 4 * (grid0.coords t 1).val + 4 ≤ y.val → ∀ r, X (ix2 y r) = Y (ix2 y r)) : IsE m c t X := by
  rw [head_val] at h
  intro u hu hle g y hy r
  by_cases e : u = t
  · subst e; exact h.1 g y hy r
  · have ne : u.val ≠ t.val := fun e' => e (Fin.ext e')
    have ht : t.val % 2 = 1 := by omega
    rw [h.2 y (by omega) r]
    exact finds4 m c t ht hY u (by show u.val / 2 = (t.val - 1) / 2; omega) (by show u.val ≤ t.val - 1; omega) g y hy r

set_option maxHeartbeats 800000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m c).Φ t.succ = (dats m c).Φ t.castSucc from rfl,
    show (dats m c).owesAt () t.succ = (dats m c).owesAt () t.castSucc from rfl,
    after0_0, after0_1, after0_2]
  rw [show (dats m c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, %hd3, H3⟩, ⟨%d4, %hd4, H4⟩⟩
  iapply (run_owns c (grid0.coords t) _ _ _ _ _ _ _ _ _ _ _ _ _ _ _ _ (iblk m c 0 t) (iblk m c 1 t) (iblk m c 2 t) d4 Set.univ _)
  isplitl [H0]; · iexact H0
  isplitl [H1]; · iexact H1
  isplitl [H2]; · iexact H2
  isplitl [H3]; · iexists _; iexact H3
  isplitl [H4]; · iexact H4
  isplitl [HS0]; · iexact HS0
  isplitl [HS1]; · iexact HS1
  isplitl [HS2]; · iexact HS2
  iintro ⟨H0, H1, H2, ⟨%X3, %hX3, H3⟩, ⟨%X4, %hX4, H4⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]
  · iexists X3; isplitr
    · ipureintro; exact hX3
    · iexact H3
  · iexists X4; isplitr
    · ipureintro; exact isE_step m c t hd4 hX4
    · iexact H4

theorem body_obligation (c : Dev nD) : Pipeline.BodyObligationRel (dats m c) (defs₀ (F := Ideal)) Variants.none () Set.univ marks (Rl m c) := fun t => by
  rw [bigSep_W0, bigSep_W0, defs₀_row]
  exact triple_restated (sound_body m c t) rfl .rfl fun _ => .rfl

set_option backward.isDefEq.respectTransparency.types false in
/-- The launch: every array at contents the predicates allow, every counter at zero. -/
theorem run_main_quiescent : θ_run defs (onTc (τ := τ) (main (F := Ideal))) (s₀ m ρ) (fun r => (Pipeline.RDat.FramePost (cfgs 0) (fun c => rd m c) (V m)) r ∧ r.2.sem = fun _ => 0) :=
  Pipeline.RDat.θ_run_frame_track cfgs (0 : Fin 1) launch0 defs₀ Variants.none (fun c => rd m c) m ρ main
    (fun c => (body_obligation m c).toRRel) (fun c => (dats m c).share_full fun _ => rfl)
    (fun _ _ => rfl) (V m) (hmain m Variants.none) (A_eq m) (fun _ => .rfl) (fun _ => .rfl) _ (fun _ h => h)

end Cert.AttnFwdIdeal.Hand

end
-- ==== Proof.AttnFwd.Kernel.lean ====
/- The two arrays the attention-forward kernel leaves, over the whole arrays its windows cover, and the arrays the host hands it. -/
module

public import proofs.«01_k».proof.Proof.AttnFwd.Frame

@[expose] public section

set_option maxRecDepth 16384

noncomputable section

namespace Cert.AttnFwdIdeal.Hand

open Cert.AttnFwdIdeal Cert.AttnFwdIdeal.Gen Idealize.ShloMosaic Idealize.ShloMosaic.TcCoe Idealize.SL.Sem
open Idealize.ShloMosaic.Pipeline (Dat)

/-- The column of the packed queries that lane `x` of pair `p` of key/value head `j` is. -/
def col (j p : Fin 2) (x : Fin 128) : Fin 512 := ⟨j.val * 256 + (128 * p.val + x.val), by omega⟩

/-- Query `r` of block `i`. -/
def qrow (i : Fin 2) (r : Fin 2048) : Fin 4096 := ⟨i.val * 2048 + r.val, by omega⟩

/-- Block `i` of queries at key/value head `j`, and that head's keys or values. -/
def bQ (Q : Fin 4096 → Fin 512 → EReal) (i j : Fin 2) : S2048x256.Idx → EReal := fun y =>
  Q (qrow i (y 0)) ⟨j.val * 256 + (y 1).val, by have : (y 1).val < 256 := (y 1).isLt; omega⟩
def bK (K : Fin 2 → Fin 4096 → Fin 128 → EReal) (j : Fin 2) : S1x4096x128.Idx → EReal := fun y => K j (y 1) (y 2)

/-- The outputs over whole arrays. -/
def allO (Q : Fin 4096 → Fin 512 → EReal) (K W : Fin 2 → Fin 4096 → Fin 128 → EReal) (i : S4096x512.Idx) : EReal :=
  oS (bQ Q ⟨(i 0).val / 2048, by have : (i 0).val < 4096 := (i 0).isLt; omega⟩ ⟨(i 1).val / 256, by have : (i 1).val < 512 := (i 1).isLt; omega⟩)
    (bK K ⟨(i 1).val / 256, by have : (i 1).val < 512 := (i 1).isLt; omega⟩) (bK W ⟨(i 1).val / 256, by have : (i 1).val < 512 := (i 1).isLt; omega⟩)
    ⟨(i 1).val / 128 % 2, by omega⟩ ⟨(i 0).val % 2048, by omega⟩ ⟨(i 1).val % 128, by omega⟩
def allE (Q : Fin 4096 → Fin 512 → EReal) (K : Fin 2 → Fin 4096 → Fin 128 → EReal) (i : S8x4096.Idx) : EReal :=
  eS (bQ Q ⟨(i 1).val / 2048, by have : (i 1).val < 4096 := (i 1).isLt; omega⟩ ⟨(i 0).val / 4, by have : (i 0).val < 8 := (i 0).isLt; omega⟩)
    (bK K ⟨(i 0).val / 4, by have : (i 0).val < 8 := (i 0).isLt; omega⟩) ⟨(i 0).val % 4, by omega⟩ ⟨(i 1).val % 2048, by omega⟩

theorem allO_at (Q K W) (i j p : Fin 2) (r : Fin 2048) (x : Fin 128) :
    allO Q K W (ix2 (qrow i r) (col j p x)) = oS (bQ Q i j) (bK K j) (bK W j) p r x := by
  unfold allO
  rw [show (⟨(ix2 (qrow i r) (col j p x) 0).val / 2048, _⟩ : Fin 2) = i from Fin.ext (by show (i.val * 2048 + r.val) / 2048 = i.val; omega),
    show (⟨(ix2 (qrow i r) (col j p x) 1).val / 256, _⟩ : Fin 2) = j from Fin.ext (by show (j.val * 256 + (128 * p.val + x.val)) / 256 = j.val; omega),
    show (⟨(ix2 (qrow i r) (col j p x) 1).val / 128 % 2, _⟩ : Fin 2) = p from Fin.ext (by show (j.val * 256 + (128 * p.val + x.val)) / 128 % 2 = p.val; omega),
    show (⟨(ix2 (qrow i r) (col j p x) 0).val % 2048, _⟩ : Fin 2048) = r from Fin.ext (by show (i.val * 2048 + r.val) % 2048 = r.val; omega),
    show (⟨(ix2 (qrow i r) (col j p x) 1).val % 128, _⟩ : Fin 128) = x from Fin.ext (by show (j.val * 256 + (128 * p.val + x.val)) % 128 = x.val; omega)]

theorem allE_at (Q K) (i j : Fin 2) (g : Fin 4) (y : Fin 8) (hy : y.val = 4 * j.val + g.val) (r : Fin 2048) :
    allE Q K (ix2 y (qrow i r)) = eS (bQ Q i j) (bK K j) g r := by
  unfold allE
  rw [show (⟨(ix2 y (qrow i r) 1).val / 2048, _⟩ : Fin 2) = i from Fin.ext (by show (i.val * 2048 + r.val) / 2048 = i.val; omega),
    show (⟨(ix2 y (qrow i r) 0).val / 4, _⟩ : Fin 2) = j from Fin.ext (by show y.val / 4 = j.val; omega),
    show (⟨(ix2 y (qrow i r) 0).val % 4, _⟩ : Fin 4) = g from Fin.ext (by show y.val % 4 = g.val; omega),
    show (⟨(ix2 y (qrow i r) 1).val % 2048, _⟩ : Fin 2048) = r from Fin.ext (by show (i.val * 2048 + r.val) % 2048 = r.val; omega)]

variable (m : (ℓ : Loc nD τ sig) → Buf (Elt Ideal) ℓ) (ρ : Dev nD → PrngReg)

abbrev winQ (c : Dev nD) (R : Fin 4096) (l : Fin 512) : EReal := V m c main_v4 (ix2 R l)
abbrev winK (c : Dev nD) (j : Fin 2) (s : Fin 4096) (x : Fin 128) : EReal := V m c main_v8 (ix3 j s x)
abbrev winW (c : Dev nD) (j : Fin 2) (s : Fin 4096) (x : Fin 128) : EReal := V m c main_v12 (ix3 j s x)

/-- The block of queries and the key/value head of grid point `t`. -/
def qb (t : Fin cfg0.N) : Fin 2 := ⟨t.val / 2, by have : t.val < 4 := t.isLt; omega⟩
def kh (t : Fin cfg0.N) : Fin 2 := ⟨t.val % 2, by omega⟩

theorem idx : ∀ t : Fin grid0.N, win0_0.index t = ![t.val / 2, t.val % 2] ∧ win0_1.index t = ![t.val % 2, 0, 0] ∧ win0_2.index t = ![t.val % 2, 0, 0]
    ∧ win0_3.index t = ![t.val / 2, t.val % 2] ∧ win0_4.index t = ![0, t.val / 2] := by decide +kernel

theorem blk0_at (c : Dev nD) (t : Fin cfg0.N) (r : Fin 2048) (l : Fin 256) :
    iblk m c 0 t (ix2 r l) = winQ m c (qrow (qb t) r) ⟨(kh t).val * 256 + l.val, by omega⟩ := by
  have h := idx t
  unfold winQ qrow qb kh
  blk_ext! [iblk, h.1]
theorem blk1_at (c : Dev nD) (t : Fin cfg0.N) (s : Fin 4096) (x : Fin 128) : iblk m c 1 t (ix3 0 s x) = winK m c (kh t) s x := by
  have h := idx t
  unfold winK kh
  blk_ext! [iblk, h.2.1]
theorem blk2_at (c : Dev nD) (t : Fin cfg0.N) (s : Fin 4096) (x : Fin 128) : iblk m c 2 t (ix3 0 s x) = winW m c (kh t) s x := by
  have h := idx t
  unfold winW kh
  blk_ext! [iblk, h.2.2.1]

theorem blk0 (c : Dev nD) (t : Fin cfg0.N) : iblk m c 0 t = bQ (winQ m c) (qb t) (kh t) := by
  funext y; idx_vars y; exact blk0_at m c t y0 y1
theorem blk1 (c : Dev nD) (t : Fin cfg0.N) : iblk m c 1 t = bK (winK m c) (kh t) := by
  funext y; idx_vars y; obtain rfl := Subsingleton.elim y0 0; exact blk1_at m c t y1 y2
theorem blk2 (c : Dev nD) (t : Fin cfg0.N) : iblk m c 2 t = bK (winW m c) (kh t) := by
  funext y; idx_vars y; obtain rfl := Subsingleton.elim y0 0; exact blk2_at m c t y1 y2

section
variable {m} {c : Dev nD} {after : (w : Fin cfg0.W) → Fin cfg0.N → (cfg0.win w).block.Idx → Elt Ideal (cfg0.win w).elt}
  (h : ∀ (w : Fin cfg0.W) (u : Fin cfg0.N), (cfg0.win w).flush u = true → (rd m c).Leaves w u (after w u))
include h

theorem final3 : ((rd m c).withAfter after).arrAt 3 cfg0.N = allO (winQ m c) (winK m c) (winW m c) := by
  refine Dat.arrAt_eq_of_covers _ 3 _ (by decide +kernel) fun t hf y => ?_
  have hi := idx t
  have hX : IsO m c t (after 3 t) := (dats m c).toRRel_leaves (fgt := marks) (Rl := Rl m c) (w := 3) rfl (h 3 t hf)
  blk_simp
  rw [Pipeline.RDat.withAfter_after]
  idx_vars y
  obtain ⟨p, x, rfl⟩ : ∃ p x, y1 = lane p x := ⟨⟨y1.val / 128, by omega⟩, ⟨y1.val % 128, Nat.mod_lt _ (by decide)⟩, Fin.ext (by show y1.val = 128 * (y1.val / 128) + y1.val % 128; omega)⟩
  refine (hX p y0 x).trans ?_
  rw [blk0, blk1, blk2, ← allO_at]
  refine congrArg _ (funext fun a => Fin.ext ?_)
  fin_cases a
  · show (qb t).val * 2048 + y0.val = (((View.whole main_v13_0).slice (win0_3.rect t)).emb (ix2 y0 (lane p x)) 0).val
    blk_simp [hi.2.2.2.1]; rfl
  · show (kh t).val * 256 + (128 * p.val + x.val) = (((View.whole main_v13_0).slice (win0_3.rect t)).emb (ix2 y0 (lane p x)) 1).val
    blk_simp [hi.2.2.2.1]; rfl

theorem final4 : ((rd m c).withAfter after).arrAt 4 cfg0.N = allE (winQ m c) (winK m c) := by
  refine Dat.arrAt_eq_of_covers _ 4 _ (by decide +kernel) fun t hf y => ?_
  have hi := idx t
  have hX : IsE m c t (after 4 t) := (dats m c).toRRel_leaves (fgt := marks) (Rl := Rl m c) (w := 4) rfl (h 4 t hf)
  have ht := (flush0_4 t).mp hf
  have hN : t.val < 4 := t.isLt
  blk_simp
  rw [Pipeline.RDat.withAfter_after]
  idx_vars y
  let u : Fin cfg0.N := ⟨2 * (t.val / 2) + y0.val / 4, by show _ < 4; omega⟩
  have eq : qb u = qb t := Fin.ext (by show (2 * (t.val / 2) + y0.val / 4) / 2 = t.val / 2; omega)
  have ek : (kh u).val = y0.val / 4 := by show (2 * (t.val / 2) + y0.val / 4) % 2 = y0.val / 4; omega
  refine (hX u (congrArg Fin.val eq) (by show 2 * (t.val / 2) + y0.val / 4 ≤ t.val; omega) ⟨y0.val % 4, by omega⟩ y0
    (by show y0.val = 4 * (kh u).val + y0.val % 4; omega) y1).trans ?_
  rw [blk0, blk1, eq, ← allE_at _ _ _ _ _ y0 (by show y0.val = 4 * (kh u).val + y0.val % 4; omega)]
  refine congrArg _ (funext fun a => Fin.ext ?_)
  fin_cases a
  · show y0.val = (((View.whole main_v13_1).slice (win0_4.rect t)).emb (ix2 y0 y1) 0).val
    blk_simp [hi.2.2.2.2]
  · show (qb t).val * 2048 + y1.val = (((View.whole main_v13_1).slice (win0_4.rect t)).emb (ix2 y0 y1) 1).val
    blk_simp [hi.2.2.2.2]; rfl
end

set_option backward.isDefEq.respectTransparency.types false in
/-- The kernel program's run, with the two arrays named. -/
theorem run_values : θ_run defs (onTc (τ := τ) (main (F := Ideal))) ⟨m, fun _ => 0, ρ⟩ fun r => ∀ c : Dev nD,
    r.2.mem ((c.tc : Thread nD τ).loc main_v13_0) = allO (winQ m c) (winK m c) (winW m c)
      ∧ r.2.mem ((c.tc : Thread nD τ).loc main_v13_1) = allE (winQ m c) (winK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_main_quiescent m ρ)
  obtain ⟨after, hl, ha⟩ := Pipeline.RDat.FramePost.exists_exact h.1 c
  exact ⟨(ha 3).trans (final3 hl), (ha 4).trans (final4 hl), args_of m h.1 c⟩

abbrev argQ (c : Dev nD) (s : Fin 4096) (g : Fin 8) (d : Fin 64) : EReal := m ((c : Thread nD τ).loc main_arg0) (ix4 0 s g d)
abbrev argK (c : Dev nD) (s : Fin 4096) (j : Fin 2) (d : Fin 64) : EReal := m ((c : Thread nD τ).loc main_arg1) (ix4 0 s j d)
abbrev argV (c : Dev nD) (s : Fin 4096) (j : Fin 2) (d : Fin 64) : EReal := m ((c : Thread nD τ).loc main_arg2) (ix4 0 s j d)

/-- Lane `d` of head `e` of a pair. -/
def lane2 (e : Fin 2) (d : Fin 64) : Fin 128 := ⟨64 * e.val + d.val, by omega⟩

/-- Query head `h` of key/value head `j`. -/
def head (j : Fin 2) (h : Fin 4) : Fin 8 := ⟨4 * j.val + h.val, by omega⟩

/-- The logarithm of the constant two. -/
def ln2 : EReal := Ideal.log (Ideal.ofBits .f32 1073741824#32)

theorem winQ_eq (c : Dev nD) (R : Fin 4096) (j p e : Fin 2) (d : Fin 64) :
    winQ m c R (col j p (lane2 e d)) = Ideal.div (argQ m c R (head j (hg p e)) d) ln2 := by
  show StableHlo.after (hostOps0 (F := Ideal)) (fun b => m (c, b)) (Proc.devRef .tc main_v4) (ix2 R (col j p (lane2 e d))) = _
  unfold hostOps0
  after_results
  pointwise
  refine congrArg₂ Ideal.div (congrArg _ (congrArg₂ (ix4 0 R) (Fin.ext ?_) (Fin.ext ?_))) rfl
  · show (j.val * 256 + (128 * p.val + (64 * e.val + d.val))) / 64 = 4 * j.val + (2 * p.val + e.val)
    omega
  · show (j.val * 256 + (128 * p.val + (64 * e.val + d.val))) % 64 = d.val
    omega

theorem winK_eq (c : Dev nD) (j : Fin 2) (s : Fin 4096) (e : Fin 2) (d : Fin 64) : winK m c j s (lane2 e d) = argK m c s j d := by
  show StableHlo.after (hostOps0 (F := Ideal)) (fun b => m (c, b)) (Proc.devRef .tc main_v8) (ix3 j s (lane2 e d)) = _
  unfold hostOps0
  after_results
  pointwise
  have h : (lane2 e d).val = 64 * e.val + d.val := rfl
  split
  · exact congrArg _ (congrArg (ix4 0 s j) (Fin.ext (by show (lane2 e d).val = d.val; omega)))
  · exact congrArg _ (congrArg (ix4 0 s j) (Fin.ext (by show (lane2 e d).val - 64 = d.val; omega)))

theorem winW_eq (c : Dev nD) (j : Fin 2) (s : Fin 4096) (e : Fin 2) (d : Fin 64) : winW m c j s (lane2 e d) = argV m c s j d := by
  show StableHlo.after (hostOps0 (F := Ideal)) (fun b => m (c, b)) (Proc.devRef .tc main_v12) (ix3 j s (lane2 e d)) = _
  unfold hostOps0
  after_results
  pointwise
  have h : (lane2 e d).val = 64 * e.val + d.val := rfl
  split
  · exact congrArg _ (congrArg (ix4 0 s j) (Fin.ext (by show (lane2 e d).val = d.val; omega)))
  · exact congrArg _ (congrArg (ix4 0 s j) (Fin.ext (by show (lane2 e d).val - 64 = d.val; omega)))

end Cert.AttnFwdIdeal.Hand

end
-- ==== Proof.AttnFwd.Reference.lean ====
/- The two arrays of the reference of the attention, read at an index. -/
module

public import proofs.«01_k».proof.Proof.Gen.AttnFwdRefIdeal.Read
public import Idealize.ShloMosaic.Lib.Pointwise

@[expose] public section

set_option maxRecDepth 16384

noncomputable section

namespace Cert.AttnFwdRefIdeal.Hand

open Cert.AttnFwdRefIdeal Cert.AttnFwdRefIdeal.Gen Cert.AttnFwdRefIdeal.Read Idealize.ShloMosaic Idealize.ShloMosaic.TcCoe Idealize.SL.Sem

variable (x0 : S1x4096x8x64.Idx → EReal) (x1 x2 : S1x4096x2x64.Idx → EReal)

abbrev cQ (R : Fin 4096) (g : Fin 8) (d : Fin 64) : EReal := x0 (ix4 0 R g d)
abbrev cK (s : Fin 4096) (j : Fin 2) (d : Fin 64) : EReal := x1 (ix4 0 s j d)

/-- Query head `h` of key/value head `j`. -/
def qhead (j : Fin 2) (h : Fin 4) : Fin 8 := ⟨4 * j.val + h.val, by omega⟩

variable (q : Fin 4096 → Fin 8 → Fin 64 → EReal) (k v : Fin 4096 → Fin 2 → Fin 64 → EReal)

/-- The score of key `s` at query `R`. -/
def score (j : Fin 2) (h : Fin 4) (R s : Fin 4096) : EReal := ∑ d, k s j d * q R (qhead j h) d

/-- A query's greatest score. -/
def top (j : Fin 2) (h : Fin 4) (R : Fin 4096) : EReal :=
  max (Ideal.ofBits .f32 0xFF800000#32) (Finset.univ.fold max (Ideal.ofBits .f32 0xFF800000#32) fun s => score q k j h R s)

/-- The exponential of a score less the greatest, and a query's sum of them. -/
def ee (j : Fin 2) (h : Fin 4) (R s : Fin 4096) : EReal := Ideal.exp (score q k j h R s - top q k j h R)
def zz (j : Fin 2) (h : Fin 4) (R : Fin 4096) : EReal := ∑ s, ee q k j h R s

/-- The output, and the logarithm in base two of a query's sum of exponentials. -/
def out (j : Fin 2) (h : Fin 4) (R : Fin 4096) (d : Fin 64) : EReal := ∑ s, v s j d * Ideal.div (ee q k j h R s) (zz q k j h R)
def lse (j : Fin 2) (h : Fin 4) (R : Fin 4096) : EReal :=
  Ideal.div (Ideal.log (∑ s, Ideal.exp (score q k j h R s))) (Ideal.log (Ideal.ofBits .f32 1073741824#32))

theorem v2 (j : Fin 2) (h : Fin 4) (R s : Fin 4096) : val_main_v2 (F := Ideal) x0 x1 (ix5 0 j h R s) = score (cQ x0) (cK x1) j h R s := by
  pointwise [val_main_v2, val_main_v1, val_main_v0]
  unfold score
  refine Finset.sum_congr (M := EReal) rfl fun d _ => congrArg₂ (fun x y : EReal => x * y) rfl (congrArg _ (congrArg₂ (ix4 0 R) (Fin.ext ?_) (Fin.ext ?_)))
  · show j.val * 4 + h.val = 4 * j.val + h.val
    omega
  · rfl
theorem max_keys (y : FVec Ideal S1x2x4x4096x4096 .f32) (z : FVec Ideal S_ .f32) (j : Fin 2) (h : Fin 4) (R : Fin 4096) :
    Host.reduce FloatOps.maximumf y z reducesTo_S1x2x4x4096x4096_S1x2x4x4096_d4 h_S_ (ix4 0 j h R)
      = Finset.univ.fold max (z ix0 : EReal) fun s => (y (ix5 0 j h R s) : EReal) := by
  pointwise
  exact congrArg (fun i => Finset.univ.fold max (z i : EReal) fun s => (y (ix5 0 j h R s) : EReal)) (funext fun a => a.elim0)
theorem top_keys (w y : FVec Ideal S1x2x4x4096 .f32) (i : S1x2x4x4096.Idx) :
    maximumf w y i = max (w i : EReal) (y i : EReal) := rfl
theorem v5 (j : Fin 2) (h : Fin 4) (R : Fin 4096) : val_main_v5 (F := Ideal) x0 x1 (ix4 0 j h R) = top (cQ x0) (cK x1) j h R := by
  have e : val_main_v3 (F := Ideal) x0 x1 (ix4 0 j h R) = Finset.univ.fold max (Ideal.ofBits .f32 0xFF800000#32) fun s => score (cQ x0) (cK x1) j h R s :=
    (max_keys _ _ j h R).trans (congrArg (fun f : Fin 4096 → EReal => Finset.univ.fold max (Ideal.ofBits .f32 0xFF800000#32) f) (funext fun s => v2 x0 x1 j h R s))
  refine (top_keys (val_main_v4 (F := Ideal)) (val_main_v3 (F := Ideal) x0 x1) (ix4 0 j h R)).trans ?_
  exact congrArg₂ (fun x y : EReal => max x y) (by pointwise [val_main_v4, val_main_cst_0]) e
theorem v9 (j : Fin 2) (h : Fin 4) (R s : Fin 4096) : val_main_v9 (F := Ideal) x0 x1 (ix5 0 j h R s) = ee (cQ x0) (cK x1) j h R s := by
  pointwise [val_main_v9, val_main_v8, val_main_v7, val_main_v6, v5, v2]
  rfl
theorem v10 (j : Fin 2) (h : Fin 4) (R : Fin 4096) : val_main_v10 (F := Ideal) x0 x1 (ix4 0 j h R) = zz (cQ x0) (cK x1) j h R := by
  pointwise [val_main_v10, val_main_cst_1, v9]
  rfl
theorem v13 (j : Fin 2) (h : Fin 4) (R s : Fin 4096) :
    val_main_v13 (F := Ideal) x0 x1 (ix5 0 j h R s) = Ideal.div (ee (cQ x0) (cK x1) j h R s) (zz (cQ x0) (cK x1) j h R) := by
  pointwise [val_main_v13, val_main_v12, val_main_v11, v10, v9]
theorem v14 (j : Fin 2) (d : Fin 64) (h : Fin 4) (R : Fin 4096) :
    val_main_v14 (F := Ideal) x0 x1 x2 (ix5 0 j d h R) = out (cQ x0) (cK x1) (cK x2) j h R d := by
  pointwise [val_main_v14, v13]
  rfl
theorem v23 (j : Fin 2) (h : Fin 4) (R : Fin 4096) (d : Fin 64) :
    val_main_v23 (F := Ideal) x0 x1 x2 (ix2 R ⟨64 * (qhead j h).val + d.val, by omega⟩) = out (cQ x0) (cK x1) (cK x2) j h R d := by
  have e : val_main_v23 (F := Ideal) x0 x1 x2 (ix2 R ⟨64 * (qhead j h).val + d.val, by omega⟩) = val_main_v15 (F := Ideal) x0 x1 x2 (ix5 0 R j h d) := by
    unfold val_main_v23 val_main_v16
    generalize val_main_v15 (F := Ideal) x0 x1 x2 = Y
    pointwise []
    refine congrArg Y ?_
    have l : (qhead j h).val = 4 * j.val + h.val := rfl
    funext a
    refine Fin.ext ?_
    fin_cases a <;> simp [ix5] <;> omega
  rw [e]
  pointwise [val_main_v15, v14]
theorem v22 (j : Fin 2) (h : Fin 4) (R : Fin 4096) : val_main_v22 (F := Ideal) x0 x1 (ix4 0 j h R) = lse (cQ x0) (cK x1) j h R := by
  pointwise [val_main_v22, val_main_v21, val_main_v20, val_main_cst_3, val_main_v19, val_main_v18, val_main_cst_2, val_main_v17, v2]
  rfl
theorem v24 (j : Fin 2) (h : Fin 4) (R : Fin 4096) : val_main_v24 (F := Ideal) x0 x1 (ix2 (qhead j h) R) = lse (cQ x0) (cK x1) j h R := by
  have e : val_main_v24 (F := Ideal) x0 x1 (ix2 (qhead j h) R) = val_main_v22 (F := Ideal) x0 x1 (ix4 0 j h R) := by
    unfold val_main_v24
    generalize val_main_v22 (F := Ideal) x0 x1 = Y
    pointwise []
    refine congrArg Y ?_
    have l : (qhead j h).val = 4 * j.val + h.val := rfl
    funext a
    refine Fin.ext ?_
    fin_cases a <;> simp [ix4] <;> omega
  rw [e, v22]

end Cert.AttnFwdRefIdeal.Hand

end
-- ==== Proof.AttnFwd.Equation.lean ====
/- For finite inputs the kernel's attention is the reference's: the kernel goes over the keys block by block in base two, shrinking
   its sums whenever the maximum grows; the reference takes the quotient of exponentials of all the keys. -/
module

public import proofs.«01_k».proof.Proof.AttnFwd.Kernel
public import proofs.«01_k».proof.Proof.AttnFwd.Reference
public import proofs.«01_k».proof.Proof.Reals

@[expose] public section

noncomputable section

namespace Cert.AttnFwdEquation

open Idealize.ShloMosaic Cert.Reals
open Cert.AttnFwdIdeal.Hand
open Cert.AttnFwdRefIdeal.Hand (qhead score top ee zz out lse)

theorem ln2_real : ln2 = ((Real.log 2 : ℝ) : EReal) := by
  have h : Ideal.ofBits .f32 1073741824#32 = ((2 : ℝ) : EReal) := by
    simp [Ideal.ofBits, Ideal.ieee, -EReal.coe_mul]; norm_num
  unfold ln2
  rw [h, Ideal.log_coe, if_neg (by norm_num)]

theorem log2_pos : (0 : ℝ) < Real.log 2 := Real.log_pos (by norm_num)

theorem bits_ninf : Ideal.ofBits FTy.f32 4286578688#32 = ⊥ := by
  simp [Ideal.ofBits, Ideal.ieee]

/-- The greatest of finitely many reals, folded from `⊥`, is a real. -/
theorem max_real {ι : Type} [Fintype ι] [Nonempty ι] (f : ι → ℝ) :
    ∃ M : ℝ, Finset.univ.fold max (⊥ : EReal) (fun i => (f i : EReal)) = M := by
  classical
  suffices key : ∀ s : Finset ι, s.Nonempty → ∃ M : ℝ, s.fold max (⊥ : EReal) (fun i => (f i : EReal)) = M from key _ Finset.univ_nonempty
  intro s hs
  induction hs using Finset.Nonempty.cons_induction with
  | singleton a => exact ⟨f a, by simp⟩
  | cons a s ha hs ih =>
    obtain ⟨M, hM⟩ := ih
    exact ⟨max (f a) M, by rw [Finset.fold_cons, hM]; exact EReal.coe_strictMono.monotone.map_max.symm⟩

/-- A power of two of a real, by the exponential. -/
def pow2 (x : ℝ) : ℝ := Real.exp (x * Real.log 2)

theorem exp2_real (x : ℝ) : Ideal.exp2 (x : EReal) = ((pow2 x : ℝ) : EReal) := by
  rw [Ideal.exp2_coe, Real.rpow_eq_pow, Real.rpow_def_of_pos (by norm_num), mul_comm]
  rfl

theorem pow2_sub (x y : ℝ) : pow2 (x - y) = pow2 x * pow2 (-y) := by
  unfold pow2
  rw [← Real.exp_add]
  congr 1
  ring

section
variable (A W : ℕ → Fin 1024 → ℝ) (m T : ℕ → EReal) (hm0 : m 0 = ⊥) (hm : ∀ n, m (n + 1) = mN (m n) fun s => (A n s : EReal))
  (hT0 : T 0 = 0) (hT : ∀ n, T (n + 1) = Ideal.exp2 (m n - m (n + 1)) * T n + ∑ s, Ideal.exp2 ((A n s : EReal) - m (n + 1)) * (W n s : EReal))

include hm0 hm in
theorem max_step (n : ℕ) : ∃ M : ℝ, m (n + 1) = M := by
  induction n with
  | zero =>
    obtain ⟨B, hB⟩ := max_real (A 0)
    exact ⟨B, by rw [hm, hm0, mN, bits_ninf, hB]; exact max_eq_right bot_le⟩
  | succ n ih =>
    obtain ⟨M, hM⟩ := ih
    obtain ⟨B, hB⟩ := max_real (A (n + 1))
    exact ⟨max M B, by rw [hm, hM, mN, bits_ninf, hB]; exact EReal.coe_strictMono.monotone.map_max.symm⟩

theorem block_sum (n : ℕ) (M : ℝ) : ∑ s, Ideal.exp2 ((A n s : EReal) - (M : EReal)) * (W n s : EReal)
    = (((∑ s, pow2 (A n s) * W n s) * pow2 (-M) : ℝ) : EReal) := by
  simp only [← coe_sub, exp2_real, ← EReal.coe_mul, ← coe_sum]
  refine congrArg (fun r : ℝ => (r : EReal)) ?_
  rw [Finset.sum_mul]
  exact Finset.sum_congr rfl fun s _ => by rw [pow2_sub]; ring

include hm0 hm hT0 hT in
/-- What the running sum holds after any block: the whole sum so far against the maximum so far. -/
theorem sum_step (n : ℕ) (M : ℝ) (hM : m (n + 1) = M) :
    T (n + 1) = (((∑ b ∈ Finset.range (n + 1), ∑ s, pow2 (A b s) * W b s) * pow2 (-M) : ℝ) : EReal) := by
  induction n generalizing M with
  | zero =>
    rw [hT, hM, hT0, mul_zero, zero_add, block_sum, Finset.sum_range_one]
  | succ n ih =>
    obtain ⟨L, hL⟩ := max_step A m hm0 hm n
    rw [hT, hM, ih L hL, hL, block_sum, ← coe_sub, exp2_real, ← EReal.coe_mul, ← EReal.coe_add]
    refine congrArg (fun r : ℝ => (r : EReal)) ?_
    rw [Finset.sum_range_succ _ (n + 1), add_mul]
    refine congrArg (· + _) ?_
    have e : pow2 (L - M) * pow2 (-L) = pow2 (-M) := by
      unfold pow2
      rw [← Real.exp_add]
      congr 1
      ring
    rw [← e]
    ring
end

variable (q : Fin 4096 → Fin 8 → Fin 64 → ℝ) (k v : Fin 4096 → Fin 2 → Fin 64 → ℝ)

/-- The score, a query's sum of exponentials, the output, over the reals. -/
def rs (j : Fin 2) (h : Fin 4) (R s : Fin 4096) : ℝ := ∑ d, k s j d * q R (head j h) d
def rz (j : Fin 2) (h : Fin 4) (R : Fin 4096) : ℝ := ∑ s, Real.exp (rs q k j h R s)
def rn (j : Fin 2) (h : Fin 4) (R : Fin 4096) (d : Fin 64) : ℝ := ∑ s, Real.exp (rs q k j h R s) * v s j d

theorem rz_pos (j : Fin 2) (h : Fin 4) (R : Fin 4096) : 0 < rz q k j h R :=
  Finset.sum_pos (fun s _ => Real.exp_pos _) Finset.univ_nonempty

abbrev up2 {α β γ : Type} (f : α → β → γ → ℝ) : α → β → γ → EReal := fun a b c => (f a b c : EReal)

theorem score_real (j : Fin 2) (h : Fin 4) (R s : Fin 4096) : score (up2 q) (up2 k) j h R s = ((rs q k j h R s : ℝ) : EReal) := by
  unfold score
  simp only [up2, ← EReal.coe_mul, ← coe_sum]
  rfl

/-- The reference's quotient of exponentials. -/
theorem ref_ee (j : Fin 2) (h : Fin 4) (R : Fin 4096) : ∃ M : ℝ,
    (∀ s, ee (up2 q) (up2 k) j h R s = ((Real.exp (rs q k j h R s) * Real.exp (-M) : ℝ) : EReal))
    ∧ zz (up2 q) (up2 k) j h R = ((rz q k j h R * Real.exp (-M) : ℝ) : EReal) := by
  obtain ⟨M, hM⟩ := max_real fun s => rs q k j h R s
  have ht : top (up2 q) (up2 k) j h R = (M : EReal) := by
    unfold top
    rw [bits_ninf, ← hM]
    simp only [score_real]
    exact max_eq_right bot_le
  have he s : ee (up2 q) (up2 k) j h R s = ((Real.exp (rs q k j h R s) * Real.exp (-M) : ℝ) : EReal) := by
    unfold ee
    rw [ht, score_real, ← coe_sub, Ideal.exp_coe, ← Real.exp_add, sub_eq_add_neg]
  refine ⟨M, he, ?_⟩
  unfold zz
  simp only [he, ← coe_sum]
  unfold rz
  rw [Finset.sum_mul]

theorem ref_out (j : Fin 2) (h : Fin 4) (R : Fin 4096) (d : Fin 64) :
    out (up2 q) (up2 k) (up2 v) j h R d = ((rn q k v j h R d / rz q k j h R : ℝ) : EReal) := by
  obtain ⟨M, he, hz⟩ := ref_ee q k j h R
  have hp : 0 < rz q k j h R * Real.exp (-M) := mul_pos (rz_pos q k j h R) (Real.exp_pos _)
  unfold out
  simp only [he, hz, up2, div_real _ hp.ne', ← EReal.coe_mul, ← coe_sum]
  refine congrArg (fun r : ℝ => (r : EReal)) ?_
  unfold rn
  rw [Finset.sum_div]
  refine Finset.sum_congr rfl fun s _ => ?_
  rw [mul_div_mul_right _ _ (Real.exp_pos _).ne']
  ring

theorem ref_lse (j : Fin 2) (h : Fin 4) (R : Fin 4096) :
    lse (up2 q) (up2 k) j h R = ((Real.log (rz q k j h R) / Real.log 2 : ℝ) : EReal) := by
  unfold lse
  rw [show Ideal.log (Ideal.ofBits .f32 1073741824#32) = _ from ln2_real]
  simp only [score_real, Ideal.exp_coe, ← coe_sum]
  show Ideal.div (Ideal.log ((rz q k j h R : ℝ) : EReal)) _ = _
  rw [Ideal.log_coe, if_neg (not_le.2 (rz_pos q k j h R)), div_real _ log2_pos.ne']

/-- A sum over the 128 lanes that keeps one half of them. -/
theorem sum_half (e : Fin 2) (f : Fin 128 → EReal) : ∑ x, half e x (f x) = ∑ d, f (lane2 e d) := by
  rw [Fin.sum_univ_add (a := 64) (b := 64) fun x : Fin 128 => half e x (f x)]
  have h0 (d : Fin 64) : (Fin.castAdd 64 d : Fin 128) = lane2 0 d := Fin.ext (by simp [lane2])
  have h1 (d : Fin 64) : (Fin.natAdd 64 d : Fin 128) = lane2 1 d := rfl
  have l0 (d : Fin 64) : (lane2 0 d).val < 64 := by simp [lane2]
  have l1 (d : Fin 64) : ¬ (lane2 1 d).val < 64 := by simp [lane2]
  simp only [h0, h1]
  fin_cases e
  · simp [half, l0, l1]
  · simp [half, l0, l1]

variable (Q : Fin 4096 → Fin 512 → EReal) (K W : Fin 2 → Fin 4096 → Fin 128 → EReal)

/-- The kernel's arrays are the ones the host makes of real arguments. -/
structure Holds : Prop where
  hQ : ∀ R j p e d, Q R (col j p (lane2 e d)) = Ideal.div (up2 q R (head j (hg p e)) d) ln2
  hK : ∀ j s e d, K j s (lane2 e d) = up2 k s j d
  hW : ∀ j s e d, W j s (lane2 e d) = up2 v s j d

variable {q k v Q K W} (H : Holds q k v Q K W)
include H

theorem sc_real (i j : Fin 2) (g : Fin 4) (r : Fin 2048) (s : Fin 4096) :
    sc (bQ Q i j) (bK K j) g r s = ((rs q k j g (qrow i r) s / Real.log 2 : ℝ) : EReal) := by
  have hg' : hg (pr g) (hd g) = g := Fin.ext (by show 2 * (g.val / 2) + g.val % 2 = g.val; omega)
  have key : sc (bQ Q i j) (bK K j) g r s = ∑ d, Q (qrow i r) (col j (pr g) (lane2 (hd g) d)) * K j s (lane2 (hd g) d) :=
    sum_half (hd g) fun x => Q (qrow i r) (col j (pr g) x) * K j s x
  rw [key]
  simp only [H.hQ, H.hK, hg', up2, ln2_real, div_real _ log2_pos.ne', ← EReal.coe_mul, ← coe_sum]
  refine congrArg (fun r : ℝ => (r : EReal)) ?_
  unfold rs
  rw [Finset.sum_div]
  exact Finset.sum_congr rfl fun d _ => by ring

omit H in
theorem sum_keys (f : Fin 4096 → ℝ) : ∑ b ∈ Finset.range 4, ∑ s, f (keyN b s) = ∑ s, f s := by
  rw [Finset.sum_range, ← Fin.sum_mul_add_fin (S := 4) (n := 1024) f (by decide +kernel)]
  exact Finset.sum_congr rfl fun b _ => Finset.sum_congr rfl fun s _ => congrArg f (Fin.ext (by
    show (1024 * b.val + s.val) % 4096 = b.val * 1024 + s.val
    have := b.isLt
    have := s.isLt
    omega))

omit H in
theorem pow2_score (x : ℝ) : pow2 (x / Real.log 2) = Real.exp x := by
  unfold pow2
  rw [div_mul_cancel₀ _ log2_pos.ne']

/-- After the four blocks: the maximum, a real; the sum; the weighted sum. -/
theorem top_real (i j : Fin 2) (g : Fin 4) (r : Fin 2048) : ∃ M : ℝ, mx (bQ Q i j) (bK K j) g r 4 = M :=
  max_step (fun n s => rs q k j g (qrow i r) (keyN n s) / Real.log 2) (mx (bQ Q i j) (bK K j) g r) bits_ninf
    (fun n => by show mN _ _ = _; simp only [sc_real H]) 3

theorem sum_real (i j : Fin 2) (g : Fin 4) (r : Fin 2048) (M : ℝ) (hM : mx (bQ Q i j) (bK K j) g r 4 = M) :
    ls (bQ Q i j) (bK K j) g r 4 = ((rz q k j g (qrow i r) * pow2 (-M) : ℝ) : EReal) := by
  refine (sum_step (fun n s => rs q k j g (qrow i r) (keyN n s) / Real.log 2) (fun _ _ => 1) (mx (bQ Q i j) (bK K j) g r)
    (ls (bQ Q i j) (bK K j) g r) bits_ninf (fun n => by show mN _ _ = _; simp only [sc_real H]) rfl (fun n => ?_) 3 M hM).trans ?_
  · show fb _ _ g r n * _ + ∑ s, pb _ _ g r n s = _
    refine congrArg₂ (· + ·) rfl (Finset.sum_congr rfl fun s _ => ?_)
    rw [EReal.coe_one, mul_one, ← sc_real H]
    rfl
  · refine congrArg (fun r : ℝ => ((r * pow2 (-M) : ℝ) : EReal)) ?_
    simp only [pow2_score, mul_one]
    exact sum_keys fun s => Real.exp (rs q k j g (qrow i r) s)

theorem weighted_real (i j p e : Fin 2) (r : Fin 2048) (d : Fin 64) (M : ℝ) (hM : mx (bQ Q i j) (bK K j) (hg p e) r 4 = M) :
    ac (bQ Q i j) (bK K j) (bK W j) p r (lane2 e d) 4 = ((rn q k v j (hg p e) (qrow i r) d * pow2 (-M) : ℝ) : EReal) := by
  refine (sum_step (fun n s => rs q k j (hg p e) (qrow i r) (keyN n s) / Real.log 2) (fun n s => v (keyN n s) j d) (mx (bQ Q i j) (bK K j) (hg p e) r)
    (ac (bQ Q i j) (bK K j) (bK W j) p r (lane2 e d)) bits_ninf (fun n => by show mN _ _ = _; simp only [sc_real H]) rfl (fun n => ?_) 3 M hM).trans ?_
  · have hw s : ((v (keyN n s) j d : ℝ) : EReal) = bK W j (ix3 0 (keyN n s) (lane2 e d)) := (H.hW j (keyN n s) e d).symm
    have hs s : Ideal.exp2 (((rs q k j (hg p e) (qrow i r) (keyN n s) / Real.log 2 : ℝ) : EReal) - mx (bQ Q i j) (bK K j) (hg p e) r (n + 1))
        = pb (bQ Q i j) (bK K j) (hg p e) r n s := by rw [← sc_real H]; rfl
    simp only [hw, hs]
    rw [mul_comm]
    show _ * (if _ then _ else _) + _ = _ * fb _ _ _ _ _ + _
    refine congrArg₂ (· + ·) (congrArg (_ * ·) ?_) ?_
    · fin_cases e
      · exact if_pos (by simp [lane2])
      · exact if_neg (by simp [lane2])
    · fin_cases e
      · simp [half, lane2]
      · simp [half, lane2]
  · refine congrArg (fun r : ℝ => ((r * pow2 (-M) : ℝ) : EReal)) ?_
    simp only [pow2_score]
    exact sum_keys fun s => Real.exp (rs q k j (hg p e) (qrow i r) s) * v s j d

/-- The kernel's output and log-sum are the reference's. -/
theorem out_eq (i j p e : Fin 2) (r : Fin 2048) (d : Fin 64) :
    oS (bQ Q i j) (bK K j) (bK W j) p r (lane2 e d) = out (up2 q) (up2 k) (up2 v) j (hg p e) (qrow i r) d := by
  obtain ⟨M, hM⟩ := top_real H i j (hg p e) r
  have h2 : 0 < pow2 (-M) := Real.exp_pos _
  have hl : (if (lane2 e d).val < 64 then ls (bQ Q i j) (bK K j) (hg p 0) r 4 else ls (bQ Q i j) (bK K j) (hg p 1) r 4)
      = ls (bQ Q i j) (bK K j) (hg p e) r 4 := by
    fin_cases e
    · exact if_pos (by simp [lane2])
    · exact if_neg (by simp [lane2])
  unfold oS
  rw [hl, sum_real H i j _ r M hM, weighted_real H i j p e r d M hM, div_real _ (mul_pos (rz_pos q k j _ _) h2).ne', ref_out,
    mul_div_mul_right _ _ h2.ne']

theorem lse_eq (i j : Fin 2) (g : Fin 4) (r : Fin 2048) : eS (bQ Q i j) (bK K j) g r = lse (up2 q) (up2 k) j g (qrow i r) := by
  obtain ⟨M, hM⟩ := top_real H i j g r
  have hz := rz_pos q k j g (qrow i r)
  have h2 : 0 < pow2 (-M) := Real.exp_pos _
  unfold eS
  rw [hM, sum_real H i j g r M hM, Ideal.log_coe, if_neg (not_le.2 (mul_pos hz h2)), ← EReal.coe_mul, ← EReal.coe_add, ref_lse]
  refine congrArg (fun r : ℝ => (r : EReal)) ?_
  rw [Real.log_mul hz.ne' h2.ne', show Real.log (pow2 (-M)) = -M * Real.log 2 from Real.log_exp _]
  have := log2_pos.ne'
  field_simp
  ring

end Cert.AttnFwdEquation

end
-- ==== Proof.AttnFwd.Claims.lean ====
/- The claims about the attention: the kernel's run and the reference's run end with the same two arrays. -/
module

public import proofs.«01_k».proof.Defs
public import proofs.«01_k».proof.Proof.Gen.Pre_finite6
public import proofs.«01_k».proof.Proof.AttnFwd.Equation

@[expose] public section

set_option maxRecDepth 16384

noncomputable section

namespace Cert.AttnFwdClaims

open Idealize.ShloMosaic Idealize.ShloMosaic.TcCoe Idealize.SL.Sem
open Cert.AttnFwdIdeal.Hand Cert.AttnFwdEquation
open Cert.AttnFwdRefIdeal.Hand (out lse)

/-- What the precondition says: every element is a real. -/
theorem reals {a0 : FVec Ideal Cert.Pre_finite6.S1x4096x8x64 .f32} {a1 a2 : FVec Ideal Cert.Pre_finite6.S1x4096x2x64 .f32}
    (h : Cert.Pre_finite6.fn (F := Ideal) a0 a1 a2 = fun _ => 1#1) :
    (∀ i, ∃ r : ℝ, a0 i = r) ∧ (∀ i, ∃ r : ℝ, a1 i = r) ∧ (∀ i, ∃ r : ℝ, a2 i = r) := by
  have : Subsingleton Cert.Pre_finite6.S_.Idx := ⟨fun a b => funext fun i => i.elim0⟩
  have h := congrFun h ix0
  unfold Cert.Pre_finite6.fn at h
  dsimp only at h
  simp only [show ∀ (a b : IVec Cert.Pre_finite6.S_ 1) i, andi a b i = IntOp.andi (a i) (b i) from fun _ _ _ => rfl, IntOp.andi_eq_one] at h
  obtain ⟨⟨h0, h1⟩, h2⟩ := h
  exact ⟨Reals.real_of_all _ _ _ _ _ _ h0, Reals.real_of_all _ _ _ _ _ _ h1, Reals.real_of_all _ _ _ _ _ _ h2⟩

/-- The reference runs, leaves its arguments unchanged, and declares no semaphore. -/
theorem frameRef : Cert.quiescent_AttnFwdRefIdeal := fun m ρ _ =>
  (θ_run Cert.AttnFwdRefIdeal.defs _ _).mono
    (fun r h => ⟨fun c => (h c).2.2, Idealize.ShloMosaic.sem_eq_zero_of_no_sems (by decide) r.2⟩)
    (Cert.AttnFwdRefIdeal.Value.run m ρ)

section
open Cert.AttnFwdIdeal Cert.AttnFwdIdeal.Gen
variable (m : (ℓ : Loc nD τ sig) → Buf (Elt Ideal) ℓ)

/-- Real arguments, and the kernel's arrays made of them. -/
theorem holds (c : Dev nD) (h : Pre_AttnFwdIdeal_finite6 m) : ∃ (q : Fin 4096 → Fin 8 → Fin 64 → ℝ) (k v : Fin 4096 → Fin 2 → Fin 64 → ℝ),
    argQ m c = up2 q ∧ argK m c = up2 k ∧ argV m c = up2 v ∧ Holds q k v (winQ m c) (winK m c) (winW m c) := by
  obtain ⟨h0, h1, h2⟩ := reals (h c)
  choose a0 h0 using h0
  choose a1 h1 using h1
  choose a2 h2 using h2
  have eq : argQ m c = up2 fun R g d => a0 (ix4 0 R g d) := by funext R g d; exact h0 _
  have ek : argK m c = up2 fun R g d => a1 (ix4 0 R g d) := by funext R g d; exact h1 _
  have ev : argV m c = up2 fun R g d => a2 (ix4 0 R g d) := by funext R g d; exact h2 _
  refine ⟨_, _, _, eq, ek, ev, fun R j p e d => ?_, fun j s e d => ?_, fun j s e d => ?_⟩
  · rw [← eq]; exact winQ_eq m c R j p e d
  · rw [← ek]; exact winK_eq m c j s e d
  · rw [← ev]; exact winW_eq m c j s e d

end

/-- A row of the queries by its block, a column of the packed heads by its head, pair, half and lane, a row of the log-sums. -/
theorem rows (R : Fin 4096) : ∃ (i : Fin 2) (r : Fin 2048), R = qrow i r :=
  ⟨⟨R.val / 2048, by omega⟩, ⟨R.val % 2048, by omega⟩, Fin.ext (by simp only [qrow]; omega)⟩
theorem columns (l : Fin 512) : ∃ (j p e : Fin 2) (d : Fin 64), l = ⟨64 * (head j (hg p e)).val + d.val, by omega⟩ ∧ l = col j p (lane2 e d) := by
  refine ⟨⟨l.val / 256, by omega⟩, ⟨l.val / 128 % 2, by omega⟩, ⟨l.val / 64 % 2, by omega⟩, ⟨l.val % 64, by omega⟩, Fin.ext ?_, Fin.ext ?_⟩
  · simp only [head, hg]; omega
  · simp only [col, lane2]; omega
theorem heads (y : Fin 8) : ∃ (j : Fin 2) (g : Fin 4), y = head j g :=
  ⟨⟨y.val / 4, by omega⟩, ⟨y.val % 4, by omega⟩, Fin.ext (by simp only [head]; omega)⟩

theorem value : Cert.algebraic_AttnFwdIdeal_AttnFwdRefIdeal_pre_finite6 := by
  intro m g m' g' hpre hargs
  refine ⟨fun c => allO (winQ m c) (winK m c) (winW m c), fun c => allE (winQ m c) (winK m c), run_values m g, ?_⟩
  refine (θ_run _ _ _).mono (fun r h c => ?_) (Cert.AttnFwdRefIdeal.Value.run m' g')
  obtain ⟨h0, h1, ha⟩ := h c
  obtain ⟨e0, e1, e2⟩ := hargs c
  obtain ⟨q, k, v, eq, ek, ev, H⟩ := holds m c hpre
  refine ⟨h0.trans ?_, h1.trans ?_, ha⟩
  · refine (Cert.AttnFwdRefIdeal.Read.val_main_v23_eq _ _ _).trans ?_
    rw [e0, e1, e2]
    funext i
    idx_vars i
    obtain ⟨b, r, hr⟩ := rows i0
    obtain ⟨j, p, e, d, hl, hl'⟩ := columns i1
    refine Eq.trans ?_ (congrArg₂ (fun x y => allO (winQ m c) (winK m c) (winW m c) (ix2 x y)) hr hl').symm
    rw [allO_at, out_eq H, ← eq, ← ek, ← ev, ← hr, hl]
    exact Cert.AttnFwdRefIdeal.Hand.v23 _ _ _ j (hg p e) i0 d
  · refine (Cert.AttnFwdRefIdeal.Read.val_main_v24_eq _ _).trans ?_
    rw [e0, e1]
    funext i
    idx_vars i
    obtain ⟨j, h, hy⟩ := heads i0
    obtain ⟨b, r, hr⟩ := rows i1
    refine Eq.trans ?_ (congrArg (fun y => allE (winQ m c) (winK m c) (ix2 i0 y)) hr).symm
    rw [allE_at _ _ b j h i0 (congrArg Fin.val hy) r, lse_eq H, ← eq, ← ek, ← hr, hy]
    exact Cert.AttnFwdRefIdeal.Hand.v24 _ _ j h i1

end Cert.AttnFwdClaims

end
-- ==== Proof.AttnFwd.Bits.lean ====
/- The run of the attention on the float encodings: the same program text, a named constant read as its encoding. -/
module

public import proofs.«01_k».proof.Defs
public import proofs.«01_k».proof.Proof.Gen.AttnFwd
public import proofs.«01_k».proof.Proof.AttnFwd.Launch

@[expose] public section

set_option maxRecDepth 16384

noncomputable section

namespace Cert.AttnFwdFrame

open Idealize.ShloMosaic Idealize.ShloMosaic.TcCoe Idealize.ShloMosaic.Tactic

/-- The encodings read a named constant as its pattern. -/
@[reducible] def namedBits : Named Bits where
  named _ _ {φ} bits := Scalar.ofBits φ bits

set_option maxHeartbeats 2000000 in
theorem frameBits : Cert.quiescent_AttnFwd := fun m ρ _ =>
  letI := namedBits
  cast (by sl_kernel_rfl) (Cert.AttnFwdIdeal.Hand.args_frame (F := Bits) m ρ)

end Cert.AttnFwdFrame

end
-- ==== Proof.lean ====
module

public import proofs.«01_k».proof.Defs
public import proofs.«01_k».proof.Proof.Gen.InProjDx
public import proofs.«01_k».proof.Proof.Gen.InProjDx.Skeleton
public import proofs.«01_k».proof.Proof.Gen.InProjDx.Launch
public import proofs.«01_k».proof.Proof.Gen.InProjDx.Points
public import proofs.«01_k».proof.Proof.Gen.InProjDx.Frame
public import proofs.«01_k».proof.Proof.Gen.InProjDxIdeal
public import proofs.«01_k».proof.Proof.Gen.InProjDxIdeal.Skeleton
public import proofs.«01_k».proof.Proof.Gen.InProjDxIdeal.Launch
public import proofs.«01_k».proof.Proof.Gen.InProjDxIdeal.Points
public import proofs.«01_k».proof.Proof.Gen.InProjDxIdeal.Frame
public import proofs.«01_k».proof.Proof.Gen.InProjDxRefIdeal
public import proofs.«01_k».proof.Proof.Gen.Pre_finite1
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnBwdRefIdeal
public import proofs.«01_k».proof.Proof.Gen.Pre_finite4
public import proofs.«01_k».proof.Proof.Gen.AttnBwdRefIdeal.Run
public import proofs.«01_k».proof.Proof.Gen.AttnBwdRefIdeal.Read
public import proofs.«01_k».proof.Proof.AttnBwd.Claims
public import proofs.«01_k».proof.Proof.InProjDx.Claims
public import proofs.«01_k».proof.Proof.Gen.Assemble
public import proofs.«01_k».proof.Proof.Gen.Assemble.Frame
public import proofs.«01_k».proof.Proof.Gen.AssembleIdeal
public import proofs.«01_k».proof.Proof.Gen.AssembleIdeal.Frame
public import proofs.«01_k».proof.Proof.Gen.AssembleRefIdeal
public import proofs.«01_k».proof.Proof.Gen.Pre_finite2
public import proofs.«01_k».proof.Proof.Gen.AssembleRefIdeal.Run
public import proofs.«01_k».proof.Proof.Gen.AssembleRefIdeal.Read
public import proofs.«01_k».proof.Proof.Assemble.Claims
public import proofs.«01_k».proof.Proof.Gen.InProjDxIdeal.Value
public import proofs.«01_k».proof.Proof.Gen.InProjDxRefIdeal.Run
public import proofs.«01_k».proof.Proof.Gen.InProjDxRefIdeal.Read
public import proofs.«01_k».proof.Proof.Gen.Tail
public import proofs.«01_k».proof.Proof.Gen.TailIdeal
public import proofs.«01_k».proof.Proof.Gen.TailIdeal.Frame
public import proofs.«01_k».proof.Proof.Gen.TailRefIdeal
public import proofs.«01_k».proof.Proof.Gen.TailRefIdeal.Run
public import proofs.«01_k».proof.Proof.Gen.TailRefIdeal.Read
public import proofs.«01_k».proof.Proof.Tail.Frame
public import proofs.«01_k».proof.Proof.Tail.Bits
public import proofs.«01_k».proof.Proof.Gen.Pre_finite5
public import proofs.«01_k».proof.Proof.Tail.Claims
public import proofs.«01_k».proof.Proof.Gen.RetBwd
public import proofs.«01_k».proof.Proof.Gen.RetBwdIdeal
public import proofs.«01_k».proof.Proof.RetBwd.Frame
public import proofs.«01_k».proof.Proof.RetBwd.Bits
public import proofs.«01_k».proof.Proof.Gen.RetStates
public import proofs.«01_k».proof.Proof.Gen.RetStates.Frame
public import proofs.«01_k».proof.Proof.Gen.RetStatesIdeal
public import proofs.«01_k».proof.Proof.Gen.RetStatesIdeal.Frame
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_finite6
public import proofs.«01_k».proof.Proof.AttnFwd.Claims
public import proofs.«01_k».proof.Proof.AttnFwd.Bits
public import Idealize.ShloMosaic.Adequacy
public import Idealize.ShloMosaic.Init

@[expose] public section

noncomputable section

namespace Cert.Proof

open Idealize.ShloMosaic Idealize.SL.Sem Cert.InProjDx

theorem claim : Cert.Claim :=
  ⟨Cert.InProjDx.Gen.facts, Cert.InProjDxIdeal.Gen.facts, Cert.InProjDxRefIdeal.Gen.facts, Cert.AttnBwd.Gen.facts, Cert.AttnBwdIdeal.Gen.facts, Cert.AttnBwdRefIdeal.Gen.facts, Cert.Assemble.Gen.facts, Cert.AssembleIdeal.Gen.facts, Cert.AssembleRefIdeal.Gen.facts, Cert.Tail.Gen.facts, Cert.TailIdeal.Gen.facts, Cert.TailRefIdeal.Gen.facts, Cert.RetBwd.Gen.facts, Cert.RetBwdIdeal.Gen.facts, Cert.RetStates.Gen.facts, Cert.RetStatesIdeal.Gen.facts, Cert.AttnFwd.Gen.facts, Cert.AttnFwdIdeal.Gen.facts, Cert.AttnFwdRefIdeal.Gen.facts, Cert.Pre_finite1.Gen.facts, Cert.Pre_finite4.Gen.facts, Cert.Pre_finite2.Gen.facts, Cert.Pre_finite5.Gen.facts, Cert.Pre_finite6.Gen.facts,
    fun m ρ _ => Cert.InProjDx.Gen.frame m ρ,
    fun m ρ _ => Cert.InProjDxIdeal.Gen.frame m ρ,
    fun m ρ _ => Cert.InProjDxIdeal.Gen.frame m ρ,
    Cert.InProjDxClaims.frameRef,
    fun m ρ _ => Cert.InProjDxClaims.frameRef m ρ trivial,
    fun m ρ _ => Cert.AttnBwd.Gen.frame m ρ,
    fun m ρ _ => Cert.AttnBwdIdeal.Gen.frame m ρ,
    fun m ρ _ => Cert.AttnBwdIdeal.Gen.frame m ρ,
    Cert.AttnBwdClaims.frameRef,
    fun m ρ _ => Cert.AttnBwdClaims.frameRef m ρ trivial,
    fun m ρ _ => Cert.Assemble.Gen.frame m ρ,
    fun m ρ _ => Cert.AssembleIdeal.Gen.frame m ρ,
    fun m ρ _ => Cert.AssembleIdeal.Gen.frame m ρ,
    Cert.AssembleClaims.frameRef,
    fun m ρ _ => Cert.AssembleClaims.frameRef m ρ trivial,
    Cert.TailFrame.frameBits,
    fun m ρ _ => Cert.TailFrame.frame m ρ,
    fun m ρ _ => Cert.TailFrame.frame m ρ,
    Cert.TailClaims.frameRef,
    fun m ρ _ => Cert.TailClaims.frameRef m ρ trivial,
    Cert.RetBwdFrame.frameBits,
    fun m ρ _ => Cert.RetBwdFrame.frame m ρ,
    fun m ρ _ => Cert.RetStates.Gen.frame m ρ,
    fun m ρ _ => Cert.RetStatesIdeal.Gen.frame m ρ,
    Cert.AttnFwdFrame.frameBits,
    fun m ρ _ => Cert.AttnFwdIdeal.Hand.args_frame m ρ,
    fun m ρ _ => Cert.AttnFwdIdeal.Hand.args_frame m ρ,
    Cert.AttnFwdClaims.frameRef,
    fun m ρ _ => Cert.AttnFwdClaims.frameRef m ρ trivial,
    trivial,
    Cert.InProjDxClaims.value,
    IdealRules.named_const.statement Cert.AttnBwdIdeal.κ "ln2" .f32 0x3F317218#32 _ rfl,
    Cert.AttnBwdClaims.value,
    trivial,
    Cert.AssembleClaims.value,
    trivial,
    Cert.TailClaims.value,
    trivial,
    trivial,
    IdealRules.named_const.statement Cert.AttnFwdIdeal.κ "log2e" .f32 0x3FB8AA3B#32 _ rfl,
    Cert.AttnFwdClaims.value⟩

end Cert.Proof

end
